-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxRefIdeal (m : (ℓ : Loc Cert.FoxRefIdeal.nD Cert.FoxRefIdeal.τ Cert.FoxRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Next (m : (ℓ : Loc Cert.Next.nD Cert.Next.τ Cert.Next.sig) → Buf (Elt Bits) ℓ) : Prop :=
  True

def Pre_NextIdeal (m : (ℓ : Loc Cert.NextIdeal.nD Cert.NextIdeal.τ Cert.NextIdeal.sig) → Buf (Elt Ideal) ℓ) : Prop :=
  True

def Pre_NextRefIdeal (m : (ℓ : Loc Cert.NextRefIdeal.nD Cert.NextRefIdeal.τ Cert.NextRefIdeal.sig) → Buf (Elt Ideal) ℓ) : Prop :=
  True

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotRefIdeal (m : (ℓ : Loc Cert.RotRefIdeal.nD Cert.RotRefIdeal.τ Cert.RotRefIdeal.sig) → Buf (Elt Ideal) ℓ) : Prop :=
  True

def Pre_RotNext (m : (ℓ : Loc Cert.RotNext.nD Cert.RotNext.τ Cert.RotNext.sig) → Buf (Elt Bits) ℓ) : Prop :=
  True

def Pre_RotNextIdeal (m : (ℓ : Loc Cert.RotNextIdeal.nD Cert.RotNextIdeal.τ Cert.RotNextIdeal.sig) → Buf (Elt Ideal) ℓ) : Prop :=
  True

def Pre_RotNextRefIdeal (m : (ℓ : Loc Cert.RotNextRefIdeal.nD Cert.RotNextRefIdeal.τ Cert.RotNextRefIdeal.sig) → Buf (Elt Ideal) ℓ) : Prop :=
  True

def Pre_Nsa (m : (ℓ : Loc Cert.Nsa.nD Cert.Nsa.τ Cert.Nsa.sig) → Buf (Elt Bits) ℓ) : Prop :=
  True

def Pre_NsaIdeal (m : (ℓ : Loc Cert.NsaIdeal.nD Cert.NsaIdeal.τ Cert.NsaIdeal.sig) → Buf (Elt Ideal) ℓ) : Prop :=
  True

def Pre_NsaRefIdeal (m : (ℓ : Loc Cert.NsaRefIdeal.nD Cert.NsaRefIdeal.τ Cert.NsaRefIdeal.sig) → Buf (Elt Ideal) ℓ) : Prop :=
  True

def Pre_NsaNext (m : (ℓ : Loc Cert.NsaNext.nD Cert.NsaNext.τ Cert.NsaNext.sig) → Buf (Elt Bits) ℓ) : Prop :=
  True

def Pre_NsaNextIdeal (m : (ℓ : Loc Cert.NsaNextIdeal.nD Cert.NsaNextIdeal.τ Cert.NsaNextIdeal.sig) → Buf (Elt Ideal) ℓ) : Prop :=
  True

def Pre_NsaNextRefIdeal (m : (ℓ : Loc Cert.NsaNextRefIdeal.nD Cert.NsaNextRefIdeal.τ Cert.NsaNextRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_NormNext (m : (ℓ : Loc Cert.NormNext.nD Cert.NormNext.τ Cert.NormNext.sig) → Buf (Elt Bits) ℓ) : Prop :=
  True

def Pre_NormNextIdeal (m : (ℓ : Loc Cert.NormNextIdeal.nD Cert.NormNextIdeal.τ Cert.NormNextIdeal.sig) → Buf (Elt Ideal) ℓ) : Prop :=
  True

def Pre_NormNextRefIdeal (m : (ℓ : Loc Cert.NormNextRefIdeal.nD Cert.NormNextRefIdeal.τ Cert.NormNextRefIdeal.sig) → Buf (Elt Ideal) ℓ) : Prop :=
  True

def Pre_Keep (m : (ℓ : Loc Cert.Keep.nD Cert.Keep.τ Cert.Keep.sig) → Buf (Elt Bits) ℓ) : Prop :=
  True

def Pre_KeepIdeal (m : (ℓ : Loc Cert.KeepIdeal.nD Cert.KeepIdeal.τ Cert.KeepIdeal.sig) → Buf (Elt Ideal) ℓ) : Prop :=
  True

def Pre_KeepRefIdeal (m : (ℓ : Loc Cert.KeepRefIdeal.nD Cert.KeepRefIdeal.τ Cert.KeepRefIdeal.sig) → Buf (Elt Ideal) ℓ) : Prop :=
  True

def Pre_MlpNext (m : (ℓ : Loc Cert.MlpNext.nD Cert.MlpNext.τ Cert.MlpNext.sig) → Buf (Elt Bits) ℓ) : Prop :=
  True

def Pre_MlpNextIdeal (m : (ℓ : Loc Cert.MlpNextIdeal.nD Cert.MlpNextIdeal.τ Cert.MlpNextIdeal.sig) → Buf (Elt Ideal) ℓ) : Prop :=
  True

def Pre_MlpNextRefIdeal (m : (ℓ : Loc Cert.MlpNextRefIdeal.nD Cert.MlpNextRefIdeal.τ Cert.MlpNextRefIdeal.sig) → Buf (Elt Ideal) ℓ) : Prop :=
  True

def Pre_OutNext (m : (ℓ : Loc Cert.OutNext.nD Cert.OutNext.τ Cert.OutNext.sig) → Buf (Elt Bits) ℓ) : Prop :=
  True

def Pre_OutNextIdeal (m : (ℓ : Loc Cert.OutNextIdeal.nD Cert.OutNextIdeal.τ Cert.OutNextIdeal.sig) → Buf (Elt Ideal) ℓ) : Prop :=
  True

def Pre_OutNextRefIdeal (m : (ℓ : Loc Cert.OutNextRefIdeal.nD Cert.OutNextRefIdeal.τ Cert.OutNextRefIdeal.sig) → Buf (Elt Ideal) ℓ) : Prop :=
  True

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_Next [hNext : Cert.Next.Facts] : Prop :=
  ∀ (m : (ℓ : Loc Cert.Next.nD Cert.Next.τ Cert.Next.sig) → Buf (Elt Bits) ℓ) (g : Dev Cert.Next.nD → PrngReg), Pre_Next m →
    θ_run (Cert.Next.defs (F := Bits)) (onTc (τ := Cert.Next.τ) (Cert.Next.main (F := Bits))) ⟨m, fun _ => 0, g⟩ (fun r => (∀ c : Dev Cert.Next.nD,
      r.2.mem ((c.tc : Thread Cert.Next.nD Cert.Next.τ).loc Cert.Next.main_arg0) = m ((c.tc : Thread Cert.Next.nD Cert.Next.τ).loc Cert.Next.main_arg0)
      ∧ r.2.mem ((c.tc : Thread Cert.Next.nD Cert.Next.τ).loc Cert.Next.main_arg1) = m ((c.tc : Thread Cert.Next.nD Cert.Next.τ).loc Cert.Next.main_arg1)
      ∧ r.2.mem ((c.tc : Thread Cert.Next.nD Cert.Next.τ).loc Cert.Next.main_arg2) = m ((c.tc : Thread Cert.Next.nD Cert.Next.τ).loc Cert.Next.main_arg2)
      ∧ r.2.mem ((c.tc : Thread Cert.Next.nD Cert.Next.τ).loc Cert.Next.main_arg3) = m ((c.tc : Thread Cert.Next.nD Cert.Next.τ).loc Cert.Next.main_arg3))
      ∧ r.2.sem = fun _ => 0)

def quiescent_NextIdeal [hNextIdeal : Cert.NextIdeal.Facts] : Prop :=
  ∀ (m : (ℓ : Loc Cert.NextIdeal.nD Cert.NextIdeal.τ Cert.NextIdeal.sig) → Buf (Elt Ideal) ℓ) (g : Dev Cert.NextIdeal.nD → PrngReg), Pre_NextIdeal m →
    θ_run (Cert.NextIdeal.defs (F := Ideal)) (onTc (τ := Cert.NextIdeal.τ) (Cert.NextIdeal.main (F := Ideal))) ⟨m, fun _ => 0, g⟩ (fun r => (∀ c : Dev Cert.NextIdeal.nD,
      r.2.mem ((c.tc : Thread Cert.NextIdeal.nD Cert.NextIdeal.τ).loc Cert.NextIdeal.main_arg0) = m ((c.tc : Thread Cert.NextIdeal.nD Cert.NextIdeal.τ).loc Cert.NextIdeal.main_arg0)
      ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
      ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
      ∧ r.2.mem ((c.tc : Thread Cert.NextIdeal.nD Cert.NextIdeal.τ).loc Cert.NextIdeal.main_arg3) = m ((c.tc : Thread Cert.NextIdeal.nD Cert.NextIdeal.τ).loc Cert.NextIdeal.main_arg3))
      ∧ r.2.sem = fun _ => 0)

def quiescent_NextRefIdeal [hNextRefIdeal : Cert.NextRefIdeal.Facts] : Prop :=
  ∀ (m : (ℓ : Loc Cert.NextRefIdeal.nD Cert.NextRefIdeal.τ Cert.NextRefIdeal.sig) → Buf (Elt Ideal) ℓ) (g : Dev Cert.NextRefIdeal.nD → PrngReg), Pre_NextRefIdeal m →
    θ_run (Cert.NextRefIdeal.defs (F := Ideal)) (onTc (τ := Cert.NextRefIdeal.τ) (Cert.NextRefIdeal.main (F := Ideal))) ⟨m, fun _ => 0, g⟩ (fun r => (∀ c : Dev Cert.NextRefIdeal.nD,
      r.2.mem ((c.tc : Thread Cert.NextRefIdeal.nD Cert.NextRefIdeal.τ).loc Cert.NextRefIdeal.main_arg0) = m ((c.tc : Thread Cert.NextRefIdeal.nD Cert.NextRefIdeal.τ).loc Cert.NextRefIdeal.main_arg0)
      ∧ r.2.mem ((c.tc : Thread Cert.NextRefIdeal.nD Cert.NextRefIdeal.τ).loc Cert.NextRefIdeal.main_arg1) = m ((c.tc : Thread Cert.NextRefIdeal.nD Cert.NextRefIdeal.τ).loc Cert.NextRefIdeal.main_arg1)
      ∧ r.2.mem ((c.tc : Thread Cert.NextRefIdeal.nD Cert.NextRefIdeal.τ).loc Cert.NextRefIdeal.main_arg2) = m ((c.tc : Thread Cert.NextRefIdeal.nD Cert.NextRefIdeal.τ).loc Cert.NextRefIdeal.main_arg2)
      ∧ r.2.mem ((c.tc : Thread Cert.NextRefIdeal.nD Cert.NextRefIdeal.τ).loc Cert.NextRefIdeal.main_arg3) = m ((c.tc : Thread Cert.NextRefIdeal.nD Cert.NextRefIdeal.τ).loc Cert.NextRefIdeal.main_arg3))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1)
      ∧ r.2.mem ((c.tc : Thread Cert.Rot.nD Cert.Rot.τ).loc Cert.Rot.main_arg2) = m ((c.tc : Thread Cert.Rot.nD Cert.Rot.τ).loc Cert.Rot.main_arg2))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2))
      ∧ r.2.sem = fun _ => 0)

def quiescent_RotNext [hRotNext : Cert.RotNext.Facts] : Prop :=
  ∀ (m : (ℓ : Loc Cert.RotNext.nD Cert.RotNext.τ Cert.RotNext.sig) → Buf (Elt Bits) ℓ) (g : Dev Cert.RotNext.nD → PrngReg), Pre_RotNext m →
    θ_run (Cert.RotNext.defs (F := Bits)) (onTc (τ := Cert.RotNext.τ) (Cert.RotNext.main (F := Bits))) ⟨m, fun _ => 0, g⟩ (fun r => (∀ c : Dev Cert.RotNext.nD,
      r.2.mem ((c.tc : Thread Cert.RotNext.nD Cert.RotNext.τ).loc Cert.RotNext.main_arg0) = m ((c.tc : Thread Cert.RotNext.nD Cert.RotNext.τ).loc Cert.RotNext.main_arg0)
      ∧ r.2.mem ((c.tc : Thread Cert.RotNext.nD Cert.RotNext.τ).loc Cert.RotNext.main_arg1) = m ((c.tc : Thread Cert.RotNext.nD Cert.RotNext.τ).loc Cert.RotNext.main_arg1)
      ∧ r.2.mem ((c.tc : Thread Cert.RotNext.nD Cert.RotNext.τ).loc Cert.RotNext.main_arg2) = m ((c.tc : Thread Cert.RotNext.nD Cert.RotNext.τ).loc Cert.RotNext.main_arg2))
      ∧ r.2.sem = fun _ => 0)

def quiescent_RotNextIdeal [hRotNextIdeal : Cert.RotNextIdeal.Facts] : Prop :=
  ∀ (m : (ℓ : Loc Cert.RotNextIdeal.nD Cert.RotNextIdeal.τ Cert.RotNextIdeal.sig) → Buf (Elt Ideal) ℓ) (g : Dev Cert.RotNextIdeal.nD → PrngReg), Pre_RotNextIdeal m →
    θ_run (Cert.RotNextIdeal.defs (F := Ideal)) (onTc (τ := Cert.RotNextIdeal.τ) (Cert.RotNextIdeal.main (F := Ideal))) ⟨m, fun _ => 0, g⟩ (fun r => (∀ c : Dev Cert.RotNextIdeal.nD,
      r.2.mem ((c.tc : Thread Cert.RotNextIdeal.nD Cert.RotNextIdeal.τ).loc Cert.RotNextIdeal.main_arg0) = m ((c.tc : Thread Cert.RotNextIdeal.nD Cert.RotNextIdeal.τ).loc Cert.RotNextIdeal.main_arg0)
      ∧ r.2.mem ((c.tc : Thread Cert.RotNextIdeal.nD Cert.RotNextIdeal.τ).loc Cert.RotNextIdeal.main_arg1) = m ((c.tc : Thread Cert.RotNextIdeal.nD Cert.RotNextIdeal.τ).loc Cert.RotNextIdeal.main_arg1)
      ∧ r.2.mem ((c.tc : Thread Cert.RotNextIdeal.nD Cert.RotNextIdeal.τ).loc Cert.RotNextIdeal.main_arg2) = m ((c.tc : Thread Cert.RotNextIdeal.nD Cert.RotNextIdeal.τ).loc Cert.RotNextIdeal.main_arg2))
      ∧ r.2.sem = fun _ => 0)

def quiescent_RotNextRefIdeal [hRotNextRefIdeal : Cert.RotNextRefIdeal.Facts] : Prop :=
  ∀ (m : (ℓ : Loc Cert.RotNextRefIdeal.nD Cert.RotNextRefIdeal.τ Cert.RotNextRefIdeal.sig) → Buf (Elt Ideal) ℓ) (g : Dev Cert.RotNextRefIdeal.nD → PrngReg), Pre_RotNextRefIdeal m →
    θ_run (Cert.RotNextRefIdeal.defs (F := Ideal)) (onTc (τ := Cert.RotNextRefIdeal.τ) (Cert.RotNextRefIdeal.main (F := Ideal))) ⟨m, fun _ => 0, g⟩ (fun r => (∀ c : Dev Cert.RotNextRefIdeal.nD,
      r.2.mem ((c.tc : Thread Cert.RotNextRefIdeal.nD Cert.RotNextRefIdeal.τ).loc Cert.RotNextRefIdeal.main_arg0) = m ((c.tc : Thread Cert.RotNextRefIdeal.nD Cert.RotNextRefIdeal.τ).loc Cert.RotNextRefIdeal.main_arg0)
      ∧ r.2.mem ((c.tc : Thread Cert.RotNextRefIdeal.nD Cert.RotNextRefIdeal.τ).loc Cert.RotNextRefIdeal.main_arg1) = m ((c.tc : Thread Cert.RotNextRefIdeal.nD Cert.RotNextRefIdeal.τ).loc Cert.RotNextRefIdeal.main_arg1)
      ∧ r.2.mem ((c.tc : Thread Cert.RotNextRefIdeal.nD Cert.RotNextRefIdeal.τ).loc Cert.RotNextRefIdeal.main_arg2) = m ((c.tc : Thread Cert.RotNextRefIdeal.nD Cert.RotNextRefIdeal.τ).loc Cert.RotNextRefIdeal.main_arg2))
      ∧ r.2.sem = fun _ => 0)

def quiescent_Nsa [hNsa : Cert.Nsa.Facts] : Prop :=
  ∀ (m : (ℓ : Loc Cert.Nsa.nD Cert.Nsa.τ Cert.Nsa.sig) → Buf (Elt Bits) ℓ) (g : Dev Cert.Nsa.nD → PrngReg), Pre_Nsa m →
    θ_run (Cert.Nsa.defs (F := Bits)) (onTc (τ := Cert.Nsa.τ) (Cert.Nsa.main (F := Bits))) ⟨m, fun _ => 0, g⟩ (fun r => (∀ c : Dev Cert.Nsa.nD,
      r.2.mem ((c.tc : Thread Cert.Nsa.nD Cert.Nsa.τ).loc Cert.Nsa.main_arg0) = m ((c.tc : Thread Cert.Nsa.nD Cert.Nsa.τ).loc Cert.Nsa.main_arg0)
      ∧ r.2.mem ((c.tc : Thread Cert.Nsa.nD Cert.Nsa.τ).loc Cert.Nsa.main_arg1) = m ((c.tc : Thread Cert.Nsa.nD Cert.Nsa.τ).loc Cert.Nsa.main_arg1)
      ∧ r.2.mem ((c.tc : Thread Cert.Nsa.nD Cert.Nsa.τ).loc Cert.Nsa.main_arg2) = m ((c.tc : Thread Cert.Nsa.nD Cert.Nsa.τ).loc Cert.Nsa.main_arg2)
      ∧ r.2.mem ((c.tc : Thread Cert.Nsa.nD Cert.Nsa.τ).loc Cert.Nsa.main_arg3) = m ((c.tc : Thread Cert.Nsa.nD Cert.Nsa.τ).loc Cert.Nsa.main_arg3))
      ∧ r.2.sem = fun _ => 0)

def quiescent_NsaIdeal [hNsaIdeal : Cert.NsaIdeal.Facts] : Prop :=
  ∀ (m : (ℓ : Loc Cert.NsaIdeal.nD Cert.NsaIdeal.τ Cert.NsaIdeal.sig) → Buf (Elt Ideal) ℓ) (g : Dev Cert.NsaIdeal.nD → PrngReg), Pre_NsaIdeal m →
    θ_run (Cert.NsaIdeal.defs (F := Ideal)) (onTc (τ := Cert.NsaIdeal.τ) (Cert.NsaIdeal.main (F := Ideal))) ⟨m, fun _ => 0, g⟩ (fun r => (∀ c : Dev Cert.NsaIdeal.nD,
      r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
      ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
      ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
      ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3))
      ∧ r.2.sem = fun _ => 0)

def quiescent_NsaRefIdeal [hNsaRefIdeal : Cert.NsaRefIdeal.Facts] : Prop :=
  ∀ (m : (ℓ : Loc Cert.NsaRefIdeal.nD Cert.NsaRefIdeal.τ Cert.NsaRefIdeal.sig) → Buf (Elt Ideal) ℓ) (g : Dev Cert.NsaRefIdeal.nD → PrngReg), Pre_NsaRefIdeal m →
    θ_run (Cert.NsaRefIdeal.defs (F := Ideal)) (onTc (τ := Cert.NsaRefIdeal.τ) (Cert.NsaRefIdeal.main (F := Ideal))) ⟨m, fun _ => 0, g⟩ (fun r => (∀ c : Dev Cert.NsaRefIdeal.nD,
      r.2.mem ((c.tc : Thread Cert.NsaRefIdeal.nD Cert.NsaRefIdeal.τ).loc Cert.NsaRefIdeal.main_arg0) = m ((c.tc : Thread Cert.NsaRefIdeal.nD Cert.NsaRefIdeal.τ).loc Cert.NsaRefIdeal.main_arg0)
      ∧ r.2.mem ((c.tc : Thread Cert.NsaRefIdeal.nD Cert.NsaRefIdeal.τ).loc Cert.NsaRefIdeal.main_arg1) = m ((c.tc : Thread Cert.NsaRefIdeal.nD Cert.NsaRefIdeal.τ).loc Cert.NsaRefIdeal.main_arg1)
      ∧ r.2.mem ((c.tc : Thread Cert.NsaRefIdeal.nD Cert.NsaRefIdeal.τ).loc Cert.NsaRefIdeal.main_arg2) = m ((c.tc : Thread Cert.NsaRefIdeal.nD Cert.NsaRefIdeal.τ).loc Cert.NsaRefIdeal.main_arg2)
      ∧ r.2.mem ((c.tc : Thread Cert.NsaRefIdeal.nD Cert.NsaRefIdeal.τ).loc Cert.NsaRefIdeal.main_arg3) = m ((c.tc : Thread Cert.NsaRefIdeal.nD Cert.NsaRefIdeal.τ).loc Cert.NsaRefIdeal.main_arg3))
      ∧ r.2.sem = fun _ => 0)

def quiescent_NsaNext [hNsaNext : Cert.NsaNext.Facts] : Prop :=
  ∀ (m : (ℓ : Loc Cert.NsaNext.nD Cert.NsaNext.τ Cert.NsaNext.sig) → Buf (Elt Bits) ℓ) (g : Dev Cert.NsaNext.nD → PrngReg), Pre_NsaNext m →
    θ_run (Cert.NsaNext.defs (F := Bits)) (onTc (τ := Cert.NsaNext.τ) (Cert.NsaNext.main (F := Bits))) ⟨m, fun _ => 0, g⟩ (fun r => (∀ c : Dev Cert.NsaNext.nD,
      r.2.mem ((c.tc : Thread Cert.NsaNext.nD Cert.NsaNext.τ).loc Cert.NsaNext.main_arg0) = m ((c.tc : Thread Cert.NsaNext.nD Cert.NsaNext.τ).loc Cert.NsaNext.main_arg0)
      ∧ r.2.mem ((c.tc : Thread Cert.NsaNext.nD Cert.NsaNext.τ).loc Cert.NsaNext.main_arg1) = m ((c.tc : Thread Cert.NsaNext.nD Cert.NsaNext.τ).loc Cert.NsaNext.main_arg1)
      ∧ r.2.mem ((c.tc : Thread Cert.NsaNext.nD Cert.NsaNext.τ).loc Cert.NsaNext.main_arg2) = m ((c.tc : Thread Cert.NsaNext.nD Cert.NsaNext.τ).loc Cert.NsaNext.main_arg2)
      ∧ r.2.mem ((c.tc : Thread Cert.NsaNext.nD Cert.NsaNext.τ).loc Cert.NsaNext.main_arg3) = m ((c.tc : Thread Cert.NsaNext.nD Cert.NsaNext.τ).loc Cert.NsaNext.main_arg3))
      ∧ r.2.sem = fun _ => 0)

def quiescent_NsaNextIdeal [hNsaNextIdeal : Cert.NsaNextIdeal.Facts] : Prop :=
  ∀ (m : (ℓ : Loc Cert.NsaNextIdeal.nD Cert.NsaNextIdeal.τ Cert.NsaNextIdeal.sig) → Buf (Elt Ideal) ℓ) (g : Dev Cert.NsaNextIdeal.nD → PrngReg), Pre_NsaNextIdeal m →
    θ_run (Cert.NsaNextIdeal.defs (F := Ideal)) (onTc (τ := Cert.NsaNextIdeal.τ) (Cert.NsaNextIdeal.main (F := Ideal))) ⟨m, fun _ => 0, g⟩ (fun r => (∀ c : Dev Cert.NsaNextIdeal.nD,
      r.2.mem ((c.tc : Thread Cert.NsaNextIdeal.nD Cert.NsaNextIdeal.τ).loc Cert.NsaNextIdeal.main_arg0) = m ((c.tc : Thread Cert.NsaNextIdeal.nD Cert.NsaNextIdeal.τ).loc Cert.NsaNextIdeal.main_arg0)
      ∧ r.2.mem ((c.tc : Thread Cert.NsaNextIdeal.nD Cert.NsaNextIdeal.τ).loc Cert.NsaNextIdeal.main_arg1) = m ((c.tc : Thread Cert.NsaNextIdeal.nD Cert.NsaNextIdeal.τ).loc Cert.NsaNextIdeal.main_arg1)
      ∧ r.2.mem ((c.tc : Thread Cert.NsaNextIdeal.nD Cert.NsaNextIdeal.τ).loc Cert.NsaNextIdeal.main_arg2) = m ((c.tc : Thread Cert.NsaNextIdeal.nD Cert.NsaNextIdeal.τ).loc Cert.NsaNextIdeal.main_arg2)
      ∧ r.2.mem ((c.tc : Thread Cert.NsaNextIdeal.nD Cert.NsaNextIdeal.τ).loc Cert.NsaNextIdeal.main_arg3) = m ((c.tc : Thread Cert.NsaNextIdeal.nD Cert.NsaNextIdeal.τ).loc Cert.NsaNextIdeal.main_arg3))
      ∧ r.2.sem = fun _ => 0)

def quiescent_NsaNextRefIdeal [hNsaNextRefIdeal : Cert.NsaNextRefIdeal.Facts] : Prop :=
  ∀ (m : (ℓ : Loc Cert.NsaNextRefIdeal.nD Cert.NsaNextRefIdeal.τ Cert.NsaNextRefIdeal.sig) → Buf (Elt Ideal) ℓ) (g : Dev Cert.NsaNextRefIdeal.nD → PrngReg), Pre_NsaNextRefIdeal m →
    θ_run (Cert.NsaNextRefIdeal.defs (F := Ideal)) (onTc (τ := Cert.NsaNextRefIdeal.τ) (Cert.NsaNextRefIdeal.main (F := Ideal))) ⟨m, fun _ => 0, g⟩ (fun r => (∀ c : Dev Cert.NsaNextRefIdeal.nD,
      r.2.mem ((c.tc : Thread Cert.NsaNextRefIdeal.nD Cert.NsaNextRefIdeal.τ).loc Cert.NsaNextRefIdeal.main_arg0) = m ((c.tc : Thread Cert.NsaNextRefIdeal.nD Cert.NsaNextRefIdeal.τ).loc Cert.NsaNextRefIdeal.main_arg0)
      ∧ r.2.mem ((c.tc : Thread Cert.NsaNextRefIdeal.nD Cert.NsaNextRefIdeal.τ).loc Cert.NsaNextRefIdeal.main_arg1) = m ((c.tc : Thread Cert.NsaNextRefIdeal.nD Cert.NsaNextRefIdeal.τ).loc Cert.NsaNextRefIdeal.main_arg1)
      ∧ r.2.mem ((c.tc : Thread Cert.NsaNextRefIdeal.nD Cert.NsaNextRefIdeal.τ).loc Cert.NsaNextRefIdeal.main_arg2) = m ((c.tc : Thread Cert.NsaNextRefIdeal.nD Cert.NsaNextRefIdeal.τ).loc Cert.NsaNextRefIdeal.main_arg2)
      ∧ r.2.mem ((c.tc : Thread Cert.NsaNextRefIdeal.nD Cert.NsaNextRefIdeal.τ).loc Cert.NsaNextRefIdeal.main_arg3) = m ((c.tc : Thread Cert.NsaNextRefIdeal.nD Cert.NsaNextRefIdeal.τ).loc Cert.NsaNextRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_NormNext [hNormNext : Cert.NormNext.Facts] : Prop :=
  ∀ (m : (ℓ : Loc Cert.NormNext.nD Cert.NormNext.τ Cert.NormNext.sig) → Buf (Elt Bits) ℓ) (g : Dev Cert.NormNext.nD → PrngReg), Pre_NormNext m →
    θ_run (Cert.NormNext.defs (F := Bits)) (onTc (τ := Cert.NormNext.τ) (Cert.NormNext.main (F := Bits))) ⟨m, fun _ => 0, g⟩ (fun r => (∀ c : Dev Cert.NormNext.nD,
      r.2.mem ((c.tc : Thread Cert.NormNext.nD Cert.NormNext.τ).loc Cert.NormNext.main_arg0) = m ((c.tc : Thread Cert.NormNext.nD Cert.NormNext.τ).loc Cert.NormNext.main_arg0)
      ∧ r.2.mem ((c.tc : Thread Cert.NormNext.nD Cert.NormNext.τ).loc Cert.NormNext.main_arg1) = m ((c.tc : Thread Cert.NormNext.nD Cert.NormNext.τ).loc Cert.NormNext.main_arg1))
      ∧ r.2.sem = fun _ => 0)

def quiescent_NormNextIdeal [hNormNextIdeal : Cert.NormNextIdeal.Facts] : Prop :=
  ∀ (m : (ℓ : Loc Cert.NormNextIdeal.nD Cert.NormNextIdeal.τ Cert.NormNextIdeal.sig) → Buf (Elt Ideal) ℓ) (g : Dev Cert.NormNextIdeal.nD → PrngReg), Pre_NormNextIdeal m →
    θ_run (Cert.NormNextIdeal.defs (F := Ideal)) (onTc (τ := Cert.NormNextIdeal.τ) (Cert.NormNextIdeal.main (F := Ideal))) ⟨m, fun _ => 0, g⟩ (fun r => (∀ c : Dev Cert.NormNextIdeal.nD,
      r.2.mem ((c.tc : Thread Cert.NormNextIdeal.nD Cert.NormNextIdeal.τ).loc Cert.NormNextIdeal.main_arg0) = m ((c.tc : Thread Cert.NormNextIdeal.nD Cert.NormNextIdeal.τ).loc Cert.NormNextIdeal.main_arg0)
      ∧ r.2.mem ((c.tc : Thread Cert.NormNextIdeal.nD Cert.NormNextIdeal.τ).loc Cert.NormNextIdeal.main_arg1) = m ((c.tc : Thread Cert.NormNextIdeal.nD Cert.NormNextIdeal.τ).loc Cert.NormNextIdeal.main_arg1))
      ∧ r.2.sem = fun _ => 0)

def quiescent_NormNextRefIdeal [hNormNextRefIdeal : Cert.NormNextRefIdeal.Facts] : Prop :=
  ∀ (m : (ℓ : Loc Cert.NormNextRefIdeal.nD Cert.NormNextRefIdeal.τ Cert.NormNextRefIdeal.sig) → Buf (Elt Ideal) ℓ) (g : Dev Cert.NormNextRefIdeal.nD → PrngReg), Pre_NormNextRefIdeal m →
    θ_run (Cert.NormNextRefIdeal.defs (F := Ideal)) (onTc (τ := Cert.NormNextRefIdeal.τ) (Cert.NormNextRefIdeal.main (F := Ideal))) ⟨m, fun _ => 0, g⟩ (fun r => (∀ c : Dev Cert.NormNextRefIdeal.nD,
      r.2.mem ((c.tc : Thread Cert.NormNextRefIdeal.nD Cert.NormNextRefIdeal.τ).loc Cert.NormNextRefIdeal.main_arg0) = m ((c.tc : Thread Cert.NormNextRefIdeal.nD Cert.NormNextRefIdeal.τ).loc Cert.NormNextRefIdeal.main_arg0)
      ∧ r.2.mem ((c.tc : Thread Cert.NormNextRefIdeal.nD Cert.NormNextRefIdeal.τ).loc Cert.NormNextRefIdeal.main_arg1) = m ((c.tc : Thread Cert.NormNextRefIdeal.nD Cert.NormNextRefIdeal.τ).loc Cert.NormNextRefIdeal.main_arg1))
      ∧ r.2.sem = fun _ => 0)

def quiescent_Keep [hKeep : Cert.Keep.Facts] : Prop :=
  ∀ (m : (ℓ : Loc Cert.Keep.nD Cert.Keep.τ Cert.Keep.sig) → Buf (Elt Bits) ℓ) (g : Dev Cert.Keep.nD → PrngReg), Pre_Keep m →
    θ_run (Cert.Keep.defs (F := Bits)) (onTc (τ := Cert.Keep.τ) (Cert.Keep.main (F := Bits))) ⟨m, fun _ => 0, g⟩ (fun r => (∀ c : Dev Cert.Keep.nD,
      r.2.mem ((c.tc : Thread Cert.Keep.nD Cert.Keep.τ).loc Cert.Keep.main_arg0) = m ((c.tc : Thread Cert.Keep.nD Cert.Keep.τ).loc Cert.Keep.main_arg0)
      ∧ r.2.mem ((c.tc : Thread Cert.Keep.nD Cert.Keep.τ).loc Cert.Keep.main_arg1) = m ((c.tc : Thread Cert.Keep.nD Cert.Keep.τ).loc Cert.Keep.main_arg1)
      ∧ r.2.mem ((c.tc : Thread Cert.Keep.nD Cert.Keep.τ).loc Cert.Keep.main_arg2) = m ((c.tc : Thread Cert.Keep.nD Cert.Keep.τ).loc Cert.Keep.main_arg2)
      ∧ r.2.mem ((c.tc : Thread Cert.Keep.nD Cert.Keep.τ).loc Cert.Keep.main_arg3) = m ((c.tc : Thread Cert.Keep.nD Cert.Keep.τ).loc Cert.Keep.main_arg3)
      ∧ r.2.mem ((c.tc : Thread Cert.Keep.nD Cert.Keep.τ).loc Cert.Keep.main_arg4) = m ((c.tc : Thread Cert.Keep.nD Cert.Keep.τ).loc Cert.Keep.main_arg4)
      ∧ r.2.mem ((c.tc : Thread Cert.Keep.nD Cert.Keep.τ).loc Cert.Keep.main_arg5) = m ((c.tc : Thread Cert.Keep.nD Cert.Keep.τ).loc Cert.Keep.main_arg5))
      ∧ r.2.sem = fun _ => 0)

def quiescent_KeepIdeal [hKeepIdeal : Cert.KeepIdeal.Facts] : Prop :=
  ∀ (m : (ℓ : Loc Cert.KeepIdeal.nD Cert.KeepIdeal.τ Cert.KeepIdeal.sig) → Buf (Elt Ideal) ℓ) (g : Dev Cert.KeepIdeal.nD → PrngReg), Pre_KeepIdeal m →
    θ_run (Cert.KeepIdeal.defs (F := Ideal)) (onTc (τ := Cert.KeepIdeal.τ) (Cert.KeepIdeal.main (F := Ideal))) ⟨m, fun _ => 0, g⟩ (fun r => (∀ c : Dev Cert.KeepIdeal.nD,
      r.2.mem ((c.tc : Thread Cert.KeepIdeal.nD Cert.KeepIdeal.τ).loc Cert.KeepIdeal.main_arg0) = m ((c.tc : Thread Cert.KeepIdeal.nD Cert.KeepIdeal.τ).loc Cert.KeepIdeal.main_arg0)
      ∧ r.2.mem ((c.tc : Thread Cert.KeepIdeal.nD Cert.KeepIdeal.τ).loc Cert.KeepIdeal.main_arg1) = m ((c.tc : Thread Cert.KeepIdeal.nD Cert.KeepIdeal.τ).loc Cert.KeepIdeal.main_arg1)
      ∧ r.2.mem ((c.tc : Thread Cert.KeepIdeal.nD Cert.KeepIdeal.τ).loc Cert.KeepIdeal.main_arg2) = m ((c.tc : Thread Cert.KeepIdeal.nD Cert.KeepIdeal.τ).loc Cert.KeepIdeal.main_arg2)
      ∧ r.2.mem ((c.tc : Thread Cert.KeepIdeal.nD Cert.KeepIdeal.τ).loc Cert.KeepIdeal.main_arg3) = m ((c.tc : Thread Cert.KeepIdeal.nD Cert.KeepIdeal.τ).loc Cert.KeepIdeal.main_arg3)
      ∧ r.2.mem ((c.tc : Thread Cert.KeepIdeal.nD Cert.KeepIdeal.τ).loc Cert.KeepIdeal.main_arg4) = m ((c.tc : Thread Cert.KeepIdeal.nD Cert.KeepIdeal.τ).loc Cert.KeepIdeal.main_arg4)
      ∧ r.2.mem ((c.tc : Thread Cert.KeepIdeal.nD Cert.KeepIdeal.τ).loc Cert.KeepIdeal.main_arg5) = m ((c.tc : Thread Cert.KeepIdeal.nD Cert.KeepIdeal.τ).loc Cert.KeepIdeal.main_arg5))
      ∧ r.2.sem = fun _ => 0)

def quiescent_KeepRefIdeal [hKeepRefIdeal : Cert.KeepRefIdeal.Facts] : Prop :=
  ∀ (m : (ℓ : Loc Cert.KeepRefIdeal.nD Cert.KeepRefIdeal.τ Cert.KeepRefIdeal.sig) → Buf (Elt Ideal) ℓ) (g : Dev Cert.KeepRefIdeal.nD → PrngReg), Pre_KeepRefIdeal m →
    θ_run (Cert.KeepRefIdeal.defs (F := Ideal)) (onTc (τ := Cert.KeepRefIdeal.τ) (Cert.KeepRefIdeal.main (F := Ideal))) ⟨m, fun _ => 0, g⟩ (fun r => (∀ c : Dev Cert.KeepRefIdeal.nD,
      r.2.mem ((c.tc : Thread Cert.KeepRefIdeal.nD Cert.KeepRefIdeal.τ).loc Cert.KeepRefIdeal.main_arg0) = m ((c.tc : Thread Cert.KeepRefIdeal.nD Cert.KeepRefIdeal.τ).loc Cert.KeepRefIdeal.main_arg0)
      ∧ r.2.mem ((c.tc : Thread Cert.KeepRefIdeal.nD Cert.KeepRefIdeal.τ).loc Cert.KeepRefIdeal.main_arg1) = m ((c.tc : Thread Cert.KeepRefIdeal.nD Cert.KeepRefIdeal.τ).loc Cert.KeepRefIdeal.main_arg1)
      ∧ r.2.mem ((c.tc : Thread Cert.KeepRefIdeal.nD Cert.KeepRefIdeal.τ).loc Cert.KeepRefIdeal.main_arg2) = m ((c.tc : Thread Cert.KeepRefIdeal.nD Cert.KeepRefIdeal.τ).loc Cert.KeepRefIdeal.main_arg2)
      ∧ r.2.mem ((c.tc : Thread Cert.KeepRefIdeal.nD Cert.KeepRefIdeal.τ).loc Cert.KeepRefIdeal.main_arg3) = m ((c.tc : Thread Cert.KeepRefIdeal.nD Cert.KeepRefIdeal.τ).loc Cert.KeepRefIdeal.main_arg3)
      ∧ r.2.mem ((c.tc : Thread Cert.KeepRefIdeal.nD Cert.KeepRefIdeal.τ).loc Cert.KeepRefIdeal.main_arg4) = m ((c.tc : Thread Cert.KeepRefIdeal.nD Cert.KeepRefIdeal.τ).loc Cert.KeepRefIdeal.main_arg4)
      ∧ r.2.mem ((c.tc : Thread Cert.KeepRefIdeal.nD Cert.KeepRefIdeal.τ).loc Cert.KeepRefIdeal.main_arg5) = m ((c.tc : Thread Cert.KeepRefIdeal.nD Cert.KeepRefIdeal.τ).loc Cert.KeepRefIdeal.main_arg5))
      ∧ r.2.sem = fun _ => 0)

def quiescent_MlpNext [hMlpNext : Cert.MlpNext.Facts] : Prop :=
  ∀ (m : (ℓ : Loc Cert.MlpNext.nD Cert.MlpNext.τ Cert.MlpNext.sig) → Buf (Elt Bits) ℓ) (g : Dev Cert.MlpNext.nD → PrngReg), Pre_MlpNext m →
    θ_run (Cert.MlpNext.defs (F := Bits)) (onTc (τ := Cert.MlpNext.τ) (Cert.MlpNext.main (F := Bits))) ⟨m, fun _ => 0, g⟩ (fun r => (∀ c : Dev Cert.MlpNext.nD,
      r.2.mem ((c.tc : Thread Cert.MlpNext.nD Cert.MlpNext.τ).loc Cert.MlpNext.main_arg0) = m ((c.tc : Thread Cert.MlpNext.nD Cert.MlpNext.τ).loc Cert.MlpNext.main_arg0)
      ∧ r.2.mem ((c.tc : Thread Cert.MlpNext.nD Cert.MlpNext.τ).loc Cert.MlpNext.main_arg1) = m ((c.tc : Thread Cert.MlpNext.nD Cert.MlpNext.τ).loc Cert.MlpNext.main_arg1)
      ∧ r.2.mem ((c.tc : Thread Cert.MlpNext.nD Cert.MlpNext.τ).loc Cert.MlpNext.main_arg2) = m ((c.tc : Thread Cert.MlpNext.nD Cert.MlpNext.τ).loc Cert.MlpNext.main_arg2)
      ∧ r.2.mem ((c.tc : Thread Cert.MlpNext.nD Cert.MlpNext.τ).loc Cert.MlpNext.main_arg3) = m ((c.tc : Thread Cert.MlpNext.nD Cert.MlpNext.τ).loc Cert.MlpNext.main_arg3))
      ∧ r.2.sem = fun _ => 0)

def quiescent_MlpNextIdeal [hMlpNextIdeal : Cert.MlpNextIdeal.Facts] : Prop :=
  ∀ (m : (ℓ : Loc Cert.MlpNextIdeal.nD Cert.MlpNextIdeal.τ Cert.MlpNextIdeal.sig) → Buf (Elt Ideal) ℓ) (g : Dev Cert.MlpNextIdeal.nD → PrngReg), Pre_MlpNextIdeal m →
    θ_run (Cert.MlpNextIdeal.defs (F := Ideal)) (onTc (τ := Cert.MlpNextIdeal.τ) (Cert.MlpNextIdeal.main (F := Ideal))) ⟨m, fun _ => 0, g⟩ (fun r => (∀ c : Dev Cert.MlpNextIdeal.nD,
      r.2.mem ((c.tc : Thread Cert.MlpNextIdeal.nD Cert.MlpNextIdeal.τ).loc Cert.MlpNextIdeal.main_arg0) = m ((c.tc : Thread Cert.MlpNextIdeal.nD Cert.MlpNextIdeal.τ).loc Cert.MlpNextIdeal.main_arg0)
      ∧ r.2.mem ((c.tc : Thread Cert.MlpNextIdeal.nD Cert.MlpNextIdeal.τ).loc Cert.MlpNextIdeal.main_arg1) = m ((c.tc : Thread Cert.MlpNextIdeal.nD Cert.MlpNextIdeal.τ).loc Cert.MlpNextIdeal.main_arg1)
      ∧ r.2.mem ((c.tc : Thread Cert.MlpNextIdeal.nD Cert.MlpNextIdeal.τ).loc Cert.MlpNextIdeal.main_arg2) = m ((c.tc : Thread Cert.MlpNextIdeal.nD Cert.MlpNextIdeal.τ).loc Cert.MlpNextIdeal.main_arg2)
      ∧ r.2.mem ((c.tc : Thread Cert.MlpNextIdeal.nD Cert.MlpNextIdeal.τ).loc Cert.MlpNextIdeal.main_arg3) = m ((c.tc : Thread Cert.MlpNextIdeal.nD Cert.MlpNextIdeal.τ).loc Cert.MlpNextIdeal.main_arg3))
      ∧ r.2.sem = fun _ => 0)

def quiescent_MlpNextRefIdeal [hMlpNextRefIdeal : Cert.MlpNextRefIdeal.Facts] : Prop :=
  ∀ (m : (ℓ : Loc Cert.MlpNextRefIdeal.nD Cert.MlpNextRefIdeal.τ Cert.MlpNextRefIdeal.sig) → Buf (Elt Ideal) ℓ) (g : Dev Cert.MlpNextRefIdeal.nD → PrngReg), Pre_MlpNextRefIdeal m →
    θ_run (Cert.MlpNextRefIdeal.defs (F := Ideal)) (onTc (τ := Cert.MlpNextRefIdeal.τ) (Cert.MlpNextRefIdeal.main (F := Ideal))) ⟨m, fun _ => 0, g⟩ (fun r => (∀ c : Dev Cert.MlpNextRefIdeal.nD,
      r.2.mem ((c.tc : Thread Cert.MlpNextRefIdeal.nD Cert.MlpNextRefIdeal.τ).loc Cert.MlpNextRefIdeal.main_arg0) = m ((c.tc : Thread Cert.MlpNextRefIdeal.nD Cert.MlpNextRefIdeal.τ).loc Cert.MlpNextRefIdeal.main_arg0)
      ∧ r.2.mem ((c.tc : Thread Cert.MlpNextRefIdeal.nD Cert.MlpNextRefIdeal.τ).loc Cert.MlpNextRefIdeal.main_arg1) = m ((c.tc : Thread Cert.MlpNextRefIdeal.nD Cert.MlpNextRefIdeal.τ).loc Cert.MlpNextRefIdeal.main_arg1)
      ∧ r.2.mem ((c.tc : Thread Cert.MlpNextRefIdeal.nD Cert.MlpNextRefIdeal.τ).loc Cert.MlpNextRefIdeal.main_arg2) = m ((c.tc : Thread Cert.MlpNextRefIdeal.nD Cert.MlpNextRefIdeal.τ).loc Cert.MlpNextRefIdeal.main_arg2)
      ∧ r.2.mem ((c.tc : Thread Cert.MlpNextRefIdeal.nD Cert.MlpNextRefIdeal.τ).loc Cert.MlpNextRefIdeal.main_arg3) = m ((c.tc : Thread Cert.MlpNextRefIdeal.nD Cert.MlpNextRefIdeal.τ).loc Cert.MlpNextRefIdeal.main_arg3))
      ∧ r.2.sem = fun _ => 0)

def quiescent_OutNext [hOutNext : Cert.OutNext.Facts] : Prop :=
  ∀ (m : (ℓ : Loc Cert.OutNext.nD Cert.OutNext.τ Cert.OutNext.sig) → Buf (Elt Bits) ℓ) (g : Dev Cert.OutNext.nD → PrngReg), Pre_OutNext m →
    θ_run (Cert.OutNext.defs (F := Bits)) (onTc (τ := Cert.OutNext.τ) (Cert.OutNext.main (F := Bits))) ⟨m, fun _ => 0, g⟩ (fun r => (∀ c : Dev Cert.OutNext.nD,
      r.2.mem ((c.tc : Thread Cert.OutNext.nD Cert.OutNext.τ).loc Cert.OutNext.main_arg0) = m ((c.tc : Thread Cert.OutNext.nD Cert.OutNext.τ).loc Cert.OutNext.main_arg0)
      ∧ r.2.mem ((c.tc : Thread Cert.OutNext.nD Cert.OutNext.τ).loc Cert.OutNext.main_arg1) = m ((c.tc : Thread Cert.OutNext.nD Cert.OutNext.τ).loc Cert.OutNext.main_arg1)
      ∧ r.2.mem ((c.tc : Thread Cert.OutNext.nD Cert.OutNext.τ).loc Cert.OutNext.main_arg2) = m ((c.tc : Thread Cert.OutNext.nD Cert.OutNext.τ).loc Cert.OutNext.main_arg2))
      ∧ r.2.sem = fun _ => 0)

def quiescent_OutNextIdeal [hOutNextIdeal : Cert.OutNextIdeal.Facts] : Prop :=
  ∀ (m : (ℓ : Loc Cert.OutNextIdeal.nD Cert.OutNextIdeal.τ Cert.OutNextIdeal.sig) → Buf (Elt Ideal) ℓ) (g : Dev Cert.OutNextIdeal.nD → PrngReg), Pre_OutNextIdeal m →
    θ_run (Cert.OutNextIdeal.defs (F := Ideal)) (onTc (τ := Cert.OutNextIdeal.τ) (Cert.OutNextIdeal.main (F := Ideal))) ⟨m, fun _ => 0, g⟩ (fun r => (∀ c : Dev Cert.OutNextIdeal.nD,
      r.2.mem ((c.tc : Thread Cert.OutNextIdeal.nD Cert.OutNextIdeal.τ).loc Cert.OutNextIdeal.main_arg0) = m ((c.tc : Thread Cert.OutNextIdeal.nD Cert.OutNextIdeal.τ).loc Cert.OutNextIdeal.main_arg0)
      ∧ r.2.mem ((c.tc : Thread Cert.OutNextIdeal.nD Cert.OutNextIdeal.τ).loc Cert.OutNextIdeal.main_arg1) = m ((c.tc : Thread Cert.OutNextIdeal.nD Cert.OutNextIdeal.τ).loc Cert.OutNextIdeal.main_arg1)
      ∧ r.2.mem ((c.tc : Thread Cert.OutNextIdeal.nD Cert.OutNextIdeal.τ).loc Cert.OutNextIdeal.main_arg2) = m ((c.tc : Thread Cert.OutNextIdeal.nD Cert.OutNextIdeal.τ).loc Cert.OutNextIdeal.main_arg2))
      ∧ r.2.sem = fun _ => 0)

def quiescent_OutNextRefIdeal [hOutNextRefIdeal : Cert.OutNextRefIdeal.Facts] : Prop :=
  ∀ (m : (ℓ : Loc Cert.OutNextRefIdeal.nD Cert.OutNextRefIdeal.τ Cert.OutNextRefIdeal.sig) → Buf (Elt Ideal) ℓ) (g : Dev Cert.OutNextRefIdeal.nD → PrngReg), Pre_OutNextRefIdeal m →
    θ_run (Cert.OutNextRefIdeal.defs (F := Ideal)) (onTc (τ := Cert.OutNextRefIdeal.τ) (Cert.OutNextRefIdeal.main (F := Ideal))) ⟨m, fun _ => 0, g⟩ (fun r => (∀ c : Dev Cert.OutNextRefIdeal.nD,
      r.2.mem ((c.tc : Thread Cert.OutNextRefIdeal.nD Cert.OutNextRefIdeal.τ).loc Cert.OutNextRefIdeal.main_arg0) = m ((c.tc : Thread Cert.OutNextRefIdeal.nD Cert.OutNextRefIdeal.τ).loc Cert.OutNextRefIdeal.main_arg0)
      ∧ r.2.mem ((c.tc : Thread Cert.OutNextRefIdeal.nD Cert.OutNextRefIdeal.τ).loc Cert.OutNextRefIdeal.main_arg1) = m ((c.tc : Thread Cert.OutNextRefIdeal.nD Cert.OutNextRefIdeal.τ).loc Cert.OutNextRefIdeal.main_arg1)
      ∧ r.2.mem ((c.tc : Thread Cert.OutNextRefIdeal.nD Cert.OutNextRefIdeal.τ).loc Cert.OutNextRefIdeal.main_arg2) = m ((c.tc : Thread Cert.OutNextRefIdeal.nD Cert.OutNextRefIdeal.τ).loc Cert.OutNextRefIdeal.main_arg2))
      ∧ r.2.sem = fun _ => 0)

def preserves_Fox_FoxIdeal : Prop :=
  IdealRules.named_const.Statement Cert.FoxIdeal.κ "q_scale" .f32 0x3E38AA3B#32 ((8⁻¹ * (Real.log 2)⁻¹ : ℝ) : EReal)
  ∧ IdealRules.named_const.Statement Cert.FoxIdeal.κ "log2e" .f32 0x3FB8AA3B#32 (((Real.log 2)⁻¹ : ℝ) : EReal)
  ∧ IdealRules.named_const.Statement Cert.FoxIdeal.κ "mask" .f32 0xF149F2CA#32 ⊥

def algebraic_FoxIdeal_FoxRefIdeal [hFoxIdeal : Cert.FoxIdeal.Facts] [hFoxRefIdeal : Cert.FoxRefIdeal.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v8)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v8) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v39) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v9_0)) (v1 : (c : Dev Cert.ProjIdeal.nD) → Buf (Elt Ideal) ((c.tc : Thread Cert.ProjIdeal.nD Cert.ProjIdeal.τ).loc Cert.ProjIdeal.main_v9_1)) (v2 : (c : Dev Cert.ProjIdeal.nD) → Buf (Elt Ideal) ((c.tc : Thread Cert.ProjIdeal.nD Cert.ProjIdeal.τ).loc Cert.ProjIdeal.main_v9_2)) (v3 : (c : Dev Cert.ProjIdeal.nD) → Buf (Elt Ideal) ((c.tc : Thread Cert.ProjIdeal.nD Cert.ProjIdeal.τ).loc Cert.ProjIdeal.main_v9_3)) (v4 : (c : Dev Cert.ProjIdeal.nD) → Buf (Elt Ideal) ((c.tc : Thread Cert.ProjIdeal.nD Cert.ProjIdeal.τ).loc Cert.ProjIdeal.main_v9_4)) (v5 : (c : Dev Cert.ProjIdeal.nD) → Buf (Elt Ideal) ((c.tc : Thread Cert.ProjIdeal.nD Cert.ProjIdeal.τ).loc Cert.ProjIdeal.main_v9_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9_0) = v0 c
          ∧ r.2.mem ((c.tc : Thread Cert.ProjIdeal.nD Cert.ProjIdeal.τ).loc Cert.ProjIdeal.main_v9_1) = v1 c
          ∧ r.2.mem ((c.tc : Thread Cert.ProjIdeal.nD Cert.ProjIdeal.τ).loc Cert.ProjIdeal.main_v9_2) = v2 c
          ∧ r.2.mem ((c.tc : Thread Cert.ProjIdeal.nD Cert.ProjIdeal.τ).loc Cert.ProjIdeal.main_v9_3) = v3 c
          ∧ r.2.mem ((c.tc : Thread Cert.ProjIdeal.nD Cert.ProjIdeal.τ).loc Cert.ProjIdeal.main_v9_4) = v4 c
          ∧ r.2.mem ((c.tc : Thread Cert.ProjIdeal.nD Cert.ProjIdeal.τ).loc Cert.ProjIdeal.main_v9_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v16) = v1 c
          ∧ r.2.mem ((c.tc : Thread Cert.ProjRefIdeal.nD Cert.ProjRefIdeal.τ).loc Cert.ProjRefIdeal.main_v26) = v2 c
          ∧ r.2.mem ((c.tc : Thread Cert.ProjRefIdeal.nD Cert.ProjRefIdeal.τ).loc Cert.ProjRefIdeal.main_v17) = v3 c
          ∧ r.2.mem ((c.tc : Thread Cert.ProjRefIdeal.nD Cert.ProjRefIdeal.τ).loc Cert.ProjRefIdeal.main_v27) = v4 c
          ∧ r.2.mem ((c.tc : Thread Cert.ProjRefIdeal.nD Cert.ProjRefIdeal.τ).loc Cert.ProjRefIdeal.main_v25) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_Next_NextIdeal : Prop :=
  True

def algebraic_NextIdeal_NextRefIdeal [hNextIdeal : Cert.NextIdeal.Facts] [hNextRefIdeal : Cert.NextRefIdeal.Facts] : Prop :=
  ∀ (m : (ℓ : Loc Cert.NextIdeal.nD Cert.NextIdeal.τ Cert.NextIdeal.sig) → Buf (Elt Ideal) ℓ) (g : Dev Cert.NextIdeal.nD → PrngReg)
    (m' : (ℓ : Loc Cert.NextRefIdeal.nD Cert.NextRefIdeal.τ Cert.NextRefIdeal.sig) → Buf (Elt Ideal) ℓ) (g' : Dev Cert.NextRefIdeal.nD → PrngReg), Pre_NextIdeal m →
    (∀ c : Dev Cert.NextIdeal.nD,
      m' ((c.tc : Thread Cert.NextRefIdeal.nD Cert.NextRefIdeal.τ).loc Cert.NextRefIdeal.main_arg0) = m ((c.tc : Thread Cert.NextIdeal.nD Cert.NextIdeal.τ).loc Cert.NextIdeal.main_arg0)
      ∧ m' ((c.tc : Thread Cert.NextRefIdeal.nD Cert.NextRefIdeal.τ).loc Cert.NextRefIdeal.main_arg1) = m ((c.tc : Thread Cert.NextIdeal.nD Cert.NextIdeal.τ).loc Cert.NextIdeal.main_arg1)
      ∧ m' ((c.tc : Thread Cert.NextRefIdeal.nD Cert.NextRefIdeal.τ).loc Cert.NextRefIdeal.main_arg2) = m ((c.tc : Thread Cert.NextIdeal.nD Cert.NextIdeal.τ).loc Cert.NextIdeal.main_arg2)
      ∧ m' ((c.tc : Thread Cert.NextRefIdeal.nD Cert.NextRefIdeal.τ).loc Cert.NextRefIdeal.main_arg3) = m ((c.tc : Thread Cert.NextIdeal.nD Cert.NextIdeal.τ).loc Cert.NextIdeal.main_arg3)) →
    ∃ (v0 : (c : Dev Cert.NextIdeal.nD) → Buf (Elt Ideal) ((c.tc : Thread Cert.NextIdeal.nD Cert.NextIdeal.τ).loc Cert.NextIdeal.main_v9_0)) (v1 : (c : Dev Cert.NextIdeal.nD) → Buf (Elt Ideal) ((c.tc : Thread Cert.NextIdeal.nD Cert.NextIdeal.τ).loc Cert.NextIdeal.main_v9_1)) (v2 : (c : Dev Cert.NextIdeal.nD) → Buf (Elt Ideal) ((c.tc : Thread Cert.NextIdeal.nD Cert.NextIdeal.τ).loc Cert.NextIdeal.main_v9_2)) (v3 : (c : Dev Cert.NextIdeal.nD) → Buf (Elt Ideal) ((c.tc : Thread Cert.NextIdeal.nD Cert.NextIdeal.τ).loc Cert.NextIdeal.main_v9_3)),
      θ_run (Cert.NextIdeal.defs (F := Ideal)) (onTc (τ := Cert.NextIdeal.τ) (Cert.NextIdeal.main (F := Ideal))) ⟨m, fun _ => 0, g⟩ (fun r => ∀ c : Dev Cert.NextIdeal.nD,
          r.2.mem ((c.tc : Thread Cert.NextIdeal.nD Cert.NextIdeal.τ).loc Cert.NextIdeal.main_v9_0) = v0 c
          ∧ r.2.mem ((c.tc : Thread Cert.NextIdeal.nD Cert.NextIdeal.τ).loc Cert.NextIdeal.main_v9_1) = v1 c
          ∧ r.2.mem ((c.tc : Thread Cert.NextIdeal.nD Cert.NextIdeal.τ).loc Cert.NextIdeal.main_v9_2) = v2 c
          ∧ r.2.mem ((c.tc : Thread Cert.NextIdeal.nD Cert.NextIdeal.τ).loc Cert.NextIdeal.main_v9_3) = v3 c
          ∧ r.2.mem ((c.tc : Thread Cert.NextIdeal.nD Cert.NextIdeal.τ).loc Cert.NextIdeal.main_arg0) = m ((c.tc : Thread Cert.NextIdeal.nD Cert.NextIdeal.τ).loc Cert.NextIdeal.main_arg0)
          ∧ r.2.mem ((c.tc : Thread Cert.NextIdeal.nD Cert.NextIdeal.τ).loc Cert.NextIdeal.main_arg1) = m ((c.tc : Thread Cert.NextIdeal.nD Cert.NextIdeal.τ).loc Cert.NextIdeal.main_arg1)
          ∧ r.2.mem ((c.tc : Thread Cert.NextIdeal.nD Cert.NextIdeal.τ).loc Cert.NextIdeal.main_arg2) = m ((c.tc : Thread Cert.NextIdeal.nD Cert.NextIdeal.τ).loc Cert.NextIdeal.main_arg2)
          ∧ r.2.mem ((c.tc : Thread Cert.NextIdeal.nD Cert.NextIdeal.τ).loc Cert.NextIdeal.main_arg3) = m ((c.tc : Thread Cert.NextIdeal.nD Cert.NextIdeal.τ).loc Cert.NextIdeal.main_arg3))
      ∧ θ_run (Cert.NextRefIdeal.defs (F := Ideal)) (onTc (τ := Cert.NextRefIdeal.τ) (Cert.NextRefIdeal.main (F := Ideal))) ⟨m', fun _ => 0, g'⟩ (fun r => ∀ c : Dev Cert.NextRefIdeal.nD,
          r.2.mem ((c.tc : Thread Cert.NextRefIdeal.nD Cert.NextRefIdeal.τ).loc Cert.NextRefIdeal.main_v15) = v0 c
          ∧ r.2.mem ((c.tc : Thread Cert.NextRefIdeal.nD Cert.NextRefIdeal.τ).loc Cert.NextRefIdeal.main_v16) = v1 c
          ∧ r.2.mem ((c.tc : Thread Cert.NextRefIdeal.nD Cert.NextRefIdeal.τ).loc Cert.NextRefIdeal.main_v17) = v2 c
          ∧ r.2.mem ((c.tc : Thread Cert.NextRefIdeal.nD Cert.NextRefIdeal.τ).loc Cert.NextRefIdeal.main_v25) = v3 c
          ∧ r.2.mem ((c.tc : Thread Cert.NextRefIdeal.nD Cert.NextRefIdeal.τ).loc Cert.NextRefIdeal.main_arg0) = m' ((c.tc : Thread Cert.NextRefIdeal.nD Cert.NextRefIdeal.τ).loc Cert.NextRefIdeal.main_arg0)
          ∧ r.2.mem ((c.tc : Thread Cert.NextRefIdeal.nD Cert.NextRefIdeal.τ).loc Cert.NextRefIdeal.main_arg1) = m' ((c.tc : Thread Cert.NextRefIdeal.nD Cert.NextRefIdeal.τ).loc Cert.NextRefIdeal.main_arg1)
          ∧ r.2.mem ((c.tc : Thread Cert.NextRefIdeal.nD Cert.NextRefIdeal.τ).loc Cert.NextRefIdeal.main_arg2) = m' ((c.tc : Thread Cert.NextRefIdeal.nD Cert.NextRefIdeal.τ).loc Cert.NextRefIdeal.main_arg2)
          ∧ r.2.mem ((c.tc : Thread Cert.NextRefIdeal.nD Cert.NextRefIdeal.τ).loc Cert.NextRefIdeal.main_arg3) = m' ((c.tc : Thread Cert.NextRefIdeal.nD Cert.NextRefIdeal.τ).loc Cert.NextRefIdeal.main_arg3))

def preserves_Rot_RotIdeal : Prop :=
  True

def algebraic_RotIdeal_RotRefIdeal [hRotIdeal : Cert.RotIdeal.Facts] [hRotRefIdeal : Cert.RotRefIdeal.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)
      ∧ m' ((c.tc : Thread Cert.RotRefIdeal.nD Cert.RotRefIdeal.τ).loc Cert.RotRefIdeal.main_arg2) = m ((c.tc : Thread Cert.RotIdeal.nD Cert.RotIdeal.τ).loc Cert.RotIdeal.main_arg2)) →
    ∃ (v0 : (c : Dev Cert.RotIdeal.nD) → Buf (Elt Ideal) ((c.tc : Thread Cert.RotIdeal.nD Cert.RotIdeal.τ).loc Cert.RotIdeal.main_v25_0)) (v1 : (c : Dev Cert.RotIdeal.nD) → Buf (Elt Ideal) ((c.tc : Thread Cert.RotIdeal.nD Cert.RotIdeal.τ).loc Cert.RotIdeal.main_v25_1)) (v2 : (c : Dev Cert.RotIdeal.nD) → Buf (Elt Ideal) ((c.tc : Thread Cert.RotIdeal.nD Cert.RotIdeal.τ).loc Cert.RotIdeal.main_v25_2)) (v3 : (c : Dev Cert.RotIdeal.nD) → Buf (Elt Ideal) ((c.tc : Thread Cert.RotIdeal.nD Cert.RotIdeal.τ).loc Cert.RotIdeal.main_v25_3)) (v4 : (c : Dev Cert.RotIdeal.nD) → Buf (Elt Ideal) ((c.tc : Thread Cert.RotIdeal.nD Cert.RotIdeal.τ).loc Cert.RotIdeal.main_v25_4)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v25_0) = v0 c
          ∧ r.2.mem ((c.tc : Thread Cert.RotIdeal.nD Cert.RotIdeal.τ).loc Cert.RotIdeal.main_v25_1) = v1 c
          ∧ r.2.mem ((c.tc : Thread Cert.RotIdeal.nD Cert.RotIdeal.τ).loc Cert.RotIdeal.main_v25_2) = v2 c
          ∧ r.2.mem ((c.tc : Thread Cert.RotIdeal.nD Cert.RotIdeal.τ).loc Cert.RotIdeal.main_v25_3) = v3 c
          ∧ r.2.mem ((c.tc : Thread Cert.RotIdeal.nD Cert.RotIdeal.τ).loc Cert.RotIdeal.main_v25_4) = v4 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
          ∧ r.2.mem ((c.tc : Thread Cert.RotIdeal.nD Cert.RotIdeal.τ).loc Cert.RotIdeal.main_arg2) = m ((c.tc : Thread Cert.RotIdeal.nD Cert.RotIdeal.τ).loc Cert.RotIdeal.main_arg2))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v86) = v0 c
          ∧ r.2.mem ((c.tc : Thread Cert.RotRefIdeal.nD Cert.RotRefIdeal.τ).loc Cert.RotRefIdeal.main_v87) = v1 c
          ∧ r.2.mem ((c.tc : Thread Cert.RotRefIdeal.nD Cert.RotRefIdeal.τ).loc Cert.RotRefIdeal.main_v89) = v2 c
          ∧ r.2.mem ((c.tc : Thread Cert.RotRefIdeal.nD Cert.RotRefIdeal.τ).loc Cert.RotRefIdeal.main_v88) = v3 c
          ∧ r.2.mem ((c.tc : Thread Cert.RotRefIdeal.nD Cert.RotRefIdeal.τ).loc Cert.RotRefIdeal.main_v90) = v4 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2))

def preserves_RotNext_RotNextIdeal : Prop :=
  True

def algebraic_RotNextIdeal_RotNextRefIdeal [hRotNextIdeal : Cert.RotNextIdeal.Facts] [hRotNextRefIdeal : Cert.RotNextRefIdeal.Facts] : Prop :=
  ∀ (m : (ℓ : Loc Cert.RotNextIdeal.nD Cert.RotNextIdeal.τ Cert.RotNextIdeal.sig) → Buf (Elt Ideal) ℓ) (g : Dev Cert.RotNextIdeal.nD → PrngReg)
    (m' : (ℓ : Loc Cert.RotNextRefIdeal.nD Cert.RotNextRefIdeal.τ Cert.RotNextRefIdeal.sig) → Buf (Elt Ideal) ℓ) (g' : Dev Cert.RotNextRefIdeal.nD → PrngReg), Pre_RotNextIdeal m →
    (∀ c : Dev Cert.RotNextIdeal.nD,
      m' ((c.tc : Thread Cert.RotNextRefIdeal.nD Cert.RotNextRefIdeal.τ).loc Cert.RotNextRefIdeal.main_arg0) = m ((c.tc : Thread Cert.RotNextIdeal.nD Cert.RotNextIdeal.τ).loc Cert.RotNextIdeal.main_arg0)
      ∧ m' ((c.tc : Thread Cert.RotNextRefIdeal.nD Cert.RotNextRefIdeal.τ).loc Cert.RotNextRefIdeal.main_arg1) = m ((c.tc : Thread Cert.RotNextIdeal.nD Cert.RotNextIdeal.τ).loc Cert.RotNextIdeal.main_arg1)
      ∧ m' ((c.tc : Thread Cert.RotNextRefIdeal.nD Cert.RotNextRefIdeal.τ).loc Cert.RotNextRefIdeal.main_arg2) = m ((c.tc : Thread Cert.RotNextIdeal.nD Cert.RotNextIdeal.τ).loc Cert.RotNextIdeal.main_arg2)) →
    ∃ (v0 : (c : Dev Cert.RotNextIdeal.nD) → Buf (Elt Ideal) ((c.tc : Thread Cert.RotNextIdeal.nD Cert.RotNextIdeal.τ).loc Cert.RotNextIdeal.main_v25_0)) (v1 : (c : Dev Cert.RotNextIdeal.nD) → Buf (Elt Ideal) ((c.tc : Thread Cert.RotNextIdeal.nD Cert.RotNextIdeal.τ).loc Cert.RotNextIdeal.main_v25_1)) (v2 : (c : Dev Cert.RotNextIdeal.nD) → Buf (Elt Ideal) ((c.tc : Thread Cert.RotNextIdeal.nD Cert.RotNextIdeal.τ).loc Cert.RotNextIdeal.main_v25_2)),
      θ_run (Cert.RotNextIdeal.defs (F := Ideal)) (onTc (τ := Cert.RotNextIdeal.τ) (Cert.RotNextIdeal.main (F := Ideal))) ⟨m, fun _ => 0, g⟩ (fun r => ∀ c : Dev Cert.RotNextIdeal.nD,
          r.2.mem ((c.tc : Thread Cert.RotNextIdeal.nD Cert.RotNextIdeal.τ).loc Cert.RotNextIdeal.main_v25_0) = v0 c
          ∧ r.2.mem ((c.tc : Thread Cert.RotNextIdeal.nD Cert.RotNextIdeal.τ).loc Cert.RotNextIdeal.main_v25_1) = v1 c
          ∧ r.2.mem ((c.tc : Thread Cert.RotNextIdeal.nD Cert.RotNextIdeal.τ).loc Cert.RotNextIdeal.main_v25_2) = v2 c
          ∧ r.2.mem ((c.tc : Thread Cert.RotNextIdeal.nD Cert.RotNextIdeal.τ).loc Cert.RotNextIdeal.main_arg0) = m ((c.tc : Thread Cert.RotNextIdeal.nD Cert.RotNextIdeal.τ).loc Cert.RotNextIdeal.main_arg0)
          ∧ r.2.mem ((c.tc : Thread Cert.RotNextIdeal.nD Cert.RotNextIdeal.τ).loc Cert.RotNextIdeal.main_arg1) = m ((c.tc : Thread Cert.RotNextIdeal.nD Cert.RotNextIdeal.τ).loc Cert.RotNextIdeal.main_arg1)
          ∧ r.2.mem ((c.tc : Thread Cert.RotNextIdeal.nD Cert.RotNextIdeal.τ).loc Cert.RotNextIdeal.main_arg2) = m ((c.tc : Thread Cert.RotNextIdeal.nD Cert.RotNextIdeal.τ).loc Cert.RotNextIdeal.main_arg2))
      ∧ θ_run (Cert.RotNextRefIdeal.defs (F := Ideal)) (onTc (τ := Cert.RotNextRefIdeal.τ) (Cert.RotNextRefIdeal.main (F := Ideal))) ⟨m', fun _ => 0, g'⟩ (fun r => ∀ c : Dev Cert.RotNextRefIdeal.nD,
          r.2.mem ((c.tc : Thread Cert.RotNextRefIdeal.nD Cert.RotNextRefIdeal.τ).loc Cert.RotNextRefIdeal.main_v86) = v0 c
          ∧ r.2.mem ((c.tc : Thread Cert.RotNextRefIdeal.nD Cert.RotNextRefIdeal.τ).loc Cert.RotNextRefIdeal.main_v87) = v1 c
          ∧ r.2.mem ((c.tc : Thread Cert.RotNextRefIdeal.nD Cert.RotNextRefIdeal.τ).loc Cert.RotNextRefIdeal.main_v88) = v2 c
          ∧ r.2.mem ((c.tc : Thread Cert.RotNextRefIdeal.nD Cert.RotNextRefIdeal.τ).loc Cert.RotNextRefIdeal.main_arg0) = m' ((c.tc : Thread Cert.RotNextRefIdeal.nD Cert.RotNextRefIdeal.τ).loc Cert.RotNextRefIdeal.main_arg0)
          ∧ r.2.mem ((c.tc : Thread Cert.RotNextRefIdeal.nD Cert.RotNextRefIdeal.τ).loc Cert.RotNextRefIdeal.main_arg1) = m' ((c.tc : Thread Cert.RotNextRefIdeal.nD Cert.RotNextRefIdeal.τ).loc Cert.RotNextRefIdeal.main_arg1)
          ∧ r.2.mem ((c.tc : Thread Cert.RotNextRefIdeal.nD Cert.RotNextRefIdeal.τ).loc Cert.RotNextRefIdeal.main_arg2) = m' ((c.tc : Thread Cert.RotNextRefIdeal.nD Cert.RotNextRefIdeal.τ).loc Cert.RotNextRefIdeal.main_arg2))

def preserves_Nsa_NsaIdeal : Prop :=
  True

def algebraic_NsaIdeal_NsaRefIdeal [hNsaIdeal : Cert.NsaIdeal.Facts] [hNsaRefIdeal : Cert.NsaRefIdeal.Facts] : Prop :=
  ∀ (m : (ℓ : Loc Cert.NsaIdeal.nD Cert.NsaIdeal.τ Cert.NsaIdeal.sig) → Buf (Elt Ideal) ℓ) (g : Dev Cert.NsaIdeal.nD → PrngReg)
    (m' : (ℓ : Loc Cert.NsaRefIdeal.nD Cert.NsaRefIdeal.τ Cert.NsaRefIdeal.sig) → Buf (Elt Ideal) ℓ) (g' : Dev Cert.NsaRefIdeal.nD → PrngReg), Pre_NsaIdeal m →
    (∀ c : Dev Cert.NsaIdeal.nD,
      m' ((c.tc : Thread Cert.NsaRefIdeal.nD Cert.NsaRefIdeal.τ).loc Cert.NsaRefIdeal.main_arg0) = m ((c.tc : Thread Cert.NsaIdeal.nD Cert.NsaIdeal.τ).loc Cert.NsaIdeal.main_arg0)
      ∧ m' ((c.tc : Thread Cert.NsaRefIdeal.nD Cert.NsaRefIdeal.τ).loc Cert.NsaRefIdeal.main_arg1) = m ((c.tc : Thread Cert.NsaIdeal.nD Cert.NsaIdeal.τ).loc Cert.NsaIdeal.main_arg1)
      ∧ m' ((c.tc : Thread Cert.NsaRefIdeal.nD Cert.NsaRefIdeal.τ).loc Cert.NsaRefIdeal.main_arg2) = m ((c.tc : Thread Cert.NsaIdeal.nD Cert.NsaIdeal.τ).loc Cert.NsaIdeal.main_arg2)
      ∧ m' ((c.tc : Thread Cert.NsaRefIdeal.nD Cert.NsaRefIdeal.τ).loc Cert.NsaRefIdeal.main_arg3) = m ((c.tc : Thread Cert.NsaIdeal.nD Cert.NsaIdeal.τ).loc Cert.NsaIdeal.main_arg3)) →
    ∃ (v0 : (c : Dev Cert.NsaIdeal.nD) → Buf (Elt Ideal) ((c.tc : Thread Cert.NsaIdeal.nD Cert.NsaIdeal.τ).loc Cert.NsaIdeal.main_v33_0)) (v1 : (c : Dev Cert.NsaIdeal.nD) → Buf (Elt Ideal) ((c.tc : Thread Cert.NsaIdeal.nD Cert.NsaIdeal.τ).loc Cert.NsaIdeal.main_v33_1)) (v2 : (c : Dev Cert.NsaIdeal.nD) → Buf (Elt Ideal) ((c.tc : Thread Cert.NsaIdeal.nD Cert.NsaIdeal.τ).loc Cert.NsaIdeal.main_v33_2)) (v3 : (c : Dev Cert.NsaIdeal.nD) → Buf (Elt Ideal) ((c.tc : Thread Cert.NsaIdeal.nD Cert.NsaIdeal.τ).loc Cert.NsaIdeal.main_v33_3)) (v4 : (c : Dev Cert.NsaIdeal.nD) → Buf (Elt Ideal) ((c.tc : Thread Cert.NsaIdeal.nD Cert.NsaIdeal.τ).loc Cert.NsaIdeal.main_v33_4)) (v5 : (c : Dev Cert.NsaIdeal.nD) → Buf (Elt Ideal) ((c.tc : Thread Cert.NsaIdeal.nD Cert.NsaIdeal.τ).loc Cert.NsaIdeal.main_v33_5)) (v6 : (c : Dev Cert.NsaIdeal.nD) → Buf (Elt Ideal) ((c.tc : Thread Cert.NsaIdeal.nD Cert.NsaIdeal.τ).loc Cert.NsaIdeal.main_v33_6)) (v7 : (c : Dev Cert.NsaIdeal.nD) → Buf (Elt Ideal) ((c.tc : Thread Cert.NsaIdeal.nD Cert.NsaIdeal.τ).loc Cert.NsaIdeal.main_v33_7)),
      θ_run (Cert.NsaIdeal.defs (F := Ideal)) (onTc (τ := Cert.NsaIdeal.τ) (Cert.NsaIdeal.main (F := Ideal))) ⟨m, fun _ => 0, g⟩ (fun r => ∀ c : Dev Cert.NsaIdeal.nD,
          r.2.mem ((c.tc : Thread Cert.NsaIdeal.nD Cert.NsaIdeal.τ).loc Cert.NsaIdeal.main_v33_0) = v0 c
          ∧ r.2.mem ((c.tc : Thread Cert.NsaIdeal.nD Cert.NsaIdeal.τ).loc Cert.NsaIdeal.main_v33_1) = v1 c
          ∧ r.2.mem ((c.tc : Thread Cert.NsaIdeal.nD Cert.NsaIdeal.τ).loc Cert.NsaIdeal.main_v33_2) = v2 c
          ∧ r.2.mem ((c.tc : Thread Cert.NsaIdeal.nD Cert.NsaIdeal.τ).loc Cert.NsaIdeal.main_v33_3) = v3 c
          ∧ r.2.mem ((c.tc : Thread Cert.NsaIdeal.nD Cert.NsaIdeal.τ).loc Cert.NsaIdeal.main_v33_4) = v4 c
          ∧ r.2.mem ((c.tc : Thread Cert.NsaIdeal.nD Cert.NsaIdeal.τ).loc Cert.NsaIdeal.main_v33_5) = v5 c
          ∧ r.2.mem ((c.tc : Thread Cert.NsaIdeal.nD Cert.NsaIdeal.τ).loc Cert.NsaIdeal.main_v33_6) = v6 c
          ∧ r.2.mem ((c.tc : Thread Cert.NsaIdeal.nD Cert.NsaIdeal.τ).loc Cert.NsaIdeal.main_v33_7) = v7 c
          ∧ r.2.mem ((c.tc : Thread Cert.NsaIdeal.nD Cert.NsaIdeal.τ).loc Cert.NsaIdeal.main_arg0) = m ((c.tc : Thread Cert.NsaIdeal.nD Cert.NsaIdeal.τ).loc Cert.NsaIdeal.main_arg0)
          ∧ r.2.mem ((c.tc : Thread Cert.NsaIdeal.nD Cert.NsaIdeal.τ).loc Cert.NsaIdeal.main_arg1) = m ((c.tc : Thread Cert.NsaIdeal.nD Cert.NsaIdeal.τ).loc Cert.NsaIdeal.main_arg1)
          ∧ r.2.mem ((c.tc : Thread Cert.NsaIdeal.nD Cert.NsaIdeal.τ).loc Cert.NsaIdeal.main_arg2) = m ((c.tc : Thread Cert.NsaIdeal.nD Cert.NsaIdeal.τ).loc Cert.NsaIdeal.main_arg2)
          ∧ r.2.mem ((c.tc : Thread Cert.NsaIdeal.nD Cert.NsaIdeal.τ).loc Cert.NsaIdeal.main_arg3) = m ((c.tc : Thread Cert.NsaIdeal.nD Cert.NsaIdeal.τ).loc Cert.NsaIdeal.main_arg3))
      ∧ θ_run (Cert.NsaRefIdeal.defs (F := Ideal)) (onTc (τ := Cert.NsaRefIdeal.τ) (Cert.NsaRefIdeal.main (F := Ideal))) ⟨m', fun _ => 0, g'⟩ (fun r => ∀ c : Dev Cert.NsaRefIdeal.nD,
          r.2.mem ((c.tc : Thread Cert.NsaRefIdeal.nD Cert.NsaRefIdeal.τ).loc Cert.NsaRefIdeal.main_v183) = v0 c
          ∧ r.2.mem ((c.tc : Thread Cert.NsaRefIdeal.nD Cert.NsaRefIdeal.τ).loc Cert.NsaRefIdeal.main_v177) = v1 c
          ∧ r.2.mem ((c.tc : Thread Cert.NsaRefIdeal.nD Cert.NsaRefIdeal.τ).loc Cert.NsaRefIdeal.main_v178) = v2 c
          ∧ r.2.mem ((c.tc : Thread Cert.NsaRefIdeal.nD Cert.NsaRefIdeal.τ).loc Cert.NsaRefIdeal.main_v179) = v3 c
          ∧ r.2.mem ((c.tc : Thread Cert.NsaRefIdeal.nD Cert.NsaRefIdeal.τ).loc Cert.NsaRefIdeal.main_v180) = v4 c
          ∧ r.2.mem ((c.tc : Thread Cert.NsaRefIdeal.nD Cert.NsaRefIdeal.τ).loc Cert.NsaRefIdeal.main_v181) = v5 c
          ∧ r.2.mem ((c.tc : Thread Cert.NsaRefIdeal.nD Cert.NsaRefIdeal.τ).loc Cert.NsaRefIdeal.main_v182) = v6 c
          ∧ r.2.mem ((c.tc : Thread Cert.NsaRefIdeal.nD Cert.NsaRefIdeal.τ).loc Cert.NsaRefIdeal.main_v184) = v7 c
          ∧ r.2.mem ((c.tc : Thread Cert.NsaRefIdeal.nD Cert.NsaRefIdeal.τ).loc Cert.NsaRefIdeal.main_arg0) = m' ((c.tc : Thread Cert.NsaRefIdeal.nD Cert.NsaRefIdeal.τ).loc Cert.NsaRefIdeal.main_arg0)
          ∧ r.2.mem ((c.tc : Thread Cert.NsaRefIdeal.nD Cert.NsaRefIdeal.τ).loc Cert.NsaRefIdeal.main_arg1) = m' ((c.tc : Thread Cert.NsaRefIdeal.nD Cert.NsaRefIdeal.τ).loc Cert.NsaRefIdeal.main_arg1)
          ∧ r.2.mem ((c.tc : Thread Cert.NsaRefIdeal.nD Cert.NsaRefIdeal.τ).loc Cert.NsaRefIdeal.main_arg2) = m' ((c.tc : Thread Cert.NsaRefIdeal.nD Cert.NsaRefIdeal.τ).loc Cert.NsaRefIdeal.main_arg2)
          ∧ r.2.mem ((c.tc : Thread Cert.NsaRefIdeal.nD Cert.NsaRefIdeal.τ).loc Cert.NsaRefIdeal.main_arg3) = m' ((c.tc : Thread Cert.NsaRefIdeal.nD Cert.NsaRefIdeal.τ).loc Cert.NsaRefIdeal.main_arg3))

def preserves_NsaNext_NsaNextIdeal : Prop :=
  True

def algebraic_NsaNextIdeal_NsaNextRefIdeal [hNsaNextIdeal : Cert.NsaNextIdeal.Facts] [hNsaNextRefIdeal : Cert.NsaNextRefIdeal.Facts] : Prop :=
  ∀ (m : (ℓ : Loc Cert.NsaNextIdeal.nD Cert.NsaNextIdeal.τ Cert.NsaNextIdeal.sig) → Buf (Elt Ideal) ℓ) (g : Dev Cert.NsaNextIdeal.nD → PrngReg)
    (m' : (ℓ : Loc Cert.NsaNextRefIdeal.nD Cert.NsaNextRefIdeal.τ Cert.NsaNextRefIdeal.sig) → Buf (Elt Ideal) ℓ) (g' : Dev Cert.NsaNextRefIdeal.nD → PrngReg), Pre_NsaNextIdeal m →
    (∀ c : Dev Cert.NsaNextIdeal.nD,
      m' ((c.tc : Thread Cert.NsaNextRefIdeal.nD Cert.NsaNextRefIdeal.τ).loc Cert.NsaNextRefIdeal.main_arg0) = m ((c.tc : Thread Cert.NsaNextIdeal.nD Cert.NsaNextIdeal.τ).loc Cert.NsaNextIdeal.main_arg0)
      ∧ m' ((c.tc : Thread Cert.NsaNextRefIdeal.nD Cert.NsaNextRefIdeal.τ).loc Cert.NsaNextRefIdeal.main_arg1) = m ((c.tc : Thread Cert.NsaNextIdeal.nD Cert.NsaNextIdeal.τ).loc Cert.NsaNextIdeal.main_arg1)
      ∧ m' ((c.tc : Thread Cert.NsaNextRefIdeal.nD Cert.NsaNextRefIdeal.τ).loc Cert.NsaNextRefIdeal.main_arg2) = m ((c.tc : Thread Cert.NsaNextIdeal.nD Cert.NsaNextIdeal.τ).loc Cert.NsaNextIdeal.main_arg2)
      ∧ m' ((c.tc : Thread Cert.NsaNextRefIdeal.nD Cert.NsaNextRefIdeal.τ).loc Cert.NsaNextRefIdeal.main_arg3) = m ((c.tc : Thread Cert.NsaNextIdeal.nD Cert.NsaNextIdeal.τ).loc Cert.NsaNextIdeal.main_arg3)) →
    ∃ (v0 : (c : Dev Cert.NsaNextIdeal.nD) → Buf (Elt Ideal) ((c.tc : Thread Cert.NsaNextIdeal.nD Cert.NsaNextIdeal.τ).loc Cert.NsaNextIdeal.main_v33_0)) (v1 : (c : Dev Cert.NsaNextIdeal.nD) → Buf (Elt Ideal) ((c.tc : Thread Cert.NsaNextIdeal.nD Cert.NsaNextIdeal.τ).loc Cert.NsaNextIdeal.main_v33_1)) (v2 : (c : Dev Cert.NsaNextIdeal.nD) → Buf (Elt Ideal) ((c.tc : Thread Cert.NsaNextIdeal.nD Cert.NsaNextIdeal.τ).loc Cert.NsaNextIdeal.main_v33_2)) (v3 : (c : Dev Cert.NsaNextIdeal.nD) → Buf (Elt Ideal) ((c.tc : Thread Cert.NsaNextIdeal.nD Cert.NsaNextIdeal.τ).loc Cert.NsaNextIdeal.main_v33_3)) (v4 : (c : Dev Cert.NsaNextIdeal.nD) → Buf (Elt Ideal) ((c.tc : Thread Cert.NsaNextIdeal.nD Cert.NsaNextIdeal.τ).loc Cert.NsaNextIdeal.main_v33_4)) (v5 : (c : Dev Cert.NsaNextIdeal.nD) → Buf (Elt Ideal) ((c.tc : Thread Cert.NsaNextIdeal.nD Cert.NsaNextIdeal.τ).loc Cert.NsaNextIdeal.main_v33_5)) (v6 : (c : Dev Cert.NsaNextIdeal.nD) → Buf (Elt Ideal) ((c.tc : Thread Cert.NsaNextIdeal.nD Cert.NsaNextIdeal.τ).loc Cert.NsaNextIdeal.main_v33_6)) (v7 : (c : Dev Cert.NsaNextIdeal.nD) → Buf (Elt Ideal) ((c.tc : Thread Cert.NsaNextIdeal.nD Cert.NsaNextIdeal.τ).loc Cert.NsaNextIdeal.main_v33_7)),
      θ_run (Cert.NsaNextIdeal.defs (F := Ideal)) (onTc (τ := Cert.NsaNextIdeal.τ) (Cert.NsaNextIdeal.main (F := Ideal))) ⟨m, fun _ => 0, g⟩ (fun r => ∀ c : Dev Cert.NsaNextIdeal.nD,
          r.2.mem ((c.tc : Thread Cert.NsaNextIdeal.nD Cert.NsaNextIdeal.τ).loc Cert.NsaNextIdeal.main_v33_0) = v0 c
          ∧ r.2.mem ((c.tc : Thread Cert.NsaNextIdeal.nD Cert.NsaNextIdeal.τ).loc Cert.NsaNextIdeal.main_v33_1) = v1 c
          ∧ r.2.mem ((c.tc : Thread Cert.NsaNextIdeal.nD Cert.NsaNextIdeal.τ).loc Cert.NsaNextIdeal.main_v33_2) = v2 c
          ∧ r.2.mem ((c.tc : Thread Cert.NsaNextIdeal.nD Cert.NsaNextIdeal.τ).loc Cert.NsaNextIdeal.main_v33_3) = v3 c
          ∧ r.2.mem ((c.tc : Thread Cert.NsaNextIdeal.nD Cert.NsaNextIdeal.τ).loc Cert.NsaNextIdeal.main_v33_4) = v4 c
          ∧ r.2.mem ((c.tc : Thread Cert.NsaNextIdeal.nD Cert.NsaNextIdeal.τ).loc Cert.NsaNextIdeal.main_v33_5) = v5 c
          ∧ r.2.mem ((c.tc : Thread Cert.NsaNextIdeal.nD Cert.NsaNextIdeal.τ).loc Cert.NsaNextIdeal.main_v33_6) = v6 c
          ∧ r.2.mem ((c.tc : Thread Cert.NsaNextIdeal.nD Cert.NsaNextIdeal.τ).loc Cert.NsaNextIdeal.main_v33_7) = v7 c
          ∧ r.2.mem ((c.tc : Thread Cert.NsaNextIdeal.nD Cert.NsaNextIdeal.τ).loc Cert.NsaNextIdeal.main_arg0) = m ((c.tc : Thread Cert.NsaNextIdeal.nD Cert.NsaNextIdeal.τ).loc Cert.NsaNextIdeal.main_arg0)
          ∧ r.2.mem ((c.tc : Thread Cert.NsaNextIdeal.nD Cert.NsaNextIdeal.τ).loc Cert.NsaNextIdeal.main_arg1) = m ((c.tc : Thread Cert.NsaNextIdeal.nD Cert.NsaNextIdeal.τ).loc Cert.NsaNextIdeal.main_arg1)
          ∧ r.2.mem ((c.tc : Thread Cert.NsaNextIdeal.nD Cert.NsaNextIdeal.τ).loc Cert.NsaNextIdeal.main_arg2) = m ((c.tc : Thread Cert.NsaNextIdeal.nD Cert.NsaNextIdeal.τ).loc Cert.NsaNextIdeal.main_arg2)
          ∧ r.2.mem ((c.tc : Thread Cert.NsaNextIdeal.nD Cert.NsaNextIdeal.τ).loc Cert.NsaNextIdeal.main_arg3) = m ((c.tc : Thread Cert.NsaNextIdeal.nD Cert.NsaNextIdeal.τ).loc Cert.NsaNextIdeal.main_arg3))
      ∧ θ_run (Cert.NsaNextRefIdeal.defs (F := Ideal)) (onTc (τ := Cert.NsaNextRefIdeal.τ) (Cert.NsaNextRefIdeal.main (F := Ideal))) ⟨m', fun _ => 0, g'⟩ (fun r => ∀ c : Dev Cert.NsaNextRefIdeal.nD,
          r.2.mem ((c.tc : Thread Cert.NsaNextRefIdeal.nD Cert.NsaNextRefIdeal.τ).loc Cert.NsaNextRefIdeal.main_v181) = v0 c
          ∧ r.2.mem ((c.tc : Thread Cert.NsaNextRefIdeal.nD Cert.NsaNextRefIdeal.τ).loc Cert.NsaNextRefIdeal.main_v175) = v1 c
          ∧ r.2.mem ((c.tc : Thread Cert.NsaNextRefIdeal.nD Cert.NsaNextRefIdeal.τ).loc Cert.NsaNextRefIdeal.main_v176) = v2 c
          ∧ r.2.mem ((c.tc : Thread Cert.NsaNextRefIdeal.nD Cert.NsaNextRefIdeal.τ).loc Cert.NsaNextRefIdeal.main_v177) = v3 c
          ∧ r.2.mem ((c.tc : Thread Cert.NsaNextRefIdeal.nD Cert.NsaNextRefIdeal.τ).loc Cert.NsaNextRefIdeal.main_v178) = v4 c
          ∧ r.2.mem ((c.tc : Thread Cert.NsaNextRefIdeal.nD Cert.NsaNextRefIdeal.τ).loc Cert.NsaNextRefIdeal.main_v179) = v5 c
          ∧ r.2.mem ((c.tc : Thread Cert.NsaNextRefIdeal.nD Cert.NsaNextRefIdeal.τ).loc Cert.NsaNextRefIdeal.main_v180) = v6 c
          ∧ r.2.mem ((c.tc : Thread Cert.NsaNextRefIdeal.nD Cert.NsaNextRefIdeal.τ).loc Cert.NsaNextRefIdeal.main_v182) = v7 c
          ∧ r.2.mem ((c.tc : Thread Cert.NsaNextRefIdeal.nD Cert.NsaNextRefIdeal.τ).loc Cert.NsaNextRefIdeal.main_arg0) = m' ((c.tc : Thread Cert.NsaNextRefIdeal.nD Cert.NsaNextRefIdeal.τ).loc Cert.NsaNextRefIdeal.main_arg0)
          ∧ r.2.mem ((c.tc : Thread Cert.NsaNextRefIdeal.nD Cert.NsaNextRefIdeal.τ).loc Cert.NsaNextRefIdeal.main_arg1) = m' ((c.tc : Thread Cert.NsaNextRefIdeal.nD Cert.NsaNextRefIdeal.τ).loc Cert.NsaNextRefIdeal.main_arg1)
          ∧ r.2.mem ((c.tc : Thread Cert.NsaNextRefIdeal.nD Cert.NsaNextRefIdeal.τ).loc Cert.NsaNextRefIdeal.main_arg2) = m' ((c.tc : Thread Cert.NsaNextRefIdeal.nD Cert.NsaNextRefIdeal.τ).loc Cert.NsaNextRefIdeal.main_arg2)
          ∧ r.2.mem ((c.tc : Thread Cert.NsaNextRefIdeal.nD Cert.NsaNextRefIdeal.τ).loc Cert.NsaNextRefIdeal.main_arg3) = m' ((c.tc : Thread Cert.NsaNextRefIdeal.nD Cert.NsaNextRefIdeal.τ).loc Cert.NsaNextRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v3) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_NormNext_NormNextIdeal : Prop :=
  True

def algebraic_NormNextIdeal_NormNextRefIdeal [hNormNextIdeal : Cert.NormNextIdeal.Facts] [hNormNextRefIdeal : Cert.NormNextRefIdeal.Facts] : Prop :=
  ∀ (m : (ℓ : Loc Cert.NormNextIdeal.nD Cert.NormNextIdeal.τ Cert.NormNextIdeal.sig) → Buf (Elt Ideal) ℓ) (g : Dev Cert.NormNextIdeal.nD → PrngReg)
    (m' : (ℓ : Loc Cert.NormNextRefIdeal.nD Cert.NormNextRefIdeal.τ Cert.NormNextRefIdeal.sig) → Buf (Elt Ideal) ℓ) (g' : Dev Cert.NormNextRefIdeal.nD → PrngReg), Pre_NormNextIdeal m →
    (∀ c : Dev Cert.NormNextIdeal.nD,
      m' ((c.tc : Thread Cert.NormNextRefIdeal.nD Cert.NormNextRefIdeal.τ).loc Cert.NormNextRefIdeal.main_arg0) = m ((c.tc : Thread Cert.NormNextIdeal.nD Cert.NormNextIdeal.τ).loc Cert.NormNextIdeal.main_arg0)
      ∧ m' ((c.tc : Thread Cert.NormNextRefIdeal.nD Cert.NormNextRefIdeal.τ).loc Cert.NormNextRefIdeal.main_arg1) = m ((c.tc : Thread Cert.NormNextIdeal.nD Cert.NormNextIdeal.τ).loc Cert.NormNextIdeal.main_arg1)) →
    ∃ (v0 : (c : Dev Cert.NormNextIdeal.nD) → Buf (Elt Ideal) ((c.tc : Thread Cert.NormNextIdeal.nD Cert.NormNextIdeal.τ).loc Cert.NormNextIdeal.main_v1)),
      θ_run (Cert.NormNextIdeal.defs (F := Ideal)) (onTc (τ := Cert.NormNextIdeal.τ) (Cert.NormNextIdeal.main (F := Ideal))) ⟨m, fun _ => 0, g⟩ (fun r => ∀ c : Dev Cert.NormNextIdeal.nD,
          r.2.mem ((c.tc : Thread Cert.NormNextIdeal.nD Cert.NormNextIdeal.τ).loc Cert.NormNextIdeal.main_v1) = v0 c
          ∧ r.2.mem ((c.tc : Thread Cert.NormNextIdeal.nD Cert.NormNextIdeal.τ).loc Cert.NormNextIdeal.main_arg0) = m ((c.tc : Thread Cert.NormNextIdeal.nD Cert.NormNextIdeal.τ).loc Cert.NormNextIdeal.main_arg0)
          ∧ r.2.mem ((c.tc : Thread Cert.NormNextIdeal.nD Cert.NormNextIdeal.τ).loc Cert.NormNextIdeal.main_arg1) = m ((c.tc : Thread Cert.NormNextIdeal.nD Cert.NormNextIdeal.τ).loc Cert.NormNextIdeal.main_arg1))
      ∧ θ_run (Cert.NormNextRefIdeal.defs (F := Ideal)) (onTc (τ := Cert.NormNextRefIdeal.τ) (Cert.NormNextRefIdeal.main (F := Ideal))) ⟨m', fun _ => 0, g'⟩ (fun r => ∀ c : Dev Cert.NormNextRefIdeal.nD,
          r.2.mem ((c.tc : Thread Cert.NormNextRefIdeal.nD Cert.NormNextRefIdeal.τ).loc Cert.NormNextRefIdeal.main_v12) = v0 c
          ∧ r.2.mem ((c.tc : Thread Cert.NormNextRefIdeal.nD Cert.NormNextRefIdeal.τ).loc Cert.NormNextRefIdeal.main_arg0) = m' ((c.tc : Thread Cert.NormNextRefIdeal.nD Cert.NormNextRefIdeal.τ).loc Cert.NormNextRefIdeal.main_arg0)
          ∧ r.2.mem ((c.tc : Thread Cert.NormNextRefIdeal.nD Cert.NormNextRefIdeal.τ).loc Cert.NormNextRefIdeal.main_arg1) = m' ((c.tc : Thread Cert.NormNextRefIdeal.nD Cert.NormNextRefIdeal.τ).loc Cert.NormNextRefIdeal.main_arg1))

def preserves_Keep_KeepIdeal : Prop :=
  True

def algebraic_KeepIdeal_KeepRefIdeal [hKeepIdeal : Cert.KeepIdeal.Facts] [hKeepRefIdeal : Cert.KeepRefIdeal.Facts] : Prop :=
  ∀ (m : (ℓ : Loc Cert.KeepIdeal.nD Cert.KeepIdeal.τ Cert.KeepIdeal.sig) → Buf (Elt Ideal) ℓ) (g : Dev Cert.KeepIdeal.nD → PrngReg)
    (m' : (ℓ : Loc Cert.KeepRefIdeal.nD Cert.KeepRefIdeal.τ Cert.KeepRefIdeal.sig) → Buf (Elt Ideal) ℓ) (g' : Dev Cert.KeepRefIdeal.nD → PrngReg), Pre_KeepIdeal m →
    (∀ c : Dev Cert.KeepIdeal.nD,
      m' ((c.tc : Thread Cert.KeepRefIdeal.nD Cert.KeepRefIdeal.τ).loc Cert.KeepRefIdeal.main_arg0) = m ((c.tc : Thread Cert.KeepIdeal.nD Cert.KeepIdeal.τ).loc Cert.KeepIdeal.main_arg0)
      ∧ m' ((c.tc : Thread Cert.KeepRefIdeal.nD Cert.KeepRefIdeal.τ).loc Cert.KeepRefIdeal.main_arg1) = m ((c.tc : Thread Cert.KeepIdeal.nD Cert.KeepIdeal.τ).loc Cert.KeepIdeal.main_arg1)
      ∧ m' ((c.tc : Thread Cert.KeepRefIdeal.nD Cert.KeepRefIdeal.τ).loc Cert.KeepRefIdeal.main_arg2) = m ((c.tc : Thread Cert.KeepIdeal.nD Cert.KeepIdeal.τ).loc Cert.KeepIdeal.main_arg2)
      ∧ m' ((c.tc : Thread Cert.KeepRefIdeal.nD Cert.KeepRefIdeal.τ).loc Cert.KeepRefIdeal.main_arg3) = m ((c.tc : Thread Cert.KeepIdeal.nD Cert.KeepIdeal.τ).loc Cert.KeepIdeal.main_arg3)
      ∧ m' ((c.tc : Thread Cert.KeepRefIdeal.nD Cert.KeepRefIdeal.τ).loc Cert.KeepRefIdeal.main_arg4) = m ((c.tc : Thread Cert.KeepIdeal.nD Cert.KeepIdeal.τ).loc Cert.KeepIdeal.main_arg4)
      ∧ m' ((c.tc : Thread Cert.KeepRefIdeal.nD Cert.KeepRefIdeal.τ).loc Cert.KeepRefIdeal.main_arg5) = m ((c.tc : Thread Cert.KeepIdeal.nD Cert.KeepIdeal.τ).loc Cert.KeepIdeal.main_arg5)) →
    ∃ (v0 : (c : Dev Cert.KeepIdeal.nD) → Buf (Elt Ideal) ((c.tc : Thread Cert.KeepIdeal.nD Cert.KeepIdeal.τ).loc Cert.KeepIdeal.main_v38)) (v1 : (c : Dev Cert.KeepIdeal.nD) → Buf (Elt Ideal) ((c.tc : Thread Cert.KeepIdeal.nD Cert.KeepIdeal.τ).loc Cert.KeepIdeal.main_v39)),
      θ_run (Cert.KeepIdeal.defs (F := Ideal)) (onTc (τ := Cert.KeepIdeal.τ) (Cert.KeepIdeal.main (F := Ideal))) ⟨m, fun _ => 0, g⟩ (fun r => ∀ c : Dev Cert.KeepIdeal.nD,
          r.2.mem ((c.tc : Thread Cert.KeepIdeal.nD Cert.KeepIdeal.τ).loc Cert.KeepIdeal.main_v38) = v0 c
          ∧ r.2.mem ((c.tc : Thread Cert.KeepIdeal.nD Cert.KeepIdeal.τ).loc Cert.KeepIdeal.main_v39) = v1 c
          ∧ r.2.mem ((c.tc : Thread Cert.KeepIdeal.nD Cert.KeepIdeal.τ).loc Cert.KeepIdeal.main_arg0) = m ((c.tc : Thread Cert.KeepIdeal.nD Cert.KeepIdeal.τ).loc Cert.KeepIdeal.main_arg0)
          ∧ r.2.mem ((c.tc : Thread Cert.KeepIdeal.nD Cert.KeepIdeal.τ).loc Cert.KeepIdeal.main_arg1) = m ((c.tc : Thread Cert.KeepIdeal.nD Cert.KeepIdeal.τ).loc Cert.KeepIdeal.main_arg1)
          ∧ r.2.mem ((c.tc : Thread Cert.KeepIdeal.nD Cert.KeepIdeal.τ).loc Cert.KeepIdeal.main_arg2) = m ((c.tc : Thread Cert.KeepIdeal.nD Cert.KeepIdeal.τ).loc Cert.KeepIdeal.main_arg2)
          ∧ r.2.mem ((c.tc : Thread Cert.KeepIdeal.nD Cert.KeepIdeal.τ).loc Cert.KeepIdeal.main_arg3) = m ((c.tc : Thread Cert.KeepIdeal.nD Cert.KeepIdeal.τ).loc Cert.KeepIdeal.main_arg3)
          ∧ r.2.mem ((c.tc : Thread Cert.KeepIdeal.nD Cert.KeepIdeal.τ).loc Cert.KeepIdeal.main_arg4) = m ((c.tc : Thread Cert.KeepIdeal.nD Cert.KeepIdeal.τ).loc Cert.KeepIdeal.main_arg4)
          ∧ r.2.mem ((c.tc : Thread Cert.KeepIdeal.nD Cert.KeepIdeal.τ).loc Cert.KeepIdeal.main_arg5) = m ((c.tc : Thread Cert.KeepIdeal.nD Cert.KeepIdeal.τ).loc Cert.KeepIdeal.main_arg5))
      ∧ θ_run (Cert.KeepRefIdeal.defs (F := Ideal)) (onTc (τ := Cert.KeepRefIdeal.τ) (Cert.KeepRefIdeal.main (F := Ideal))) ⟨m', fun _ => 0, g'⟩ (fun r => ∀ c : Dev Cert.KeepRefIdeal.nD,
          r.2.mem ((c.tc : Thread Cert.KeepRefIdeal.nD Cert.KeepRefIdeal.τ).loc Cert.KeepRefIdeal.main_v177) = v0 c
          ∧ r.2.mem ((c.tc : Thread Cert.KeepRefIdeal.nD Cert.KeepRefIdeal.τ).loc Cert.KeepRefIdeal.main_v178) = v1 c
          ∧ r.2.mem ((c.tc : Thread Cert.KeepRefIdeal.nD Cert.KeepRefIdeal.τ).loc Cert.KeepRefIdeal.main_arg0) = m' ((c.tc : Thread Cert.KeepRefIdeal.nD Cert.KeepRefIdeal.τ).loc Cert.KeepRefIdeal.main_arg0)
          ∧ r.2.mem ((c.tc : Thread Cert.KeepRefIdeal.nD Cert.KeepRefIdeal.τ).loc Cert.KeepRefIdeal.main_arg1) = m' ((c.tc : Thread Cert.KeepRefIdeal.nD Cert.KeepRefIdeal.τ).loc Cert.KeepRefIdeal.main_arg1)
          ∧ r.2.mem ((c.tc : Thread Cert.KeepRefIdeal.nD Cert.KeepRefIdeal.τ).loc Cert.KeepRefIdeal.main_arg2) = m' ((c.tc : Thread Cert.KeepRefIdeal.nD Cert.KeepRefIdeal.τ).loc Cert.KeepRefIdeal.main_arg2)
          ∧ r.2.mem ((c.tc : Thread Cert.KeepRefIdeal.nD Cert.KeepRefIdeal.τ).loc Cert.KeepRefIdeal.main_arg3) = m' ((c.tc : Thread Cert.KeepRefIdeal.nD Cert.KeepRefIdeal.τ).loc Cert.KeepRefIdeal.main_arg3)
          ∧ r.2.mem ((c.tc : Thread Cert.KeepRefIdeal.nD Cert.KeepRefIdeal.τ).loc Cert.KeepRefIdeal.main_arg4) = m' ((c.tc : Thread Cert.KeepRefIdeal.nD Cert.KeepRefIdeal.τ).loc Cert.KeepRefIdeal.main_arg4)
          ∧ r.2.mem ((c.tc : Thread Cert.KeepRefIdeal.nD Cert.KeepRefIdeal.τ).loc Cert.KeepRefIdeal.main_arg5) = m' ((c.tc : Thread Cert.KeepRefIdeal.nD Cert.KeepRefIdeal.τ).loc Cert.KeepRefIdeal.main_arg5))

def preserves_MlpNext_MlpNextIdeal : Prop :=
  True

def algebraic_MlpNextIdeal_MlpNextRefIdeal [hMlpNextIdeal : Cert.MlpNextIdeal.Facts] [hMlpNextRefIdeal : Cert.MlpNextRefIdeal.Facts] : Prop :=
  ∀ (m : (ℓ : Loc Cert.MlpNextIdeal.nD Cert.MlpNextIdeal.τ Cert.MlpNextIdeal.sig) → Buf (Elt Ideal) ℓ) (g : Dev Cert.MlpNextIdeal.nD → PrngReg)
    (m' : (ℓ : Loc Cert.MlpNextRefIdeal.nD Cert.MlpNextRefIdeal.τ Cert.MlpNextRefIdeal.sig) → Buf (Elt Ideal) ℓ) (g' : Dev Cert.MlpNextRefIdeal.nD → PrngReg), Pre_MlpNextIdeal m →
    (∀ c : Dev Cert.MlpNextIdeal.nD,
      m' ((c.tc : Thread Cert.MlpNextRefIdeal.nD Cert.MlpNextRefIdeal.τ).loc Cert.MlpNextRefIdeal.main_arg0) = m ((c.tc : Thread Cert.MlpNextIdeal.nD Cert.MlpNextIdeal.τ).loc Cert.MlpNextIdeal.main_arg0)
      ∧ m' ((c.tc : Thread Cert.MlpNextRefIdeal.nD Cert.MlpNextRefIdeal.τ).loc Cert.MlpNextRefIdeal.main_arg1) = m ((c.tc : Thread Cert.MlpNextIdeal.nD Cert.MlpNextIdeal.τ).loc Cert.MlpNextIdeal.main_arg1)
      ∧ m' ((c.tc : Thread Cert.MlpNextRefIdeal.nD Cert.MlpNextRefIdeal.τ).loc Cert.MlpNextRefIdeal.main_arg2) = m ((c.tc : Thread Cert.MlpNextIdeal.nD Cert.MlpNextIdeal.τ).loc Cert.MlpNextIdeal.main_arg2)
      ∧ m' ((c.tc : Thread Cert.MlpNextRefIdeal.nD Cert.MlpNextRefIdeal.τ).loc Cert.MlpNextRefIdeal.main_arg3) = m ((c.tc : Thread Cert.MlpNextIdeal.nD Cert.MlpNextIdeal.τ).loc Cert.MlpNextIdeal.main_arg3)) →
    ∃ (v0 : (c : Dev Cert.MlpNextIdeal.nD) → Buf (Elt Ideal) ((c.tc : Thread Cert.MlpNextIdeal.nD Cert.MlpNextIdeal.τ).loc Cert.MlpNextIdeal.main_v3)),
      θ_run (Cert.MlpNextIdeal.defs (F := Ideal)) (onTc (τ := Cert.MlpNextIdeal.τ) (Cert.MlpNextIdeal.main (F := Ideal))) ⟨m, fun _ => 0, g⟩ (fun r => ∀ c : Dev Cert.MlpNextIdeal.nD,
          r.2.mem ((c.tc : Thread Cert.MlpNextIdeal.nD Cert.MlpNextIdeal.τ).loc Cert.MlpNextIdeal.main_v3) = v0 c
          ∧ r.2.mem ((c.tc : Thread Cert.MlpNextIdeal.nD Cert.MlpNextIdeal.τ).loc Cert.MlpNextIdeal.main_arg0) = m ((c.tc : Thread Cert.MlpNextIdeal.nD Cert.MlpNextIdeal.τ).loc Cert.MlpNextIdeal.main_arg0)
          ∧ r.2.mem ((c.tc : Thread Cert.MlpNextIdeal.nD Cert.MlpNextIdeal.τ).loc Cert.MlpNextIdeal.main_arg1) = m ((c.tc : Thread Cert.MlpNextIdeal.nD Cert.MlpNextIdeal.τ).loc Cert.MlpNextIdeal.main_arg1)
          ∧ r.2.mem ((c.tc : Thread Cert.MlpNextIdeal.nD Cert.MlpNextIdeal.τ).loc Cert.MlpNextIdeal.main_arg2) = m ((c.tc : Thread Cert.MlpNextIdeal.nD Cert.MlpNextIdeal.τ).loc Cert.MlpNextIdeal.main_arg2)
          ∧ r.2.mem ((c.tc : Thread Cert.MlpNextIdeal.nD Cert.MlpNextIdeal.τ).loc Cert.MlpNextIdeal.main_arg3) = m ((c.tc : Thread Cert.MlpNextIdeal.nD Cert.MlpNextIdeal.τ).loc Cert.MlpNextIdeal.main_arg3))
      ∧ θ_run (Cert.MlpNextRefIdeal.defs (F := Ideal)) (onTc (τ := Cert.MlpNextRefIdeal.τ) (Cert.MlpNextRefIdeal.main (F := Ideal))) ⟨m', fun _ => 0, g'⟩ (fun r => ∀ c : Dev Cert.MlpNextRefIdeal.nD,
          r.2.mem ((c.tc : Thread Cert.MlpNextRefIdeal.nD Cert.MlpNextRefIdeal.τ).loc Cert.MlpNextRefIdeal.main_v17) = v0 c
          ∧ r.2.mem ((c.tc : Thread Cert.MlpNextRefIdeal.nD Cert.MlpNextRefIdeal.τ).loc Cert.MlpNextRefIdeal.main_arg0) = m' ((c.tc : Thread Cert.MlpNextRefIdeal.nD Cert.MlpNextRefIdeal.τ).loc Cert.MlpNextRefIdeal.main_arg0)
          ∧ r.2.mem ((c.tc : Thread Cert.MlpNextRefIdeal.nD Cert.MlpNextRefIdeal.τ).loc Cert.MlpNextRefIdeal.main_arg1) = m' ((c.tc : Thread Cert.MlpNextRefIdeal.nD Cert.MlpNextRefIdeal.τ).loc Cert.MlpNextRefIdeal.main_arg1)
          ∧ r.2.mem ((c.tc : Thread Cert.MlpNextRefIdeal.nD Cert.MlpNextRefIdeal.τ).loc Cert.MlpNextRefIdeal.main_arg2) = m' ((c.tc : Thread Cert.MlpNextRefIdeal.nD Cert.MlpNextRefIdeal.τ).loc Cert.MlpNextRefIdeal.main_arg2)
          ∧ r.2.mem ((c.tc : Thread Cert.MlpNextRefIdeal.nD Cert.MlpNextRefIdeal.τ).loc Cert.MlpNextRefIdeal.main_arg3) = m' ((c.tc : Thread Cert.MlpNextRefIdeal.nD Cert.MlpNextRefIdeal.τ).loc Cert.MlpNextRefIdeal.main_arg3))

def preserves_OutNext_OutNextIdeal : Prop :=
  True

def algebraic_OutNextIdeal_OutNextRefIdeal [hOutNextIdeal : Cert.OutNextIdeal.Facts] [hOutNextRefIdeal : Cert.OutNextRefIdeal.Facts] : Prop :=
  ∀ (m : (ℓ : Loc Cert.OutNextIdeal.nD Cert.OutNextIdeal.τ Cert.OutNextIdeal.sig) → Buf (Elt Ideal) ℓ) (g : Dev Cert.OutNextIdeal.nD → PrngReg)
    (m' : (ℓ : Loc Cert.OutNextRefIdeal.nD Cert.OutNextRefIdeal.τ Cert.OutNextRefIdeal.sig) → Buf (Elt Ideal) ℓ) (g' : Dev Cert.OutNextRefIdeal.nD → PrngReg), Pre_OutNextIdeal m →
    (∀ c : Dev Cert.OutNextIdeal.nD,
      m' ((c.tc : Thread Cert.OutNextRefIdeal.nD Cert.OutNextRefIdeal.τ).loc Cert.OutNextRefIdeal.main_arg0) = m ((c.tc : Thread Cert.OutNextIdeal.nD Cert.OutNextIdeal.τ).loc Cert.OutNextIdeal.main_arg0)
      ∧ m' ((c.tc : Thread Cert.OutNextRefIdeal.nD Cert.OutNextRefIdeal.τ).loc Cert.OutNextRefIdeal.main_arg1) = m ((c.tc : Thread Cert.OutNextIdeal.nD Cert.OutNextIdeal.τ).loc Cert.OutNextIdeal.main_arg1)
      ∧ m' ((c.tc : Thread Cert.OutNextRefIdeal.nD Cert.OutNextRefIdeal.τ).loc Cert.OutNextRefIdeal.main_arg2) = m ((c.tc : Thread Cert.OutNextIdeal.nD Cert.OutNextIdeal.τ).loc Cert.OutNextIdeal.main_arg2)) →
    ∃ (v0 : (c : Dev Cert.OutNextIdeal.nD) → Buf (Elt Ideal) ((c.tc : Thread Cert.OutNextIdeal.nD Cert.OutNextIdeal.τ).loc Cert.OutNextIdeal.main_v1)),
      θ_run (Cert.OutNextIdeal.defs (F := Ideal)) (onTc (τ := Cert.OutNextIdeal.τ) (Cert.OutNextIdeal.main (F := Ideal))) ⟨m, fun _ => 0, g⟩ (fun r => ∀ c : Dev Cert.OutNextIdeal.nD,
          r.2.mem ((c.tc : Thread Cert.OutNextIdeal.nD Cert.OutNextIdeal.τ).loc Cert.OutNextIdeal.main_v1) = v0 c
          ∧ r.2.mem ((c.tc : Thread Cert.OutNextIdeal.nD Cert.OutNextIdeal.τ).loc Cert.OutNextIdeal.main_arg0) = m ((c.tc : Thread Cert.OutNextIdeal.nD Cert.OutNextIdeal.τ).loc Cert.OutNextIdeal.main_arg0)
          ∧ r.2.mem ((c.tc : Thread Cert.OutNextIdeal.nD Cert.OutNextIdeal.τ).loc Cert.OutNextIdeal.main_arg1) = m ((c.tc : Thread Cert.OutNextIdeal.nD Cert.OutNextIdeal.τ).loc Cert.OutNextIdeal.main_arg1)
          ∧ r.2.mem ((c.tc : Thread Cert.OutNextIdeal.nD Cert.OutNextIdeal.τ).loc Cert.OutNextIdeal.main_arg2) = m ((c.tc : Thread Cert.OutNextIdeal.nD Cert.OutNextIdeal.τ).loc Cert.OutNextIdeal.main_arg2))
      ∧ θ_run (Cert.OutNextRefIdeal.defs (F := Ideal)) (onTc (τ := Cert.OutNextRefIdeal.τ) (Cert.OutNextRefIdeal.main (F := Ideal))) ⟨m', fun _ => 0, g'⟩ (fun r => ∀ c : Dev Cert.OutNextRefIdeal.nD,
          r.2.mem ((c.tc : Thread Cert.OutNextRefIdeal.nD Cert.OutNextRefIdeal.τ).loc Cert.OutNextRefIdeal.main_v1) = v0 c
          ∧ r.2.mem ((c.tc : Thread Cert.OutNextRefIdeal.nD Cert.OutNextRefIdeal.τ).loc Cert.OutNextRefIdeal.main_arg0) = m' ((c.tc : Thread Cert.OutNextRefIdeal.nD Cert.OutNextRefIdeal.τ).loc Cert.OutNextRefIdeal.main_arg0)
          ∧ r.2.mem ((c.tc : Thread Cert.OutNextRefIdeal.nD Cert.OutNextRefIdeal.τ).loc Cert.OutNextRefIdeal.main_arg1) = m' ((c.tc : Thread Cert.OutNextRefIdeal.nD Cert.OutNextRefIdeal.τ).loc Cert.OutNextRefIdeal.main_arg1)
          ∧ r.2.mem ((c.tc : Thread Cert.OutNextRefIdeal.nD Cert.OutNextRefIdeal.τ).loc Cert.OutNextRefIdeal.main_arg2) = m' ((c.tc : Thread Cert.OutNextRefIdeal.nD Cert.OutNextRefIdeal.τ).loc Cert.OutNextRefIdeal.main_arg2))

def Claim : Prop :=
  ∃ (hFox : Cert.Fox.Facts) (hFoxIdeal : Cert.FoxIdeal.Facts) (hFoxRefIdeal : Cert.FoxRefIdeal.Facts) (hMlp : Cert.Mlp.Facts) (hMlpIdeal : Cert.MlpIdeal.Facts) (hMlpRefIdeal : Cert.MlpRefIdeal.Facts) (hOut : Cert.Out.Facts) (hOutIdeal : Cert.OutIdeal.Facts) (hOutRefIdeal : Cert.OutRefIdeal.Facts) (hProj : Cert.Proj.Facts) (hProjIdeal : Cert.ProjIdeal.Facts) (hProjRefIdeal : Cert.ProjRefIdeal.Facts) (hNext : Cert.Next.Facts) (hNextIdeal : Cert.NextIdeal.Facts) (hNextRefIdeal : Cert.NextRefIdeal.Facts) (hRot : Cert.Rot.Facts) (hRotIdeal : Cert.RotIdeal.Facts) (hRotRefIdeal : Cert.RotRefIdeal.Facts) (hRotNext : Cert.RotNext.Facts) (hRotNextIdeal : Cert.RotNextIdeal.Facts) (hRotNextRefIdeal : Cert.RotNextRefIdeal.Facts) (hNsa : Cert.Nsa.Facts) (hNsaIdeal : Cert.NsaIdeal.Facts) (hNsaRefIdeal : Cert.NsaRefIdeal.Facts) (hNsaNext : Cert.NsaNext.Facts) (hNsaNextIdeal : Cert.NsaNextIdeal.Facts) (hNsaNextRefIdeal : Cert.NsaNextRefIdeal.Facts) (hMix : Cert.Mix.Facts) (hMixIdeal : Cert.MixIdeal.Facts) (hMixRefIdeal : Cert.MixRefIdeal.Facts) (hNorm : Cert.Norm.Facts) (hNormIdeal : Cert.NormIdeal.Facts) (hNormRefIdeal : Cert.NormRefIdeal.Facts) (hNormNext : Cert.NormNext.Facts) (hNormNextIdeal : Cert.NormNextIdeal.Facts) (hNormNextRefIdeal : Cert.NormNextRefIdeal.Facts) (hKeep : Cert.Keep.Facts) (hKeepIdeal : Cert.KeepIdeal.Facts) (hKeepRefIdeal : Cert.KeepRefIdeal.Facts) (hMlpNext : Cert.MlpNext.Facts) (hMlpNextIdeal : Cert.MlpNextIdeal.Facts) (hMlpNextRefIdeal : Cert.MlpNextRefIdeal.Facts) (hOutNext : Cert.OutNext.Facts) (hOutNextIdeal : Cert.OutNextIdeal.Facts) (hOutNextRefIdeal : Cert.OutNextRefIdeal.Facts),
    quiescent_Fox (hFox := hFox)
    ∧ quiescent_FoxIdeal (hFoxIdeal := hFoxIdeal)
    ∧ quiescent_FoxRefIdeal (hFoxRefIdeal := hFoxRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Out (hOut := hOut)
    ∧ quiescent_OutIdeal (hOutIdeal := hOutIdeal)
    ∧ quiescent_OutRefIdeal (hOutRefIdeal := hOutRefIdeal)
    ∧ quiescent_Proj (hProj := hProj)
    ∧ quiescent_ProjIdeal (hProjIdeal := hProjIdeal)
    ∧ quiescent_ProjRefIdeal (hProjRefIdeal := hProjRefIdeal)
    ∧ quiescent_Next (hNext := hNext)
    ∧ quiescent_NextIdeal (hNextIdeal := hNextIdeal)
    ∧ quiescent_NextRefIdeal (hNextRefIdeal := hNextRefIdeal)
    ∧ quiescent_Rot (hRot := hRot)
    ∧ quiescent_RotIdeal (hRotIdeal := hRotIdeal)
    ∧ quiescent_RotRefIdeal (hRotRefIdeal := hRotRefIdeal)
    ∧ quiescent_RotNext (hRotNext := hRotNext)
    ∧ quiescent_RotNextIdeal (hRotNextIdeal := hRotNextIdeal)
    ∧ quiescent_RotNextRefIdeal (hRotNextRefIdeal := hRotNextRefIdeal)
    ∧ quiescent_Nsa (hNsa := hNsa)
    ∧ quiescent_NsaIdeal (hNsaIdeal := hNsaIdeal)
    ∧ quiescent_NsaRefIdeal (hNsaRefIdeal := hNsaRefIdeal)
    ∧ quiescent_NsaNext (hNsaNext := hNsaNext)
    ∧ quiescent_NsaNextIdeal (hNsaNextIdeal := hNsaNextIdeal)
    ∧ quiescent_NsaNextRefIdeal (hNsaNextRefIdeal := hNsaNextRefIdeal)
    ∧ quiescent_Mix (hMix := hMix)
    ∧ quiescent_MixIdeal (hMixIdeal := hMixIdeal)
    ∧ quiescent_MixRefIdeal (hMixRefIdeal := hMixRefIdeal)
    ∧ quiescent_Norm (hNorm := hNorm)
    ∧ quiescent_NormIdeal (hNormIdeal := hNormIdeal)
    ∧ quiescent_NormRefIdeal (hNormRefIdeal := hNormRefIdeal)
    ∧ quiescent_NormNext (hNormNext := hNormNext)
    ∧ quiescent_NormNextIdeal (hNormNextIdeal := hNormNextIdeal)
    ∧ quiescent_NormNextRefIdeal (hNormNextRefIdeal := hNormNextRefIdeal)
    ∧ quiescent_Keep (hKeep := hKeep)
    ∧ quiescent_KeepIdeal (hKeepIdeal := hKeepIdeal)
    ∧ quiescent_KeepRefIdeal (hKeepRefIdeal := hKeepRefIdeal)
    ∧ quiescent_MlpNext (hMlpNext := hMlpNext)
    ∧ quiescent_MlpNextIdeal (hMlpNextIdeal := hMlpNextIdeal)
    ∧ quiescent_MlpNextRefIdeal (hMlpNextRefIdeal := hMlpNextRefIdeal)
    ∧ quiescent_OutNext (hOutNext := hOutNext)
    ∧ quiescent_OutNextIdeal (hOutNextIdeal := hOutNextIdeal)
    ∧ quiescent_OutNextRefIdeal (hOutNextRefIdeal := hOutNextRefIdeal)
    ∧ preserves_Fox_FoxIdeal
    ∧ algebraic_FoxIdeal_FoxRefIdeal (hFoxIdeal := hFoxIdeal) (hFoxRefIdeal := hFoxRefIdeal)
    ∧ preserves_Mlp_MlpIdeal
    ∧ algebraic_MlpIdeal_MlpRefIdeal (hMlpIdeal := hMlpIdeal) (hMlpRefIdeal := hMlpRefIdeal)
    ∧ preserves_Out_OutIdeal
    ∧ algebraic_OutIdeal_OutRefIdeal (hOutIdeal := hOutIdeal) (hOutRefIdeal := hOutRefIdeal)
    ∧ preserves_Proj_ProjIdeal
    ∧ algebraic_ProjIdeal_ProjRefIdeal (hProjIdeal := hProjIdeal) (hProjRefIdeal := hProjRefIdeal)
    ∧ preserves_Next_NextIdeal
    ∧ algebraic_NextIdeal_NextRefIdeal (hNextIdeal := hNextIdeal) (hNextRefIdeal := hNextRefIdeal)
    ∧ preserves_Rot_RotIdeal
    ∧ algebraic_RotIdeal_RotRefIdeal (hRotIdeal := hRotIdeal) (hRotRefIdeal := hRotRefIdeal)
    ∧ preserves_RotNext_RotNextIdeal
    ∧ algebraic_RotNextIdeal_RotNextRefIdeal (hRotNextIdeal := hRotNextIdeal) (hRotNextRefIdeal := hRotNextRefIdeal)
    ∧ preserves_Nsa_NsaIdeal
    ∧ algebraic_NsaIdeal_NsaRefIdeal (hNsaIdeal := hNsaIdeal) (hNsaRefIdeal := hNsaRefIdeal)
    ∧ preserves_NsaNext_NsaNextIdeal
    ∧ algebraic_NsaNextIdeal_NsaNextRefIdeal (hNsaNextIdeal := hNsaNextIdeal) (hNsaNextRefIdeal := hNsaNextRefIdeal)
    ∧ preserves_Mix_MixIdeal
    ∧ algebraic_MixIdeal_MixRefIdeal (hMixIdeal := hMixIdeal) (hMixRefIdeal := hMixRefIdeal)
    ∧ preserves_Norm_NormIdeal
    ∧ algebraic_NormIdeal_NormRefIdeal (hNormIdeal := hNormIdeal) (hNormRefIdeal := hNormRefIdeal)
    ∧ preserves_NormNext_NormNextIdeal
    ∧ algebraic_NormNextIdeal_NormNextRefIdeal (hNormNextIdeal := hNormNextIdeal) (hNormNextRefIdeal := hNormNextRefIdeal)
    ∧ preserves_Keep_KeepIdeal
    ∧ algebraic_KeepIdeal_KeepRefIdeal (hKeepIdeal := hKeepIdeal) (hKeepRefIdeal := hKeepRefIdeal)
    ∧ preserves_MlpNext_MlpNextIdeal
    ∧ algebraic_MlpNextIdeal_MlpNextRefIdeal (hMlpNextIdeal := hMlpNextIdeal) (hMlpNextRefIdeal := hMlpNextRefIdeal)
    ∧ preserves_OutNext_OutNextIdeal
    ∧ algebraic_OutNextIdeal_OutNextRefIdeal (hOutNextIdeal := hOutNextIdeal) (hOutNextRefIdeal := hOutNextRefIdeal)
-- ==== Fox.lean ====
abbrev S4x4096x1024 : Shape := ⟨3, ![4, 4096, 1024]⟩
abbrev S4x4096x16 : Shape := ⟨3, ![4, 4096, 16]⟩
abbrev S4x4096x8x2 : Shape := ⟨4, ![4, 4096, 8, 2]⟩
abbrev S4x8x2x4096 : Shape := ⟨4, ![4, 8, 2, 4096]⟩
abbrev S4x4x1024x8x2 : Shape := ⟨5, ![4, 4, 1024, 8, 2]⟩
abbrev S4x8x4x1024x2 : Shape := ⟨5, ![4, 8, 4, 1024, 2]⟩
abbrev S4x4x1024x8x128 : Shape := ⟨5, ![4, 4, 1024, 8, 128]⟩
abbrev S4x8x4x128x1024 : Shape := ⟨5, ![4, 8, 4, 128, 1024]⟩
abbrev S1x512x128 : Shape := ⟨3, ![1, 512, 128]⟩
abbrev S1x4096x128 : Shape := ⟨3, ![1, 4096, 128]⟩
abbrev S1x1x4x128x1024 : Shape := ⟨5, ![1, 1, 4, 128, 1024]⟩
abbrev S1x1x2x512 : Shape := ⟨4, ![1, 1, 2, 512]⟩
abbrev S1x1x4x1024x2 : Shape := ⟨5, ![1, 1, 4, 1024, 2]⟩
abbrev S512x128 : Shape := ⟨2, ![512, 128]⟩
abbrev S1x1x1x512 : Shape := ⟨4, ![1, 1, 1, 512]⟩
abbrev S1x512 : Shape := ⟨2, ![1, 512]⟩
abbrev S128x512 : Shape := ⟨2, ![128, 512]⟩
abbrev S1x1024x128 : Shape := ⟨3, ![1, 1024, 128]⟩
abbrev S1024x128 : Shape := ⟨2, ![1024, 128]⟩
abbrev S1x1x1x128x1024 : Shape := ⟨5, ![1, 1, 1, 128, 1024]⟩
abbrev S128x1024 : Shape := ⟨2, ![128, 1024]⟩
abbrev S1024x512 : Shape := ⟨2, ![1024, 512]⟩
abbrev S1x1x1x1024x2 : Shape := ⟨5, ![1, 1, 1, 1024, 2]⟩
abbrev S1024x2 : Shape := ⟨2, ![1024, 2]⟩
abbrev S1024x1 : Shape := ⟨2, ![1024, 1]⟩
abbrev S512 : Shape := ⟨1, ![512]⟩

abbrev nBuf : Space → Nat
  | .hbm => 13
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16, .f32⟩
  | .hbm, ⟨4, _⟩ => ⟨S4x4096x1024, .bf16⟩
  | .hbm, ⟨5, _⟩ => ⟨S4x4096x1024, .bf16⟩
  | .hbm, ⟨6, _⟩ => ⟨S4x4096x8x2, .f32⟩
  | .hbm, ⟨7, _⟩ => ⟨S4x8x2x4096, .f32⟩
  | .hbm, ⟨8, _⟩ => ⟨S4x4x1024x8x2, .f32⟩
  | .hbm, ⟨9, _⟩ => ⟨S4x8x4x1024x2, .f32⟩
  | .hbm, ⟨10, _⟩ => ⟨S4x4x1024x8x128, .bf16⟩
  | .hbm, ⟨11, _⟩ => ⟨S4x8x4x128x1024, .bf16⟩
  | .hbm, ⟨12, _⟩ => ⟨S4x4096x1024, .bf16⟩
  | .local _ .vmem, ⟨0, _⟩ => ⟨S1x512x128, .f32⟩
  | .local _ .vmem, ⟨1, _⟩ => ⟨S1x512x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x1x4x128x1024, .bf16⟩
  | .local _ .vmem, ⟨5, _⟩ => ⟨S1x1x4x128x1024, .bf16⟩
  | .local _ .vmem, ⟨6, _⟩ => ⟨S1x1x2x512, .f32⟩
  | .local _ .vmem, ⟨7, _⟩ => ⟨S1x1x2x512, .f32⟩
  | .local _ .vmem, ⟨8, _⟩ => ⟨S1x1x4x1024x2, .f32⟩
  | .local _ .vmem, ⟨9, _⟩ => ⟨S1x1x4x1024x2, .f32⟩
  | .local _ .vmem, ⟨10, _⟩ => ⟨S1x512x128, .bf16⟩
  | .local _ .vmem, ⟨11, _⟩ => ⟨S1x512x128, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 8, 8], ![false, false, false]⟩

@[reducible] def k0_t1_loop (i : grid0.Coords) : Scf.Loop 32 :=
  let c0_i32_21 : BitVec 32 := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v48 : BitVec 32 := Scalar.subi v36 c0_i32_21
  let c1_i32_22 : BitVec 32 := 1#32
  let v50 : BitVec 32 := Scalar.divsi v48 c1_i32_22
  let v51 : BitVec 32 := Scalar.muli v50 c1_i32_22
  let v52 : BitVec 32 := Scalar.addi c0_i32_21 v51
  let c1_i32_23 : BitVec 32 := 1#32
  ⟨c0_i32_21, v52, c1_i32_23⟩
def k0_mult1 (i : grid0.Coords) (k0_t1 : Fin (k0_t1_loop i).trips) : BitVec 32 :=
  let c0_i32_21 : BitVec 32 := 0#32
  let c1_i32_23 : BitVec 32 := 1#32
  let arg9 : BitVec 32 := Scf.iv c0_i32_21 c1_i32_23 k0_t1
  let c1024_i32_74 : BitVec 32 := 1024#32
  let v192 : BitVec 32 := Scalar.muli arg9 c1024_i32_74
  v192
def k0_off1 (i : grid0.Coords) (k0_t1 : Fin (k0_t1_loop i).trips) : Fin 3 → Nat :=
  let c0_75 : Index := 0#32
  let c0_i32_21 : BitVec 32 := 0#32
  let c1_i32_23 : BitVec 32 := 1#32
  let arg9 : BitVec 32 := Scf.iv c0_i32_21 c1_i32_23 k0_t1
  let c1024_i32_74 : BitVec 32 := 1024#32
  let v192 : BitVec 32 := Scalar.muli arg9 c1024_i32_74
  let v193 : BitVec 32 := v192
  let v194 : Index := Scalar.indexCast v193
  let c0_76 : Index := 0#32
  ![0, v194.toNat, 0]
def k0_off2 (i : grid0.Coords) (k0_t1 : Fin (k0_t1_loop i).trips) : Fin 5 → Nat :=
  let c0_77 : Index := 0#32
  let c0_78 : Index := 0#32
  let c0_i32_21 : BitVec 32 := 0#32
  let c1_i32_23 : BitVec 32 := 1#32
  let arg9 : BitVec 32 := Scf.iv c0_i32_21 c1_i32_23 k0_t1
  let v197 : Index := Scalar.indexCast arg9
  let c0_79 : Index := 0#32
  let c0_80 : Index := 0#32
  ![0, 0, v197.toNat, 0, 0]
def k0_off3 (i : grid0.Coords) (k0_t1 : Fin (k0_t1_loop i).trips) : Fin 5 → Nat :=
  let c0_82 : Index := 0#32
  let c0_83 : Index := 0#32
  let c0_i32_21 : BitVec 32 := 0#32
  let c1_i32_23 : BitVec 32 := 1#32
  let arg9 : BitVec 32 := Scf.iv c0_i32_21 c1_i32_23 k0_t1
  let v201 : Index := Scalar.indexCast arg9
  let c0_84 : Index := 0#32
  let c0_85 : Index := 0#32
  ![0, 0, v201.toNat, 0, 0]
@[reducible] def k0_t2_loop (i : grid0.Coords) : Scf.Loop 32 :=
  let c0_i32_21 : BitVec 32 := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v48 : BitVec 32 := Scalar.subi v36 c0_i32_21
  let c1_i32_22 : BitVec 32 := 1#32
  let v50 : BitVec 32 := Scalar.divsi v48 c1_i32_22
  let v51 : BitVec 32 := Scalar.muli v50 c1_i32_22
  let v52 : BitVec 32 := Scalar.addi c0_i32_21 v51
  let v49 : BitVec 32 := Scalar.addi c0_i32_21 v48
  let c1_i32_24 : BitVec 32 := 1#32
  ⟨v52, v49, c1_i32_24⟩
def k0_mult2 (i : grid0.Coords) (k0_t2 : Fin (k0_t2_loop i).trips) : BitVec 32 :=
  let c0_i32_21 : BitVec 32 := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v48 : BitVec 32 := Scalar.subi v36 c0_i32_21
  let c1_i32_22 : BitVec 32 := 1#32
  let v50 : BitVec 32 := Scalar.divsi v48 c1_i32_22
  let v51 : BitVec 32 := Scalar.muli v50 c1_i32_22
  let v52 : BitVec 32 := Scalar.addi c0_i32_21 v51
  let c1_i32_24 : BitVec 32 := 1#32
  let arg9 : BitVec 32 := Scf.iv v52 c1_i32_24 k0_t2
  let c1024_i32_74 : BitVec 32 := 1024#32
  let v192 : BitVec 32 := Scalar.muli arg9 c1024_i32_74
  v192
def k0_off4 (i : grid0.Coords) (k0_t2 : Fin (k0_t2_loop i).trips) : Fin 3 → Nat :=
  let c0_75 : Index := 0#32
  let c0_i32_21 : BitVec 32 := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v48 : BitVec 32 := Scalar.subi v36 c0_i32_21
  let c1_i32_22 : BitVec 32 := 1#32
  let v50 : BitVec 32 := Scalar.divsi v48 c1_i32_22
  let v51 : BitVec 32 := Scalar.muli v50 c1_i32_22
  let v52 : BitVec 32 := Scalar.addi c0_i32_21 v51
  let c1_i32_24 : BitVec 32 := 1#32
  let arg9 : BitVec 32 := Scf.iv v52 c1_i32_24 k0_t2
  let c1024_i32_74 : BitVec 32 := 1024#32
  let v192 : BitVec 32 := Scalar.muli arg9 c1024_i32_74
  let v193 : BitVec 32 := v192
  let v194 : Index := Scalar.indexCast v193
  let c0_76 : Index := 0#32
  ![0, v194.toNat, 0]
def k0_off5 (i : grid0.Coords) (k0_t2 : Fin (k0_t2_loop i).trips) : Fin 5 → Nat :=
  let c0_77 : Index := 0#32
  let c0_78 : Index := 0#32
  let c0_i32_21 : BitVec 32 := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v48 : BitVec 32 := Scalar.subi v36 c0_i32_21
  let c1_i32_22 : BitVec 32 := 1#32
  let v50 : BitVec 32 := Scalar.divsi v48 c1_i32_22
  let v51 : BitVec 32 := Scalar.muli v50 c1_i32_22
  let v52 : BitVec 32 := Scalar.addi c0_i32_21 v51
  let c1_i32_24 : BitVec 32 := 1#32
  let arg9 : BitVec 32 := Scf.iv v52 c1_i32_24 k0_t2
  let v197 : Index := Scalar.indexCast arg9
  let c0_79 : Index := 0#32
  let c0_80 : Index := 0#32
  ![0, 0, v197.toNat, 0, 0]
def k0_off6 (i : grid0.Coords) (k0_t2 : Fin (k0_t2_loop i).trips) : Fin 5 → Nat :=
  let c0_82 : Index := 0#32
  let c0_83 : Index := 0#32
  let c0_i32_21 : BitVec 32 := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v48 : BitVec 32 := Scalar.subi v36 c0_i32_21
  let c1_i32_22 : BitVec 32 := 1#32
  let v50 : BitVec 32 := Scalar.divsi v48 c1_i32_22
  let v51 : BitVec 32 := Scalar.muli v50 c1_i32_22
  let v52 : BitVec 32 := Scalar.addi c0_i32_21 v51
  let c1_i32_24 : BitVec 32 := 1#32
  let arg9 : BitVec 32 := Scf.iv v52 c1_i32_24 k0_t2
  let v201 : Index := Scalar.indexCast arg9
  let c0_84 : Index := 0#32
  let c0_85 : Index := 0#32
  ![0, 0, v201.toNat, 0, 0]
def k0_mult3 (i : grid0.Coords) : BitVec 32 :=
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let c1024_i32_25 : BitVec 32 := 1024#32
  let v55 : BitVec 32 := Scalar.muli v36 c1024_i32_25
  v55
def k0_off7 (i : grid0.Coords) : Fin 3 → Nat :=
  let c0_26 : Index := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let c1024_i32_25 : BitVec 32 := 1024#32
  let v55 : BitVec 32 := Scalar.muli v36 c1024_i32_25
  let v56 : BitVec 32 := v55
  let v57 : Index := Scalar.indexCast v56
  let c0_27 : Index := 0#32
  ![0, v57.toNat, 0]
def k0_off8 (i : grid0.Coords) : Fin 5 → Nat :=
  let c0_28 : Index := 0#32
  let c0_29 : Index := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v60 : Index := Scalar.indexCast v36
  let c0_30 : Index := 0#32
  let c0_31 : Index := 0#32
  ![0, 0, v60.toNat, 0, 0]
def k0_off9 (i : grid0.Coords) : Fin 5 → Nat :=
  let c0_33 : Index := 0#32
  let c0_34 : Index := 0#32
  let arg2 : BitVec 32 := BitVec.ofNat 32 (i 2).val
  let c512_i32 : BitVec 32 := 512#32
  let v0 : BitVec 32 := Scalar.muli arg2 c512_i32
  let c0_i32_4 : BitVec 32 := 0#32
  let v21 : BitVec 1 := Scalar.cmpi .sgt v0 c0_i32_4
  let v22 : BitVec 32 := Scalar.extui v21
  let c0_i32_5 : BitVec 32 := 0#32
  let v23 : BitVec 1 := Scalar.cmpi .slt v0 c0_i32_5
  let v24 : BitVec 32 := Scalar.extui v23
  let v25 : BitVec 32 := Scalar.subi v22 v24
  let c1024_i32 : BitVec 32 := 1024#32
  let c0_i32_6 : BitVec 32 := 0#32
  let v26 : BitVec 1 := Scalar.cmpi .sgt c1024_i32 c0_i32_6
  let v27 : BitVec 32 := Scalar.extui v26
  let c0_i32_7 : BitVec 32 := 0#32
  let v28 : BitVec 1 := Scalar.cmpi .slt c1024_i32 c0_i32_7
  let v29 : BitVec 32 := Scalar.extui v28
  let v30 : BitVec 32 := Scalar.subi v27 v29
  let v31 : BitVec 1 := Scalar.cmpi .ne v25 v30
  let v32 : BitVec 32 := Scalar.remsi v0 c1024_i32
  let c0_i32_8 : BitVec 32 := 0#32
  let v33 : BitVec 1 := Scalar.cmpi .ne v32 c0_i32_8
  let v34 : BitVec 1 := Scalar.andi v31 v33
  let v20 : BitVec 32 := Scalar.divsi v0 c1024_i32
  let c1_i32 : BitVec 32 := 1#32
  let v35 : BitVec 32 := Scalar.subi v20 c1_i32
  let v36 : BitVec 32 := Scalar.select v34 v35 v20
  let v64 : Index := Scalar.indexCast v36
  let c0_35 : Index := 0#32
  let c0_36 : Index := 0#32
  ![0, 0, v64.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x4x1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "log2e" => some (((Real.log 2)⁻¹ : ℝ) : EReal)
  | "mask" => some ⊥
  | "q_scale" => some ((8⁻¹ * (Real.log 2)⁻¹ : ℝ) : EReal)
  | _ => none
-- ==== FoxRefIdeal.lean ====
abbrev S4x4096x1024 : Shape := ⟨3, ![4, 4096, 1024]⟩
abbrev S4x4096x16 : Shape := ⟨3, ![4, 4096, 16]⟩
abbrev S4096 : Shape := ⟨1, ![4096]⟩
abbrev S4x4096x16x64 : Shape := ⟨4, ![4, 4096, 16, 64]⟩
abbrev S4x16x4096x4096 : Shape := ⟨4, ![4, 16, 4096, 4096]⟩
abbrev S_ : Shape := ⟨0, ![]⟩
abbrev S4x16x4096 : Shape := ⟨3, ![4, 16, 4096]⟩
abbrev S4x16x4096x1 : Shape := ⟨4, ![4, 16, 4096, 1]⟩
abbrev S4x16x1x4096 : Shape := ⟨4, ![4, 16, 1, 4096]⟩
abbrev S1x4096 : Shape := ⟨2, ![1, 4096]⟩
abbrev S4096x1 : Shape := ⟨2, ![4096, 1]⟩
abbrev S4096x4096 : Shape := ⟨2, ![4096, 4096]⟩
abbrev S4x16x64x4096 : Shape := ⟨4, ![4, 16, 64, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x16, .f32⟩
  | .hbm, ⟨4, _⟩ => ⟨S4096, .i32⟩
  | .hbm, ⟨5, _⟩ => ⟨S4x4096x16x64, .f32⟩
  | .hbm, ⟨6, _⟩ => ⟨S4x4096x16x64, .f32⟩
  | .hbm, ⟨7, _⟩ => ⟨S4x4096x16x64, .f32⟩
  | .hbm, ⟨8, _⟩ => ⟨S4x16x4096x4096, .f32⟩
  | .hbm, ⟨9, _⟩ => ⟨S_, .f32⟩
  | .hbm, ⟨10, _⟩ => ⟨S4x16x4096x4096, .f32⟩
  | .hbm, ⟨11, _⟩ => ⟨S4x16x4096x4096, .f32⟩
  | .hbm, ⟨12, _⟩ => ⟨S4x16x4096, .f32⟩
  | .hbm, ⟨13, _⟩ => ⟨S4x16x4096x1, .f32⟩
  | .hbm, ⟨14, _⟩ => ⟨S4x16x4096x4096, .f32⟩
  | .hbm, ⟨15, _⟩ => ⟨S4x16x4096x4096, .f32⟩
  | .hbm, ⟨16, _⟩ => ⟨S4x16x4096, .f32⟩
  | .hbm, ⟨17, _⟩ => ⟨S4x16x1x4096, .f32⟩
  | .hbm, ⟨18, _⟩ => ⟨S4x16x4096x4096, .f32⟩
  | .hbm, ⟨19, _⟩ => ⟨S4x16x4096x4096, .f32⟩
  | .hbm, ⟨20, _⟩ => ⟨S1x4096, .i32⟩
  | .hbm, ⟨21, _⟩ => ⟨S4096x1, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x16x4096x4096, .i1⟩
  | .hbm, ⟨28, _⟩ => ⟨S4x16x4096x4096, .f32⟩
  | .hbm, ⟨29, _⟩ => ⟨S4x16x4096x4096, .f32⟩
  | .hbm, ⟨30, _⟩ => ⟨S_, .f32⟩
  | .hbm, ⟨31, _⟩ => ⟨S4x16x4096, .f32⟩
  | .hbm, ⟨32, _⟩ => ⟨S4x16x4096x1, .f32⟩
  | .hbm, ⟨33, _⟩ => ⟨S4x16x4096x1, .f32⟩
  | .hbm, ⟨34, _⟩ => ⟨S_, .f32⟩
  | .hbm, ⟨35, _⟩ => ⟨S4x16x4096x1, .f32⟩
  | .hbm, ⟨36, _⟩ => ⟨S4x16x4096x1, .i1⟩
  | .hbm, ⟨37, _⟩ => ⟨S_, .f32⟩
  | .hbm, ⟨38, _⟩ => ⟨S_, .f32⟩
  | .hbm, ⟨39, _⟩ => ⟨S4x16x4096x1, .f32⟩
  | .hbm, ⟨40, _⟩ => ⟨S4x16x4096x1, .f32⟩
  | .hbm, ⟨41, _⟩ => ⟨S4x16x4096x4096, .f32⟩
  | .hbm, ⟨42, _⟩ => ⟨S4x16x4096x4096, .f32⟩
  | .hbm, ⟨43, _⟩ => ⟨S4x16x4096x4096, .f32⟩
  | .hbm, ⟨44, _⟩ => ⟨S_, .f32⟩
  | .hbm, ⟨45, _⟩ => ⟨S4x16x4096, .f32⟩
  | .hbm, ⟨46, _⟩ => ⟨S4x16x4096x1, .f32⟩
  | .hbm, ⟨47, _⟩ => ⟨S_, .f32⟩
  | .hbm, ⟨48, _⟩ => ⟨S4x16x4096x1, .f32⟩
  | .hbm, ⟨49, _⟩ => ⟨S4x16x4096x1, .f32⟩
  | .hbm, ⟨50, _⟩ => ⟨S4x16x4096x4096, .f32⟩
  | .hbm, ⟨51, _⟩ => ⟨S4x16x4096x4096, .f32⟩
  | .hbm, ⟨52, _⟩ => ⟨S4x16x64x4096, .f32⟩
  | .hbm, ⟨53, _⟩ => ⟨S4x4096x16x64, .f32⟩
  | .hbm, ⟨54, _⟩ => ⟨S4x4096x1024, .f32⟩
  | .hbm, ⟨55, _⟩ => ⟨S4x4096x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== Mlp.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpRefIdeal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x1024, .f32⟩
  | .hbm, ⟨26, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutIdeal.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .hbm, ⟨4, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x1024 : Shape := ⟨2, ![1, 1024]⟩
abbrev S1x128 : Shape := ⟨2, ![1, 128]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x3088, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x1024, .f32⟩
  | .hbm, ⟨16, _⟩ => ⟨S1x128, .f32⟩
  | .hbm, ⟨17, _⟩ => ⟨S16384x1024, .f32⟩
  | .hbm, ⟨18, _⟩ => ⟨S16384x1024, .f32⟩
  | .hbm, ⟨19, _⟩ => ⟨S16384x1024, .bf16⟩
  | .hbm, ⟨20, _⟩ => ⟨S16384x1024, .f32⟩
  | .hbm, ⟨21, _⟩ => ⟨S16384x1024, .bf16⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S1x128, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x128, .f32⟩
  | .local _ .vmem, ⟨19, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S16384x1024 : Shape := ⟨2, ![16384, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x3072 : Shape := ⟨2, ![1024, 3072]⟩
abbrev S16384x3072 : Shape := ⟨2, ![16384, 3072]⟩
abbrev S1024x16 : Shape := ⟨2, ![1024, 16]⟩
abbrev S1024x128 : Shape := ⟨2, ![1024, 128]⟩
abbrev S16384x128 : Shape := ⟨2, ![16384, 128]⟩
abbrev S128 : Shape := ⟨1, ![128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x3072, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024x16, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S16384x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S16384x128, .f32⟩
  | .hbm, ⟨35, _⟩ => ⟨S16384x128, .f32⟩
  | .hbm, ⟨36, _⟩ => ⟨S16384x128, .f32⟩
  | .hbm, ⟨37, _⟩ => ⟨S_, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .i1⟩
  | .hbm, ⟨43, _⟩ => ⟨S16384x128, .f32⟩
  | .hbm, ⟨44, _⟩ => ⟨S16384x128, .f32⟩
  | .hbm, ⟨45, _⟩ => ⟨S16384x128, .f32⟩
  | .hbm, ⟨46, _⟩ => ⟨S16384x128, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S16384x128, .f32⟩
  | .hbm, ⟨51, _⟩ => ⟨S16384x128, .f32⟩
  | .hbm, ⟨52, _⟩ => ⟨S16384x1024, .bf16⟩
  | .hbm, ⟨53, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_v0 : Ref sig .tc := ⟨.hbm, 36, rfl⟩
abbrev main_call2_call0_cst : Ref sig .tc := ⟨.hbm, 37, rfl⟩
abbrev main_call2_call0_v0 : Ref sig .tc := ⟨.hbm, 38, rfl⟩
abbrev main_call2_call0_v1 : Ref sig .tc := ⟨.hbm, 39, rfl⟩
abbrev main_call2_call0_v2 : Ref sig .tc := ⟨.hbm, 40, rfl⟩
abbrev main_call2_call0_v3 : Ref sig .tc := ⟨.hbm, 41, rfl⟩
abbrev main_call2_call0_v4 : Ref sig .tc := ⟨.hbm, 42, rfl⟩
abbrev main_call2_call0_v5 : Ref sig .tc := ⟨.hbm, 43, rfl⟩
abbrev main_call2_call0_v6 : Ref sig .tc := ⟨.hbm, 44, rfl⟩
abbrev main_call2_call0_v7 : Ref sig .tc := ⟨.hbm, 45, rfl⟩
abbrev main_call2_call0_v8 : Ref sig .tc := ⟨.hbm, 46, rfl⟩
abbrev main_call2_call0_v9 : Ref sig .tc := ⟨.hbm, 47, rfl⟩
abbrev main_call2_call0_v10 : Ref sig .tc := ⟨.hbm, 48, rfl⟩
abbrev main_call2_call0_v11 : Ref sig .tc := ⟨.hbm, 49, rfl⟩
abbrev main_call2_v1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Next.lean ====
abbrev S32x1024 : Shape := ⟨2, ![32, 1024]⟩
abbrev S1024 : Shape := ⟨1, ![1024]⟩
abbrev S1024x3088 : Shape := ⟨2, ![1024, 3088]⟩
abbrev S16 : Shape := ⟨1, ![16]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128 : Shape := ⟨1, ![128]⟩
abbrev S1x1024 : Shape := ⟨2, ![1, 1024]⟩
abbrev S1x128 : Shape := ⟨2, ![1, 128]⟩
abbrev S32x128 : Shape := ⟨2, ![32, 128]⟩
abbrev S32 : Shape := ⟨1, ![32]⟩
abbrev S32x1 : Shape := ⟨2, ![32, 1]⟩

abbrev nBuf : Space → Nat
  | .hbm => 21
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S1024x3088, .bf16⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x16, .bf16⟩
  | .hbm, ⟨9, _⟩ => ⟨S_, .i32⟩
  | .hbm, ⟨10, _⟩ => ⟨S_, .bf16⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x1024, .f32⟩
  | .hbm, ⟨16, _⟩ => ⟨S1x128, .f32⟩
  | .hbm, ⟨17, _⟩ => ⟨S32x1024, .f32⟩
  | .hbm, ⟨18, _⟩ => ⟨S32x1024, .f32⟩
  | .hbm, ⟨19, _⟩ => ⟨S32x1024, .f32⟩
  | .hbm, ⟨20, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x128, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== NextRefIdeal.lean ====
abbrev S32x1024 : Shape := ⟨2, ![32, 1024]⟩
abbrev S1024 : Shape := ⟨1, ![1024]⟩
abbrev S1024x3088 : Shape := ⟨2, ![1024, 3088]⟩
abbrev S16 : Shape := ⟨1, ![16]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S1024x3072 : Shape := ⟨2, ![1024, 3072]⟩
abbrev S32x3072 : Shape := ⟨2, ![32, 3072]⟩
abbrev S1024x16 : Shape := ⟨2, ![1024, 16]⟩
abbrev S1024x128 : Shape := ⟨2, ![1024, 128]⟩
abbrev S32x128 : Shape := ⟨2, ![32, 128]⟩
abbrev S128 : Shape := ⟨1, ![128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x3088, .f32⟩
  | .hbm, ⟨3, _⟩ => ⟨S16, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S1024x3072, .f32⟩
  | .hbm, ⟨21, _⟩ => ⟨S32x3072, .f32⟩
  | .hbm, ⟨22, _⟩ => ⟨S32x1024, .f32⟩
  | .hbm, ⟨23, _⟩ => ⟨S32x1024, .f32⟩
  | .hbm, ⟨24, _⟩ => ⟨S32x1024, .f32⟩
  | .hbm, ⟨25, _⟩ => ⟨S1024x16, .f32⟩
  | .hbm, ⟨26, _⟩ => ⟨S_, .i32⟩
  | .hbm, ⟨27, _⟩ => ⟨S_, .f32⟩
  | .hbm, ⟨28, _⟩ => ⟨S1024x128, .f32⟩
  | .hbm, ⟨29, _⟩ => ⟨S32x128, .f32⟩
  | .hbm, ⟨30, _⟩ => ⟨S_, .i32⟩
  | .hbm, ⟨31, _⟩ => ⟨S_, .f32⟩
  | .hbm, ⟨32, _⟩ => ⟨S128, .f32⟩
  | .hbm, ⟨33, _⟩ => ⟨S1x128, .f32⟩
  | .hbm, ⟨34, _⟩ => ⟨S32x128, .f32⟩
  | .hbm, ⟨35, _⟩ => ⟨S32x128, .f32⟩
  | .hbm, ⟨36, _⟩ => ⟨S32x128, .f32⟩
  | .hbm, ⟨37, _⟩ => ⟨S_, .f32⟩
  | .hbm, ⟨38, _⟩ => ⟨S32x128, .f32⟩
  | .hbm, ⟨39, _⟩ => ⟨S32x128, .f32⟩
  | .hbm, ⟨40, _⟩ => ⟨S32x128, .f32⟩
  | .hbm, ⟨41, _⟩ => ⟨S32x128, .f32⟩
  | .hbm, ⟨42, _⟩ => ⟨S32x128, .i1⟩
  | .hbm, ⟨43, _⟩ => ⟨S32x128, .f32⟩
  | .hbm, ⟨44, _⟩ => ⟨S32x128, .f32⟩
  | .hbm, ⟨45, _⟩ => ⟨S32x128, .f32⟩
  | .hbm, ⟨46, _⟩ => ⟨S32x128, .f32⟩
  | .hbm, ⟨47, _⟩ => ⟨S32x128, .f32⟩
  | .hbm, ⟨48, _⟩ => ⟨S32x128, .f32⟩
  | .hbm, ⟨49, _⟩ => ⟨S32x128, .f32⟩
  | .hbm, ⟨50, _⟩ => ⟨S32x128, .f32⟩
  | .hbm, ⟨51, _⟩ => ⟨S32x128, .f32⟩
  | .hbm, ⟨52, _⟩ => ⟨S32x1024, .bf16⟩
  | .hbm, ⟨53, _⟩ => ⟨S32x1024, .bf16⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call2_v0 : Ref sig .tc := ⟨.hbm, 36, rfl⟩
abbrev main_call2_call0_cst : Ref sig .tc := ⟨.hbm, 37, rfl⟩
abbrev main_call2_call0_v0 : Ref sig .tc := ⟨.hbm, 38, rfl⟩
abbrev main_call2_call0_v1 : Ref sig .tc := ⟨.hbm, 39, rfl⟩
abbrev main_call2_call0_v2 : Ref sig .tc := ⟨.hbm, 40, rfl⟩
abbrev main_call2_call0_v3 : Ref sig .tc := ⟨.hbm, 41, rfl⟩
abbrev main_call2_call0_v4 : Ref sig .tc := ⟨.hbm, 42, rfl⟩
abbrev main_call2_call0_v5 : Ref sig .tc := ⟨.hbm, 43, rfl⟩
abbrev main_call2_call0_v6 : Ref sig .tc := ⟨.hbm, 44, rfl⟩
abbrev main_call2_call0_v7 : Ref sig .tc := ⟨.hbm, 45, rfl⟩
abbrev main_call2_call0_v8 : Ref sig .tc := ⟨.hbm, 46, rfl⟩
abbrev main_call2_call0_v9 : Ref sig .tc := ⟨.hbm, 47, rfl⟩
abbrev main_call2_call0_v10 : Ref sig .tc := ⟨.hbm, 48, rfl⟩
abbrev main_call2_call0_v11 : Ref sig .tc := ⟨.hbm, 49, rfl⟩
abbrev main_call2_v1 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩

abbrev nD : Nat := 1
abbrev τ : Topo := Topo.v7x

variable {F : FTy → Type} [FloatOps F]
-- ==== Rot.lean ====
abbrev S4x4096x1024 : Shape := ⟨3, ![4, 4096, 1024]⟩
abbrev S1024 : Shape := ⟨1, ![1024]⟩
abbrev S1024x3072 : Shape := ⟨2, ![1024, 3072]⟩
abbrev S1024x1024 : Shape := ⟨2, ![1024, 1024]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S16384x1024 : Shape := ⟨2, ![16384, 1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 35
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4096, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x128, .f32⟩
  | .hbm, ⟨25, _⟩ => ⟨S4096x32, .f32⟩
  | .hbm, ⟨26, _⟩ => ⟨S4096x32, .f32⟩
  | .hbm, ⟨27, _⟩ => ⟨S4096x128, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S16384x1024, .f32⟩
  | .hbm, ⟨34, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25_0 : Ref sig .tc := ⟨.hbm, 30, rfl⟩
abbrev main_v25_1 : Ref sig .tc := ⟨.hbm, 31, rfl⟩
abbrev main_v25_2 : Ref sig .tc := ⟨.hbm, 32, rfl⟩
abbrev main_v25_3 : Ref sig .tc := ⟨.hbm, 33, rfl⟩
abbrev main_v25_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RotRefIdeal.lean ====
abbrev S4x4096x1024 : Shape := ⟨3, ![4, 4096, 1024]⟩
abbrev S1024 : Shape := ⟨1, ![1024]⟩
abbrev S1024x3072 : Shape := ⟨2, ![1024, 3072]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S4x4096x3072 : Shape := ⟨3, ![4, 4096, 3072]⟩
abbrev S4x4096x16x64 : Shape := ⟨4, ![4, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S16384x1024 : Shape := ⟨2, ![16384, 1024]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3072, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4096, .i32⟩
  | .hbm, ⟨20, _⟩ => ⟨S4x4096x3072, .f32⟩
  | .hbm, ⟨21, _⟩ => ⟨S4x4096x1024, .f32⟩
  | .hbm, ⟨22, _⟩ => ⟨S4x4096x1024, .f32⟩
  | .hbm, ⟨23, _⟩ => ⟨S4x4096x1024, .f32⟩
  | .hbm, ⟨24, _⟩ => ⟨S4x4096x16x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S4096, .f32⟩
  | .hbm, ⟨34, _⟩ => ⟨S4096x1, .f32⟩
  | .hbm, ⟨35, _⟩ => ⟨S1x32, .f32⟩
  | .hbm, ⟨36, _⟩ => ⟨S4096x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x1x32, .f32⟩
  | .hbm, ⟨41, _⟩ => ⟨S4096x32, .f32⟩
  | .hbm, ⟨42, _⟩ => ⟨S4096x1x32, .f32⟩
  | .hbm, ⟨43, _⟩ => ⟨S4x4096x16x32, .f32⟩
  | .hbm, ⟨44, _⟩ => ⟨S4x4096x16x32, .f32⟩
  | .hbm, ⟨45, _⟩ => ⟨S1x4096x1x32, .f32⟩
  | .hbm, ⟨46, _⟩ => ⟨S4x4096x16x32, .f32⟩
  | .hbm, ⟨47, _⟩ => ⟨S4x4096x16x32, .f32⟩
  | .hbm, ⟨48, _⟩ => ⟨S1x4096x1x32, .f32⟩
  | .hbm, ⟨49, _⟩ => ⟨S4x4096x16x32, .f32⟩
  | .hbm, ⟨50, _⟩ => ⟨S4x4096x16x32, .f32⟩
  | .hbm, ⟨51, _⟩ => ⟨S4x4096x16x32, .f32⟩
  | .hbm, ⟨52, _⟩ => ⟨S1x4096x1x32, .f32⟩
  | .hbm, ⟨53, _⟩ => ⟨S4x4096x16x32, .f32⟩
  | .hbm, ⟨54, _⟩ => ⟨S4x4096x16x32, .f32⟩
  | .hbm, ⟨55, _⟩ => ⟨S1x4096x1x32, .f32⟩
  | .hbm, ⟨56, _⟩ => ⟨S4x4096x16x32, .f32⟩
  | .hbm, ⟨57, _⟩ => ⟨S4x4096x16x32, .f32⟩
  | .hbm, ⟨58, _⟩ => ⟨S4x4096x16x32, .f32⟩
  | .hbm, ⟨59, _⟩ => ⟨S4x4096x16x64, .f32⟩
  | .hbm, ⟨60, _⟩ => ⟨S4x4096x16x64, .f32⟩
  | .hbm, ⟨61, _⟩ => ⟨S32, .f32⟩
  | .hbm, ⟨62, _⟩ => ⟨S32, .f32⟩
  | .hbm, ⟨63, _⟩ => ⟨S_, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S4096, .f32⟩
  | .hbm, ⟨70, _⟩ => ⟨S4096x1, .f32⟩
  | .hbm, ⟨71, _⟩ => ⟨S1x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x1x32, .f32⟩
  | .hbm, ⟨77, _⟩ => ⟨S4096x32, .f32⟩
  | .hbm, ⟨78, _⟩ => ⟨S4096x1x32, .f32⟩
  | .hbm, ⟨79, _⟩ => ⟨S4x4096x16x32, .f32⟩
  | .hbm, ⟨80, _⟩ => ⟨S4x4096x16x32, .f32⟩
  | .hbm, ⟨81, _⟩ => ⟨S1x4096x1x32, .f32⟩
  | .hbm, ⟨82, _⟩ => ⟨S4x4096x16x32, .f32⟩
  | .hbm, ⟨83, _⟩ => ⟨S4x4096x16x32, .f32⟩
  | .hbm, ⟨84, _⟩ => ⟨S1x4096x1x32, .f32⟩
  | .hbm, ⟨85, _⟩ => ⟨S4x4096x16x32, .f32⟩
  | .hbm, ⟨86, _⟩ => ⟨S4x4096x16x32, .f32⟩
  | .hbm, ⟨87, _⟩ => ⟨S4x4096x16x32, .f32⟩
  | .hbm, ⟨88, _⟩ => ⟨S1x4096x1x32, .f32⟩
  | .hbm, ⟨89, _⟩ => ⟨S4x4096x16x32, .f32⟩
  | .hbm, ⟨90, _⟩ => ⟨S4x4096x16x32, .f32⟩
  | .hbm, ⟨91, _⟩ => ⟨S1x4096x1x32, .f32⟩
  | .hbm, ⟨92, _⟩ => ⟨S4x4096x16x32, .f32⟩
  | .hbm, ⟨93, _⟩ => ⟨S4x4096x16x32, .f32⟩
  | .hbm, ⟨94, _⟩ => ⟨S4x4096x16x32, .f32⟩
  | .hbm, ⟨95, _⟩ => ⟨S4x4096x16x64, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .bf16⟩
  | .hbm, ⟨100, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_4 : Ref sig .tc := ⟨.hbm, 63, rfl⟩
abbrev main_v55 : Ref sig .tc := ⟨.hbm, 64, rfl⟩
abbrev main_v56 : Ref sig .tc := ⟨.hbm, 65, rfl⟩
abbrev main_cst_5 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]
-- ==== RotNext.lean ====
abbrev S32x1x1024 : Shape := ⟨3, ![32, 1, 1024]⟩
abbrev S1024 : Shape := ⟨1, ![1024]⟩
abbrev S1024x3072 : Shape := ⟨2, ![1024, 3072]⟩
abbrev S1024x1024 : Shape := ⟨2, ![1024, 1024]⟩
abbrev S_ : Shape := ⟨0, ![]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S32x1024 : Shape := ⟨2, ![32, 1024]⟩
abbrev S1x1024 : Shape := ⟨2, ![1, 1024]⟩

abbrev nBuf : Space → Nat
  | .hbm => 34
  | .vmem => 10
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S_, .i32⟩
  | .hbm, ⟨8, _⟩ => ⟨S32, .i32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S32x1, .f32⟩
  | .hbm, ⟨19, _⟩ => ⟨S1x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x128, .f32⟩
  | .hbm, ⟨26, _⟩ => ⟨S32x32, .f32⟩
  | .hbm, ⟨27, _⟩ => ⟨S32x32, .f32⟩
  | .hbm, ⟨28, _⟩ => ⟨S32x128, .f32⟩
  | .hbm, ⟨29, _⟩ => ⟨S32x1024, .f32⟩
  | .hbm, ⟨30, _⟩ => ⟨S1x1024, .f32⟩
  | .hbm, ⟨31, _⟩ => ⟨S32x1024, .f32⟩
  | .hbm, ⟨32, _⟩ => ⟨S32x1024, .f32⟩
  | .hbm, ⟨33, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S32x128, .f32⟩
  | .local _ .vmem, ⟨3, _⟩ => ⟨S32x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25_0 : Ref sig .tc := ⟨.hbm, 31, rfl⟩
abbrev main_v25_1 : Ref sig .tc := ⟨.hbm, 32, rfl⟩
abbrev main_v25_2 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S32x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== RotNextRefIdeal.lean ====
abbrev S32x1x1024 : Shape := ⟨3, ![32, 1, 1024]⟩
abbrev S1024 : Shape := ⟨1, ![1024]⟩
abbrev S1024x3072 : Shape := ⟨2, ![1024, 3072]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1 : Shape := ⟨1, ![1]⟩
abbrev S32x1x3072 : Shape := ⟨3, ![32, 1, 3072]⟩
abbrev S32x1x16x64 : Shape := ⟨4, ![32, 1, 16, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S32x1x16x32 : Shape := ⟨4, ![32, 1, 16, 32]⟩
abbrev S1x1x1x32 : Shape := ⟨4, ![1, 1, 1, 32]⟩
abbrev S32x1024 : Shape := ⟨2, ![32, 1024]⟩

abbrev nBuf : Space → Nat
  | .hbm => 100
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S32x1x3072, .f32⟩
  | .hbm, ⟨24, _⟩ => ⟨S32x1x1024, .f32⟩
  | .hbm, ⟨25, _⟩ => ⟨S32x1x1024, .f32⟩
  | .hbm, ⟨26, _⟩ => ⟨S32x1x1024, .f32⟩
  | .hbm, ⟨27, _⟩ => ⟨S32x1x16x64, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S1, .f32⟩
  | .hbm, ⟨37, _⟩ => ⟨S1x1, .f32⟩
  | .hbm, ⟨38, _⟩ => ⟨S1x32, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x1x32, .f32⟩
  | .hbm, ⟨43, _⟩ => ⟨S1x32, .f32⟩
  | .hbm, ⟨44, _⟩ => ⟨S1x1x32, .f32⟩
  | .hbm, ⟨45, _⟩ => ⟨S32x1x16x32, .f32⟩
  | .hbm, ⟨46, _⟩ => ⟨S32x1x16x32, .f32⟩
  | .hbm, ⟨47, _⟩ => ⟨S1x1x1x32, .f32⟩
  | .hbm, ⟨48, _⟩ => ⟨S32x1x16x32, .f32⟩
  | .hbm, ⟨49, _⟩ => ⟨S32x1x16x32, .f32⟩
  | .hbm, ⟨50, _⟩ => ⟨S1x1x1x32, .f32⟩
  | .hbm, ⟨51, _⟩ => ⟨S32x1x16x32, .f32⟩
  | .hbm, ⟨52, _⟩ => ⟨S32x1x16x32, .f32⟩
  | .hbm, ⟨53, _⟩ => ⟨S32x1x16x32, .f32⟩
  | .hbm, ⟨54, _⟩ => ⟨S1x1x1x32, .f32⟩
  | .hbm, ⟨55, _⟩ => ⟨S32x1x16x32, .f32⟩
  | .hbm, ⟨56, _⟩ => ⟨S32x1x16x32, .f32⟩
  | .hbm, ⟨57, _⟩ => ⟨S1x1x1x32, .f32⟩
  | .hbm, ⟨58, _⟩ => ⟨S32x1x16x32, .f32⟩
  | .hbm, ⟨59, _⟩ => ⟨S32x1x16x32, .f32⟩
  | .hbm, ⟨60, _⟩ => ⟨S32x1x16x32, .f32⟩
  | .hbm, ⟨61, _⟩ => ⟨S32x1x16x64, .f32⟩
  | .hbm, ⟨62, _⟩ => ⟨S32x1x16x64, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S1, .f32⟩
  | .hbm, ⟨72, _⟩ => ⟨S1x1, .f32⟩
  | .hbm, ⟨73, _⟩ => ⟨S1x32, .f32⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S1x1x32, .f32⟩
  | .hbm, ⟨78, _⟩ => ⟨S1x32, .f32⟩
  | .hbm, ⟨79, _⟩ => ⟨S1x1x32, .f32⟩
  | .hbm, ⟨80, _⟩ => ⟨S32x1x16x32, .f32⟩
  | .hbm, ⟨81, _⟩ => ⟨S32x1x16x32, .f32⟩
  | .hbm, ⟨82, _⟩ => ⟨S1x1x1x32, .f32⟩
  | .hbm, ⟨83, _⟩ => ⟨S32x1x16x32, .f32⟩
  | .hbm, ⟨84, _⟩ => ⟨S32x1x16x32, .f32⟩
  | .hbm, ⟨85, _⟩ => ⟨S1x1x1x32, .f32⟩
  | .hbm, ⟨86, _⟩ => ⟨S32x1x16x32, .f32⟩
  | .hbm, ⟨87, _⟩ => ⟨S32x1x16x32, .f32⟩
  | .hbm, ⟨88, _⟩ => ⟨S32x1x16x32, .f32⟩
  | .hbm, ⟨89, _⟩ => ⟨S1x1x1x32, .f32⟩
  | .hbm, ⟨90, _⟩ => ⟨S32x1x16x32, .f32⟩
  | .hbm, ⟨91, _⟩ => ⟨S32x1x16x32, .f32⟩
  | .hbm, ⟨92, _⟩ => ⟨S1x1x1x32, .f32⟩
  | .hbm, ⟨93, _⟩ => ⟨S32x1x16x32, .f32⟩
  | .hbm, ⟨94, _⟩ => ⟨S32x1x16x32, .f32⟩
  | .hbm, ⟨95, _⟩ => ⟨S32x1x16x32, .f32⟩
  | .hbm, ⟨96, _⟩ => ⟨S32x1x16x64, .f32⟩
  | .hbm, ⟨97, _⟩ => ⟨S32x1024, .f32⟩
  | .hbm, ⟨98, _⟩ => ⟨S32x1024, .f32⟩
  | .hbm, ⟨99, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_4 : Ref sig .tc := ⟨.hbm, 65, rfl⟩
abbrev main_v56 : Ref sig .tc := ⟨.hbm, 66, rfl⟩
abbrev main_v57 : Ref sig .tc := ⟨.hbm, 67, rfl⟩
abbrev main_cst_5 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩

abbrev nD : Nat := 1
abbrev τ : Topo := Topo.v7x

variable {F : FTy → Type} [FloatOps F]
-- ==== Nsa.lean ====
abbrev S4x4096x1024 : Shape := ⟨3, ![4, 4096, 1024]⟩
abbrev S1024 : Shape := ⟨1, ![1024]⟩
abbrev S1024x2608 : Shape := ⟨2, ![1024, 2608]⟩
abbrev S48 : Shape := ⟨1, ![48]⟩
abbrev S1024x1024 : Shape := ⟨2, ![1024, 1024]⟩
abbrev S1024x256 : Shape := ⟨2, ![1024, 256]⟩
abbrev S1024x48 : Shape := ⟨2, ![1024, 48]⟩
abbrev S_ : Shape := ⟨0, ![]⟩
abbrev S1024x128 : Shape := ⟨2, ![1024, 128]⟩
abbrev S128 : Shape := ⟨1, ![128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S16384x1024 : Shape := ⟨2, ![16384, 1024]⟩
abbrev S1x1024 : Shape := ⟨2, ![1, 1024]⟩
abbrev S1x128 : Shape := ⟨2, ![1, 128]⟩
abbrev S16384x256 : Shape := ⟨2, ![16384, 256]⟩
abbrev S16384x128 : Shape := ⟨2, ![16384, 128]⟩
abbrev S512x1024 : Shape := ⟨2, ![512, 1024]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 51
  | .vmem => 32
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2608, .f32⟩
  | .hbm, ⟨3, _⟩ => ⟨S48, .f32⟩
  | .hbm, ⟨4, _⟩ => ⟨S1024x2608, .bf16⟩
  | .hbm, ⟨5, _⟩ => ⟨S1024x1024, .bf16⟩
  | .hbm, ⟨6, _⟩ => ⟨S1024x256, .bf16⟩
  | .hbm, ⟨7, _⟩ => ⟨S1024x256, .bf16⟩
  | .hbm, ⟨8, _⟩ => ⟨S1024x256, .bf16⟩
  | .hbm, ⟨9, _⟩ => ⟨S1024x256, .bf16⟩
  | .hbm, ⟨10, _⟩ => ⟨S1024x256, .bf16⟩
  | .hbm, ⟨11, _⟩ => ⟨S1024x256, .bf16⟩
  | .hbm, ⟨12, _⟩ => ⟨S1024x48, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S4096, .i32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S4096, .f32⟩
  | .hbm, ⟨29, _⟩ => ⟨S4096x1, .f32⟩
  | .hbm, ⟨30, _⟩ => ⟨S1x32, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x32, .f32⟩
  | .hbm, ⟨35, _⟩ => ⟨S4096x32, .f32⟩
  | .hbm, ⟨36, _⟩ => ⟨S4096x128, .f32⟩
  | .hbm, ⟨37, _⟩ => ⟨S4096x32, .f32⟩
  | .hbm, ⟨38, _⟩ => ⟨S4096x32, .f32⟩
  | .hbm, ⟨39, _⟩ => ⟨S4096x128, .f32⟩
  | .hbm, ⟨40, _⟩ => ⟨S16384x1024, .f32⟩
  | .hbm, ⟨41, _⟩ => ⟨S1x1024, .f32⟩
  | .hbm, ⟨42, _⟩ => ⟨S1x128, .f32⟩
  | .hbm, ⟨43, _⟩ => ⟨S16384x1024, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S16384x256, .f32⟩
  | .hbm, ⟨50, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x256, .f32⟩
  | .local _ .vmem, ⟨27, _⟩ => ⟨S512x256, .f32⟩
  | .local _ .vmem, ⟨28, _⟩ => ⟨S512x256, .f32⟩
  | .local _ .vmem, ⟨29, _⟩ => ⟨S512x256, .f32⟩
  | .local _ .vmem, ⟨30, _⟩ => ⟨S512x128, .f32⟩
  | .local _ .vmem, ⟨31, _⟩ => ⟨S512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33_0 : Ref sig .tc := ⟨.hbm, 43, rfl⟩
abbrev main_v33_1 : Ref sig .tc := ⟨.hbm, 44, rfl⟩
abbrev main_v33_2 : Ref sig .tc := ⟨.hbm, 45, rfl⟩
abbrev main_v33_3 : Ref sig .tc := ⟨.hbm, 46, rfl⟩
abbrev main_v33_4 : Ref sig .tc := ⟨.hbm, 47, rfl⟩
abbrev main_v33_5 : Ref sig .tc := ⟨.hbm, 48, rfl⟩
abbrev main_v33_6 : Ref sig .tc := ⟨.hbm, 49, rfl⟩
abbrev main_v33_7 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== NsaRefIdeal.lean ====
abbrev S4x4096x1024 : Shape := ⟨3, ![4, 4096, 1024]⟩
abbrev S1024 : Shape := ⟨1, ![1024]⟩
abbrev S1024x2608 : Shape := ⟨2, ![1024, 2608]⟩
abbrev S48 : Shape := ⟨1, ![48]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4096 : Shape := ⟨1, ![4096]⟩
abbrev S1024x2560 : Shape := ⟨2, ![1024, 2560]⟩
abbrev S4x4096x2560 : Shape := ⟨3, ![4, 4096, 2560]⟩
abbrev S4x4096x16x64 : Shape := ⟨4, ![4, 4096, 16, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x4096x1536 : Shape := ⟨3, ![4, 4096, 1536]⟩
abbrev S4x4096x6x4x64 : Shape := ⟨5, ![4, 4096, 6, 4, 64]⟩
abbrev S4x4096x1x4x64 : Shape := ⟨5, ![4, 4096, 1, 4, 64]⟩
abbrev S4x4096x4x64 : Shape := ⟨4, ![4, 4096, 4, 64]⟩
abbrev S4x4096x4x32 : Shape := ⟨4, ![4, 4096, 4, 32]⟩
abbrev S1024x48 : Shape := ⟨2, ![1024, 48]⟩
abbrev S1024x128 : Shape := ⟨2, ![1024, 128]⟩
abbrev S4x4096x128 : Shape := ⟨3, ![4, 4096, 128]⟩
abbrev S128 : Shape := ⟨1, ![128]⟩
abbrev S1x1x128 : Shape := ⟨3, ![1, 1, 128]⟩
abbrev S16384x256 : Shape := ⟨2, ![16384, 256]⟩
abbrev S16384x1024 : Shape := ⟨2, ![16384, 1024]⟩
abbrev S16384x128 : Shape := ⟨2, ![16384, 128]⟩

abbrev nBuf : Space → Nat
  | .hbm => 206
  | .vmem => 0
  | .smem => 0
  | _ => 0

abbrev hbmTy0_0 (i : Nat) : BufTy := match i % 128 with
  | 0 => ⟨S4x4096x1024, .f32⟩
  | 1 => ⟨S1024, .f32⟩
  | 2 => ⟨S1024x2608, .f32⟩
  | 3 => ⟨S48, .f32⟩
  | 4 => ⟨S4x4096x1024, .f32⟩
  | 5 => ⟨S_, .f32⟩
  | 6 => ⟨S4x4096, .f32⟩
  | 7 => ⟨S4x4096x1, .f32⟩
  | 8 => ⟨S_, .f32⟩
  | 9 => ⟨S4x4096x1, .f32⟩
  | 10 => ⟨S4x4096x1, .f32⟩
  | 11 => ⟨S_, .f32⟩
  | 12 => ⟨S4x4096x1, .f32⟩
  | 13 => ⟨S4x4096x1, .f32⟩
  | 14 => ⟨S4x4096x1, .f32⟩
  | 15 => ⟨S4x4096x1024, .f32⟩
  | 16 => ⟨S4x4096x1024, .f32⟩
  | 17 => ⟨S1x1x1024, .f32⟩
  | 18 => ⟨S4x4096x1024, .f32⟩
  | 19 => ⟨S4x4096x1024, .f32⟩
  | 20 => ⟨S4096, .i32⟩
  | 21 => ⟨S1024x2560, .f32⟩
  | 22 => ⟨S4x4096x2560, .f32⟩
  | 23 => ⟨S4x4096x1024, .f32⟩
  | 24 => ⟨S4x4096x16x64, .f32⟩
  | 25 => ⟨S32, .f32⟩
  | 26 => ⟨S32, .f32⟩
  | 27 => ⟨S_, .f32⟩
  | 28 => ⟨S32, .f32⟩
  | 29 => ⟨S32, .f32⟩
  | 30 => ⟨S_, .f32⟩
  | 31 => ⟨S32, .f32⟩
  | 32 => ⟨S32, .f32⟩
  | 33 => ⟨S4096, .f32⟩
  | 34 => ⟨S4096x1, .f32⟩
  | 35 => ⟨S1x32, .f32⟩
  | 36 => ⟨S4096x32, .f32⟩
  | 37 => ⟨S4096x32, .f32⟩
  | 38 => ⟨S4096x32, .f32⟩
  | 39 => ⟨S4096x32, .f32⟩
  | 40 => ⟨S4096x1x32, .f32⟩
  | 41 => ⟨S4096x32, .f32⟩
  | 42 => ⟨S4096x1x32, .f32⟩
  | 43 => ⟨S4x4096x16x32, .f32⟩
  | 44 => ⟨S4x4096x16x32, .f32⟩
  | 45 => ⟨S1x4096x1x32, .f32⟩
  | 46 => ⟨S4x4096x16x32, .f32⟩
  | 47 => ⟨S4x4096x16x32, .f32⟩
  | 48 => ⟨S1x4096x1x32, .f32⟩
  | 49 => ⟨S4x4096x16x32, .f32⟩
  | 50 => ⟨S4x4096x16x32, .f32⟩
  | 51 => ⟨S4x4096x16x32, .f32⟩
  | 52 => ⟨S1x4096x1x32, .f32⟩
  | 53 => ⟨S4x4096x16x32, .f32⟩
  | 54 => ⟨S4x4096x16x32, .f32⟩
  | 55 => ⟨S1x4096x1x32, .f32⟩
  | 56 => ⟨S4x4096x16x32, .f32⟩
  | 57 => ⟨S4x4096x16x32, .f32⟩
  | 58 => ⟨S4x4096x16x32, .f32⟩
  | 59 => ⟨S4x4096x16x64, .f32⟩
  | 60 => ⟨S4x4096x1536, .f32⟩
  | 61 => ⟨S4x4096x6x4x64, .f32⟩
  | 62 => ⟨S4x4096x1x4x64, .f32⟩
  | 63 => ⟨S4x4096x4x64, .f32⟩
  | 64 => ⟨S32, .f32⟩
  | 65 => ⟨S32, .f32⟩
  | 66 => ⟨S_, .f32⟩
  | 67 => ⟨S32, .f32⟩
  | 68 => ⟨S32, .f32⟩
  | 69 => ⟨S_, .f32⟩
  | 70 => ⟨S32, .f32⟩
  | 71 => ⟨S32, .f32⟩
  | 72 => ⟨S4096, .f32⟩
  | 73 => ⟨S4096x1, .f32⟩
  | 74 => ⟨S1x32, .f32⟩
  | 75 => ⟨S4096x32, .f32⟩
  | 76 => ⟨S4096x32, .f32⟩
  | 77 => ⟨S4096x32, .f32⟩
  | 78 => ⟨S4096x32, .f32⟩
  | 79 => ⟨S4096x1x32, .f32⟩
  | 80 => ⟨S4096x32, .f32⟩
  | 81 => ⟨S4096x1x32, .f32⟩
  | 82 => ⟨S4x4096x4x32, .f32⟩
  | 83 => ⟨S4x4096x4x32, .f32⟩
  | 84 => ⟨S1x4096x1x32, .f32⟩
  | 85 => ⟨S4x4096x4x32, .f32⟩
  | 86 => ⟨S4x4096x4x32, .f32⟩
  | 87 => ⟨S1x4096x1x32, .f32⟩
  | 88 => ⟨S4x4096x4x32, .f32⟩
  | 89 => ⟨S4x4096x4x32, .f32⟩
  | 90 => ⟨S4x4096x4x32, .f32⟩
  | 91 => ⟨S1x4096x1x32, .f32⟩
  | 92 => ⟨S4x4096x4x32, .f32⟩
  | 93 => ⟨S4x4096x4x32, .f32⟩
  | 94 => ⟨S1x4096x1x32, .f32⟩
  | 95 => ⟨S4x4096x4x32, .f32⟩
  | 96 => ⟨S4x4096x4x32, .f32⟩
  | 97 => ⟨S4x4096x4x32, .f32⟩
  | 98 => ⟨S4x4096x4x64, .f32⟩
  | 99 => ⟨S4x4096x1x4x64, .f32⟩
  | 100 => ⟨S4x4096x4x64, .f32⟩
  | 101 => ⟨S4x4096x1x4x64, .f32⟩
  | 102 => ⟨S4x4096x4x64, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S4096, .f32⟩
  | 112 => ⟨S4096x1, .f32⟩
  | 113 => ⟨S1x32, .f32⟩
  | 114 => ⟨S4096x32, .f32⟩
  | 115 => ⟨S4096x32, .f32⟩
  | 116 => ⟨S4096x32, .f32⟩
  | 117 => ⟨S4096x32, .f32⟩
  | 118 => ⟨S4096x1x32, .f32⟩
  | 119 => ⟨S4096x32, .f32⟩
  | 120 => ⟨S4096x1x32, .f32⟩
  | 121 => ⟨S4x4096x4x32, .f32⟩
  | 122 => ⟨S4x4096x4x32, .f32⟩
  | 123 => ⟨S1x4096x1x32, .f32⟩
  | 124 => ⟨S4x4096x4x32, .f32⟩
  | 125 => ⟨S4x4096x4x32, .f32⟩
  | 126 => ⟨S1x4096x1x32, .f32⟩
  | 127 => ⟨S4x4096x4x32, .f32⟩
  | _ => ⟨S4x4096x1024, .f32⟩

abbrev hbmTy0_1 (i : Nat) : BufTy := match i % 128 with
  | 0 => ⟨S4x4096x4x32, .f32⟩
  | 1 => ⟨S4x4096x4x32, .f32⟩
  | 2 => ⟨S1x4096x1x32, .f32⟩
  | 3 => ⟨S4x4096x4x32, .f32⟩
  | 4 => ⟨S4x4096x4x32, .f32⟩
  | 5 => ⟨S1x4096x1x32, .f32⟩
  | 6 => ⟨S4x4096x4x32, .f32⟩
  | 7 => ⟨S4x4096x4x32, .f32⟩
  | 8 => ⟨S4x4096x4x32, .f32⟩
  | 9 => ⟨S4x4096x4x64, .f32⟩
  | 10 => ⟨S4x4096x1x4x64, .f32⟩
  | 11 => ⟨S4x4096x4x64, .f32⟩
  | 12 => ⟨S4x4096x1x4x64, .f32⟩
  | 13 => ⟨S4x4096x4x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S4096, .f32⟩
  | 23 => ⟨S4096x1, .f32⟩
  | 24 => ⟨S1x32, .f32⟩
  | 25 => ⟨S4096x32, .f32⟩
  | 26 => ⟨S4096x32, .f32⟩
  | 27 => ⟨S4096x32, .f32⟩
  | 28 => ⟨S4096x32, .f32⟩
  | 29 => ⟨S4096x1x32, .f32⟩
  | 30 => ⟨S4096x32, .f32⟩
  | 31 => ⟨S4096x1x32, .f32⟩
  | 32 => ⟨S4x4096x4x32, .f32⟩
  | 33 => ⟨S4x4096x4x32, .f32⟩
  | 34 => ⟨S1x4096x1x32, .f32⟩
  | 35 => ⟨S4x4096x4x32, .f32⟩
  | 36 => ⟨S4x4096x4x32, .f32⟩
  | 37 => ⟨S1x4096x1x32, .f32⟩
  | 38 => ⟨S4x4096x4x32, .f32⟩
  | 39 => ⟨S4x4096x4x32, .f32⟩
  | 40 => ⟨S4x4096x4x32, .f32⟩
  | 41 => ⟨S1x4096x1x32, .f32⟩
  | 42 => ⟨S4x4096x4x32, .f32⟩
  | 43 => ⟨S4x4096x4x32, .f32⟩
  | 44 => ⟨S1x4096x1x32, .f32⟩
  | 45 => ⟨S4x4096x4x32, .f32⟩
  | 46 => ⟨S4x4096x4x32, .f32⟩
  | 47 => ⟨S4x4096x4x32, .f32⟩
  | 48 => ⟨S4x4096x4x64, .f32⟩
  | 49 => ⟨S4x4096x1x4x64, .f32⟩
  | 50 => ⟨S4x4096x4x64, .f32⟩
  | 51 => ⟨S1024x48, .f32⟩
  | 52 => ⟨S_, .i32⟩
  | 53 => ⟨S_, .f32⟩
  | 54 => ⟨S1024x128, .f32⟩
  | 55 => ⟨S4x4096x128, .f32⟩
  | 56 => ⟨S_, .i32⟩
  | 57 => ⟨S_, .f32⟩
  | 58 => ⟨S128, .f32⟩
  | 59 => ⟨S1x1x128, .f32⟩
  | 60 => ⟨S4x4096x128, .f32⟩
  | 61 => ⟨S4x4096x128, .f32⟩
  | 62 => ⟨S4x4096x128, .f32⟩
  | 63 => ⟨S4x4096x128, .f32⟩
  | 64 => ⟨S_, .f32⟩
  | 65 => ⟨S4x4096x128, .f32⟩
  | 66 => ⟨S4x4096x128, .f32⟩
  | 67 => ⟨S_, .f32⟩
  | 68 => ⟨S4x4096x128, .f32⟩
  | 69 => ⟨S4x4096x128, .f32⟩
  | 70 => ⟨S16384x256, .f32⟩
  | 71 => ⟨S16384x256, .f32⟩
  | 72 => ⟨S16384x256, .f32⟩
  | 73 => ⟨S16384x256, .f32⟩
  | 74 => ⟨S16384x256, .f32⟩
  | 75 => ⟨S16384x256, .f32⟩
  | 76 => ⟨S16384x1024, .f32⟩
  | 77 => ⟨S16384x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_6 : Ref sig .tc := ⟨.hbm, 105, rfl⟩
abbrev main_v94 : Ref sig .tc := ⟨.hbm, 106, rfl⟩
abbrev main_v95 : Ref sig .tc := ⟨.hbm, 107, rfl⟩
abbrev main_cst_7 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_cst_8 : Ref sig .tc := ⟨.hbm, 144, rfl⟩
abbrev main_v131 : Ref sig .tc := ⟨.hbm, 145, rfl⟩
abbrev main_v132 : Ref sig .tc := ⟨.hbm, 146, rfl⟩
abbrev main_cst_9 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_c : Ref sig .tc := ⟨.hbm, 180, rfl⟩
abbrev main_call0_v0 : Ref sig .tc := ⟨.hbm, 181, rfl⟩
abbrev main_v165 : Ref sig .tc := ⟨.hbm, 182, rfl⟩
abbrev main_v166 : Ref sig .tc := ⟨.hbm, 183, rfl⟩
abbrev main_c_10 : Ref sig .tc := ⟨.hbm, 184, rfl⟩
abbrev main_call1_v0 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_cst_11 : Ref sig .tc := ⟨.hbm, 192, rfl⟩
abbrev main_v173 : Ref sig .tc := ⟨.hbm, 193, rfl⟩
abbrev main_v174 : Ref sig .tc := ⟨.hbm, 194, rfl⟩
abbrev main_cst_12 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩

abbrev nD : Nat := 1
abbrev τ : Topo := Topo.v7x

variable {F : FTy → Type} [FloatOps F]
-- ==== NsaNext.lean ====
abbrev S32x1x1024 : Shape := ⟨3, ![32, 1, 1024]⟩
abbrev S1024 : Shape := ⟨1, ![1024]⟩
abbrev S1024x2608 : Shape := ⟨2, ![1024, 2608]⟩
abbrev S48 : Shape := ⟨1, ![48]⟩
abbrev S1024x1024 : Shape := ⟨2, ![1024, 1024]⟩
abbrev S1024x256 : Shape := ⟨2, ![1024, 256]⟩
abbrev S1024x48 : Shape := ⟨2, ![1024, 48]⟩
abbrev S_ : Shape := ⟨0, ![]⟩
abbrev S1024x128 : Shape := ⟨2, ![1024, 128]⟩
abbrev S128 : Shape := ⟨1, ![128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S32x1024 : Shape := ⟨2, ![32, 1024]⟩
abbrev S1x1024 : Shape := ⟨2, ![1, 1024]⟩
abbrev S1x128 : Shape := ⟨2, ![1, 128]⟩
abbrev S32x256 : Shape := ⟨2, ![32, 256]⟩

abbrev nBuf : Space → Nat
  | .hbm => 52
  | .vmem => 21
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2608, .f32⟩
  | .hbm, ⟨3, _⟩ => ⟨S48, .f32⟩
  | .hbm, ⟨4, _⟩ => ⟨S1024x2608, .bf16⟩
  | .hbm, ⟨5, _⟩ => ⟨S1024x1024, .bf16⟩
  | .hbm, ⟨6, _⟩ => ⟨S1024x256, .bf16⟩
  | .hbm, ⟨7, _⟩ => ⟨S1024x256, .bf16⟩
  | .hbm, ⟨8, _⟩ => ⟨S1024x256, .bf16⟩
  | .hbm, ⟨9, _⟩ => ⟨S1024x256, .bf16⟩
  | .hbm, ⟨10, _⟩ => ⟨S1024x256, .bf16⟩
  | .hbm, ⟨11, _⟩ => ⟨S1024x256, .bf16⟩
  | .hbm, ⟨12, _⟩ => ⟨S1024x48, .bf16⟩
  | .hbm, ⟨13, _⟩ => ⟨S_, .i32⟩
  | .hbm, ⟨14, _⟩ => ⟨S_, .bf16⟩
  | .hbm, ⟨15, _⟩ => ⟨S1024x128, .bf16⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S_, .i32⟩
  | .hbm, ⟨20, _⟩ => ⟨S32, .i32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S32x1, .f32⟩
  | .hbm, ⟨31, _⟩ => ⟨S1x32, .f32⟩
  | .hbm, ⟨32, _⟩ => ⟨S32x32, .f32⟩
  | .hbm, ⟨33, _⟩ => ⟨S32x32, .f32⟩
  | .hbm, ⟨34, _⟩ => ⟨S32x32, .f32⟩
  | .hbm, ⟨35, _⟩ => ⟨S32x32, .f32⟩
  | .hbm, ⟨36, _⟩ => ⟨S32x32, .f32⟩
  | .hbm, ⟨37, _⟩ => ⟨S32x128, .f32⟩
  | .hbm, ⟨38, _⟩ => ⟨S32x32, .f32⟩
  | .hbm, ⟨39, _⟩ => ⟨S32x32, .f32⟩
  | .hbm, ⟨40, _⟩ => ⟨S32x128, .f32⟩
  | .hbm, ⟨41, _⟩ => ⟨S32x1024, .f32⟩
  | .hbm, ⟨42, _⟩ => ⟨S1x1024, .f32⟩
  | .hbm, ⟨43, _⟩ => ⟨S1x128, .f32⟩
  | .hbm, ⟨44, _⟩ => ⟨S32x1024, .f32⟩
  | .hbm, ⟨45, _⟩ => ⟨S32x256, .f32⟩
  | .hbm, ⟨46, _⟩ => ⟨S32x256, .f32⟩
  | .hbm, ⟨47, _⟩ => ⟨S32x256, .f32⟩
  | .hbm, ⟨48, _⟩ => ⟨S32x256, .f32⟩
  | .hbm, ⟨49, _⟩ => ⟨S32x256, .f32⟩
  | .hbm, ⟨50, _⟩ => ⟨S32x256, .f32⟩
  | .hbm, ⟨51, _⟩ => ⟨S32x128, .f32⟩
  | .local _ .vmem, ⟨0, _⟩ => ⟨S32x1024, .f32⟩
  | .local _ .vmem, ⟨1, _⟩ => ⟨S1x1024, .f32⟩
  | .local _ .vmem, ⟨2, _⟩ => ⟨S32x128, .f32⟩
  | .local _ .vmem, ⟨3, _⟩ => ⟨S32x128, .f32⟩
  | .local _ .vmem, ⟨4, _⟩ => ⟨S1024x1024, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x128, .bf16⟩
  | .local _ .vmem, ⟨12, _⟩ => ⟨S1x128, .f32⟩
  | .local _ .vmem, ⟨13, _⟩ => ⟨S32x1024, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev main_v33_3 : Ref sig .tc := ⟨.hbm, 47, rfl⟩
abbrev main_v33_4 : Ref sig .tc := ⟨.hbm, 48, rfl⟩
abbrev main_v33_5 : Ref sig .tc := ⟨.hbm, 49, rfl⟩
abbrev main_v33_6 : Ref sig .tc := ⟨.hbm, 50, rfl⟩
abbrev main_v33_7 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S32x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== NsaNextRefIdeal.lean ====
abbrev S32x1x1024 : Shape := ⟨3, ![32, 1, 1024]⟩
abbrev S1024 : Shape := ⟨1, ![1024]⟩
abbrev S1024x2608 : Shape := ⟨2, ![1024, 2608]⟩
abbrev S48 : Shape := ⟨1, ![48]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1 : Shape := ⟨1, ![1]⟩
abbrev S1024x2560 : Shape := ⟨2, ![1024, 2560]⟩
abbrev S32x1x2560 : Shape := ⟨3, ![32, 1, 2560]⟩
abbrev S32x1x16x64 : Shape := ⟨4, ![32, 1, 16, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S32x1x16x32 : Shape := ⟨4, ![32, 1, 16, 32]⟩
abbrev S1x1x1x32 : Shape := ⟨4, ![1, 1, 1, 32]⟩
abbrev S32x1x1536 : Shape := ⟨3, ![32, 1, 1536]⟩
abbrev S32x1x6x4x64 : Shape := ⟨5, ![32, 1, 6, 4, 64]⟩
abbrev S32x1x1x4x64 : Shape := ⟨5, ![32, 1, 1, 4, 64]⟩
abbrev S32x1x4x64 : Shape := ⟨4, ![32, 1, 4, 64]⟩
abbrev S32x1x4x32 : Shape := ⟨4, ![32, 1, 4, 32]⟩
abbrev S1024x48 : Shape := ⟨2, ![1024, 48]⟩
abbrev S1024x128 : Shape := ⟨2, ![1024, 128]⟩
abbrev S32x1x128 : Shape := ⟨3, ![32, 1, 128]⟩
abbrev S128 : Shape := ⟨1, ![128]⟩
abbrev S1x1x128 : Shape := ⟨3, ![1, 1, 128]⟩
abbrev S32x256 : Shape := ⟨2, ![32, 256]⟩
abbrev S32x1024 : Shape := ⟨2, ![32, 1024]⟩
abbrev S32x128 : Shape := ⟨2, ![32, 128]⟩

abbrev nBuf : Space → Nat
  | .hbm => 205
  | .vmem => 0
  | .smem => 0
  | _ => 0

abbrev hbmTy0_0 (i : Nat) : BufTy := match i % 128 with
  | 0 => ⟨S32x1x1024, .f32⟩
  | 1 => ⟨S1024, .f32⟩
  | 2 => ⟨S1024x2608, .f32⟩
  | 3 => ⟨S48, .f32⟩
  | 4 => ⟨S32x1x1024, .f32⟩
  | 5 => ⟨S_, .f32⟩
  | 6 => ⟨S32x1, .f32⟩
  | 7 => ⟨S32x1x1, .f32⟩
  | 8 => ⟨S_, .f32⟩
  | 9 => ⟨S32x1x1, .f32⟩
  | 10 => ⟨S32x1x1, .f32⟩
  | 11 => ⟨S_, .f32⟩
  | 12 => ⟨S32x1x1, .f32⟩
  | 13 => ⟨S32x1x1, .f32⟩
  | 14 => ⟨S32x1x1, .f32⟩
  | 15 => ⟨S32x1x1024, .f32⟩
  | 16 => ⟨S32x1x1024, .f32⟩
  | 17 => ⟨S1x1x1024, .f32⟩
  | 18 => ⟨S32x1x1024, .f32⟩
  | 19 => ⟨S32x1x1024, .f32⟩
  | 20 => ⟨S1, .i32⟩
  | 21 => ⟨S_, .i32⟩
  | 22 => ⟨S1, .i32⟩
  | 23 => ⟨S1, .i32⟩
  | 24 => ⟨S1024x2560, .f32⟩
  | 25 => ⟨S32x1x2560, .f32⟩
  | 26 => ⟨S32x1x1024, .f32⟩
  | 27 => ⟨S32x1x16x64, .f32⟩
  | 28 => ⟨S32, .f32⟩
  | 29 => ⟨S32, .f32⟩
  | 30 => ⟨S_, .f32⟩
  | 31 => ⟨S32, .f32⟩
  | 32 => ⟨S32, .f32⟩
  | 33 => ⟨S_, .f32⟩
  | 34 => ⟨S32, .f32⟩
  | 35 => ⟨S32, .f32⟩
  | 36 => ⟨S1, .f32⟩
  | 37 => ⟨S1x1, .f32⟩
  | 38 => ⟨S1x32, .f32⟩
  | 39 => ⟨S1x32, .f32⟩
  | 40 => ⟨S1x32, .f32⟩
  | 41 => ⟨S1x32, .f32⟩
  | 42 => ⟨S1x1x32, .f32⟩
  | 43 => ⟨S1x32, .f32⟩
  | 44 => ⟨S1x1x32, .f32⟩
  | 45 => ⟨S32x1x16x32, .f32⟩
  | 46 => ⟨S32x1x16x32, .f32⟩
  | 47 => ⟨S1x1x1x32, .f32⟩
  | 48 => ⟨S32x1x16x32, .f32⟩
  | 49 => ⟨S32x1x16x32, .f32⟩
  | 50 => ⟨S1x1x1x32, .f32⟩
  | 51 => ⟨S32x1x16x32, .f32⟩
  | 52 => ⟨S32x1x16x32, .f32⟩
  | 53 => ⟨S32x1x16x32, .f32⟩
  | 54 => ⟨S1x1x1x32, .f32⟩
  | 55 => ⟨S32x1x16x32, .f32⟩
  | 56 => ⟨S32x1x16x32, .f32⟩
  | 57 => ⟨S1x1x1x32, .f32⟩
  | 58 => ⟨S32x1x16x32, .f32⟩
  | 59 => ⟨S32x1x16x32, .f32⟩
  | 60 => ⟨S32x1x16x32, .f32⟩
  | 61 => ⟨S32x1x16x64, .f32⟩
  | 62 => ⟨S32x1x1536, .f32⟩
  | 63 => ⟨S32x1x6x4x64, .f32⟩
  | 64 => ⟨S32x1x1x4x64, .f32⟩
  | 65 => ⟨S32x1x4x64, .f32⟩
  | 66 => ⟨S32, .f32⟩
  | 67 => ⟨S32, .f32⟩
  | 68 => ⟨S_, .f32⟩
  | 69 => ⟨S32, .f32⟩
  | 70 => ⟨S32, .f32⟩
  | 71 => ⟨S_, .f32⟩
  | 72 => ⟨S32, .f32⟩
  | 73 => ⟨S32, .f32⟩
  | 74 => ⟨S1, .f32⟩
  | 75 => ⟨S1x1, .f32⟩
  | 76 => ⟨S1x32, .f32⟩
  | 77 => ⟨S1x32, .f32⟩
  | 78 => ⟨S1x32, .f32⟩
  | 79 => ⟨S1x32, .f32⟩
  | 80 => ⟨S1x1x32, .f32⟩
  | 81 => ⟨S1x32, .f32⟩
  | 82 => ⟨S1x1x32, .f32⟩
  | 83 => ⟨S32x1x4x32, .f32⟩
  | 84 => ⟨S32x1x4x32, .f32⟩
  | 85 => ⟨S1x1x1x32, .f32⟩
  | 86 => ⟨S32x1x4x32, .f32⟩
  | 87 => ⟨S32x1x4x32, .f32⟩
  | 88 => ⟨S1x1x1x32, .f32⟩
  | 89 => ⟨S32x1x4x32, .f32⟩
  | 90 => ⟨S32x1x4x32, .f32⟩
  | 91 => ⟨S32x1x4x32, .f32⟩
  | 92 => ⟨S1x1x1x32, .f32⟩
  | 93 => ⟨S32x1x4x32, .f32⟩
  | 94 => ⟨S32x1x4x32, .f32⟩
  | 95 => ⟨S1x1x1x32, .f32⟩
  | 96 => ⟨S32x1x4x32, .f32⟩
  | 97 => ⟨S32x1x4x32, .f32⟩
  | 98 => ⟨S32x1x4x32, .f32⟩
  | 99 => ⟨S32x1x4x64, .f32⟩
  | 100 => ⟨S32x1x1x4x64, .f32⟩
  | 101 => ⟨S32x1x4x64, .f32⟩
  | 102 => ⟨S32x1x1x4x64, .f32⟩
  | 103 => ⟨S32x1x4x64, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S1, .f32⟩
  | 113 => ⟨S1x1, .f32⟩
  | 114 => ⟨S1x32, .f32⟩
  | 115 => ⟨S1x32, .f32⟩
  | 116 => ⟨S1x32, .f32⟩
  | 117 => ⟨S1x32, .f32⟩
  | 118 => ⟨S1x1x32, .f32⟩
  | 119 => ⟨S1x32, .f32⟩
  | 120 => ⟨S1x1x32, .f32⟩
  | 121 => ⟨S32x1x4x32, .f32⟩
  | 122 => ⟨S32x1x4x32, .f32⟩
  | 123 => ⟨S1x1x1x32, .f32⟩
  | 124 => ⟨S32x1x4x32, .f32⟩
  | 125 => ⟨S32x1x4x32, .f32⟩
  | 126 => ⟨S1x1x1x32, .f32⟩
  | 127 => ⟨S32x1x4x32, .f32⟩
  | _ => ⟨S32x1x1024, .f32⟩

abbrev hbmTy0_1 (i : Nat) : BufTy := match i % 128 with
  | 0 => ⟨S32x1x4x32, .f32⟩
  | 1 => ⟨S32x1x4x32, .f32⟩
  | 2 => ⟨S1x1x1x32, .f32⟩
  | 3 => ⟨S32x1x4x32, .f32⟩
  | 4 => ⟨S32x1x4x32, .f32⟩
  | 5 => ⟨S1x1x1x32, .f32⟩
  | 6 => ⟨S32x1x4x32, .f32⟩
  | 7 => ⟨S32x1x4x32, .f32⟩
  | 8 => ⟨S32x1x4x32, .f32⟩
  | 9 => ⟨S32x1x4x64, .f32⟩
  | 10 => ⟨S32x1x1x4x64, .f32⟩
  | 11 => ⟨S32x1x4x64, .f32⟩
  | 12 => ⟨S32x1x1x4x64, .f32⟩
  | 13 => ⟨S32x1x4x64, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S1, .f32⟩
  | 23 => ⟨S1x1, .f32⟩
  | 24 => ⟨S1x32, .f32⟩
  | 25 => ⟨S1x32, .f32⟩
  | 26 => ⟨S1x32, .f32⟩
  | 27 => ⟨S1x32, .f32⟩
  | 28 => ⟨S1x1x32, .f32⟩
  | 29 => ⟨S1x32, .f32⟩
  | 30 => ⟨S1x1x32, .f32⟩
  | 31 => ⟨S32x1x4x32, .f32⟩
  | 32 => ⟨S32x1x4x32, .f32⟩
  | 33 => ⟨S1x1x1x32, .f32⟩
  | 34 => ⟨S32x1x4x32, .f32⟩
  | 35 => ⟨S32x1x4x32, .f32⟩
  | 36 => ⟨S1x1x1x32, .f32⟩
  | 37 => ⟨S32x1x4x32, .f32⟩
  | 38 => ⟨S32x1x4x32, .f32⟩
  | 39 => ⟨S32x1x4x32, .f32⟩
  | 40 => ⟨S1x1x1x32, .f32⟩
  | 41 => ⟨S32x1x4x32, .f32⟩
  | 42 => ⟨S32x1x4x32, .f32⟩
  | 43 => ⟨S1x1x1x32, .f32⟩
  | 44 => ⟨S32x1x4x32, .f32⟩
  | 45 => ⟨S32x1x4x32, .f32⟩
  | 46 => ⟨S32x1x4x32, .f32⟩
  | 47 => ⟨S32x1x4x64, .f32⟩
  | 48 => ⟨S32x1x1x4x64, .f32⟩
  | 49 => ⟨S32x1x4x64, .f32⟩
  | 50 => ⟨S1024x48, .f32⟩
  | 51 => ⟨S_, .i32⟩
  | 52 => ⟨S_, .f32⟩
  | 53 => ⟨S1024x128, .f32⟩
  | 54 => ⟨S32x1x128, .f32⟩
  | 55 => ⟨S_, .i32⟩
  | 56 => ⟨S_, .f32⟩
  | 57 => ⟨S128, .f32⟩
  | 58 => ⟨S1x1x128, .f32⟩
  | 59 => ⟨S32x1x128, .f32⟩
  | 60 => ⟨S32x1x128, .f32⟩
  | 61 => ⟨S32x1x128, .f32⟩
  | 62 => ⟨S32x1x128, .f32⟩
  | 63 => ⟨S_, .f32⟩
  | 64 => ⟨S32x1x128, .f32⟩
  | 65 => ⟨S32x1x128, .f32⟩
  | 66 => ⟨S_, .f32⟩
  | 67 => ⟨S32x1x128, .f32⟩
  | 68 => ⟨S32x1x128, .f32⟩
  | 69 => ⟨S32x256, .f32⟩
  | 70 => ⟨S32x256, .f32⟩
  | 71 => ⟨S32x256, .f32⟩
  | 72 => ⟨S32x256, .f32⟩
  | 73 => ⟨S32x256, .f32⟩
  | 74 => ⟨S32x256, .f32⟩
  | 75 => ⟨S32x1024, .f32⟩
  | 76 => ⟨S32x128, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_cst_4 : Ref sig .tc := ⟨.hbm, 68, rfl⟩
abbrev main_v58 : Ref sig .tc := ⟨.hbm, 69, rfl⟩
abbrev main_v59 : Ref sig .tc := ⟨.hbm, 70, rfl⟩
abbrev main_cst_5 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_cst_6 : Ref sig .tc := ⟨.hbm, 106, rfl⟩
abbrev main_v94 : Ref sig .tc := ⟨.hbm, 107, rfl⟩
abbrev main_v95 : Ref sig .tc := ⟨.hbm, 108, rfl⟩
abbrev main_cst_7 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_cst_8 : Ref sig .tc := ⟨.hbm, 144, rfl⟩
abbrev main_v130 : Ref sig .tc := ⟨.hbm, 145, rfl⟩
abbrev main_v131 : Ref sig .tc := ⟨.hbm, 146, rfl⟩
abbrev main_cst_9 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_c_10 : Ref sig .tc := ⟨.hbm, 179, rfl⟩
abbrev main_call0_v0 : Ref sig .tc := ⟨.hbm, 180, rfl⟩
abbrev main_v163 : Ref sig .tc := ⟨.hbm, 181, rfl⟩
abbrev main_v164 : Ref sig .tc := ⟨.hbm, 182, rfl⟩
abbrev main_c_11 : Ref sig .tc := ⟨.hbm, 183, rfl⟩
abbrev main_call1_v0 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_cst_12 : Ref sig .tc := ⟨.hbm, 191, rfl⟩
abbrev main_v171 : Ref sig .tc := ⟨.hbm, 192, rfl⟩
abbrev main_v172 : Ref sig .tc := ⟨.hbm, 193, rfl⟩
abbrev main_cst_13 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_v179 : Ref sig .tc := ⟨.hbm, 201, rfl⟩
abbrev main_v180 : Ref sig .tc := ⟨.hbm, 202, rfl⟩
abbrev main_v181 : Ref sig .tc := ⟨.hbm, 203, rfl⟩
abbrev main_v182 : Ref sig .tc := ⟨.hbm, 204, rfl⟩

abbrev nD : Nat := 1
abbrev τ : Topo := Topo.v7x

variable {F : FTy → Type} [FloatOps F]
-- ==== Mix.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 7
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S1024x1024, .bf16⟩
  | .hbm, ⟨6, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixRefIdeal.lean ====
abbrev S16384x1024 : Shape := ⟨2, ![16384, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Norm.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormIdeal.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormNext.lean ====
abbrev S32x1024 : Shape := ⟨2, ![32, 1024]⟩
abbrev S1024 : Shape := ⟨1, ![1024]⟩
abbrev S1x1024 : Shape := ⟨2, ![1, 1024]⟩
abbrev S32 : Shape := ⟨1, ![32]⟩
abbrev S32x1 : Shape := ⟨2, ![32, 1]⟩

abbrev nBuf : Space → Nat
  | .hbm => 4
  | .vmem => 3
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1x1024, .f32⟩
  | .hbm, ⟨3, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormNextRefIdeal.lean ====
abbrev S32x1024 : Shape := ⟨2, ![32, 1024]⟩
abbrev S1024 : Shape := ⟨1, ![1024]⟩
abbrev S_ : Shape := ⟨0, ![]⟩
abbrev S32 : Shape := ⟨1, ![32]⟩
abbrev S32x1 : Shape := ⟨2, ![32, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S32x1024, .f32⟩
  | .hbm, ⟨3, _⟩ => ⟨S_, .f32⟩
  | .hbm, ⟨4, _⟩ => ⟨S32, .f32⟩
  | .hbm, ⟨5, _⟩ => ⟨S32x1, .f32⟩
  | .hbm, ⟨6, _⟩ => ⟨S_, .f32⟩
  | .hbm, ⟨7, _⟩ => ⟨S32x1, .f32⟩
  | .hbm, ⟨8, _⟩ => ⟨S32x1, .f32⟩
  | .hbm, ⟨9, _⟩ => ⟨S_, .f32⟩
  | .hbm, ⟨10, _⟩ => ⟨S32x1, .f32⟩
  | .hbm, ⟨11, _⟩ => ⟨S32x1, .f32⟩
  | .hbm, ⟨12, _⟩ => ⟨S32x1, .f32⟩
  | .hbm, ⟨13, _⟩ => ⟨S32x1024, .f32⟩
  | .hbm, ⟨14, _⟩ => ⟨S32x1024, .f32⟩
  | .hbm, ⟨15, _⟩ => ⟨S1x1024, .f32⟩
  | .hbm, ⟨16, _⟩ => ⟨S32x1024, .f32⟩
  | .hbm, ⟨17, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Keep.lean ====
abbrev S32x1x1024 : Shape := ⟨3, ![32, 1, 1024]⟩
abbrev S1024 : Shape := ⟨1, ![1024]⟩
abbrev S1024x2608 : Shape := ⟨2, ![1024, 2608]⟩
abbrev S48 : Shape := ⟨1, ![48]⟩
abbrev S32x512x4x64 : Shape := ⟨4, ![32, 512, 4, 64]⟩
abbrev S1024x1024 : Shape := ⟨2, ![1024, 1024]⟩
abbrev S1024x256 : Shape := ⟨2, ![1024, 256]⟩
abbrev S1024x48 : Shape := ⟨2, ![1024, 48]⟩
abbrev S_ : Shape := ⟨0, ![]⟩
abbrev S1024x128 : Shape := ⟨2, ![1024, 128]⟩
abbrev S128 : Shape := ⟨1, ![128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S32x1024 : Shape := ⟨2, ![32, 1024]⟩
abbrev S1x1024 : Shape := ⟨2, ![1, 1024]⟩
abbrev S1x128 : Shape := ⟨2, ![1, 128]⟩
abbrev S32x256 : Shape := ⟨2, ![32, 256]⟩
abbrev S32x1x4x64 : Shape := ⟨4, ![32, 1, 4, 64]⟩
abbrev S32x513x4x64 : Shape := ⟨4, ![32, 513, 4, 64]⟩

abbrev nBuf : Space → Nat
  | .hbm => 60
  | .vmem => 21
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x2608, .f32⟩
  | .hbm, ⟨3, _⟩ => ⟨S48, .f32⟩
  | .hbm, ⟨4, _⟩ => ⟨S32x512x4x64, .f32⟩
  | .hbm, ⟨5, _⟩ => ⟨S32x512x4x64, .f32⟩
  | .hbm, ⟨6, _⟩ => ⟨S1024x2608, .bf16⟩
  | .hbm, ⟨7, _⟩ => ⟨S1024x1024, .bf16⟩
  | .hbm, ⟨8, _⟩ => ⟨S1024x256, .bf16⟩
  | .hbm, ⟨9, _⟩ => ⟨S1024x256, .bf16⟩
  | .hbm, ⟨10, _⟩ => ⟨S1024x256, .bf16⟩
  | .hbm, ⟨11, _⟩ => ⟨S1024x256, .bf16⟩
  | .hbm, ⟨12, _⟩ => ⟨S1024x256, .bf16⟩
  | .hbm, ⟨13, _⟩ => ⟨S1024x256, .bf16⟩
  | .hbm, ⟨14, _⟩ => ⟨S1024x48, .bf16⟩
  | .hbm, ⟨15, _⟩ => ⟨S_, .i32⟩
  | .hbm, ⟨16, _⟩ => ⟨S_, .bf16⟩
  | .hbm, ⟨17, _⟩ => ⟨S1024x128, .bf16⟩
  | .hbm, ⟨18, _⟩ => ⟨S_, .i32⟩
  | .hbm, ⟨19, _⟩ => ⟨S_, .f32⟩
  | .hbm, ⟨20, _⟩ => ⟨S128, .f32⟩
  | .hbm, ⟨21, _⟩ => ⟨S_, .i32⟩
  | .hbm, ⟨22, _⟩ => ⟨S32, .i32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S32, .f32⟩
  | .hbm, ⟨32, _⟩ => ⟨S32x1, .f32⟩
  | .hbm, ⟨33, _⟩ => ⟨S1x32, .f32⟩
  | .hbm, ⟨34, _⟩ => ⟨S32x32, .f32⟩
  | .hbm, ⟨35, _⟩ => ⟨S32x32, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S32x128, .f32⟩
  | .hbm, ⟨40, _⟩ => ⟨S32x32, .f32⟩
  | .hbm, ⟨41, _⟩ => ⟨S32x32, .f32⟩
  | .hbm, ⟨42, _⟩ => ⟨S32x128, .f32⟩
  | .hbm, ⟨43, _⟩ => ⟨S32x1024, .f32⟩
  | .hbm, ⟨44, _⟩ => ⟨S1x1024, .f32⟩
  | .hbm, ⟨45, _⟩ => ⟨S1x128, .f32⟩
  | .hbm, ⟨46, _⟩ => ⟨S32x1024, .f32⟩
  | .hbm, ⟨47, _⟩ => ⟨S32x256, .f32⟩
  | .hbm, ⟨48, _⟩ => ⟨S32x256, .f32⟩
  | .hbm, ⟨49, _⟩ => ⟨S32x256, .f32⟩
  | .hbm, ⟨50, _⟩ => ⟨S32x256, .f32⟩
  | .hbm, ⟨51, _⟩ => ⟨S32x256, .f32⟩
  | .hbm, ⟨52, _⟩ => ⟨S32x256, .f32⟩
  | .hbm, ⟨53, _⟩ => ⟨S32x128, .f32⟩
  | .hbm, ⟨54, _⟩ => ⟨S32x1x4x64, .f32⟩
  | .hbm, ⟨55, _⟩ => ⟨S32x1x4x64, .f32⟩
  | .hbm, ⟨56, _⟩ => ⟨S32x513x4x64, .f32⟩
  | .hbm, ⟨57, _⟩ => ⟨S32x513x4x64, .f32⟩
  | .hbm, ⟨58, _⟩ => ⟨S32x512x4x64, .f32⟩
  | .hbm, ⟨59, _⟩ => ⟨S32x512x4x64, .f32⟩
  | .local _ .vmem, ⟨0, _⟩ => ⟨S32x1024, .f32⟩
  | .local _ .vmem, ⟨1, _⟩ => ⟨S1x1024, .f32⟩
  | .local _ .vmem, ⟨2, _⟩ => ⟨S32x128, .f32⟩
  | .local _ .vmem, ⟨3, _⟩ => ⟨S32x128, .f32⟩
  | .local _ .vmem, ⟨4, _⟩ => ⟨S1024x1024, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x128, .bf16⟩
  | .local _ .vmem, ⟨12, _⟩ => ⟨S1x128, .f32⟩
  | .local _ .vmem, ⟨13, _⟩ => ⟨S32x1024, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | .local _ .vmem, ⟨17, _⟩ => ⟨S32x256, .f32⟩
  | .local _ .vmem, ⟨18, _⟩ => ⟨S32x256, .f32⟩
  | .local _ .vmem, ⟨19, _⟩ => ⟨S32x256, .f32⟩
  | .local _ .vmem, ⟨20, _⟩ => ⟨S32x128, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_c_0 : Ref sig .tc := ⟨.hbm, 18, rfl⟩
abbrev main_call1_v0 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev main_v33_4 : Ref sig .tc := ⟨.hbm, 50, rfl⟩
abbrev main_v33_5 : Ref sig .tc := ⟨.hbm, 51, rfl⟩
abbrev main_v33_6 : Ref sig .tc := ⟨.hbm, 52, rfl⟩
abbrev main_v33_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S32x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S32x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S32x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== KeepRefIdeal.lean ====
abbrev S32x1x1024 : Shape := ⟨3, ![32, 1, 1024]⟩
abbrev S1024 : Shape := ⟨1, ![1024]⟩
abbrev S1024x2608 : Shape := ⟨2, ![1024, 2608]⟩
abbrev S48 : Shape := ⟨1, ![48]⟩
abbrev S32x512x4x64 : Shape := ⟨4, ![32, 512, 4, 64]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1 : Shape := ⟨1, ![1]⟩
abbrev S1024x2560 : Shape := ⟨2, ![1024, 2560]⟩
abbrev S32x1x2560 : Shape := ⟨3, ![32, 1, 2560]⟩
abbrev S32x1x16x64 : Shape := ⟨4, ![32, 1, 16, 64]⟩
abbrev S32 : Shape := ⟨1, ![32]⟩
abbrev S1x1 : Shape := ⟨2, ![1, 1]⟩
abbrev S1x32 : Shape := ⟨2, ![1, 32]⟩
abbrev S1x1x32 : Shape := ⟨3, ![1, 1, 32]⟩
abbrev S32x1x16x32 : Shape := ⟨4, ![32, 1, 16, 32]⟩
abbrev S1x1x1x32 : Shape := ⟨4, ![1, 1, 1, 32]⟩
abbrev S32x1x1536 : Shape := ⟨3, ![32, 1, 1536]⟩
abbrev S32x1x6x4x64 : Shape := ⟨5, ![32, 1, 6, 4, 64]⟩
abbrev S32x1x1x4x64 : Shape := ⟨5, ![32, 1, 1, 4, 64]⟩
abbrev S32x1x4x64 : Shape := ⟨4, ![32, 1, 4, 64]⟩
abbrev S32x1x4x32 : Shape := ⟨4, ![32, 1, 4, 32]⟩
abbrev S1024x48 : Shape := ⟨2, ![1024, 48]⟩
abbrev S1024x128 : Shape := ⟨2, ![1024, 128]⟩
abbrev S32x1x128 : Shape := ⟨3, ![32, 1, 128]⟩
abbrev S128 : Shape := ⟨1, ![128]⟩
abbrev S1x1x128 : Shape := ⟨3, ![1, 1, 128]⟩
abbrev S32x513x4x64 : Shape := ⟨4, ![32, 513, 4, 64]⟩

abbrev nBuf : Space → Nat
  | .hbm => 203
  | .vmem => 0
  | .smem => 0
  | _ => 0

abbrev hbmTy0_0 (i : Nat) : BufTy := match i % 128 with
  | 0 => ⟨S32x1x1024, .f32⟩
  | 1 => ⟨S1024, .f32⟩
  | 2 => ⟨S1024x2608, .f32⟩
  | 3 => ⟨S48, .f32⟩
  | 4 => ⟨S32x512x4x64, .f32⟩
  | 5 => ⟨S32x512x4x64, .f32⟩
  | 6 => ⟨S32x1x1024, .f32⟩
  | 7 => ⟨S_, .f32⟩
  | 8 => ⟨S32x1, .f32⟩
  | 9 => ⟨S32x1x1, .f32⟩
  | 10 => ⟨S_, .f32⟩
  | 11 => ⟨S32x1x1, .f32⟩
  | 12 => ⟨S32x1x1, .f32⟩
  | 13 => ⟨S_, .f32⟩
  | 14 => ⟨S32x1x1, .f32⟩
  | 15 => ⟨S32x1x1, .f32⟩
  | 16 => ⟨S32x1x1, .f32⟩
  | 17 => ⟨S32x1x1024, .f32⟩
  | 18 => ⟨S32x1x1024, .f32⟩
  | 19 => ⟨S1x1x1024, .f32⟩
  | 20 => ⟨S32x1x1024, .f32⟩
  | 21 => ⟨S32x1x1024, .f32⟩
  | 22 => ⟨S1, .i32⟩
  | 23 => ⟨S_, .i32⟩
  | 24 => ⟨S1, .i32⟩
  | 25 => ⟨S1, .i32⟩
  | 26 => ⟨S1024x2560, .f32⟩
  | 27 => ⟨S32x1x2560, .f32⟩
  | 28 => ⟨S32x1x1024, .f32⟩
  | 29 => ⟨S32x1x16x64, .f32⟩
  | 30 => ⟨S32, .f32⟩
  | 31 => ⟨S32, .f32⟩
  | 32 => ⟨S_, .f32⟩
  | 33 => ⟨S32, .f32⟩
  | 34 => ⟨S32, .f32⟩
  | 35 => ⟨S_, .f32⟩
  | 36 => ⟨S32, .f32⟩
  | 37 => ⟨S32, .f32⟩
  | 38 => ⟨S1, .f32⟩
  | 39 => ⟨S1x1, .f32⟩
  | 40 => ⟨S1x32, .f32⟩
  | 41 => ⟨S1x32, .f32⟩
  | 42 => ⟨S1x32, .f32⟩
  | 43 => ⟨S1x32, .f32⟩
  | 44 => ⟨S1x1x32, .f32⟩
  | 45 => ⟨S1x32, .f32⟩
  | 46 => ⟨S1x1x32, .f32⟩
  | 47 => ⟨S32x1x16x32, .f32⟩
  | 48 => ⟨S32x1x16x32, .f32⟩
  | 49 => ⟨S1x1x1x32, .f32⟩
  | 50 => ⟨S32x1x16x32, .f32⟩
  | 51 => ⟨S32x1x16x32, .f32⟩
  | 52 => ⟨S1x1x1x32, .f32⟩
  | 53 => ⟨S32x1x16x32, .f32⟩
  | 54 => ⟨S32x1x16x32, .f32⟩
  | 55 => ⟨S32x1x16x32, .f32⟩
  | 56 => ⟨S1x1x1x32, .f32⟩
  | 57 => ⟨S32x1x16x32, .f32⟩
  | 58 => ⟨S32x1x16x32, .f32⟩
  | 59 => ⟨S1x1x1x32, .f32⟩
  | 60 => ⟨S32x1x16x32, .f32⟩
  | 61 => ⟨S32x1x16x32, .f32⟩
  | 62 => ⟨S32x1x16x32, .f32⟩
  | 63 => ⟨S32x1x16x64, .f32⟩
  | 64 => ⟨S32x1x1536, .f32⟩
  | 65 => ⟨S32x1x6x4x64, .f32⟩
  | 66 => ⟨S32x1x1x4x64, .f32⟩
  | 67 => ⟨S32x1x4x64, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S1, .f32⟩
  | 77 => ⟨S1x1, .f32⟩
  | 78 => ⟨S1x32, .f32⟩
  | 79 => ⟨S1x32, .f32⟩
  | 80 => ⟨S1x32, .f32⟩
  | 81 => ⟨S1x32, .f32⟩
  | 82 => ⟨S1x1x32, .f32⟩
  | 83 => ⟨S1x32, .f32⟩
  | 84 => ⟨S1x1x32, .f32⟩
  | 85 => ⟨S32x1x4x32, .f32⟩
  | 86 => ⟨S32x1x4x32, .f32⟩
  | 87 => ⟨S1x1x1x32, .f32⟩
  | 88 => ⟨S32x1x4x32, .f32⟩
  | 89 => ⟨S32x1x4x32, .f32⟩
  | 90 => ⟨S1x1x1x32, .f32⟩
  | 91 => ⟨S32x1x4x32, .f32⟩
  | 92 => ⟨S32x1x4x32, .f32⟩
  | 93 => ⟨S32x1x4x32, .f32⟩
  | 94 => ⟨S1x1x1x32, .f32⟩
  | 95 => ⟨S32x1x4x32, .f32⟩
  | 96 => ⟨S32x1x4x32, .f32⟩
  | 97 => ⟨S1x1x1x32, .f32⟩
  | 98 => ⟨S32x1x4x32, .f32⟩
  | 99 => ⟨S32x1x4x32, .f32⟩
  | 100 => ⟨S32x1x4x32, .f32⟩
  | 101 => ⟨S32x1x4x64, .f32⟩
  | 102 => ⟨S32x1x1x4x64, .f32⟩
  | 103 => ⟨S32x1x4x64, .f32⟩
  | 104 => ⟨S32x1x1x4x64, .f32⟩
  | 105 => ⟨S32x1x4x64, .f32⟩
  | 106 => ⟨S32, .f32⟩
  | 107 => ⟨S32, .f32⟩
  | 108 => ⟨S_, .f32⟩
  | 109 => ⟨S32, .f32⟩
  | 110 => ⟨S32, .f32⟩
  | 111 => ⟨S_, .f32⟩
  | 112 => ⟨S32, .f32⟩
  | 113 => ⟨S32, .f32⟩
  | 114 => ⟨S1, .f32⟩
  | 115 => ⟨S1x1, .f32⟩
  | 116 => ⟨S1x32, .f32⟩
  | 117 => ⟨S1x32, .f32⟩
  | 118 => ⟨S1x32, .f32⟩
  | 119 => ⟨S1x32, .f32⟩
  | 120 => ⟨S1x1x32, .f32⟩
  | 121 => ⟨S1x32, .f32⟩
  | 122 => ⟨S1x1x32, .f32⟩
  | 123 => ⟨S32x1x4x32, .f32⟩
  | 124 => ⟨S32x1x4x32, .f32⟩
  | 125 => ⟨S1x1x1x32, .f32⟩
  | 126 => ⟨S32x1x4x32, .f32⟩
  | 127 => ⟨S32x1x4x32, .f32⟩
  | _ => ⟨S32x1x1024, .f32⟩

abbrev hbmTy0_1 (i : Nat) : BufTy := match i % 128 with
  | 0 => ⟨S1x1x1x32, .f32⟩
  | 1 => ⟨S32x1x4x32, .f32⟩
  | 2 => ⟨S32x1x4x32, .f32⟩
  | 3 => ⟨S32x1x4x32, .f32⟩
  | 4 => ⟨S1x1x1x32, .f32⟩
  | 5 => ⟨S32x1x4x32, .f32⟩
  | 6 => ⟨S32x1x4x32, .f32⟩
  | 7 => ⟨S1x1x1x32, .f32⟩
  | 8 => ⟨S32x1x4x32, .f32⟩
  | 9 => ⟨S32x1x4x32, .f32⟩
  | 10 => ⟨S32x1x4x32, .f32⟩
  | 11 => ⟨S32x1x4x64, .f32⟩
  | 12 => ⟨S32x1x1x4x64, .f32⟩
  | 13 => ⟨S32x1x4x64, .f32⟩
  | 14 => ⟨S32x1x1x4x64, .f32⟩
  | 15 => ⟨S32x1x4x64, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S1, .f32⟩
  | 25 => ⟨S1x1, .f32⟩
  | 26 => ⟨S1x32, .f32⟩
  | 27 => ⟨S1x32, .f32⟩
  | 28 => ⟨S1x32, .f32⟩
  | 29 => ⟨S1x32, .f32⟩
  | 30 => ⟨S1x1x32, .f32⟩
  | 31 => ⟨S1x32, .f32⟩
  | 32 => ⟨S1x1x32, .f32⟩
  | 33 => ⟨S32x1x4x32, .f32⟩
  | 34 => ⟨S32x1x4x32, .f32⟩
  | 35 => ⟨S1x1x1x32, .f32⟩
  | 36 => ⟨S32x1x4x32, .f32⟩
  | 37 => ⟨S32x1x4x32, .f32⟩
  | 38 => ⟨S1x1x1x32, .f32⟩
  | 39 => ⟨S32x1x4x32, .f32⟩
  | 40 => ⟨S32x1x4x32, .f32⟩
  | 41 => ⟨S32x1x4x32, .f32⟩
  | 42 => ⟨S1x1x1x32, .f32⟩
  | 43 => ⟨S32x1x4x32, .f32⟩
  | 44 => ⟨S32x1x4x32, .f32⟩
  | 45 => ⟨S1x1x1x32, .f32⟩
  | 46 => ⟨S32x1x4x32, .f32⟩
  | 47 => ⟨S32x1x4x32, .f32⟩
  | 48 => ⟨S32x1x4x32, .f32⟩
  | 49 => ⟨S32x1x4x64, .f32⟩
  | 50 => ⟨S32x1x1x4x64, .f32⟩
  | 51 => ⟨S32x1x4x64, .f32⟩
  | 52 => ⟨S1024x48, .f32⟩
  | 53 => ⟨S_, .i32⟩
  | 54 => ⟨S_, .f32⟩
  | 55 => ⟨S1024x128, .f32⟩
  | 56 => ⟨S32x1x128, .f32⟩
  | 57 => ⟨S_, .i32⟩
  | 58 => ⟨S_, .f32⟩
  | 59 => ⟨S128, .f32⟩
  | 60 => ⟨S1x1x128, .f32⟩
  | 61 => ⟨S32x1x128, .f32⟩
  | 62 => ⟨S32x1x128, .f32⟩
  | 63 => ⟨S32x1x128, .f32⟩
  | 64 => ⟨S32x1x128, .f32⟩
  | 65 => ⟨S_, .f32⟩
  | 66 => ⟨S32x1x128, .f32⟩
  | 67 => ⟨S32x1x128, .f32⟩
  | 68 => ⟨S_, .f32⟩
  | 69 => ⟨S32x1x128, .f32⟩
  | 70 => ⟨S32x1x128, .f32⟩
  | 71 => ⟨S32x513x4x64, .f32⟩
  | 72 => ⟨S32x513x4x64, .f32⟩
  | 73 => ⟨S32x512x4x64, .f32⟩
  | 74 => ⟨S32x512x4x64, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_4 : Ref sig .tc := ⟨.hbm, 70, rfl⟩
abbrev main_v58 : Ref sig .tc := ⟨.hbm, 71, rfl⟩
abbrev main_v59 : Ref sig .tc := ⟨.hbm, 72, rfl⟩
abbrev main_cst_5 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_cst_6 : Ref sig .tc := ⟨.hbm, 108, rfl⟩
abbrev main_v94 : Ref sig .tc := ⟨.hbm, 109, rfl⟩
abbrev main_v95 : Ref sig .tc := ⟨.hbm, 110, rfl⟩
abbrev main_cst_7 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_cst_8 : Ref sig .tc := ⟨.hbm, 146, rfl⟩
abbrev main_v130 : Ref sig .tc := ⟨.hbm, 147, rfl⟩
abbrev main_v131 : Ref sig .tc := ⟨.hbm, 148, rfl⟩
abbrev main_cst_9 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_c_10 : Ref sig .tc := ⟨.hbm, 181, rfl⟩
abbrev main_call0_v0 : Ref sig .tc := ⟨.hbm, 182, rfl⟩
abbrev main_v163 : Ref sig .tc := ⟨.hbm, 183, rfl⟩
abbrev main_v164 : Ref sig .tc := ⟨.hbm, 184, rfl⟩
abbrev main_c_11 : Ref sig .tc := ⟨.hbm, 185, rfl⟩
abbrev main_call1_v0 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_cst_12 : Ref sig .tc := ⟨.hbm, 193, rfl⟩
abbrev main_v171 : Ref sig .tc := ⟨.hbm, 194, rfl⟩
abbrev main_v172 : Ref sig .tc := ⟨.hbm, 195, rfl⟩
abbrev main_cst_13 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩

abbrev nD : Nat := 1
abbrev τ : Topo := Topo.v7x

variable {F : FTy → Type} [FloatOps F]
-- ==== MlpNext.lean ====
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S32 : Shape := ⟨1, ![32]⟩
abbrev S32x1 : Shape := ⟨2, ![32, 1]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x4096, .bf16⟩
  | .local _ .vmem, ⟨3, _⟩ => ⟨S4096x1024, .bf16⟩
  | .local _ .vmem, ⟨4, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== MlpNextRefIdeal.lean ====
abbrev S32x1024 : Shape := ⟨2, ![32, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x4096 : Shape := ⟨2, ![32, 4096]⟩

abbrev nBuf : Space → Nat
  | .hbm => 27
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S32x1024, .f32⟩
  | .hbm, ⟨5, _⟩ => ⟨S_, .f32⟩
  | .hbm, ⟨6, _⟩ => ⟨S32, .f32⟩
  | .hbm, ⟨7, _⟩ => ⟨S32x1, .f32⟩
  | .hbm, ⟨8, _⟩ => ⟨S_, .f32⟩
  | .hbm, ⟨9, _⟩ => ⟨S32x1, .f32⟩
  | .hbm, ⟨10, _⟩ => ⟨S32x1, .f32⟩
  | .hbm, ⟨11, _⟩ => ⟨S_, .f32⟩
  | .hbm, ⟨12, _⟩ => ⟨S32x1, .f32⟩
  | .hbm, ⟨13, _⟩ => ⟨S32x1, .f32⟩
  | .hbm, ⟨14, _⟩ => ⟨S32x1, .f32⟩
  | .hbm, ⟨15, _⟩ => ⟨S32x1024, .f32⟩
  | .hbm, ⟨16, _⟩ => ⟨S32x1024, .f32⟩
  | .hbm, ⟨17, _⟩ => ⟨S1x1024, .f32⟩
  | .hbm, ⟨18, _⟩ => ⟨S32x1024, .f32⟩
  | .hbm, ⟨19, _⟩ => ⟨S32x1024, .f32⟩
  | .hbm, ⟨20, _⟩ => ⟨S32x4096, .f32⟩
  | .hbm, ⟨21, _⟩ => ⟨S_, .f32⟩
  | .hbm, ⟨22, _⟩ => ⟨S32x4096, .f32⟩
  | .hbm, ⟨23, _⟩ => ⟨S32x4096, .f32⟩
  | .hbm, ⟨24, _⟩ => ⟨S32x4096, .f32⟩
  | .hbm, ⟨25, _⟩ => ⟨S32x1024, .f32⟩
  | .hbm, ⟨26, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== OutNext.lean ====
abbrev S32x1024 : Shape := ⟨2, ![32, 1024]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S32x1024, .f32⟩
  | .hbm, ⟨3, _⟩ => ⟨S1024x1024, .bf16⟩
  | .hbm, ⟨4, _⟩ => ⟨S32x1024, .f32⟩
  | .local _ .vmem, ⟨0, _⟩ => ⟨S32x1024, .f32⟩
  | .local _ .vmem, ⟨1, _⟩ => ⟨S1024x1024, .bf16⟩
  | .local _ .vmem, ⟨2, _⟩ => ⟨S32x1024, .f32⟩
  | .local _ .vmem, ⟨3, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== OutNextRefIdeal.lean ====
abbrev S32x1024 : Shape := ⟨2, ![32, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1024x1024, .f32⟩
  | .hbm, ⟨2, _⟩ => ⟨S32x1024, .f32⟩
  | .hbm, ⟨3, _⟩ => ⟨S32x1024, .f32⟩
  | .hbm, ⟨4, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Stream.lean ====
/- The arithmetic of a softmax taken block by block, over the extended reals and for one row of scores: what the
   running maximum, denominator and numerator hold after any number of blocks, and that their quotient is the
   row's softmax average. Nothing here mentions a program. -/
module

public import Idealize.ShloMosaic.PureOps.Ideal
public import Mathlib.Data.EReal.Operations
public import Mathlib.Data.EReal.Inv
public import Mathlib.Algebra.BigOperators.Fin
public import Mathlib.Algebra.BigOperators.Intervals
public import Mathlib.Algebra.Order.BigOperators.Group.Finset
public import Mathlib.Analysis.SpecialFunctions.Pow.Real

@[expose] public section

noncomputable section

namespace Cert.Stream

open Idealize.ShloMosaic

/-! ## Exponentials -/

theorem exp2_nonneg (x : EReal) : 0 ≤ Ideal.exp2 x := by
  induction x with
  | bot => simp
  | top => simp
  | coe r => rw [Ideal.exp2_coe]; exact_mod_cast (Real.rpow_pos_of_pos two_pos r).le

/-- A power of two with an exponent that is not `⊤` is real. -/
theorem exp2_real {x : EReal} (h : x ≠ ⊤) : ∃ r : ℝ, 0 ≤ r ∧ Ideal.exp2 x = (r : EReal) := by
  induction x with
  | bot => exact ⟨0, le_rfl, by simp⟩
  | top => exact absurd rfl h
  | coe r => exact ⟨Real.rpow 2 r, (Real.rpow_pos_of_pos two_pos r).le, rfl⟩

theorem sub_top (x : EReal) : x - ⊤ = ⊥ := by
  rw [sub_eq_add_neg, EReal.neg_top, EReal.add_bot]

theorem sub_ne_top {x y : EReal} (h : x ≤ y) : x - y ≠ ⊤ := by
  induction x with
  | bot => rw [sub_eq_add_neg, EReal.bot_add]; exact bot_ne_top
  | top => rw [top_le_iff.mp h, sub_top]; exact bot_ne_top
  | coe r =>
    induction y with
    | bot => exact absurd h (by simp)
    | top => rw [sub_top]; exact bot_ne_top
    | coe s => rw [← EReal.coe_sub]; exact EReal.coe_ne_top _

/-- Moving the base of a power of two from one maximum to a later one. -/
theorem exp2_rebase {t m m' : EReal} (h : t ≤ m) (h' : m ≤ m') :
    Ideal.exp2 (m - m') * Ideal.exp2 (t - m) = Ideal.exp2 (t - m') := by
  induction m' with
  | bot =>
    obtain rfl : m = ⊥ := le_bot_iff.mp h'
    obtain rfl : t = ⊥ := le_bot_iff.mp h
    simp [sub_eq_add_neg]
  | top => simp [sub_top]
  | coe c =>
    induction m with
    | top => exact absurd h' (by simp)
    | bot =>
      obtain rfl : t = ⊥ := le_bot_iff.mp h
      simp [sub_eq_add_neg]
    | coe b =>
      induction t with
      | top => exact absurd h (by simp)
      | bot => simp [sub_eq_add_neg]
      | coe a =>
        rw [← EReal.coe_sub, ← EReal.coe_sub, ← EReal.coe_sub, Ideal.exp2_coe, Ideal.exp2_coe, Ideal.exp2_coe,
          ← EReal.coe_mul]
        congr 1
        show (2 : ℝ) ^ (b - c) * (2 : ℝ) ^ (a - b) = (2 : ℝ) ^ (a - c)
        rw [← Real.rpow_add two_pos]
        congr 1
        ring

/-! ## Sums -/

theorem real_mul_sum {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top _), ih]

theorem sum_real {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  induction s using Finset.induction_on with
  | empty => exact ⟨0, le_rfl, by simp⟩
  | insert a s ha ih =>
    obtain ⟨r, hr, e⟩ := h a (Finset.mem_insert_self _ _)
    obtain ⟨q, hq, e'⟩ := ih fun k hk => h k (Finset.mem_insert_of_mem hk)
    exact ⟨r + q, add_nonneg hr hq, by rw [Finset.sum_insert ha, e, e', EReal.coe_add]⟩

/-- A sum of nonnegative terms one of which is `⊤` is `⊤`. -/
theorem sum_top {ι : Type} (s : Finset ι) (f : ι → EReal) (h : ∀ k ∈ s, 0 ≤ f k) {i : ι} (hi : i ∈ s) (e : f i = ⊤) :
    ∑ k ∈ s, f k = ⊤ :=
  top_le_iff.mp (e ▸ Finset.single_le_sum h hi)

/-! ## The quotients -/

theorem div_top {ε : EReal} (hε : 0 < ε) (a : EReal) : Ideal.div a (max ⊤ ε) = 0 := by
  unfold Ideal.div
  rw [max_eq_left le_top, if_neg EReal.top_ne_zero, EReal.inv_top, mul_zero]

theorem div_zero {ε : EReal} (hε : 0 < ε) (d : EReal) : Ideal.div 0 (max d ε) = 0 := by
  unfold Ideal.div
  rw [if_neg (lt_of_lt_of_le hε (le_max_right _ _)).ne', zero_mul]

theorem div_real {e : ℝ} (he : 0 < e) (d : ℝ) :
    ∃ c : ℝ, 0 ≤ c ∧ ∀ a : EReal, Ideal.div a (max (d : EReal) (e : EReal)) = a * (c : EReal) := by
  have hp : 0 < max d e := lt_of_lt_of_le he (le_max_right _ _)
  refine ⟨1 / max d e, by positivity, fun a => ?_⟩
  rw [← EReal.coe_strictMono.monotone.map_max, Ideal.div_coe hp.ne']

/-! ## One block of the stream

The state is the running maximum, the running denominator and the running numerator of one output. -/

/-- The state after one more block of `B` scores `s` with values `v`, under the row's bias `rb`. -/
def step {B : ℕ} (rb : EReal) (s v : Fin B → EReal) (st : EReal × EReal × EReal) : EReal × EReal × EReal :=
  let m' := max st.1 (Finset.univ.fold max ⊥ s + rb)
  (m', Ideal.exp2 (st.1 - m') * st.2.1 + ∑ x, Ideal.exp2 (s x - (m' - rb)),
    Ideal.exp2 (st.1 - m') * st.2.2 + ∑ x, v x * Ideal.exp2 (s x - (m' - rb)))

/-- The state after `n` blocks of `B` scores, the scores and values numbered along the whole row. -/
def stream (B : ℕ) (rb : EReal) (S V : ℕ → EReal) : ℕ → EReal × EReal × EReal
  | 0 => (⊥, 0, 0)
  | n + 1 => step (B := B) rb (fun x => S (B * n + x)) (fun x => V (B * n + x)) (stream B rb S V n)

/-- The numbers seen after one more block: those before, and the block's. -/
theorem sum_block (B n : ℕ) (f : ℕ → EReal) :
    ∑ k ∈ Finset.range (B * (n + 1)), f k = ∑ k ∈ Finset.range (B * n), f k + ∑ x : Fin B, f (B * n + x) := by
  rw [Nat.mul_succ, Finset.sum_range_add, Finset.sum_range (fun x => f (B * n + x))]

theorem fold_eq_sup {ι : Type} (s : Finset ι) (f : ι → EReal) : s.fold max ⊥ f = s.sup f := rfl

theorem sup_block (B n : ℕ) (f : ℕ → EReal) :
    (Finset.range (B * (n + 1))).sup f = max ((Finset.range (B * n)).sup f) (Finset.univ.sup fun x : Fin B => f (B * n + x)) := by
  apply le_antisymm
  · refine Finset.sup_le fun k hk => ?_
    rw [Finset.mem_range, Nat.mul_succ] at hk
    by_cases h : k < B * n
    · exact le_max_of_le_left (Finset.le_sup (f := f) (Finset.mem_range.mpr h))
    · have hk' : k - B * n < B := by omega
      have := Finset.le_sup (f := fun x : Fin B => f (B * n + x)) (Finset.mem_univ ⟨k - B * n, hk'⟩)
      have e : B * n + (k - B * n) = k := by omega
      simp only [e] at this
      exact le_max_of_le_right this
  · refine max_le (Finset.sup_mono ?_) (Finset.sup_le fun x _ => Finset.le_sup (f := f) (Finset.mem_range.mpr ?_))
    · exact Finset.range_mono (Nat.mul_le_mul_left _ (Nat.le_succ _))
    · rw [Nat.mul_succ]; exact Nat.add_lt_add_left x.isLt _

theorem sup_add_real {ι : Type} (s : Finset ι) (r : ℝ) (f : ι → EReal) :
    s.sup f + (r : EReal) = s.sup fun k => f k + (r : EReal) := by
  classical
  induction s using Finset.induction_on with
  | empty => simp
  | insert a s ha ih =>
    rw [Finset.sup_insert, Finset.sup_insert, ← ih]
    exact max_add_add_right _ _ _ |>.symm

/-- A score less the shifted maximum, a real bias moved back to the score. -/
theorem sub_shift (s m : EReal) (r : ℝ) : s - (m - (r : EReal)) = s + (r : EReal) - m := by
  rw [sub_eq_add_neg s, EReal.neg_sub (Or.inr (EReal.coe_ne_bot _)) (Or.inr (EReal.coe_ne_top _)),
    add_comm (-m), ← add_assoc, ← sub_eq_add_neg]

/-! ### A real bias -/

/-- With a real bias the state is the maximum of the biased scores, the sum of their powers of two below that maximum,
    and the values' sum weighted by them. -/
theorem stream_real (B : ℕ) (r : ℝ) (S V : ℕ → EReal) (n : ℕ) :
    let L := fun k => S k + (r : EReal)
    let M := (Finset.range (B * n)).sup L
    stream B r S V n = (M, ∑ k ∈ Finset.range (B * n), Ideal.exp2 (L k - M),
      ∑ k ∈ Finset.range (B * n), V k * Ideal.exp2 (L k - M)) := by
  intro L
  induction n with
  | zero => simp [stream]
  | succ n ih =>
    simp only at ih ⊢
    rw [stream, ih]
    unfold step
    simp only [fold_eq_sup, sup_add_real, sub_shift]
    rw [← sup_block B n L]
    set M := (Finset.range (B * n)).sup L with hM
    set M' := (Finset.range (B * (n + 1))).sup L with hM'
    have hMM : M ≤ M' := Finset.sup_mono (Finset.range_mono (Nat.mul_le_mul_left _ (Nat.le_succ _)))
    have hL : ∀ k ∈ Finset.range (B * n), L k ≤ M := fun k hk => Finset.le_sup (f := L) hk
    obtain ⟨α, hα, eα⟩ := exp2_real (sub_ne_top hMM)
    refine Prod.ext rfl (Prod.ext ?_ ?_)
    · show Ideal.exp2 (M - M') * _ + _ = _
      rw [sum_block B n (fun k => Ideal.exp2 (L k - M')), eα, real_mul_sum _ _ hα]
      congr 1
      refine Finset.sum_congr rfl fun k hk => ?_
      rw [← eα, exp2_rebase (hL k hk) hMM]
    · show Ideal.exp2 (M - M') * _ + _ = _
      rw [sum_block B n (fun k => V k * Ideal.exp2 (L k - M')), eα, real_mul_sum _ _ hα]
      congr 1
      refine Finset.sum_congr rfl fun k hk => ?_
      rw [← eα, mul_left_comm, exp2_rebase (hL k hk) hMM]

/-! ### An infinite bias -/

theorem exp2_sub_bot (s : EReal) : Ideal.exp2 (s - ⊥) = 0 ∨ Ideal.exp2 (s - ⊥) = ⊤ := by
  induction s with
  | bot => left; simp [sub_eq_add_neg]
  | top => right; simp [sub_eq_add_neg]
  | coe r => right; simp [sub_eq_add_neg]

/-- With an infinite bias the maximum is infinite, and the denominator is `⊤`, or it and the numerator are zero. -/
theorem stream_inf (B : ℕ) {rb : EReal} (hrb : rb = ⊥ ∨ rb = ⊤) (S V : ℕ → EReal) (n : ℕ) :
    ((stream B rb S V n).1 = ⊥ ∨ (rb = ⊤ ∧ (stream B rb S V n).1 = ⊤))
      ∧ (((stream B rb S V n).2.1 = 0 ∧ (stream B rb S V n).2.2 = 0) ∨ (stream B rb S V n).2.1 = ⊤) := by
  induction n with
  | zero => simp [stream]
  | succ n ih =>
    obtain ⟨hm, -⟩ := ih
    rw [stream]
    set st := stream B rb S V n with hst
    set s : Fin B → EReal := fun x => S (B * n + x)
    set v : Fin B → EReal := fun x => V (B * n + x)
    have key : ∀ m' : EReal, m' = ⊥ ∨ (rb = ⊤ ∧ m' = ⊤) → st.1 ≤ m' →
        Ideal.exp2 (st.1 - m') = 0 ∧ m' - rb = ⊥ := by
      rintro m' h hle
      constructor
      · rcases h with rfl | ⟨-, rfl⟩
        · rw [le_bot_iff.mp hle]; simp [sub_eq_add_neg]
        · simp [sub_top]
      · rcases h with rfl | ⟨rfl, rfl⟩
        · rw [sub_eq_add_neg, EReal.bot_add]
        · exact sub_top _
    have hm' : max st.1 (Finset.univ.fold max ⊥ s + rb) = ⊥ ∨ (rb = ⊤ ∧ max st.1 (Finset.univ.fold max ⊥ s + rb) = ⊤) := by
      rcases hrb with rfl | rfl
      · rcases hm with hm | ⟨h, -⟩
        · left; rw [hm, EReal.add_bot, max_self]
        · exact absurd h bot_ne_top
      · rcases eq_or_ne (Finset.univ.fold max ⊥ s) ⊥ with h | h
        · rw [h, EReal.bot_add, max_eq_left bot_le]; exact hm
        · right; rw [EReal.add_top_of_ne_bot h, max_eq_right le_top]; exact ⟨rfl, rfl⟩
    obtain ⟨hα, hsh⟩ := key _ hm' (le_max_left _ _)
    refine ⟨hm', ?_⟩
    unfold step
    simp only [hα, hsh, zero_mul, zero_add]
    by_cases h : ∃ x, Ideal.exp2 (s x - ⊥) = ⊤
    · obtain ⟨x, hx⟩ := h
      right
      exact sum_top _ _ (fun k _ => exp2_nonneg _) (Finset.mem_univ x) hx
    · left
      have h0 : ∀ x, Ideal.exp2 (s x - ⊥) = 0 := fun x => (exp2_sub_bot _).resolve_right fun e => h ⟨x, e⟩
      simp [h0]

/-! ## The quotient at the end -/

/-- The number a softmax subtracts from its scores: their maximum where that is real, zero where it is not. -/
def base (M : EReal) : EReal := if M = ⊤ ∨ M = ⊥ then 0 else M

/-- The softmax average of the values `V` under the base-two scores `L`, over a set of keys. -/
def soft2 {ι : Type} (K : Finset ι) (ε : EReal) (L V : ι → EReal) : EReal :=
  ∑ k ∈ K, V k * Ideal.div (Ideal.exp2 (L k - base (K.sup L)))
    (max (∑ k ∈ K, Ideal.exp2 (L k - base (K.sup L))) ε)

/-- Where the scores' maximum is infinite the average is zero. -/
theorem soft2_inf {ι : Type} (K : Finset ι) {ε : EReal} (hε : 0 < ε) (L V : ι → EReal) (h : K.sup L = ⊤ ∨ K.sup L = ⊥) :
    soft2 K ε L V = 0 := by
  unfold soft2 base
  rw [if_pos h]
  simp only [sub_zero]
  refine Finset.sum_eq_zero fun k hk => ?_
  rcases h with h | h
  · have : ∃ i ∈ K, L i = ⊤ := by
      by_contra hn
      push Not at hn
      exact absurd h (ne_of_lt ((Finset.sup_lt_iff bot_lt_top).mpr fun i hi => lt_top_iff_ne_top.mpr (hn i hi)))
    obtain ⟨i, hi, e⟩ := this
    rw [sum_top K (fun k => Ideal.exp2 (L k)) (fun _ _ => exp2_nonneg _) hi (by rw [e]; rfl), div_top hε, mul_zero]
  · have e : L k = ⊥ := le_bot_iff.mp (h ▸ Finset.le_sup (f := L) hk)
    rw [e, Ideal.exp2_bot, div_zero hε, mul_zero]

/-- THE STREAM'S QUOTIENT is the softmax average, whatever the scores, the values and the bias are. -/
theorem stream_quotient (B : ℕ) {e : ℝ} (he : 0 < e) (rb : EReal) (S V : ℕ → EReal) (n : ℕ) :
    Ideal.div (stream B rb S V n).2.2 (max (stream B rb S V n).2.1 (e : EReal))
      = soft2 (Finset.range (B * n)) (e : EReal) (fun k => S k + rb) V := by
  have hε : (0 : EReal) < (e : EReal) := by exact_mod_cast he
  have inf : rb = ⊥ ∨ rb = ⊤ → Ideal.div (stream B rb S V n).2.2 (max (stream B rb S V n).2.1 (e : EReal))
      = soft2 (Finset.range (B * n)) (e : EReal) (fun k => S k + rb) V := by
    intro h
    rw [soft2_inf _ hε]
    · rcases (stream_inf B h S V n).2 with ⟨h1, h2⟩ | h1
      · rw [h2, div_zero hε]
      · rw [h1, div_top hε]
    · rcases h with rfl | rfl
      · right
        refine le_bot_iff.mp (Finset.sup_le fun k _ => ?_)
        rw [EReal.add_bot]
      · by_cases hb : ∀ k ∈ Finset.range (B * n), S k = ⊥
        · right
          refine le_bot_iff.mp (Finset.sup_le fun k hk => ?_)
          rw [hb k hk, EReal.bot_add]
        · left
          push Not at hb
          obtain ⟨k, hk, hS⟩ := hb
          refine top_le_iff.mp (le_trans (le_of_eq ?_) (Finset.le_sup (f := fun k => S k + ⊤) hk))
          rw [EReal.add_top_of_ne_bot hS]
  induction rb with
  | bot => exact inf (Or.inl rfl)
  | top => exact inf (Or.inr rfl)
  | coe r =>
    have hst := stream_real B r S V n
    simp only at hst
    set L : ℕ → EReal := fun k => S k + (r : EReal) with hL
    rw [hst]
    set M := (Finset.range (B * n)).sup L with hM
    by_cases h : M = ⊤ ∨ M = ⊥
    · rw [soft2_inf _ hε L V h]
      have h0 : ∀ k ∈ Finset.range (B * n), Ideal.exp2 (L k - M) = 0 := by
        intro k hk
        rcases h with h | h
        · rw [h, sub_top, Ideal.exp2_bot]
        · have : L k = ⊥ := le_bot_iff.mp (h ▸ Finset.le_sup (f := L) hk)
          rw [this, sub_eq_add_neg, EReal.bot_add, Ideal.exp2_bot]
      rw [Finset.sum_eq_zero (f := fun k => V k * Ideal.exp2 (L k - M)) fun k hk => by rw [h0 k hk, mul_zero], div_zero hε]
    · unfold soft2 base
      rw [← hM, if_neg h]
      obtain ⟨d, hd, ed⟩ := sum_real (Finset.range (B * n)) (fun k => Ideal.exp2 (L k - M)) fun k hk =>
        exp2_real (sub_ne_top (Finset.le_sup (f := L) hk))
      obtain ⟨c, hc, ec⟩ := div_real he d
      rw [ed]
      simp only [ec]
      rw [mul_comm, real_mul_sum _ _ hc]
      refine Finset.sum_congr rfl fun k _ => ?_
      rw [mul_comm, mul_assoc]

/-! ## From base two to the natural base -/

/-- The softmax average of the values `V` under the natural scores `x`. -/
def soft {ι : Type} (K : Finset ι) (ε : EReal) (x V : ι → EReal) : EReal :=
  ∑ k ∈ K, V k * Ideal.div (Ideal.exp (x k - base (K.sup x)))
    (max (∑ k ∈ K, Ideal.exp (x k - base (K.sup x))) ε)

theorem log2_pos : (0 : ℝ) < (Real.log 2)⁻¹ := inv_pos.mpr (Real.log_pos one_lt_two)

theorem exp2_scaled (y : EReal) : Ideal.exp2 (((Real.log 2)⁻¹ : ℝ) * y) = Ideal.exp y := by
  induction y with
  | bot => rw [EReal.coe_mul_bot_of_pos log2_pos]; simp
  | top => rw [EReal.coe_mul_top_of_pos log2_pos]; simp
  | coe r =>
    rw [← EReal.coe_mul, Ideal.exp2_coe, Ideal.exp_coe]
    congr 1
    show (2 : ℝ) ^ ((Real.log 2)⁻¹ * r) = _
    rw [Real.rpow_def_of_pos two_pos, ← mul_assoc, mul_inv_cancel₀ (Real.log_pos one_lt_two).ne', one_mul]

theorem real_mul_add {c : ℝ} (hc : 0 ≤ c) (x y : EReal) : (c : EReal) * (x + y) = c * x + c * y :=
  EReal.left_distrib_of_nonneg_of_ne_top (by exact_mod_cast hc) (EReal.coe_ne_top _) _ _

theorem real_mul_sub {c : ℝ} (hc : 0 ≤ c) (x y : EReal) : (c : EReal) * (x - y) = c * x - c * y := by
  rw [sub_eq_add_neg, real_mul_add hc, mul_neg, ← sub_eq_add_neg]

theorem sup_scaled {ι : Type} (K : Finset ι) {c : ℝ} (hc : 0 < c) (x : ι → EReal) :
    K.sup (fun k => (c : EReal) * x k) = c * K.sup x := by
  classical
  induction K using Finset.induction_on with
  | empty => simp [EReal.coe_mul_bot_of_pos hc]
  | insert a s ha ih =>
    rw [Finset.sup_insert, Finset.sup_insert, ih]
    have hmono : Monotone fun y : EReal => (c : EReal) * y :=
      fun y z h => mul_le_mul_of_nonneg_left h (by exact_mod_cast hc.le)
    exact (hmono.map_max).symm

theorem base_scaled {c : ℝ} (hc : 0 < c) (M : EReal) : base ((c : EReal) * M) = c * base M := by
  induction M with
  | bot => rw [EReal.coe_mul_bot_of_pos hc]; simp [base]
  | top => rw [EReal.coe_mul_top_of_pos hc]; simp [base]
  | coe r =>
    unfold base
    rw [← EReal.coe_mul, if_neg (by simp [-EReal.coe_mul]), if_neg (by simp), EReal.coe_mul]

/-- Scores multiplied by `1 / log 2` and raised from two average as the scores themselves raised from `e`. -/
theorem soft2_scaled {ι : Type} (K : Finset ι) (ε : EReal) (x V : ι → EReal) :
    soft2 K ε (fun k => (((Real.log 2)⁻¹ : ℝ) : EReal) * x k) V = soft K ε x V := by
  unfold soft2 soft
  rw [sup_scaled K log2_pos, base_scaled log2_pos]
  simp only [← real_mul_sub log2_pos.le, exp2_scaled]

/-- Keys whose score is `⊥` do not count. -/
theorem soft_subset {ι : Type} {K K' : Finset ι} (h : K ⊆ K') {ε : EReal} (hε : 0 < ε) (x V : ι → EReal)
    (hx : ∀ k ∈ K', k ∉ K → x k = ⊥) : soft K ε x V = soft K' ε x V := by
  have hs : K.sup x = K'.sup x := by
    apply le_antisymm (Finset.sup_mono h)
    refine Finset.sup_le fun k hk => ?_
    by_cases hK : k ∈ K
    · exact Finset.le_sup (f := x) hK
    · rw [hx k hk hK]; exact bot_le
  have h0 : ∀ k ∈ K', k ∉ K → ∀ b : EReal, Ideal.exp (x k - b) = 0 := fun k hk hK b => by
    rw [hx k hk hK, sub_eq_add_neg, EReal.bot_add, Ideal.exp_bot]
  unfold soft
  rw [hs, Finset.sum_subset (f := fun k => Ideal.exp (x k - base (K'.sup x))) h fun k hk hK => h0 k hk hK _]
  exact Finset.sum_subset h fun k hk hK => by rw [h0 k hk hK, div_zero hε, mul_zero]

/-- Keys numbered by `Fin n` are keys below `n`. -/
theorem soft_fin (n : ℕ) (ε : EReal) (x V : ℕ → EReal) :
    soft (Finset.univ : Finset (Fin n)) ε (fun k => x k) (fun k => V k) = soft (Finset.range n) ε x V := by
  have hs : (Finset.univ.sup fun k : Fin n => x k) = (Finset.range n).sup x := by
    apply le_antisymm
    · exact Finset.sup_le fun k _ => Finset.le_sup (f := x) (Finset.mem_range.mpr k.isLt)
    · exact Finset.sup_le fun k hk =>
        Finset.le_sup (f := fun k : Fin n => x k) (Finset.mem_univ ⟨k, Finset.mem_range.mp hk⟩)
  unfold soft
  rw [hs, Finset.sum_range (fun k => Ideal.exp (x k - base ((Finset.range n).sup x))), Finset.sum_range]

end Cert.Stream

end
-- ==== Proof.Words.lean ====
/- The integer words of the FoX attention kernel: the block on the diagonal, the loops' trip counts, the offsets of a
   block, and the causal mask's comparison. -/
module

public import proofs.«01_k».proof.Proof.Gen.FoxIdeal.Loops
public import Idealize.ShloMosaic.Lib.LoopRemainder
public import Idealize.ShloMosaic.Lib.WordCmp

@[expose] public section

noncomputable section

namespace Cert.FoxIdeal.Point

open Idealize.ShloMosaic Idealize.ShloMosaic.TcCoe
open Cert.FoxIdeal.Gen

/-- The first query position of the point's block, as the kernel computes it. -/
def q0W (n : ℕ) : BitVec 32 := Scalar.muli (BitVec.ofNat 32 n) 512#32

/-- The key block on the diagonal: the floor of the first position by 1024. -/
def diagW (n : ℕ) : BitVec 32 :=
  Scalar.select
    (Scalar.andi
      (Scalar.cmpi .ne
        (Scalar.subi (Scalar.extui (Scalar.cmpi .sgt (q0W n) 0#32)) (Scalar.extui (Scalar.cmpi .slt (q0W n) 0#32)))
        (Scalar.subi (Scalar.extui (Scalar.cmpi .sgt 1024#32 0#32)) (Scalar.extui (Scalar.cmpi .slt 1024#32 0#32))))
      (Scalar.cmpi .ne (Scalar.remsi (q0W n) 1024#32) 0#32))
    (Scalar.subi (Scalar.divsi (q0W n) 1024#32) 1#32) (Scalar.divsi (q0W n) 1024#32)

theorem q0W_eq (n : Fin 8) : q0W n.val = BitVec.ofNat 32 (512 * n.val) := by
  revert n; decide +kernel

theorem diagW_eq (n : Fin 8) : diagW n.val = BitVec.ofNat 32 (n.val / 2) := by
  revert n; decide +kernel

/-- The loop over the blocks before the diagonal. -/
theorem trips1 (i : grid0.Coords) : (k0_t1_loop i).trips = (i 2).val / 2 := by
  have h : ∀ n : Fin 8, Scf.trips 0#32 (Scalar.addi 0#32 (Scalar.muli (Scalar.divsi (Scalar.subi (diagW n.val) 0#32) 1#32) 1#32)) 1#32
      = n.val / 2 := by decide +kernel
  exact h (i 2)

/-- The remainder loop makes no trip. -/
theorem trips2 (i : grid0.Coords) : (k0_t2_loop i).trips = 0 :=
  Scf.rem_trips 0#32 (Scalar.subi (diagW (i 2).val) 0#32)

/-- The words by which a trip finds its block. -/
theorem iv_word (k : Fin 4) : (Scalar.indexCast (Scf.iv 0#32 1#32 k.val)).toNat = k.val := by
  revert k; decide +kernel

theorem iv_key (k : Fin 4) : (Scalar.indexCast (Scalar.muli (Scf.iv 0#32 1#32 k.val) 1024#32)).toNat = 1024 * k.val := by
  revert k; decide +kernel

theorem diag_word (n : Fin 8) : (Scalar.indexCast (diagW n.val)).toNat = n.val / 2 := by
  revert n; decide +kernel

theorem diag_key (n : Fin 8) : (Scalar.indexCast (Scalar.muli (diagW n.val) 1024#32)).toNat = 1024 * (n.val / 2) := by
  revert n; decide +kernel

/-- A query's row in its block, as the kernel computes it: the remainder by 512, which changes nothing. -/
theorem row_word (t : Fin 512) :
    Scalar.select
        (IntOp.andi
          (IntOp.xori
            (IntOp.cmpi .slt (IntOp.remsi .vector (BitVec.ofNat 32 t.val) (Scalar.select (Scalar.cmpi .eq 512#32 0#32) 1#32 512#32)) 0#32)
            (Scalar.cmpi .slt (Scalar.select (Scalar.cmpi .eq 512#32 0#32) 1#32 512#32) 0#32))
          (IntOp.cmpi .ne (IntOp.remsi .vector (BitVec.ofNat 32 t.val) (Scalar.select (Scalar.cmpi .eq 512#32 0#32) 1#32 512#32)) 0#32))
        (IntOp.addi (IntOp.remsi .vector (BitVec.ofNat 32 t.val) (Scalar.select (Scalar.cmpi .eq 512#32 0#32) 1#32 512#32))
          (Scalar.select (Scalar.cmpi .eq 512#32 0#32) 1#32 512#32))
        (IntOp.remsi .vector (BitVec.ofNat 32 t.val) (Scalar.select (Scalar.cmpi .eq 512#32 0#32) 1#32 512#32))
      = BitVec.ofNat 32 t.val := by
  revert t; decide +kernel

/-- The causal mask's comparison at key `k` of the diagonal block and row `t` of the queries. -/
theorem mask_word {α : Type} (a : Fin 8) (k : Fin 1024) (t : Fin 512) (x y : α) :
    Scalar.select (IntOp.cmpi .sle (IntOp.addi (Scalar.muli (diagW a.val) 1024#32) (BitVec.ofNat 32 k.val))
        (IntOp.addi (q0W a.val) (BitVec.ofNat 32 t.val))) x y
      = if 1024 * (a.val / 2) + k.val ≤ 512 * a.val + t.val then x else y := by
  have h1 : IntOp.addi (Scalar.muli (diagW a.val) 1024#32) (BitVec.ofNat 32 k.val)
      = BitVec.ofNat 32 (1024 * (a.val / 2) + k.val) := by
    rw [diagW_eq, Nat.mul_comm 1024, BitVec.ofNat_add, BitVec.ofNat_mul]; rfl
  have h2 : IntOp.addi (q0W a.val) (BitVec.ofNat 32 t.val) = BitVec.ofNat 32 (512 * a.val + t.val) := by
    rw [q0W_eq, BitVec.ofNat_add]; rfl
  rw [h1, h2, WordCmp.cmpi_sle_ofNat (by norm_num; omega) (by norm_num; omega), WordCmp.select_decide]

/-- The first head's lanes, and the second's. -/
theorem lane_word0 (x : Fin 128) :
    IntOp.andi (IntOp.cmpi .sge (BitVec.ofNat 32 x.val) 0#32) (IntOp.cmpi .slt (BitVec.ofNat 32 x.val) 64#32)
      = BitVec.ofBool (decide (x.val < 64)) := by
  revert x; decide +kernel

theorem lane_word1 (x : Fin 128) :
    IntOp.andi (IntOp.cmpi .sge (BitVec.ofNat 32 x.val) 64#32) (IntOp.cmpi .slt (BitVec.ofNat 32 x.val) 128#32)
      = BitVec.ofBool (decide (¬ x.val < 64)) := by
  revert x; decide +kernel

end Cert.FoxIdeal.Point

end
-- ==== Proof.Steps.lean ====
/- What the printed arithmetic of the FoX attention kernel computes at one query, over the ideal values: a block's
   scores, and the step each head's running maximum, denominator and numerator take over a block of keys. -/
module

public import proofs.«01_k».proof.Proof.Gen.FoxIdeal.Value
public import proofs.«01_k».proof.Proof.Stream
public import proofs.«01_k».proof.Proof.Words
public import Idealize.ShloMosaic.Lib.Pointwise

@[expose] public section

set_option maxRecDepth 16384

noncomputable section

namespace Cert.FoxIdeal.Point

open Idealize.ShloMosaic Idealize.ShloMosaic.TcCoe Idealize.ShloMosaic.Tactic
open Idealize.SL Idealize.SL.Sem
open Cert.FoxIdeal.Gen Cert.Stream

/-! ## Constants -/

/-- The factor from natural to base-two logarithms. -/
def lam : EReal := (((Real.log 2)⁻¹ : ℝ) : EReal)

/-- The queries' scale, in base-two logarithms. -/
def qs : EReal := (((8 : ℝ)⁻¹ * (Real.log 2)⁻¹ : ℝ) : EReal)

theorem named_mask : (Named.named (F := Ideal) κ "mask" 0xF149F2CA#32 : Ideal .f32) = (⊥ : EReal) :=
  IdealRules.named_const.ideal_named_scalar _ _ _ _ rfl

theorem named_lam : (Named.named (F := Ideal) κ "log2e" 0x3FB8AA3B#32 : Ideal .f32) = lam :=
  IdealRules.named_const.ideal_named_scalar _ _ _ _ rfl

theorem neg_inf : (Scalar.ofBits .f32 0xFF800000#32 : Ideal .f32) = (⊥ : EReal) := by
  show Ideal.ofBits .f32 0xFF800000#32 = ⊥
  simp [Ideal.ofBits, Ideal.ieee]

/-! ## A block away from the diagonal -/

theorem pay5_at (v13 rb m KB CK) (t : Fin 512) (l a : EReal) (v : Fin 1024 → EReal) :
    k0_pay5 (F := Ideal) v13 rb m KB CK (ix2 0 t)
      = (step (B := 1024) (rb (ix2 0 t)) (fun k => k0_pay4 v13 KB CK (ix2 k t)) v (m (ix2 0 t), l, a)).1 := by
  pointwise [k0_pay5]
  rw [show Ideal.ofBits .f32 0xFF800000#32 = ⊥ from neg_inf]
  rfl

theorem pay8_at (v13 rb m l KB CK) (t : Fin 512) (a : EReal) (v : Fin 1024 → EReal) :
    k0_pay8 (F := Ideal) v13 rb m l KB CK (ix2 0 t)
      = (step (B := 1024) (rb (ix2 0 t)) (fun k => k0_pay4 v13 KB CK (ix2 k t)) v
          (m (ix2 0 t), l (ix2 0 t), a)).2.1 := by
  pointwise [k0_pay8, k0_pay6, k0_pay7, pay5_at v13 rb m KB CK t (l (ix2 0 t)) a v]
  rfl

theorem pay9_at (v13 rb m acc KB VB CK) (t : Fin 512) (d : Fin 128) (l : EReal) :
    k0_pay9 (F := Ideal) v13 rb m acc KB VB CK (ix2 d t)
      = (step (B := 1024) (rb (ix2 0 t)) (fun k => k0_pay4 v13 KB CK (ix2 k t)) (fun k => VB (ix5 0 0 0 d k))
          (m (ix2 0 t), l, acc (ix2 d t))).2.2 := by
  pointwise [k0_pay9, k0_pay3, k0_pay6, k0_pay7,
    pay5_at v13 rb m KB CK t l (acc (ix2 d t)) (fun k => VB (ix5 0 0 0 d k))]
  rfl

/-- The first head's scores of a block. -/
theorem pay4_at (v13 KB CK) (k : Fin 1024) (t : Fin 512) :
    k0_pay4 (F := Ideal) v13 KB CK (ix2 k t)
      = (∑ x : Fin 128, KB (ix3 0 k x) * v13 (ix2 t x)) + (0 - CK (ix5 0 0 0 k 0) * lam) := by
  pointwise [k0_pay4, k0_pay2, named_lam]

theorem pay29_at (v19 KB CK) (k : Fin 1024) (t : Fin 512) :
    k0_pay29 (F := Ideal) (k0_pay10 v19 KB) CK (ix2 k t)
      = (∑ x : Fin 128, KB (ix3 0 k x) * v19 (ix2 t x)) + (0 - CK (ix5 0 0 0 k 1) * lam) := by
  pointwise [k0_pay29, k0_pay10, k0_pay2, named_lam]

theorem pay30_at (rb m S CK) (t : Fin 512) (l a : EReal) (v : Fin 1024 → EReal) :
    k0_pay30 (F := Ideal) rb m S CK (ix2 0 t)
      = (step (B := 1024) (k0_pay25 rb (ix2 0 t)) (fun k => k0_pay29 S CK (ix2 k t)) v (m (ix2 0 t), l, a)).1 := by
  pointwise [k0_pay30]
  rw [show Ideal.ofBits .f32 0xFF800000#32 = ⊥ from neg_inf]
  rfl

theorem pay33_at (rb m l S CK) (t : Fin 512) (a : EReal) (v : Fin 1024 → EReal) :
    k0_pay33 (F := Ideal) rb m l S CK (ix2 0 t)
      = (step (B := 1024) (k0_pay25 rb (ix2 0 t)) (fun k => k0_pay29 S CK (ix2 k t)) v
          (m (ix2 0 t), l (ix2 0 t), a)).2.1 := by
  pointwise [k0_pay33, k0_pay31, k0_pay32, pay30_at rb m S CK t (l (ix2 0 t)) a v]
  rfl

theorem pay34_at (rb m acc VT S CK) (t : Fin 512) (d : Fin 128) (l : EReal) :
    k0_pay34 (F := Ideal) rb m acc VT S CK (ix2 d t)
      = (step (B := 1024) (k0_pay25 rb (ix2 0 t)) (fun k => k0_pay29 S CK (ix2 k t)) (fun k => VT (ix2 d k))
          (m (ix2 0 t), l, acc (ix2 d t))).2.2 := by
  pointwise [k0_pay34, k0_pay31, k0_pay32, pay30_at rb m S CK t l (acc (ix2 d t)) (fun k => VT (ix2 d k))]
  rfl

theorem pay3_at (VB) (d : Fin 128) (k : Fin 1024) : k0_pay3 (F := Ideal) VB (ix2 d k) = VB (ix5 0 0 0 d k) := by
  pointwise [k0_pay3]

/-! ## The block on the diagonal -/

theorem pay46_at (v0 v36 rb m S C) (t : Fin 512) (l a : EReal) (v : Fin 1024 → EReal) :
    k0_pay46 (F := Ideal) v0 v36 rb m S C (ix2 0 t)
      = (step (B := 1024) (rb (ix2 0 t)) (fun k => k0_pay45 v0 v36 S C (ix2 k t)) v (m (ix2 0 t), l, a)).1 := by
  pointwise [k0_pay46]
  rw [show Ideal.ofBits .f32 0xFF800000#32 = ⊥ from neg_inf]
  rfl

theorem pay49_at (v0 v36 rb m l S C) (t : Fin 512) (a : EReal) (v : Fin 1024 → EReal) :
    k0_pay49 (F := Ideal) v0 v36 rb m l S C (ix2 0 t)
      = (step (B := 1024) (rb (ix2 0 t)) (fun k => k0_pay45 v0 v36 S C (ix2 k t)) v
          (m (ix2 0 t), l (ix2 0 t), a)).2.1 := by
  pointwise [k0_pay49, k0_pay47, k0_pay48, pay46_at v0 v36 rb m S C t (l (ix2 0 t)) a v]
  rfl

theorem pay52_at (v0 v36 rb m acc VT S C) (t : Fin 512) (d : Fin 128) (l : EReal) :
    k0_pay52 (k0_pay50 (F := Ideal) v0 v36 rb m acc S C) (k0_pay51 v0 v36 rb m VT S C) (ix2 d t)
      = (step (B := 1024) (rb (ix2 0 t)) (fun k => k0_pay45 v0 v36 S C (ix2 k t)) (fun k => VT (ix2 d k))
          (m (ix2 0 t), l, acc (ix2 d t))).2.2 := by
  pointwise [k0_pay52, k0_pay50, k0_pay51, k0_pay47, k0_pay48,
    pay46_at v0 v36 rb m S C t l (acc (ix2 d t)) (fun k => VT (ix2 d k))]
  rfl

theorem pay54_at (v0 v19 v36 rb m K C) (t : Fin 512) (l a : EReal) (v : Fin 1024 → EReal) :
    k0_pay54 (F := Ideal) v0 v19 v36 rb m K C (ix2 0 t)
      = (step (B := 1024) (rb (ix2 0 t)) (fun k => k0_pay53 v0 v19 v36 K C (ix2 k t)) v (m (ix2 0 t), l, a)).1 := by
  pointwise [k0_pay54]
  rw [show Ideal.ofBits .f32 0xFF800000#32 = ⊥ from neg_inf]
  rfl

/-- The stored block: the first 64 lanes hold the first head's quotient, the others the second's. -/
theorem pay1_at (m1 l1 a1 VT l0 a0 v0 v19 v36 rb K C) (t : Fin 512) (d : Fin 128) :
    k0_pay1 (F := Ideal) l1 a1 VT l0 a0 (k0_pay53 v0 v19 v36 K C) (k0_pay55 v0 v19 v36 rb m1 K C)
        (k0_pay56 v0 v19 v36 rb m1 K C) (ix3 0 t d)
      = if d.val < 64 then Ideal.div (a0 (ix2 d t)) (max (l0 (ix2 0 t)) (Ideal.ofBits .f32 0x0DA24260#32))
        else
          let st := step (B := 1024) (rb (ix2 0 t)) (fun k => k0_pay53 v0 v19 v36 K C (ix2 k t)) (fun k => VT (ix2 d k))
            (m1 (ix2 0 t), l1 (ix2 0 t), a1 (ix2 d t))
          Ideal.div st.2.2 (max st.2.1 (Ideal.ofBits .f32 0x0DA24260#32)) := by
  pointwise [k0_pay1, k0_pay55, k0_pay56,
    pay54_at v0 v19 v36 rb m1 K C t (l1 (ix2 0 t)) (a1 (ix2 d t)) (fun k => VT (ix2 d k))]
  rw [WordCmp.cmpi_slt_ofNat (by norm_num; omega) (by norm_num), WordCmp.select_decide]
  rfl

/-- The causal mask of the diagonal block, and the first head's scores under it. -/
theorem pay45_at (a : Fin 8) (v13 KB CK) (k : Fin 1024) (t : Fin 512) :
    k0_pay45 (F := Ideal) (q0W a.val) (diagW a.val) (k0_pay43 v13 KB) (k0_pay44 CK) (ix2 k t)
      = if 1024 * (a.val / 2) + k.val ≤ 512 * a.val + t.val then k0_pay4 v13 KB CK (ix2 k t) else ⊥ := by
  rw [pay4_at]
  pointwise [k0_pay45, k0_pay43, k0_pay44, k0_pay41, named_lam, named_mask]
  rw [row_word, mask_word]

/-- The second head's scores under the mask. -/
theorem pay53_at (a : Fin 8) (v19 KB CK) (k : Fin 1024) (t : Fin 512) :
    k0_pay53 (F := Ideal) (q0W a.val) v19 (diagW a.val) (k0_pay41 KB) CK (ix2 k t)
      = if 1024 * (a.val / 2) + k.val ≤ 512 * a.val + t.val then k0_pay29 (k0_pay10 v19 KB) CK (ix2 k t) else ⊥ := by
  rw [pay29_at]
  pointwise [k0_pay53, k0_pay41, named_lam, named_mask]
  rw [row_word, mask_word]

/-! ## The queries and the row's bias -/

theorem named_qs : (Named.named (F := Ideal) κ "q_scale" 0x3E38AA3B#32 : Ideal .f32) = qs :=
  IdealRules.named_const.ideal_named_scalar _ _ _ _ rfl

theorem pay22_at (x0) (t : Fin 512) (x : Fin 128) :
    k0_pay22 (F := Ideal) x0 (ix2 t x) = if x.val < 64 then x0 (ix3 0 t x) * qs else 0 := by
  pointwise [k0_pay22, k0_pay20, k0_pay21, named_qs]
  rw [lane_word0, WordCmp.select_decide]

theorem pay23_at (x0) (t : Fin 512) (x : Fin 128) :
    k0_pay23 (F := Ideal) x0 (ix2 t x) = if ¬ x.val < 64 then x0 (ix3 0 t x) * qs else 0 := by
  pointwise [k0_pay23, k0_pay20, k0_pay21, named_qs]
  rw [lane_word1, WordCmp.select_decide]

theorem pay24_at (c) (t : Fin 512) : k0_pay24 (F := Ideal) c (ix2 0 t) = c (ix4 0 0 0 t) * lam := by
  pointwise [k0_pay24, named_lam]

theorem pay25_at (c) (t : Fin 512) : k0_pay25 (F := Ideal) c (ix2 0 t) = c (ix4 0 0 0 t) * lam := by
  pointwise [k0_pay25, named_lam]

theorem pay26_at (t : Fin 512) : k0_pay26 (F := Ideal) (ix2 0 t) = (⊥ : EReal) := by
  pointwise [k0_pay26, named_mask]

theorem pay27_at (t : Fin 512) : k0_pay27 (F := Ideal) (ix2 0 t) = (0 : EReal) := by
  pointwise [k0_pay27]

theorem pay28_at (d : Fin 128) (t : Fin 512) : k0_pay28 (F := Ideal) (ix2 d t) = (0 : EReal) := by
  pointwise [k0_pay28]

end Cert.FoxIdeal.Point

end
-- ==== Proof.Point.lean ====
/- One grid point of the FoX attention kernel: each column of the block it stores is the quotient of the stream over
   the key blocks up to the diagonal. -/
module

public import proofs.«01_k».proof.Proof.Steps

@[expose] public section

set_option maxRecDepth 16384

noncomputable section

namespace Cert.FoxIdeal.Point

open Idealize.ShloMosaic Idealize.ShloMosaic.TcCoe Idealize.ShloMosaic.Tactic
open Idealize.SL Idealize.SL.Sem
open Cert.FoxIdeal.Gen Cert.Stream

/-! ## The blocks a trip reads -/

theorem ld_key (x1 : Vec Ideal S1x4096x128 .bf16) (o : ℕ) (h) (y : Fin 1024) (x : Fin 128) (ho : o + y.val < 4096) :
    View.ld x1 (Rect.unit (s := S1x4096x128) ![0, o, 0] S1x1024x128.size h) (ix3 0 y x) = x1 (ix3 0 ⟨o + y.val, ho⟩ x) := by
  pointwise []

theorem ld_val (x2 : Vec Ideal S1x1x4x128x1024 .bf16) (o : ℕ) (h) (d : Fin 128) (y : Fin 1024) (ho : o < 4) :
    View.ld x2 (Rect.unit (s := S1x1x4x128x1024) ![0, 0, o, 0, 0] S1x1x1x128x1024.size h) (ix5 0 0 0 d y)
      = x2 (ix5 0 0 ⟨o, ho⟩ d y) := by
  pointwise []

theorem ld_bias (x4 : Vec Ideal S1x1x4x1024x2 .f32) (o : ℕ) (h) (y : Fin 1024) (e : Fin 2) (ho : o < 4) :
    View.ld x4 (Rect.unit (s := S1x1x4x1024x2) ![0, 0, o, 0, 0] S1x1x1x1024x2.size h) (ix5 0 0 0 y e)
      = x4 (ix5 0 0 ⟨o, ho⟩ y e) := by
  pointwise []

theorem ld_row0 (x3 : Vec Ideal S1x1x2x512 .f32) (h) (t : Fin 512) :
    View.ld x3 (Rect.unit (s := S1x1x2x512) ![0, 0, 0, 0] S1x1x1x512.size h) (ix4 0 0 0 t) = x3 (ix4 0 0 0 t) := by
  pointwise []

theorem ld_row1 (x3 : Vec Ideal S1x1x2x512 .f32) (h) (t : Fin 512) :
    View.ld x3 (Rect.unit (s := S1x1x2x512) ![0, 0, 1, 0] S1x1x1x512.size h) (ix4 0 0 0 t) = x3 (ix4 0 0 1 t) := by
  pointwise []

/-! ## A row of scores and of values, numbered by the key's position -/

/-- Lane `x` of head `e` in a block of two heads. -/
def lane (e : Fin 2) (x : Fin 64) : Fin 128 := ⟨64 * e.val + x.val, by omega⟩

/-- The score of key `n` before the mask, at query row `t` of the block, for head `e`. -/
def raw (x0 : Vec Ideal S1x512x128 .f32) (x1 : Vec Ideal S1x4096x128 .bf16) (x4 : Vec Ideal S1x1x4x1024x2 .f32)
    (e : Fin 2) (t : Fin 512) (n : ℕ) : EReal :=
  (∑ x : Fin 64, x1 (ix3 0 (Fin.ofNat 4096 n) (lane e x)) * (x0 (ix3 0 t (lane e x)) * qs))
    + (0 - x4 (ix5 0 0 (Fin.ofNat 4 (n / 1024)) (Fin.ofNat 1024 n) e) * lam)

/-- The score of key `n` under the causal mask; `a` is the query block. -/
def score (a : ℕ) (x0 : Vec Ideal S1x512x128 .f32) (x1 : Vec Ideal S1x4096x128 .bf16) (x4 : Vec Ideal S1x1x4x1024x2 .f32)
    (e : Fin 2) (t : Fin 512) (n : ℕ) : EReal :=
  if n ≤ 512 * a + t.val then raw x0 x1 x4 e t n else ⊥

/-- The value of key `n` in lane `d`. -/
def value (x2 : Vec Ideal S1x1x4x128x1024 .bf16) (d : Fin 128) (n : ℕ) : EReal :=
  x2 (ix5 0 0 (Fin.ofNat 4 (n / 1024)) d (Fin.ofNat 1024 n))

/-- The contraction over all lanes with the first head's lanes kept is the first head's. -/
theorem lanes0 (K Q : Fin 128 → EReal) :
    ∑ x : Fin 128, K x * (if x.val < 64 then Q x else 0) = ∑ x : Fin 64, K (lane 0 x) * Q (lane 0 x) := by
  rw [show (∑ x : Fin 128, K x * (if x.val < 64 then Q x else 0))
      = ∑ x : Fin (64 + 64), K x * (if x.val < 64 then Q x else 0) from rfl, Fin.sum_univ_add]
  rw [Finset.sum_eq_zero (s := Finset.univ) (f := fun x : Fin 64 => K (Fin.natAdd 64 x) * _)
    (fun x _ => by rw [if_neg (by simp), mul_zero]), add_zero]
  refine Finset.sum_congr rfl fun x _ => ?_
  have hx : (Fin.castAdd 64 x : Fin 128) = lane 0 x := Fin.ext (by simp [lane])
  rw [if_pos (by simp), hx]

theorem lanes1 (K Q : Fin 128 → EReal) :
    ∑ x : Fin 128, K x * (if ¬ x.val < 64 then Q x else 0) = ∑ x : Fin 64, K (lane 1 x) * Q (lane 1 x) := by
  rw [show (∑ x : Fin 128, K x * (if ¬ x.val < 64 then Q x else 0))
      = ∑ x : Fin (64 + 64), K x * (if ¬ x.val < 64 then Q x else 0) from rfl, Fin.sum_univ_add]
  rw [Finset.sum_eq_zero (s := Finset.univ) (f := fun x : Fin 64 => K (Fin.castAdd 64 x) * _)
    (fun x _ => by rw [if_neg (by simp), mul_zero]), zero_add]
  refine Finset.sum_congr rfl fun x _ => ?_
  have hx : (Fin.natAdd 64 x : Fin 128) = lane 1 x := Fin.ext (by simp [lane]; omega)
  rw [if_pos (by simp), hx]

section Block

variable (x0 : Vec Ideal S1x512x128 .f32) (x1 : Vec Ideal S1x4096x128 .bf16) (x2 : Vec Ideal S1x1x4x128x1024 .bf16)
  (x4 : Vec Ideal S1x1x4x1024x2 .f32) (j : ℕ) (hj : j < 4)

include hj

/-- The first head's scores of block `j`. -/
theorem raw0 (o o' : ℕ) (h h') (ho : o = 1024 * j) (ho' : o' = j) (y : Fin 1024) (t : Fin 512) :
    k0_pay4 (F := Ideal) (k0_pay22 x0) (View.ld x1 (Rect.unit (s := S1x4096x128) ![0, o, 0] S1x1024x128.size h))
        (View.ld x4 (Rect.unit (s := S1x1x4x1024x2) ![0, 0, o', 0, 0] S1x1x1x1024x2.size h')) (ix2 y t)
      = raw x0 x1 x4 0 t (1024 * j + y.val) := by
  subst ho ho'
  have hk : (⟨1024 * o' + y.val, by omega⟩ : Fin 4096) = Fin.ofNat 4096 (1024 * o' + y.val) :=
    Fin.ext (by simp [Fin.ofNat]; omega)
  have hb : (⟨o', hj⟩ : Fin 4) = Fin.ofNat 4 ((1024 * o' + y.val) / 1024) := Fin.ext (by simp [Fin.ofNat]; omega)
  have hy : y = Fin.ofNat 1024 (1024 * o' + y.val) := Fin.ext (by simp [Fin.ofNat]; omega)
  rw [pay4_at, ld_bias x4 o' h' y 0 hj]
  simp only [ld_key x1 (1024 * o') h y _ (by omega), pay22_at]
  rw [lanes0 (fun x => x1 (ix3 0 _ x)) (fun x => x0 (ix3 0 t x) * qs), hk, hb]
  unfold raw
  rw [← hy]

/-- The second head's. -/
theorem raw1 (o o' : ℕ) (h h') (ho : o = 1024 * j) (ho' : o' = j) (y : Fin 1024) (t : Fin 512) :
    k0_pay29 (F := Ideal) (k0_pay10 (k0_pay23 x0) (View.ld x1 (Rect.unit (s := S1x4096x128) ![0, o, 0] S1x1024x128.size h)))
        (View.ld x4 (Rect.unit (s := S1x1x4x1024x2) ![0, 0, o', 0, 0] S1x1x1x1024x2.size h')) (ix2 y t)
      = raw x0 x1 x4 1 t (1024 * j + y.val) := by
  subst ho ho'
  have hk : (⟨1024 * o' + y.val, by omega⟩ : Fin 4096) = Fin.ofNat 4096 (1024 * o' + y.val) :=
    Fin.ext (by simp [Fin.ofNat]; omega)
  have hb : (⟨o', hj⟩ : Fin 4) = Fin.ofNat 4 ((1024 * o' + y.val) / 1024) := Fin.ext (by simp [Fin.ofNat]; omega)
  have hy : y = Fin.ofNat 1024 (1024 * o' + y.val) := Fin.ext (by simp [Fin.ofNat]; omega)
  rw [pay29_at, ld_bias x4 o' h' y 1 hj]
  simp only [ld_key x1 (1024 * o') h y _ (by omega), pay23_at]
  rw [lanes1 (fun x => x1 (ix3 0 _ x)) (fun x => x0 (ix3 0 t x) * qs), hk, hb]
  unfold raw
  rw [← hy]

/-- The values of block `j`. -/
theorem value_at (o' : ℕ) (h) (ho' : o' = j) (y : Fin 1024) (d : Fin 128) :
    View.ld x2 (Rect.unit (s := S1x1x4x128x1024) ![0, 0, o', 0, 0] S1x1x1x128x1024.size h) (ix5 0 0 0 d y)
      = value x2 d (1024 * j + y.val) := by
  subst ho'
  have hb : (⟨o', hj⟩ : Fin 4) = Fin.ofNat 4 ((1024 * o' + y.val) / 1024) := Fin.ext (by simp [Fin.ofNat]; omega)
  have hy : y = Fin.ofNat 1024 (1024 * o' + y.val) := Fin.ext (by simp [Fin.ofNat]; omega)
  rw [ld_val x2 o' h d y hj, hb]
  unfold value
  rw [← hy]

end Block

/-! ## The loop over the blocks before the diagonal -/

/-- What the loop carries: per head the running maximum, denominator and numerator. -/
abbrev Carried : Type :=
  FVec Ideal S1x512 .f32 × FVec Ideal S1x512 .f32 × FVec Ideal S128x512 .f32 × FVec Ideal S1x512 .f32 × FVec Ideal S1x512 .f32 × FVec Ideal S128x512 .f32

/-- The first head's state at query row `t` and lane `d`. -/
def col0 (t : Fin 512) (d : Fin 128) (st : Carried) : EReal × EReal × EReal :=
  (st.1 (ix2 0 t), st.2.1 (ix2 0 t), st.2.2.1 (ix2 d t))

/-- The second head's. -/
def col1 (t : Fin 512) (d : Fin 128) (st : Carried) : EReal × EReal × EReal :=
  (st.2.2.2.1 (ix2 0 t), st.2.2.2.2.1 (ix2 0 t), st.2.2.2.2.2 (ix2 d t))

/-- The loops' initial value. -/
def init : Carried := (k0_pay26, k0_pay27, k0_pay28, k0_pay26, k0_pay27, k0_pay28)

/-- The row of the queries' biases of the first head, and of the second, as the body loads them. -/
def row0 (x3 : Vec Ideal S1x1x2x512 .f32) : Vec Ideal S1x1x1x512 .f32 :=
  View.ld x3 (Rect.unit (s := S1x1x2x512) ![0, 0, 0, 0] S1x1x1x512.size inb_S1x1x2x512_S1x1x1x512_0_0_0_0)

def row1 (x3 : Vec Ideal S1x1x2x512 .f32) : Vec Ideal S1x1x1x512 .f32 :=
  View.ld x3 (Rect.unit (s := S1x1x2x512) ![0, 0, 1, 0] S1x1x1x512.size inb_S1x1x2x512_S1x1x1x512_0_0_1_0)

section Run

variable (c : Dev nD) (i : grid0.Coords)
    (arg3 : Memref sig .tc .vmem S1x512x128 .f32) (harg3 : arg3.IsWhole) (arg4 : Memref sig .tc .vmem S1x4096x128 .bf16) (harg4 : arg4.IsWhole)
    (arg5 : Memref sig .tc .vmem S1x1x4x128x1024 .bf16) (harg5 : arg5.IsWhole) (arg6 : Memref sig .tc .vmem S1x1x2x512 .f32) (harg6 : arg6.IsWhole)
    (arg7 : Memref sig .tc .vmem S1x1x4x1024x2 .f32) (harg7 : arg7.IsWhole) (arg8 : Memref sig .tc .vmem S1x512x128 .bf16) (harg8 : arg8.IsWhole)
    (x0 : Vec Ideal S1x512x128 .f32) (x1 : Vec Ideal S1x4096x128 .bf16) (x2 : Vec Ideal S1x1x4x128x1024 .bf16)
    (x3 : Vec Ideal S1x1x2x512 .f32) (x4 : Vec Ideal S1x1x4x1024x2 .f32)

/-- The loop's carried value before trip `k`. -/
def carried (k : ℕ) : Carried :=
  st_k0_t1 (F := Ideal) Variants.none c none i arg3 harg3 arg4 harg4 arg5 harg5 arg6 harg6 arg7 harg7 arg8 harg8 (k0_pay22 x0) (k0_pay23 x0)
    (diagW (i 2).val) (row0 x3) (row1 x3) (harg4.unread x1) (harg5.unread x2) (harg7.unread x4) init k

/-- One trip, on the blocks it reads. -/
theorem trip_eq (k : Fin (k0_t1_loop i).trips) (acc : Carried) :
    tripR_k0_t1 (F := Ideal) Variants.none c none i arg3 harg3 arg4 harg4 arg5 harg5 arg6 harg6 arg7 harg7 arg8 harg8 (k0_pay22 x0) (k0_pay23 x0)
        (diagW (i 2).val) (row0 x3) (row1 x3) (harg4.unread x1) (harg5.unread x2) (harg7.unread x4) k acc
      = let KB := View.ld x1 (Rect.unit (s := S1x4096x128) (k0_off1 i k) S1x1024x128.size (k0_off1_inb i k))
        let VB := View.ld x2 (Rect.unit (s := S1x1x4x128x1024) (k0_off2 i k) S1x1x1x128x1024.size (k0_off2_inb i k))
        let CK := View.ld x4 (Rect.unit (s := S1x1x4x1024x2) (k0_off3 i k) S1x1x1x1024x2.size (k0_off3_inb i k))
        (k0_pay5 (k0_pay22 x0) (k0_pay24 (row0 x3)) acc.1 KB CK,
          k0_pay8 (k0_pay22 x0) (k0_pay24 (row0 x3)) acc.1 acc.2.1 KB CK,
          k0_pay9 (k0_pay22 x0) (k0_pay24 (row0 x3)) acc.1 acc.2.2.1 KB VB CK,
          k0_pay30 (row1 x3) acc.2.2.2.1 (k0_pay10 (k0_pay23 x0) KB) CK,
          k0_pay33 (row1 x3) acc.2.2.2.1 acc.2.2.2.2.1 (k0_pay10 (k0_pay23 x0) KB) CK,
          k0_pay34 (row1 x3) acc.2.2.2.1 acc.2.2.2.2.2 (k0_pay3 VB) (k0_pay10 (k0_pay23 x0) KB) CK) := by
  unfold tripR_k0_t1 trip_k0_t1
  dsimp only
  sl_unfold_words
  simp only [View.readAt_eq_ld, harg4.read_unread, harg5.read_unread, harg7.read_unread]

/-- A trip is a step of each head's stream. -/
theorem trip_col (k : Fin (k0_t1_loop i).trips) (acc : Carried) (t : Fin 512) (d : Fin 128) :
    let T := tripR_k0_t1 (F := Ideal) Variants.none c none i arg3 harg3 arg4 harg4 arg5 harg5 arg6 harg6 arg7 harg7 arg8 harg8 (k0_pay22 x0) (k0_pay23 x0)
        (diagW (i 2).val) (row0 x3) (row1 x3) (harg4.unread x1) (harg5.unread x2) (harg7.unread x4) k acc
    col0 t d T = step (B := 1024) (x3 (ix4 0 0 0 t) * lam) (fun y => score (i 2).val x0 x1 x4 0 t (1024 * k.val + y))
        (fun y => value x2 d (1024 * k.val + y)) (col0 t d acc)
    ∧ col1 t d T = step (B := 1024) (x3 (ix4 0 0 1 t) * lam) (fun y => score (i 2).val x0 x1 x4 1 t (1024 * k.val + y))
        (fun y => value x2 d (1024 * k.val + y)) (col1 t d acc) := by
  have hk : k.val < (i 2).val / 2 := lt_of_lt_of_eq k.isLt (trips1 i)
  have hi : (i 2).val < 8 := (i 2).isLt
  have hk4 : k.val < 4 := by omega
  have hs : ∀ (e : Fin 2) (y : Fin 1024), score (i 2).val x0 x1 x4 e t (1024 * k.val + y)
      = raw x0 x1 x4 e t (1024 * k.val + y) := fun e y => if_pos (by omega)
  have w1 : (Scalar.indexCast (Scalar.muli (Scf.iv 0#32 1#32 k.val) 1024#32)).toNat = 1024 * k.val := iv_key ⟨k.val, hk4⟩
  have w2 : (Scalar.indexCast (Scf.iv 0#32 1#32 k.val)).toNat = k.val := iv_word ⟨k.val, hk4⟩
  have hV : ∀ y : Fin 1024, View.ld x2 (Rect.unit (s := S1x1x4x128x1024) (k0_off2 i k) S1x1x1x128x1024.size (k0_off2_inb i k)) (ix5 0 0 0 d y)
      = value x2 d (1024 * k.val + y) := fun y => value_at x2 k.val hk4 _ _ w2 y d
  have h0 : ∀ y : Fin 1024, k0_pay4 (F := Ideal) (k0_pay22 x0)
      (View.ld x1 (Rect.unit (s := S1x4096x128) (k0_off1 i k) S1x1024x128.size (k0_off1_inb i k)))
      (View.ld x4 (Rect.unit (s := S1x1x4x1024x2) (k0_off3 i k) S1x1x1x1024x2.size (k0_off3_inb i k))) (ix2 y t)
      = raw x0 x1 x4 0 t (1024 * k.val + y) := fun y => raw0 x0 x1 x4 k.val hk4 _ _ _ _ w1 w2 y t
  have h1 : ∀ y : Fin 1024, k0_pay29 (F := Ideal) (k0_pay10 (k0_pay23 x0)
      (View.ld x1 (Rect.unit (s := S1x4096x128) (k0_off1 i k) S1x1024x128.size (k0_off1_inb i k))))
      (View.ld x4 (Rect.unit (s := S1x1x4x1024x2) (k0_off3 i k) S1x1x1x1024x2.size (k0_off3_inb i k))) (ix2 y t)
      = raw x0 x1 x4 1 t (1024 * k.val + y) := fun y => raw1 x0 x1 x4 k.val hk4 _ _ _ _ w1 w2 y t
  have hr0 : k0_pay24 (row0 x3) (ix2 0 t) = x3 (ix4 0 0 0 t) * lam := by rw [pay24_at, row0, ld_row0]
  have hr1 : k0_pay25 (row1 x3) (ix2 0 t) = x3 (ix4 0 0 1 t) * lam := by rw [pay25_at, row1, ld_row1]
  intro T
  have hT : T = _ := trip_eq c i arg3 harg3 arg4 harg4 arg5 harg5 arg6 harg6 arg7 harg7 arg8 harg8 x0 x1 x2 x3 x4 k acc
  rw [hT]
  simp only [hs]
  refine ⟨Prod.ext ?_ (Prod.ext ?_ ?_), Prod.ext ?_ (Prod.ext ?_ ?_)⟩
  · refine (pay5_at _ _ _ _ _ t (acc.2.1 (ix2 0 t)) (acc.2.2.1 (ix2 d t)) (fun y => value x2 d (1024 * k.val + y))).trans ?_
    rw [hr0]; simp only [h0]; rfl
  · refine (pay8_at _ _ _ _ _ _ t (acc.2.2.1 (ix2 d t)) (fun y => value x2 d (1024 * k.val + y))).trans ?_
    rw [hr0]; simp only [h0]; rfl
  · refine (pay9_at _ _ _ _ _ _ _ t d (acc.2.1 (ix2 0 t))).trans ?_
    rw [hr0]; simp only [h0, hV]; rfl
  · refine (pay30_at _ _ _ _ t (acc.2.2.2.2.1 (ix2 0 t)) (acc.2.2.2.2.2 (ix2 d t)) (fun y => value x2 d (1024 * k.val + y))).trans ?_
    rw [hr1]; simp only [h1]; rfl
  · refine (pay33_at _ _ _ _ _ t (acc.2.2.2.2.2 (ix2 d t)) (fun y => value x2 d (1024 * k.val + y))).trans ?_
    rw [hr1]; simp only [h1]; rfl
  · refine (pay34_at _ _ _ _ _ _ t d (acc.2.2.2.2.1 (ix2 0 t))).trans ?_
    rw [hr1]; simp only [h1, pay3_at, hV]; rfl

/-- After `k` blocks each head carries its stream's state. -/
theorem carried_col (t : Fin 512) (d : Fin 128) (k : ℕ) (hk : k ≤ (i 2).val / 2) :
    col0 t d (carried c i arg3 harg3 arg4 harg4 arg5 harg5 arg6 harg6 arg7 harg7 arg8 harg8 x0 x1 x2 x3 x4 k)
        = stream 1024 (x3 (ix4 0 0 0 t) * lam) (score (i 2).val x0 x1 x4 0 t) (value x2 d) k
    ∧ col1 t d (carried c i arg3 harg3 arg4 harg4 arg5 harg5 arg6 harg6 arg7 harg7 arg8 harg8 x0 x1 x2 x3 x4 k)
        = stream 1024 (x3 (ix4 0 0 1 t) * lam) (score (i 2).val x0 x1 x4 1 t) (value x2 d) k := by
  induction k with
  | zero =>
    unfold carried
    rw [st_k0_t1_zero]
    exact ⟨Prod.ext (pay26_at t) (Prod.ext (pay27_at t) (pay28_at d t)), Prod.ext (pay26_at t) (Prod.ext (pay27_at t) (pay28_at d t))⟩
  | succ k ih =>
    have ih := ih (by omega)
    have hs := st_k0_t1_succ (F := Ideal) Variants.none c none i arg3 harg3 arg4 harg4 arg5 harg5 arg6 harg6 arg7 harg7 arg8 harg8 (k0_pay22 x0) (k0_pay23 x0)
      (diagW (i 2).val) (row0 x3) (row1 x3) (harg4.unread x1) (harg5.unread x2) (harg7.unread x4) init ⟨k, by rw [trips1]; omega⟩
    have ht := trip_col c i arg3 harg3 arg4 harg4 arg5 harg5 arg6 harg6 arg7 harg7 arg8 harg8 x0 x1 x2 x3 x4 ⟨k, by rw [trips1]; omega⟩ (carried c i arg3 harg3 arg4 harg4 arg5 harg5 arg6 harg6 arg7 harg7 arg8 harg8 x0 x1 x2 x3 x4 k) t d
    have he : carried c i arg3 harg3 arg4 harg4 arg5 harg5 arg6 harg6 arg7 harg7 arg8 harg8 x0 x1 x2 x3 x4 (k + 1) = _ := hs
    rw [he]
    exact ⟨ht.1.trans (congrArg _ ih.1), ht.2.trans (congrArg _ ih.2)⟩

/-! ## The block on the diagonal and the block stored -/

/-- Both loops' result: the remainder loop makes no trip. -/
theorem carried_all :
    st_k0_t2 (F := Ideal) Variants.none c none i arg3 harg3 arg4 harg4 arg5 harg5 arg6 harg6 arg7 harg7 arg8 harg8 (k0_pay22 x0) (k0_pay23 x0)
        (diagW (i 2).val) (row0 x3) (row1 x3)
        (Scalar.addi 0#32 (Scalar.muli (Scalar.divsi (Scalar.subi (diagW (i 2).val) 0#32) 1#32) 1#32))
        (harg4.unread x1) (harg5.unread x2) (harg7.unread x4)
        (carried c i arg3 harg3 arg4 harg4 arg5 harg5 arg6 harg6 arg7 harg7 arg8 harg8 x0 x1 x2 x3 x4 (k0_t1_loop i).trips) (k0_t2_loop i).trips
      = carried c i arg3 harg3 arg4 harg4 arg5 harg5 arg6 harg6 arg7 harg7 arg8 harg8 x0 x1 x2 x3 x4 ((i 2).val / 2) := by
  rw [trips2, st_k0_t2_zero, trips1]

set_option maxHeartbeats 2000000 in
/-- The stored block, in the payloads. -/
theorem out_eq :
    out0_A_5 (F := Ideal) c i arg3 harg3 arg4 harg4 arg5 harg5 arg6 harg6 arg7 harg7 arg8 harg8 x0 x1 x2 x3 x4
      = let L := carried c i arg3 harg3 arg4 harg4 arg5 harg5 arg6 harg6 arg7 harg7 arg8 harg8 x0 x1 x2 x3 x4 ((i 2).val / 2)
        let KB := View.ld x1 (Rect.unit (s := S1x4096x128) (k0_off7 i) S1x1024x128.size (k0_off7_inb i))
        let VB := View.ld x2 (Rect.unit (s := S1x1x4x128x1024) (k0_off8 i) S1x1x1x128x1024.size (k0_off8_inb i))
        let CK := View.ld x4 (Rect.unit (s := S1x1x4x1024x2) (k0_off9 i) S1x1x1x1024x2.size (k0_off9_inb i))
        let a := (i 2).val
        k0_pay1 L.2.2.2.2.1 L.2.2.2.2.2 (k0_pay42 VB)
          (k0_pay49 (q0W a) (diagW a) (k0_pay24 (row0 x3)) L.1 L.2.1 (k0_pay43 (k0_pay22 x0) KB) (k0_pay44 CK))
          (k0_pay52
            (k0_pay50 (q0W a) (diagW a) (k0_pay24 (row0 x3)) L.1 L.2.2.1 (k0_pay43 (k0_pay22 x0) KB) (k0_pay44 CK))
            (k0_pay51 (q0W a) (diagW a) (k0_pay24 (row0 x3)) L.1 (k0_pay42 VB) (k0_pay43 (k0_pay22 x0) KB) (k0_pay44 CK)))
          (k0_pay53 (q0W a) (k0_pay23 x0) (diagW a) (k0_pay41 KB) CK)
          (k0_pay55 (q0W a) (k0_pay23 x0) (diagW a) (k0_pay25 (row1 x3)) L.2.2.2.1 (k0_pay41 KB) CK)
          (k0_pay56 (q0W a) (k0_pay23 x0) (diagW a) (k0_pay25 (row1 x3)) L.2.2.2.1 (k0_pay41 KB) CK) := by
  rw [← carried_all]
  dsimp only
  unfold carried row0 row1 init diagW q0W
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  have hz : (![0, 0, 0] : Fin 3 → ℕ) = (fun _ => 0) := by funext a; fin_cases a <;> rfl
  rw [View.canon_unit_zero hz]
  sl_unfold_words
  simp only [View.readAt_eq_ld, harg3.read_unread, harg4.read_unread, harg5.read_unread, harg6.read_unread,
    harg7.read_unread, View.ld_unit_zero (S := S1x512x128) hz]
  congr 1

/-- A key of the diagonal block: its values. -/
theorem pay42_at (VB) (d : Fin 128) (k : Fin 1024) : k0_pay42 (F := Ideal) VB (ix2 d k) = VB (ix5 0 0 0 d k) := by
  pointwise [k0_pay42]

/-- The row of biases of head `e`. -/
def bias (x3 : Vec Ideal S1x1x2x512 .f32) (e : Fin 2) (t : Fin 512) : EReal := x3 (ix4 0 0 e t) * lam

/-- The denominators' floor. -/
def floor : EReal := Ideal.ofBits .f32 0x0DA24260#32

/-- Each column of the stored block is the quotient of its head's stream through the diagonal block. -/
theorem out_at (t : Fin 512) (d : Fin 128) :
    out0_A_5 (F := Ideal) c i arg3 harg3 arg4 harg4 arg5 harg5 arg6 harg6 arg7 harg7 arg8 harg8 x0 x1 x2 x3 x4 (ix3 0 t d)
      = let e : Fin 2 := if d.val < 64 then 0 else 1
        let st := stream 1024 (bias x3 e t) (score (i 2).val x0 x1 x4 e t) (value x2 d) ((i 2).val / 2 + 1)
        Ideal.div st.2.2 (max st.2.1 floor) := by
  have hi : (i 2).val < 8 := (i 2).isLt
  have hj : (i 2).val / 2 < 4 := by omega
  have w1 : (Scalar.indexCast (Scalar.muli (diagW (i 2).val) 1024#32)).toNat = 1024 * ((i 2).val / 2) := diag_key (i 2)
  have w2 : (Scalar.indexCast (diagW (i 2).val)).toNat = (i 2).val / 2 := diag_word (i 2)
  have hV : ∀ y : Fin 1024, View.ld x2 (Rect.unit (s := S1x1x4x128x1024) (k0_off8 i) S1x1x1x128x1024.size (k0_off8_inb i)) (ix5 0 0 0 d y)
      = value x2 d (1024 * ((i 2).val / 2) + y) := fun y => value_at x2 _ hj _ _ w2 y d
  have h0 : ∀ y : Fin 1024, k0_pay4 (F := Ideal) (k0_pay22 x0)
      (View.ld x1 (Rect.unit (s := S1x4096x128) (k0_off7 i) S1x1024x128.size (k0_off7_inb i)))
      (View.ld x4 (Rect.unit (s := S1x1x4x1024x2) (k0_off9 i) S1x1x1x1024x2.size (k0_off9_inb i))) (ix2 y t)
      = raw x0 x1 x4 0 t (1024 * ((i 2).val / 2) + y) := fun y => raw0 x0 x1 x4 _ hj _ _ _ _ w1 w2 y t
  have h1 : ∀ y : Fin 1024, k0_pay29 (F := Ideal) (k0_pay10 (k0_pay23 x0)
      (View.ld x1 (Rect.unit (s := S1x4096x128) (k0_off7 i) S1x1024x128.size (k0_off7_inb i))))
      (View.ld x4 (Rect.unit (s := S1x1x4x1024x2) (k0_off9 i) S1x1x1x1024x2.size (k0_off9_inb i))) (ix2 y t)
      = raw x0 x1 x4 1 t (1024 * ((i 2).val / 2) + y) := fun y => raw1 x0 x1 x4 _ hj _ _ _ _ w1 w2 y t
  have hr0 : k0_pay24 (row0 x3) (ix2 0 t) = bias x3 0 t := by rw [pay24_at, row0, ld_row0]; rfl
  have hr1 : k0_pay25 (row1 x3) (ix2 0 t) = bias x3 1 t := by rw [pay25_at, row1, ld_row1]; rfl
  have hm0 := fun y => (pay45_at (i 2) (k0_pay22 x0)
      (View.ld x1 (Rect.unit (s := S1x4096x128) (k0_off7 i) S1x1024x128.size (k0_off7_inb i)))
      (View.ld x4 (Rect.unit (s := S1x1x4x1024x2) (k0_off9 i) S1x1x1x1024x2.size (k0_off9_inb i))) y t).trans
      (by rw [h0]; rfl : _ = score (i 2).val x0 x1 x4 0 t (1024 * ((i 2).val / 2) + y))
  have hm1 := fun y => (pay53_at (i 2) (k0_pay23 x0)
      (View.ld x1 (Rect.unit (s := S1x4096x128) (k0_off7 i) S1x1024x128.size (k0_off7_inb i)))
      (View.ld x4 (Rect.unit (s := S1x1x4x1024x2) (k0_off9 i) S1x1x1x1024x2.size (k0_off9_inb i))) y t).trans
      (by rw [h1]; rfl : _ = score (i 2).val x0 x1 x4 1 t (1024 * ((i 2).val / 2) + y))
  obtain ⟨hc0, hc1⟩ := carried_col c i arg3 harg3 arg4 harg4 arg5 harg5 arg6 harg6 arg7 harg7 arg8 harg8 x0 x1 x2 x3 x4 t d ((i 2).val / 2) le_rfl
  rw [out_eq]
  dsimp only
  rw [pay1_at]
  by_cases hd : d.val < 64
  · rw [if_pos hd, if_pos hd]
    rw [pay49_at _ _ _ _ _ _ _ t ((carried c i arg3 harg3 arg4 harg4 arg5 harg5 arg6 harg6 arg7 harg7 arg8 harg8 x0 x1 x2 x3 x4 ((i 2).val / 2)).2.2.1 (ix2 d t)) (fun y => value x2 d (1024 * ((i 2).val / 2) + y)),
      pay52_at _ _ _ _ _ _ _ _ t d ((carried c i arg3 harg3 arg4 harg4 arg5 harg5 arg6 harg6 arg7 harg7 arg8 harg8 x0 x1 x2 x3 x4 ((i 2).val / 2)).2.1 (ix2 0 t))]
    simp only [hm0, pay42_at, hV, hr0]
    have hst : stream 1024 (bias x3 0 t) (score (i 2).val x0 x1 x4 0 t) (value x2 d) ((i 2).val / 2 + 1)
      = step (bias x3 0 t) (fun y : Fin 1024 => score (i 2).val x0 x1 x4 0 t (1024 * ((i 2).val / 2) + y))
        (fun y : Fin 1024 => value x2 d (1024 * ((i 2).val / 2) + y)) (col0 t d (carried c i arg3 harg3 arg4 harg4 arg5 harg5 arg6 harg6 arg7 harg7 arg8 harg8 x0 x1 x2 x3 x4 ((i 2).val / 2))) :=
      congrArg _ hc0.symm
    rw [hst]; rfl
  · rw [if_neg hd, if_neg hd]
    simp only [hm1, pay42_at, hV, hr1]
    have hst : stream 1024 (bias x3 1 t) (score (i 2).val x0 x1 x4 1 t) (value x2 d) ((i 2).val / 2 + 1)
      = step (bias x3 1 t) (fun y : Fin 1024 => score (i 2).val x0 x1 x4 1 t (1024 * ((i 2).val / 2) + y))
        (fun y : Fin 1024 => value x2 d (1024 * ((i 2).val / 2) + y)) (col1 t d (carried c i arg3 harg3 arg4 harg4 arg5 harg5 arg6 harg6 arg7 harg7 arg8 harg8 x0 x1 x2 x3 x4 ((i 2).val / 2))) :=
      congrArg _ hc1.symm
    rw [hst]; rfl

end Run

end Cert.FoxIdeal.Point

end
-- ==== Proof.Attention.lean ====
/- FoX attention as one formula of its queries, keys, values and gate sums, and what a block's stream over the keys
   gives: the formula's value. -/
module

public import proofs.«01_k».proof.Proof.Stream

@[expose] public section

noncomputable section

namespace Cert.Attention

open Idealize.ShloMosaic Cert.Stream

/-- The denominators' floor. -/
def floor : EReal := Ideal.ofBits .f32 0x0DA24260#32

theorem floor_real : ∃ e : ℝ, 0 < e ∧ floor = (e : EReal) := by
  unfold floor
  simp [Ideal.ofBits, Ideal.ieee, -EReal.coe_mul]

/-- Lane `x` of head `h`. -/
def lane (h : Fin 16) (x : Fin 64) : Fin 1024 := ⟨64 * h.val + x.val, by omega⟩

/-- The head a lane belongs to. -/
def head (j : Fin 1024) : Fin 16 := ⟨j.val / 64, by omega⟩

section

variable (q k v : Fin 4 → Fin 4096 → Fin 1024 → EReal) (c : Fin 4 → Fin 4096 → Fin 16 → EReal)

/-- The score of key `n` for query `s`: the scaled product, and the gates between the two; `⊥` for a later key. -/
def logit (b : Fin 4) (h : Fin 16) (s : Fin 4096) (n : ℕ) : EReal :=
  if n ≤ s.val then
    (∑ x : Fin 64, q b s (lane h x) * k b (Fin.ofNat 4096 n) (lane h x)) * (((8 : ℝ)⁻¹ : ℝ) : EReal)
      + c b s h - c b (Fin.ofNat 4096 n) h
  else ⊥

/-- The attention's result at query `s` and lane `j`. -/
def attn (b : Fin 4) (s : Fin 4096) (j : Fin 1024) : EReal :=
  soft (Finset.univ : Finset (Fin 4096)) floor (fun n => logit q k c b (head j) s n.val)
    (fun n => v b (Fin.ofNat 4096 n.val) j)

variable {q k v c}

/-- The blocked stream over the keys through the query's block gives the attention. -/
theorem stream_attn (a : ℕ) (ha : a < 8) (t : Fin 512) (b : Fin 4) (j : Fin 1024) (rb : EReal) (S V : ℕ → EReal)
    (hrb : rb = c b ⟨512 * a + t.val, by omega⟩ (head j) * (((Real.log 2)⁻¹ : ℝ) : EReal))
    (hS : ∀ n, n < 4096 → S n = if n ≤ 512 * a + t.val then
      (∑ x : Fin 64, k b (Fin.ofNat 4096 n) (lane (head j) x)
          * (q b ⟨512 * a + t.val, by omega⟩ (lane (head j) x) * (((8 : ℝ)⁻¹ * (Real.log 2)⁻¹ : ℝ) : EReal)))
        + (0 - c b (Fin.ofNat 4096 n) (head j) * (((Real.log 2)⁻¹ : ℝ) : EReal)) else ⊥)
    (hV : ∀ n, n < 4096 → V n = v b (Fin.ofNat 4096 n) j) :
    Ideal.div (stream 1024 rb S V (a / 2 + 1)).2.2 (max (stream 1024 rb S V (a / 2 + 1)).2.1 floor)
      = attn q k v c b ⟨512 * a + t.val, by omega⟩ j := by
  obtain ⟨e, he, hf⟩ := floor_real
  have hL : ∀ n ∈ Finset.range (1024 * (a / 2 + 1)), S n + rb
      = (((Real.log 2)⁻¹ : ℝ) : EReal) * logit q k c b (head j) ⟨512 * a + t.val, by omega⟩ n := by
    intro n hn
    have hn := Finset.mem_range.mp hn
    rw [hS n (by omega), hrb]
    unfold logit
    split
    · rw [real_mul_sub log2_pos.le, real_mul_add log2_pos.le, mul_comm _ (((8 : ℝ)⁻¹ : ℝ) : EReal), ← mul_assoc,
        ← EReal.coe_mul, real_mul_sum _ _ (by have := log2_pos; positivity)]
      rw [show (∑ x : Fin 64, k b (Fin.ofNat 4096 n) (lane (head j) x)
          * (q b ⟨512 * a + t.val, by omega⟩ (lane (head j) x) * (((8 : ℝ)⁻¹ * (Real.log 2)⁻¹ : ℝ) : EReal)))
        = ∑ x : Fin 64, (((Real.log 2)⁻¹ * (8 : ℝ)⁻¹ : ℝ) : EReal)
          * (q b ⟨512 * a + t.val, by omega⟩ (lane (head j) x) * k b (Fin.ofNat 4096 n) (lane (head j) x)) from
        Finset.sum_congr rfl fun x _ => by rw [mul_comm (8 : ℝ)⁻¹]; ac_rfl]
      rw [sub_eq_add_neg, sub_eq_add_neg, zero_add, mul_comm (c b _ _), mul_comm (c b _ _)]
      ac_rfl
    · rw [EReal.bot_add, EReal.coe_mul_bot_of_pos log2_pos]
  have hcong : ∀ (ε : EReal) (K : Finset ℕ) (L L' W W' : ℕ → EReal), (∀ n ∈ K, L n = L' n) → (∀ n ∈ K, W n = W' n) →
      soft2 K ε L W = soft2 K ε L' W' := by
    intro ε K L L' W W' h h'
    unfold soft2
    have hs : K.sup L = K.sup L' := Finset.sup_congr rfl h
    have hsum : (∑ n ∈ K, Ideal.exp2 (L n - base (K.sup L))) = ∑ n ∈ K, Ideal.exp2 (L' n - base (K.sup L')) :=
      Finset.sum_congr rfl fun n hn => by rw [h n hn, hs]
    refine Finset.sum_congr rfl fun n hn => ?_
    rw [h n hn, h' n hn, hsum, hs]
  rw [hf, stream_quotient 1024 he, ← hf]
  rw [hcong _ _ _ _ _ (fun n => v b (Fin.ofNat 4096 n) j) hL fun n hn =>
    hV n (by have := Finset.mem_range.mp hn; omega)]
  rw [soft2_scaled]
  unfold attn
  rw [soft_fin 4096 floor (logit q k c b (head j) ⟨512 * a + t.val, by omega⟩) fun n => v b (Fin.ofNat 4096 n) j]
  refine soft_subset (Finset.range_subset_range.mpr (by omega)) (by rw [hf]; exact_mod_cast he) _ _ fun n _ hn => ?_
  have hn : ¬ n < 1024 * (a / 2 + 1) := fun h => hn (Finset.mem_range.mpr h)
  exact if_neg (show ¬ n ≤ 512 * a + t.val by omega)

end

end Cert.Attention

end
-- ==== Proof.Array.lean ====
/- The array the FoX attention kernel leaves: the attention of the argument arrays. Each grid point reads its blocks of
   the arguments, the stream over the key blocks gives the attention's rows, and the blocks tile the result. -/
module

public import proofs.«01_k».proof.Proof.Point
public import proofs.«01_k».proof.Proof.Attention
public import proofs.«01_k».proof.Proof.Gen.FoxIdeal.Value

@[expose] public section

set_option maxRecDepth 16384

noncomputable section

namespace Cert.FoxIdeal.Array

open Idealize.ShloMosaic Idealize.ShloMosaic.TcCoe Idealize.ShloMosaic.Tactic
open Idealize.SL Idealize.SL.Sem
open Idealize.ShloMosaic.Pipeline (Dat)
open Cert.FoxIdeal Cert.FoxIdeal.Gen Cert.Stream Cert.Attention

variable (m : (ℓ : Loc nD τ sig) → Buf (Elt Ideal) ℓ) (ρ : Dev nD → PrngReg) (c : Dev nD)

/-! ## The arguments, by position -/

def Q (b : Fin 4) (s : Fin 4096) (j : Fin 1024) : EReal :=
  (m ((c : Thread nD τ).loc main_arg0) : Vec Ideal S4x4096x1024 .f32) (ix3 b s j)

def K (b : Fin 4) (s : Fin 4096) (j : Fin 1024) : EReal :=
  (m ((c : Thread nD τ).loc main_arg1) : Vec Ideal S4x4096x1024 .f32) (ix3 b s j)

def W (b : Fin 4) (s : Fin 4096) (j : Fin 1024) : EReal :=
  (m ((c : Thread nD τ).loc main_arg2) : Vec Ideal S4x4096x1024 .f32) (ix3 b s j)

def C (b : Fin 4) (s : Fin 4096) (h : Fin 16) : EReal :=
  (m ((c : Thread nD τ).loc main_arg3) : Vec Ideal S4x4096x16 .f32) (ix3 b s h)

/-! ## The operands the host code prepares -/

theorem keys_at (b : Fin 4) (s : Fin 4096) (j : Fin 1024) :
    (V m c main_v0 : Vec Ideal S4x4096x1024 .bf16) (ix3 b s j) = K m c b s j := by
  entry_read
  pointwise [K]

theorem rows_at (b : Fin 4) (p : Fin 8) (e : Fin 2) (s : Fin 4096) :
    (V m c main_v3 : Vec Ideal S4x8x2x4096 .f32) (ix4 b p e s) = C m c b s ⟨2 * p.val + e.val, by omega⟩ := by
  rw [show (⟨2 * p.val + e.val, by omega⟩ : Fin 16) = ⟨p.val * 2 + e.val, by omega⟩ from Fin.ext (by dsimp only; omega)]
  entry_read
  pointwise [C]

theorem cols_at (b : Fin 4) (p : Fin 8) (o : Fin 4) (y : Fin 1024) (e : Fin 2) :
    (V m c main_v5 : Vec Ideal S4x8x4x1024x2 .f32) (ix5 b p o y e)
      = C m c b ⟨1024 * o.val + y.val, by omega⟩ ⟨2 * p.val + e.val, by omega⟩ := by
  rw [show (⟨2 * p.val + e.val, by omega⟩ : Fin 16) = ⟨p.val * 2 + e.val, by omega⟩ from Fin.ext (by dsimp only; omega),
    show (⟨1024 * o.val + y.val, by omega⟩ : Fin 4096) = ⟨o.val * 1024 + y.val, by omega⟩ from Fin.ext (by dsimp only; omega)]
  entry_read
  pointwise [C]

theorem vals_at (b : Fin 4) (p : Fin 8) (o : Fin 4) (d : Fin 128) (y : Fin 1024) :
    (V m c main_v7 : Vec Ideal S4x8x4x128x1024 .bf16) (ix5 b p o d y)
      = W m c b ⟨1024 * o.val + y.val, by omega⟩ ⟨128 * p.val + d.val, by omega⟩ := by
  rw [show (⟨128 * p.val + d.val, by omega⟩ : Fin 1024) = ⟨p.val * 128 + d.val, by omega⟩ from Fin.ext (by dsimp only; omega),
    show (⟨1024 * o.val + y.val, by omega⟩ : Fin 4096) = ⟨o.val * 1024 + y.val, by omega⟩ from Fin.ext (by dsimp only; omega)]
  entry_read
  pointwise [W]

/-! ## The blocks -/

theorem idx_facts : ∀ t : Fin cfg0.N,
    (win0_0.index t 0 = (grid0.coords t 0).val ∧ win0_0.index t 1 = (grid0.coords t 2).val ∧ win0_0.index t 2 = (grid0.coords t 1).val)
    ∧ (win0_1.index t 0 = (grid0.coords t 0).val ∧ win0_1.index t 1 = 0 ∧ win0_1.index t 2 = (grid0.coords t 1).val)
    ∧ (win0_2.index t 0 = (grid0.coords t 0).val ∧ win0_2.index t 1 = (grid0.coords t 1).val ∧ win0_2.index t 2 = 0
      ∧ win0_2.index t 3 = 0 ∧ win0_2.index t 4 = 0)
    ∧ (win0_3.index t 0 = (grid0.coords t 0).val ∧ win0_3.index t 1 = (grid0.coords t 1).val ∧ win0_3.index t 2 = 0
      ∧ win0_3.index t 3 = (grid0.coords t 2).val)
    ∧ (win0_4.index t 0 = (grid0.coords t 0).val ∧ win0_4.index t 1 = (grid0.coords t 1).val ∧ win0_4.index t 2 = 0
      ∧ win0_4.index t 3 = 0 ∧ win0_4.index t 4 = 0)
    ∧ (win0_5.index t 0 = (grid0.coords t 0).val ∧ win0_5.index t 1 = (grid0.coords t 2).val ∧ win0_5.index t 2 = (grid0.coords t 1).val) :=
  (by decide +kernel : ∀ t : Fin grid0.N, _)

/-- The batch, head pair and query block of a grid point. -/
abbrev bat (t : Fin cfg0.N) : Fin 4 := grid0.coords t 0
abbrev pair (t : Fin cfg0.N) : Fin 8 := grid0.coords t 1
abbrev blkq (t : Fin cfg0.N) : Fin 8 := grid0.coords t 2

theorem q_block (t : Fin cfg0.N) (r : Fin 512) (l : Fin 128) :
    (iblk m c 0 t : Vec Ideal S1x512x128 .f32) (ix3 0 r l)
      = Q m c (bat t) ⟨512 * (blkq t).val + r.val, by omega⟩ ⟨128 * (pair t).val + l.val, by omega⟩ := by
  obtain ⟨⟨h0, h1, h2⟩, -⟩ := idx_facts t
  have e : (((cfg0.win 0).blk t).view.emb (ix3 0 r l) : S4x4096x1024.Idx)
      = ix3 (bat t) ⟨512 * (blkq t).val + r.val, by omega⟩ ⟨128 * (pair t).val + l.val, by omega⟩ := by
    funext a
    apply Fin.ext
    match a with
    | ⟨0, _⟩ => show win0_0.index t 0 * 1 + 1 * 0 = (grid0.coords t 0).val; rw [h0]; omega
    | ⟨1, _⟩ => show win0_0.index t 1 * 512 + 1 * r.val = 512 * (grid0.coords t 2).val + r.val; rw [h1]; omega
    | ⟨2, _⟩ => show win0_0.index t 2 * 128 + 1 * l.val = 128 * (grid0.coords t 1).val + l.val; rw [h2]; omega
  show (V m c main_arg0 : Vec Ideal S4x4096x1024 .f32) (((cfg0.win 0).blk t).view.emb (ix3 0 r l)) = _
  rw [e, V_main_arg0]
  rfl

theorem k_block (t : Fin cfg0.N) (n : Fin 4096) (l : Fin 128) :
    (iblk m c 1 t : Vec Ideal S1x4096x128 .bf16) (ix3 0 n l)
      = K m c (bat t) n ⟨128 * (pair t).val + l.val, by omega⟩ := by
  obtain ⟨-, ⟨h0, h1, h2⟩, -⟩ := idx_facts t
  have e : (((cfg0.win 1).blk t).view.emb (ix3 0 n l) : S4x4096x1024.Idx)
      = ix3 (bat t) n ⟨128 * (pair t).val + l.val, by omega⟩ := by
    funext a
    apply Fin.ext
    match a with
    | ⟨0, _⟩ => show win0_1.index t 0 * 1 + 1 * 0 = (grid0.coords t 0).val; rw [h0]; omega
    | ⟨1, _⟩ => show win0_1.index t 1 * 4096 + 1 * n.val = n.val; rw [h1]; omega
    | ⟨2, _⟩ => show win0_1.index t 2 * 128 + 1 * l.val = 128 * (grid0.coords t 1).val + l.val; rw [h2]; omega
  show (V m c main_v0 : Vec Ideal S4x4096x1024 .bf16) (((cfg0.win 1).blk t).view.emb (ix3 0 n l)) = _
  rw [e, keys_at]

theorem v_block (t : Fin cfg0.N) (o : Fin 4) (d : Fin 128) (y : Fin 1024) :
    (iblk m c 2 t : Vec Ideal S1x1x4x128x1024 .bf16) (ix5 0 0 o d y)
      = W m c (bat t) ⟨1024 * o.val + y.val, by omega⟩ ⟨128 * (pair t).val + d.val, by omega⟩ := by
  obtain ⟨-, -, ⟨h0, h1, h2, h3, h4⟩, -⟩ := idx_facts t
  have e : (((cfg0.win 2).blk t).view.emb (ix5 0 0 o d y) : S4x8x4x128x1024.Idx) = ix5 (bat t) (pair t) o d y := by
    funext a
    apply Fin.ext
    match a with
    | ⟨0, _⟩ => show win0_2.index t 0 * 1 + 1 * 0 = (grid0.coords t 0).val; rw [h0]; omega
    | ⟨1, _⟩ => show win0_2.index t 1 * 1 + 1 * 0 = (grid0.coords t 1).val; rw [h1]; omega
    | ⟨2, _⟩ => show win0_2.index t 2 * 4 + 1 * o.val = o.val; rw [h2]; omega
    | ⟨3, _⟩ => show win0_2.index t 3 * 128 + 1 * d.val = d.val; rw [h3]; omega
    | ⟨4, _⟩ => show win0_2.index t 4 * 1024 + 1 * y.val = y.val; rw [h4]; omega
  show (V m c main_v7 : Vec Ideal S4x8x4x128x1024 .bf16) (((cfg0.win 2).blk t).view.emb (ix5 0 0 o d y)) = _
  rw [e, vals_at]

theorem r_block (t : Fin cfg0.N) (e' : Fin 2) (r : Fin 512) :
    (iblk m c 3 t : Vec Ideal S1x1x2x512 .f32) (ix4 0 0 e' r)
      = C m c (bat t) ⟨512 * (blkq t).val + r.val, by omega⟩ ⟨2 * (pair t).val + e'.val, by omega⟩ := by
  obtain ⟨-, -, -, ⟨h0, h1, h2, h3⟩, -⟩ := idx_facts t
  have e : (((cfg0.win 3).blk t).view.emb (ix4 0 0 e' r) : S4x8x2x4096.Idx)
      = ix4 (bat t) (pair t) e' ⟨512 * (blkq t).val + r.val, by omega⟩ := by
    funext a
    apply Fin.ext
    match a with
    | ⟨0, _⟩ => show win0_3.index t 0 * 1 + 1 * 0 = (grid0.coords t 0).val; rw [h0]; omega
    | ⟨1, _⟩ => show win0_3.index t 1 * 1 + 1 * 0 = (grid0.coords t 1).val; rw [h1]; omega
    | ⟨2, _⟩ => show win0_3.index t 2 * 2 + 1 * e'.val = e'.val; rw [h2]; omega
    | ⟨3, _⟩ => show win0_3.index t 3 * 512 + 1 * r.val = 512 * (grid0.coords t 2).val + r.val; rw [h3]; omega
  show (V m c main_v3 : Vec Ideal S4x8x2x4096 .f32) (((cfg0.win 3).blk t).view.emb (ix4 0 0 e' r)) = _
  rw [e, rows_at]

theorem c_block (t : Fin cfg0.N) (o : Fin 4) (y : Fin 1024) (e' : Fin 2) :
    (iblk m c 4 t : Vec Ideal S1x1x4x1024x2 .f32) (ix5 0 0 o y e')
      = C m c (bat t) ⟨1024 * o.val + y.val, by omega⟩ ⟨2 * (pair t).val + e'.val, by omega⟩ := by
  obtain ⟨-, -, -, -, ⟨h0, h1, h2, h3, h4⟩, -⟩ := idx_facts t
  have e : (((cfg0.win 4).blk t).view.emb (ix5 0 0 o y e') : S4x8x4x1024x2.Idx) = ix5 (bat t) (pair t) o y e' := by
    funext a
    apply Fin.ext
    match a with
    | ⟨0, _⟩ => show win0_4.index t 0 * 1 + 1 * 0 = (grid0.coords t 0).val; rw [h0]; omega
    | ⟨1, _⟩ => show win0_4.index t 1 * 1 + 1 * 0 = (grid0.coords t 1).val; rw [h1]; omega
    | ⟨2, _⟩ => show win0_4.index t 2 * 4 + 1 * o.val = o.val; rw [h2]; omega
    | ⟨3, _⟩ => show win0_4.index t 3 * 1024 + 1 * y.val = y.val; rw [h3]; omega
    | ⟨4, _⟩ => show win0_4.index t 4 * 2 + 1 * e'.val = e'.val; rw [h4]; omega
  show (V m c main_v5 : Vec Ideal S4x8x4x1024x2 .f32) (((cfg0.win 4).blk t).view.emb (ix5 0 0 o y e')) = _
  rw [e, cols_at]

theorem o_emb (t : Fin cfg0.N) (r : Fin 512) (l : Fin 128) :
    (((cfg0.win 5).blk t).view.emb (ix3 0 r l) : S4x4096x1024.Idx)
      = ix3 (bat t) ⟨512 * (blkq t).val + r.val, by omega⟩ ⟨128 * (pair t).val + l.val, by omega⟩ := by
  obtain ⟨-, -, -, -, -, ⟨h0, h1, h2⟩⟩ := idx_facts t
  funext a
  apply Fin.ext
  match a with
  | ⟨0, _⟩ => show win0_5.index t 0 * 1 + 1 * 0 = (grid0.coords t 0).val; rw [h0]; omega
  | ⟨1, _⟩ => show win0_5.index t 1 * 512 + 1 * r.val = 512 * (grid0.coords t 2).val + r.val; rw [h1]; omega
  | ⟨2, _⟩ => show win0_5.index t 2 * 128 + 1 * l.val = 128 * (grid0.coords t 1).val + l.val; rw [h2]; omega

/-! ## The stored block and the array -/

/-- What the result array is to hold. -/
def G : Vec Ideal S4x4096x1024 .bf16 := fun i => attn (Q m c) (K m c) (W m c) (C m c) (i 0) (i 1) (i 2)

theorem stored_at (t : Fin cfg0.N) (r : Fin 512) (d : Fin 128) :
    out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) (ix3 0 r d)
      = attn (Q m c) (K m c) (W m c) (C m c) (bat t) ⟨512 * (blkq t).val + r.val, by omega⟩
          ⟨128 * (pair t).val + d.val, by omega⟩ := by
  rw [Point.out_at]
  dsimp only
  have hh : ∀ e : Fin 2, e = (if d.val < 64 then 0 else 1) → (⟨2 * (pair t).val + e.val, by omega⟩ : Fin 16)
      = head ⟨128 * (pair t).val + d.val, by omega⟩ := by
    rintro e rfl
    unfold head
    apply Fin.ext
    show 2 * (pair t).val + (if d.val < 64 then (0 : Fin 2) else 1).val = (128 * (pair t).val + d.val) / 64
    split <;> simp <;> omega
  refine stream_attn (blkq t).val (blkq t).isLt r (bat t) ⟨128 * (pair t).val + d.val, by omega⟩ _ _ _ ?_ ?_ ?_
  · unfold Point.bias
    rw [r_block, hh _ rfl]
    rfl
  · intro n hn
    unfold Point.score
    refine if_congr Iff.rfl ?_ rfl
    unfold Point.raw
    have hn4 : (⟨1024 * (Fin.ofNat 4 (n / 1024)).val + (Fin.ofNat 1024 n).val, by omega⟩ : Fin 4096) = Fin.ofNat 4096 n := by
      apply Fin.ext
      simp only [Fin.ofNat]
      omega
    rw [c_block, hn4, hh _ rfl]
    refine congrArg₂ (· + ·) (Finset.sum_congr rfl fun x _ => ?_) rfl
    have hl : (⟨128 * (pair t).val + (Point.lane (if d.val < 64 then 0 else 1) x).val, by omega⟩ : Fin 1024)
        = lane (head ⟨128 * (pair t).val + d.val, by omega⟩) x := by
      rw [← hh _ rfl]
      unfold Point.lane lane
      apply Fin.ext
      dsimp only
      omega
    rw [k_block, q_block, hl]
    rfl
  · intro n hn
    unfold Point.value
    have hn4 : (⟨1024 * (Fin.ofNat 4 (n / 1024)).val + (Fin.ofNat 1024 n).val, by omega⟩ : Fin 4096) = Fin.ofNat 4096 n := by
      apply Fin.ext
      simp only [Fin.ofNat]
      omega
    rw [v_block, hn4]

theorem stored_eq (t : Fin cfg0.N) (j : S1x512x128.Idx) :
    out0_A_5 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (iblk m c 0 t) (iblk m c 1 t) (iblk m c 2 t) (iblk m c 3 t) (iblk m c 4 t) j
      = G m c (((cfg0.win 5).blk t).view.emb j) := by
  have hj : j = ix3 0 (j 1) (j 2) := by
    funext a
    match a with
    | ⟨0, _⟩ => exact Fin.ext (by have : (j 0).val < 1 := (j 0).isLt; show (j 0).val = 0; omega)
    | ⟨1, _⟩ => rfl
    | ⟨2, _⟩ => rfl
  generalize (j 1 : Fin 512) = r at hj
  generalize (j 2 : Fin 128) = d at hj
  subst hj
  exact (stored_at m c t r d).trans (congrArg (G m c) (o_emb t r d)).symm

theorem flushed_eq (t : Fin cfg0.N) (_ : (cfg0.win 5).flush t = true) :
    (dats m 0 c).flushed 5 t = ((cfg0.win 5).blk t).view.read (Elt Ideal) (G m c) := by
  rw [Value.flushed5_A]
  funext j
  rw [View.read_apply]
  exact stored_eq m c t j

theorem point_of : ∀ (b : Fin 4) (p q : Fin 8), ∃ t : Fin cfg0.N,
    (grid0.coords t 0).val = b.val ∧ (grid0.coords t 1).val = p.val ∧ (grid0.coords t 2).val = q.val :=
  (by decide +kernel : ∀ (b : Fin 4) (p q : Fin 8), ∃ t : Fin grid0.N, _)

theorem covered (i : S4x4096x1024.Idx) :
    ∃ t : Fin cfg0.N, (cfg0.win 5).flush t = true ∧ i ∈ ((cfg0.win 5).blk t).view.set := by
  have h1 : (i 1).val < 4096 := (i 1).isLt
  have h2 : (i 2).val < 1024 := (i 2).isLt
  obtain ⟨t, hb, hp, hq⟩ := point_of (i 0) ⟨(i 2).val / 128, by omega⟩ ⟨(i 1).val / 512, by omega⟩
  refine ⟨t, flush0_5 t, ?_⟩
  have e := o_emb t ⟨(i 1).val % 512, by omega⟩ ⟨(i 2).val % 128, by omega⟩
  have hi : i = ix3 (bat t) ⟨512 * (blkq t).val + (i 1).val % 512, by omega⟩ ⟨128 * (pair t).val + (i 2).val % 128, by omega⟩ := by
    funext a
    apply Fin.ext
    match a with
    | ⟨0, _⟩ => show (i 0).val = (grid0.coords t 0).val; rw [hb]
    | ⟨1, _⟩ => show (i 1).val = 512 * (grid0.coords t 2).val + (i 1).val % 512; rw [hq]; dsimp only; omega
    | ⟨2, _⟩ => show (i 2).val = 128 * (grid0.coords t 1).val + (i 2).val % 128; rw [hp]; dsimp only; omega
  rw [hi, ← e]
  exact ((cfg0.win 5).blk t).view.emb_mem_set _

/-- The result array after the last grid point. -/
theorem final : (dats m 0 c).arrAt 5 cfg0.N = G m c :=
  (dats m 0 c).arrAt_eq_of_cover 5 (G m c) (flushed_eq m c) covered

/-- The kernel's run: the result is the attention of the arguments, which stay as they were. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.FoxIdeal.Array

end
-- ==== Proof.Reference.lean ====
/- The reference's result at an index is the attention of its arguments. -/
module

public import proofs.«01_k».proof.Proof.Attention
public import proofs.«01_k».proof.Proof.Gen.FoxRefIdeal.Read
public import Idealize.ShloMosaic.Lib.Pointwise
public import Idealize.ShloMosaic.Lib.WordCmp

@[expose] public section

set_option maxRecDepth 16384

noncomputable section

namespace Cert.FoxRefIdeal.Reference

open Idealize.ShloMosaic Idealize.ShloMosaic.TcCoe Idealize.ShloMosaic.Tactic
open Idealize.SL Idealize.SL.Sem Idealize.ShloMosaic.StableHlo
open Cert.FoxRefIdeal Cert.FoxRefIdeal.Gen Cert.FoxRefIdeal.Read Cert.Stream Cert.Attention

variable (x0 x1 x2 : Vec Ideal S4x4096x1024 .f32) (x3 : Vec Ideal S4x4096x16 .f32)

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- An array of lanes and an array of heads, by position. -/
def arr (x : Vec Ideal S4x4096x1024 .f32) (b : Fin 4) (s : Fin 4096) (j : Fin 1024) : EReal := x (ix3 b s j)
def gates (x : Vec Ideal S4x4096x16 .f32) (b : Fin 4) (s : Fin 4096) (h : Fin 16) : EReal := x (ix3 b s h)

theorem heads_at (x : Vec Ideal S4x4096x1024 .f32) (b : Fin 4) (s : Fin 4096) (h : Fin 16) (y : Fin 64) :
    val_main_v1 (F := Ideal) x (ix4 b s h y) = arr x b s (lane h y) := by
  rw [val_main_v1_apply]
  refine congrArg x (funext fun a => Fin.ext ?_)
  match a with
  | ⟨0, _⟩ => show (((b.val * 4096 + s.val) * 16 + h.val) * 64 + y.val) / 4194304 = b.val; omega
  | ⟨1, _⟩ => show (((b.val * 4096 + s.val) * 16 + h.val) * 64 + y.val) / 1024 % 4096 = s.val; omega
  | ⟨2, _⟩ => show (((b.val * 4096 + s.val) * 16 + h.val) * 64 + y.val) % 1024 = 64 * h.val + y.val; omega

theorem prod_at (b : Fin 4) (h : Fin 16) (s n : Fin 4096) :
    val_main_v4 (F := Ideal) x0 x1 (ix4 b h s n) = ∑ x : Fin 64, arr x0 b s (lane h x) * arr x1 b n (lane h x) := by
  rw [val_main_v4_apply]
  refine Finset.sum_congr rfl fun x _ => ?_
  rw [show lidx_main_v4 (ix4 b h s n) x = ix4 b s h x from funext fun a => by
      match a with | ⟨0, _⟩ => rfl | ⟨1, _⟩ => rfl | ⟨2, _⟩ => rfl | ⟨3, _⟩ => rfl,
    show ridx_main_v4 (ix4 b h s n) x = ix4 b n h x from funext fun a => by
      match a with | ⟨0, _⟩ => rfl | ⟨1, _⟩ => rfl | ⟨2, _⟩ => rfl | ⟨3, _⟩ => rfl]
  rw [heads_at, show val_main_v2 (F := Ideal) x1 = val_main_v1 (F := Ideal) x1 from rfl, heads_at]

theorem unmasked_at (b : Fin 4) (h : Fin 16) (s n : Fin 4096) :
    val_main_v14 (F := Ideal) x0 x1 x3 (ix4 b h s n)
      = (∑ x : Fin 64, arr x0 b s (lane h x) * arr x1 b n (lane h x)) * (((8 : ℝ)⁻¹ : ℝ) : EReal)
        + gates x3 b s h - gates x3 b n h := by
  rw [← prod_at]
  have e : Ideal.ofBits .f32 0x3E000000#32 = (((8 : ℝ)⁻¹ : ℝ) : EReal) := by
    simp [Ideal.ofBits, Ideal.ieee, -EReal.coe_mul]; norm_num
  rw [← e]
  pointwise [val_main_v14, val_main_v13, val_main_v12, val_main_v11, val_main_v10, val_main_v9, val_main_v8, val_main_v7,
    val_main_v6, val_main_v5, val_main_cst, gates]

/-- The scores, masked. -/
theorem score_at (b : Fin 4) (h : Fin 16) (s n : Fin 4096) :
    val_main_v20 (F := Ideal) x0 x1 x3 (ix4 b h s n) = logit (arr x0) (arr x1) (gates x3) b h s n.val := by
  have hn : (Fin.ofNat 4096 n.val : Fin 4096) = n := Fin.ext (Nat.mod_eq_of_lt n.isLt)
  unfold logit
  rw [hn, ← unmasked_at]
  pointwise [val_main_v20, val_main_call0_v0, val_main_call0_v1, val_main_call0_v2, val_main_cst_0, val_main_v19, val_main_v18,
    val_main_v17, val_main_v16, val_main_v15, val_main_v0]
  rw [WordCmp.cmpi_sle_ofNat (by norm_num; omega) (by norm_num; omega), WordCmp.select_decide]
  exact if_congr Iff.rfl rfl neg_inf

/-- The scores' maximum over the keys. -/
theorem max_at (b : Fin 4) (h : Fin 16) (s : Fin 4096) :
    val_main_v21 (F := Ideal) x0 x1 x3 (ix3 b h s)
      = (Finset.univ : Finset (Fin 4096)).sup fun n => logit (arr x0) (arr x1) (gates x3) b h s n.val := by
  rw [← fold_eq_sup]
  simp only [← score_at]
  unfold val_main_v21
  generalize val_main_v20 (F := Ideal) x0 x1 x3 = y
  pointwise [val_main_cst_1]
  rw [neg_inf]

/-- A number where its magnitude is below infinity, zero elsewhere. -/
theorem select_base (M : EReal) :
    Scalar.select (FloatOps.cmpf (F := Ideal) (φ := .f32) .olt (FloatOps.hostAbsf (F := Ideal) (φ := .f32) M)
      (FloatOps.ofBits (F := Ideal) .f32 0x7F800000#32)) M (FloatOps.ofBits (F := Ideal) .f32 0x00000000#32) = base M := by
  have e : ∀ x y : EReal, FloatOps.cmpf (F := Ideal) (φ := .f32) .olt x y = BitVec.ofBool (decide (x < y)) := fun _ _ => rfl
  have h0 : Ideal.ofBits .f32 0x00000000#32 = 0 := by simp [Ideal.ofBits, Ideal.ieee]
  have ha : FloatOps.hostAbsf (F := Ideal) (φ := .f32) M = max M (-M) := rfl
  rw [e, WordCmp.select_decide, ha, show FloatOps.ofBits (F := Ideal) .f32 0x7F800000#32 = ⊤ from pos_inf,
    show FloatOps.ofBits (F := Ideal) .f32 0x00000000#32 = 0 from h0]
  unfold base
  induction M using EReal.rec with
  | bot => simp
  | top => simp
  | coe x =>
    rw [if_pos (by rw [← EReal.coe_neg]; exact max_lt (EReal.coe_lt_top _) (EReal.coe_lt_top _)), if_neg (by simp)]

/-- The finite part of the maximum, which the exponents are taken from. -/
theorem base_at (b : Fin 4) (h : Fin 16) (s : Fin 4096) :
    val_main_v26 (F := Ideal) x0 x1 x3 (ix4 b h s 0) = base (val_main_v21 (F := Ideal) x0 x1 x3 (ix3 b h s)) := by
  rw [val_main_v26_apply, val_main_v25_apply, val_main_v24_apply, val_main_v23_apply, val_main_v22_apply,
    val_main_call1_v1_apply, val_main_call1_v0_apply, val_main_cst_2_apply, val_main_cst_3_apply,
    show idx_main_v22 (ix4 b h s 0) = ix3 b h s from funext fun a => by
      match a with | ⟨0, _⟩ => rfl | ⟨1, _⟩ => rfl | ⟨2, _⟩ => rfl]
  exact select_base _

theorem exp_at (b : Fin 4) (h : Fin 16) (s n : Fin 4096) :
    val_main_v29 (F := Ideal) x0 x1 x3 (ix4 b h s n)
      = Ideal.exp (logit (arr x0) (arr x1) (gates x3) b h s n.val
          - base ((Finset.univ : Finset (Fin 4096)).sup fun n => logit (arr x0) (arr x1) (gates x3) b h s n.val)) := by
  rw [← max_at, ← base_at, ← score_at]
  unfold val_main_v29 val_main_v28 val_main_v27
  generalize val_main_v20 (F := Ideal) x0 x1 x3 = y
  generalize val_main_v26 (F := Ideal) x0 x1 x3 = z
  pointwise []

theorem sum_at (b : Fin 4) (h : Fin 16) (s : Fin 4096) :
    val_main_v30 (F := Ideal) x0 x1 x3 (ix3 b h s) = ∑ n : Fin 4096, val_main_v29 (F := Ideal) x0 x1 x3 (ix4 b h s n) := by
  unfold val_main_v30
  generalize val_main_v29 (F := Ideal) x0 x1 x3 = y
  pointwise [val_main_cst_4]

theorem weight_at (b : Fin 4) (h : Fin 16) (s n : Fin 4096) :
    val_main_v35 (F := Ideal) x0 x1 x3 (ix4 b h s n)
      = Ideal.div (val_main_v29 (F := Ideal) x0 x1 x3 (ix4 b h s n))
          (max (∑ n : Fin 4096, val_main_v29 (F := Ideal) x0 x1 x3 (ix4 b h s n)) floor) := by
  rw [← sum_at]
  unfold val_main_v35 val_main_v34 val_main_v33 val_main_v31
  generalize val_main_v29 (F := Ideal) x0 x1 x3 = y
  generalize val_main_v30 (F := Ideal) x0 x1 x3 = z
  pointwise [val_main_v32, val_main_cst_5]
  rfl

theorem mean_at (b : Fin 4) (h : Fin 16) (s : Fin 4096) (y : Fin 64) :
    val_main_v36 (F := Ideal) x0 x1 x2 x3 (ix4 b h y s) = ∑ n : Fin 4096,
      arr x2 b n (lane h y) * val_main_v35 (F := Ideal) x0 x1 x3 (ix4 b h s n) := by
  rw [val_main_v36_apply]
  refine Finset.sum_congr rfl fun n _ => ?_
  rw [show lidx_main_v36 (ix4 b h y s) n = ix4 b n h y from funext fun a => by
      match a with | ⟨0, _⟩ => rfl | ⟨1, _⟩ => rfl | ⟨2, _⟩ => rfl | ⟨3, _⟩ => rfl,
    show ridx_main_v36 (ix4 b h y s) n = ix4 b h s n from funext fun a => by
      match a with | ⟨0, _⟩ => rfl | ⟨1, _⟩ => rfl | ⟨2, _⟩ => rfl | ⟨3, _⟩ => rfl]
  rw [show val_main_v3 (F := Ideal) x2 = val_main_v1 (F := Ideal) x2 from rfl, heads_at]

/-- The reference's result. -/
theorem result_at (b : Fin 4) (s : Fin 4096) (j : Fin 1024) :
    val_main_v39 (F := Ideal) x0 x1 x2 x3 (ix3 b s j) = attn (arr x0) (arr x1) (arr x2) (gates x3) b s j := by
  have e : val_main_v39 (F := Ideal) x0 x1 x2 x3 (ix3 b s j)
      = val_main_v36 (F := Ideal) x0 x1 x2 x3 (ix4 b (head j) ⟨j.val % 64, by omega⟩ s) := by
    show val_main_v38 (F := Ideal) x0 x1 x2 x3 (ix3 b s j) = _
    rw [val_main_v38_apply, val_main_v37_apply]
    refine congrArg (val_main_v36 (F := Ideal) x0 x1 x2 x3) (funext fun a => Fin.ext ?_)
    match a with
    | ⟨0, _⟩ => show ((b.val * 4096 + s.val) * 1024 + j.val) / 4194304 = b.val; omega
    | ⟨1, _⟩ => show ((b.val * 4096 + s.val) * 1024 + j.val) / 64 % 16 = j.val / 64; omega
    | ⟨2, _⟩ => show ((b.val * 4096 + s.val) * 1024 + j.val) % 64 = j.val % 64; omega
    | ⟨3, _⟩ => show ((b.val * 4096 + s.val) * 1024 + j.val) / 1024 % 4096 = s.val; omega
  have hj : lane (head j) ⟨j.val % 64, by omega⟩ = j := Fin.ext (by show 64 * (j.val / 64) + j.val % 64 = j.val; omega)
  rw [e, mean_at, hj]
  unfold attn soft
  refine Finset.sum_congr rfl fun n _ => ?_
  rw [weight_at]
  simp only [exp_at]
  rw [show (Fin.ofNat 4096 n.val : Fin 4096) = n from Fin.ext (Nat.mod_eq_of_lt n.isLt)]

end Cert.FoxRefIdeal.Reference

end
-- ==== Proof.Rows.lean ====
/- One row of the feed-forward layer over the extended reals, and its sum over the hidden units in four parts. -/
module

public import Idealize.ShloMosaic.Lib.Pointwise

@[expose] public section

noncomputable section

namespace Cert.Rows

open Idealize.ShloMosaic

/-- A row divided by its root mean square, times the gain. -/
def unit (x g : Fin 1024 → EReal) (d : Fin 1024) : EReal :=
  x d * Ideal.rsqrt (Ideal.div (∑ k, x k * x k) (Ideal.ofBits .f32 0x44800000#32) + Ideal.ofBits .f32 0x358637BD#32) * g d

/-- The normed row against one column of weights. -/
def proj (x g w : Fin 1024 → EReal) : EReal := ∑ d, unit x g d * w d

/-- What hidden unit of weights `w` hands on: the square of its positive part. -/
def act (x g w : Fin 1024 → EReal) : EReal := max (proj x g w) 0 * max (proj x g w) 0

/-- The layer's row at column `j`: the row and what the hidden units add to it. -/
def mlp (x g : Fin 1024 → EReal) (wu : Fin 1024 → Fin 4096 → EReal) (wd : Fin 4096 → Fin 1024 → EReal) (j : Fin 1024) : EReal :=
  x j + ∑ f, act x g (fun d => wu d f) * wd f j

/-- A sum over the hidden units in the four parts the kernel takes. -/
theorem quarters (a : EReal) (F : Fin 4096 → EReal) :
    a + ∑ f, F f = a + ∑ k : Fin 1024, F ⟨k.val, by omega⟩ + ∑ k : Fin 1024, F ⟨1024 + k.val, by omega⟩
      + ∑ k : Fin 1024, F ⟨2048 + k.val, by omega⟩ + ∑ k : Fin 1024, F ⟨3072 + k.val, by omega⟩ := by
  rw [show (∑ f, F f) = ∑ f : Fin (1024 + 1024 + 1024 + 1024), F f from rfl, Fin.sum_univ_add, Fin.sum_univ_add, Fin.sum_univ_add]
  simp only [← add_assoc]
  rfl

end Cert.Rows

end
-- ==== Proof.Mlp.lean ====
/- One grid point of the feed-forward kernel: a row of the block it stores. -/
module

public import proofs.«01_k».proof.Proof.Gen.MlpIdeal.Value
public import proofs.«01_k».proof.Proof.Rows
public import Idealize.ShloMosaic.Lib.Pointwise

@[expose] public section

set_option maxRecDepth 16384

noncomputable section

namespace Cert.MlpIdeal.Point

open Idealize.ShloMosaic Idealize.ShloMosaic.TcCoe Idealize.ShloMosaic.Tactic
open Idealize.SL Idealize.SL.Sem
open Cert.MlpIdeal.Gen Cert.Rows

theorem norm_at (v0 v1) (r : Fin 512) (d : Fin 1024) :
    k0_pay2 (F := Ideal) v0 v1 (ix2 r d) = unit (fun k => v0 (ix2 r k)) (fun k => v1 (ix2 0 k)) d := by
  pointwise [k0_pay2]
  rfl

theorem last_at (v15 v37 v38 v45 v49 v56) (r : Fin 512) (d : Fin 1024) :
    k0_pay1 (F := Ideal) v15 v37 v38 v45 v49 v56 (ix2 r d) =
      v37 (ix2 r d) + ∑ f : Fin 1024, max (∑ x : Fin 1024, v15 (ix2 r x) * v38 (ix2 x f)) 0 * max (∑ x : Fin 1024, v15 (ix2 r x) * v38 (ix2 x f)) 0 * v45 (ix2 f d)
       + ∑ f : Fin 1024, max (∑ x : Fin 1024, v15 (ix2 r x) * v49 (ix2 x f)) 0 * max (∑ x : Fin 1024, v15 (ix2 r x) * v49 (ix2 x f)) 0 * v56 (ix2 f d) := by
  pointwise [k0_pay1]

theorem first_at (v0 v1 v16 v23 v27 v34) (r : Fin 512) (d : Fin 1024) :
    k0_pay3 (F := Ideal) v0 v1 v16 v23 v27 v34 (ix2 r d) =
      v0 (ix2 r d) + ∑ f : Fin 1024, max (∑ x : Fin 1024, k0_pay2 v0 v1 (ix2 r x) * v16 (ix2 x f)) 0 * max (∑ x : Fin 1024, k0_pay2 v0 v1 (ix2 r x) * v16 (ix2 x f)) 0 * v23 (ix2 f d)
       + ∑ f : Fin 1024, max (∑ x : Fin 1024, k0_pay2 v0 v1 (ix2 r x) * v27 (ix2 x f)) 0 * max (∑ x : Fin 1024, k0_pay2 v0 v1 (ix2 r x) * v27 (ix2 x f)) 0 * v34 (ix2 f d) := by
  pointwise [k0_pay3]

theorem ld_x (x0 : Vec Ideal S512x1024 .f32) (r : Fin 512) (k : Fin 1024) : View.ld x0 r0_0 (ix2 r k) = x0 (ix2 r k) := by
  pointwise [r0_0]

theorem ld_g (x1 : Vec Ideal S1x1024 .f32) (k : Fin 1024) : View.ld x1 r0_1 (ix2 0 k) = x1 (ix2 0 k) := by
  pointwise [r0_1]

theorem ld_up0 (x2 : Vec Ideal S1024x4096 .bf16) (d f : Fin 1024) : View.ld x2 r0_2 (ix2 d f) = x2 (ix2 d ⟨f.val, by omega⟩) := by
  pointwise [r0_2]

theorem ld_up1 (x2 : Vec Ideal S1024x4096 .bf16) (d f : Fin 1024) : View.ld x2 r0_4 (ix2 d f) = x2 (ix2 d ⟨1024 + f.val, by omega⟩) := by
  pointwise [r0_4]

theorem ld_up2 (x2 : Vec Ideal S1024x4096 .bf16) (d f : Fin 1024) : View.ld x2 r0_6 (ix2 d f) = x2 (ix2 d ⟨2048 + f.val, by omega⟩) := by
  pointwise [r0_6]

theorem ld_up3 (x2 : Vec Ideal S1024x4096 .bf16) (d f : Fin 1024) : View.ld x2 r0_8 (ix2 d f) = x2 (ix2 d ⟨3072 + f.val, by omega⟩) := by
  pointwise [r0_8]

theorem ld_dn0 (x3 : Vec Ideal S4096x1024 .bf16) (f d : Fin 1024) : View.ld x3 r0_3 (ix2 f d) = x3 (ix2 ⟨f.val, by omega⟩ d) := by
  pointwise [r0_3]

theorem ld_dn1 (x3 : Vec Ideal S4096x1024 .bf16) (f d : Fin 1024) : View.ld x3 r0_5 (ix2 f d) = x3 (ix2 ⟨1024 + f.val, by omega⟩ d) := by
  pointwise [r0_5]

theorem ld_dn2 (x3 : Vec Ideal S4096x1024 .bf16) (f d : Fin 1024) : View.ld x3 r0_7 (ix2 f d) = x3 (ix2 ⟨2048 + f.val, by omega⟩ d) := by
  pointwise [r0_7]

theorem ld_dn3 (x3 : Vec Ideal S4096x1024 .bf16) (f d : Fin 1024) : View.ld x3 r0_9 (ix2 f d) = x3 (ix2 ⟨3072 + f.val, by omega⟩ d) := by
  pointwise [r0_9]

theorem hz : (![0, 0] : Fin 2 → ℕ) = (fun _ => 0) := by funext a; fin_cases a <;> rfl

/-- The arithmetic of a point, on the blocks it has loaded. -/
theorem row_at (v0 : Vec Ideal S512x1024 .f32) (v1 : Vec Ideal S1x1024 .f32)
    (a0 b0 a1 b1 a2 b2 a3 b3 : Vec Ideal S1024x1024 .bf16) (r : Fin 512) (j : Fin 1024) (x g : Fin 1024 → EReal)
    (wu : Fin 1024 → Fin 4096 → EReal) (wd : Fin 4096 → Fin 1024 → EReal)
    (hx : ∀ k : Fin 1024, v0 (ix2 r k) = x k) (hg : ∀ k : Fin 1024, v1 (ix2 0 k) = g k)
    (ha0 : ∀ d f : Fin 1024, a0 (ix2 d f) = wu d ⟨f.val, by omega⟩) (hb0 : ∀ f d : Fin 1024, b0 (ix2 f d) = wd ⟨f.val, by omega⟩ d)
    (ha1 : ∀ d f : Fin 1024, a1 (ix2 d f) = wu d ⟨1024 + f.val, by omega⟩) (hb1 : ∀ f d : Fin 1024, b1 (ix2 f d) = wd ⟨1024 + f.val, by omega⟩ d)
    (ha2 : ∀ d f : Fin 1024, a2 (ix2 d f) = wu d ⟨2048 + f.val, by omega⟩) (hb2 : ∀ f d : Fin 1024, b2 (ix2 f d) = wd ⟨2048 + f.val, by omega⟩ d)
    (ha3 : ∀ d f : Fin 1024, a3 (ix2 d f) = wu d ⟨3072 + f.val, by omega⟩) (hb3 : ∀ f d : Fin 1024, b3 (ix2 f d) = wd ⟨3072 + f.val, by omega⟩ d) :
    k0_pay1 (F := Ideal) (k0_pay2 v0 v1) (k0_pay3 v0 v1 a0 b0 a1 b1) a2 b2 a3 b3 (ix2 r j) = mlp x g wu wd j := by
  rw [last_at, first_at]
  simp only [norm_at, hx, hg, ha0, hb0, ha1, hb1, ha2, hb2, ha3, hb3]
  exact (quarters (x j) fun f => act x g (fun d => wu d f) * wd f j).symm

/-- The stored block's row is the layer's row. -/
theorem out_at (x0 : Vec Ideal S512x1024 .f32) (x1 : Vec Ideal S1x1024 .f32) (x2 : Vec Ideal S1024x4096 .bf16)
    (x3 : Vec Ideal S4096x1024 .bf16) (r : Fin 512) (j : Fin 1024) :
    out0_4 x0 x1 x2 x3 (ix2 r j)
      = mlp (fun k => x0 (ix2 r k)) (fun k => x1 (ix2 0 k)) (fun d f => x2 (ix2 d f)) (fun f j => x3 (ix2 f j)) j := by
  unfold out0_4
  rw [View.canon_unit_zero hz]
  exact row_at _ _ _ _ _ _ _ _ _ _ r j _ _ _ _ (ld_x x0 r) (ld_g x1) (ld_up0 x2) (ld_dn0 x3) (ld_up1 x2) (ld_dn1 x3)
    (ld_up2 x2) (ld_dn2 x3) (ld_up3 x2) (ld_dn3 x3)

end Cert.MlpIdeal.Point

end
-- ==== Proof.MlpArray.lean ====
/- The array the feed-forward kernel leaves: the layer of the argument arrays. -/
module

public import proofs.«01_k».proof.Proof.Mlp

@[expose] public section

set_option maxRecDepth 16384

noncomputable section

namespace Cert.MlpIdeal.Array

open Idealize.ShloMosaic Idealize.ShloMosaic.TcCoe Idealize.ShloMosaic.Tactic
open Idealize.SL Idealize.SL.Sem
open Idealize.ShloMosaic.Pipeline (Dat)
open Cert.MlpIdeal Cert.MlpIdeal.Gen Cert.Rows

variable (m : (ℓ : Loc nD τ sig) → Buf (Elt Ideal) ℓ) (ρ : Dev nD → PrngReg) (c : Dev nD)

/-! ## The arguments, by position -/

def X (r : Fin 16384) (k : Fin 1024) : EReal :=
  (m ((c : Thread nD τ).loc main_arg0) : Vec Ideal S16384x1024 .f32) (ix2 r k)

def Gain (k : Fin 1024) : EReal := (m ((c : Thread nD τ).loc main_arg1) : Vec Ideal S1024 .f32) (ix1 k)

def Up (d : Fin 1024) (f : Fin 4096) : EReal :=
  (m ((c : Thread nD τ).loc main_arg2) : Vec Ideal S1024x4096 .f32) (ix2 d f)

def Dn (f : Fin 4096) (j : Fin 1024) : EReal :=
  (m ((c : Thread nD τ).loc main_arg3) : Vec Ideal S4096x1024 .f32) (ix2 f j)

/-! ## The operands the host code prepares -/

theorem up_at (d : Fin 1024) (f : Fin 4096) : (V m c main_v0 : Vec Ideal S1024x4096 .bf16) (ix2 d f) = Up m c d f := by
  entry_read
  pointwise [Up]

theorem dn_at (f : Fin 4096) (j : Fin 1024) : (V m c main_v1 : Vec Ideal S4096x1024 .bf16) (ix2 f j) = Dn m c f j := by
  entry_read
  pointwise [Dn]

theorem gain_at (k : Fin 1024) : (V m c main_v2 : Vec Ideal S1x1024 .f32) (ix2 0 k) = Gain m c k := by
  entry_read
  pointwise [Gain]

/-! ## The blocks -/

theorem idx_facts : ∀ t : Fin cfg0.N,
    (win0_0.index t 0 = (grid0.coords t 0).val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = (grid0.coords t 0).val ∧ win0_4.index t 1 = 0) :=
  (by decide +kernel : ∀ t : Fin grid0.N, _)

/-- The row block of a grid point. -/
abbrev blk (t : Fin cfg0.N) : Fin 32 := grid0.coords t 0

theorem x_block (t : Fin cfg0.N) (r : Fin 512) (k : Fin 1024) :
    (iblk m c 0 t : Vec Ideal S512x1024 .f32) (ix2 r k) = X m c ⟨512 * (blk t).val + r.val, by omega⟩ k := by
  obtain ⟨⟨h0, h1⟩, -⟩ := idx_facts t
  have e : (((cfg0.win 0).blk t).view.emb (ix2 r k) : S16384x1024.Idx) = ix2 ⟨512 * (blk t).val + r.val, by omega⟩ k := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * k.val = k.val; rw [h1]; omega
  show (V m c main_arg0 : Vec Ideal S16384x1024 .f32) (((cfg0.win 0).blk t).view.emb (ix2 r k)) = _
  rw [e, V_main_arg0]
  rfl

theorem g_block (t : Fin cfg0.N) (k : Fin 1024) : (iblk m c 1 t : Vec Ideal S1x1024 .f32) (ix2 0 k) = Gain m c k := by
  obtain ⟨-, ⟨h0, h1⟩, -⟩ := idx_facts t
  have e : (((cfg0.win 1).blk t).view.emb (ix2 0 k) : S1x1024.Idx) = ix2 0 k := by
    funext a
    apply Fin.ext
    match a with
    | ⟨0, _⟩ => show win0_1.index t 0 * 1 + 1 * 0 = 0; rw [h0]
    | ⟨1, _⟩ => show win0_1.index t 1 * 1024 + 1 * k.val = k.val; rw [h1]; omega
  show (V m c main_v2 : Vec Ideal S1x1024 .f32) (((cfg0.win 1).blk t).view.emb (ix2 0 k)) = _
  rw [e, gain_at]

theorem up_block (t : Fin cfg0.N) (d : Fin 1024) (f : Fin 4096) :
    (iblk m c 2 t : Vec Ideal S1024x4096 .bf16) (ix2 d f) = Up m c d f := by
  obtain ⟨-, -, ⟨h0, h1⟩, -⟩ := idx_facts t
  have e : (((cfg0.win 2).blk t).view.emb (ix2 d f) : S1024x4096.Idx) = ix2 d f := by
    funext a
    apply Fin.ext
    match a with
    | ⟨0, _⟩ => show win0_2.index t 0 * 1024 + 1 * d.val = d.val; rw [h0]; omega
    | ⟨1, _⟩ => show win0_2.index t 1 * 4096 + 1 * f.val = f.val; rw [h1]; omega
  show (V m c main_v0 : Vec Ideal S1024x4096 .bf16) (((cfg0.win 2).blk t).view.emb (ix2 d f)) = _
  rw [e, up_at]

theorem dn_block (t : Fin cfg0.N) (f : Fin 4096) (j : Fin 1024) :
    (iblk m c 3 t : Vec Ideal S4096x1024 .bf16) (ix2 f j) = Dn m c f j := by
  obtain ⟨-, -, -, ⟨h0, h1⟩, -⟩ := idx_facts t
  have e : (((cfg0.win 3).blk t).view.emb (ix2 f j) : S4096x1024.Idx) = ix2 f j := by
    funext a
    apply Fin.ext
    match a with
    | ⟨0, _⟩ => show win0_3.index t 0 * 4096 + 1 * f.val = f.val; rw [h0]; omega
    | ⟨1, _⟩ => show win0_3.index t 1 * 1024 + 1 * j.val = j.val; rw [h1]; omega
  show (V m c main_v1 : Vec Ideal S4096x1024 .bf16) (((cfg0.win 3).blk t).view.emb (ix2 f j)) = _
  rw [e, dn_at]

theorem o_emb (t : Fin cfg0.N) (r : Fin 512) (j : Fin 1024) :
    (((cfg0.win 4).blk t).view.emb (ix2 r j) : S16384x1024.Idx) = ix2 ⟨512 * (blk t).val + r.val, by omega⟩ j := by
  obtain ⟨-, -, -, -, ⟨h0, h1⟩⟩ := idx_facts t
  funext a
  apply Fin.ext
  match a with
  | ⟨0, _⟩ => show win0_4.index t 0 * 512 + 1 * r.val = 512 * (grid0.coords t 0).val + r.val; rw [h0]; omega
  | ⟨1, _⟩ => show win0_4.index t 1 * 1024 + 1 * j.val = j.val; rw [h1]; omega

/-! ## The stored block and the array -/

/-- What the result array is to hold. -/
def G : Vec Ideal S16384x1024 .f32 := fun i => mlp (X m c (i 0)) (Gain m c) (Up m c) (Dn m c) (i 1)

theorem stored_eq (t : Fin cfg0.N) (j : S512x1024.Idx) :
    out0_4 (iblk m c 0 t) (iblk m c 1 t) (iblk m c 2 t) (iblk m c 3 t) j = G m c (((cfg0.win 4).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G m c) (o_emb t r d)).symm
  refine (Point.out_at _ _ _ _ r d).trans ?_
  show mlp _ _ _ _ _ = mlp (X m c ⟨512 * (blk t).val + r.val, _⟩) (Gain m c) (Up m c) (Dn m c) d
  congr 1
  · exact funext fun k => x_block m c t r k
  · exact funext fun k => g_block m c t k
  · exact funext fun d => funext fun f => up_block m c t d f
  · exact funext fun f => funext fun j => dn_block m c t f j

theorem flushed_eq (t : Fin cfg0.N) (_ : (cfg0.win 4).flush t = true) :
    (dats m 0 c).flushed 4 t = ((cfg0.win 4).blk t).view.read (Elt Ideal) (G m c) := by
  rw [Value.flushed4]
  funext j
  rw [View.read_apply]
  exact stored_eq m c t j

theorem point_of : ∀ b : Fin 32, ∃ t : Fin cfg0.N, (grid0.coords t 0).val = b.val :=
  (by decide +kernel : ∀ b : Fin 32, ∃ t : Fin grid0.N, _)

theorem covered (i : S16384x1024.Idx) :
    ∃ t : Fin cfg0.N, (cfg0.win 4).flush t = true ∧ i ∈ ((cfg0.win 4).blk t).view.set := by
  have h0 : (i 0).val < 16384 := (i 0).isLt
  obtain ⟨t, hb⟩ := point_of ⟨(i 0).val / 512, by omega⟩
  refine ⟨t, flush0_4 t, ?_⟩
  have e := o_emb t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 4).blk t).view.emb_mem_set _

/-- The result array after the last grid point. -/
theorem final : (dats m 0 c).arrAt 4 cfg0.N = G m c :=
  (dats m 0 c).arrAt_eq_of_cover 4 (G m c) (flushed_eq m c) covered

/-- The kernel's run: the result is the layer of the arguments, which stay as they were. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.MlpIdeal.Array

end
-- ==== Proof.MlpReference.lean ====
/- The reference's feed-forward layer, read at an index. -/
module

public import proofs.«01_k».proof.Proof.Gen.MlpRefIdeal.Read
public import proofs.«01_k».proof.Proof.Rows
public import Idealize.ShloMosaic.Lib.Pointwise

@[expose] public section

set_option maxRecDepth 16384

noncomputable section

namespace Cert.MlpRefIdeal.Reference

open Idealize.ShloMosaic Idealize.ShloMosaic.TcCoe Idealize.ShloMosaic.Tactic
open Idealize.SL Idealize.SL.Sem
open Cert.MlpRefIdeal Cert.MlpRefIdeal.Gen Cert.MlpRefIdeal.Read Cert.Rows

variable (x0 : Vec Ideal S16384x1024 .f32) (x1 : Vec Ideal S1024 .f32) (x2 : Vec Ideal S1024x4096 .f32)
  (x3 : Vec Ideal S4096x1024 .f32)

theorem norm_at (r : Fin 16384) (d : Fin 1024) :
    val_main_v12 (F := Ideal) x0 x1 (ix2 r d) = unit (fun k => x0 (ix2 r k)) (fun k => x1 (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  simp only [val_main_v0_apply]
  rw [show (FloatOps.ofBits (F := Ideal) .f32 0x00000000#32 : EReal) = 0 from by show Ideal.ofBits .f32 0x00000000#32 = 0; simp [Ideal.ofBits, Ideal.ieee], zero_add]
  have h1 : ∀ k : Fin 1024, idx_main_v1 (idx_main_v2 (idx_main_v8 (ix2 r d))) k = ix2 r k := fun k => funext fun a => by
    match a with
    | ⟨0, _⟩ => rfl
    | ⟨1, _⟩ => rfl
  have h2 : idx_main_v10 (idx_main_v11 (ix2 r d)) = ix1 d := funext fun a => by
    match a with
    | ⟨0, _⟩ => rfl
  simp only [h1, h2]
  rfl

theorem hidden_at (r : Fin 16384) (f : Fin 4096) :
    val_main_v15 (F := Ideal) x0 x1 x2 (ix2 r f) = act (fun k => x0 (ix2 r k)) (fun k => x1 (ix1 k)) (fun d => x2 (ix2 d f)) := by
  have h : val_main_v14 (F := Ideal) x0 x1 x2 (ix2 r f)
      = max (proj (fun k => x0 (ix2 r k)) (fun k => x1 (ix1 k)) (fun d => x2 (ix2 d f))) 0 := by
    rw [val_main_v14_apply, val_main_v13_apply, val_main_call0_v0_apply, val_main_call0_cst_apply,
      show (FloatOps.ofBits (F := Ideal) .f32 0x00000000#32 : EReal) = 0 from by show Ideal.ofBits .f32 0x00000000#32 = 0; simp [Ideal.ofBits, Ideal.ieee]]
    refine congrArg (max · 0) (Finset.sum_congr rfl fun k _ => ?_)
    have hl : lidx_main_v13 (ix2 r f) k = ix2 r k := funext fun a => by
      match a with
      | ⟨0, _⟩ => rfl
      | ⟨1, _⟩ => rfl
    have hr : ridx_main_v13 (ix2 r f) k = ix2 k f := funext fun a => by
      match a with
      | ⟨0, _⟩ => rfl
      | ⟨1, _⟩ => rfl
    rw [hl, hr, norm_at]
  rw [val_main_v15_apply, h]
  rfl

theorem result_at (r : Fin 16384) (j : Fin 1024) :
    val_main_v17 (F := Ideal) x0 x1 x2 x3 (ix2 r j)
      = mlp (fun k => x0 (ix2 r k)) (fun k => x1 (ix1 k)) (fun d f => x2 (ix2 d f)) (fun f j => x3 (ix2 f j)) j := by
  rw [val_main_v17_apply, val_main_v16_apply]
  refine congrArg (x0 (ix2 r j) + ·) (Finset.sum_congr rfl fun f _ => ?_)
  have hl : lidx_main_v16 (ix2 r j) f = ix2 r f := funext fun a => by
    match a with
    | ⟨0, _⟩ => rfl
    | ⟨1, _⟩ => rfl
  have hr : ridx_main_v16 (ix2 r j) f = ix2 f j := funext fun a => by
    match a with
    | ⟨0, _⟩ => rfl
    | ⟨1, _⟩ => rfl
  rw [hl, hr, hidden_at]

end Cert.MlpRefIdeal.Reference

end
-- ==== Proof.OutArray.lean ====
/- The array the projection out of an attention leaves: the residual plus the product of the argument arrays. -/
module

public import proofs.«01_k».proof.Proof.Gen.OutIdeal.Value
public import Idealize.ShloMosaic.Lib.Pointwise

@[expose] public section

set_option maxRecDepth 16384

noncomputable section

namespace Cert.OutIdeal.Array

open Idealize.ShloMosaic Idealize.ShloMosaic.TcCoe Idealize.ShloMosaic.Tactic
open Idealize.SL Idealize.SL.Sem
open Idealize.ShloMosaic.Pipeline (Dat)
open Cert.OutIdeal Cert.OutIdeal.Gen

/-! ## One grid point -/

theorem pay_at (v0 : Vec Ideal S512x1024 .bf16) (v1 : Vec Ideal S512x1024 .f32) (v2 : Vec Ideal S1024x1024 .bf16)
    (r : Fin 512) (j : Fin 1024) :
    k0_pay1 (F := Ideal) v0 v1 v2 (ix2 r j) = v1 (ix2 r j) + ∑ k : Fin 1024, v0 (ix2 r k) * v2 (ix2 k j) := by
  pointwise [k0_pay1]

theorem hz : (![0, 0] : Fin 2 → ℕ) = (fun _ => 0) := by funext a; fin_cases a <;> rfl

theorem out_at (x0 : Vec Ideal S512x1024 .bf16) (x1 : Vec Ideal S1024x1024 .bf16) (x2 : Vec Ideal S512x1024 .f32)
    (r : Fin 512) (j : Fin 1024) :
    out0_3 x0 x1 x2 (ix2 r j) = x2 (ix2 r j) + ∑ k : Fin 1024, x0 (ix2 r k) * x1 (ix2 k j) := by
  unfold out0_3
  rw [View.canon_unit_zero hz, View.ld_unit_zero hz, View.ld_unit_zero hz, View.ld_unit_zero hz]
  exact pay_at x0 x2 x1 r j

variable (m : (ℓ : Loc nD τ sig) → Buf (Elt Ideal) ℓ) (ρ : Dev nD → PrngReg) (c : Dev nD)

/-! ## The arguments, by position -/

def A (r : Fin 16384) (k : Fin 1024) : EReal :=
  (m ((c : Thread nD τ).loc main_arg0) : Vec Ideal S16384x1024 .bf16) (ix2 r k)

def Wt (k j : Fin 1024) : EReal := (m ((c : Thread nD τ).loc main_arg1) : Vec Ideal S1024x1024 .f32) (ix2 k j)

def Res (r : Fin 16384) (j : Fin 1024) : EReal :=
  (m ((c : Thread nD τ).loc main_arg2) : Vec Ideal S16384x1024 .f32) (ix2 r j)

theorem w_at (k j : Fin 1024) : (V m c main_v0 : Vec Ideal S1024x1024 .bf16) (ix2 k j) = Wt m c k j := by
  entry_read
  pointwise [Wt]

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0)
    ∧ (win0_3.index t 0 = (grid0.coords t 0).val ∧ win0_3.index t 1 = 0) :=
  (by decide +kernel : ∀ t : Fin grid0.N, _)

/-- The row block of a grid point. -/
abbrev blk (t : Fin cfg0.N) : Fin 32 := grid0.coords t 0

theorem a_block (t : Fin cfg0.N) (r : Fin 512) (k : Fin 1024) :
    (iblk m c 0 t : Vec Ideal S512x1024 .bf16) (ix2 r k) = A m c ⟨512 * (blk t).val + r.val, by omega⟩ k := by
  obtain ⟨⟨h0, h1⟩, -⟩ := idx_facts t
  have e : (((cfg0.win 0).blk t).view.emb (ix2 r k) : S16384x1024.Idx) = ix2 ⟨512 * (blk t).val + r.val, by omega⟩ k := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * k.val = k.val; rw [h1]; omega
  show (V m c main_arg0 : Vec Ideal S16384x1024 .bf16) (((cfg0.win 0).blk t).view.emb (ix2 r k)) = _
  rw [e, V_main_arg0]
  rfl

theorem w_block (t : Fin cfg0.N) (k j : Fin 1024) :
    (iblk m c 1 t : Vec Ideal S1024x1024 .bf16) (ix2 k j) = Wt m c k j := by
  obtain ⟨-, ⟨h0, h1⟩, -⟩ := idx_facts t
  have e : (((cfg0.win 1).blk t).view.emb (ix2 k j) : S1024x1024.Idx) = ix2 k j := by
    funext a
    apply Fin.ext
    match a with
    | ⟨0, _⟩ => show win0_1.index t 0 * 1024 + 1 * k.val = k.val; rw [h0]; omega
    | ⟨1, _⟩ => show win0_1.index t 1 * 1024 + 1 * j.val = j.val; rw [h1]; omega
  show (V m c main_v0 : Vec Ideal S1024x1024 .bf16) (((cfg0.win 1).blk t).view.emb (ix2 k j)) = _
  rw [e, w_at]

theorem res_block (t : Fin cfg0.N) (r : Fin 512) (j : Fin 1024) :
    (iblk m c 2 t : Vec Ideal S512x1024 .f32) (ix2 r j) = Res m c ⟨512 * (blk t).val + r.val, by omega⟩ j := by
  obtain ⟨-, -, ⟨h0, h1⟩, -⟩ := idx_facts t
  have e : (((cfg0.win 2).blk t).view.emb (ix2 r j) : S16384x1024.Idx) = ix2 ⟨512 * (blk t).val + r.val, by omega⟩ j := by
    funext a
    apply Fin.ext
    match a with
    | ⟨0, _⟩ => show win0_2.index t 0 * 512 + 1 * r.val = 512 * (grid0.coords t 0).val + r.val; rw [h0]; omega
    | ⟨1, _⟩ => show win0_2.index t 1 * 1024 + 1 * j.val = j.val; rw [h1]; omega
  show (V m c main_arg2 : Vec Ideal S16384x1024 .f32) (((cfg0.win 2).blk t).view.emb (ix2 r j)) = _
  rw [e, V_main_arg2]
  rfl

theorem o_emb (t : Fin cfg0.N) (r : Fin 512) (j : Fin 1024) :
    (((cfg0.win 3).blk t).view.emb (ix2 r j) : S16384x1024.Idx) = ix2 ⟨512 * (blk t).val + r.val, by omega⟩ j := by
  obtain ⟨-, -, -, ⟨h0, h1⟩⟩ := idx_facts t
  funext a
  apply Fin.ext
  match a with
  | ⟨0, _⟩ => show win0_3.index t 0 * 512 + 1 * r.val = 512 * (grid0.coords t 0).val + r.val; rw [h0]; omega
  | ⟨1, _⟩ => show win0_3.index t 1 * 1024 + 1 * j.val = j.val; rw [h1]; omega

/-! ## The stored block and the array -/

/-- What the result array is to hold. -/
def G : Vec Ideal S16384x1024 .f32 := fun i => Res m c (i 0) (i 1) + ∑ k : Fin 1024, A m c (i 0) k * Wt m c k (i 1)

theorem stored_eq (t : Fin cfg0.N) (j : S512x1024.Idx) :
    out0_3 (iblk m c 0 t) (iblk m c 1 t) (iblk m c 2 t) j = G m c (((cfg0.win 3).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G m c) (o_emb t r d)).symm
  refine (out_at _ _ _ r d).trans ?_
  refine congrArg₂ (· + ·) (res_block m c t r d) (Finset.sum_congr rfl fun k _ => ?_)
  exact congrArg₂ (· * ·) (a_block m c t r k) (w_block m c t k d)

theorem flushed_eq (t : Fin cfg0.N) (_ : (cfg0.win 3).flush t = true) :
    (dats m 0 c).flushed 3 t = ((cfg0.win 3).blk t).view.read (Elt Ideal) (G m c) := by
  rw [Value.flushed3]
  funext j
  rw [View.read_apply]
  exact stored_eq m c t j

theorem point_of : ∀ b : Fin 32, ∃ t : Fin cfg0.N, (grid0.coords t 0).val = b.val :=
  (by decide +kernel : ∀ b : Fin 32, ∃ t : Fin grid0.N, _)

theorem covered (i : S16384x1024.Idx) :
    ∃ t : Fin cfg0.N, (cfg0.win 3).flush t = true ∧ i ∈ ((cfg0.win 3).blk t).view.set := by
  have h0 : (i 0).val < 16384 := (i 0).isLt
  obtain ⟨t, hb⟩ := point_of ⟨(i 0).val / 512, by omega⟩
  refine ⟨t, flush0_3 t, ?_⟩
  have e := o_emb t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 3).blk t).view.emb_mem_set _

/-- The result array after the last grid point. -/
theorem final : (dats m 0 c).arrAt 3 cfg0.N = G m c :=
  (dats m 0 c).arrAt_eq_of_cover 3 (G m c) (flushed_eq m c) covered

/-- The kernel's run: the residual plus the product, the arguments as they were. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.OutIdeal.Array

end
-- ==== Proof.OutReference.lean ====
/- The reference's projection out of an attention, read at an index. -/
module

public import proofs.«01_k».proof.Proof.Gen.OutRefIdeal.Read
public import Idealize.ShloMosaic.Lib.Pointwise

@[expose] public section

set_option maxRecDepth 16384

noncomputable section

namespace Cert.OutRefIdeal.Reference

open Idealize.ShloMosaic Idealize.ShloMosaic.TcCoe Idealize.ShloMosaic.Tactic
open Idealize.SL Idealize.SL.Sem
open Cert.OutRefIdeal Cert.OutRefIdeal.Gen Cert.OutRefIdeal.Read

theorem result_at (x0 : Vec Ideal S16384x1024 .bf16) (x1 : Vec Ideal S1024x1024 .f32) (x2 : Vec Ideal S16384x1024 .f32)
    (r : Fin 16384) (j : Fin 1024) :
    val_main_v2 (F := Ideal) x0 x1 x2 (ix2 r j) = x2 (ix2 r j) + ∑ k : Fin 1024, x0 (ix2 r k) * x1 (ix2 k j) := by
  rw [val_main_v2_apply, val_main_v1_apply]
  refine congrArg (x2 (ix2 r j) + ·) (Finset.sum_congr rfl fun k _ => ?_)
  have hl : lidx_main_v1 (ix2 r j) k = ix2 r k := funext fun a => by
    match a with
    | ⟨0, _⟩ => rfl
    | ⟨1, _⟩ => rfl
  have hr : ridx_main_v1 (ix2 r j) k = ix2 k j := funext fun a => by
    match a with
    | ⟨0, _⟩ => rfl
    | ⟨1, _⟩ => rfl
  rw [hl, hr, val_main_v0_apply]
  rfl

end Cert.OutRefIdeal.Reference

end
-- ==== Proof.Gate.lean ====
/- The logarithm of a forget gate over the extended reals, in the kernel's form and in the reference's. -/
module

public import Idealize.ShloMosaic.Lib.Pointwise

@[expose] public section

noncomputable section

namespace Cert.Gate

open Idealize.ShloMosaic

/-- The logarithm of the gate whose logit is `z`, as the kernel computes it. -/
def logGate (z : EReal) : EReal := min z 0 - Ideal.log1p (Ideal.exp (0 - max z (-z)))

/-- Sixteen entries filled up to a whole row of lanes by the number zero. -/
def padded (f : Fin 16 → EReal) (n : Fin 128) : EReal :=
  if h : n.val < 16 then f ⟨n.val, h⟩ else (FloatOps.sitofp (F := Ideal) .f32 0#32 : EReal)

theorem exp_nonneg (x : EReal) : 0 ≤ Ideal.exp x := by
  induction x with
  | bot => exact le_refl _
  | top => exact le_top
  | coe r => exact EReal.coe_nonneg.mpr (Real.exp_pos r).le

theorem log1p_ne_bot (x : EReal) (hx : 0 ≤ x) : Ideal.log1p x ≠ ⊥ := by
  induction x with
  | bot => simp at hx
  | top =>
    have h : Ideal.log1p (⊤ : EReal) = ⊤ := by
      show Ideal.log (((1 : ℝ) : EReal) + ⊤) = ⊤
      rw [EReal.coe_add_top]
      rfl
    rw [h]
    exact top_ne_bot
  | coe r =>
    have hr : (0 : ℝ) ≤ r := by exact_mod_cast hx
    have h : Ideal.log1p (r : EReal) = ((Real.log (1 + r) : ℝ) : EReal) := by
      show Ideal.log ((1 : ℝ) + (r : EReal)) = _
      rw [← EReal.coe_add]
      show (if 1 + r ≤ 0 then (⊥ : EReal) else _) = _
      rw [if_neg (by linarith)]
    rw [h]
    exact EReal.coe_ne_bot _

/-- Minus the softplus of `-z`: what the reference computes. -/
theorem neg_softplus (z : EReal) :
    -(max (-z) 0 + Ideal.log1p (Ideal.exp (-(max (-z - 0) (-(-z - 0)))))) = logGate z := by
  have hb := log1p_ne_bot _ (exp_nonneg (-(max (-z - 0) (-(-z - 0)))))
  have hm : max (-z) 0 ≠ ⊥ := fun h => by
    have : (0 : EReal) ≤ ⊥ := h ▸ le_max_right _ _
    simp at this
  rw [EReal.neg_add (.inl hm) (.inr hb)]
  unfold logGate
  rw [sub_zero, neg_neg, max_comm (-z) z, zero_sub]
  refine congrArg (· - _) ?_
  rcases le_total z 0 with h | h
  · rw [min_eq_left h, max_eq_left (by simpa using EReal.neg_le_neg_iff.mpr h), neg_neg]
  · rw [min_eq_right h, max_eq_right (by simpa using EReal.neg_le_neg_iff.mpr h), neg_zero]

end Cert.Gate

end
-- ==== Proof.ProjArray.lean ====
/- The arrays the projection into the FoX attention leaves on the prompt: projections of the normed rows and the logarithms of the gates. -/
module

public import proofs.«01_k».proof.Proof.Gen.ProjIdeal.Value
public import proofs.«01_k».proof.Proof.Rows
public import proofs.«01_k».proof.Proof.Gate
public import Idealize.ShloMosaic.Lib.Pointwise

@[expose] public section

set_option maxRecDepth 16384

noncomputable section

namespace Cert.ProjIdeal.Array

open Idealize.ShloMosaic Idealize.ShloMosaic.TcCoe Idealize.ShloMosaic.Tactic
open Idealize.SL Idealize.SL.Sem
open Idealize.ShloMosaic.Pipeline (Dat)
open Cert.ProjIdeal Cert.ProjIdeal.Gen Cert.Rows Cert.Gate

/-! ## One grid point -/

theorem norm_at (v0 : Vec Ideal S512x1024 .f32) (v1 : Vec Ideal S1x1024 .f32) (r : Fin 512) (d : Fin 1024) :
    k0_pay3 (F := Ideal) v0 v1 (ix2 r d) = unit (fun k => v0 (ix2 r k)) (fun k => v1 (ix2 0 k)) d := by
  pointwise [k0_pay3]
  rfl

theorem q_at (v0 : Vec Ideal S512x1024 .f32) (v1 : Vec Ideal S1x1024 .f32) (v2 : Vec Ideal S1024x1024 .bf16) (r : Fin 512) (d : Fin 1024) :
    k0_pay4 (F := Ideal) v0 v1 v2 (ix2 r d) = ∑ x : Fin 1024, k0_pay3 v0 v1 (ix2 r x) * v2 (ix2 x d) := by
  pointwise [k0_pay4]

theorem k_at (v0 : Vec Ideal S512x1024 .f32) (v1 : Vec Ideal S1x1024 .f32) (v2 : Vec Ideal S1024x1024 .bf16) (r : Fin 512) (d : Fin 1024) :
    k0_pay5 (F := Ideal) v0 v1 v2 (ix2 r d) = ∑ x : Fin 1024, k0_pay3 v0 v1 (ix2 r x) * v2 (ix2 x d) := by
  pointwise [k0_pay5]

theorem k16_at (v0 : Vec Ideal S512x1024 .f32) (v1 : Vec Ideal S1x1024 .f32) (v2 : Vec Ideal S1024x1024 .bf16) (r : Fin 512) (d : Fin 1024) :
    k0_pay6 (F := Ideal) v0 v1 v2 (ix2 r d) = k0_pay5 (F := Ideal) v0 v1 v2 (ix2 r d) * Ideal.ofBits .f32 0x3F800000#32 := by
  pointwise [k0_pay6]

theorem v_at (v0 : Vec Ideal S512x1024 .f32) (v1 : Vec Ideal S1x1024 .f32) (v2 : Vec Ideal S1024x1024 .bf16) (r : Fin 512) (d : Fin 1024) :
    k0_pay7 (F := Ideal) v0 v1 v2 (ix2 r d) = ∑ x : Fin 1024, k0_pay3 v0 v1 (ix2 r x) * v2 (ix2 x d) := by
  pointwise [k0_pay7]

theorem v16_at (v : FVec Ideal S512x1024 .f32) (r : Fin 512) (d : Fin 1024) :
    k0_pay1 (F := Ideal) v (ix2 r d) = v (ix2 r d) * Ideal.ofBits .f32 0x3F800000#32 := by
  pointwise [k0_pay1]

theorem lf_at (v15 : FVec Ideal S512x1024 .bf16) (v36 : Vec Ideal S1024x128 .bf16) (v39 : Vec Ideal S1x128 .f32) (r : Fin 512) (n : Fin 128) :
    k0_pay2 (F := Ideal) v15 v36 v39 (ix2 r n) = logGate ((∑ x : Fin 1024, v15 (ix2 r x) * v36 (ix2 x n)) + v39 (ix2 0 n)) := by
  pointwise [k0_pay2]
  rfl

theorem one : Ideal.ofBits .f32 0x3F800000#32 = 1 := by
  simp [Ideal.ofBits, Ideal.ieee, ← EReal.coe_mul]
  norm_num

/-- The product of a normed row and a column, the blocks' entries known. -/
theorem proj_row {n : Nat} (x0 : Vec Ideal S512x1024 .f32) (x1 : Vec Ideal S1x1024 .f32) (w : Fin 1024 → Fin n → EReal) (x g wc : Fin 1024 → EReal)
    (r : Fin 512) (j : Fin n) (hx : ∀ k : Fin 1024, x0 (ix2 r k) = x k) (hg : ∀ k : Fin 1024, x1 (ix2 0 k) = g k)
    (hw : ∀ d : Fin 1024, w d j = wc d) :
    ∑ d : Fin 1024, k0_pay3 (F := Ideal) x0 x1 (ix2 r d) * w d j = proj x g wc := by
  refine Finset.sum_congr rfl fun d _ => ?_
  rw [norm_at, hw, funext hx, funext hg]

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 16384) (k : Fin 1024) : EReal :=
  (m ((c : Thread nD τ).loc main_arg0) : Vec Ideal S16384x1024 .f32) (ix2 r k)

def Gain (k : Fin 1024) : EReal := (m ((c : Thread nD τ).loc main_arg1) : Vec Ideal S1024 .f32) (ix1 k)

def Wt (d : Fin 1024) (j : Fin 3088) : EReal :=
  (m ((c : Thread nD τ).loc main_arg2) : Vec Ideal S1024x3088 .f32) (ix2 d j)

def Bias (n : Fin 16) : EReal := (m ((c : Thread nD τ).loc main_arg3) : Vec Ideal S16 .f32) (ix1 n)

/-! ## The operands the host code prepares -/

theorem wq_at (d j : Fin 1024) : (V m c main_v1 : Vec Ideal S1024x1024 .bf16) (ix2 d j) = Wt m c d ⟨j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Wt]

theorem wk_at (d j : Fin 1024) : (V m c main_v2 : Vec Ideal S1024x1024 .bf16) (ix2 d j) = Wt m c d ⟨1024 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Wt]

theorem wv_at (d j : Fin 1024) : (V m c main_v3 : Vec Ideal S1024x1024 .bf16) (ix2 d j) = Wt m c d ⟨2048 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Wt]

theorem wf_at (d : Fin 1024) (n : Fin 128) :
    (V m c main_v5 : Vec Ideal S1024x128 .bf16) (ix2 d n) = padded (fun j => Wt m c d ⟨3072 + j.val, by omega⟩) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise []
  rfl

theorem bias_at (n : Fin 128) : (V m c main_v8 : Vec Ideal S1x128 .f32) (ix2 0 n) = padded (Bias m c) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise []
  rfl

theorem gain_at (k : Fin 1024) : (V m c main_v7 : Vec Ideal S1x1024 .f32) (ix2 0 k) = Gain m c k := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Gain]

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = (grid0.coords t 0).val ∧ win0_7.index t 1 = 0)
    ∧ (win0_8.index t 0 = (grid0.coords t 0).val ∧ win0_8.index t 1 = 0)
    ∧ (win0_9.index t 0 = (grid0.coords t 0).val ∧ win0_9.index t 1 = 0)
    ∧ (win0_10.index t 0 = (grid0.coords t 0).val ∧ win0_10.index t 1 = 0)
    ∧ (win0_11.index t 0 = (grid0.coords t 0).val ∧ win0_11.index t 1 = 0)
    ∧ (win0_12.index t 0 = (grid0.coords t 0).val ∧ win0_12.index t 1 = 0) :=
  (by decide +kernel : ∀ t : Fin grid0.N, _)

/-- The row block of a grid point. -/
abbrev blk (t : Fin cfg0.N) : Fin 32 := grid0.coords t 0

theorem x_block (t : Fin cfg0.N) (r : Fin 512) (k : Fin 1024) :
    (iblk m c 0 t : Vec Ideal S512x1024 .f32) (ix2 r k) = X m c ⟨512 * (blk t).val + r.val, by omega⟩ k := by
  obtain ⟨⟨h0, h1⟩, -⟩ := idx_facts t
  have e : (((cfg0.win 0).blk t).view.emb (ix2 r k) : S16384x1024.Idx) = ix2 ⟨512 * (blk t).val + r.val, by omega⟩ k := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * k.val = k.val; rw [h1]; omega
  show (V m c main_arg0 : Vec Ideal S16384x1024 .f32) (((cfg0.win 0).blk t).view.emb (ix2 r k)) = _
  rw [e, V_main_arg0]
  rfl

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v7 : Vec Ideal S1x1024 .f32) (((cfg0.win 1).blk t).view.emb (ix2 0 j)) = _
  rw [e, gain_at]

theorem wq_block (t : Fin cfg0.N) (d : Fin 1024) (j : Fin 1024) :
    (iblk m c 2 t : Vec Ideal S1024x1024 .bf16) (ix2 d j) = Wt m c d ⟨j.val, by omega⟩ := by
  obtain ⟨-, -, ⟨h0, h1⟩, -⟩ := idx_facts t
  have e : (((cfg0.win 2).blk t).view.emb (ix2 d j) : S1024x1024.Idx) = ix2 d j := by
    funext a
    apply Fin.ext
    match a with
    | ⟨0, _⟩ => show win0_2.index t 0 * 1024 + 1 * d.val = d.val; rw [h0]; omega
    | ⟨1, _⟩ => show win0_2.index t 1 * 1024 + 1 * j.val = j.val; rw [h1]; omega
  show (V m c main_v1 : Vec Ideal S1024x1024 .bf16) (((cfg0.win 2).blk t).view.emb (ix2 d j)) = _
  rw [e, wq_at]

theorem wk_block (t : Fin cfg0.N) (d : Fin 1024) (j : Fin 1024) :
    (iblk m c 3 t : Vec Ideal S1024x1024 .bf16) (ix2 d j) = Wt m c d ⟨1024 + j.val, by omega⟩ := by
  obtain ⟨-, -, -, ⟨h0, h1⟩, -⟩ := idx_facts t
  have e : (((cfg0.win 3).blk t).view.emb (ix2 d j) : S1024x1024.Idx) = ix2 d j := by
    funext a
    apply Fin.ext
    match a with
    | ⟨0, _⟩ => show win0_3.index t 0 * 1024 + 1 * d.val = d.val; rw [h0]; omega
    | ⟨1, _⟩ => show win0_3.index t 1 * 1024 + 1 * j.val = j.val; rw [h1]; omega
  show (V m c main_v2 : Vec Ideal S1024x1024 .bf16) (((cfg0.win 3).blk t).view.emb (ix2 d j)) = _
  rw [e, wk_at]

theorem wv_block (t : Fin cfg0.N) (d : Fin 1024) (j : Fin 1024) :
    (iblk m c 4 t : Vec Ideal S1024x1024 .bf16) (ix2 d j) = Wt m c d ⟨2048 + j.val, by omega⟩ := by
  obtain ⟨-, -, -, -, ⟨h0, h1⟩, -⟩ := idx_facts t
  have e : (((cfg0.win 4).blk t).view.emb (ix2 d j) : S1024x1024.Idx) = ix2 d j := by
    funext a
    apply Fin.ext
    match a with
    | ⟨0, _⟩ => show win0_4.index t 0 * 1024 + 1 * d.val = d.val; rw [h0]; omega
    | ⟨1, _⟩ => show win0_4.index t 1 * 1024 + 1 * j.val = j.val; rw [h1]; omega
  show (V m c main_v3 : Vec Ideal S1024x1024 .bf16) (((cfg0.win 4).blk t).view.emb (ix2 d j)) = _
  rw [e, wv_at]

theorem wf_block (t : Fin cfg0.N) (d : Fin 1024) (j : Fin 128) :
    (iblk m c 5 t : Vec Ideal S1024x128 .bf16) (ix2 d j) = padded (fun j => Wt m c d ⟨3072 + j.val, by omega⟩) j := by
  obtain ⟨-, -, -, -, -, ⟨h0, h1⟩, -⟩ := idx_facts t
  have e : (((cfg0.win 5).blk t).view.emb (ix2 d j) : S1024x128.Idx) = ix2 d j := by
    funext a
    apply Fin.ext
    match a with
    | ⟨0, _⟩ => show win0_5.index t 0 * 1024 + 1 * d.val = d.val; rw [h0]; omega
    | ⟨1, _⟩ => show win0_5.index t 1 * 128 + 1 * j.val = j.val; rw [h1]; omega
  show (V m c main_v5 : Vec Ideal S1024x128 .bf16) (((cfg0.win 5).blk t).view.emb (ix2 d j)) = _
  rw [e, wf_at]

theorem bias_block (t : Fin cfg0.N) (j : Fin 128) :
    (iblk m c 6 t : Vec Ideal S1x128 .f32) (ix2 0 j) = padded (Bias m c) j := by
  obtain ⟨-, -, -, -, -, -, ⟨h0, h1⟩, -⟩ := idx_facts t
  have e : (((cfg0.win 6).blk t).view.emb (ix2 0 j) : S1x128.Idx) = ix2 0 j := by
    funext a
    apply Fin.ext
    match a with
    | ⟨0, _⟩ => show win0_6.index t 0 * 1 + 1 * 0 = 0; rw [h0]
    | ⟨1, _⟩ => show win0_6.index t 1 * 128 + 1 * j.val = j.val; rw [h1]; omega
  show (V m c main_v8 : Vec Ideal S1x128 .f32) (((cfg0.win 6).blk t).view.emb (ix2 0 j)) = _
  rw [e, bias_at]

theorem point_of : ∀ b : Fin 32, ∃ t : Fin cfg0.N, (grid0.coords t 0).val = b.val :=
  (by decide +kernel : ∀ b : Fin 32, ∃ t : Fin grid0.N, _)

/-! ## The stored blocks and the arrays -/

/-- A normed row against column `j` of the weights. -/
def P (r : Fin 16384) (j : Fin 3088) : EReal := proj (X m c r) (Gain m c) (fun d => Wt m c d j)

/-- The logit of a gate. -/
def Logit (r : Fin 16384) (n : Fin 128) : EReal :=
  proj (X m c r) (Gain m c) (fun d => padded (fun j => Wt m c d ⟨3072 + j.val, by omega⟩) n) + padded (Bias m c) n

/-- What result 0 is to hold. -/
def G7 : Vec Ideal S16384x1024 .f32 := fun i => P m c (i 0) ⟨(i 1).val, by have h : (i 1).val < 1024 := (i 1).isLt; omega⟩

theorem o_emb7 (t : Fin cfg0.N) (r : Fin 512) (j : Fin 1024) :
    (((cfg0.win 7).blk t).view.emb (ix2 r j) : S16384x1024.Idx) = ix2 ⟨512 * (blk t).val + r.val, by omega⟩ j := by
  obtain ⟨-, -, -, -, -, -, -, ⟨h0, h1⟩, -⟩ := idx_facts t
  funext a
  apply Fin.ext
  match a with
  | ⟨0, _⟩ => show win0_7.index t 0 * 512 + 1 * r.val = 512 * (grid0.coords t 0).val + r.val; rw [h0]; omega
  | ⟨1, _⟩ => show win0_7.index t 1 * 1024 + 1 * j.val = j.val; rw [h1]; omega

theorem out_at7 (t : Fin cfg0.N) (r : Fin 512) (j : Fin 1024) :
    out0_7 (iblk m c 0 t) (iblk m c 1 t) (iblk m c 2 t) (iblk m c 3 t) (iblk m c 4 t) (iblk m c 5 t) (iblk m c 6 t) (ix2 r j)
      = G7 m c (ix2 ⟨512 * (blk t).val + r.val, by omega⟩ j) := by
  unfold out0_7
  rw [View.canon_unit_zero hz, View.ld_unit_zero hz, View.ld_unit_zero hz, View.ld_unit_zero hz]
  exact (q_at _ _ _ r j).trans
    (proj_row (n := 1024) (iblk m c 0 t) (iblk m c 1 t) (fun d j => (iblk m c 2 t : Vec Ideal S1024x1024 .bf16) (ix2 d j)) _ _ _ r j (x_block m c t r) (g_block m c t) (fun d => wq_block m c t d j))

theorem stored_eq7 (t : Fin cfg0.N) (j : S512x1024.Idx) :
    out0_7 (iblk m c 0 t) (iblk m c 1 t) (iblk m c 2 t) (iblk m c 3 t) (iblk m c 4 t) (iblk m c 5 t) (iblk m c 6 t) j
      = G7 m c (((cfg0.win 7).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G7 m c) (o_emb7 t r d)).symm
  exact out_at7 m c t r d

theorem flushed_eq7 (t : Fin cfg0.N) (_ : (cfg0.win 7).flush t = true) :
    (dats m 0 c).flushed 7 t = ((cfg0.win 7).blk t).view.read (Elt Ideal) (G7 m c) := by
  rw [Value.flushed7]
  funext j
  rw [View.read_apply]
  exact stored_eq7 m c t j

theorem covered7 (i : S16384x1024.Idx) :
    ∃ t : Fin cfg0.N, (cfg0.win 7).flush t = true ∧ i ∈ ((cfg0.win 7).blk t).view.set := by
  have h0 : (i 0).val < 16384 := (i 0).isLt
  obtain ⟨t, hb⟩ := point_of ⟨(i 0).val / 512, by omega⟩
  refine ⟨t, flush0_7 t, ?_⟩
  have e := o_emb7 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 7).blk t).view.emb_mem_set _

theorem final7 : (dats m 0 c).arrAt 7 cfg0.N = G7 m c :=
  (dats m 0 c).arrAt_eq_of_cover 7 (G7 m c) (flushed_eq7 m c) covered7

/-- What result 1 is to hold. -/
def G8 : Vec Ideal S16384x1024 .f32 := fun i => P m c (i 0) ⟨1024 + (i 1).val, by have h : (i 1).val < 1024 := (i 1).isLt; omega⟩

theorem o_emb8 (t : Fin cfg0.N) (r : Fin 512) (j : Fin 1024) :
    (((cfg0.win 8).blk t).view.emb (ix2 r j) : S16384x1024.Idx) = ix2 ⟨512 * (blk t).val + r.val, by omega⟩ j := by
  obtain ⟨-, -, -, -, -, -, -, -, ⟨h0, h1⟩, -⟩ := idx_facts t
  funext a
  apply Fin.ext
  match a with
  | ⟨0, _⟩ => show win0_8.index t 0 * 512 + 1 * r.val = 512 * (grid0.coords t 0).val + r.val; rw [h0]; omega
  | ⟨1, _⟩ => show win0_8.index t 1 * 1024 + 1 * j.val = j.val; rw [h1]; omega

theorem out_at8 (t : Fin cfg0.N) (r : Fin 512) (j : Fin 1024) :
    out0_8 (iblk m c 0 t) (iblk m c 1 t) (iblk m c 2 t) (iblk m c 3 t) (iblk m c 4 t) (iblk m c 5 t) (iblk m c 6 t) (ix2 r j)
      = G8 m c (ix2 ⟨512 * (blk t).val + r.val, by omega⟩ j) := by
  unfold out0_8
  rw [View.canon_unit_zero hz, View.ld_unit_zero hz, View.ld_unit_zero hz, View.ld_unit_zero hz]
  exact (k_at _ _ _ r j).trans
    (proj_row (n := 1024) (iblk m c 0 t) (iblk m c 1 t) (fun d j => (iblk m c 3 t : Vec Ideal S1024x1024 .bf16) (ix2 d j)) _ _ _ r j (x_block m c t r) (g_block m c t) (fun d => wk_block m c t d j))

theorem stored_eq8 (t : Fin cfg0.N) (j : S512x1024.Idx) :
    out0_8 (iblk m c 0 t) (iblk m c 1 t) (iblk m c 2 t) (iblk m c 3 t) (iblk m c 4 t) (iblk m c 5 t) (iblk m c 6 t) j
      = G8 m c (((cfg0.win 8).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G8 m c) (o_emb8 t r d)).symm
  exact out_at8 m c t r d

theorem flushed_eq8 (t : Fin cfg0.N) (_ : (cfg0.win 8).flush t = true) :
    (dats m 0 c).flushed 8 t = ((cfg0.win 8).blk t).view.read (Elt Ideal) (G8 m c) := by
  rw [Value.flushed8]
  funext j
  rw [View.read_apply]
  exact stored_eq8 m c t j

theorem covered8 (i : S16384x1024.Idx) :
    ∃ t : Fin cfg0.N, (cfg0.win 8).flush t = true ∧ i ∈ ((cfg0.win 8).blk t).view.set := by
  have h0 : (i 0).val < 16384 := (i 0).isLt
  obtain ⟨t, hb⟩ := point_of ⟨(i 0).val / 512, by omega⟩
  refine ⟨t, flush0_8 t, ?_⟩
  have e := o_emb8 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 8).blk t).view.emb_mem_set _

theorem final8 : (dats m 0 c).arrAt 8 cfg0.N = G8 m c :=
  (dats m 0 c).arrAt_eq_of_cover 8 (G8 m c) (flushed_eq8 m c) covered8

/-- What result 2 is to hold. -/
def G9 : Vec Ideal S16384x1024 .bf16 := fun i => P m c (i 0) ⟨1024 + (i 1).val, by have h : (i 1).val < 1024 := (i 1).isLt; omega⟩

theorem o_emb9 (t : Fin cfg0.N) (r : Fin 512) (j : Fin 1024) :
    (((cfg0.win 9).blk t).view.emb (ix2 r j) : S16384x1024.Idx) = ix2 ⟨512 * (blk t).val + r.val, by omega⟩ j := by
  obtain ⟨-, -, -, -, -, -, -, -, -, ⟨h0, h1⟩, -⟩ := idx_facts t
  funext a
  apply Fin.ext
  match a with
  | ⟨0, _⟩ => show win0_9.index t 0 * 512 + 1 * r.val = 512 * (grid0.coords t 0).val + r.val; rw [h0]; omega
  | ⟨1, _⟩ => show win0_9.index t 1 * 1024 + 1 * j.val = j.val; rw [h1]; omega

theorem out_at9 (t : Fin cfg0.N) (r : Fin 512) (j : Fin 1024) :
    out0_9 (iblk m c 0 t) (iblk m c 1 t) (iblk m c 2 t) (iblk m c 3 t) (iblk m c 4 t) (iblk m c 5 t) (iblk m c 6 t) (ix2 r j)
      = G9 m c (ix2 ⟨512 * (blk t).val + r.val, by omega⟩ j) := by
  unfold out0_9
  rw [View.canon_unit_zero hz, View.ld_unit_zero hz, View.ld_unit_zero hz, View.ld_unit_zero hz]
  refine (k16_at _ _ _ r j).trans ?_
  rw [one, mul_one]
  exact (k_at _ _ _ r j).trans
    (proj_row (n := 1024) (iblk m c 0 t) (iblk m c 1 t) (fun d j => (iblk m c 3 t : Vec Ideal S1024x1024 .bf16) (ix2 d j)) _ _ _ r j (x_block m c t r) (g_block m c t) (fun d => wk_block m c t d j))

theorem stored_eq9 (t : Fin cfg0.N) (j : S512x1024.Idx) :
    out0_9 (iblk m c 0 t) (iblk m c 1 t) (iblk m c 2 t) (iblk m c 3 t) (iblk m c 4 t) (iblk m c 5 t) (iblk m c 6 t) j
      = G9 m c (((cfg0.win 9).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G9 m c) (o_emb9 t r d)).symm
  exact out_at9 m c t r d

theorem flushed_eq9 (t : Fin cfg0.N) (_ : (cfg0.win 9).flush t = true) :
    (dats m 0 c).flushed 9 t = ((cfg0.win 9).blk t).view.read (Elt Ideal) (G9 m c) := by
  rw [Value.flushed9]
  funext j
  rw [View.read_apply]
  exact stored_eq9 m c t j

theorem covered9 (i : S16384x1024.Idx) :
    ∃ t : Fin cfg0.N, (cfg0.win 9).flush t = true ∧ i ∈ ((cfg0.win 9).blk t).view.set := by
  have h0 : (i 0).val < 16384 := (i 0).isLt
  obtain ⟨t, hb⟩ := point_of ⟨(i 0).val / 512, by omega⟩
  refine ⟨t, flush0_9 t, ?_⟩
  have e := o_emb9 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 9).blk t).view.emb_mem_set _

theorem final9 : (dats m 0 c).arrAt 9 cfg0.N = G9 m c :=
  (dats m 0 c).arrAt_eq_of_cover 9 (G9 m c) (flushed_eq9 m c) covered9

/-- What result 3 is to hold. -/
def G10 : Vec Ideal S16384x1024 .f32 := fun i => P m c (i 0) ⟨2048 + (i 1).val, by have h : (i 1).val < 1024 := (i 1).isLt; omega⟩

theorem o_emb10 (t : Fin cfg0.N) (r : Fin 512) (j : Fin 1024) :
    (((cfg0.win 10).blk t).view.emb (ix2 r j) : S16384x1024.Idx) = ix2 ⟨512 * (blk t).val + r.val, by omega⟩ j := by
  obtain ⟨-, -, -, -, -, -, -, -, -, -, ⟨h0, h1⟩, -⟩ := idx_facts t
  funext a
  apply Fin.ext
  match a with
  | ⟨0, _⟩ => show win0_10.index t 0 * 512 + 1 * r.val = 512 * (grid0.coords t 0).val + r.val; rw [h0]; omega
  | ⟨1, _⟩ => show win0_10.index t 1 * 1024 + 1 * j.val = j.val; rw [h1]; omega

theorem out_at10 (t : Fin cfg0.N) (r : Fin 512) (j : Fin 1024) :
    out0_10 (iblk m c 0 t) (iblk m c 1 t) (iblk m c 2 t) (iblk m c 3 t) (iblk m c 4 t) (iblk m c 5 t) (iblk m c 6 t) (ix2 r j)
      = G10 m c (ix2 ⟨512 * (blk t).val + r.val, by omega⟩ j) := by
  unfold out0_10
  rw [View.canon_unit_zero hz]
  unfold k0_pay8
  rw [View.ld_unit_zero hz, View.ld_unit_zero hz, View.ld_unit_zero hz]
  exact (v_at _ _ _ r j).trans
    (proj_row (n := 1024) (iblk m c 0 t) (iblk m c 1 t) (fun d j => (iblk m c 4 t : Vec Ideal S1024x1024 .bf16) (ix2 d j)) _ _ _ r j (x_block m c t r) (g_block m c t) (fun d => wv_block m c t d j))

theorem stored_eq10 (t : Fin cfg0.N) (j : S512x1024.Idx) :
    out0_10 (iblk m c 0 t) (iblk m c 1 t) (iblk m c 2 t) (iblk m c 3 t) (iblk m c 4 t) (iblk m c 5 t) (iblk m c 6 t) j
      = G10 m c (((cfg0.win 10).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G10 m c) (o_emb10 t r d)).symm
  exact out_at10 m c t r d

theorem flushed_eq10 (t : Fin cfg0.N) (_ : (cfg0.win 10).flush t = true) :
    (dats m 0 c).flushed 10 t = ((cfg0.win 10).blk t).view.read (Elt Ideal) (G10 m c) := by
  rw [Value.flushed10]
  funext j
  rw [View.read_apply]
  exact stored_eq10 m c t j

theorem covered10 (i : S16384x1024.Idx) :
    ∃ t : Fin cfg0.N, (cfg0.win 10).flush t = true ∧ i ∈ ((cfg0.win 10).blk t).view.set := by
  have h0 : (i 0).val < 16384 := (i 0).isLt
  obtain ⟨t, hb⟩ := point_of ⟨(i 0).val / 512, by omega⟩
  refine ⟨t, flush0_10 t, ?_⟩
  have e := o_emb10 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 10).blk t).view.emb_mem_set _

theorem final10 : (dats m 0 c).arrAt 10 cfg0.N = G10 m c :=
  (dats m 0 c).arrAt_eq_of_cover 10 (G10 m c) (flushed_eq10 m c) covered10

/-- What result 4 is to hold. -/
def G11 : Vec Ideal S16384x1024 .bf16 := fun i => P m c (i 0) ⟨2048 + (i 1).val, by have h : (i 1).val < 1024 := (i 1).isLt; omega⟩

theorem o_emb11 (t : Fin cfg0.N) (r : Fin 512) (j : Fin 1024) :
    (((cfg0.win 11).blk t).view.emb (ix2 r j) : S16384x1024.Idx) = ix2 ⟨512 * (blk t).val + r.val, by omega⟩ j := by
  obtain ⟨-, -, -, -, -, -, -, -, -, -, -, ⟨h0, h1⟩, -⟩ := idx_facts t
  funext a
  apply Fin.ext
  match a with
  | ⟨0, _⟩ => show win0_11.index t 0 * 512 + 1 * r.val = 512 * (grid0.coords t 0).val + r.val; rw [h0]; omega
  | ⟨1, _⟩ => show win0_11.index t 1 * 1024 + 1 * j.val = j.val; rw [h1]; omega

theorem out_at11 (t : Fin cfg0.N) (r : Fin 512) (j : Fin 1024) :
    out0_11 (iblk m c 0 t) (iblk m c 1 t) (iblk m c 2 t) (iblk m c 3 t) (iblk m c 4 t) (iblk m c 5 t) (iblk m c 6 t) (ix2 r j)
      = G11 m c (ix2 ⟨512 * (blk t).val + r.val, by omega⟩ j) := by
  unfold out0_11
  rw [View.canon_unit_zero hz]
  refine (v16_at _ r j).trans ?_
  rw [one, mul_one]
  unfold k0_pay8
  rw [View.ld_unit_zero hz, View.ld_unit_zero hz, View.ld_unit_zero hz]
  exact (v_at _ _ _ r j).trans
    (proj_row (n := 1024) (iblk m c 0 t) (iblk m c 1 t) (fun d j => (iblk m c 4 t : Vec Ideal S1024x1024 .bf16) (ix2 d j)) _ _ _ r j (x_block m c t r) (g_block m c t) (fun d => wv_block m c t d j))

theorem stored_eq11 (t : Fin cfg0.N) (j : S512x1024.Idx) :
    out0_11 (iblk m c 0 t) (iblk m c 1 t) (iblk m c 2 t) (iblk m c 3 t) (iblk m c 4 t) (iblk m c 5 t) (iblk m c 6 t) j
      = G11 m c (((cfg0.win 11).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G11 m c) (o_emb11 t r d)).symm
  exact out_at11 m c t r d

theorem flushed_eq11 (t : Fin cfg0.N) (_ : (cfg0.win 11).flush t = true) :
    (dats m 0 c).flushed 11 t = ((cfg0.win 11).blk t).view.read (Elt Ideal) (G11 m c) := by
  rw [Value.flushed11]
  funext j
  rw [View.read_apply]
  exact stored_eq11 m c t j

theorem covered11 (i : S16384x1024.Idx) :
    ∃ t : Fin cfg0.N, (cfg0.win 11).flush t = true ∧ i ∈ ((cfg0.win 11).blk t).view.set := by
  have h0 : (i 0).val < 16384 := (i 0).isLt
  obtain ⟨t, hb⟩ := point_of ⟨(i 0).val / 512, by omega⟩
  refine ⟨t, flush0_11 t, ?_⟩
  have e := o_emb11 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 11).blk t).view.emb_mem_set _

theorem final11 : (dats m 0 c).arrAt 11 cfg0.N = G11 m c :=
  (dats m 0 c).arrAt_eq_of_cover 11 (G11 m c) (flushed_eq11 m c) covered11

/-- What result 5 is to hold. -/
def G12 : Vec Ideal S16384x128 .f32 := fun i => logGate (Logit m c (i 0) (i 1))

theorem o_emb12 (t : Fin cfg0.N) (r : Fin 512) (j : Fin 128) :
    (((cfg0.win 12).blk t).view.emb (ix2 r j) : S16384x128.Idx) = ix2 ⟨512 * (blk t).val + r.val, by omega⟩ j := by
  obtain ⟨-, -, -, -, -, -, -, -, -, -, -, -, ⟨h0, h1⟩⟩ := idx_facts t
  funext a
  apply Fin.ext
  match a with
  | ⟨0, _⟩ => show win0_12.index t 0 * 512 + 1 * r.val = 512 * (grid0.coords t 0).val + r.val; rw [h0]; omega
  | ⟨1, _⟩ => show win0_12.index t 1 * 128 + 1 * j.val = j.val; rw [h1]; omega

theorem out_at12 (t : Fin cfg0.N) (r : Fin 512) (j : Fin 128) :
    out0_12 (iblk m c 0 t) (iblk m c 1 t) (iblk m c 2 t) (iblk m c 3 t) (iblk m c 4 t) (iblk m c 5 t) (iblk m c 6 t) (ix2 r j)
      = G12 m c (ix2 ⟨512 * (blk t).val + r.val, by omega⟩ j) := by
  unfold out0_12
  rw [View.canon_unit_zero hz, View.ld_unit_zero hz, View.ld_unit_zero hz, View.ld_unit_zero hz, View.ld_unit_zero hz]
  refine (lf_at _ _ _ r j).trans (congrArg logGate (congrArg₂ (· + ·) ?_ (bias_block m c t j)))
  exact proj_row (n := 128) (iblk m c 0 t) (iblk m c 1 t) (fun d j => (iblk m c 5 t : Vec Ideal S1024x128 .bf16) (ix2 d j)) _ _ _ r j (x_block m c t r) (g_block m c t) (fun d => wf_block m c t d j)

theorem stored_eq12 (t : Fin cfg0.N) (j : S512x128.Idx) :
    out0_12 (iblk m c 0 t) (iblk m c 1 t) (iblk m c 2 t) (iblk m c 3 t) (iblk m c 4 t) (iblk m c 5 t) (iblk m c 6 t) j
      = G12 m c (((cfg0.win 12).blk t).view.emb j) := by
  have hj : j = ix2 (j 0) (j 1) := by
    funext a
    match a with
    | ⟨0, _⟩ => rfl
    | ⟨1, _⟩ => rfl
  generalize (j 0 : Fin 512) = r at hj
  generalize (j 1 : Fin 128) = d at hj
  subst hj
  refine Eq.trans ?_ (congrArg (G12 m c) (o_emb12 t r d)).symm
  exact out_at12 m c t r d

theorem flushed_eq12 (t : Fin cfg0.N) (_ : (cfg0.win 12).flush t = true) :
    (dats m 0 c).flushed 12 t = ((cfg0.win 12).blk t).view.read (Elt Ideal) (G12 m c) := by
  rw [Value.flushed12]
  funext j
  rw [View.read_apply]
  exact stored_eq12 m c t j

theorem covered12 (i : S16384x128.Idx) :
    ∃ t : Fin cfg0.N, (cfg0.win 12).flush t = true ∧ i ∈ ((cfg0.win 12).blk t).view.set := by
  have h0 : (i 0).val < 16384 := (i 0).isLt
  obtain ⟨t, hb⟩ := point_of ⟨(i 0).val / 512, by omega⟩
  refine ⟨t, flush0_12 t, ?_⟩
  have e := o_emb12 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 12).blk t).view.emb_mem_set _

theorem final12 : (dats m 0 c).arrAt 12 cfg0.N = G12 m c :=
  (dats m 0 c).arrAt_eq_of_cover 12 (G12 m c) (flushed_eq12 m c) covered12

/-- The kernel's run: the projections and the gates, the arguments as they were. -/
theorem run : θ_run defs (onTc (τ := τ) (main (F := Ideal))) ⟨m, fun _ => 0, ρ⟩ fun r => ∀ c : Dev nD,
      r.2.mem ((c : Thread nD τ).loc main_v9_0) = G7 m c
      ∧ r.2.mem ((c : Thread nD τ).loc main_v9_1) = G8 m c
      ∧ r.2.mem ((c : Thread nD τ).loc main_v9_2) = G9 m c
      ∧ r.2.mem ((c : Thread nD τ).loc main_v9_3) = G10 m c
      ∧ r.2.mem ((c : Thread nD τ).loc main_v9_4) = G11 m c
      ∧ r.2.mem ((c : Thread nD τ).loc main_v9_5) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final7 m c), (h c).2.1.trans (final8 m c), (h c).2.2.1.trans (final9 m c), (h c).2.2.2.1.trans (final10 m c), (h c).2.2.2.2.1.trans (final11 m c), (h c).2.2.2.2.2.1.trans (final12 m c), (h c).2.2.2.2.2.2⟩) (Value.run_blocks m ρ)

end Cert.ProjIdeal.Array

end
-- ==== Proof.ProjReference.lean ====
/- The reference's projection into the FoX attention on the prompt, read at an index. -/
module

public import proofs.«01_k».proof.Proof.Gen.ProjRefIdeal.Read
public import proofs.«01_k».proof.Proof.Rows
public import proofs.«01_k».proof.Proof.Gate
public import Idealize.ShloMosaic.Lib.Pointwise

@[expose] public section

set_option maxRecDepth 16384

noncomputable section

namespace Cert.ProjRefIdeal.Reference

open Idealize.ShloMosaic Idealize.ShloMosaic.TcCoe Idealize.ShloMosaic.Tactic
open Idealize.SL Idealize.SL.Sem
open Cert.ProjRefIdeal Cert.ProjRefIdeal.Gen Cert.ProjRefIdeal.Read Cert.Rows Cert.Gate

variable (x0 : Vec Ideal S16384x1024 .f32) (x1 : Vec Ideal S1024 .f32) (x2 : Vec Ideal S1024x3088 .f32)
  (x3 : Vec Ideal S16 .f32)

theorem norm_at (r : Fin 16384) (d : Fin 1024) :
    val_main_v12 (F := Ideal) x0 x1 (ix2 r d) = unit (fun k => x0 (ix2 r k)) (fun k => x1 (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  simp only [val_main_v0_apply]
  rw [show (FloatOps.ofBits (F := Ideal) .f32 0x00000000#32 : EReal) = 0 from by show Ideal.ofBits .f32 0x00000000#32 = 0; simp [Ideal.ofBits, Ideal.ieee], zero_add]
  have h1 : ∀ k : Fin 1024, idx_main_v1 (idx_main_v2 (idx_main_v8 (ix2 r d))) k = ix2 r k := fun k => funext fun a => by
    match a with
    | ⟨0, _⟩ => rfl
    | ⟨1, _⟩ => rfl
  have h2 : idx_main_v10 (idx_main_v11 (ix2 r d)) = ix1 d := funext fun a => by
    match a with
    | ⟨0, _⟩ => rfl
  simp only [h1, h2]
  rfl

/-- The product of the normed rows and the first 3072 columns. -/
theorem qkv_at (r : Fin 16384) (j : Fin 3072) :
    val_main_v14 (F := Ideal) x0 x1 x2 (ix2 r j)
      = proj (fun k => x0 (ix2 r k)) (fun k => x1 (ix1 k)) (fun d => x2 (ix2 d ⟨j.val, by omega⟩)) := by
  rw [val_main_v14_apply]
  refine Finset.sum_congr rfl fun k _ => ?_
  have hl : lidx_main_v14 (ix2 r j) k = ix2 r k := funext fun a => by
    match a with
    | ⟨0, _⟩ => rfl
    | ⟨1, _⟩ => rfl
  have hr : idx_main_v13 (ridx_main_v14 (ix2 r j) k) = ix2 k ⟨j.val, by omega⟩ := funext fun a => by
    match a with
    | ⟨0, _⟩ => rfl
    | ⟨1, _⟩ => rfl
  rw [hl, norm_at, val_main_v13_apply, hr]

theorem q_at (r : Fin 16384) (j : Fin 1024) :
    val_main_v15 (F := Ideal) x0 x1 x2 (ix2 r j)
      = proj (fun k => x0 (ix2 r k)) (fun k => x1 (ix1 k)) (fun d => x2 (ix2 d ⟨j.val, by omega⟩)) := by
  rw [val_main_v15_apply]
  have h : idx_main_v15 (ix2 r j) = ix2 r ⟨j.val, by omega⟩ := funext fun a => by
    match a with
    | ⟨0, _⟩ => rfl
    | ⟨1, _⟩ => exact Fin.ext (by simp [idx_main_v15])
  rw [h, qkv_at]

theorem k_at (r : Fin 16384) (j : Fin 1024) :
    val_main_v16 (F := Ideal) x0 x1 x2 (ix2 r j)
      = proj (fun k => x0 (ix2 r k)) (fun k => x1 (ix1 k)) (fun d => x2 (ix2 d ⟨1024 + j.val, by omega⟩)) := by
  rw [val_main_v16_apply]
  have h : idx_main_v16 (ix2 r j) = ix2 r ⟨1024 + j.val, by omega⟩ := funext fun a => by
    match a with
    | ⟨0, _⟩ => rfl
    | ⟨1, _⟩ => exact Fin.ext (by simp [idx_main_v16])
  rw [h, qkv_at]

theorem v_at (r : Fin 16384) (j : Fin 1024) :
    val_main_v17 (F := Ideal) x0 x1 x2 (ix2 r j)
      = proj (fun k => x0 (ix2 r k)) (fun k => x1 (ix1 k)) (fun d => x2 (ix2 d ⟨2048 + j.val, by omega⟩)) := by
  rw [val_main_v17_apply]
  have h : idx_main_v17 (ix2 r j) = ix2 r ⟨2048 + j.val, by omega⟩ := funext fun a => by
    match a with
    | ⟨0, _⟩ => rfl
    | ⟨1, _⟩ => exact Fin.ext (by simp [idx_main_v17])
  rw [h, qkv_at]

theorem k16_at (r : Fin 16384) (j : Fin 1024) :
    val_main_v26 (F := Ideal) x0 x1 x2 (ix2 r j)
      = proj (fun k => x0 (ix2 r k)) (fun k => x1 (ix1 k)) (fun d => x2 (ix2 d ⟨1024 + j.val, by omega⟩)) :=
  (val_main_v26_apply x0 x1 x2 (ix2 r j)).trans (k_at x0 x1 x2 r j)

theorem v16_at (r : Fin 16384) (j : Fin 1024) :
    val_main_v27 (F := Ideal) x0 x1 x2 (ix2 r j)
      = proj (fun k => x0 (ix2 r k)) (fun k => x1 (ix1 k)) (fun d => x2 (ix2 d ⟨2048 + j.val, by omega⟩)) :=
  (val_main_v27_apply x0 x1 x2 (ix2 r j)).trans (v_at x0 x1 x2 r j)

theorem weights_at (d : Fin 1024) (n : Fin 128) :
    val_main_v19 (F := Ideal) x2 (ix2 d n) = padded (fun j => x2 (ix2 d ⟨3072 + j.val, by omega⟩)) n := by
  unfold val_main_v19 val_main_v18 val_main_call0_v0 val_main_c
  pointwise []
  rfl

theorem bias_at (n : Fin 128) : val_main_v21 (F := Ideal) x3 (ix1 n) = padded (fun j => x3 (ix1 j)) n := by
  unfold val_main_v21 val_main_call1_v0 val_main_c_2
  pointwise []
  rfl

theorem logit_at (r : Fin 16384) (n : Fin 128) :
    val_main_v24 (F := Ideal) x0 x1 x2 x3 (ix2 r n)
      = proj (fun k => x0 (ix2 r k)) (fun k => x1 (ix1 k)) (fun d => padded (fun j => x2 (ix2 d ⟨3072 + j.val, by omega⟩)) n)
        + padded (fun j => x3 (ix1 j)) n := by
  rw [val_main_v24_apply, val_main_v20_apply, val_main_v23_apply, val_main_v22_apply]
  have hb : idx_main_v22 (idx_main_v23 (ix2 r n)) = ix1 n := funext fun a => by
    match a with
    | ⟨0, _⟩ => rfl
  rw [hb, bias_at]
  refine congrArg (· + padded (fun j => x3 (ix1 j)) n) (Finset.sum_congr rfl fun k _ => ?_)
  have hl : lidx_main_v20 (ix2 r n) k = ix2 r k := funext fun a => by
    match a with
    | ⟨0, _⟩ => rfl
    | ⟨1, _⟩ => rfl
  have hr : ridx_main_v20 (ix2 r n) k = ix2 k n := funext fun a => by
    match a with
    | ⟨0, _⟩ => rfl
    | ⟨1, _⟩ => rfl
  rw [hl, hr, norm_at, weights_at]

/-- A number does not differ from itself. -/
theorem une_self (d : EReal) : (FloatOps.cmpf (F := Ideal) (φ := .f32) .une d d : BitVec 1) = 0#1 := by
  show Ideal.cmp .une d d = 0#1
  simp [Ideal.cmp]

theorem gate_at (r : Fin 16384) (n : Fin 128) :
    val_main_v25 (F := Ideal) x0 x1 x2 x3 (ix2 r n) = logGate (val_main_v24 (F := Ideal) x0 x1 x2 x3 (ix2 r n)) := by
  rw [val_main_v25_apply, val_main_call2_v1_apply, val_main_call2_call0_v4_apply, une_self, val_main_call2_call0_v11_apply,
    val_main_call2_call0_v1_apply, val_main_call2_call0_v10_apply, val_main_call2_call0_v9_apply, val_main_call2_call0_v8_apply,
    val_main_call2_call0_v7_apply, val_main_call2_call0_v3_apply, val_main_call2_v0_apply, val_main_call2_call0_v0_apply,
    val_main_call2_call0_v2_apply, val_main_call2_call0_cst_apply, show (FloatOps.ofBits (F := Ideal) .f32 0x00000000#32 : EReal) = 0 from by show Ideal.ofBits .f32 0x00000000#32 = 0; simp [Ideal.ofBits, Ideal.ieee]]
  exact neg_softplus (val_main_v24 (F := Ideal) x0 x1 x2 x3 (ix2 r n))

end Cert.ProjRefIdeal.Reference

end
-- ==== Proof.NextArray.lean ====
/- The arrays the projection into the FoX attention leaves for the tokens to come: projections of the normed rows and the logarithms of the gates. -/
module

public import proofs.«01_k».proof.Proof.Gen.NextIdeal.Value
public import proofs.«01_k».proof.Proof.Rows
public import proofs.«01_k».proof.Proof.Gate
public import Idealize.ShloMosaic.Lib.Pointwise

@[expose] public section

set_option maxRecDepth 16384

noncomputable section

namespace Cert.NextIdeal.Array

open Idealize.ShloMosaic Idealize.ShloMosaic.TcCoe Idealize.ShloMosaic.Tactic
open Idealize.SL Idealize.SL.Sem
open Idealize.ShloMosaic.Pipeline (Dat)
open Cert.NextIdeal Cert.NextIdeal.Gen Cert.Rows Cert.Gate

/-! ## One grid point -/

theorem norm_at (v0 : Vec Ideal S32x1024 .f32) (v1 : Vec Ideal S1x1024 .f32) (r : Fin 32) (d : Fin 1024) :
    k0_pay2 (F := Ideal) v0 v1 (ix2 r d) = unit (fun k => v0 (ix2 r k)) (fun k => v1 (ix2 0 k)) d := by
  pointwise [k0_pay2]
  rfl

theorem q_at (v0 : Vec Ideal S32x1024 .f32) (v1 : Vec Ideal S1x1024 .f32) (v2 : Vec Ideal S1024x1024 .bf16) (r : Fin 32) (d : Fin 1024) :
    k0_pay3 (F := Ideal) v0 v1 v2 (ix2 r d) = ∑ x : Fin 1024, k0_pay2 v0 v1 (ix2 r x) * v2 (ix2 x d) := by
  pointwise [k0_pay3]

theorem k_at (v0 : Vec Ideal S32x1024 .f32) (v1 : Vec Ideal S1x1024 .f32) (v2 : Vec Ideal S1024x1024 .bf16) (r : Fin 32) (d : Fin 1024) :
    k0_pay4 (F := Ideal) v0 v1 v2 (ix2 r d) = ∑ x : Fin 1024, k0_pay2 v0 v1 (ix2 r x) * v2 (ix2 x d) := by
  pointwise [k0_pay4]

theorem v_at (v0 : Vec Ideal S32x1024 .f32) (v1 : Vec Ideal S1x1024 .f32) (v2 : Vec Ideal S1024x1024 .bf16) (r : Fin 32) (d : Fin 1024) :
    k0_pay5 (F := Ideal) v0 v1 v2 (ix2 r d) = ∑ x : Fin 1024, k0_pay2 v0 v1 (ix2 r x) * v2 (ix2 x d) := by
  pointwise [k0_pay5]

theorem lf_at (v0 : Vec Ideal S32x1024 .f32) (v1 : Vec Ideal S1x1024 .f32) (v36 : Vec Ideal S1024x128 .bf16) (v39 : Vec Ideal S1x128 .f32) (r : Fin 32) (n : Fin 128) :
    k0_pay1 (F := Ideal) (k0_pay6 v0 v1 v36) v39 (ix2 r n) = logGate ((∑ x : Fin 1024, k0_pay2 v0 v1 (ix2 r x) * v36 (ix2 x n)) + v39 (ix2 0 n)) := by
  pointwise [k0_pay6, k0_pay1]
  rfl

/-- The product of a normed row and a column, the blocks' entries known. -/
theorem proj_row {n : Nat} (x0 : Vec Ideal S32x1024 .f32) (x1 : Vec Ideal S1x1024 .f32) (w : Fin 1024 → Fin n → EReal) (x g wc : Fin 1024 → EReal)
    (r : Fin 32) (j : Fin n) (hx : ∀ k : Fin 1024, x0 (ix2 r k) = x k) (hg : ∀ k : Fin 1024, x1 (ix2 0 k) = g k)
    (hw : ∀ d : Fin 1024, w d j = wc d) :
    ∑ d : Fin 1024, k0_pay2 (F := Ideal) x0 x1 (ix2 r d) * w d j = proj x g wc := by
  refine Finset.sum_congr rfl fun d _ => ?_
  rw [norm_at, hw, funext hx, funext hg]

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 32) (k : Fin 1024) : EReal :=
  (m ((c : Thread nD τ).loc main_arg0) : Vec Ideal S32x1024 .f32) (ix2 r k)

def Gain (k : Fin 1024) : EReal := (m ((c : Thread nD τ).loc main_arg1) : Vec Ideal S1024 .f32) (ix1 k)

def Wt (d : Fin 1024) (j : Fin 3088) : EReal :=
  (m ((c : Thread nD τ).loc main_arg2) : Vec Ideal S1024x3088 .f32) (ix2 d j)

def Bias (n : Fin 16) : EReal := (m ((c : Thread nD τ).loc main_arg3) : Vec Ideal S16 .f32) (ix1 n)

/-! ## The operands the host code prepares -/

theorem wq_at (d j : Fin 1024) : (V m c main_v1 : Vec Ideal S1024x1024 .bf16) (ix2 d j) = Wt m c d ⟨j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Wt]

theorem wk_at (d j : Fin 1024) : (V m c main_v2 : Vec Ideal S1024x1024 .bf16) (ix2 d j) = Wt m c d ⟨1024 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Wt]

theorem wv_at (d j : Fin 1024) : (V m c main_v3 : Vec Ideal S1024x1024 .bf16) (ix2 d j) = Wt m c d ⟨2048 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Wt]

theorem wf_at (d : Fin 1024) (n : Fin 128) :
    (V m c main_v5 : Vec Ideal S1024x128 .bf16) (ix2 d n) = padded (fun j => Wt m c d ⟨3072 + j.val, by omega⟩) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise []
  rfl

theorem bias_at (n : Fin 128) : (V m c main_v8 : Vec Ideal S1x128 .f32) (ix2 0 n) = padded (Bias m c) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise []
  rfl

theorem gain_at (k : Fin 1024) : (V m c main_v7 : Vec Ideal S1x1024 .f32) (ix2 0 k) = Gain m c k := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  entry_read
  pointwise [Gain]

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = (grid0.coords t 0).val ∧ win0_7.index t 1 = 0)
    ∧ (win0_8.index t 0 = (grid0.coords t 0).val ∧ win0_8.index t 1 = 0)
    ∧ (win0_9.index t 0 = (grid0.coords t 0).val ∧ win0_9.index t 1 = 0)
    ∧ (win0_10.index t 0 = (grid0.coords t 0).val ∧ win0_10.index t 1 = 0) :=
  (by decide +kernel : ∀ t : Fin grid0.N, _)

/-- The row block of a grid point. -/
abbrev blk (t : Fin cfg0.N) : Fin 1 := grid0.coords t 0

theorem x_block (t : Fin cfg0.N) (r : Fin 32) (k : Fin 1024) :
    (iblk m c 0 t : Vec Ideal S32x1024 .f32) (ix2 r k) = X m c ⟨32 * (blk t).val + r.val, by omega⟩ k := by
  obtain ⟨⟨h0, h1⟩, -⟩ := idx_facts t
  have e : (((cfg0.win 0).blk t).view.emb (ix2 r k) : S32x1024.Idx) = ix2 ⟨32 * (blk t).val + r.val, by omega⟩ k := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * k.val = k.val; rw [h1]; omega
  show (V m c main_arg0 : Vec Ideal S32x1024 .f32) (((cfg0.win 0).blk t).view.emb (ix2 r k)) = _
  rw [e, V_main_arg0]
  rfl

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v7 : Vec Ideal S1x1024 .f32) (((cfg0.win 1).blk t).view.emb (ix2 0 j)) = _
  rw [e, gain_at]

theorem wq_block (t : Fin cfg0.N) (d : Fin 1024) (j : Fin 1024) :
    (iblk m c 2 t : Vec Ideal S1024x1024 .bf16) (ix2 d j) = Wt m c d ⟨j.val, by omega⟩ := by
  obtain ⟨-, -, ⟨h0, h1⟩, -⟩ := idx_facts t
  have e : (((cfg0.win 2).blk t).view.emb (ix2 d j) : S1024x1024.Idx) = ix2 d j := by
    funext a
    apply Fin.ext
    match a with
    | ⟨0, _⟩ => show win0_2.index t 0 * 1024 + 1 * d.val = d.val; rw [h0]; omega
    | ⟨1, _⟩ => show win0_2.index t 1 * 1024 + 1 * j.val = j.val; rw [h1]; omega
  show (V m c main_v1 : Vec Ideal S1024x1024 .bf16) (((cfg0.win 2).blk t).view.emb (ix2 d j)) = _
  rw [e, wq_at]

theorem wk_block (t : Fin cfg0.N) (d : Fin 1024) (j : Fin 1024) :
    (iblk m c 3 t : Vec Ideal S1024x1024 .bf16) (ix2 d j) = Wt m c d ⟨1024 + j.val, by omega⟩ := by
  obtain ⟨-, -, -, ⟨h0, h1⟩, -⟩ := idx_facts t
  have e : (((cfg0.win 3).blk t).view.emb (ix2 d j) : S1024x1024.Idx) = ix2 d j := by
    funext a
    apply Fin.ext
    match a with
    | ⟨0, _⟩ => show win0_3.index t 0 * 1024 + 1 * d.val = d.val; rw [h0]; omega
    | ⟨1, _⟩ => show win0_3.index t 1 * 1024 + 1 * j.val = j.val; rw [h1]; omega
  show (V m c main_v2 : Vec Ideal S1024x1024 .bf16) (((cfg0.win 3).blk t).view.emb (ix2 d j)) = _
  rw [e, wk_at]

theorem wv_block (t : Fin cfg0.N) (d : Fin 1024) (j : Fin 1024) :
    (iblk m c 4 t : Vec Ideal S1024x1024 .bf16) (ix2 d j) = Wt m c d ⟨2048 + j.val, by omega⟩ := by
  obtain ⟨-, -, -, -, ⟨h0, h1⟩, -⟩ := idx_facts t
  have e : (((cfg0.win 4).blk t).view.emb (ix2 d j) : S1024x1024.Idx) = ix2 d j := by
    funext a
    apply Fin.ext
    match a with
    | ⟨0, _⟩ => show win0_4.index t 0 * 1024 + 1 * d.val = d.val; rw [h0]; omega
    | ⟨1, _⟩ => show win0_4.index t 1 * 1024 + 1 * j.val = j.val; rw [h1]; omega
  show (V m c main_v3 : Vec Ideal S1024x1024 .bf16) (((cfg0.win 4).blk t).view.emb (ix2 d j)) = _
  rw [e, wv_at]

theorem wf_block (t : Fin cfg0.N) (d : Fin 1024) (j : Fin 128) :
    (iblk m c 5 t : Vec Ideal S1024x128 .bf16) (ix2 d j) = padded (fun j => Wt m c d ⟨3072 + j.val, by omega⟩) j := by
  obtain ⟨-, -, -, -, -, ⟨h0, h1⟩, -⟩ := idx_facts t
  have e : (((cfg0.win 5).blk t).view.emb (ix2 d j) : S1024x128.Idx) = ix2 d j := by
    funext a
    apply Fin.ext
    match a with
    | ⟨0, _⟩ => show win0_5.index t 0 * 1024 + 1 * d.val = d.val; rw [h0]; omega
    | ⟨1, _⟩ => show win0_5.index t 1 * 128 + 1 * j.val = j.val; rw [h1]; omega
  show (V m c main_v5 : Vec Ideal S1024x128 .bf16) (((cfg0.win 5).blk t).view.emb (ix2 d j)) = _
  rw [e, wf_at]

theorem bias_block (t : Fin cfg0.N) (j : Fin 128) :
    (iblk m c 6 t : Vec Ideal S1x128 .f32) (ix2 0 j) = padded (Bias m c) j := by
  obtain ⟨-, -, -, -, -, -, ⟨h0, h1⟩, -⟩ := idx_facts t
  have e : (((cfg0.win 6).blk t).view.emb (ix2 0 j) : S1x128.Idx) = ix2 0 j := by
    funext a
    apply Fin.ext
    match a with
    | ⟨0, _⟩ => show win0_6.index t 0 * 1 + 1 * 0 = 0; rw [h0]
    | ⟨1, _⟩ => show win0_6.index t 1 * 128 + 1 * j.val = j.val; rw [h1]; omega
  show (V m c main_v8 : Vec Ideal S1x128 .f32) (((cfg0.win 6).blk t).view.emb (ix2 0 j)) = _
  rw [e, bias_at]

theorem point_of : ∀ b : Fin 1, ∃ t : Fin cfg0.N, (grid0.coords t 0).val = b.val :=
  (by decide +kernel : ∀ b : Fin 1, ∃ t : Fin grid0.N, _)

/-! ## The stored blocks and the arrays -/

/-- A normed row against column `j` of the weights. -/
def P (r : Fin 32) (j : Fin 3088) : EReal := proj (X m c r) (Gain m c) (fun d => Wt m c d j)

/-- The logit of a gate. -/
def Logit (r : Fin 32) (n : Fin 128) : EReal :=
  proj (X m c r) (Gain m c) (fun d => padded (fun j => Wt m c d ⟨3072 + j.val, by omega⟩) n) + padded (Bias m c) n

/-- What result 0 is to hold. -/
def G7 : Vec Ideal S32x1024 .f32 := fun i => P m c (i 0) ⟨(i 1).val, by have h : (i 1).val < 1024 := (i 1).isLt; omega⟩

theorem o_emb7 (t : Fin cfg0.N) (r : Fin 32) (j : Fin 1024) :
    (((cfg0.win 7).blk t).view.emb (ix2 r j) : S32x1024.Idx) = ix2 ⟨32 * (blk t).val + r.val, by omega⟩ j := by
  obtain ⟨-, -, -, -, -, -, -, ⟨h0, h1⟩, -⟩ := idx_facts t
  funext a
  apply Fin.ext
  match a with
  | ⟨0, _⟩ => show win0_7.index t 0 * 32 + 1 * r.val = 32 * (grid0.coords t 0).val + r.val; rw [h0]; omega
  | ⟨1, _⟩ => show win0_7.index t 1 * 1024 + 1 * j.val = j.val; rw [h1]; omega

theorem out_at7 (t : Fin cfg0.N) (r : Fin 32) (j : Fin 1024) :
    out0_7 (iblk m c 0 t) (iblk m c 1 t) (iblk m c 2 t) (iblk m c 3 t) (iblk m c 4 t) (iblk m c 5 t) (iblk m c 6 t) (ix2 r j)
      = G7 m c (ix2 ⟨32 * (blk t).val + r.val, by omega⟩ j) := by
  unfold out0_7
  rw [View.canon_unit_zero hz, View.ld_unit_zero hz, View.ld_unit_zero hz, View.ld_unit_zero hz]
  exact (q_at _ _ _ r j).trans
    (proj_row (n := 1024) (iblk m c 0 t) (iblk m c 1 t) (fun d j => (iblk m c 2 t : Vec Ideal S1024x1024 .bf16) (ix2 d j)) _ _ _ r j (x_block m c t r) (g_block m c t) (fun d => wq_block m c t d j))

theorem stored_eq7 (t : Fin cfg0.N) (j : S32x1024.Idx) :
    out0_7 (iblk m c 0 t) (iblk m c 1 t) (iblk m c 2 t) (iblk m c 3 t) (iblk m c 4 t) (iblk m c 5 t) (iblk m c 6 t) j
      = G7 m c (((cfg0.win 7).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G7 m c) (o_emb7 t r d)).symm
  exact out_at7 m c t r d

theorem flushed_eq7 (t : Fin cfg0.N) (_ : (cfg0.win 7).flush t = true) :
    (dats m 0 c).flushed 7 t = ((cfg0.win 7).blk t).view.read (Elt Ideal) (G7 m c) := by
  rw [Value.flushed7]
  funext j
  rw [View.read_apply]
  exact stored_eq7 m c t j

theorem covered7 (i : S32x1024.Idx) :
    ∃ t : Fin cfg0.N, (cfg0.win 7).flush t = true ∧ i ∈ ((cfg0.win 7).blk t).view.set := by
  have h0 : (i 0).val < 32 := (i 0).isLt
  obtain ⟨t, hb⟩ := point_of ⟨(i 0).val / 32, by omega⟩
  refine ⟨t, flush0_7 t, ?_⟩
  have e := o_emb7 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 7).blk t).view.emb_mem_set _

theorem final7 : (dats m 0 c).arrAt 7 cfg0.N = G7 m c :=
  (dats m 0 c).arrAt_eq_of_cover 7 (G7 m c) (flushed_eq7 m c) covered7

/-- What result 1 is to hold. -/
def G8 : Vec Ideal S32x1024 .f32 := fun i => P m c (i 0) ⟨1024 + (i 1).val, by have h : (i 1).val < 1024 := (i 1).isLt; omega⟩

theorem o_emb8 (t : Fin cfg0.N) (r : Fin 32) (j : Fin 1024) :
    (((cfg0.win 8).blk t).view.emb (ix2 r j) : S32x1024.Idx) = ix2 ⟨32 * (blk t).val + r.val, by omega⟩ j := by
  obtain ⟨-, -, -, -, -, -, -, -, ⟨h0, h1⟩, -⟩ := idx_facts t
  funext a
  apply Fin.ext
  match a with
  | ⟨0, _⟩ => show win0_8.index t 0 * 32 + 1 * r.val = 32 * (grid0.coords t 0).val + r.val; rw [h0]; omega
  | ⟨1, _⟩ => show win0_8.index t 1 * 1024 + 1 * j.val = j.val; rw [h1]; omega

theorem out_at8 (t : Fin cfg0.N) (r : Fin 32) (j : Fin 1024) :
    out0_8 (iblk m c 0 t) (iblk m c 1 t) (iblk m c 2 t) (iblk m c 3 t) (iblk m c 4 t) (iblk m c 5 t) (iblk m c 6 t) (ix2 r j)
      = G8 m c (ix2 ⟨32 * (blk t).val + r.val, by omega⟩ j) := by
  unfold out0_8
  rw [View.canon_unit_zero hz, View.ld_unit_zero hz, View.ld_unit_zero hz, View.ld_unit_zero hz]
  exact (k_at _ _ _ r j).trans
    (proj_row (n := 1024) (iblk m c 0 t) (iblk m c 1 t) (fun d j => (iblk m c 3 t : Vec Ideal S1024x1024 .bf16) (ix2 d j)) _ _ _ r j (x_block m c t r) (g_block m c t) (fun d => wk_block m c t d j))

theorem stored_eq8 (t : Fin cfg0.N) (j : S32x1024.Idx) :
    out0_8 (iblk m c 0 t) (iblk m c 1 t) (iblk m c 2 t) (iblk m c 3 t) (iblk m c 4 t) (iblk m c 5 t) (iblk m c 6 t) j
      = G8 m c (((cfg0.win 8).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G8 m c) (o_emb8 t r d)).symm
  exact out_at8 m c t r d

theorem flushed_eq8 (t : Fin cfg0.N) (_ : (cfg0.win 8).flush t = true) :
    (dats m 0 c).flushed 8 t = ((cfg0.win 8).blk t).view.read (Elt Ideal) (G8 m c) := by
  rw [Value.flushed8]
  funext j
  rw [View.read_apply]
  exact stored_eq8 m c t j

theorem covered8 (i : S32x1024.Idx) :
    ∃ t : Fin cfg0.N, (cfg0.win 8).flush t = true ∧ i ∈ ((cfg0.win 8).blk t).view.set := by
  have h0 : (i 0).val < 32 := (i 0).isLt
  obtain ⟨t, hb⟩ := point_of ⟨(i 0).val / 32, by omega⟩
  refine ⟨t, flush0_8 t, ?_⟩
  have e := o_emb8 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 8).blk t).view.emb_mem_set _

theorem final8 : (dats m 0 c).arrAt 8 cfg0.N = G8 m c :=
  (dats m 0 c).arrAt_eq_of_cover 8 (G8 m c) (flushed_eq8 m c) covered8

/-- What result 2 is to hold. -/
def G9 : Vec Ideal S32x1024 .f32 := fun i => P m c (i 0) ⟨2048 + (i 1).val, by have h : (i 1).val < 1024 := (i 1).isLt; omega⟩

theorem o_emb9 (t : Fin cfg0.N) (r : Fin 32) (j : Fin 1024) :
    (((cfg0.win 9).blk t).view.emb (ix2 r j) : S32x1024.Idx) = ix2 ⟨32 * (blk t).val + r.val, by omega⟩ j := by
  obtain ⟨-, -, -, -, -, -, -, -, -, ⟨h0, h1⟩, -⟩ := idx_facts t
  funext a
  apply Fin.ext
  match a with
  | ⟨0, _⟩ => show win0_9.index t 0 * 32 + 1 * r.val = 32 * (grid0.coords t 0).val + r.val; rw [h0]; omega
  | ⟨1, _⟩ => show win0_9.index t 1 * 1024 + 1 * j.val = j.val; rw [h1]; omega

theorem out_at9 (t : Fin cfg0.N) (r : Fin 32) (j : Fin 1024) :
    out0_9 (iblk m c 0 t) (iblk m c 1 t) (iblk m c 2 t) (iblk m c 3 t) (iblk m c 4 t) (iblk m c 5 t) (iblk m c 6 t) (ix2 r j)
      = G9 m c (ix2 ⟨32 * (blk t).val + r.val, by omega⟩ j) := by
  unfold out0_9
  rw [View.canon_unit_zero hz, View.ld_unit_zero hz, View.ld_unit_zero hz, View.ld_unit_zero hz]
  exact (v_at _ _ _ r j).trans
    (proj_row (n := 1024) (iblk m c 0 t) (iblk m c 1 t) (fun d j => (iblk m c 4 t : Vec Ideal S1024x1024 .bf16) (ix2 d j)) _ _ _ r j (x_block m c t r) (g_block m c t) (fun d => wv_block m c t d j))

theorem stored_eq9 (t : Fin cfg0.N) (j : S32x1024.Idx) :
    out0_9 (iblk m c 0 t) (iblk m c 1 t) (iblk m c 2 t) (iblk m c 3 t) (iblk m c 4 t) (iblk m c 5 t) (iblk m c 6 t) j
      = G9 m c (((cfg0.win 9).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G9 m c) (o_emb9 t r d)).symm
  exact out_at9 m c t r d

theorem flushed_eq9 (t : Fin cfg0.N) (_ : (cfg0.win 9).flush t = true) :
    (dats m 0 c).flushed 9 t = ((cfg0.win 9).blk t).view.read (Elt Ideal) (G9 m c) := by
  rw [Value.flushed9]
  funext j
  rw [View.read_apply]
  exact stored_eq9 m c t j

theorem covered9 (i : S32x1024.Idx) :
    ∃ t : Fin cfg0.N, (cfg0.win 9).flush t = true ∧ i ∈ ((cfg0.win 9).blk t).view.set := by
  have h0 : (i 0).val < 32 := (i 0).isLt
  obtain ⟨t, hb⟩ := point_of ⟨(i 0).val / 32, by omega⟩
  refine ⟨t, flush0_9 t, ?_⟩
  have e := o_emb9 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 9).blk t).view.emb_mem_set _

theorem final9 : (dats m 0 c).arrAt 9 cfg0.N = G9 m c :=
  (dats m 0 c).arrAt_eq_of_cover 9 (G9 m c) (flushed_eq9 m c) covered9

/-- What result 3 is to hold. -/
def G10 : Vec Ideal S32x128 .f32 := fun i => logGate (Logit m c (i 0) (i 1))

theorem o_emb10 (t : Fin cfg0.N) (r : Fin 32) (j : Fin 128) :
    (((cfg0.win 10).blk t).view.emb (ix2 r j) : S32x128.Idx) = ix2 ⟨32 * (blk t).val + r.val, by omega⟩ j := by
  obtain ⟨-, -, -, -, -, -, -, -, -, -, ⟨h0, h1⟩⟩ := idx_facts t
  funext a
  apply Fin.ext
  match a with
  | ⟨0, _⟩ => show win0_10.index t 0 * 32 + 1 * r.val = 32 * (grid0.coords t 0).val + r.val; rw [h0]; omega
  | ⟨1, _⟩ => show win0_10.index t 1 * 128 + 1 * j.val = j.val; rw [h1]; omega

theorem out_at10 (t : Fin cfg0.N) (r : Fin 32) (j : Fin 128) :
    out0_10 (iblk m c 0 t) (iblk m c 1 t) (iblk m c 2 t) (iblk m c 3 t) (iblk m c 4 t) (iblk m c 5 t) (iblk m c 6 t) (ix2 r j)
      = G10 m c (ix2 ⟨32 * (blk t).val + r.val, by omega⟩ j) := by
  unfold out0_10
  rw [View.canon_unit_zero hz, View.ld_unit_zero hz, View.ld_unit_zero hz, View.ld_unit_zero hz, View.ld_unit_zero hz]
  refine (lf_at _ _ _ _ r j).trans (congrArg logGate (congrArg₂ (· + ·) ?_ (bias_block m c t j)))
  exact proj_row (n := 128) (iblk m c 0 t) (iblk m c 1 t) (fun d j => (iblk m c 5 t : Vec Ideal S1024x128 .bf16) (ix2 d j)) _ _ _ r j (x_block m c t r) (g_block m c t) (fun d => wf_block m c t d j)

theorem stored_eq10 (t : Fin cfg0.N) (j : S32x128.Idx) :
    out0_10 (iblk m c 0 t) (iblk m c 1 t) (iblk m c 2 t) (iblk m c 3 t) (iblk m c 4 t) (iblk m c 5 t) (iblk m c 6 t) j
      = G10 m c (((cfg0.win 10).blk t).view.emb j) := by
  have hj : j = ix2 (j 0) (j 1) := by
    funext a
    match a with
    | ⟨0, _⟩ => rfl
    | ⟨1, _⟩ => rfl
  generalize (j 0 : Fin 32) = r at hj
  generalize (j 1 : Fin 128) = d at hj
  subst hj
  refine Eq.trans ?_ (congrArg (G10 m c) (o_emb10 t r d)).symm
  exact out_at10 m c t r d

theorem flushed_eq10 (t : Fin cfg0.N) (_ : (cfg0.win 10).flush t = true) :
    (dats m 0 c).flushed 10 t = ((cfg0.win 10).blk t).view.read (Elt Ideal) (G10 m c) := by
  rw [Value.flushed10]
  funext j
  rw [View.read_apply]
  exact stored_eq10 m c t j

theorem covered10 (i : S32x128.Idx) :
    ∃ t : Fin cfg0.N, (cfg0.win 10).flush t = true ∧ i ∈ ((cfg0.win 10).blk t).view.set := by
  have h0 : (i 0).val < 32 := (i 0).isLt
  obtain ⟨t, hb⟩ := point_of ⟨(i 0).val / 32, by omega⟩
  refine ⟨t, flush0_10 t, ?_⟩
  have e := o_emb10 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 10).blk t).view.emb_mem_set _

theorem final10 : (dats m 0 c).arrAt 10 cfg0.N = G10 m c :=
  (dats m 0 c).arrAt_eq_of_cover 10 (G10 m c) (flushed_eq10 m c) covered10

/-- The kernel's run: the projections and the gates, the arguments as they were. -/
theorem run : θ_run defs (onTc (τ := τ) (main (F := Ideal))) ⟨m, fun _ => 0, ρ⟩ fun r => ∀ c : Dev nD,
      r.2.mem ((c : Thread nD τ).loc main_v9_0) = G7 m c
      ∧ r.2.mem ((c : Thread nD τ).loc main_v9_1) = G8 m c
      ∧ r.2.mem ((c : Thread nD τ).loc main_v9_2) = G9 m c
      ∧ r.2.mem ((c : Thread nD τ).loc main_v9_3) = G10 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final7 m c), (h c).2.1.trans (final8 m c), (h c).2.2.1.trans (final9 m c), (h c).2.2.2.1.trans (final10 m c), (h c).2.2.2.2⟩) (Value.run_blocks m ρ)

end Cert.NextIdeal.Array

end
-- ==== Proof.NextReference.lean ====
/- The reference's projection into the FoX attention for the tokens to come, read at an index. -/
module

public import proofs.«01_k».proof.Proof.Gen.NextRefIdeal.Read
public import proofs.«01_k».proof.Proof.Rows
public import proofs.«01_k».proof.Proof.Gate
public import Idealize.ShloMosaic.Lib.Pointwise

@[expose] public section

set_option maxRecDepth 16384

noncomputable section

namespace Cert.NextRefIdeal.Reference

open Idealize.ShloMosaic Idealize.ShloMosaic.TcCoe Idealize.ShloMosaic.Tactic
open Idealize.SL Idealize.SL.Sem
open Cert.NextRefIdeal Cert.NextRefIdeal.Gen Cert.NextRefIdeal.Read Cert.Rows Cert.Gate

variable (x0 : Vec Ideal S32x1024 .f32) (x1 : Vec Ideal S1024 .f32) (x2 : Vec Ideal S1024x3088 .f32)
  (x3 : Vec Ideal S16 .f32)

theorem norm_at (r : Fin 32) (d : Fin 1024) :
    val_main_v12 (F := Ideal) x0 x1 (ix2 r d) = unit (fun k => x0 (ix2 r k)) (fun k => x1 (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  simp only [val_main_v0_apply]
  rw [show (FloatOps.ofBits (F := Ideal) .f32 0x00000000#32 : EReal) = 0 from by show Ideal.ofBits .f32 0x00000000#32 = 0; simp [Ideal.ofBits, Ideal.ieee], zero_add]
  have h1 : ∀ k : Fin 1024, idx_main_v1 (idx_main_v2 (idx_main_v8 (ix2 r d))) k = ix2 r k := fun k => funext fun a => by
    match a with
    | ⟨0, _⟩ => rfl
    | ⟨1, _⟩ => rfl
  have h2 : idx_main_v10 (idx_main_v11 (ix2 r d)) = ix1 d := funext fun a => by
    match a with
    | ⟨0, _⟩ => rfl
  simp only [h1, h2]
  rfl

/-- The product of the normed rows and the first 3072 columns. -/
theorem qkv_at (r : Fin 32) (j : Fin 3072) :
    val_main_v14 (F := Ideal) x0 x1 x2 (ix2 r j)
      = proj (fun k => x0 (ix2 r k)) (fun k => x1 (ix1 k)) (fun d => x2 (ix2 d ⟨j.val, by omega⟩)) := by
  rw [val_main_v14_apply]
  refine Finset.sum_congr rfl fun k _ => ?_
  have hl : lidx_main_v14 (ix2 r j) k = ix2 r k := funext fun a => by
    match a with
    | ⟨0, _⟩ => rfl
    | ⟨1, _⟩ => rfl
  have hr : idx_main_v13 (ridx_main_v14 (ix2 r j) k) = ix2 k ⟨j.val, by omega⟩ := funext fun a => by
    match a with
    | ⟨0, _⟩ => rfl
    | ⟨1, _⟩ => rfl
  rw [hl, norm_at, val_main_v13_apply, hr]

theorem q_at (r : Fin 32) (j : Fin 1024) :
    val_main_v15 (F := Ideal) x0 x1 x2 (ix2 r j)
      = proj (fun k => x0 (ix2 r k)) (fun k => x1 (ix1 k)) (fun d => x2 (ix2 d ⟨j.val, by omega⟩)) := by
  rw [val_main_v15_apply]
  have h : idx_main_v15 (ix2 r j) = ix2 r ⟨j.val, by omega⟩ := funext fun a => by
    match a with
    | ⟨0, _⟩ => rfl
    | ⟨1, _⟩ => exact Fin.ext (by simp [idx_main_v15])
  rw [h, qkv_at]

theorem k_at (r : Fin 32) (j : Fin 1024) :
    val_main_v16 (F := Ideal) x0 x1 x2 (ix2 r j)
      = proj (fun k => x0 (ix2 r k)) (fun k => x1 (ix1 k)) (fun d => x2 (ix2 d ⟨1024 + j.val, by omega⟩)) := by
  rw [val_main_v16_apply]
  have h : idx_main_v16 (ix2 r j) = ix2 r ⟨1024 + j.val, by omega⟩ := funext fun a => by
    match a with
    | ⟨0, _⟩ => rfl
    | ⟨1, _⟩ => exact Fin.ext (by simp [idx_main_v16])
  rw [h, qkv_at]

theorem v_at (r : Fin 32) (j : Fin 1024) :
    val_main_v17 (F := Ideal) x0 x1 x2 (ix2 r j)
      = proj (fun k => x0 (ix2 r k)) (fun k => x1 (ix1 k)) (fun d => x2 (ix2 d ⟨2048 + j.val, by omega⟩)) := by
  rw [val_main_v17_apply]
  have h : idx_main_v17 (ix2 r j) = ix2 r ⟨2048 + j.val, by omega⟩ := funext fun a => by
    match a with
    | ⟨0, _⟩ => rfl
    | ⟨1, _⟩ => exact Fin.ext (by simp [idx_main_v17])
  rw [h, qkv_at]

theorem weights_at (d : Fin 1024) (n : Fin 128) :
    val_main_v19 (F := Ideal) x2 (ix2 d n) = padded (fun j => x2 (ix2 d ⟨3072 + j.val, by omega⟩)) n := by
  unfold val_main_v19 val_main_v18 val_main_call0_v0 val_main_c
  pointwise []
  rfl

theorem bias_at (n : Fin 128) : val_main_v21 (F := Ideal) x3 (ix1 n) = padded (fun j => x3 (ix1 j)) n := by
  unfold val_main_v21 val_main_call1_v0 val_main_c_2
  pointwise []
  rfl

theorem logit_at (r : Fin 32) (n : Fin 128) :
    val_main_v24 (F := Ideal) x0 x1 x2 x3 (ix2 r n)
      = proj (fun k => x0 (ix2 r k)) (fun k => x1 (ix1 k)) (fun d => padded (fun j => x2 (ix2 d ⟨3072 + j.val, by omega⟩)) n)
        + padded (fun j => x3 (ix1 j)) n := by
  rw [val_main_v24_apply, val_main_v20_apply, val_main_v23_apply, val_main_v22_apply]
  have hb : idx_main_v22 (idx_main_v23 (ix2 r n)) = ix1 n := funext fun a => by
    match a with
    | ⟨0, _⟩ => rfl
  rw [hb, bias_at]
  refine congrArg (· + padded (fun j => x3 (ix1 j)) n) (Finset.sum_congr rfl fun k _ => ?_)
  have hl : lidx_main_v20 (ix2 r n) k = ix2 r k := funext fun a => by
    match a with
    | ⟨0, _⟩ => rfl
    | ⟨1, _⟩ => rfl
  have hr : ridx_main_v20 (ix2 r n) k = ix2 k n := funext fun a => by
    match a with
    | ⟨0, _⟩ => rfl
    | ⟨1, _⟩ => rfl
  rw [hl, hr, norm_at, weights_at]

/-- A number does not differ from itself. -/
theorem une_self (d : EReal) : (FloatOps.cmpf (F := Ideal) (φ := .f32) .une d d : BitVec 1) = 0#1 := by
  show Ideal.cmp .une d d = 0#1
  simp [Ideal.cmp]

theorem gate_at (r : Fin 32) (n : Fin 128) :
    val_main_v25 (F := Ideal) x0 x1 x2 x3 (ix2 r n) = logGate (val_main_v24 (F := Ideal) x0 x1 x2 x3 (ix2 r n)) := by
  rw [val_main_v25_apply, val_main_call2_v1_apply, val_main_call2_call0_v4_apply, une_self, val_main_call2_call0_v11_apply,
    val_main_call2_call0_v1_apply, val_main_call2_call0_v10_apply, val_main_call2_call0_v9_apply, val_main_call2_call0_v8_apply,
    val_main_call2_call0_v7_apply, val_main_call2_call0_v3_apply, val_main_call2_v0_apply, val_main_call2_call0_v0_apply,
    val_main_call2_call0_v2_apply, val_main_call2_call0_cst_apply, show (FloatOps.ofBits (F := Ideal) .f32 0x00000000#32 : EReal) = 0 from by show Ideal.ofBits .f32 0x00000000#32 = 0; simp [Ideal.ofBits, Ideal.ieee]]
  exact neg_softplus (val_main_v24 (F := Ideal) x0 x1 x2 x3 (ix2 r n))

end Cert.NextRefIdeal.Reference

end
-- ==== Proof.Rope.lean ====
/- Rotary position embedding of one row over the extended reals: the turn of a head's two halves, as the kernel takes it
(the partner lane times a signed sine) and as it is written down (two halves, a difference and a sum). -/
module

public import Idealize.ShloMosaic.Lib.Pointwise

@[expose] public section

set_option maxRecDepth 16384

noncomputable section

namespace Cert.Rope

open Idealize.ShloMosaic Idealize.ShloMosaic.Tactic

/-- A position as a number. -/
def pos (p : ℕ) : EReal := FloatOps.sitofp (F := Ideal) .f32 (BitVec.ofNat 32 p)

/-- The angle of frequency `l` at position `p`. -/
def angle (p : EReal) (l : ℕ) : EReal :=
  p * Ideal.pow (Ideal.ofBits .f32 0x461C4000#32)
    (Ideal.div (-FloatOps.sitofp (F := Ideal) .f32 (BitVec.ofNat 32 l)) (Ideal.ofBits .f32 0x42000000#32))

/-- Lane `j` of the row `y`, each head of 64 lanes turned by the angles of position `p`. -/
def turn {n : ℕ} (y : Fin n → EReal) (p : EReal) (j : Fin n) : EReal :=
  if j.val % 64 < 32 then
    y j * Ideal.cos (angle p (j.val % 64))
      - y ⟨(j.val + 32) % n, Nat.mod_lt _ j.pos⟩ * Ideal.sin (angle p (j.val % 64))
  else
    y j * Ideal.cos (angle p (j.val % 64 - 32))
      + y ⟨j.val - 32, by omega⟩ * Ideal.sin (angle p (j.val % 64 - 32))

/-- Two choices by the same condition, each branch equal. -/
theorem halves {c : Prop} [Decidable c] {a : c → EReal} {b : ¬c → EReal} {a' b' : EReal} (ha : ∀ h, a h = a') (hb : ∀ h, b h = b') :
    (if h : c then a h else b h) = if c then a' else b' := by
  by_cases h : c
  · rw [dif_pos h, if_pos h, ha h]
  · rw [dif_neg h, if_neg h, hb h]

/-- The signed sine of lane `j`. -/
def side (p : EReal) (j : ℕ) : EReal :=
  if j % 64 < 32 then -Ideal.sin (angle p (j % 32)) else Ideal.sin (angle p (j % 32))

/-- The tables hold 128 lanes: two heads, each half twice. -/
theorem side_mod (p : EReal) (j : ℕ) : side p (j % 128) = side p j := by
  unfold side
  rw [show j % 128 % 64 = j % 64 from by omega, show j % 128 % 32 = j % 32 from by omega]

/-- The cosine of a lane of the table, found by the part of the table it lies in. -/
theorem cos_parts (p : EReal) (k : Fin 128) :
    (if _ : k.val < 32 then Ideal.cos (angle p k.val)
      else if _ : k.val - 32 < 32 then Ideal.cos (angle p (k.val - 32))
      else if _ : k.val - 32 - 32 < 32 then Ideal.cos (angle p (k.val - 32 - 32))
      else Ideal.cos (angle p (k.val - 32 - 32 - 32))) = Ideal.cos (angle p (k.val % 32)) := by
  split_ifs <;> exact congrArg (fun l => Ideal.cos (angle p l)) (by omega)

theorem side_parts (p : EReal) (k : Fin 128) :
    (if _ : k.val < 32 then -Ideal.sin (angle p k.val)
      else if _ : k.val - 32 < 32 then Ideal.sin (angle p (k.val - 32))
      else if _ : k.val - 32 - 32 < 32 then -Ideal.sin (angle p (k.val - 32 - 32))
      else Ideal.sin (angle p (k.val - 32 - 32 - 32))) = side p k.val := by
  unfold side
  split_ifs <;> first
    | omega
    | exact congrArg (fun l => Ideal.sin (angle p l)) (by omega)
    | exact congrArg (fun l => -Ideal.sin (angle p l)) (by omega)

theorem one : Ideal.ofBits .f32 0x3F800000#32 = 1 := by
  simp [Ideal.ofBits, Ideal.ieee, ← EReal.coe_mul]
  norm_num

/-- The bit that tells the first half of a head, as the kernel computes it from the lane. -/
abbrev first (j : ℕ) : BitVec 1 :=
  IntOp.cmpi .slt
    (Scalar.select
      (IntOp.andi
        (IntOp.xori
          (IntOp.cmpi .slt (IntOp.remsi .vector (BitVec.ofNat 32 j) (Scalar.select (Scalar.cmpi .eq 64#32 0#32) 1#32 64#32)) 0#32)
          (Scalar.cmpi .slt (Scalar.select (Scalar.cmpi .eq 64#32 0#32) 1#32 64#32) 0#32))
        (IntOp.cmpi .ne (IntOp.remsi .vector (BitVec.ofNat 32 j) (Scalar.select (Scalar.cmpi .eq 64#32 0#32) 1#32 64#32)) 0#32))
      (IntOp.addi (IntOp.remsi .vector (BitVec.ofNat 32 j) (Scalar.select (Scalar.cmpi .eq 64#32 0#32) 1#32 64#32))
        (Scalar.select (Scalar.cmpi .eq 64#32 0#32) 1#32 64#32))
      (IntOp.remsi .vector (BitVec.ofNat 32 j) (Scalar.select (Scalar.cmpi .eq 64#32 0#32) 1#32 64#32)))
    32#32

theorem first_eq : ∀ j : Fin 1024, first j.val = if j.val % 64 < 32 then 1#1 else 0#1 := by decide +kernel

theorem first_eq' (j : Fin 256) : first j.val = if j.val % 64 < 32 then 1#1 else 0#1 := first_eq ⟨j.val, by omega⟩

/-- The kernel's form: the lane times the cosine plus its partner times the signed sine. -/
theorem turn_of {n : ℕ} (hn : 64 ∣ n) (y : Fin n → EReal) (p : EReal) (j : Fin n) (b : BitVec 1)
    (hb : b = if j.val % 64 < 32 then 1#1 else 0#1) (u v : Fin n) (hu : u.val = (j.val + 32) % n)
    (hv : v.val = (j.val + n - 32) % n) :
    y j * Ideal.cos (angle p (j.val % 32)) + Scalar.select b (y u) (y v) * side p j.val = turn y p j := by
  have hj := j.isLt
  obtain ⟨q, rfl⟩ := hn
  unfold turn side
  by_cases h : j.val % 64 < 32
  · rw [if_pos h, if_pos h, hb, if_pos h, show j.val % 64 = j.val % 32 from by omega,
      show u = ⟨(j.val + 32) % (64 * q), Nat.mod_lt _ j.pos⟩ from Fin.ext hu, sub_eq_add_neg]
    show _ + y _ * -_ = _
    rw [mul_neg]
  · have e : (j.val + 64 * q - 32) % (64 * q) = j.val - 32 := by
      rw [show j.val + 64 * q - 32 = (j.val - 32) + 64 * q from by omega, Nat.add_mod_right, Nat.mod_eq_of_lt (by omega)]
    rw [if_neg h, if_neg h, hb, if_neg h, show j.val % 64 - 32 = j.val % 32 from by omega,
      show v = ⟨j.val - 32, by omega⟩ from Fin.ext (hv.trans e)]
    rfl

/-- The written form, by head and lane. -/
theorem turn_split {n : ℕ} (hn : 64 ∣ n) (y : Fin n → EReal) (p : EReal) (j u w v : Fin n)
    (hu : j.val % 64 < 32 → u.val = j.val / 64 * 64 + (32 + j.val % 64))
    (hw : ¬ j.val % 64 < 32 → w.val = j.val / 64 * 64 + (32 + (j.val % 64 - 32)))
    (hv : ¬ j.val % 64 < 32 → v.val = j.val / 64 * 64 + (j.val % 64 - 32)) :
    (if j.val % 64 < 32 then y j * Ideal.cos (angle p (j.val % 64)) - y u * Ideal.sin (angle p (j.val % 64))
      else y w * Ideal.cos (angle p (j.val % 64 - 32)) + y v * Ideal.sin (angle p (j.val % 64 - 32))) = turn y p j := by
  have hj := j.isLt
  obtain ⟨q, rfl⟩ := hn
  unfold turn
  by_cases h : j.val % 64 < 32
  · have e : u = ⟨(j.val + 32) % (64 * q), Nat.mod_lt _ j.pos⟩ := Fin.ext (by
      have hlt : j.val + 32 < 64 * q := by omega
      rw [hu h]
      show _ = (j.val + 32) % (64 * q)
      rw [Nat.mod_eq_of_lt hlt]
      omega)
    rw [if_pos h, if_pos h, e]
  · have e1 : w = j := Fin.ext (by rw [hw h]; omega)
    have e2 : v = ⟨j.val - 32, by omega⟩ := Fin.ext (by rw [hv h]; show _ = j.val - 32; omega)
    rw [if_neg h, if_neg h, e1, e2]

end Cert.Rope

end
-- ==== Proof.RotArray.lean ====
/- The arrays the projection into the differential attention leaves on the prompt: rotated queries and keys, and values. -/
module

public import proofs.«01_k».proof.Proof.Gen.RotIdeal.Value
public import proofs.«01_k».proof.Proof.Rows
public import proofs.«01_k».proof.Proof.Rope
public import Idealize.ShloMosaic.Lib.StableHlo.RunRead
public import Idealize.ShloMosaic.Lib.Pointwise

@[expose] public section

set_option maxRecDepth 65536

noncomputable section

namespace Cert.RotIdeal.Array

open Idealize.ShloMosaic Idealize.ShloMosaic.TcCoe Idealize.ShloMosaic.Tactic Idealize.ShloMosaic.StableHlo
open Idealize.SL Idealize.SL.Sem
open Idealize.ShloMosaic.Pipeline (Dat)
open Cert.RotIdeal Cert.RotIdeal.Gen Cert.Rows Cert.Rope

/-! ## One grid point -/

/-- The normed rows. -/
theorem norm_at (v0 : Vec Ideal S512x1024 .f32) (v1 : Vec Ideal S1x1024 .f32) (r : Fin 512) (d : Fin 1024) :
    k0_pay5 (F := Ideal) v0 v1 (ix2 r d) = unit (fun k => v0 (ix2 r k)) (fun k => v1 (ix2 0 k)) d := by
  pointwise [k0_pay5]
  rfl

/-- The product of a normed row and a column, the blocks' entries known. -/
theorem proj_row {n : Nat} (x0 : Vec Ideal S512x1024 .f32) (x1 : Vec Ideal S1x1024 .f32) (w : Fin 1024 → Fin n → EReal) (x g wc : Fin 1024 → EReal)
    (r : Fin 512) (j : Fin n) (hx : ∀ k : Fin 1024, x0 (ix2 r k) = x k) (hg : ∀ k : Fin 1024, x1 (ix2 0 k) = g k)
    (hw : ∀ d : Fin 1024, w d j = wc d) :
    ∑ d : Fin 1024, k0_pay5 (F := Ideal) x0 x1 (ix2 r d) * w d j = proj x g wc := by
  refine Finset.sum_congr rfl fun d _ => ?_
  rw [norm_at, hw, funext hx, funext hg]

theorem mm6_at (v0 : Vec Ideal S512x1024 .f32) (v1 : Vec Ideal S1x1024 .f32) (w : Vec Ideal S1024x1024 .bf16) (r : Fin 512) (j : Fin 1024) :
    k0_pay6 (F := Ideal) v0 v1 w (ix2 r j) = ∑ x : Fin 1024, k0_pay5 (F := Ideal) v0 v1 (ix2 r x) * w (ix2 x j) := by
  pointwise [k0_pay6]

theorem mm13_at (v : FVec Ideal S512x1024 .bf16) (w : Vec Ideal S1024x1024 .bf16) (r : Fin 512) (j : Fin 1024) :
    k0_pay13 (F := Ideal) v w (ix2 r j) = ∑ x : Fin 1024, v (ix2 r x) * w (ix2 x j) := by
  pointwise [k0_pay13]

theorem mm3_at (v : FVec Ideal S512x1024 .bf16) (w : Vec Ideal S1024x1024 .bf16) (r : Fin 512) (j : Fin 1024) :
    k0_pay3 (F := Ideal) v w (ix2 r j) = ∑ x : Fin 1024, v (ix2 r x) * w (ix2 x j) := by
  pointwise [k0_pay3]

theorem mm4_at (v : FVec Ideal S512x1024 .bf16) (w : Vec Ideal S1024x1024 .bf16) (r : Fin 512) (j : Fin 1024) :
    k0_pay4 (F := Ideal) v w (ix2 r j) = (∑ x : Fin 1024, v (ix2 r x) * w (ix2 x j)) * Ideal.ofBits .f32 0x3F800000#32 := by
  pointwise [k0_pay4, k0_pay3]

theorem tab7_at (v : Vec Ideal S512x128 .f32) (r : Fin 512) (j : Fin 1024) :
    k0_pay7 (F := Ideal) v (ix2 r j) = v (ix2 r ⟨j.val % 128, by omega⟩) := by
  pointwise [k0_pay7]
  split_ifs <;> exact congrArg (fun k => v (ix2 r k)) (Fin.ext (by dsimp only; omega))

theorem tab8_at (v : Vec Ideal S512x128 .f32) (r : Fin 512) (j : Fin 1024) :
    k0_pay8 (F := Ideal) v (ix2 r j) = v (ix2 r ⟨j.val % 128, by omega⟩) := by
  pointwise [k0_pay8]
  split_ifs <;> exact congrArg (fun k => v (ix2 r k)) (Fin.ext (by dsimp only; omega))

theorem tab14_at (v : Vec Ideal S512x128 .f32) (r : Fin 512) (j : Fin 1024) :
    k0_pay14 (F := Ideal) v (ix2 r j) = v (ix2 r ⟨j.val % 128, by omega⟩) := by
  pointwise [k0_pay14]
  split_ifs <;> exact congrArg (fun k => v (ix2 r k)) (Fin.ext (by dsimp only; omega))

theorem tab15_at (v : Vec Ideal S512x128 .f32) (r : Fin 512) (j : Fin 1024) :
    k0_pay15 (F := Ideal) v (ix2 r j) = v (ix2 r ⟨j.val % 128, by omega⟩) := by
  pointwise [k0_pay15]
  split_ifs <;> exact congrArg (fun k => v (ix2 r k)) (Fin.ext (by dsimp only; omega))

theorem spin12_at (v c s : FVec Ideal S512x1024 .f32) (y : Fin 1024 → EReal) (p : EReal) (r : Fin 512) (j : Fin 1024)
    (hy : ∀ i : Fin 1024, v (ix2 r i) = y i) (hc : c (ix2 r j) = Ideal.cos (angle p (j.val % 32))) (hs : s (ix2 r j) = side p j.val) :
    k0_pay12 (F := Ideal) v c s (Scalar.select (Scalar.cmpi .eq 64#32 0#32) 1#32 64#32) k0_pay9 k0_pay10 k0_pay11 (ix2 r j) = turn y p j := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay12, k0_pay9, k0_pay10, k0_pay11]

theorem spin1_at (v c s : FVec Ideal S512x1024 .f32) (y : Fin 1024 → EReal) (p : EReal) (r : Fin 512) (j : Fin 1024)
    (hy : ∀ i : Fin 1024, v (ix2 r i) = y i) (hc : c (ix2 r j) = Ideal.cos (angle p (j.val % 32))) (hs : s (ix2 r j) = side p j.val) :
    k0_pay1 (F := Ideal) v c s k0_pay16 k0_pay17 (ix2 r j) = turn y p j := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay1, k0_pay16, k0_pay17]

theorem spin2_at (v c s : FVec Ideal S512x1024 .f32) (y : Fin 1024 → EReal) (p : EReal) (r : Fin 512) (j : Fin 1024)
    (hy : ∀ i : Fin 1024, v (ix2 r i) = y i) (hc : c (ix2 r j) = Ideal.cos (angle p (j.val % 32))) (hs : s (ix2 r j) = side p j.val) :
    k0_pay2 (F := Ideal) v c s k0_pay16 k0_pay17 (ix2 r j) = turn y p j * Ideal.ofBits .f32 0x3F800000#32 := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay2, k0_pay1, k0_pay16, k0_pay17]

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 16384) (k : Fin 1024) : EReal :=
  (m ((c : Thread nD τ).loc main_arg0) : Vec Ideal S4x4096x1024 .f32) (ix3 ⟨r.val / 4096, by omega⟩ ⟨r.val % 4096, by omega⟩ k)

def Gain (k : Fin 1024) : EReal := (m ((c : Thread nD τ).loc main_arg1) : Vec Ideal S1024 .f32) (ix1 k)

def Wt (d : Fin 1024) (j : Fin 3072) : EReal :=
  (m ((c : Thread nD τ).loc main_arg2) : Vec Ideal S1024x3072 .f32) (ix2 d j)

/-- Lane `j` of the part of the projected row that starts at column `o`. -/
def Part (n o : ℕ) (h : o + n ≤ 3072) (r : Fin 16384) (j : Fin n) : EReal :=
  proj (X m c r) (Gain m c) (fun d => Wt m c d ⟨o + j.val, by omega⟩)

/-! ## The operands the host code prepares -/

theorem x_at (r : Fin 16384) (k : Fin 1024) : (V m c main_v23 : Vec Ideal S16384x1024 .f32) (ix2 r k) = X m c r k := by
  show StableHlo.after hostOps0 (fun b => m (c, b)) _ _ = _
  after_reads_simp
  pointwise [X]

theorem gain_at (k : Fin 1024) : (V m c main_v24 : Vec Ideal S1x1024 .f32) (ix2 0 k) = Gain m c k := by
  show StableHlo.after hostOps0 (fun b => m (c, b)) _ _ = _
  after_reads_simp
  pointwise [Gain]

theorem w1_at (d : Fin 1024) (j : Fin 1024) : (V m c main_v1 : Vec Ideal S1024x1024 .bf16) (ix2 d j) = Wt m c d ⟨0 + j.val, by omega⟩ := by
  show StableHlo.after hostOps0 (fun b => m (c, b)) _ _ = _
  after_reads_simp
  pointwise [Wt]

theorem w2_at (d : Fin 1024) (j : Fin 1024) : (V m c main_v2 : Vec Ideal S1024x1024 .bf16) (ix2 d j) = Wt m c d ⟨1024 + j.val, by omega⟩ := by
  show StableHlo.after hostOps0 (fun b => m (c, b)) _ _ = _
  after_reads_simp
  pointwise [Wt]

theorem w3_at (d : Fin 1024) (j : Fin 1024) : (V m c main_v3 : Vec Ideal S1024x1024 .bf16) (ix2 d j) = Wt m c d ⟨2048 + j.val, by omega⟩ := by
  show StableHlo.after hostOps0 (fun b => m (c, b)) _ _ = _
  after_reads_simp
  pointwise [Wt]

theorem cos_at (p : Fin 4096) (k : Fin 128) :
    (V m c main_v19 : Vec Ideal S4096x128 .f32) (ix2 p k) = Ideal.cos (angle (pos p.val) (k.val % 32)) := by
  show StableHlo.after hostOps0 (fun b => m (c, b)) _ _ = _
  after_reads_simp
  pointwise []
  after_reads_simp
  pointwise []
  exact cos_parts _ _

theorem sin_at (p : Fin 4096) (k : Fin 128) :
    (V m c main_v22 : Vec Ideal S4096x128 .f32) (ix2 p k) = side (pos p.val) k.val := by
  show StableHlo.after hostOps0 (fun b => m (c, b)) _ _ = _
  after_reads_simp
  pointwise []
  after_reads_simp
  pointwise []
  exact side_parts _ _

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val % 8 ∧ win0_2.index t 1 = 0)
    ∧ (win0_3.index t 0 = (grid0.coords t 0).val % 8 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = (grid0.coords t 0).val ∧ win0_7.index t 1 = 0)
    ∧ (win0_8.index t 0 = (grid0.coords t 0).val ∧ win0_8.index t 1 = 0)
    ∧ (win0_9.index t 0 = (grid0.coords t 0).val ∧ win0_9.index t 1 = 0)
    ∧ (win0_10.index t 0 = (grid0.coords t 0).val ∧ win0_10.index t 1 = 0)
    ∧ (win0_11.index t 0 = (grid0.coords t 0).val ∧ win0_11.index t 1 = 0) :=
  (by decide +kernel : ∀ t : Fin grid0.N, _)

/-- The row block of a grid point. -/
abbrev blk (t : Fin cfg0.N) : Fin 32 := grid0.coords t 0

theorem x_block (t : Fin cfg0.N) (r : Fin 512) (j : Fin 1024) :
    (iblk m c 0 t : Vec Ideal S512x1024 .f32) (ix2 r j) = X m c ⟨512 * (blk t).val + r.val, by omega⟩ j := by
  obtain ⟨⟨h0, h1⟩, -⟩ := idx_facts t
  have e : (((cfg0.win 0).blk t).view.emb (ix2 r j) : S16384x1024.Idx) = ix2 ⟨512 * (blk t).val + r.val, by omega⟩ j := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * j.val = j.val; rw [h1]; omega
  show (V m c main_v23 : Vec Ideal S16384x1024 .f32) (((cfg0.win 0).blk t).view.emb (ix2 r j)) = _
  rw [e, x_at]

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v24 : Vec Ideal S1x1024 .f32) (((cfg0.win 1).blk t).view.emb (ix2 0 j)) = _
  rw [e, gain_at]

theorem cos_block (t : Fin cfg0.N) (r : Fin 512) (j : Fin 128) :
    (iblk m c 2 t : Vec Ideal S512x128 .f32) (ix2 r j) = Ideal.cos (angle (pos (512 * ((blk t).val % 8) + r.val)) (j.val % 32)) := by
  obtain ⟨-, -, ⟨h0, h1⟩, -⟩ := idx_facts t
  have e : (((cfg0.win 2).blk t).view.emb (ix2 r j) : S4096x128.Idx) = ix2 ⟨512 * ((blk t).val % 8) + r.val, by omega⟩ j := by
    funext a
    apply Fin.ext
    match a with
    | ⟨0, _⟩ => show win0_2.index t 0 * 512 + 1 * r.val = 512 * ((grid0.coords t 0).val % 8) + r.val; rw [h0]; omega
    | ⟨1, _⟩ => show win0_2.index t 1 * 128 + 1 * j.val = j.val; rw [h1]; omega
  show (V m c main_v19 : Vec Ideal S4096x128 .f32) (((cfg0.win 2).blk t).view.emb (ix2 r j)) = _
  rw [e, cos_at]

theorem sin_block (t : Fin cfg0.N) (r : Fin 512) (j : Fin 128) :
    (iblk m c 3 t : Vec Ideal S512x128 .f32) (ix2 r j) = side (pos (512 * ((blk t).val % 8) + r.val)) j.val := by
  obtain ⟨-, -, -, ⟨h0, h1⟩, -⟩ := idx_facts t
  have e : (((cfg0.win 3).blk t).view.emb (ix2 r j) : S4096x128.Idx) = ix2 ⟨512 * ((blk t).val % 8) + r.val, by omega⟩ j := by
    funext a
    apply Fin.ext
    match a with
    | ⟨0, _⟩ => show win0_3.index t 0 * 512 + 1 * r.val = 512 * ((grid0.coords t 0).val % 8) + r.val; rw [h0]; omega
    | ⟨1, _⟩ => show win0_3.index t 1 * 128 + 1 * j.val = j.val; rw [h1]; omega
  show (V m c main_v22 : Vec Ideal S4096x128 .f32) (((cfg0.win 3).blk t).view.emb (ix2 r j)) = _
  rw [e, sin_at]

theorem w1_block (t : Fin cfg0.N) (d : Fin 1024) (j : Fin 1024) :
    (iblk m c 4 t : Vec Ideal S1024x1024 .bf16) (ix2 d j) = Wt m c d ⟨0 + j.val, by omega⟩ := by
  obtain ⟨-, -, -, -, ⟨h0, h1⟩, -⟩ := idx_facts t
  have e : (((cfg0.win 4).blk t).view.emb (ix2 d j) : S1024x1024.Idx) = ix2 d j := by
    funext a
    apply Fin.ext
    match a with
    | ⟨0, _⟩ => show win0_4.index t 0 * 1024 + 1 * d.val = d.val; rw [h0]; omega
    | ⟨1, _⟩ => show win0_4.index t 1 * 1024 + 1 * j.val = j.val; rw [h1]; omega
  show (V m c main_v1 : Vec Ideal S1024x1024 .bf16) (((cfg0.win 4).blk t).view.emb (ix2 d j)) = _
  rw [e, w1_at]

theorem w2_block (t : Fin cfg0.N) (d : Fin 1024) (j : Fin 1024) :
    (iblk m c 5 t : Vec Ideal S1024x1024 .bf16) (ix2 d j) = Wt m c d ⟨1024 + j.val, by omega⟩ := by
  obtain ⟨-, -, -, -, -, ⟨h0, h1⟩, -⟩ := idx_facts t
  have e : (((cfg0.win 5).blk t).view.emb (ix2 d j) : S1024x1024.Idx) = ix2 d j := by
    funext a
    apply Fin.ext
    match a with
    | ⟨0, _⟩ => show win0_5.index t 0 * 1024 + 1 * d.val = d.val; rw [h0]; omega
    | ⟨1, _⟩ => show win0_5.index t 1 * 1024 + 1 * j.val = j.val; rw [h1]; omega
  show (V m c main_v2 : Vec Ideal S1024x1024 .bf16) (((cfg0.win 5).blk t).view.emb (ix2 d j)) = _
  rw [e, w2_at]

theorem w3_block (t : Fin cfg0.N) (d : Fin 1024) (j : Fin 1024) :
    (iblk m c 6 t : Vec Ideal S1024x1024 .bf16) (ix2 d j) = Wt m c d ⟨2048 + j.val, by omega⟩ := by
  obtain ⟨-, -, -, -, -, -, ⟨h0, h1⟩, -⟩ := idx_facts t
  have e : (((cfg0.win 6).blk t).view.emb (ix2 d j) : S1024x1024.Idx) = ix2 d j := by
    funext a
    apply Fin.ext
    match a with
    | ⟨0, _⟩ => show win0_6.index t 0 * 1024 + 1 * d.val = d.val; rw [h0]; omega
    | ⟨1, _⟩ => show win0_6.index t 1 * 1024 + 1 * j.val = j.val; rw [h1]; omega
  show (V m c main_v3 : Vec Ideal S1024x1024 .bf16) (((cfg0.win 6).blk t).view.emb (ix2 d j)) = _
  rw [e, w3_at]

theorem point_of : ∀ b : Fin 32, ∃ t : Fin cfg0.N, (grid0.coords t 0).val = b.val :=
  (by decide +kernel : ∀ b : Fin 32, ∃ t : Fin grid0.N, _)

/-! ## The stored blocks and the arrays -/

/-- What result 0 is to hold. -/
def G7 : Vec Ideal S16384x1024 .f32 := fun i => turn (Part m c 1024 0 (by decide) (i 0)) (pos ((i 0).val % 4096)) (i 1)

theorem o_emb7 (t : Fin cfg0.N) (r : Fin 512) (j : Fin 1024) :
    (((cfg0.win 7).blk t).view.emb (ix2 r j) : S16384x1024.Idx) = ix2 ⟨512 * (blk t).val + r.val, by omega⟩ j := by
  obtain ⟨-, -, -, -, -, -, -, ⟨h0, h1⟩, -⟩ := idx_facts t
  funext a
  apply Fin.ext
  match a with
  | ⟨0, _⟩ => show win0_7.index t 0 * 512 + 1 * r.val = 512 * (grid0.coords t 0).val + r.val; rw [h0]; omega
  | ⟨1, _⟩ => show win0_7.index t 1 * 1024 + 1 * j.val = j.val; rw [h1]; omega

theorem out_at7 (t : Fin cfg0.N) (r : Fin 512) (j : Fin 1024) :
    out0_7 (iblk m c 0 t) (iblk m c 1 t) (iblk m c 2 t) (iblk m c 3 t) (iblk m c 4 t) (iblk m c 5 t) (iblk m c 6 t) (ix2 r j)
      = G7 m c (ix2 ⟨512 * (blk t).val + r.val, by omega⟩ j) := by
  unfold_out out0_7
  rw [View.canon_unit_zero hz, View.ld_unit_zero hz, View.ld_unit_zero hz, View.ld_unit_zero hz, View.ld_unit_zero hz, View.ld_unit_zero hz]
  refine Eq.trans (spin12_at _ _ _ (Part m c 1024 0 (by decide) ⟨512 * (blk t).val + r.val, by omega⟩) (pos (512 * ((blk t).val % 8) + r.val)) r j (fun i => ?_) ?_ ?_) ?_
  · exact (mm6_at _ _ _ r i).trans (proj_row _ _ (fun d i => (iblk m c 4 t : Vec Ideal S1024x1024 .bf16) (ix2 d i)) _ _ _ r i
      (x_block m c t r) (g_block m c t) (fun d => w1_block m c t d i))
  · refine (tab7_at _ r j).trans ((cos_block m c t r _).trans ?_)
    exact congrArg (fun l => Ideal.cos (angle _ l)) (by show j.val % 128 % 32 = j.val % 32; omega)
  · exact (tab8_at _ r j).trans ((sin_block m c t r _).trans (side_mod _ _))
  exact congrArg (fun q => turn (Part m c 1024 0 (by decide) ⟨512 * (blk t).val + r.val, by omega⟩) (pos q) j) (by show _ = (512 * (blk t).val + r.val) % 4096; omega)

theorem stored_eq7 (t : Fin cfg0.N) (j : S512x1024.Idx) :
    out0_7 (iblk m c 0 t) (iblk m c 1 t) (iblk m c 2 t) (iblk m c 3 t) (iblk m c 4 t) (iblk m c 5 t) (iblk m c 6 t) j
      = G7 m c (((cfg0.win 7).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G7 m c) (o_emb7 t r d)).symm
  exact out_at7 m c t r d

theorem flushed_eq7 (t : Fin cfg0.N) (_ : (cfg0.win 7).flush t = true) :
    (dats m 0 c).flushed 7 t = ((cfg0.win 7).blk t).view.read (Elt Ideal) (G7 m c) := by
  rw [Value.flushed7]
  funext j
  rw [View.read_apply]
  exact stored_eq7 m c t j

theorem covered7 (i : S16384x1024.Idx) :
    ∃ t : Fin cfg0.N, (cfg0.win 7).flush t = true ∧ i ∈ ((cfg0.win 7).blk t).view.set := by
  have h0 : (i 0).val < 16384 := (i 0).isLt
  obtain ⟨t, hb⟩ := point_of ⟨(i 0).val / 512, by omega⟩
  refine ⟨t, flush0_7 t, ?_⟩
  have e := o_emb7 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 7).blk t).view.emb_mem_set _

theorem final7 : (dats m 0 c).arrAt 7 cfg0.N = G7 m c :=
  (dats m 0 c).arrAt_eq_of_cover 7 (G7 m c) (flushed_eq7 m c) covered7

/-- What result 1 is to hold. -/
def G8 : Vec Ideal S16384x1024 .f32 := fun i => turn (Part m c 1024 1024 (by decide) (i 0)) (pos ((i 0).val % 4096)) (i 1)

theorem o_emb8 (t : Fin cfg0.N) (r : Fin 512) (j : Fin 1024) :
    (((cfg0.win 8).blk t).view.emb (ix2 r j) : S16384x1024.Idx) = ix2 ⟨512 * (blk t).val + r.val, by omega⟩ j := by
  obtain ⟨-, -, -, -, -, -, -, -, ⟨h0, h1⟩, -⟩ := idx_facts t
  funext a
  apply Fin.ext
  match a with
  | ⟨0, _⟩ => show win0_8.index t 0 * 512 + 1 * r.val = 512 * (grid0.coords t 0).val + r.val; rw [h0]; omega
  | ⟨1, _⟩ => show win0_8.index t 1 * 1024 + 1 * j.val = j.val; rw [h1]; omega

theorem out_at8 (t : Fin cfg0.N) (r : Fin 512) (j : Fin 1024) :
    out0_8 (iblk m c 0 t) (iblk m c 1 t) (iblk m c 2 t) (iblk m c 3 t) (iblk m c 4 t) (iblk m c 5 t) (iblk m c 6 t) (ix2 r j)
      = G8 m c (ix2 ⟨512 * (blk t).val + r.val, by omega⟩ j) := by
  unfold_out out0_8
  rw [View.canon_unit_zero hz, View.ld_unit_zero hz, View.ld_unit_zero hz, View.ld_unit_zero hz, View.ld_unit_zero hz, View.ld_unit_zero hz]
  refine Eq.trans (spin1_at _ _ _ (Part m c 1024 1024 (by decide) ⟨512 * (blk t).val + r.val, by omega⟩) (pos (512 * ((blk t).val % 8) + r.val)) r j (fun i => ?_) ?_ ?_) ?_
  · exact (mm13_at _ _ r i).trans (proj_row _ _ (fun d i => (iblk m c 5 t : Vec Ideal S1024x1024 .bf16) (ix2 d i)) _ _ _ r i
      (x_block m c t r) (g_block m c t) (fun d => w2_block m c t d i))
  · refine (tab14_at _ r j).trans ((cos_block m c t r _).trans ?_)
    exact congrArg (fun l => Ideal.cos (angle _ l)) (by show j.val % 128 % 32 = j.val % 32; omega)
  · exact (tab15_at _ r j).trans ((sin_block m c t r _).trans (side_mod _ _))
  exact congrArg (fun q => turn (Part m c 1024 1024 (by decide) ⟨512 * (blk t).val + r.val, by omega⟩) (pos q) j) (by show _ = (512 * (blk t).val + r.val) % 4096; omega)

theorem stored_eq8 (t : Fin cfg0.N) (j : S512x1024.Idx) :
    out0_8 (iblk m c 0 t) (iblk m c 1 t) (iblk m c 2 t) (iblk m c 3 t) (iblk m c 4 t) (iblk m c 5 t) (iblk m c 6 t) j
      = G8 m c (((cfg0.win 8).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G8 m c) (o_emb8 t r d)).symm
  exact out_at8 m c t r d

theorem flushed_eq8 (t : Fin cfg0.N) (_ : (cfg0.win 8).flush t = true) :
    (dats m 0 c).flushed 8 t = ((cfg0.win 8).blk t).view.read (Elt Ideal) (G8 m c) := by
  rw [Value.flushed8]
  funext j
  rw [View.read_apply]
  exact stored_eq8 m c t j

theorem covered8 (i : S16384x1024.Idx) :
    ∃ t : Fin cfg0.N, (cfg0.win 8).flush t = true ∧ i ∈ ((cfg0.win 8).blk t).view.set := by
  have h0 : (i 0).val < 16384 := (i 0).isLt
  obtain ⟨t, hb⟩ := point_of ⟨(i 0).val / 512, by omega⟩
  refine ⟨t, flush0_8 t, ?_⟩
  have e := o_emb8 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 8).blk t).view.emb_mem_set _

theorem final8 : (dats m 0 c).arrAt 8 cfg0.N = G8 m c :=
  (dats m 0 c).arrAt_eq_of_cover 8 (G8 m c) (flushed_eq8 m c) covered8

/-- What result 2 is to hold. -/
def G9 : Vec Ideal S16384x1024 .bf16 := fun i => turn (Part m c 1024 1024 (by decide) (i 0)) (pos ((i 0).val % 4096)) (i 1)

theorem o_emb9 (t : Fin cfg0.N) (r : Fin 512) (j : Fin 1024) :
    (((cfg0.win 9).blk t).view.emb (ix2 r j) : S16384x1024.Idx) = ix2 ⟨512 * (blk t).val + r.val, by omega⟩ j := by
  obtain ⟨-, -, -, -, -, -, -, -, -, ⟨h0, h1⟩, -⟩ := idx_facts t
  funext a
  apply Fin.ext
  match a with
  | ⟨0, _⟩ => show win0_9.index t 0 * 512 + 1 * r.val = 512 * (grid0.coords t 0).val + r.val; rw [h0]; omega
  | ⟨1, _⟩ => show win0_9.index t 1 * 1024 + 1 * j.val = j.val; rw [h1]; omega

theorem out_at9 (t : Fin cfg0.N) (r : Fin 512) (j : Fin 1024) :
    out0_9 (iblk m c 0 t) (iblk m c 1 t) (iblk m c 2 t) (iblk m c 3 t) (iblk m c 4 t) (iblk m c 5 t) (iblk m c 6 t) (ix2 r j)
      = G9 m c (ix2 ⟨512 * (blk t).val + r.val, by omega⟩ j) := by
  unfold_out out0_9
  rw [View.canon_unit_zero hz, View.ld_unit_zero hz, View.ld_unit_zero hz, View.ld_unit_zero hz, View.ld_unit_zero hz, View.ld_unit_zero hz]
  refine Eq.trans (spin2_at _ _ _ (Part m c 1024 1024 (by decide) ⟨512 * (blk t).val + r.val, by omega⟩) (pos (512 * ((blk t).val % 8) + r.val)) r j (fun i => ?_) ?_ ?_) ?_
  · exact (mm13_at _ _ r i).trans (proj_row _ _ (fun d i => (iblk m c 5 t : Vec Ideal S1024x1024 .bf16) (ix2 d i)) _ _ _ r i
      (x_block m c t r) (g_block m c t) (fun d => w2_block m c t d i))
  · refine (tab14_at _ r j).trans ((cos_block m c t r _).trans ?_)
    exact congrArg (fun l => Ideal.cos (angle _ l)) (by show j.val % 128 % 32 = j.val % 32; omega)
  · exact (tab15_at _ r j).trans ((sin_block m c t r _).trans (side_mod _ _))
  rw [one, mul_one]
  exact congrArg (fun q => turn (Part m c 1024 1024 (by decide) ⟨512 * (blk t).val + r.val, by omega⟩) (pos q) j) (by show _ = (512 * (blk t).val + r.val) % 4096; omega)

theorem stored_eq9 (t : Fin cfg0.N) (j : S512x1024.Idx) :
    out0_9 (iblk m c 0 t) (iblk m c 1 t) (iblk m c 2 t) (iblk m c 3 t) (iblk m c 4 t) (iblk m c 5 t) (iblk m c 6 t) j
      = G9 m c (((cfg0.win 9).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G9 m c) (o_emb9 t r d)).symm
  exact out_at9 m c t r d

theorem flushed_eq9 (t : Fin cfg0.N) (_ : (cfg0.win 9).flush t = true) :
    (dats m 0 c).flushed 9 t = ((cfg0.win 9).blk t).view.read (Elt Ideal) (G9 m c) := by
  rw [Value.flushed9]
  funext j
  rw [View.read_apply]
  exact stored_eq9 m c t j

theorem covered9 (i : S16384x1024.Idx) :
    ∃ t : Fin cfg0.N, (cfg0.win 9).flush t = true ∧ i ∈ ((cfg0.win 9).blk t).view.set := by
  have h0 : (i 0).val < 16384 := (i 0).isLt
  obtain ⟨t, hb⟩ := point_of ⟨(i 0).val / 512, by omega⟩
  refine ⟨t, flush0_9 t, ?_⟩
  have e := o_emb9 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 9).blk t).view.emb_mem_set _

theorem final9 : (dats m 0 c).arrAt 9 cfg0.N = G9 m c :=
  (dats m 0 c).arrAt_eq_of_cover 9 (G9 m c) (flushed_eq9 m c) covered9

/-- What result 3 is to hold. -/
def G10 : Vec Ideal S16384x1024 .f32 := fun i => Part m c 1024 2048 (by decide) (i 0) (i 1)

theorem o_emb10 (t : Fin cfg0.N) (r : Fin 512) (j : Fin 1024) :
    (((cfg0.win 10).blk t).view.emb (ix2 r j) : S16384x1024.Idx) = ix2 ⟨512 * (blk t).val + r.val, by omega⟩ j := by
  obtain ⟨-, -, -, -, -, -, -, -, -, -, ⟨h0, h1⟩, -⟩ := idx_facts t
  funext a
  apply Fin.ext
  match a with
  | ⟨0, _⟩ => show win0_10.index t 0 * 512 + 1 * r.val = 512 * (grid0.coords t 0).val + r.val; rw [h0]; omega
  | ⟨1, _⟩ => show win0_10.index t 1 * 1024 + 1 * j.val = j.val; rw [h1]; omega

theorem out_at10 (t : Fin cfg0.N) (r : Fin 512) (j : Fin 1024) :
    out0_10 (iblk m c 0 t) (iblk m c 1 t) (iblk m c 2 t) (iblk m c 3 t) (iblk m c 4 t) (iblk m c 5 t) (iblk m c 6 t) (ix2 r j)
      = G10 m c (ix2 ⟨512 * (blk t).val + r.val, by omega⟩ j) := by
  unfold_out out0_10
  rw [View.canon_unit_zero hz, View.ld_unit_zero hz, View.ld_unit_zero hz, View.ld_unit_zero hz]
  refine (mm3_at _ _ r j).trans ?_
  exact proj_row _ _ (fun d i => (iblk m c 6 t : Vec Ideal S1024x1024 .bf16) (ix2 d i)) _ _ _ r j
    (x_block m c t r) (g_block m c t) (fun d => w3_block m c t d j)

theorem stored_eq10 (t : Fin cfg0.N) (j : S512x1024.Idx) :
    out0_10 (iblk m c 0 t) (iblk m c 1 t) (iblk m c 2 t) (iblk m c 3 t) (iblk m c 4 t) (iblk m c 5 t) (iblk m c 6 t) j
      = G10 m c (((cfg0.win 10).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G10 m c) (o_emb10 t r d)).symm
  exact out_at10 m c t r d

theorem flushed_eq10 (t : Fin cfg0.N) (_ : (cfg0.win 10).flush t = true) :
    (dats m 0 c).flushed 10 t = ((cfg0.win 10).blk t).view.read (Elt Ideal) (G10 m c) := by
  rw [Value.flushed10]
  funext j
  rw [View.read_apply]
  exact stored_eq10 m c t j

theorem covered10 (i : S16384x1024.Idx) :
    ∃ t : Fin cfg0.N, (cfg0.win 10).flush t = true ∧ i ∈ ((cfg0.win 10).blk t).view.set := by
  have h0 : (i 0).val < 16384 := (i 0).isLt
  obtain ⟨t, hb⟩ := point_of ⟨(i 0).val / 512, by omega⟩
  refine ⟨t, flush0_10 t, ?_⟩
  have e := o_emb10 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 10).blk t).view.emb_mem_set _

theorem final10 : (dats m 0 c).arrAt 10 cfg0.N = G10 m c :=
  (dats m 0 c).arrAt_eq_of_cover 10 (G10 m c) (flushed_eq10 m c) covered10

/-- What result 4 is to hold. -/
def G11 : Vec Ideal S16384x1024 .bf16 := fun i => Part m c 1024 2048 (by decide) (i 0) (i 1)

theorem o_emb11 (t : Fin cfg0.N) (r : Fin 512) (j : Fin 1024) :
    (((cfg0.win 11).blk t).view.emb (ix2 r j) : S16384x1024.Idx) = ix2 ⟨512 * (blk t).val + r.val, by omega⟩ j := by
  obtain ⟨-, -, -, -, -, -, -, -, -, -, -, ⟨h0, h1⟩⟩ := idx_facts t
  funext a
  apply Fin.ext
  match a with
  | ⟨0, _⟩ => show win0_11.index t 0 * 512 + 1 * r.val = 512 * (grid0.coords t 0).val + r.val; rw [h0]; omega
  | ⟨1, _⟩ => show win0_11.index t 1 * 1024 + 1 * j.val = j.val; rw [h1]; omega

theorem out_at11 (t : Fin cfg0.N) (r : Fin 512) (j : Fin 1024) :
    out0_11 (iblk m c 0 t) (iblk m c 1 t) (iblk m c 2 t) (iblk m c 3 t) (iblk m c 4 t) (iblk m c 5 t) (iblk m c 6 t) (ix2 r j)
      = G11 m c (ix2 ⟨512 * (blk t).val + r.val, by omega⟩ j) := by
  unfold_out out0_11
  rw [View.canon_unit_zero hz, View.ld_unit_zero hz, View.ld_unit_zero hz, View.ld_unit_zero hz]
  refine (mm4_at _ _ r j).trans ?_
  rw [one, mul_one]
  exact proj_row _ _ (fun d i => (iblk m c 6 t : Vec Ideal S1024x1024 .bf16) (ix2 d i)) _ _ _ r j
    (x_block m c t r) (g_block m c t) (fun d => w3_block m c t d j)

theorem stored_eq11 (t : Fin cfg0.N) (j : S512x1024.Idx) :
    out0_11 (iblk m c 0 t) (iblk m c 1 t) (iblk m c 2 t) (iblk m c 3 t) (iblk m c 4 t) (iblk m c 5 t) (iblk m c 6 t) j
      = G11 m c (((cfg0.win 11).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G11 m c) (o_emb11 t r d)).symm
  exact out_at11 m c t r d

theorem flushed_eq11 (t : Fin cfg0.N) (_ : (cfg0.win 11).flush t = true) :
    (dats m 0 c).flushed 11 t = ((cfg0.win 11).blk t).view.read (Elt Ideal) (G11 m c) := by
  rw [Value.flushed11]
  funext j
  rw [View.read_apply]
  exact stored_eq11 m c t j

theorem covered11 (i : S16384x1024.Idx) :
    ∃ t : Fin cfg0.N, (cfg0.win 11).flush t = true ∧ i ∈ ((cfg0.win 11).blk t).view.set := by
  have h0 : (i 0).val < 16384 := (i 0).isLt
  obtain ⟨t, hb⟩ := point_of ⟨(i 0).val / 512, by omega⟩
  refine ⟨t, flush0_11 t, ?_⟩
  have e := o_emb11 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 11).blk t).view.emb_mem_set _

theorem final11 : (dats m 0 c).arrAt 11 cfg0.N = G11 m c :=
  (dats m 0 c).arrAt_eq_of_cover 11 (G11 m c) (flushed_eq11 m c) covered11

/-- The kernel's run: queries, keys and values, and the arguments as they were. -/
theorem run : θ_run defs (onTc (τ := τ) (main (F := Ideal))) ⟨m, fun _ => 0, ρ⟩ fun r => ∀ c : Dev nD,
      r.2.mem ((c : Thread nD τ).loc main_v25_0) = G7 m c
      ∧ r.2.mem ((c : Thread nD τ).loc main_v25_1) = G8 m c
      ∧ r.2.mem ((c : Thread nD τ).loc main_v25_2) = G9 m c
      ∧ r.2.mem ((c : Thread nD τ).loc main_v25_3) = G10 m c
      ∧ r.2.mem ((c : Thread nD τ).loc main_v25_4) = G11 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final7 m c), (h c).2.1.trans (final8 m c), (h c).2.2.1.trans (final9 m c), (h c).2.2.2.1.trans (final10 m c), (h c).2.2.2.2.1.trans (final11 m c), (h c).2.2.2.2.2⟩) (Value.run_blocks m ρ)

end Cert.RotIdeal.Array

end
-- ==== Proof.RotReference.lean ====
/- The reference's projection into the differential attention on the prompt, read at an index. -/
module

public import proofs.«01_k».proof.Proof.Gen.RotRefIdeal.Read
public import proofs.«01_k».proof.Proof.Rows
public import proofs.«01_k».proof.Proof.Rope
public import Idealize.ShloMosaic.Lib.Pointwise

@[expose] public section

set_option maxRecDepth 16384

noncomputable section

namespace Cert.RotRefIdeal.Reference

open Idealize.ShloMosaic Idealize.ShloMosaic.TcCoe Idealize.ShloMosaic.Tactic
open Idealize.SL Idealize.SL.Sem
open Cert.RotRefIdeal Cert.RotRefIdeal.Gen Cert.RotRefIdeal.Read Cert.Rows Cert.Rope

variable (x0 : Vec Ideal S4x4096x1024 .f32) (x1 : Vec Ideal S1024 .f32) (x2 : Vec Ideal S1024x3072 .f32)

theorem norm_at (b : Fin 4) (p : Fin 4096) (d : Fin 1024) :
    val_main_v12 (F := Ideal) x0 x1 (ix3 b p d) = unit (fun k => x0 (ix3 b p k)) (fun k => x1 (ix1 k)) d := by
  pointwise [val_main_v12, val_main_v9, val_main_v11, val_main_v8, val_main_v10, val_main_v7, val_main_v6, val_main_v4, val_main_v5, val_main_v2, val_main_v3, val_main_cst_1, val_main_v1, val_main_cst_0, val_main_v0, val_main_cst]
  rfl

/-- A normed row against column `i` of the weights. -/
def col (b : Fin 4) (p : Fin 4096) (i : Fin 3072) : EReal :=
  proj (fun k => x0 (ix3 b p k)) (fun k => x1 (ix1 k)) (fun d => x2 (ix2 d i))

theorem column (b : Fin 4) (p : Fin 4096) (i : Fin 3072) (j : Fin 3072) (h : i.val = j.val) :
    val_main_v14 (F := Ideal) x0 x1 x2 (ix3 b p i) = col x0 x1 x2 b p j := by
  obtain ⟨j, hj⟩ := j
  dsimp only at h
  subst h
  pointwise [val_main_v14]
  exact Finset.sum_congr rfl fun d _ => congrArg₂ (· * ·) (norm_at x0 x1 b _ d) rfl

theorem q_at (r : Fin 16384) (j : Fin 1024) :
    val_main_v86 (F := Ideal) x0 x1 x2 (ix2 r j)
      = turn (fun i : Fin 1024 => col x0 x1 x2 ⟨r.val / 4096, by omega⟩ ⟨r.val % 4096, by omega⟩ ⟨0 + i.val, by omega⟩)
        (pos (r.val % 4096)) j := by
  pointwise [val_main_v86, val_main_v51, val_main_v43, val_main_v50, val_main_v39, val_main_v42, val_main_v46, val_main_v49, val_main_v35, val_main_v38, val_main_v36, val_main_v41, val_main_v45, val_main_v48, val_main_v18, val_main_v37, val_main_v40, val_main_v44, val_main_v47, val_main_v15, val_main_v32, val_main_v34, val_main_v31, val_main_v33, val_main_v30, val_main_v28, val_main_v29, val_main_v26, val_main_v27, val_main_v25, val_main_v24, val_main_v13, val_main_v23, val_main_v22, val_main_cst_3, val_main_v20, val_main_v21, val_main_v19, val_main_cst_2]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem k_at (r : Fin 16384) (j : Fin 1024) :
    val_main_v87 (F := Ideal) x0 x1 x2 (ix2 r j)
      = turn (fun i : Fin 1024 => col x0 x1 x2 ⟨r.val / 4096, by omega⟩ ⟨r.val % 4096, by omega⟩ ⟨1024 + i.val, by omega⟩)
        (pos (r.val % 4096)) j := by
  pointwise [val_main_v87, val_main_v85, val_main_v77, val_main_v84, val_main_v73, val_main_v76, val_main_v80, val_main_v83, val_main_v69, val_main_v72, val_main_v70, val_main_v75, val_main_v79, val_main_v82, val_main_v52, val_main_v71, val_main_v74, val_main_v78, val_main_v81, val_main_v16, val_main_v66, val_main_v68, val_main_v65, val_main_v67, val_main_v64, val_main_v62, val_main_v63, val_main_v60, val_main_v61, val_main_v59, val_main_v58, val_main_v13, val_main_v57, val_main_v56, val_main_cst_5, val_main_v54, val_main_v55, val_main_v53, val_main_cst_4]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem kh_at (r : Fin 16384) (j : Fin 1024) :
    val_main_v89 (F := Ideal) x0 x1 x2 (ix2 r j)
      = turn (fun i : Fin 1024 => col x0 x1 x2 ⟨r.val / 4096, by omega⟩ ⟨r.val % 4096, by omega⟩ ⟨1024 + i.val, by omega⟩)
        (pos (r.val % 4096)) j := by
  pointwise [val_main_v89, val_main_v87, val_main_v85, val_main_v77, val_main_v84, val_main_v73, val_main_v76, val_main_v80, val_main_v83, val_main_v69, val_main_v72, val_main_v70, val_main_v75, val_main_v79, val_main_v82, val_main_v52, val_main_v71, val_main_v74, val_main_v78, val_main_v81, val_main_v16, val_main_v66, val_main_v68, val_main_v65, val_main_v67, val_main_v64, val_main_v62, val_main_v63, val_main_v60, val_main_v61, val_main_v59, val_main_v58, val_main_v13, val_main_v57, val_main_v56, val_main_cst_5, val_main_v54, val_main_v55, val_main_v53, val_main_cst_4]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem v_at (r : Fin 16384) (j : Fin 1024) :
    val_main_v88 (F := Ideal) x0 x1 x2 (ix2 r j)
      = col x0 x1 x2 ⟨r.val / 4096, by omega⟩ ⟨r.val % 4096, by omega⟩ ⟨2048 + j.val, by omega⟩ := by
  pointwise [val_main_v88, val_main_v17]
  exact column x0 x1 x2 _ _ _ _ (by dsimp only <;> omega)

theorem vh_at (r : Fin 16384) (j : Fin 1024) :
    val_main_v90 (F := Ideal) x0 x1 x2 (ix2 r j)
      = col x0 x1 x2 ⟨r.val / 4096, by omega⟩ ⟨r.val % 4096, by omega⟩ ⟨2048 + j.val, by omega⟩ := by
  pointwise [val_main_v90, val_main_v88, val_main_v17]
  exact column x0 x1 x2 _ _ _ _ (by dsimp only <;> omega)

end Cert.RotRefIdeal.Reference

end
-- ==== Proof.RotNextArray.lean ====
/- The arrays the projection into the differential attention leaves for the tokens to come: rotated queries and keys, and values. -/
module

public import proofs.«01_k».proof.Proof.Gen.RotNextIdeal.Value
public import proofs.«01_k».proof.Proof.Rows
public import proofs.«01_k».proof.Proof.Rope
public import Idealize.ShloMosaic.Lib.StableHlo.RunRead
public import Idealize.ShloMosaic.Lib.Pointwise

@[expose] public section

set_option maxRecDepth 65536

noncomputable section

namespace Cert.RotNextIdeal.Array

open Idealize.ShloMosaic Idealize.ShloMosaic.TcCoe Idealize.ShloMosaic.Tactic Idealize.ShloMosaic.StableHlo
open Idealize.SL Idealize.SL.Sem
open Idealize.ShloMosaic.Pipeline (Dat)
open Cert.RotNextIdeal Cert.RotNextIdeal.Gen Cert.Rows Cert.Rope

/-! ## One grid point -/

/-- The normed rows. -/
theorem norm_at (v0 : Vec Ideal S32x1024 .f32) (v1 : Vec Ideal S1x1024 .f32) (r : Fin 32) (d : Fin 1024) :
    k0_pay3 (F := Ideal) v0 v1 (ix2 r d) = unit (fun k => v0 (ix2 r k)) (fun k => v1 (ix2 0 k)) d := by
  pointwise [k0_pay3]
  rfl

/-- The product of a normed row and a column, the blocks' entries known. -/
theorem proj_row {n : Nat} (x0 : Vec Ideal S32x1024 .f32) (x1 : Vec Ideal S1x1024 .f32) (w : Fin 1024 → Fin n → EReal) (x g wc : Fin 1024 → EReal)
    (r : Fin 32) (j : Fin n) (hx : ∀ k : Fin 1024, x0 (ix2 r k) = x k) (hg : ∀ k : Fin 1024, x1 (ix2 0 k) = g k)
    (hw : ∀ d : Fin 1024, w d j = wc d) :
    ∑ d : Fin 1024, k0_pay3 (F := Ideal) x0 x1 (ix2 r d) * w d j = proj x g wc := by
  refine Finset.sum_congr rfl fun d _ => ?_
  rw [norm_at, hw, funext hx, funext hg]

theorem mm4_at (v0 : Vec Ideal S32x1024 .f32) (v1 : Vec Ideal S1x1024 .f32) (w : Vec Ideal S1024x1024 .bf16) (r : Fin 32) (j : Fin 1024) :
    k0_pay4 (F := Ideal) v0 v1 w (ix2 r j) = ∑ x : Fin 1024, k0_pay3 (F := Ideal) v0 v1 (ix2 r x) * w (ix2 x j) := by
  pointwise [k0_pay4]

theorem mm11_at (v : FVec Ideal S32x1024 .bf16) (w : Vec Ideal S1024x1024 .bf16) (r : Fin 32) (j : Fin 1024) :
    k0_pay11 (F := Ideal) v w (ix2 r j) = ∑ x : Fin 1024, v (ix2 r x) * w (ix2 x j) := by
  pointwise [k0_pay11]

theorem mm2_at (v : FVec Ideal S32x1024 .bf16) (w : Vec Ideal S1024x1024 .bf16) (r : Fin 32) (j : Fin 1024) :
    k0_pay2 (F := Ideal) v w (ix2 r j) = ∑ x : Fin 1024, v (ix2 r x) * w (ix2 x j) := by
  pointwise [k0_pay2]

theorem tab5_at (v : Vec Ideal S32x128 .f32) (r : Fin 32) (j : Fin 1024) :
    k0_pay5 (F := Ideal) v (ix2 r j) = v (ix2 r ⟨j.val % 128, by omega⟩) := by
  pointwise [k0_pay5]
  split_ifs <;> exact congrArg (fun k => v (ix2 r k)) (Fin.ext (by dsimp only; omega))

theorem tab6_at (v : Vec Ideal S32x128 .f32) (r : Fin 32) (j : Fin 1024) :
    k0_pay6 (F := Ideal) v (ix2 r j) = v (ix2 r ⟨j.val % 128, by omega⟩) := by
  pointwise [k0_pay6]
  split_ifs <;> exact congrArg (fun k => v (ix2 r k)) (Fin.ext (by dsimp only; omega))

theorem tab12_at (v : Vec Ideal S32x128 .f32) (r : Fin 32) (j : Fin 1024) :
    k0_pay12 (F := Ideal) v (ix2 r j) = v (ix2 r ⟨j.val % 128, by omega⟩) := by
  pointwise [k0_pay12]
  split_ifs <;> exact congrArg (fun k => v (ix2 r k)) (Fin.ext (by dsimp only; omega))

theorem tab13_at (v : Vec Ideal S32x128 .f32) (r : Fin 32) (j : Fin 1024) :
    k0_pay13 (F := Ideal) v (ix2 r j) = v (ix2 r ⟨j.val % 128, by omega⟩) := by
  pointwise [k0_pay13]
  split_ifs <;> exact congrArg (fun k => v (ix2 r k)) (Fin.ext (by dsimp only; omega))

theorem spin10_at (v c s : FVec Ideal S32x1024 .f32) (y : Fin 1024 → EReal) (p : EReal) (r : Fin 32) (j : Fin 1024)
    (hy : ∀ i : Fin 1024, v (ix2 r i) = y i) (hc : c (ix2 r j) = Ideal.cos (angle p (j.val % 32))) (hs : s (ix2 r j) = side p j.val) :
    k0_pay10 (F := Ideal) v c s (Scalar.select (Scalar.cmpi .eq 64#32 0#32) 1#32 64#32) k0_pay7 k0_pay8 k0_pay9 (ix2 r j) = turn y p j := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay10, k0_pay7, k0_pay8, k0_pay9]

theorem spin1_at (v c s : FVec Ideal S32x1024 .f32) (y : Fin 1024 → EReal) (p : EReal) (r : Fin 32) (j : Fin 1024)
    (hy : ∀ i : Fin 1024, v (ix2 r i) = y i) (hc : c (ix2 r j) = Ideal.cos (angle p (j.val % 32))) (hs : s (ix2 r j) = side p j.val) :
    k0_pay1 (F := Ideal) v c s k0_pay14 k0_pay15 (ix2 r j) = turn y p j := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay1, k0_pay14, k0_pay15]

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 32) (k : Fin 1024) : EReal :=
  (m ((c : Thread nD τ).loc main_arg0) : Vec Ideal S32x1x1024 .f32) (ix3 ⟨r.val, by omega⟩ 0 k)

def Gain (k : Fin 1024) : EReal := (m ((c : Thread nD τ).loc main_arg1) : Vec Ideal S1024 .f32) (ix1 k)

def Wt (d : Fin 1024) (j : Fin 3072) : EReal :=
  (m ((c : Thread nD τ).loc main_arg2) : Vec Ideal S1024x3072 .f32) (ix2 d j)

/-- Lane `j` of the part of the projected row that starts at column `o`. -/
def Part (n o : ℕ) (h : o + n ≤ 3072) (r : Fin 32) (j : Fin n) : EReal :=
  proj (X m c r) (Gain m c) (fun d => Wt m c d ⟨o + j.val, by omega⟩)

/-! ## The operands the host code prepares -/

theorem x_at (r : Fin 32) (k : Fin 1024) : (V m c main_v23 : Vec Ideal S32x1024 .f32) (ix2 r k) = X m c r k := by
  show StableHlo.after hostOps0 (fun b => m (c, b)) _ _ = _
  after_reads_simp
  pointwise [X]

theorem gain_at (k : Fin 1024) : (V m c main_v24 : Vec Ideal S1x1024 .f32) (ix2 0 k) = Gain m c k := by
  show StableHlo.after hostOps0 (fun b => m (c, b)) _ _ = _
  after_reads_simp
  pointwise [Gain]

theorem w1_at (d : Fin 1024) (j : Fin 1024) : (V m c main_v1 : Vec Ideal S1024x1024 .bf16) (ix2 d j) = Wt m c d ⟨0 + j.val, by omega⟩ := by
  show StableHlo.after hostOps0 (fun b => m (c, b)) _ _ = _
  after_reads_simp
  pointwise [Wt]

theorem w2_at (d : Fin 1024) (j : Fin 1024) : (V m c main_v2 : Vec Ideal S1024x1024 .bf16) (ix2 d j) = Wt m c d ⟨1024 + j.val, by omega⟩ := by
  show StableHlo.after hostOps0 (fun b => m (c, b)) _ _ = _
  after_reads_simp
  pointwise [Wt]

theorem w3_at (d : Fin 1024) (j : Fin 1024) : (V m c main_v3 : Vec Ideal S1024x1024 .bf16) (ix2 d j) = Wt m c d ⟨2048 + j.val, by omega⟩ := by
  show StableHlo.after hostOps0 (fun b => m (c, b)) _ _ = _
  after_reads_simp
  pointwise [Wt]

theorem cos_at (p : Fin 32) (k : Fin 128) :
    (V m c main_v19 : Vec Ideal S32x128 .f32) (ix2 p k) = Ideal.cos (angle (pos 8192) (k.val % 32)) := by
  show StableHlo.after hostOps0 (fun b => m (c, b)) _ _ = _
  after_reads_simp
  pointwise []
  after_reads_simp
  pointwise []
  exact cos_parts _ _

theorem sin_at (p : Fin 32) (k : Fin 128) :
    (V m c main_v22 : Vec Ideal S32x128 .f32) (ix2 p k) = side (pos 8192) k.val := by
  show StableHlo.after hostOps0 (fun b => m (c, b)) _ _ = _
  after_reads_simp
  pointwise []
  after_reads_simp
  pointwise []
  exact side_parts _ _

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0)
    ∧ (win0_3.index t 0 = (grid0.coords t 0).val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = (grid0.coords t 0).val ∧ win0_7.index t 1 = 0)
    ∧ (win0_8.index t 0 = (grid0.coords t 0).val ∧ win0_8.index t 1 = 0)
    ∧ (win0_9.index t 0 = (grid0.coords t 0).val ∧ win0_9.index t 1 = 0) :=
  (by decide +kernel : ∀ t : Fin grid0.N, _)

/-- The row block of a grid point. -/
abbrev blk (t : Fin cfg0.N) : Fin 1 := grid0.coords t 0

theorem x_block (t : Fin cfg0.N) (r : Fin 32) (j : Fin 1024) :
    (iblk m c 0 t : Vec Ideal S32x1024 .f32) (ix2 r j) = X m c ⟨32 * (blk t).val + r.val, by omega⟩ j := by
  obtain ⟨⟨h0, h1⟩, -⟩ := idx_facts t
  have e : (((cfg0.win 0).blk t).view.emb (ix2 r j) : S32x1024.Idx) = ix2 ⟨32 * (blk t).val + r.val, by omega⟩ j := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * j.val = j.val; rw [h1]; omega
  show (V m c main_v23 : Vec Ideal S32x1024 .f32) (((cfg0.win 0).blk t).view.emb (ix2 r j)) = _
  rw [e, x_at]

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v24 : Vec Ideal S1x1024 .f32) (((cfg0.win 1).blk t).view.emb (ix2 0 j)) = _
  rw [e, gain_at]

theorem cos_block (t : Fin cfg0.N) (r : Fin 32) (j : Fin 128) :
    (iblk m c 2 t : Vec Ideal S32x128 .f32) (ix2 r j) = Ideal.cos (angle (pos 8192) (j.val % 32)) := by
  obtain ⟨-, -, ⟨h0, h1⟩, -⟩ := idx_facts t
  have e : (((cfg0.win 2).blk t).view.emb (ix2 r j) : S32x128.Idx) = ix2 ⟨32 * (blk t).val + r.val, by omega⟩ j := by
    funext a
    apply Fin.ext
    match a with
    | ⟨0, _⟩ => show win0_2.index t 0 * 32 + 1 * r.val = 32 * (grid0.coords t 0).val + r.val; rw [h0]; omega
    | ⟨1, _⟩ => show win0_2.index t 1 * 128 + 1 * j.val = j.val; rw [h1]; omega
  show (V m c main_v19 : Vec Ideal S32x128 .f32) (((cfg0.win 2).blk t).view.emb (ix2 r j)) = _
  rw [e, cos_at]

theorem sin_block (t : Fin cfg0.N) (r : Fin 32) (j : Fin 128) :
    (iblk m c 3 t : Vec Ideal S32x128 .f32) (ix2 r j) = side (pos 8192) j.val := by
  obtain ⟨-, -, -, ⟨h0, h1⟩, -⟩ := idx_facts t
  have e : (((cfg0.win 3).blk t).view.emb (ix2 r j) : S32x128.Idx) = ix2 ⟨32 * (blk t).val + r.val, by omega⟩ j := by
    funext a
    apply Fin.ext
    match a with
    | ⟨0, _⟩ => show win0_3.index t 0 * 32 + 1 * r.val = 32 * (grid0.coords t 0).val + r.val; rw [h0]; omega
    | ⟨1, _⟩ => show win0_3.index t 1 * 128 + 1 * j.val = j.val; rw [h1]; omega
  show (V m c main_v22 : Vec Ideal S32x128 .f32) (((cfg0.win 3).blk t).view.emb (ix2 r j)) = _
  rw [e, sin_at]

theorem w1_block (t : Fin cfg0.N) (d : Fin 1024) (j : Fin 1024) :
    (iblk m c 4 t : Vec Ideal S1024x1024 .bf16) (ix2 d j) = Wt m c d ⟨0 + j.val, by omega⟩ := by
  obtain ⟨-, -, -, -, ⟨h0, h1⟩, -⟩ := idx_facts t
  have e : (((cfg0.win 4).blk t).view.emb (ix2 d j) : S1024x1024.Idx) = ix2 d j := by
    funext a
    apply Fin.ext
    match a with
    | ⟨0, _⟩ => show win0_4.index t 0 * 1024 + 1 * d.val = d.val; rw [h0]; omega
    | ⟨1, _⟩ => show win0_4.index t 1 * 1024 + 1 * j.val = j.val; rw [h1]; omega
  show (V m c main_v1 : Vec Ideal S1024x1024 .bf16) (((cfg0.win 4).blk t).view.emb (ix2 d j)) = _
  rw [e, w1_at]

theorem w2_block (t : Fin cfg0.N) (d : Fin 1024) (j : Fin 1024) :
    (iblk m c 5 t : Vec Ideal S1024x1024 .bf16) (ix2 d j) = Wt m c d ⟨1024 + j.val, by omega⟩ := by
  obtain ⟨-, -, -, -, -, ⟨h0, h1⟩, -⟩ := idx_facts t
  have e : (((cfg0.win 5).blk t).view.emb (ix2 d j) : S1024x1024.Idx) = ix2 d j := by
    funext a
    apply Fin.ext
    match a with
    | ⟨0, _⟩ => show win0_5.index t 0 * 1024 + 1 * d.val = d.val; rw [h0]; omega
    | ⟨1, _⟩ => show win0_5.index t 1 * 1024 + 1 * j.val = j.val; rw [h1]; omega
  show (V m c main_v2 : Vec Ideal S1024x1024 .bf16) (((cfg0.win 5).blk t).view.emb (ix2 d j)) = _
  rw [e, w2_at]

theorem w3_block (t : Fin cfg0.N) (d : Fin 1024) (j : Fin 1024) :
    (iblk m c 6 t : Vec Ideal S1024x1024 .bf16) (ix2 d j) = Wt m c d ⟨2048 + j.val, by omega⟩ := by
  obtain ⟨-, -, -, -, -, -, ⟨h0, h1⟩, -⟩ := idx_facts t
  have e : (((cfg0.win 6).blk t).view.emb (ix2 d j) : S1024x1024.Idx) = ix2 d j := by
    funext a
    apply Fin.ext
    match a with
    | ⟨0, _⟩ => show win0_6.index t 0 * 1024 + 1 * d.val = d.val; rw [h0]; omega
    | ⟨1, _⟩ => show win0_6.index t 1 * 1024 + 1 * j.val = j.val; rw [h1]; omega
  show (V m c main_v3 : Vec Ideal S1024x1024 .bf16) (((cfg0.win 6).blk t).view.emb (ix2 d j)) = _
  rw [e, w3_at]

theorem point_of : ∀ b : Fin 1, ∃ t : Fin cfg0.N, (grid0.coords t 0).val = b.val :=
  (by decide +kernel : ∀ b : Fin 1, ∃ t : Fin grid0.N, _)

/-! ## The stored blocks and the arrays -/

/-- What result 0 is to hold. -/
def G7 : Vec Ideal S32x1024 .f32 := fun i => turn (Part m c 1024 0 (by decide) (i 0)) (pos 8192) (i 1)

theorem o_emb7 (t : Fin cfg0.N) (r : Fin 32) (j : Fin 1024) :
    (((cfg0.win 7).blk t).view.emb (ix2 r j) : S32x1024.Idx) = ix2 ⟨32 * (blk t).val + r.val, by omega⟩ j := by
  obtain ⟨-, -, -, -, -, -, -, ⟨h0, h1⟩, -⟩ := idx_facts t
  funext a
  apply Fin.ext
  match a with
  | ⟨0, _⟩ => show win0_7.index t 0 * 32 + 1 * r.val = 32 * (grid0.coords t 0).val + r.val; rw [h0]; omega
  | ⟨1, _⟩ => show win0_7.index t 1 * 1024 + 1 * j.val = j.val; rw [h1]; omega

theorem out_at7 (t : Fin cfg0.N) (r : Fin 32) (j : Fin 1024) :
    out0_7 (iblk m c 0 t) (iblk m c 1 t) (iblk m c 2 t) (iblk m c 3 t) (iblk m c 4 t) (iblk m c 5 t) (iblk m c 6 t) (ix2 r j)
      = G7 m c (ix2 ⟨32 * (blk t).val + r.val, by omega⟩ j) := by
  unfold_out out0_7
  rw [View.canon_unit_zero hz, View.ld_unit_zero hz, View.ld_unit_zero hz, View.ld_unit_zero hz, View.ld_unit_zero hz, View.ld_unit_zero hz]
  refine Eq.trans (spin10_at _ _ _ (Part m c 1024 0 (by decide) ⟨32 * (blk t).val + r.val, by omega⟩) (pos 8192) r j (fun i => ?_) ?_ ?_) ?_
  · exact (mm4_at _ _ _ r i).trans (proj_row _ _ (fun d i => (iblk m c 4 t : Vec Ideal S1024x1024 .bf16) (ix2 d i)) _ _ _ r i
      (x_block m c t r) (g_block m c t) (fun d => w1_block m c t d i))
  · refine (tab5_at _ r j).trans ((cos_block m c t r _).trans ?_)
    exact congrArg (fun l => Ideal.cos (angle _ l)) (by show j.val % 128 % 32 = j.val % 32; omega)
  · exact (tab6_at _ r j).trans ((sin_block m c t r _).trans (side_mod _ _))
  rfl

theorem stored_eq7 (t : Fin cfg0.N) (j : S32x1024.Idx) :
    out0_7 (iblk m c 0 t) (iblk m c 1 t) (iblk m c 2 t) (iblk m c 3 t) (iblk m c 4 t) (iblk m c 5 t) (iblk m c 6 t) j
      = G7 m c (((cfg0.win 7).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G7 m c) (o_emb7 t r d)).symm
  exact out_at7 m c t r d

theorem flushed_eq7 (t : Fin cfg0.N) (_ : (cfg0.win 7).flush t = true) :
    (dats m 0 c).flushed 7 t = ((cfg0.win 7).blk t).view.read (Elt Ideal) (G7 m c) := by
  rw [Value.flushed7]
  funext j
  rw [View.read_apply]
  exact stored_eq7 m c t j

theorem covered7 (i : S32x1024.Idx) :
    ∃ t : Fin cfg0.N, (cfg0.win 7).flush t = true ∧ i ∈ ((cfg0.win 7).blk t).view.set := by
  have h0 : (i 0).val < 32 := (i 0).isLt
  obtain ⟨t, hb⟩ := point_of ⟨(i 0).val / 32, by omega⟩
  refine ⟨t, flush0_7 t, ?_⟩
  have e := o_emb7 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 7).blk t).view.emb_mem_set _

theorem final7 : (dats m 0 c).arrAt 7 cfg0.N = G7 m c :=
  (dats m 0 c).arrAt_eq_of_cover 7 (G7 m c) (flushed_eq7 m c) covered7

/-- What result 1 is to hold. -/
def G8 : Vec Ideal S32x1024 .f32 := fun i => turn (Part m c 1024 1024 (by decide) (i 0)) (pos 8192) (i 1)

theorem o_emb8 (t : Fin cfg0.N) (r : Fin 32) (j : Fin 1024) :
    (((cfg0.win 8).blk t).view.emb (ix2 r j) : S32x1024.Idx) = ix2 ⟨32 * (blk t).val + r.val, by omega⟩ j := by
  obtain ⟨-, -, -, -, -, -, -, -, ⟨h0, h1⟩, -⟩ := idx_facts t
  funext a
  apply Fin.ext
  match a with
  | ⟨0, _⟩ => show win0_8.index t 0 * 32 + 1 * r.val = 32 * (grid0.coords t 0).val + r.val; rw [h0]; omega
  | ⟨1, _⟩ => show win0_8.index t 1 * 1024 + 1 * j.val = j.val; rw [h1]; omega

theorem out_at8 (t : Fin cfg0.N) (r : Fin 32) (j : Fin 1024) :
    out0_8 (iblk m c 0 t) (iblk m c 1 t) (iblk m c 2 t) (iblk m c 3 t) (iblk m c 4 t) (iblk m c 5 t) (iblk m c 6 t) (ix2 r j)
      = G8 m c (ix2 ⟨32 * (blk t).val + r.val, by omega⟩ j) := by
  unfold_out out0_8
  rw [View.canon_unit_zero hz, View.ld_unit_zero hz, View.ld_unit_zero hz, View.ld_unit_zero hz, View.ld_unit_zero hz, View.ld_unit_zero hz]
  refine Eq.trans (spin1_at _ _ _ (Part m c 1024 1024 (by decide) ⟨32 * (blk t).val + r.val, by omega⟩) (pos 8192) r j (fun i => ?_) ?_ ?_) ?_
  · exact (mm11_at _ _ r i).trans (proj_row _ _ (fun d i => (iblk m c 5 t : Vec Ideal S1024x1024 .bf16) (ix2 d i)) _ _ _ r i
      (x_block m c t r) (g_block m c t) (fun d => w2_block m c t d i))
  · refine (tab12_at _ r j).trans ((cos_block m c t r _).trans ?_)
    exact congrArg (fun l => Ideal.cos (angle _ l)) (by show j.val % 128 % 32 = j.val % 32; omega)
  · exact (tab13_at _ r j).trans ((sin_block m c t r _).trans (side_mod _ _))
  rfl

theorem stored_eq8 (t : Fin cfg0.N) (j : S32x1024.Idx) :
    out0_8 (iblk m c 0 t) (iblk m c 1 t) (iblk m c 2 t) (iblk m c 3 t) (iblk m c 4 t) (iblk m c 5 t) (iblk m c 6 t) j
      = G8 m c (((cfg0.win 8).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G8 m c) (o_emb8 t r d)).symm
  exact out_at8 m c t r d

theorem flushed_eq8 (t : Fin cfg0.N) (_ : (cfg0.win 8).flush t = true) :
    (dats m 0 c).flushed 8 t = ((cfg0.win 8).blk t).view.read (Elt Ideal) (G8 m c) := by
  rw [Value.flushed8]
  funext j
  rw [View.read_apply]
  exact stored_eq8 m c t j

theorem covered8 (i : S32x1024.Idx) :
    ∃ t : Fin cfg0.N, (cfg0.win 8).flush t = true ∧ i ∈ ((cfg0.win 8).blk t).view.set := by
  have h0 : (i 0).val < 32 := (i 0).isLt
  obtain ⟨t, hb⟩ := point_of ⟨(i 0).val / 32, by omega⟩
  refine ⟨t, flush0_8 t, ?_⟩
  have e := o_emb8 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 8).blk t).view.emb_mem_set _

theorem final8 : (dats m 0 c).arrAt 8 cfg0.N = G8 m c :=
  (dats m 0 c).arrAt_eq_of_cover 8 (G8 m c) (flushed_eq8 m c) covered8

/-- What result 2 is to hold. -/
def G9 : Vec Ideal S32x1024 .f32 := fun i => Part m c 1024 2048 (by decide) (i 0) (i 1)

theorem o_emb9 (t : Fin cfg0.N) (r : Fin 32) (j : Fin 1024) :
    (((cfg0.win 9).blk t).view.emb (ix2 r j) : S32x1024.Idx) = ix2 ⟨32 * (blk t).val + r.val, by omega⟩ j := by
  obtain ⟨-, -, -, -, -, -, -, -, -, ⟨h0, h1⟩⟩ := idx_facts t
  funext a
  apply Fin.ext
  match a with
  | ⟨0, _⟩ => show win0_9.index t 0 * 32 + 1 * r.val = 32 * (grid0.coords t 0).val + r.val; rw [h0]; omega
  | ⟨1, _⟩ => show win0_9.index t 1 * 1024 + 1 * j.val = j.val; rw [h1]; omega

theorem out_at9 (t : Fin cfg0.N) (r : Fin 32) (j : Fin 1024) :
    out0_9 (iblk m c 0 t) (iblk m c 1 t) (iblk m c 2 t) (iblk m c 3 t) (iblk m c 4 t) (iblk m c 5 t) (iblk m c 6 t) (ix2 r j)
      = G9 m c (ix2 ⟨32 * (blk t).val + r.val, by omega⟩ j) := by
  unfold_out out0_9
  rw [View.canon_unit_zero hz, View.ld_unit_zero hz, View.ld_unit_zero hz, View.ld_unit_zero hz]
  refine (mm2_at _ _ r j).trans ?_
  exact proj_row _ _ (fun d i => (iblk m c 6 t : Vec Ideal S1024x1024 .bf16) (ix2 d i)) _ _ _ r j
    (x_block m c t r) (g_block m c t) (fun d => w3_block m c t d j)

theorem stored_eq9 (t : Fin cfg0.N) (j : S32x1024.Idx) :
    out0_9 (iblk m c 0 t) (iblk m c 1 t) (iblk m c 2 t) (iblk m c 3 t) (iblk m c 4 t) (iblk m c 5 t) (iblk m c 6 t) j
      = G9 m c (((cfg0.win 9).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G9 m c) (o_emb9 t r d)).symm
  exact out_at9 m c t r d

theorem flushed_eq9 (t : Fin cfg0.N) (_ : (cfg0.win 9).flush t = true) :
    (dats m 0 c).flushed 9 t = ((cfg0.win 9).blk t).view.read (Elt Ideal) (G9 m c) := by
  rw [Value.flushed9]
  funext j
  rw [View.read_apply]
  exact stored_eq9 m c t j

theorem covered9 (i : S32x1024.Idx) :
    ∃ t : Fin cfg0.N, (cfg0.win 9).flush t = true ∧ i ∈ ((cfg0.win 9).blk t).view.set := by
  have h0 : (i 0).val < 32 := (i 0).isLt
  obtain ⟨t, hb⟩ := point_of ⟨(i 0).val / 32, by omega⟩
  refine ⟨t, flush0_9 t, ?_⟩
  have e := o_emb9 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 9).blk t).view.emb_mem_set _

theorem final9 : (dats m 0 c).arrAt 9 cfg0.N = G9 m c :=
  (dats m 0 c).arrAt_eq_of_cover 9 (G9 m c) (flushed_eq9 m c) covered9

/-- The kernel's run: queries, keys and values, and the arguments as they were. -/
theorem run : θ_run defs (onTc (τ := τ) (main (F := Ideal))) ⟨m, fun _ => 0, ρ⟩ fun r => ∀ c : Dev nD,
      r.2.mem ((c : Thread nD τ).loc main_v25_0) = G7 m c
      ∧ r.2.mem ((c : Thread nD τ).loc main_v25_1) = G8 m c
      ∧ r.2.mem ((c : Thread nD τ).loc main_v25_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final7 m c), (h c).2.1.trans (final8 m c), (h c).2.2.1.trans (final9 m c), (h c).2.2.2⟩) (Value.run_blocks m ρ)

end Cert.RotNextIdeal.Array

end
-- ==== Proof.RotNextReference.lean ====
/- The reference's projection into the differential attention for the tokens to come, read at an index. -/
module

public import proofs.«01_k».proof.Proof.Gen.RotNextRefIdeal.Read
public import proofs.«01_k».proof.Proof.Rows
public import proofs.«01_k».proof.Proof.Rope
public import Idealize.ShloMosaic.Lib.Pointwise

@[expose] public section

set_option maxRecDepth 16384

noncomputable section

namespace Cert.RotNextRefIdeal.Reference

open Idealize.ShloMosaic Idealize.ShloMosaic.TcCoe Idealize.ShloMosaic.Tactic
open Idealize.SL Idealize.SL.Sem
open Cert.RotNextRefIdeal Cert.RotNextRefIdeal.Gen Cert.RotNextRefIdeal.Read Cert.Rows Cert.Rope

variable (x0 : Vec Ideal S32x1x1024 .f32) (x1 : Vec Ideal S1024 .f32) (x2 : Vec Ideal S1024x3072 .f32)

theorem norm_at (b : Fin 32) (p : Fin 1) (d : Fin 1024) :
    val_main_v12 (F := Ideal) x0 x1 (ix3 b p d) = unit (fun k => x0 (ix3 b p k)) (fun k => x1 (ix1 k)) d := by
  obtain rfl : p = 0 := Subsingleton.elim _ _
  pointwise [val_main_v12, val_main_v9, val_main_v11, val_main_v8, val_main_v10, val_main_v7, val_main_v6, val_main_v4, val_main_v5, val_main_v2, val_main_v3, val_main_cst_1, val_main_v1, val_main_cst_0, val_main_v0, val_main_cst]
  rfl

/-- A normed row against column `i` of the weights. -/
def col (b : Fin 32) (p : Fin 1) (i : Fin 3072) : EReal :=
  proj (fun k => x0 (ix3 b p k)) (fun k => x1 (ix1 k)) (fun d => x2 (ix2 d i))

theorem column (b : Fin 32) (p : Fin 1) (i : Fin 3072) (j : Fin 3072) (h : i.val = j.val) :
    val_main_v16 (F := Ideal) x0 x1 x2 (ix3 b p i) = col x0 x1 x2 b p j := by
  obtain ⟨j, hj⟩ := j
  dsimp only at h
  subst h
  obtain rfl : p = 0 := Subsingleton.elim _ _
  pointwise [val_main_v16]
  exact Finset.sum_congr rfl fun d _ => congrArg₂ (· * ·) (norm_at x0 x1 b _ d) rfl

theorem q_at (r : Fin 32) (j : Fin 1024) :
    val_main_v86 (F := Ideal) x0 x1 x2 (ix2 r j)
      = turn (fun i : Fin 1024 => col x0 x1 x2 ⟨r.val, by omega⟩ 0 ⟨0 + i.val, by omega⟩)
        (pos 8192) j := by
  pointwise [val_main_v86, val_main_v52, val_main_v44, val_main_v51, val_main_v40, val_main_v43, val_main_v47, val_main_v50, val_main_v36, val_main_v39, val_main_v37, val_main_v42, val_main_v46, val_main_v49, val_main_v20, val_main_v38, val_main_v41, val_main_v45, val_main_v48, val_main_v17, val_main_v33, val_main_v35, val_main_v32, val_main_v34, val_main_v31, val_main_v30, val_main_v29, val_main_v28, val_main_v26, val_main_v27, val_main_v25, val_main_v24, val_main_v15, val_main_cst_3, val_main_v22, val_main_v23, val_main_v14, val_main_v13, val_main_v21, val_main_cst_2, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem k_at (r : Fin 32) (j : Fin 1024) :
    val_main_v87 (F := Ideal) x0 x1 x2 (ix2 r j)
      = turn (fun i : Fin 1024 => col x0 x1 x2 ⟨r.val, by omega⟩ 0 ⟨1024 + i.val, by omega⟩)
        (pos 8192) j := by
  pointwise [val_main_v87, val_main_v85, val_main_v77, val_main_v84, val_main_v73, val_main_v76, val_main_v80, val_main_v83, val_main_v69, val_main_v72, val_main_v70, val_main_v75, val_main_v79, val_main_v82, val_main_v53, val_main_v71, val_main_v74, val_main_v78, val_main_v81, val_main_v18, val_main_v66, val_main_v68, val_main_v65, val_main_v67, val_main_v64, val_main_v63, val_main_v62, val_main_v61, val_main_v59, val_main_v60, val_main_v58, val_main_v57, val_main_v15, val_main_cst_5, val_main_v55, val_main_v56, val_main_v14, val_main_v13, val_main_v54, val_main_cst_4, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem v_at (r : Fin 32) (j : Fin 1024) :
    val_main_v88 (F := Ideal) x0 x1 x2 (ix2 r j)
      = col x0 x1 x2 ⟨r.val, by omega⟩ 0 ⟨2048 + j.val, by omega⟩ := by
  pointwise [val_main_v88, val_main_v19]
  exact column x0 x1 x2 _ _ _ _ (by dsimp only <;> omega)

end Cert.RotNextRefIdeal.Reference

end
-- ==== Proof.Share.lean ====
/- The gates of the sparse attention over the extended reals: a logistic function of a column padded with zeros. -/
module

public import Idealize.ShloMosaic.Lib.Pointwise

@[expose] public section

noncomputable section

namespace Cert.Share

open Idealize.ShloMosaic

/-- The logistic function. -/
def share (z : EReal) : EReal := Ideal.div 1 (1 + Ideal.exp (-z))

theorem zero_sub_eq (z : EReal) : 0 - z = -z := by
  rw [sub_eq_add_neg, zero_add]

/-- 48 columns filled up with zeros to 128. -/
def filled (f : Fin 48 → EReal) (n : Fin 128) : EReal :=
  if h : n.val < 48 then f ⟨n.val, h⟩ else FloatOps.sitofp (F := Ideal) .f32 (0#32)

end Cert.Share

end
-- ==== Proof.NsaArray.lean ====
/- The arrays the projection into the sparse attention leaves on the prompt: rotated queries and keys, values and gates. -/
module

public import proofs.«01_k».proof.Proof.Gen.NsaIdeal.Value
public import proofs.«01_k».proof.Proof.Rows
public import proofs.«01_k».proof.Proof.Rope
public import proofs.«01_k».proof.Proof.Share
public import Idealize.ShloMosaic.Lib.StableHlo.RunRead
public import Idealize.ShloMosaic.Lib.Pointwise

@[expose] public section

set_option maxRecDepth 65536

noncomputable section

namespace Cert.NsaIdeal.Array

open Idealize.ShloMosaic Idealize.ShloMosaic.TcCoe Idealize.ShloMosaic.Tactic Idealize.ShloMosaic.StableHlo
open Idealize.SL Idealize.SL.Sem
open Idealize.ShloMosaic.Pipeline (Dat)
open Cert.NsaIdeal Cert.NsaIdeal.Gen Cert.Rows Cert.Rope Cert.Share

/-! ## One grid point -/

/-- The normed rows. -/
theorem norm_at (v0 : Vec Ideal S512x1024 .f32) (v1 : Vec Ideal S1x1024 .f32) (r : Fin 512) (d : Fin 1024) :
    k0_pay1 (F := Ideal) v0 v1 (ix2 r d) = unit (fun k => v0 (ix2 r k)) (fun k => v1 (ix2 0 k)) d := by
  pointwise [k0_pay1]
  rfl

/-- The product of a normed row and a column, the blocks' entries known. -/
theorem proj_row {n : Nat} (x0 : Vec Ideal S512x1024 .f32) (x1 : Vec Ideal S1x1024 .f32) (w : Fin 1024 → Fin n → EReal) (x g wc : Fin 1024 → EReal)
    (r : Fin 512) (j : Fin n) (hx : ∀ k : Fin 1024, x0 (ix2 r k) = x k) (hg : ∀ k : Fin 1024, x1 (ix2 0 k) = g k)
    (hw : ∀ d : Fin 1024, w d j = wc d) :
    ∑ d : Fin 1024, k0_pay1 (F := Ideal) x0 x1 (ix2 r d) * w d j = proj x g wc := by
  refine Finset.sum_congr rfl fun d _ => ?_
  rw [norm_at, hw, funext hx, funext hg]

theorem mm2_at (v0 : Vec Ideal S512x1024 .f32) (v1 : Vec Ideal S1x1024 .f32) (w : Vec Ideal S1024x1024 .bf16) (r : Fin 512) (j : Fin 1024) :
    k0_pay2 (F := Ideal) v0 v1 w (ix2 r j) = ∑ x : Fin 1024, k0_pay1 (F := Ideal) v0 v1 (ix2 r x) * w (ix2 x j) := by
  pointwise [k0_pay2]

theorem mm9_at (v : FVec Ideal S512x1024 .bf16) (w : Vec Ideal S1024x256 .bf16) (r : Fin 512) (j : Fin 256) :
    k0_pay9 (F := Ideal) v w (ix2 r j) = ∑ x : Fin 1024, v (ix2 r x) * w (ix2 x j) := by
  pointwise [k0_pay9]

theorem mm15_at (v : FVec Ideal S512x1024 .bf16) (w : Vec Ideal S1024x256 .bf16) (r : Fin 512) (j : Fin 256) :
    k0_pay15 (F := Ideal) v w (ix2 r j) = ∑ x : Fin 1024, v (ix2 r x) * w (ix2 x j) := by
  pointwise [k0_pay15]

theorem mm16_at (v : FVec Ideal S512x1024 .bf16) (w : Vec Ideal S1024x256 .bf16) (r : Fin 512) (j : Fin 256) :
    k0_pay16 (F := Ideal) v w (ix2 r j) = ∑ x : Fin 1024, v (ix2 r x) * w (ix2 x j) := by
  pointwise [k0_pay16]

theorem mm23_at (v : FVec Ideal S512x1024 .bf16) (w : Vec Ideal S1024x256 .bf16) (r : Fin 512) (j : Fin 256) :
    k0_pay23 (F := Ideal) v w (ix2 r j) = ∑ x : Fin 1024, v (ix2 r x) * w (ix2 x j) := by
  pointwise [k0_pay23]

theorem mm24_at (v : FVec Ideal S512x1024 .bf16) (w : Vec Ideal S1024x256 .bf16) (r : Fin 512) (j : Fin 256) :
    k0_pay24 (F := Ideal) v w (ix2 r j) = ∑ x : Fin 1024, v (ix2 r x) * w (ix2 x j) := by
  pointwise [k0_pay24]

theorem mm32_at (v : FVec Ideal S512x1024 .bf16) (w : Vec Ideal S1024x256 .bf16) (r : Fin 512) (j : Fin 256) :
    k0_pay32 (F := Ideal) v w (ix2 r j) = ∑ x : Fin 1024, v (ix2 r x) * w (ix2 x j) := by
  pointwise [k0_pay32]

theorem tab3_at (v : Vec Ideal S512x128 .f32) (r : Fin 512) (j : Fin 1024) :
    k0_pay3 (F := Ideal) v (ix2 r j) = v (ix2 r ⟨j.val % 128, by omega⟩) := by
  pointwise [k0_pay3]
  split_ifs <;> exact congrArg (fun k => v (ix2 r k)) (Fin.ext (by dsimp only; omega))

theorem tab4_at (v : Vec Ideal S512x128 .f32) (r : Fin 512) (j : Fin 1024) :
    k0_pay4 (F := Ideal) v (ix2 r j) = v (ix2 r ⟨j.val % 128, by omega⟩) := by
  pointwise [k0_pay4]
  split_ifs <;> exact congrArg (fun k => v (ix2 r k)) (Fin.ext (by dsimp only; omega))

theorem tab10_at (v : Vec Ideal S512x128 .f32) (r : Fin 512) (j : Fin 256) :
    k0_pay10 (F := Ideal) v (ix2 r j) = v (ix2 r ⟨j.val % 128, by omega⟩) := by
  pointwise [k0_pay10]
  split_ifs <;> exact congrArg (fun k => v (ix2 r k)) (Fin.ext (by dsimp only; omega))

theorem tab11_at (v : Vec Ideal S512x128 .f32) (r : Fin 512) (j : Fin 256) :
    k0_pay11 (F := Ideal) v (ix2 r j) = v (ix2 r ⟨j.val % 128, by omega⟩) := by
  pointwise [k0_pay11]
  split_ifs <;> exact congrArg (fun k => v (ix2 r k)) (Fin.ext (by dsimp only; omega))

theorem tab17_at (v : Vec Ideal S512x128 .f32) (r : Fin 512) (j : Fin 256) :
    k0_pay17 (F := Ideal) v (ix2 r j) = v (ix2 r ⟨j.val % 128, by omega⟩) := by
  pointwise [k0_pay17]
  split_ifs <;> exact congrArg (fun k => v (ix2 r k)) (Fin.ext (by dsimp only; omega))

theorem tab18_at (v : Vec Ideal S512x128 .f32) (r : Fin 512) (j : Fin 256) :
    k0_pay18 (F := Ideal) v (ix2 r j) = v (ix2 r ⟨j.val % 128, by omega⟩) := by
  pointwise [k0_pay18]
  split_ifs <;> exact congrArg (fun k => v (ix2 r k)) (Fin.ext (by dsimp only; omega))

theorem tab25_at (v : Vec Ideal S512x128 .f32) (r : Fin 512) (j : Fin 256) :
    k0_pay25 (F := Ideal) v (ix2 r j) = v (ix2 r ⟨j.val % 128, by omega⟩) := by
  pointwise [k0_pay25]
  split_ifs <;> exact congrArg (fun k => v (ix2 r k)) (Fin.ext (by dsimp only; omega))

theorem tab26_at (v : Vec Ideal S512x128 .f32) (r : Fin 512) (j : Fin 256) :
    k0_pay26 (F := Ideal) v (ix2 r j) = v (ix2 r ⟨j.val % 128, by omega⟩) := by
  pointwise [k0_pay26]
  split_ifs <;> exact congrArg (fun k => v (ix2 r k)) (Fin.ext (by dsimp only; omega))

theorem spin8_at (v c s : FVec Ideal S512x1024 .f32) (y : Fin 1024 → EReal) (p : EReal) (r : Fin 512) (j : Fin 1024)
    (hy : ∀ i : Fin 1024, v (ix2 r i) = y i) (hc : c (ix2 r j) = Ideal.cos (angle p (j.val % 32))) (hs : s (ix2 r j) = side p j.val) :
    k0_pay8 (F := Ideal) v c s (Scalar.select (Scalar.cmpi .eq 64#32 0#32) 1#32 64#32) k0_pay5 k0_pay6 k0_pay7 (ix2 r j) = turn y p j := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay8, k0_pay5, k0_pay6, k0_pay7]

theorem spin14_at (v c s : FVec Ideal S512x256 .f32) (y : Fin 256 → EReal) (p : EReal) (r : Fin 512) (j : Fin 256)
    (hy : ∀ i : Fin 256, v (ix2 r i) = y i) (hc : c (ix2 r j) = Ideal.cos (angle p (j.val % 32))) (hs : s (ix2 r j) = side p j.val) :
    k0_pay14 (F := Ideal) v c s k0_pay12 k0_pay13 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay14, k0_pay12, k0_pay13]

theorem spin22_at (v c s : FVec Ideal S512x256 .f32) (y : Fin 256 → EReal) (p : EReal) (r : Fin 512) (j : Fin 256)
    (hy : ∀ i : Fin 256, v (ix2 r i) = y i) (hc : c (ix2 r j) = Ideal.cos (angle p (j.val % 32))) (hs : s (ix2 r j) = side p j.val) :
    k0_pay22 (F := Ideal) v c s k0_pay19 k0_pay20 k0_pay21 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay22, k0_pay19, k0_pay20, k0_pay21]

theorem spin31_at (v c s : FVec Ideal S512x256 .f32) (y : Fin 256 → EReal) (p : EReal) (r : Fin 512) (j : Fin 256)
    (hy : ∀ i : Fin 256, v (ix2 r i) = y i) (hc : c (ix2 r j) = Ideal.cos (angle p (j.val % 32))) (hs : s (ix2 r j) = side p j.val) :
    k0_pay31 (F := Ideal) v c s (Scalar.select (Scalar.cmpi .eq 64#32 0#32) 1#32 64#32) k0_pay27 k0_pay28 k0_pay29 k0_pay30 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay31, k0_pay27, k0_pay28, k0_pay29, k0_pay30]

theorem gate_at (v : FVec Ideal S512x1024 .bf16) (w : Vec Ideal S1024x128 .bf16) (b : Vec Ideal S1x128 .f32) (r : Fin 512) (n : Fin 128) :
    k0_pay33 (F := Ideal) v w b (ix2 r n) = share ((∑ x : Fin 1024, v (ix2 r x) * w (ix2 x n)) + b (ix2 0 n)) := by
  pointwise [k0_pay33]
  exact congrArg (fun z => Ideal.div 1 (1 + Ideal.exp z)) (zero_sub_eq _)

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 16384) (k : Fin 1024) : EReal :=
  (m ((c : Thread nD τ).loc main_arg0) : Vec Ideal S4x4096x1024 .f32) (ix3 ⟨r.val / 4096, by omega⟩ ⟨r.val % 4096, by omega⟩ k)

def Gain (k : Fin 1024) : EReal := (m ((c : Thread nD τ).loc main_arg1) : Vec Ideal S1024 .f32) (ix1 k)

def Wt (d : Fin 1024) (j : Fin 2608) : EReal :=
  (m ((c : Thread nD τ).loc main_arg2) : Vec Ideal S1024x2608 .f32) (ix2 d j)

def Bias (n : Fin 48) : EReal := (m ((c : Thread nD τ).loc main_arg3) : Vec Ideal S48 .f32) (ix1 n)

/-- Lane `j` of the part of the projected row that starts at column `o`. -/
def Part (n o : ℕ) (h : o + n ≤ 2608) (r : Fin 16384) (j : Fin n) : EReal :=
  proj (X m c r) (Gain m c) (fun d => Wt m c d ⟨o + j.val, by omega⟩)

/-! ## The operands the host code prepares -/

theorem x_at (r : Fin 16384) (k : Fin 1024) : (V m c main_v30 : Vec Ideal S16384x1024 .f32) (ix2 r k) = X m c r k := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [X]

theorem gain_at (k : Fin 1024) : (V m c main_v31 : Vec Ideal S1x1024 .f32) (ix2 0 k) = Gain m c k := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Gain]

theorem w1_at (d : Fin 1024) (j : Fin 1024) : (V m c main_v1 : Vec Ideal S1024x1024 .bf16) (ix2 d j) = Wt m c d ⟨0 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w2_at (d : Fin 1024) (j : Fin 256) : (V m c main_v2 : Vec Ideal S1024x256 .bf16) (ix2 d j) = Wt m c d ⟨1024 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w3_at (d : Fin 1024) (j : Fin 256) : (V m c main_v3 : Vec Ideal S1024x256 .bf16) (ix2 d j) = Wt m c d ⟨1280 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w4_at (d : Fin 1024) (j : Fin 256) : (V m c main_v4 : Vec Ideal S1024x256 .bf16) (ix2 d j) = Wt m c d ⟨1536 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w5_at (d : Fin 1024) (j : Fin 256) : (V m c main_v5 : Vec Ideal S1024x256 .bf16) (ix2 d j) = Wt m c d ⟨1792 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w6_at (d : Fin 1024) (j : Fin 256) : (V m c main_v6 : Vec Ideal S1024x256 .bf16) (ix2 d j) = Wt m c d ⟨2048 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w7_at (d : Fin 1024) (j : Fin 256) : (V m c main_v7 : Vec Ideal S1024x256 .bf16) (ix2 d j) = Wt m c d ⟨2304 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem wg_at (d : Fin 1024) (n : Fin 128) :
    (V m c main_v9 : Vec Ideal S1024x128 .bf16) (ix2 d n) = filled (fun j => Wt m c d ⟨2560 + j.val, by omega⟩) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  rfl

theorem bias_at (n : Fin 128) : (V m c main_v32 : Vec Ideal S1x128 .f32) (ix2 0 n) = filled (Bias m c) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  rfl

theorem cos_at (p : Fin 4096) (k : Fin 128) :
    (V m c main_v26 : Vec Ideal S4096x128 .f32) (ix2 p k) = Ideal.cos (angle (pos p.val) (k.val % 32)) := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  after_reads_simp
  pointwise []
  exact cos_parts _ _

theorem sin_at (p : Fin 4096) (k : Fin 128) :
    (V m c main_v29 : Vec Ideal S4096x128 .f32) (ix2 p k) = side (pos p.val) k.val := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  after_reads_simp
  pointwise []
  exact side_parts _ _

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val % 8 ∧ win0_2.index t 1 = 0)
    ∧ (win0_3.index t 0 = (grid0.coords t 0).val % 8 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = (grid0.coords t 0).val ∧ win0_13.index t 1 = 0)
    ∧ (win0_14.index t 0 = (grid0.coords t 0).val ∧ win0_14.index t 1 = 0)
    ∧ (win0_15.index t 0 = (grid0.coords t 0).val ∧ win0_15.index t 1 = 0)
    ∧ (win0_16.index t 0 = (grid0.coords t 0).val ∧ win0_16.index t 1 = 0)
    ∧ (win0_17.index t 0 = (grid0.coords t 0).val ∧ win0_17.index t 1 = 0)
    ∧ (win0_18.index t 0 = (grid0.coords t 0).val ∧ win0_18.index t 1 = 0)
    ∧ (win0_19.index t 0 = (grid0.coords t 0).val ∧ win0_19.index t 1 = 0)
    ∧ (win0_20.index t 0 = (grid0.coords t 0).val ∧ win0_20.index t 1 = 0) :=
  (by decide +kernel : ∀ t : Fin grid0.N, _)

/-- The row block of a grid point. -/
abbrev blk (t : Fin cfg0.N) : Fin 32 := grid0.coords t 0

theorem x_block (t : Fin cfg0.N) (r : Fin 512) (j : Fin 1024) :
    (iblk m c 0 t : Vec Ideal S512x1024 .f32) (ix2 r j) = X m c ⟨512 * (blk t).val + r.val, by omega⟩ j := by
  obtain ⟨⟨h0, h1⟩, -⟩ := idx_facts t
  have e : (((cfg0.win 0).blk t).view.emb (ix2 r j) : S16384x1024.Idx) = ix2 ⟨512 * (blk t).val + r.val, by omega⟩ j := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * j.val = j.val; rw [h1]; omega
  show (V m c main_v30 : Vec Ideal S16384x1024 .f32) (((cfg0.win 0).blk t).view.emb (ix2 r j)) = _
  rw [e, x_at]

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v31 : Vec Ideal S1x1024 .f32) (((cfg0.win 1).blk t).view.emb (ix2 0 j)) = _
  rw [e, gain_at]

theorem cos_block (t : Fin cfg0.N) (r : Fin 512) (j : Fin 128) :
    (iblk m c 2 t : Vec Ideal S512x128 .f32) (ix2 r j) = Ideal.cos (angle (pos (512 * ((blk t).val % 8) + r.val)) (j.val % 32)) := by
  obtain ⟨-, -, ⟨h0, h1⟩, -⟩ := idx_facts t
  have e : (((cfg0.win 2).blk t).view.emb (ix2 r j) : S4096x128.Idx) = ix2 ⟨512 * ((blk t).val % 8) + r.val, by omega⟩ j := by
    funext a
    apply Fin.ext
    match a with
    | ⟨0, _⟩ => show win0_2.index t 0 * 512 + 1 * r.val = 512 * ((grid0.coords t 0).val % 8) + r.val; rw [h0]; omega
    | ⟨1, _⟩ => show win0_2.index t 1 * 128 + 1 * j.val = j.val; rw [h1]; omega
  show (V m c main_v26 : Vec Ideal S4096x128 .f32) (((cfg0.win 2).blk t).view.emb (ix2 r j)) = _
  rw [e, cos_at]

theorem sin_block (t : Fin cfg0.N) (r : Fin 512) (j : Fin 128) :
    (iblk m c 3 t : Vec Ideal S512x128 .f32) (ix2 r j) = side (pos (512 * ((blk t).val % 8) + r.val)) j.val := by
  obtain ⟨-, -, -, ⟨h0, h1⟩, -⟩ := idx_facts t
  have e : (((cfg0.win 3).blk t).view.emb (ix2 r j) : S4096x128.Idx) = ix2 ⟨512 * ((blk t).val % 8) + r.val, by omega⟩ j := by
    funext a
    apply Fin.ext
    match a with
    | ⟨0, _⟩ => show win0_3.index t 0 * 512 + 1 * r.val = 512 * ((grid0.coords t 0).val % 8) + r.val; rw [h0]; omega
    | ⟨1, _⟩ => show win0_3.index t 1 * 128 + 1 * j.val = j.val; rw [h1]; omega
  show (V m c main_v29 : Vec Ideal S4096x128 .f32) (((cfg0.win 3).blk t).view.emb (ix2 r j)) = _
  rw [e, sin_at]

theorem w1_block (t : Fin cfg0.N) (d : Fin 1024) (j : Fin 1024) :
    (iblk m c 4 t : Vec Ideal S1024x1024 .bf16) (ix2 d j) = Wt m c d ⟨0 + j.val, by omega⟩ := by
  obtain ⟨-, -, -, -, ⟨h0, h1⟩, -⟩ := idx_facts t
  have e : (((cfg0.win 4).blk t).view.emb (ix2 d j) : S1024x1024.Idx) = ix2 d j := by
    funext a
    apply Fin.ext
    match a with
    | ⟨0, _⟩ => show win0_4.index t 0 * 1024 + 1 * d.val = d.val; rw [h0]; omega
    | ⟨1, _⟩ => show win0_4.index t 1 * 1024 + 1 * j.val = j.val; rw [h1]; omega
  show (V m c main_v1 : Vec Ideal S1024x1024 .bf16) (((cfg0.win 4).blk t).view.emb (ix2 d j)) = _
  rw [e, w1_at]

theorem w2_block (t : Fin cfg0.N) (d : Fin 1024) (j : Fin 256) :
    (iblk m c 5 t : Vec Ideal S1024x256 .bf16) (ix2 d j) = Wt m c d ⟨1024 + j.val, by omega⟩ := by
  obtain ⟨-, -, -, -, -, ⟨h0, h1⟩, -⟩ := idx_facts t
  have e : (((cfg0.win 5).blk t).view.emb (ix2 d j) : S1024x256.Idx) = ix2 d j := by
    funext a
    apply Fin.ext
    match a with
    | ⟨0, _⟩ => show win0_5.index t 0 * 1024 + 1 * d.val = d.val; rw [h0]; omega
    | ⟨1, _⟩ => show win0_5.index t 1 * 256 + 1 * j.val = j.val; rw [h1]; omega
  show (V m c main_v2 : Vec Ideal S1024x256 .bf16) (((cfg0.win 5).blk t).view.emb (ix2 d j)) = _
  rw [e, w2_at]

theorem w3_block (t : Fin cfg0.N) (d : Fin 1024) (j : Fin 256) :
    (iblk m c 6 t : Vec Ideal S1024x256 .bf16) (ix2 d j) = Wt m c d ⟨1280 + j.val, by omega⟩ := by
  obtain ⟨-, -, -, -, -, -, ⟨h0, h1⟩, -⟩ := idx_facts t
  have e : (((cfg0.win 6).blk t).view.emb (ix2 d j) : S1024x256.Idx) = ix2 d j := by
    funext a
    apply Fin.ext
    match a with
    | ⟨0, _⟩ => show win0_6.index t 0 * 1024 + 1 * d.val = d.val; rw [h0]; omega
    | ⟨1, _⟩ => show win0_6.index t 1 * 256 + 1 * j.val = j.val; rw [h1]; omega
  show (V m c main_v3 : Vec Ideal S1024x256 .bf16) (((cfg0.win 6).blk t).view.emb (ix2 d j)) = _
  rw [e, w3_at]

theorem w4_block (t : Fin cfg0.N) (d : Fin 1024) (j : Fin 256) :
    (iblk m c 7 t : Vec Ideal S1024x256 .bf16) (ix2 d j) = Wt m c d ⟨1536 + j.val, by omega⟩ := by
  obtain ⟨-, -, -, -, -, -, -, ⟨h0, h1⟩, -⟩ := idx_facts t
  have e : (((cfg0.win 7).blk t).view.emb (ix2 d j) : S1024x256.Idx) = ix2 d j := by
    funext a
    apply Fin.ext
    match a with
    | ⟨0, _⟩ => show win0_7.index t 0 * 1024 + 1 * d.val = d.val; rw [h0]; omega
    | ⟨1, _⟩ => show win0_7.index t 1 * 256 + 1 * j.val = j.val; rw [h1]; omega
  show (V m c main_v4 : Vec Ideal S1024x256 .bf16) (((cfg0.win 7).blk t).view.emb (ix2 d j)) = _
  rw [e, w4_at]

theorem w5_block (t : Fin cfg0.N) (d : Fin 1024) (j : Fin 256) :
    (iblk m c 8 t : Vec Ideal S1024x256 .bf16) (ix2 d j) = Wt m c d ⟨1792 + j.val, by omega⟩ := by
  obtain ⟨-, -, -, -, -, -, -, -, ⟨h0, h1⟩, -⟩ := idx_facts t
  have e : (((cfg0.win 8).blk t).view.emb (ix2 d j) : S1024x256.Idx) = ix2 d j := by
    funext a
    apply Fin.ext
    match a with
    | ⟨0, _⟩ => show win0_8.index t 0 * 1024 + 1 * d.val = d.val; rw [h0]; omega
    | ⟨1, _⟩ => show win0_8.index t 1 * 256 + 1 * j.val = j.val; rw [h1]; omega
  show (V m c main_v5 : Vec Ideal S1024x256 .bf16) (((cfg0.win 8).blk t).view.emb (ix2 d j)) = _
  rw [e, w5_at]

theorem w6_block (t : Fin cfg0.N) (d : Fin 1024) (j : Fin 256) :
    (iblk m c 9 t : Vec Ideal S1024x256 .bf16) (ix2 d j) = Wt m c d ⟨2048 + j.val, by omega⟩ := by
  obtain ⟨-, -, -, -, -, -, -, -, -, ⟨h0, h1⟩, -⟩ := idx_facts t
  have e : (((cfg0.win 9).blk t).view.emb (ix2 d j) : S1024x256.Idx) = ix2 d j := by
    funext a
    apply Fin.ext
    match a with
    | ⟨0, _⟩ => show win0_9.index t 0 * 1024 + 1 * d.val = d.val; rw [h0]; omega
    | ⟨1, _⟩ => show win0_9.index t 1 * 256 + 1 * j.val = j.val; rw [h1]; omega
  show (V m c main_v6 : Vec Ideal S1024x256 .bf16) (((cfg0.win 9).blk t).view.emb (ix2 d j)) = _
  rw [e, w6_at]

theorem w7_block (t : Fin cfg0.N) (d : Fin 1024) (j : Fin 256) :
    (iblk m c 10 t : Vec Ideal S1024x256 .bf16) (ix2 d j) = Wt m c d ⟨2304 + j.val, by omega⟩ := by
  obtain ⟨-, -, -, -, -, -, -, -, -, -, ⟨h0, h1⟩, -⟩ := idx_facts t
  have e : (((cfg0.win 10).blk t).view.emb (ix2 d j) : S1024x256.Idx) = ix2 d j := by
    funext a
    apply Fin.ext
    match a with
    | ⟨0, _⟩ => show win0_10.index t 0 * 1024 + 1 * d.val = d.val; rw [h0]; omega
    | ⟨1, _⟩ => show win0_10.index t 1 * 256 + 1 * j.val = j.val; rw [h1]; omega
  show (V m c main_v7 : Vec Ideal S1024x256 .bf16) (((cfg0.win 10).blk t).view.emb (ix2 d j)) = _
  rw [e, w7_at]

theorem wg_block (t : Fin cfg0.N) (d : Fin 1024) (j : Fin 128) :
    (iblk m c 11 t : Vec Ideal S1024x128 .bf16) (ix2 d j) = filled (fun i => Wt m c d ⟨2560 + i.val, by omega⟩) j := by
  obtain ⟨-, -, -, -, -, -, -, -, -, -, -, ⟨h0, h1⟩, -⟩ := idx_facts t
  have e : (((cfg0.win 11).blk t).view.emb (ix2 d j) : S1024x128.Idx) = ix2 d j := by
    funext a
    apply Fin.ext
    match a with
    | ⟨0, _⟩ => show win0_11.index t 0 * 1024 + 1 * d.val = d.val; rw [h0]; omega
    | ⟨1, _⟩ => show win0_11.index t 1 * 128 + 1 * j.val = j.val; rw [h1]; omega
  show (V m c main_v9 : Vec Ideal S1024x128 .bf16) (((cfg0.win 11).blk t).view.emb (ix2 d j)) = _
  rw [e, wg_at]

theorem bias_block (t : Fin cfg0.N) (j : Fin 128) :
    (iblk m c 12 t : Vec Ideal S1x128 .f32) (ix2 0 j) = filled (Bias m c) j := by
  obtain ⟨-, -, -, -, -, -, -, -, -, -, -, -, ⟨h0, h1⟩, -⟩ := idx_facts t
  have e : (((cfg0.win 12).blk t).view.emb (ix2 0 j) : S1x128.Idx) = ix2 0 j := by
    funext a
    apply Fin.ext
    match a with
    | ⟨0, _⟩ => show win0_12.index t 0 * 1 + 1 * 0 = 0; rw [h0]
    | ⟨1, _⟩ => show win0_12.index t 1 * 128 + 1 * j.val = j.val; rw [h1]; omega
  show (V m c main_v32 : Vec Ideal S1x128 .f32) (((cfg0.win 12).blk t).view.emb (ix2 0 j)) = _
  rw [e, bias_at]

theorem point_of : ∀ b : Fin 32, ∃ t : Fin cfg0.N, (grid0.coords t 0).val = b.val :=
  (by decide +kernel : ∀ b : Fin 32, ∃ t : Fin grid0.N, _)

/-! ## The stored blocks and the arrays -/

/-- What result 0 is to hold. -/
def G13 : Vec Ideal S16384x1024 .f32 := fun i => turn (Part m c 1024 0 (by decide) (i 0)) (pos ((i 0).val % 4096)) (i 1)

theorem o_emb13 (t : Fin cfg0.N) (r : Fin 512) (j : Fin 1024) :
    (((cfg0.win 13).blk t).view.emb (ix2 r j) : S16384x1024.Idx) = ix2 ⟨512 * (blk t).val + r.val, by omega⟩ j := by
  obtain ⟨-, -, -, -, -, -, -, -, -, -, -, -, -, ⟨h0, h1⟩, -⟩ := idx_facts t
  funext a
  apply Fin.ext
  match a with
  | ⟨0, _⟩ => show win0_13.index t 0 * 512 + 1 * r.val = 512 * (grid0.coords t 0).val + r.val; rw [h0]; omega
  | ⟨1, _⟩ => show win0_13.index t 1 * 1024 + 1 * j.val = j.val; rw [h1]; omega

theorem out_at13 (t : Fin cfg0.N) (r : Fin 512) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G13 m c (ix2 ⟨512 * (blk t).val + r.val, by omega⟩ j) := by
  unfold_out out0_13
  rw [View.canon_unit_zero hz, View.ld_unit_zero hz, View.ld_unit_zero hz, View.ld_unit_zero hz, View.ld_unit_zero hz, View.ld_unit_zero hz]
  refine Eq.trans (spin8_at _ _ _ (Part m c 1024 0 (by decide) ⟨512 * (blk t).val + r.val, by omega⟩) (pos (512 * ((blk t).val % 8) + r.val)) r j (fun i => ?_) ?_ ?_) ?_
  · exact (mm2_at _ _ _ r i).trans (proj_row _ _ (fun d i => (iblk m c 4 t : Vec Ideal S1024x1024 .bf16) (ix2 d i)) _ _ _ r i
      (x_block m c t r) (g_block m c t) (fun d => w1_block m c t d i))
  · refine (tab3_at _ r j).trans ((cos_block m c t r _).trans ?_)
    exact congrArg (fun l => Ideal.cos (angle _ l)) (by show j.val % 128 % 32 = j.val % 32; omega)
  · exact (tab4_at _ r j).trans ((sin_block m c t r _).trans (side_mod _ _))
  exact congrArg (fun q => turn (Part m c 1024 0 (by decide) ⟨512 * (blk t).val + r.val, by omega⟩) (pos q) j) (by show _ = (512 * (blk t).val + r.val) % 4096; omega)

theorem stored_eq13 (t : Fin cfg0.N) (j : S512x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G13 m c (((cfg0.win 13).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G13 m c) (o_emb13 t r d)).symm
  exact out_at13 m c t r d

theorem flushed_eq13 (t : Fin cfg0.N) (_ : (cfg0.win 13).flush t = true) :
    (dats m 0 c).flushed 13 t = ((cfg0.win 13).blk t).view.read (Elt Ideal) (G13 m c) := by
  rw [Value.flushed13]
  funext j
  rw [View.read_apply]
  exact stored_eq13 m c t j

theorem covered13 (i : S16384x1024.Idx) :
    ∃ t : Fin cfg0.N, (cfg0.win 13).flush t = true ∧ i ∈ ((cfg0.win 13).blk t).view.set := by
  have h0 : (i 0).val < 16384 := (i 0).isLt
  obtain ⟨t, hb⟩ := point_of ⟨(i 0).val / 512, by omega⟩
  refine ⟨t, flush0_13 t, ?_⟩
  have e := o_emb13 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 13).blk t).view.emb_mem_set _

theorem final13 : (dats m 0 c).arrAt 13 cfg0.N = G13 m c :=
  (dats m 0 c).arrAt_eq_of_cover 13 (G13 m c) (flushed_eq13 m c) covered13

/-- What result 1 is to hold. -/
def G14 : Vec Ideal S16384x256 .f32 := fun i => turn (Part m c 256 1024 (by decide) (i 0)) (pos ((i 0).val % 4096)) (i 1)

theorem o_emb14 (t : Fin cfg0.N) (r : Fin 512) (j : Fin 256) :
    (((cfg0.win 14).blk t).view.emb (ix2 r j) : S16384x256.Idx) = ix2 ⟨512 * (blk t).val + r.val, by omega⟩ j := by
  obtain ⟨-, -, -, -, -, -, -, -, -, -, -, -, -, -, ⟨h0, h1⟩, -⟩ := idx_facts t
  funext a
  apply Fin.ext
  match a with
  | ⟨0, _⟩ => show win0_14.index t 0 * 512 + 1 * r.val = 512 * (grid0.coords t 0).val + r.val; rw [h0]; omega
  | ⟨1, _⟩ => show win0_14.index t 1 * 256 + 1 * j.val = j.val; rw [h1]; omega

theorem out_at14 (t : Fin cfg0.N) (r : Fin 512) (j : Fin 256) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G14 m c (ix2 ⟨512 * (blk t).val + r.val, by omega⟩ j) := by
  unfold_out out0_14
  rw [View.canon_unit_zero hz, View.ld_unit_zero hz, View.ld_unit_zero hz, View.ld_unit_zero hz, View.ld_unit_zero hz, View.ld_unit_zero hz]
  refine Eq.trans (spin14_at _ _ _ (Part m c 256 1024 (by decide) ⟨512 * (blk t).val + r.val, by omega⟩) (pos (512 * ((blk t).val % 8) + r.val)) r j (fun i => ?_) ?_ ?_) ?_
  · exact (mm9_at _ _ r i).trans (proj_row _ _ (fun d i => (iblk m c 5 t : Vec Ideal S1024x256 .bf16) (ix2 d i)) _ _ _ r i
      (x_block m c t r) (g_block m c t) (fun d => w2_block m c t d i))
  · refine (tab10_at _ r j).trans ((cos_block m c t r _).trans ?_)
    exact congrArg (fun l => Ideal.cos (angle _ l)) (by show j.val % 128 % 32 = j.val % 32; omega)
  · exact (tab11_at _ r j).trans ((sin_block m c t r _).trans (side_mod _ _))
  exact congrArg (fun q => turn (Part m c 256 1024 (by decide) ⟨512 * (blk t).val + r.val, by omega⟩) (pos q) j) (by show _ = (512 * (blk t).val + r.val) % 4096; omega)

theorem stored_eq14 (t : Fin cfg0.N) (j : S512x256.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G14 m c (((cfg0.win 14).blk t).view.emb j) := by
  have hj : j = ix2 (j 0) (j 1) := by
    funext a
    match a with
    | ⟨0, _⟩ => rfl
    | ⟨1, _⟩ => rfl
  generalize (j 0 : Fin 512) = r at hj
  generalize (j 1 : Fin 256) = d at hj
  subst hj
  refine Eq.trans ?_ (congrArg (G14 m c) (o_emb14 t r d)).symm
  exact out_at14 m c t r d

theorem flushed_eq14 (t : Fin cfg0.N) (_ : (cfg0.win 14).flush t = true) :
    (dats m 0 c).flushed 14 t = ((cfg0.win 14).blk t).view.read (Elt Ideal) (G14 m c) := by
  rw [Value.flushed14]
  funext j
  rw [View.read_apply]
  exact stored_eq14 m c t j

theorem covered14 (i : S16384x256.Idx) :
    ∃ t : Fin cfg0.N, (cfg0.win 14).flush t = true ∧ i ∈ ((cfg0.win 14).blk t).view.set := by
  have h0 : (i 0).val < 16384 := (i 0).isLt
  obtain ⟨t, hb⟩ := point_of ⟨(i 0).val / 512, by omega⟩
  refine ⟨t, flush0_14 t, ?_⟩
  have e := o_emb14 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 14).blk t).view.emb_mem_set _

theorem final14 : (dats m 0 c).arrAt 14 cfg0.N = G14 m c :=
  (dats m 0 c).arrAt_eq_of_cover 14 (G14 m c) (flushed_eq14 m c) covered14

/-- What result 2 is to hold. -/
def G15 : Vec Ideal S16384x256 .f32 := fun i => Part m c 256 1280 (by decide) (i 0) (i 1)

theorem o_emb15 (t : Fin cfg0.N) (r : Fin 512) (j : Fin 256) :
    (((cfg0.win 15).blk t).view.emb (ix2 r j) : S16384x256.Idx) = ix2 ⟨512 * (blk t).val + r.val, by omega⟩ j := by
  obtain ⟨-, -, -, -, -, -, -, -, -, -, -, -, -, -, -, ⟨h0, h1⟩, -⟩ := idx_facts t
  funext a
  apply Fin.ext
  match a with
  | ⟨0, _⟩ => show win0_15.index t 0 * 512 + 1 * r.val = 512 * (grid0.coords t 0).val + r.val; rw [h0]; omega
  | ⟨1, _⟩ => show win0_15.index t 1 * 256 + 1 * j.val = j.val; rw [h1]; omega

theorem out_at15 (t : Fin cfg0.N) (r : Fin 512) (j : Fin 256) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G15 m c (ix2 ⟨512 * (blk t).val + r.val, by omega⟩ j) := by
  unfold_out out0_15
  rw [View.canon_unit_zero hz, View.ld_unit_zero hz, View.ld_unit_zero hz, View.ld_unit_zero hz]
  refine (mm15_at _ _ r j).trans ?_
  exact proj_row _ _ (fun d i => (iblk m c 6 t : Vec Ideal S1024x256 .bf16) (ix2 d i)) _ _ _ r j
    (x_block m c t r) (g_block m c t) (fun d => w3_block m c t d j)

theorem stored_eq15 (t : Fin cfg0.N) (j : S512x256.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G15 m c (((cfg0.win 15).blk t).view.emb j) := by
  have hj : j = ix2 (j 0) (j 1) := by
    funext a
    match a with
    | ⟨0, _⟩ => rfl
    | ⟨1, _⟩ => rfl
  generalize (j 0 : Fin 512) = r at hj
  generalize (j 1 : Fin 256) = d at hj
  subst hj
  refine Eq.trans ?_ (congrArg (G15 m c) (o_emb15 t r d)).symm
  exact out_at15 m c t r d

theorem flushed_eq15 (t : Fin cfg0.N) (_ : (cfg0.win 15).flush t = true) :
    (dats m 0 c).flushed 15 t = ((cfg0.win 15).blk t).view.read (Elt Ideal) (G15 m c) := by
  rw [Value.flushed15]
  funext j
  rw [View.read_apply]
  exact stored_eq15 m c t j

theorem covered15 (i : S16384x256.Idx) :
    ∃ t : Fin cfg0.N, (cfg0.win 15).flush t = true ∧ i ∈ ((cfg0.win 15).blk t).view.set := by
  have h0 : (i 0).val < 16384 := (i 0).isLt
  obtain ⟨t, hb⟩ := point_of ⟨(i 0).val / 512, by omega⟩
  refine ⟨t, flush0_15 t, ?_⟩
  have e := o_emb15 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 15).blk t).view.emb_mem_set _

theorem final15 : (dats m 0 c).arrAt 15 cfg0.N = G15 m c :=
  (dats m 0 c).arrAt_eq_of_cover 15 (G15 m c) (flushed_eq15 m c) covered15

/-- What result 3 is to hold. -/
def G16 : Vec Ideal S16384x256 .f32 := fun i => turn (Part m c 256 1536 (by decide) (i 0)) (pos ((i 0).val % 4096)) (i 1)

theorem o_emb16 (t : Fin cfg0.N) (r : Fin 512) (j : Fin 256) :
    (((cfg0.win 16).blk t).view.emb (ix2 r j) : S16384x256.Idx) = ix2 ⟨512 * (blk t).val + r.val, by omega⟩ j := by
  obtain ⟨-, -, -, -, -, -, -, -, -, -, -, -, -, -, -, -, ⟨h0, h1⟩, -⟩ := idx_facts t
  funext a
  apply Fin.ext
  match a with
  | ⟨0, _⟩ => show win0_16.index t 0 * 512 + 1 * r.val = 512 * (grid0.coords t 0).val + r.val; rw [h0]; omega
  | ⟨1, _⟩ => show win0_16.index t 1 * 256 + 1 * j.val = j.val; rw [h1]; omega

theorem out_at16 (t : Fin cfg0.N) (r : Fin 512) (j : Fin 256) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G16 m c (ix2 ⟨512 * (blk t).val + r.val, by omega⟩ j) := by
  unfold_out out0_16
  rw [View.canon_unit_zero hz, View.ld_unit_zero hz, View.ld_unit_zero hz, View.ld_unit_zero hz, View.ld_unit_zero hz, View.ld_unit_zero hz]
  refine Eq.trans (spin22_at _ _ _ (Part m c 256 1536 (by decide) ⟨512 * (blk t).val + r.val, by omega⟩) (pos (512 * ((blk t).val % 8) + r.val)) r j (fun i => ?_) ?_ ?_) ?_
  · exact (mm16_at _ _ r i).trans (proj_row _ _ (fun d i => (iblk m c 7 t : Vec Ideal S1024x256 .bf16) (ix2 d i)) _ _ _ r i
      (x_block m c t r) (g_block m c t) (fun d => w4_block m c t d i))
  · refine (tab17_at _ r j).trans ((cos_block m c t r _).trans ?_)
    exact congrArg (fun l => Ideal.cos (angle _ l)) (by show j.val % 128 % 32 = j.val % 32; omega)
  · exact (tab18_at _ r j).trans ((sin_block m c t r _).trans (side_mod _ _))
  exact congrArg (fun q => turn (Part m c 256 1536 (by decide) ⟨512 * (blk t).val + r.val, by omega⟩) (pos q) j) (by show _ = (512 * (blk t).val + r.val) % 4096; omega)

theorem stored_eq16 (t : Fin cfg0.N) (j : S512x256.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G16 m c (((cfg0.win 16).blk t).view.emb j) := by
  have hj : j = ix2 (j 0) (j 1) := by
    funext a
    match a with
    | ⟨0, _⟩ => rfl
    | ⟨1, _⟩ => rfl
  generalize (j 0 : Fin 512) = r at hj
  generalize (j 1 : Fin 256) = d at hj
  subst hj
  refine Eq.trans ?_ (congrArg (G16 m c) (o_emb16 t r d)).symm
  exact out_at16 m c t r d

theorem flushed_eq16 (t : Fin cfg0.N) (_ : (cfg0.win 16).flush t = true) :
    (dats m 0 c).flushed 16 t = ((cfg0.win 16).blk t).view.read (Elt Ideal) (G16 m c) := by
  rw [Value.flushed16]
  funext j
  rw [View.read_apply]
  exact stored_eq16 m c t j

theorem covered16 (i : S16384x256.Idx) :
    ∃ t : Fin cfg0.N, (cfg0.win 16).flush t = true ∧ i ∈ ((cfg0.win 16).blk t).view.set := by
  have h0 : (i 0).val < 16384 := (i 0).isLt
  obtain ⟨t, hb⟩ := point_of ⟨(i 0).val / 512, by omega⟩
  refine ⟨t, flush0_16 t, ?_⟩
  have e := o_emb16 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 16).blk t).view.emb_mem_set _

theorem final16 : (dats m 0 c).arrAt 16 cfg0.N = G16 m c :=
  (dats m 0 c).arrAt_eq_of_cover 16 (G16 m c) (flushed_eq16 m c) covered16

/-- What result 4 is to hold. -/
def G17 : Vec Ideal S16384x256 .f32 := fun i => Part m c 256 1792 (by decide) (i 0) (i 1)

theorem o_emb17 (t : Fin cfg0.N) (r : Fin 512) (j : Fin 256) :
    (((cfg0.win 17).blk t).view.emb (ix2 r j) : S16384x256.Idx) = ix2 ⟨512 * (blk t).val + r.val, by omega⟩ j := by
  obtain ⟨-, -, -, -, -, -, -, -, -, -, -, -, -, -, -, -, -, ⟨h0, h1⟩, -⟩ := idx_facts t
  funext a
  apply Fin.ext
  match a with
  | ⟨0, _⟩ => show win0_17.index t 0 * 512 + 1 * r.val = 512 * (grid0.coords t 0).val + r.val; rw [h0]; omega
  | ⟨1, _⟩ => show win0_17.index t 1 * 256 + 1 * j.val = j.val; rw [h1]; omega

theorem out_at17 (t : Fin cfg0.N) (r : Fin 512) (j : Fin 256) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G17 m c (ix2 ⟨512 * (blk t).val + r.val, by omega⟩ j) := by
  unfold_out out0_17
  rw [View.canon_unit_zero hz, View.ld_unit_zero hz, View.ld_unit_zero hz, View.ld_unit_zero hz]
  refine (mm23_at _ _ r j).trans ?_
  exact proj_row _ _ (fun d i => (iblk m c 8 t : Vec Ideal S1024x256 .bf16) (ix2 d i)) _ _ _ r j
    (x_block m c t r) (g_block m c t) (fun d => w5_block m c t d j)

theorem stored_eq17 (t : Fin cfg0.N) (j : S512x256.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G17 m c (((cfg0.win 17).blk t).view.emb j) := by
  have hj : j = ix2 (j 0) (j 1) := by
    funext a
    match a with
    | ⟨0, _⟩ => rfl
    | ⟨1, _⟩ => rfl
  generalize (j 0 : Fin 512) = r at hj
  generalize (j 1 : Fin 256) = d at hj
  subst hj
  refine Eq.trans ?_ (congrArg (G17 m c) (o_emb17 t r d)).symm
  exact out_at17 m c t r d

theorem flushed_eq17 (t : Fin cfg0.N) (_ : (cfg0.win 17).flush t = true) :
    (dats m 0 c).flushed 17 t = ((cfg0.win 17).blk t).view.read (Elt Ideal) (G17 m c) := by
  rw [Value.flushed17]
  funext j
  rw [View.read_apply]
  exact stored_eq17 m c t j

theorem covered17 (i : S16384x256.Idx) :
    ∃ t : Fin cfg0.N, (cfg0.win 17).flush t = true ∧ i ∈ ((cfg0.win 17).blk t).view.set := by
  have h0 : (i 0).val < 16384 := (i 0).isLt
  obtain ⟨t, hb⟩ := point_of ⟨(i 0).val / 512, by omega⟩
  refine ⟨t, flush0_17 t, ?_⟩
  have e := o_emb17 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 17).blk t).view.emb_mem_set _

theorem final17 : (dats m 0 c).arrAt 17 cfg0.N = G17 m c :=
  (dats m 0 c).arrAt_eq_of_cover 17 (G17 m c) (flushed_eq17 m c) covered17

/-- What result 5 is to hold. -/
def G18 : Vec Ideal S16384x256 .f32 := fun i => turn (Part m c 256 2048 (by decide) (i 0)) (pos ((i 0).val % 4096)) (i 1)

theorem o_emb18 (t : Fin cfg0.N) (r : Fin 512) (j : Fin 256) :
    (((cfg0.win 18).blk t).view.emb (ix2 r j) : S16384x256.Idx) = ix2 ⟨512 * (blk t).val + r.val, by omega⟩ j := by
  obtain ⟨-, -, -, -, -, -, -, -, -, -, -, -, -, -, -, -, -, -, ⟨h0, h1⟩, -⟩ := idx_facts t
  funext a
  apply Fin.ext
  match a with
  | ⟨0, _⟩ => show win0_18.index t 0 * 512 + 1 * r.val = 512 * (grid0.coords t 0).val + r.val; rw [h0]; omega
  | ⟨1, _⟩ => show win0_18.index t 1 * 256 + 1 * j.val = j.val; rw [h1]; omega

theorem out_at18 (t : Fin cfg0.N) (r : Fin 512) (j : Fin 256) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G18 m c (ix2 ⟨512 * (blk t).val + r.val, by omega⟩ j) := by
  unfold_out out0_18
  rw [View.canon_unit_zero hz, View.ld_unit_zero hz, View.ld_unit_zero hz, View.ld_unit_zero hz, View.ld_unit_zero hz, View.ld_unit_zero hz]
  refine Eq.trans (spin31_at _ _ _ (Part m c 256 2048 (by decide) ⟨512 * (blk t).val + r.val, by omega⟩) (pos (512 * ((blk t).val % 8) + r.val)) r j (fun i => ?_) ?_ ?_) ?_
  · exact (mm24_at _ _ r i).trans (proj_row _ _ (fun d i => (iblk m c 9 t : Vec Ideal S1024x256 .bf16) (ix2 d i)) _ _ _ r i
      (x_block m c t r) (g_block m c t) (fun d => w6_block m c t d i))
  · refine (tab25_at _ r j).trans ((cos_block m c t r _).trans ?_)
    exact congrArg (fun l => Ideal.cos (angle _ l)) (by show j.val % 128 % 32 = j.val % 32; omega)
  · exact (tab26_at _ r j).trans ((sin_block m c t r _).trans (side_mod _ _))
  exact congrArg (fun q => turn (Part m c 256 2048 (by decide) ⟨512 * (blk t).val + r.val, by omega⟩) (pos q) j) (by show _ = (512 * (blk t).val + r.val) % 4096; omega)

theorem stored_eq18 (t : Fin cfg0.N) (j : S512x256.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G18 m c (((cfg0.win 18).blk t).view.emb j) := by
  have hj : j = ix2 (j 0) (j 1) := by
    funext a
    match a with
    | ⟨0, _⟩ => rfl
    | ⟨1, _⟩ => rfl
  generalize (j 0 : Fin 512) = r at hj
  generalize (j 1 : Fin 256) = d at hj
  subst hj
  refine Eq.trans ?_ (congrArg (G18 m c) (o_emb18 t r d)).symm
  exact out_at18 m c t r d

theorem flushed_eq18 (t : Fin cfg0.N) (_ : (cfg0.win 18).flush t = true) :
    (dats m 0 c).flushed 18 t = ((cfg0.win 18).blk t).view.read (Elt Ideal) (G18 m c) := by
  rw [Value.flushed18]
  funext j
  rw [View.read_apply]
  exact stored_eq18 m c t j

theorem covered18 (i : S16384x256.Idx) :
    ∃ t : Fin cfg0.N, (cfg0.win 18).flush t = true ∧ i ∈ ((cfg0.win 18).blk t).view.set := by
  have h0 : (i 0).val < 16384 := (i 0).isLt
  obtain ⟨t, hb⟩ := point_of ⟨(i 0).val / 512, by omega⟩
  refine ⟨t, flush0_18 t, ?_⟩
  have e := o_emb18 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 18).blk t).view.emb_mem_set _

theorem final18 : (dats m 0 c).arrAt 18 cfg0.N = G18 m c :=
  (dats m 0 c).arrAt_eq_of_cover 18 (G18 m c) (flushed_eq18 m c) covered18

/-- What result 6 is to hold. -/
def G19 : Vec Ideal S16384x256 .f32 := fun i => Part m c 256 2304 (by decide) (i 0) (i 1)

theorem o_emb19 (t : Fin cfg0.N) (r : Fin 512) (j : Fin 256) :
    (((cfg0.win 19).blk t).view.emb (ix2 r j) : S16384x256.Idx) = ix2 ⟨512 * (blk t).val + r.val, by omega⟩ j := by
  obtain ⟨-, -, -, -, -, -, -, -, -, -, -, -, -, -, -, -, -, -, -, ⟨h0, h1⟩, -⟩ := idx_facts t
  funext a
  apply Fin.ext
  match a with
  | ⟨0, _⟩ => show win0_19.index t 0 * 512 + 1 * r.val = 512 * (grid0.coords t 0).val + r.val; rw [h0]; omega
  | ⟨1, _⟩ => show win0_19.index t 1 * 256 + 1 * j.val = j.val; rw [h1]; omega

theorem out_at19 (t : Fin cfg0.N) (r : Fin 512) (j : Fin 256) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G19 m c (ix2 ⟨512 * (blk t).val + r.val, by omega⟩ j) := by
  unfold_out out0_19
  rw [View.canon_unit_zero hz, View.ld_unit_zero hz, View.ld_unit_zero hz, View.ld_unit_zero hz]
  refine (mm32_at _ _ r j).trans ?_
  exact proj_row _ _ (fun d i => (iblk m c 10 t : Vec Ideal S1024x256 .bf16) (ix2 d i)) _ _ _ r j
    (x_block m c t r) (g_block m c t) (fun d => w7_block m c t d j)

theorem stored_eq19 (t : Fin cfg0.N) (j : S512x256.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G19 m c (((cfg0.win 19).blk t).view.emb j) := by
  have hj : j = ix2 (j 0) (j 1) := by
    funext a
    match a with
    | ⟨0, _⟩ => rfl
    | ⟨1, _⟩ => rfl
  generalize (j 0 : Fin 512) = r at hj
  generalize (j 1 : Fin 256) = d at hj
  subst hj
  refine Eq.trans ?_ (congrArg (G19 m c) (o_emb19 t r d)).symm
  exact out_at19 m c t r d

theorem flushed_eq19 (t : Fin cfg0.N) (_ : (cfg0.win 19).flush t = true) :
    (dats m 0 c).flushed 19 t = ((cfg0.win 19).blk t).view.read (Elt Ideal) (G19 m c) := by
  rw [Value.flushed19]
  funext j
  rw [View.read_apply]
  exact stored_eq19 m c t j

theorem covered19 (i : S16384x256.Idx) :
    ∃ t : Fin cfg0.N, (cfg0.win 19).flush t = true ∧ i ∈ ((cfg0.win 19).blk t).view.set := by
  have h0 : (i 0).val < 16384 := (i 0).isLt
  obtain ⟨t, hb⟩ := point_of ⟨(i 0).val / 512, by omega⟩
  refine ⟨t, flush0_19 t, ?_⟩
  have e := o_emb19 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 19).blk t).view.emb_mem_set _

theorem final19 : (dats m 0 c).arrAt 19 cfg0.N = G19 m c :=
  (dats m 0 c).arrAt_eq_of_cover 19 (G19 m c) (flushed_eq19 m c) covered19

/-- What result 7 is to hold. -/
def G20 : Vec Ideal S16384x128 .f32 := fun i => share (proj (X m c (i 0)) (Gain m c) (fun d => filled (fun k => Wt m c d ⟨2560 + k.val, by omega⟩) (i 1)) + filled (Bias m c) (i 1))

theorem o_emb20 (t : Fin cfg0.N) (r : Fin 512) (j : Fin 128) :
    (((cfg0.win 20).blk t).view.emb (ix2 r j) : S16384x128.Idx) = ix2 ⟨512 * (blk t).val + r.val, by omega⟩ j := by
  obtain ⟨-, -, -, -, -, -, -, -, -, -, -, -, -, -, -, -, -, -, -, -, ⟨h0, h1⟩⟩ := idx_facts t
  funext a
  apply Fin.ext
  match a with
  | ⟨0, _⟩ => show win0_20.index t 0 * 512 + 1 * r.val = 512 * (grid0.coords t 0).val + r.val; rw [h0]; omega
  | ⟨1, _⟩ => show win0_20.index t 1 * 128 + 1 * j.val = j.val; rw [h1]; omega

theorem out_at20 (t : Fin cfg0.N) (r : Fin 512) (j : Fin 128) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G20 m c (ix2 ⟨512 * (blk t).val + r.val, by omega⟩ j) := by
  unfold_out out0_20
  rw [View.canon_unit_zero hz, View.ld_unit_zero hz, View.ld_unit_zero hz, View.ld_unit_zero hz, View.ld_unit_zero hz]
  refine (gate_at _ _ _ r j).trans ?_
  refine congrArg share (congrArg₂ (· + ·) ?_ (bias_block m c t j))
  exact proj_row _ _ (fun d i => (iblk m c 11 t : Vec Ideal S1024x128 .bf16) (ix2 d i)) _ _ _ r j
    (x_block m c t r) (g_block m c t) (fun d => wg_block m c t d j)

theorem stored_eq20 (t : Fin cfg0.N) (j : S512x128.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G20 m c (((cfg0.win 20).blk t).view.emb j) := by
  have hj : j = ix2 (j 0) (j 1) := by
    funext a
    match a with
    | ⟨0, _⟩ => rfl
    | ⟨1, _⟩ => rfl
  generalize (j 0 : Fin 512) = r at hj
  generalize (j 1 : Fin 128) = d at hj
  subst hj
  refine Eq.trans ?_ (congrArg (G20 m c) (o_emb20 t r d)).symm
  exact out_at20 m c t r d

theorem flushed_eq20 (t : Fin cfg0.N) (_ : (cfg0.win 20).flush t = true) :
    (dats m 0 c).flushed 20 t = ((cfg0.win 20).blk t).view.read (Elt Ideal) (G20 m c) := by
  rw [Value.flushed20]
  funext j
  rw [View.read_apply]
  exact stored_eq20 m c t j

theorem covered20 (i : S16384x128.Idx) :
    ∃ t : Fin cfg0.N, (cfg0.win 20).flush t = true ∧ i ∈ ((cfg0.win 20).blk t).view.set := by
  have h0 : (i 0).val < 16384 := (i 0).isLt
  obtain ⟨t, hb⟩ := point_of ⟨(i 0).val / 512, by omega⟩
  refine ⟨t, flush0_20 t, ?_⟩
  have e := o_emb20 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 20).blk t).view.emb_mem_set _

theorem final20 : (dats m 0 c).arrAt 20 cfg0.N = G20 m c :=
  (dats m 0 c).arrAt_eq_of_cover 20 (G20 m c) (flushed_eq20 m c) covered20

/-- The kernel's run: queries, keys and values of the three branches, gates, and the arguments as they were. -/
theorem run : θ_run defs (onTc (τ := τ) (main (F := Ideal))) ⟨m, fun _ => 0, ρ⟩ fun r => ∀ c : Dev nD,
      r.2.mem ((c : Thread nD τ).loc main_v33_0) = G13 m c
      ∧ r.2.mem ((c : Thread nD τ).loc main_v33_1) = G14 m c
      ∧ r.2.mem ((c : Thread nD τ).loc main_v33_2) = G15 m c
      ∧ r.2.mem ((c : Thread nD τ).loc main_v33_3) = G16 m c
      ∧ r.2.mem ((c : Thread nD τ).loc main_v33_4) = G17 m c
      ∧ r.2.mem ((c : Thread nD τ).loc main_v33_5) = G18 m c
      ∧ r.2.mem ((c : Thread nD τ).loc main_v33_6) = G19 m c
      ∧ r.2.mem ((c : Thread nD τ).loc main_v33_7) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final13 m c), (h c).2.1.trans (final14 m c), (h c).2.2.1.trans (final15 m c), (h c).2.2.2.1.trans (final16 m c), (h c).2.2.2.2.1.trans (final17 m c), (h c).2.2.2.2.2.1.trans (final18 m c), (h c).2.2.2.2.2.2.1.trans (final19 m c), (h c).2.2.2.2.2.2.2.1.trans (final20 m c), (h c).2.2.2.2.2.2.2.2⟩) (Value.run_blocks m ρ)

end Cert.NsaIdeal.Array

end
-- ==== Proof.NsaReference.lean ====
/- The reference's projection into the sparse attention on the prompt, read at an index. -/
module

public import proofs.«01_k».proof.Proof.Gen.NsaRefIdeal.Read
public import proofs.«01_k».proof.Proof.Rows
public import proofs.«01_k».proof.Proof.Rope
public import proofs.«01_k».proof.Proof.Share
public import Idealize.ShloMosaic.Lib.Pointwise

@[expose] public section

set_option maxRecDepth 16384

noncomputable section

namespace Cert.NsaRefIdeal.Reference

open Idealize.ShloMosaic Idealize.ShloMosaic.TcCoe Idealize.ShloMosaic.Tactic
open Idealize.SL Idealize.SL.Sem
open Cert.NsaRefIdeal Cert.NsaRefIdeal.Gen Cert.NsaRefIdeal.Read Cert.Rows Cert.Rope Cert.Share

variable (x0 : Vec Ideal S4x4096x1024 .f32) (x1 : Vec Ideal S1024 .f32) (x2 : Vec Ideal S1024x2608 .f32) (x3 : Vec Ideal S48 .f32)

theorem norm_at (b : Fin 4) (p : Fin 4096) (d : Fin 1024) :
    val_main_v12 (F := Ideal) x0 x1 (ix3 b p d) = unit (fun k => x0 (ix3 b p k)) (fun k => x1 (ix1 k)) d := by
  pointwise [val_main_v12, val_main_v9, val_main_v11, val_main_v8, val_main_v10, val_main_v7, val_main_v6, val_main_v4, val_main_v5, val_main_v2, val_main_v3, val_main_cst_1, val_main_v1, val_main_cst_0, val_main_v0, val_main_cst]
  rfl

/-- A normed row against column `i` of the weights. -/
def col (b : Fin 4) (p : Fin 4096) (i : Fin 2608) : EReal :=
  proj (fun k => x0 (ix3 b p k)) (fun k => x1 (ix1 k)) (fun d => x2 (ix2 d i))

theorem column (b : Fin 4) (p : Fin 4096) (i : Fin 2560) (j : Fin 2608) (h : i.val = j.val) :
    val_main_v15 (F := Ideal) x0 x1 x2 (ix3 b p i) = col x0 x1 x2 b p j := by
  obtain ⟨j, hj⟩ := j
  dsimp only at h
  subst h
  pointwise [val_main_v15, val_main_v14]
  exact Finset.sum_congr rfl fun d _ => congrArg₂ (· * ·) (norm_at x0 x1 b _ d) rfl

theorem q_at (r : Fin 16384) (j : Fin 1024) :
    val_main_v183 (F := Ideal) x0 x1 x2 (ix2 r j)
      = turn (fun i : Fin 1024 => col x0 x1 x2 ⟨r.val / 4096, by omega⟩ ⟨r.val % 4096, by omega⟩ ⟨0 + i.val, by omega⟩)
        (pos (r.val % 4096)) j := by
  pointwise [val_main_v183, val_main_v50, val_main_v42, val_main_v49, val_main_v38, val_main_v41, val_main_v45, val_main_v48, val_main_v34, val_main_v37, val_main_v35, val_main_v40, val_main_v44, val_main_v47, val_main_v17, val_main_v36, val_main_v39, val_main_v43, val_main_v46, val_main_v16, val_main_v31, val_main_v33, val_main_v30, val_main_v32, val_main_v29, val_main_v27, val_main_v28, val_main_v25, val_main_v26, val_main_v24, val_main_v23, val_main_v13, val_main_v22, val_main_v21, val_main_cst_3, val_main_v19, val_main_v20, val_main_v18, val_main_cst_2]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem kc_slab (b : Fin 4) (p : Fin 4096) (h : Fin 4) (e : Fin 64) (j : Fin 2608) (hj : j.val = 1024 + (h.val * 64 + e.val)) :
    val_main_v54 (F := Ideal) x0 x1 x2 (ix4 b p h e) = col x0 x1 x2 b p j := by
  pointwise [val_main_v54, val_main_v53, val_main_v52, val_main_v51]
  exact column x0 x1 x2 _ _ _ _ (by dsimp only <;> omega)

theorem kc_cosLo (b : Fin 4) (p : Fin 4096) (h : Fin 4) (e : Fin 32) :
    val_main_v74 (F := Ideal) (ix4 b p h e) = Ideal.cos (angle (pos p.val) e.val) := by
  rw [val_main_v74_apply, val_main_v73_apply, val_main_v68_apply]
  have he : idx_main_v68 (idx_main_v73 (idx_main_v74 (ix4 b p h e))) = ix2 p e := funext fun a => by
    match a with
    | ⟨0, _⟩ => rfl
    | ⟨1, _⟩ => rfl
  rw [he]
  pointwise [val_main_v67, val_main_v66, val_main_v64, val_main_v65, val_main_v62, val_main_v63, val_main_v61, val_main_v60, val_main_v13, val_main_v59, val_main_v58, val_main_cst_5, val_main_v56, val_main_v57, val_main_v55, val_main_cst_4]
  rfl

theorem kc_sinLo (b : Fin 4) (p : Fin 4096) (h : Fin 4) (e : Fin 32) :
    val_main_v77 (F := Ideal) (ix4 b p h e) = Ideal.sin (angle (pos p.val) e.val) := by
  rw [val_main_v77_apply, val_main_v76_apply, val_main_v70_apply]
  have he : idx_main_v70 (idx_main_v76 (idx_main_v77 (ix4 b p h e))) = ix2 p e := funext fun a => by
    match a with
    | ⟨0, _⟩ => rfl
    | ⟨1, _⟩ => rfl
  rw [he]
  pointwise [val_main_v69, val_main_v66, val_main_v64, val_main_v65, val_main_v62, val_main_v63, val_main_v61, val_main_v60, val_main_v13, val_main_v59, val_main_v58, val_main_cst_5, val_main_v56, val_main_v57, val_main_v55, val_main_cst_4]
  rfl

theorem kc_cosHi (b : Fin 4) (p : Fin 4096) (h : Fin 4) (e : Fin 32) :
    val_main_v81 (F := Ideal) (ix4 b p h e) = Ideal.cos (angle (pos p.val) e.val) := by
  rw [val_main_v81_apply, val_main_v80_apply, val_main_v68_apply]
  have he : idx_main_v68 (idx_main_v80 (idx_main_v81 (ix4 b p h e))) = ix2 p e := funext fun a => by
    match a with
    | ⟨0, _⟩ => rfl
    | ⟨1, _⟩ => rfl
  rw [he]
  pointwise [val_main_v67, val_main_v66, val_main_v64, val_main_v65, val_main_v62, val_main_v63, val_main_v61, val_main_v60, val_main_v13, val_main_v59, val_main_v58, val_main_cst_5, val_main_v56, val_main_v57, val_main_v55, val_main_cst_4]
  rfl

theorem kc_sinHi (b : Fin 4) (p : Fin 4096) (h : Fin 4) (e : Fin 32) :
    val_main_v84 (F := Ideal) (ix4 b p h e) = Ideal.sin (angle (pos p.val) e.val) := by
  rw [val_main_v84_apply, val_main_v83_apply, val_main_v70_apply]
  have he : idx_main_v70 (idx_main_v83 (idx_main_v84 (ix4 b p h e))) = ix2 p e := funext fun a => by
    match a with
    | ⟨0, _⟩ => rfl
    | ⟨1, _⟩ => rfl
  rw [he]
  pointwise [val_main_v69, val_main_v66, val_main_v64, val_main_v65, val_main_v62, val_main_v63, val_main_v61, val_main_v60, val_main_v13, val_main_v59, val_main_v58, val_main_cst_5, val_main_v56, val_main_v57, val_main_v55, val_main_cst_4]
  rfl

theorem kc_lo (b : Fin 4) (p : Fin 4096) (h : Fin 4) (e : Fin 32) (j k : Fin 2608)
    (hj : j.val = 1024 + (h.val * 64 + e.val)) (hk : k.val = 1024 + (h.val * 64 + (32 + e.val))) :
    val_main_v79 (F := Ideal) x0 x1 x2 (ix4 b p h e)
      = col x0 x1 x2 b p j * Ideal.cos (angle (pos p.val) e.val)
        - col x0 x1 x2 b p k * Ideal.sin (angle (pos p.val) e.val) := by
  have ha : idx_main_v71 (ix4 b p h e) = ix4 b p h ⟨e.val, by omega⟩ := funext fun a => by
    match a with
    | ⟨0, _⟩ => rfl
    | ⟨1, _⟩ => rfl
    | ⟨2, _⟩ => rfl
    | ⟨3, _⟩ => rfl
  have hb : idx_main_v72 (ix4 b p h e) = ix4 b p h ⟨32 + e.val, by omega⟩ := funext fun a => by
    match a with
    | ⟨0, _⟩ => rfl
    | ⟨1, _⟩ => rfl
    | ⟨2, _⟩ => rfl
    | ⟨3, _⟩ => rfl
  rw [val_main_v79_apply, val_main_v75_apply, val_main_v78_apply, val_main_v71_apply, val_main_v72_apply,
    kc_cosLo, kc_sinLo, ha, hb, kc_slab x0 x1 x2 b p h ⟨e.val, by omega⟩ j hj,
    kc_slab x0 x1 x2 b p h ⟨32 + e.val, by omega⟩ k hk]
  rfl

theorem kc_hi (b : Fin 4) (p : Fin 4096) (h : Fin 4) (e : Fin 32) (j k : Fin 2608)
    (hj : j.val = 1024 + (h.val * 64 + e.val)) (hk : k.val = 1024 + (h.val * 64 + (32 + e.val))) :
    val_main_v86 (F := Ideal) x0 x1 x2 (ix4 b p h e)
      = col x0 x1 x2 b p k * Ideal.cos (angle (pos p.val) e.val)
        + col x0 x1 x2 b p j * Ideal.sin (angle (pos p.val) e.val) := by
  have ha : idx_main_v71 (ix4 b p h e) = ix4 b p h ⟨e.val, by omega⟩ := funext fun a => by
    match a with
    | ⟨0, _⟩ => rfl
    | ⟨1, _⟩ => rfl
    | ⟨2, _⟩ => rfl
    | ⟨3, _⟩ => rfl
  have hb : idx_main_v72 (ix4 b p h e) = ix4 b p h ⟨32 + e.val, by omega⟩ := funext fun a => by
    match a with
    | ⟨0, _⟩ => rfl
    | ⟨1, _⟩ => rfl
    | ⟨2, _⟩ => rfl
    | ⟨3, _⟩ => rfl
  rw [val_main_v86_apply, val_main_v82_apply, val_main_v85_apply, val_main_v72_apply, val_main_v71_apply,
    kc_cosHi, kc_sinHi, ha, hb, kc_slab x0 x1 x2 b p h ⟨e.val, by omega⟩ j hj,
    kc_slab x0 x1 x2 b p h ⟨32 + e.val, by omega⟩ k hk]
  rfl

theorem kc_at (r : Fin 16384) (j : Fin 256) :
    val_main_v177 (F := Ideal) x0 x1 x2 (ix2 r j)
      = turn (fun i : Fin 256 => col x0 x1 x2 ⟨r.val / 4096, by omega⟩ ⟨r.val % 4096, by omega⟩ ⟨1024 + i.val, by omega⟩)
        (pos (r.val % 4096)) j := by
  pointwise [val_main_v177, val_main_v87]
  unfold turn
  refine halves (fun h => ?_) (fun h => ?_)
  · exact kc_lo x0 x1 x2 _ _ _ _ _ _ (by dsimp only <;> omega) (by dsimp only <;> omega)
  · exact kc_hi x0 x1 x2 _ _ _ _ _ _ (by dsimp only <;> omega) (by dsimp only <;> omega)

theorem vc_at (r : Fin 16384) (j : Fin 256) :
    val_main_v178 (F := Ideal) x0 x1 x2 (ix2 r j)
      = col x0 x1 x2 ⟨r.val / 4096, by omega⟩ ⟨r.val % 4096, by omega⟩ ⟨1280 + j.val, by omega⟩ := by
  pointwise [val_main_v178, val_main_v89, val_main_v88, val_main_v52, val_main_v51]
  exact column x0 x1 x2 _ _ _ _ (by dsimp only <;> omega)

theorem ks_slab (b : Fin 4) (p : Fin 4096) (h : Fin 4) (e : Fin 64) (j : Fin 2608) (hj : j.val = 1536 + (h.val * 64 + e.val)) :
    val_main_v91 (F := Ideal) x0 x1 x2 (ix4 b p h e) = col x0 x1 x2 b p j := by
  pointwise [val_main_v91, val_main_v90, val_main_v52, val_main_v51]
  exact column x0 x1 x2 _ _ _ _ (by dsimp only <;> omega)

theorem ks_cosLo (b : Fin 4) (p : Fin 4096) (h : Fin 4) (e : Fin 32) :
    val_main_v111 (F := Ideal) (ix4 b p h e) = Ideal.cos (angle (pos p.val) e.val) := by
  rw [val_main_v111_apply, val_main_v110_apply, val_main_v105_apply]
  have he : idx_main_v105 (idx_main_v110 (idx_main_v111 (ix4 b p h e))) = ix2 p e := funext fun a => by
    match a with
    | ⟨0, _⟩ => rfl
    | ⟨1, _⟩ => rfl
  rw [he]
  pointwise [val_main_v104, val_main_v103, val_main_v101, val_main_v102, val_main_v99, val_main_v100, val_main_v98, val_main_v97, val_main_v13, val_main_v96, val_main_v95, val_main_cst_7, val_main_v93, val_main_v94, val_main_v92, val_main_cst_6]
  rfl

theorem ks_sinLo (b : Fin 4) (p : Fin 4096) (h : Fin 4) (e : Fin 32) :
    val_main_v114 (F := Ideal) (ix4 b p h e) = Ideal.sin (angle (pos p.val) e.val) := by
  rw [val_main_v114_apply, val_main_v113_apply, val_main_v107_apply]
  have he : idx_main_v107 (idx_main_v113 (idx_main_v114 (ix4 b p h e))) = ix2 p e := funext fun a => by
    match a with
    | ⟨0, _⟩ => rfl
    | ⟨1, _⟩ => rfl
  rw [he]
  pointwise [val_main_v106, val_main_v103, val_main_v101, val_main_v102, val_main_v99, val_main_v100, val_main_v98, val_main_v97, val_main_v13, val_main_v96, val_main_v95, val_main_cst_7, val_main_v93, val_main_v94, val_main_v92, val_main_cst_6]
  rfl

theorem ks_cosHi (b : Fin 4) (p : Fin 4096) (h : Fin 4) (e : Fin 32) :
    val_main_v118 (F := Ideal) (ix4 b p h e) = Ideal.cos (angle (pos p.val) e.val) := by
  rw [val_main_v118_apply, val_main_v117_apply, val_main_v105_apply]
  have he : idx_main_v105 (idx_main_v117 (idx_main_v118 (ix4 b p h e))) = ix2 p e := funext fun a => by
    match a with
    | ⟨0, _⟩ => rfl
    | ⟨1, _⟩ => rfl
  rw [he]
  pointwise [val_main_v104, val_main_v103, val_main_v101, val_main_v102, val_main_v99, val_main_v100, val_main_v98, val_main_v97, val_main_v13, val_main_v96, val_main_v95, val_main_cst_7, val_main_v93, val_main_v94, val_main_v92, val_main_cst_6]
  rfl

theorem ks_sinHi (b : Fin 4) (p : Fin 4096) (h : Fin 4) (e : Fin 32) :
    val_main_v121 (F := Ideal) (ix4 b p h e) = Ideal.sin (angle (pos p.val) e.val) := by
  rw [val_main_v121_apply, val_main_v120_apply, val_main_v107_apply]
  have he : idx_main_v107 (idx_main_v120 (idx_main_v121 (ix4 b p h e))) = ix2 p e := funext fun a => by
    match a with
    | ⟨0, _⟩ => rfl
    | ⟨1, _⟩ => rfl
  rw [he]
  pointwise [val_main_v106, val_main_v103, val_main_v101, val_main_v102, val_main_v99, val_main_v100, val_main_v98, val_main_v97, val_main_v13, val_main_v96, val_main_v95, val_main_cst_7, val_main_v93, val_main_v94, val_main_v92, val_main_cst_6]
  rfl

theorem ks_lo (b : Fin 4) (p : Fin 4096) (h : Fin 4) (e : Fin 32) (j k : Fin 2608)
    (hj : j.val = 1536 + (h.val * 64 + e.val)) (hk : k.val = 1536 + (h.val * 64 + (32 + e.val))) :
    val_main_v116 (F := Ideal) x0 x1 x2 (ix4 b p h e)
      = col x0 x1 x2 b p j * Ideal.cos (angle (pos p.val) e.val)
        - col x0 x1 x2 b p k * Ideal.sin (angle (pos p.val) e.val) := by
  have ha : idx_main_v108 (ix4 b p h e) = ix4 b p h ⟨e.val, by omega⟩ := funext fun a => by
    match a with
    | ⟨0, _⟩ => rfl
    | ⟨1, _⟩ => rfl
    | ⟨2, _⟩ => rfl
    | ⟨3, _⟩ => rfl
  have hb : idx_main_v109 (ix4 b p h e) = ix4 b p h ⟨32 + e.val, by omega⟩ := funext fun a => by
    match a with
    | ⟨0, _⟩ => rfl
    | ⟨1, _⟩ => rfl
    | ⟨2, _⟩ => rfl
    | ⟨3, _⟩ => rfl
  rw [val_main_v116_apply, val_main_v112_apply, val_main_v115_apply, val_main_v108_apply, val_main_v109_apply,
    ks_cosLo, ks_sinLo, ha, hb, ks_slab x0 x1 x2 b p h ⟨e.val, by omega⟩ j hj,
    ks_slab x0 x1 x2 b p h ⟨32 + e.val, by omega⟩ k hk]
  rfl

theorem ks_hi (b : Fin 4) (p : Fin 4096) (h : Fin 4) (e : Fin 32) (j k : Fin 2608)
    (hj : j.val = 1536 + (h.val * 64 + e.val)) (hk : k.val = 1536 + (h.val * 64 + (32 + e.val))) :
    val_main_v123 (F := Ideal) x0 x1 x2 (ix4 b p h e)
      = col x0 x1 x2 b p k * Ideal.cos (angle (pos p.val) e.val)
        + col x0 x1 x2 b p j * Ideal.sin (angle (pos p.val) e.val) := by
  have ha : idx_main_v108 (ix4 b p h e) = ix4 b p h ⟨e.val, by omega⟩ := funext fun a => by
    match a with
    | ⟨0, _⟩ => rfl
    | ⟨1, _⟩ => rfl
    | ⟨2, _⟩ => rfl
    | ⟨3, _⟩ => rfl
  have hb : idx_main_v109 (ix4 b p h e) = ix4 b p h ⟨32 + e.val, by omega⟩ := funext fun a => by
    match a with
    | ⟨0, _⟩ => rfl
    | ⟨1, _⟩ => rfl
    | ⟨2, _⟩ => rfl
    | ⟨3, _⟩ => rfl
  rw [val_main_v123_apply, val_main_v119_apply, val_main_v122_apply, val_main_v109_apply, val_main_v108_apply,
    ks_cosHi, ks_sinHi, ha, hb, ks_slab x0 x1 x2 b p h ⟨e.val, by omega⟩ j hj,
    ks_slab x0 x1 x2 b p h ⟨32 + e.val, by omega⟩ k hk]
  rfl

theorem ks_at (r : Fin 16384) (j : Fin 256) :
    val_main_v179 (F := Ideal) x0 x1 x2 (ix2 r j)
      = turn (fun i : Fin 256 => col x0 x1 x2 ⟨r.val / 4096, by omega⟩ ⟨r.val % 4096, by omega⟩ ⟨1536 + i.val, by omega⟩)
        (pos (r.val % 4096)) j := by
  pointwise [val_main_v179, val_main_v124]
  unfold turn
  refine halves (fun h => ?_) (fun h => ?_)
  · exact ks_lo x0 x1 x2 _ _ _ _ _ _ (by dsimp only <;> omega) (by dsimp only <;> omega)
  · exact ks_hi x0 x1 x2 _ _ _ _ _ _ (by dsimp only <;> omega) (by dsimp only <;> omega)

theorem vs_at (r : Fin 16384) (j : Fin 256) :
    val_main_v180 (F := Ideal) x0 x1 x2 (ix2 r j)
      = col x0 x1 x2 ⟨r.val / 4096, by omega⟩ ⟨r.val % 4096, by omega⟩ ⟨1792 + j.val, by omega⟩ := by
  pointwise [val_main_v180, val_main_v126, val_main_v125, val_main_v52, val_main_v51]
  exact column x0 x1 x2 _ _ _ _ (by dsimp only <;> omega)

theorem kw_slab (b : Fin 4) (p : Fin 4096) (h : Fin 4) (e : Fin 64) (j : Fin 2608) (hj : j.val = 2048 + (h.val * 64 + e.val)) :
    val_main_v128 (F := Ideal) x0 x1 x2 (ix4 b p h e) = col x0 x1 x2 b p j := by
  pointwise [val_main_v128, val_main_v127, val_main_v52, val_main_v51]
  exact column x0 x1 x2 _ _ _ _ (by dsimp only <;> omega)

theorem kw_cosLo (b : Fin 4) (p : Fin 4096) (h : Fin 4) (e : Fin 32) :
    val_main_v148 (F := Ideal) (ix4 b p h e) = Ideal.cos (angle (pos p.val) e.val) := by
  rw [val_main_v148_apply, val_main_v147_apply, val_main_v142_apply]
  have he : idx_main_v142 (idx_main_v147 (idx_main_v148 (ix4 b p h e))) = ix2 p e := funext fun a => by
    match a with
    | ⟨0, _⟩ => rfl
    | ⟨1, _⟩ => rfl
  rw [he]
  pointwise [val_main_v141, val_main_v140, val_main_v138, val_main_v139, val_main_v136, val_main_v137, val_main_v135, val_main_v134, val_main_v13, val_main_v133, val_main_v132, val_main_cst_9, val_main_v130, val_main_v131, val_main_v129, val_main_cst_8]
  rfl

theorem kw_sinLo (b : Fin 4) (p : Fin 4096) (h : Fin 4) (e : Fin 32) :
    val_main_v151 (F := Ideal) (ix4 b p h e) = Ideal.sin (angle (pos p.val) e.val) := by
  rw [val_main_v151_apply, val_main_v150_apply, val_main_v144_apply]
  have he : idx_main_v144 (idx_main_v150 (idx_main_v151 (ix4 b p h e))) = ix2 p e := funext fun a => by
    match a with
    | ⟨0, _⟩ => rfl
    | ⟨1, _⟩ => rfl
  rw [he]
  pointwise [val_main_v143, val_main_v140, val_main_v138, val_main_v139, val_main_v136, val_main_v137, val_main_v135, val_main_v134, val_main_v13, val_main_v133, val_main_v132, val_main_cst_9, val_main_v130, val_main_v131, val_main_v129, val_main_cst_8]
  rfl

theorem kw_cosHi (b : Fin 4) (p : Fin 4096) (h : Fin 4) (e : Fin 32) :
    val_main_v155 (F := Ideal) (ix4 b p h e) = Ideal.cos (angle (pos p.val) e.val) := by
  rw [val_main_v155_apply, val_main_v154_apply, val_main_v142_apply]
  have he : idx_main_v142 (idx_main_v154 (idx_main_v155 (ix4 b p h e))) = ix2 p e := funext fun a => by
    match a with
    | ⟨0, _⟩ => rfl
    | ⟨1, _⟩ => rfl
  rw [he]
  pointwise [val_main_v141, val_main_v140, val_main_v138, val_main_v139, val_main_v136, val_main_v137, val_main_v135, val_main_v134, val_main_v13, val_main_v133, val_main_v132, val_main_cst_9, val_main_v130, val_main_v131, val_main_v129, val_main_cst_8]
  rfl

theorem kw_sinHi (b : Fin 4) (p : Fin 4096) (h : Fin 4) (e : Fin 32) :
    val_main_v158 (F := Ideal) (ix4 b p h e) = Ideal.sin (angle (pos p.val) e.val) := by
  rw [val_main_v158_apply, val_main_v157_apply, val_main_v144_apply]
  have he : idx_main_v144 (idx_main_v157 (idx_main_v158 (ix4 b p h e))) = ix2 p e := funext fun a => by
    match a with
    | ⟨0, _⟩ => rfl
    | ⟨1, _⟩ => rfl
  rw [he]
  pointwise [val_main_v143, val_main_v140, val_main_v138, val_main_v139, val_main_v136, val_main_v137, val_main_v135, val_main_v134, val_main_v13, val_main_v133, val_main_v132, val_main_cst_9, val_main_v130, val_main_v131, val_main_v129, val_main_cst_8]
  rfl

theorem kw_lo (b : Fin 4) (p : Fin 4096) (h : Fin 4) (e : Fin 32) (j k : Fin 2608)
    (hj : j.val = 2048 + (h.val * 64 + e.val)) (hk : k.val = 2048 + (h.val * 64 + (32 + e.val))) :
    val_main_v153 (F := Ideal) x0 x1 x2 (ix4 b p h e)
      = col x0 x1 x2 b p j * Ideal.cos (angle (pos p.val) e.val)
        - col x0 x1 x2 b p k * Ideal.sin (angle (pos p.val) e.val) := by
  have ha : idx_main_v145 (ix4 b p h e) = ix4 b p h ⟨e.val, by omega⟩ := funext fun a => by
    match a with
    | ⟨0, _⟩ => rfl
    | ⟨1, _⟩ => rfl
    | ⟨2, _⟩ => rfl
    | ⟨3, _⟩ => rfl
  have hb : idx_main_v146 (ix4 b p h e) = ix4 b p h ⟨32 + e.val, by omega⟩ := funext fun a => by
    match a with
    | ⟨0, _⟩ => rfl
    | ⟨1, _⟩ => rfl
    | ⟨2, _⟩ => rfl
    | ⟨3, _⟩ => rfl
  rw [val_main_v153_apply, val_main_v149_apply, val_main_v152_apply, val_main_v145_apply, val_main_v146_apply,
    kw_cosLo, kw_sinLo, ha, hb, kw_slab x0 x1 x2 b p h ⟨e.val, by omega⟩ j hj,
    kw_slab x0 x1 x2 b p h ⟨32 + e.val, by omega⟩ k hk]
  rfl

theorem kw_hi (b : Fin 4) (p : Fin 4096) (h : Fin 4) (e : Fin 32) (j k : Fin 2608)
    (hj : j.val = 2048 + (h.val * 64 + e.val)) (hk : k.val = 2048 + (h.val * 64 + (32 + e.val))) :
    val_main_v160 (F := Ideal) x0 x1 x2 (ix4 b p h e)
      = col x0 x1 x2 b p k * Ideal.cos (angle (pos p.val) e.val)
        + col x0 x1 x2 b p j * Ideal.sin (angle (pos p.val) e.val) := by
  have ha : idx_main_v145 (ix4 b p h e) = ix4 b p h ⟨e.val, by omega⟩ := funext fun a => by
    match a with
    | ⟨0, _⟩ => rfl
    | ⟨1, _⟩ => rfl
    | ⟨2, _⟩ => rfl
    | ⟨3, _⟩ => rfl
  have hb : idx_main_v146 (ix4 b p h e) = ix4 b p h ⟨32 + e.val, by omega⟩ := funext fun a => by
    match a with
    | ⟨0, _⟩ => rfl
    | ⟨1, _⟩ => rfl
    | ⟨2, _⟩ => rfl
    | ⟨3, _⟩ => rfl
  rw [val_main_v160_apply, val_main_v156_apply, val_main_v159_apply, val_main_v146_apply, val_main_v145_apply,
    kw_cosHi, kw_sinHi, ha, hb, kw_slab x0 x1 x2 b p h ⟨e.val, by omega⟩ j hj,
    kw_slab x0 x1 x2 b p h ⟨32 + e.val, by omega⟩ k hk]
  rfl

theorem kw_at (r : Fin 16384) (j : Fin 256) :
    val_main_v181 (F := Ideal) x0 x1 x2 (ix2 r j)
      = turn (fun i : Fin 256 => col x0 x1 x2 ⟨r.val / 4096, by omega⟩ ⟨r.val % 4096, by omega⟩ ⟨2048 + i.val, by omega⟩)
        (pos (r.val % 4096)) j := by
  pointwise [val_main_v181, val_main_v161]
  unfold turn
  refine halves (fun h => ?_) (fun h => ?_)
  · exact kw_lo x0 x1 x2 _ _ _ _ _ _ (by dsimp only <;> omega) (by dsimp only <;> omega)
  · exact kw_hi x0 x1 x2 _ _ _ _ _ _ (by dsimp only <;> omega) (by dsimp only <;> omega)

theorem vw_at (r : Fin 16384) (j : Fin 256) :
    val_main_v182 (F := Ideal) x0 x1 x2 (ix2 r j)
      = col x0 x1 x2 ⟨r.val / 4096, by omega⟩ ⟨r.val % 4096, by omega⟩ ⟨2304 + j.val, by omega⟩ := by
  pointwise [val_main_v182, val_main_v163, val_main_v162, val_main_v52, val_main_v51]
  exact column x0 x1 x2 _ _ _ _ (by dsimp only <;> omega)

theorem gate_at (r : Fin 16384) (n : Fin 128) :
    val_main_v184 (F := Ideal) x0 x1 x2 x3 (ix2 r n)
      = share (proj (fun k => x0 (ix3 ⟨r.val / 4096, by omega⟩ ⟨r.val % 4096, by omega⟩ k)) (fun k => x1 (ix1 k)) (fun d => filled (fun i => x2 (ix2 d ⟨2560 + i.val, by omega⟩)) n) + filled (fun i => x3 (ix1 i)) n) := by
  pointwise [val_main_v184, val_main_v176, val_main_v175, val_main_v174, val_main_cst_12, val_main_v173, val_main_v172, val_main_cst_11, val_main_v171, val_main_v170, val_main_v166, val_main_v169, val_main_v165, val_main_v168, val_main_v164, val_main_call0_v0, val_main_v167, val_main_c, val_main_call1_v0, val_main_c_10]
  refine congrArg share (congrArg₂ (· + ·) (Finset.sum_congr rfl fun d _ => ?_) rfl)
  exact congrArg₂ (· * ·) (norm_at x0 x1 _ _ d) rfl

end Cert.NsaRefIdeal.Reference

end
-- ==== Proof.NsaNextArray.lean ====
/- The arrays the projection into the sparse attention leaves for the tokens to come: rotated queries and keys, values and gates. -/
module

public import proofs.«01_k».proof.Proof.Gen.NsaNextIdeal.Value
public import proofs.«01_k».proof.Proof.Rows
public import proofs.«01_k».proof.Proof.Rope
public import proofs.«01_k».proof.Proof.Share
public import Idealize.ShloMosaic.Lib.StableHlo.RunRead
public import Idealize.ShloMosaic.Lib.Pointwise

@[expose] public section

set_option maxRecDepth 65536

noncomputable section

namespace Cert.NsaNextIdeal.Array

open Idealize.ShloMosaic Idealize.ShloMosaic.TcCoe Idealize.ShloMosaic.Tactic Idealize.ShloMosaic.StableHlo
open Idealize.SL Idealize.SL.Sem
open Idealize.ShloMosaic.Pipeline (Dat)
open Cert.NsaNextIdeal Cert.NsaNextIdeal.Gen Cert.Rows Cert.Rope Cert.Share

/-! ## One grid point -/

/-- The normed rows. -/
theorem norm_at (v0 : Vec Ideal S32x1024 .f32) (v1 : Vec Ideal S1x1024 .f32) (r : Fin 32) (d : Fin 1024) :
    k0_pay1 (F := Ideal) v0 v1 (ix2 r d) = unit (fun k => v0 (ix2 r k)) (fun k => v1 (ix2 0 k)) d := by
  pointwise [k0_pay1]
  rfl

/-- The product of a normed row and a column, the blocks' entries known. -/
theorem proj_row {n : Nat} (x0 : Vec Ideal S32x1024 .f32) (x1 : Vec Ideal S1x1024 .f32) (w : Fin 1024 → Fin n → EReal) (x g wc : Fin 1024 → EReal)
    (r : Fin 32) (j : Fin n) (hx : ∀ k : Fin 1024, x0 (ix2 r k) = x k) (hg : ∀ k : Fin 1024, x1 (ix2 0 k) = g k)
    (hw : ∀ d : Fin 1024, w d j = wc d) :
    ∑ d : Fin 1024, k0_pay1 (F := Ideal) x0 x1 (ix2 r d) * w d j = proj x g wc := by
  refine Finset.sum_congr rfl fun d _ => ?_
  rw [norm_at, hw, funext hx, funext hg]

theorem mm2_at (v0 : Vec Ideal S32x1024 .f32) (v1 : Vec Ideal S1x1024 .f32) (w : Vec Ideal S1024x1024 .bf16) (r : Fin 32) (j : Fin 1024) :
    k0_pay2 (F := Ideal) v0 v1 w (ix2 r j) = ∑ x : Fin 1024, k0_pay1 (F := Ideal) v0 v1 (ix2 r x) * w (ix2 x j) := by
  pointwise [k0_pay2]

theorem mm9_at (v : FVec Ideal S32x1024 .bf16) (w : Vec Ideal S1024x256 .bf16) (r : Fin 32) (j : Fin 256) :
    k0_pay9 (F := Ideal) v w (ix2 r j) = ∑ x : Fin 1024, v (ix2 r x) * w (ix2 x j) := by
  pointwise [k0_pay9]

theorem mm15_at (v : FVec Ideal S32x1024 .bf16) (w : Vec Ideal S1024x256 .bf16) (r : Fin 32) (j : Fin 256) :
    k0_pay15 (F := Ideal) v w (ix2 r j) = ∑ x : Fin 1024, v (ix2 r x) * w (ix2 x j) := by
  pointwise [k0_pay15]

theorem mm16_at (v : FVec Ideal S32x1024 .bf16) (w : Vec Ideal S1024x256 .bf16) (r : Fin 32) (j : Fin 256) :
    k0_pay16 (F := Ideal) v w (ix2 r j) = ∑ x : Fin 1024, v (ix2 r x) * w (ix2 x j) := by
  pointwise [k0_pay16]

theorem mm23_at (v : FVec Ideal S32x1024 .bf16) (w : Vec Ideal S1024x256 .bf16) (r : Fin 32) (j : Fin 256) :
    k0_pay23 (F := Ideal) v w (ix2 r j) = ∑ x : Fin 1024, v (ix2 r x) * w (ix2 x j) := by
  pointwise [k0_pay23]

theorem mm24_at (v : FVec Ideal S32x1024 .bf16) (w : Vec Ideal S1024x256 .bf16) (r : Fin 32) (j : Fin 256) :
    k0_pay24 (F := Ideal) v w (ix2 r j) = ∑ x : Fin 1024, v (ix2 r x) * w (ix2 x j) := by
  pointwise [k0_pay24]

theorem mm32_at (v : FVec Ideal S32x1024 .bf16) (w : Vec Ideal S1024x256 .bf16) (r : Fin 32) (j : Fin 256) :
    k0_pay32 (F := Ideal) v w (ix2 r j) = ∑ x : Fin 1024, v (ix2 r x) * w (ix2 x j) := by
  pointwise [k0_pay32]

theorem tab3_at (v : Vec Ideal S32x128 .f32) (r : Fin 32) (j : Fin 1024) :
    k0_pay3 (F := Ideal) v (ix2 r j) = v (ix2 r ⟨j.val % 128, by omega⟩) := by
  pointwise [k0_pay3]
  split_ifs <;> exact congrArg (fun k => v (ix2 r k)) (Fin.ext (by dsimp only; omega))

theorem tab4_at (v : Vec Ideal S32x128 .f32) (r : Fin 32) (j : Fin 1024) :
    k0_pay4 (F := Ideal) v (ix2 r j) = v (ix2 r ⟨j.val % 128, by omega⟩) := by
  pointwise [k0_pay4]
  split_ifs <;> exact congrArg (fun k => v (ix2 r k)) (Fin.ext (by dsimp only; omega))

theorem tab10_at (v : Vec Ideal S32x128 .f32) (r : Fin 32) (j : Fin 256) :
    k0_pay10 (F := Ideal) v (ix2 r j) = v (ix2 r ⟨j.val % 128, by omega⟩) := by
  pointwise [k0_pay10]
  split_ifs <;> exact congrArg (fun k => v (ix2 r k)) (Fin.ext (by dsimp only; omega))

theorem tab11_at (v : Vec Ideal S32x128 .f32) (r : Fin 32) (j : Fin 256) :
    k0_pay11 (F := Ideal) v (ix2 r j) = v (ix2 r ⟨j.val % 128, by omega⟩) := by
  pointwise [k0_pay11]
  split_ifs <;> exact congrArg (fun k => v (ix2 r k)) (Fin.ext (by dsimp only; omega))

theorem tab17_at (v : Vec Ideal S32x128 .f32) (r : Fin 32) (j : Fin 256) :
    k0_pay17 (F := Ideal) v (ix2 r j) = v (ix2 r ⟨j.val % 128, by omega⟩) := by
  pointwise [k0_pay17]
  split_ifs <;> exact congrArg (fun k => v (ix2 r k)) (Fin.ext (by dsimp only; omega))

theorem tab18_at (v : Vec Ideal S32x128 .f32) (r : Fin 32) (j : Fin 256) :
    k0_pay18 (F := Ideal) v (ix2 r j) = v (ix2 r ⟨j.val % 128, by omega⟩) := by
  pointwise [k0_pay18]
  split_ifs <;> exact congrArg (fun k => v (ix2 r k)) (Fin.ext (by dsimp only; omega))

theorem tab25_at (v : Vec Ideal S32x128 .f32) (r : Fin 32) (j : Fin 256) :
    k0_pay25 (F := Ideal) v (ix2 r j) = v (ix2 r ⟨j.val % 128, by omega⟩) := by
  pointwise [k0_pay25]
  split_ifs <;> exact congrArg (fun k => v (ix2 r k)) (Fin.ext (by dsimp only; omega))

theorem tab26_at (v : Vec Ideal S32x128 .f32) (r : Fin 32) (j : Fin 256) :
    k0_pay26 (F := Ideal) v (ix2 r j) = v (ix2 r ⟨j.val % 128, by omega⟩) := by
  pointwise [k0_pay26]
  split_ifs <;> exact congrArg (fun k => v (ix2 r k)) (Fin.ext (by dsimp only; omega))

theorem spin8_at (v c s : FVec Ideal S32x1024 .f32) (y : Fin 1024 → EReal) (p : EReal) (r : Fin 32) (j : Fin 1024)
    (hy : ∀ i : Fin 1024, v (ix2 r i) = y i) (hc : c (ix2 r j) = Ideal.cos (angle p (j.val % 32))) (hs : s (ix2 r j) = side p j.val) :
    k0_pay8 (F := Ideal) v c s (Scalar.select (Scalar.cmpi .eq 64#32 0#32) 1#32 64#32) k0_pay5 k0_pay6 k0_pay7 (ix2 r j) = turn y p j := by
  rw [← turn_of (by decide) y p j (first j.val) (first_eq j) ⟨(j.val + 1024 - 992) % 1024, Nat.mod_lt _ (by decide)⟩
    ⟨(j.val + 1024 - 32) % 1024, Nat.mod_lt _ (by decide)⟩ (by show (j.val + 1024 - 992) % 1024 = (j.val + 32) % 1024; omega) rfl,
    ← hy j, ← hy, ← hy, ← hc, ← hs]
  pointwise [k0_pay8, k0_pay5, k0_pay6, k0_pay7]

theorem spin14_at (v c s : FVec Ideal S32x256 .f32) (y : Fin 256 → EReal) (p : EReal) (r : Fin 32) (j : Fin 256)
    (hy : ∀ i : Fin 256, v (ix2 r i) = y i) (hc : c (ix2 r j) = Ideal.cos (angle p (j.val % 32))) (hs : s (ix2 r j) = side p j.val) :
    k0_pay14 (F := Ideal) v c s k0_pay12 k0_pay13 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay14, k0_pay12, k0_pay13]

theorem spin22_at (v c s : FVec Ideal S32x256 .f32) (y : Fin 256 → EReal) (p : EReal) (r : Fin 32) (j : Fin 256)
    (hy : ∀ i : Fin 256, v (ix2 r i) = y i) (hc : c (ix2 r j) = Ideal.cos (angle p (j.val % 32))) (hs : s (ix2 r j) = side p j.val) :
    k0_pay22 (F := Ideal) v c s k0_pay19 k0_pay20 k0_pay21 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay22, k0_pay19, k0_pay20, k0_pay21]

theorem spin31_at (v c s : FVec Ideal S32x256 .f32) (y : Fin 256 → EReal) (p : EReal) (r : Fin 32) (j : Fin 256)
    (hy : ∀ i : Fin 256, v (ix2 r i) = y i) (hc : c (ix2 r j) = Ideal.cos (angle p (j.val % 32))) (hs : s (ix2 r j) = side p j.val) :
    k0_pay31 (F := Ideal) v c s (Scalar.select (Scalar.cmpi .eq 64#32 0#32) 1#32 64#32) k0_pay27 k0_pay28 k0_pay29 k0_pay30 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay31, k0_pay27, k0_pay28, k0_pay29, k0_pay30]

theorem gate_at (v : FVec Ideal S32x1024 .bf16) (w : Vec Ideal S1024x128 .bf16) (b : Vec Ideal S1x128 .f32) (r : Fin 32) (n : Fin 128) :
    k0_pay33 (F := Ideal) v w b (ix2 r n) = share ((∑ x : Fin 1024, v (ix2 r x) * w (ix2 x n)) + b (ix2 0 n)) := by
  pointwise [k0_pay33]
  exact congrArg (fun z => Ideal.div 1 (1 + Ideal.exp z)) (zero_sub_eq _)

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 32) (k : Fin 1024) : EReal :=
  (m ((c : Thread nD τ).loc main_arg0) : Vec Ideal S32x1x1024 .f32) (ix3 ⟨r.val, by omega⟩ 0 k)

def Gain (k : Fin 1024) : EReal := (m ((c : Thread nD τ).loc main_arg1) : Vec Ideal S1024 .f32) (ix1 k)

def Wt (d : Fin 1024) (j : Fin 2608) : EReal :=
  (m ((c : Thread nD τ).loc main_arg2) : Vec Ideal S1024x2608 .f32) (ix2 d j)

def Bias (n : Fin 48) : EReal := (m ((c : Thread nD τ).loc main_arg3) : Vec Ideal S48 .f32) (ix1 n)

/-- Lane `j` of the part of the projected row that starts at column `o`. -/
def Part (n o : ℕ) (h : o + n ≤ 2608) (r : Fin 32) (j : Fin n) : EReal :=
  proj (X m c r) (Gain m c) (fun d => Wt m c d ⟨o + j.val, by omega⟩)

/-! ## The operands the host code prepares -/

theorem x_at (r : Fin 32) (k : Fin 1024) : (V m c main_v30 : Vec Ideal S32x1024 .f32) (ix2 r k) = X m c r k := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [X]

theorem gain_at (k : Fin 1024) : (V m c main_v31 : Vec Ideal S1x1024 .f32) (ix2 0 k) = Gain m c k := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Gain]

theorem w1_at (d : Fin 1024) (j : Fin 1024) : (V m c main_v1 : Vec Ideal S1024x1024 .bf16) (ix2 d j) = Wt m c d ⟨0 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w2_at (d : Fin 1024) (j : Fin 256) : (V m c main_v2 : Vec Ideal S1024x256 .bf16) (ix2 d j) = Wt m c d ⟨1024 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w3_at (d : Fin 1024) (j : Fin 256) : (V m c main_v3 : Vec Ideal S1024x256 .bf16) (ix2 d j) = Wt m c d ⟨1280 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w4_at (d : Fin 1024) (j : Fin 256) : (V m c main_v4 : Vec Ideal S1024x256 .bf16) (ix2 d j) = Wt m c d ⟨1536 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w5_at (d : Fin 1024) (j : Fin 256) : (V m c main_v5 : Vec Ideal S1024x256 .bf16) (ix2 d j) = Wt m c d ⟨1792 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w6_at (d : Fin 1024) (j : Fin 256) : (V m c main_v6 : Vec Ideal S1024x256 .bf16) (ix2 d j) = Wt m c d ⟨2048 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w7_at (d : Fin 1024) (j : Fin 256) : (V m c main_v7 : Vec Ideal S1024x256 .bf16) (ix2 d j) = Wt m c d ⟨2304 + j.val, by omega⟩ := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem wg_at (d : Fin 1024) (n : Fin 128) :
    (V m c main_v9 : Vec Ideal S1024x128 .bf16) (ix2 d n) = filled (fun j => Wt m c d ⟨2560 + j.val, by omega⟩) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  rfl

theorem bias_at (n : Fin 128) : (V m c main_v32 : Vec Ideal S1x128 .f32) (ix2 0 n) = filled (Bias m c) n := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  rfl

theorem cos_at (p : Fin 32) (k : Fin 128) :
    (V m c main_v26 : Vec Ideal S32x128 .f32) (ix2 p k) = Ideal.cos (angle (pos 8192) (k.val % 32)) := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  after_reads_simp
  pointwise []
  exact cos_parts _ _

theorem sin_at (p : Fin 32) (k : Fin 128) :
    (V m c main_v29 : Vec Ideal S32x128 .f32) (ix2 p k) = side (pos 8192) k.val := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  after_reads_simp
  pointwise []
  exact side_parts _ _

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0)
    ∧ (win0_3.index t 0 = (grid0.coords t 0).val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = (grid0.coords t 0).val ∧ win0_13.index t 1 = 0)
    ∧ (win0_14.index t 0 = (grid0.coords t 0).val ∧ win0_14.index t 1 = 0)
    ∧ (win0_15.index t 0 = (grid0.coords t 0).val ∧ win0_15.index t 1 = 0)
    ∧ (win0_16.index t 0 = (grid0.coords t 0).val ∧ win0_16.index t 1 = 0)
    ∧ (win0_17.index t 0 = (grid0.coords t 0).val ∧ win0_17.index t 1 = 0)
    ∧ (win0_18.index t 0 = (grid0.coords t 0).val ∧ win0_18.index t 1 = 0)
    ∧ (win0_19.index t 0 = (grid0.coords t 0).val ∧ win0_19.index t 1 = 0)
    ∧ (win0_20.index t 0 = (grid0.coords t 0).val ∧ win0_20.index t 1 = 0) :=
  (by decide +kernel : ∀ t : Fin grid0.N, _)

/-- The row block of a grid point. -/
abbrev blk (t : Fin cfg0.N) : Fin 1 := grid0.coords t 0

theorem x_block (t : Fin cfg0.N) (r : Fin 32) (j : Fin 1024) :
    (iblk m c 0 t : Vec Ideal S32x1024 .f32) (ix2 r j) = X m c ⟨32 * (blk t).val + r.val, by omega⟩ j := by
  obtain ⟨⟨h0, h1⟩, -⟩ := idx_facts t
  have e : (((cfg0.win 0).blk t).view.emb (ix2 r j) : S32x1024.Idx) = ix2 ⟨32 * (blk t).val + r.val, by omega⟩ j := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * j.val = j.val; rw [h1]; omega
  show (V m c main_v30 : Vec Ideal S32x1024 .f32) (((cfg0.win 0).blk t).view.emb (ix2 r j)) = _
  rw [e, x_at]

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v31 : Vec Ideal S1x1024 .f32) (((cfg0.win 1).blk t).view.emb (ix2 0 j)) = _
  rw [e, gain_at]

theorem cos_block (t : Fin cfg0.N) (r : Fin 32) (j : Fin 128) :
    (iblk m c 2 t : Vec Ideal S32x128 .f32) (ix2 r j) = Ideal.cos (angle (pos 8192) (j.val % 32)) := by
  obtain ⟨-, -, ⟨h0, h1⟩, -⟩ := idx_facts t
  have e : (((cfg0.win 2).blk t).view.emb (ix2 r j) : S32x128.Idx) = ix2 ⟨32 * (blk t).val + r.val, by omega⟩ j := by
    funext a
    apply Fin.ext
    match a with
    | ⟨0, _⟩ => show win0_2.index t 0 * 32 + 1 * r.val = 32 * (grid0.coords t 0).val + r.val; rw [h0]; omega
    | ⟨1, _⟩ => show win0_2.index t 1 * 128 + 1 * j.val = j.val; rw [h1]; omega
  show (V m c main_v26 : Vec Ideal S32x128 .f32) (((cfg0.win 2).blk t).view.emb (ix2 r j)) = _
  rw [e, cos_at]

theorem sin_block (t : Fin cfg0.N) (r : Fin 32) (j : Fin 128) :
    (iblk m c 3 t : Vec Ideal S32x128 .f32) (ix2 r j) = side (pos 8192) j.val := by
  obtain ⟨-, -, -, ⟨h0, h1⟩, -⟩ := idx_facts t
  have e : (((cfg0.win 3).blk t).view.emb (ix2 r j) : S32x128.Idx) = ix2 ⟨32 * (blk t).val + r.val, by omega⟩ j := by
    funext a
    apply Fin.ext
    match a with
    | ⟨0, _⟩ => show win0_3.index t 0 * 32 + 1 * r.val = 32 * (grid0.coords t 0).val + r.val; rw [h0]; omega
    | ⟨1, _⟩ => show win0_3.index t 1 * 128 + 1 * j.val = j.val; rw [h1]; omega
  show (V m c main_v29 : Vec Ideal S32x128 .f32) (((cfg0.win 3).blk t).view.emb (ix2 r j)) = _
  rw [e, sin_at]

theorem w1_block (t : Fin cfg0.N) (d : Fin 1024) (j : Fin 1024) :
    (iblk m c 4 t : Vec Ideal S1024x1024 .bf16) (ix2 d j) = Wt m c d ⟨0 + j.val, by omega⟩ := by
  obtain ⟨-, -, -, -, ⟨h0, h1⟩, -⟩ := idx_facts t
  have e : (((cfg0.win 4).blk t).view.emb (ix2 d j) : S1024x1024.Idx) = ix2 d j := by
    funext a
    apply Fin.ext
    match a with
    | ⟨0, _⟩ => show win0_4.index t 0 * 1024 + 1 * d.val = d.val; rw [h0]; omega
    | ⟨1, _⟩ => show win0_4.index t 1 * 1024 + 1 * j.val = j.val; rw [h1]; omega
  show (V m c main_v1 : Vec Ideal S1024x1024 .bf16) (((cfg0.win 4).blk t).view.emb (ix2 d j)) = _
  rw [e, w1_at]

theorem w2_block (t : Fin cfg0.N) (d : Fin 1024) (j : Fin 256) :
    (iblk m c 5 t : Vec Ideal S1024x256 .bf16) (ix2 d j) = Wt m c d ⟨1024 + j.val, by omega⟩ := by
  obtain ⟨-, -, -, -, -, ⟨h0, h1⟩, -⟩ := idx_facts t
  have e : (((cfg0.win 5).blk t).view.emb (ix2 d j) : S1024x256.Idx) = ix2 d j := by
    funext a
    apply Fin.ext
    match a with
    | ⟨0, _⟩ => show win0_5.index t 0 * 1024 + 1 * d.val = d.val; rw [h0]; omega
    | ⟨1, _⟩ => show win0_5.index t 1 * 256 + 1 * j.val = j.val; rw [h1]; omega
  show (V m c main_v2 : Vec Ideal S1024x256 .bf16) (((cfg0.win 5).blk t).view.emb (ix2 d j)) = _
  rw [e, w2_at]

theorem w3_block (t : Fin cfg0.N) (d : Fin 1024) (j : Fin 256) :
    (iblk m c 6 t : Vec Ideal S1024x256 .bf16) (ix2 d j) = Wt m c d ⟨1280 + j.val, by omega⟩ := by
  obtain ⟨-, -, -, -, -, -, ⟨h0, h1⟩, -⟩ := idx_facts t
  have e : (((cfg0.win 6).blk t).view.emb (ix2 d j) : S1024x256.Idx) = ix2 d j := by
    funext a
    apply Fin.ext
    match a with
    | ⟨0, _⟩ => show win0_6.index t 0 * 1024 + 1 * d.val = d.val; rw [h0]; omega
    | ⟨1, _⟩ => show win0_6.index t 1 * 256 + 1 * j.val = j.val; rw [h1]; omega
  show (V m c main_v3 : Vec Ideal S1024x256 .bf16) (((cfg0.win 6).blk t).view.emb (ix2 d j)) = _
  rw [e, w3_at]

theorem w4_block (t : Fin cfg0.N) (d : Fin 1024) (j : Fin 256) :
    (iblk m c 7 t : Vec Ideal S1024x256 .bf16) (ix2 d j) = Wt m c d ⟨1536 + j.val, by omega⟩ := by
  obtain ⟨-, -, -, -, -, -, -, ⟨h0, h1⟩, -⟩ := idx_facts t
  have e : (((cfg0.win 7).blk t).view.emb (ix2 d j) : S1024x256.Idx) = ix2 d j := by
    funext a
    apply Fin.ext
    match a with
    | ⟨0, _⟩ => show win0_7.index t 0 * 1024 + 1 * d.val = d.val; rw [h0]; omega
    | ⟨1, _⟩ => show win0_7.index t 1 * 256 + 1 * j.val = j.val; rw [h1]; omega
  show (V m c main_v4 : Vec Ideal S1024x256 .bf16) (((cfg0.win 7).blk t).view.emb (ix2 d j)) = _
  rw [e, w4_at]

theorem w5_block (t : Fin cfg0.N) (d : Fin 1024) (j : Fin 256) :
    (iblk m c 8 t : Vec Ideal S1024x256 .bf16) (ix2 d j) = Wt m c d ⟨1792 + j.val, by omega⟩ := by
  obtain ⟨-, -, -, -, -, -, -, -, ⟨h0, h1⟩, -⟩ := idx_facts t
  have e : (((cfg0.win 8).blk t).view.emb (ix2 d j) : S1024x256.Idx) = ix2 d j := by
    funext a
    apply Fin.ext
    match a with
    | ⟨0, _⟩ => show win0_8.index t 0 * 1024 + 1 * d.val = d.val; rw [h0]; omega
    | ⟨1, _⟩ => show win0_8.index t 1 * 256 + 1 * j.val = j.val; rw [h1]; omega
  show (V m c main_v5 : Vec Ideal S1024x256 .bf16) (((cfg0.win 8).blk t).view.emb (ix2 d j)) = _
  rw [e, w5_at]

theorem w6_block (t : Fin cfg0.N) (d : Fin 1024) (j : Fin 256) :
    (iblk m c 9 t : Vec Ideal S1024x256 .bf16) (ix2 d j) = Wt m c d ⟨2048 + j.val, by omega⟩ := by
  obtain ⟨-, -, -, -, -, -, -, -, -, ⟨h0, h1⟩, -⟩ := idx_facts t
  have e : (((cfg0.win 9).blk t).view.emb (ix2 d j) : S1024x256.Idx) = ix2 d j := by
    funext a
    apply Fin.ext
    match a with
    | ⟨0, _⟩ => show win0_9.index t 0 * 1024 + 1 * d.val = d.val; rw [h0]; omega
    | ⟨1, _⟩ => show win0_9.index t 1 * 256 + 1 * j.val = j.val; rw [h1]; omega
  show (V m c main_v6 : Vec Ideal S1024x256 .bf16) (((cfg0.win 9).blk t).view.emb (ix2 d j)) = _
  rw [e, w6_at]

theorem w7_block (t : Fin cfg0.N) (d : Fin 1024) (j : Fin 256) :
    (iblk m c 10 t : Vec Ideal S1024x256 .bf16) (ix2 d j) = Wt m c d ⟨2304 + j.val, by omega⟩ := by
  obtain ⟨-, -, -, -, -, -, -, -, -, -, ⟨h0, h1⟩, -⟩ := idx_facts t
  have e : (((cfg0.win 10).blk t).view.emb (ix2 d j) : S1024x256.Idx) = ix2 d j := by
    funext a
    apply Fin.ext
    match a with
    | ⟨0, _⟩ => show win0_10.index t 0 * 1024 + 1 * d.val = d.val; rw [h0]; omega
    | ⟨1, _⟩ => show win0_10.index t 1 * 256 + 1 * j.val = j.val; rw [h1]; omega
  show (V m c main_v7 : Vec Ideal S1024x256 .bf16) (((cfg0.win 10).blk t).view.emb (ix2 d j)) = _
  rw [e, w7_at]

theorem wg_block (t : Fin cfg0.N) (d : Fin 1024) (j : Fin 128) :
    (iblk m c 11 t : Vec Ideal S1024x128 .bf16) (ix2 d j) = filled (fun i => Wt m c d ⟨2560 + i.val, by omega⟩) j := by
  obtain ⟨-, -, -, -, -, -, -, -, -, -, -, ⟨h0, h1⟩, -⟩ := idx_facts t
  have e : (((cfg0.win 11).blk t).view.emb (ix2 d j) : S1024x128.Idx) = ix2 d j := by
    funext a
    apply Fin.ext
    match a with
    | ⟨0, _⟩ => show win0_11.index t 0 * 1024 + 1 * d.val = d.val; rw [h0]; omega
    | ⟨1, _⟩ => show win0_11.index t 1 * 128 + 1 * j.val = j.val; rw [h1]; omega
  show (V m c main_v9 : Vec Ideal S1024x128 .bf16) (((cfg0.win 11).blk t).view.emb (ix2 d j)) = _
  rw [e, wg_at]

theorem bias_block (t : Fin cfg0.N) (j : Fin 128) :
    (iblk m c 12 t : Vec Ideal S1x128 .f32) (ix2 0 j) = filled (Bias m c) j := by
  obtain ⟨-, -, -, -, -, -, -, -, -, -, -, -, ⟨h0, h1⟩, -⟩ := idx_facts t
  have e : (((cfg0.win 12).blk t).view.emb (ix2 0 j) : S1x128.Idx) = ix2 0 j := by
    funext a
    apply Fin.ext
    match a with
    | ⟨0, _⟩ => show win0_12.index t 0 * 1 + 1 * 0 = 0; rw [h0]
    | ⟨1, _⟩ => show win0_12.index t 1 * 128 + 1 * j.val = j.val; rw [h1]; omega
  show (V m c main_v32 : Vec Ideal S1x128 .f32) (((cfg0.win 12).blk t).view.emb (ix2 0 j)) = _
  rw [e, bias_at]

theorem point_of : ∀ b : Fin 1, ∃ t : Fin cfg0.N, (grid0.coords t 0).val = b.val :=
  (by decide +kernel : ∀ b : Fin 1, ∃ t : Fin grid0.N, _)

/-! ## The stored blocks and the arrays -/

/-- What result 0 is to hold. -/
def G13 : Vec Ideal S32x1024 .f32 := fun i => turn (Part m c 1024 0 (by decide) (i 0)) (pos 8192) (i 1)

theorem o_emb13 (t : Fin cfg0.N) (r : Fin 32) (j : Fin 1024) :
    (((cfg0.win 13).blk t).view.emb (ix2 r j) : S32x1024.Idx) = ix2 ⟨32 * (blk t).val + r.val, by omega⟩ j := by
  obtain ⟨-, -, -, -, -, -, -, -, -, -, -, -, -, ⟨h0, h1⟩, -⟩ := idx_facts t
  funext a
  apply Fin.ext
  match a with
  | ⟨0, _⟩ => show win0_13.index t 0 * 32 + 1 * r.val = 32 * (grid0.coords t 0).val + r.val; rw [h0]; omega
  | ⟨1, _⟩ => show win0_13.index t 1 * 1024 + 1 * j.val = j.val; rw [h1]; omega

theorem out_at13 (t : Fin cfg0.N) (r : Fin 32) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G13 m c (ix2 ⟨32 * (blk t).val + r.val, by omega⟩ j) := by
  unfold_out out0_13
  rw [View.canon_unit_zero hz, View.ld_unit_zero hz, View.ld_unit_zero hz, View.ld_unit_zero hz, View.ld_unit_zero hz, View.ld_unit_zero hz]
  refine Eq.trans (spin8_at _ _ _ (Part m c 1024 0 (by decide) ⟨32 * (blk t).val + r.val, by omega⟩) (pos 8192) r j (fun i => ?_) ?_ ?_) ?_
  · exact (mm2_at _ _ _ r i).trans (proj_row _ _ (fun d i => (iblk m c 4 t : Vec Ideal S1024x1024 .bf16) (ix2 d i)) _ _ _ r i
      (x_block m c t r) (g_block m c t) (fun d => w1_block m c t d i))
  · refine (tab3_at _ r j).trans ((cos_block m c t r _).trans ?_)
    exact congrArg (fun l => Ideal.cos (angle _ l)) (by show j.val % 128 % 32 = j.val % 32; omega)
  · exact (tab4_at _ r j).trans ((sin_block m c t r _).trans (side_mod _ _))
  rfl

theorem stored_eq13 (t : Fin cfg0.N) (j : S32x1024.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G13 m c (((cfg0.win 13).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G13 m c) (o_emb13 t r d)).symm
  exact out_at13 m c t r d

theorem flushed_eq13 (t : Fin cfg0.N) (_ : (cfg0.win 13).flush t = true) :
    (dats m 0 c).flushed 13 t = ((cfg0.win 13).blk t).view.read (Elt Ideal) (G13 m c) := by
  rw [Value.flushed13]
  funext j
  rw [View.read_apply]
  exact stored_eq13 m c t j

theorem covered13 (i : S32x1024.Idx) :
    ∃ t : Fin cfg0.N, (cfg0.win 13).flush t = true ∧ i ∈ ((cfg0.win 13).blk t).view.set := by
  have h0 : (i 0).val < 32 := (i 0).isLt
  obtain ⟨t, hb⟩ := point_of ⟨(i 0).val / 32, by omega⟩
  refine ⟨t, flush0_13 t, ?_⟩
  have e := o_emb13 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 13).blk t).view.emb_mem_set _

theorem final13 : (dats m 0 c).arrAt 13 cfg0.N = G13 m c :=
  (dats m 0 c).arrAt_eq_of_cover 13 (G13 m c) (flushed_eq13 m c) covered13

/-- What result 1 is to hold. -/
def G14 : Vec Ideal S32x256 .f32 := fun i => turn (Part m c 256 1024 (by decide) (i 0)) (pos 8192) (i 1)

theorem o_emb14 (t : Fin cfg0.N) (r : Fin 32) (j : Fin 256) :
    (((cfg0.win 14).blk t).view.emb (ix2 r j) : S32x256.Idx) = ix2 ⟨32 * (blk t).val + r.val, by omega⟩ j := by
  obtain ⟨-, -, -, -, -, -, -, -, -, -, -, -, -, -, ⟨h0, h1⟩, -⟩ := idx_facts t
  funext a
  apply Fin.ext
  match a with
  | ⟨0, _⟩ => show win0_14.index t 0 * 32 + 1 * r.val = 32 * (grid0.coords t 0).val + r.val; rw [h0]; omega
  | ⟨1, _⟩ => show win0_14.index t 1 * 256 + 1 * j.val = j.val; rw [h1]; omega

theorem out_at14 (t : Fin cfg0.N) (r : Fin 32) (j : Fin 256) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G14 m c (ix2 ⟨32 * (blk t).val + r.val, by omega⟩ j) := by
  unfold_out out0_14
  rw [View.canon_unit_zero hz, View.ld_unit_zero hz, View.ld_unit_zero hz, View.ld_unit_zero hz, View.ld_unit_zero hz, View.ld_unit_zero hz]
  refine Eq.trans (spin14_at _ _ _ (Part m c 256 1024 (by decide) ⟨32 * (blk t).val + r.val, by omega⟩) (pos 8192) r j (fun i => ?_) ?_ ?_) ?_
  · exact (mm9_at _ _ r i).trans (proj_row _ _ (fun d i => (iblk m c 5 t : Vec Ideal S1024x256 .bf16) (ix2 d i)) _ _ _ r i
      (x_block m c t r) (g_block m c t) (fun d => w2_block m c t d i))
  · refine (tab10_at _ r j).trans ((cos_block m c t r _).trans ?_)
    exact congrArg (fun l => Ideal.cos (angle _ l)) (by show j.val % 128 % 32 = j.val % 32; omega)
  · exact (tab11_at _ r j).trans ((sin_block m c t r _).trans (side_mod _ _))
  rfl

theorem stored_eq14 (t : Fin cfg0.N) (j : S32x256.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G14 m c (((cfg0.win 14).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G14 m c) (o_emb14 t r d)).symm
  exact out_at14 m c t r d

theorem flushed_eq14 (t : Fin cfg0.N) (_ : (cfg0.win 14).flush t = true) :
    (dats m 0 c).flushed 14 t = ((cfg0.win 14).blk t).view.read (Elt Ideal) (G14 m c) := by
  rw [Value.flushed14]
  funext j
  rw [View.read_apply]
  exact stored_eq14 m c t j

theorem covered14 (i : S32x256.Idx) :
    ∃ t : Fin cfg0.N, (cfg0.win 14).flush t = true ∧ i ∈ ((cfg0.win 14).blk t).view.set := by
  have h0 : (i 0).val < 32 := (i 0).isLt
  obtain ⟨t, hb⟩ := point_of ⟨(i 0).val / 32, by omega⟩
  refine ⟨t, flush0_14 t, ?_⟩
  have e := o_emb14 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 14).blk t).view.emb_mem_set _

theorem final14 : (dats m 0 c).arrAt 14 cfg0.N = G14 m c :=
  (dats m 0 c).arrAt_eq_of_cover 14 (G14 m c) (flushed_eq14 m c) covered14

/-- What result 2 is to hold. -/
def G15 : Vec Ideal S32x256 .f32 := fun i => Part m c 256 1280 (by decide) (i 0) (i 1)

theorem o_emb15 (t : Fin cfg0.N) (r : Fin 32) (j : Fin 256) :
    (((cfg0.win 15).blk t).view.emb (ix2 r j) : S32x256.Idx) = ix2 ⟨32 * (blk t).val + r.val, by omega⟩ j := by
  obtain ⟨-, -, -, -, -, -, -, -, -, -, -, -, -, -, -, ⟨h0, h1⟩, -⟩ := idx_facts t
  funext a
  apply Fin.ext
  match a with
  | ⟨0, _⟩ => show win0_15.index t 0 * 32 + 1 * r.val = 32 * (grid0.coords t 0).val + r.val; rw [h0]; omega
  | ⟨1, _⟩ => show win0_15.index t 1 * 256 + 1 * j.val = j.val; rw [h1]; omega

theorem out_at15 (t : Fin cfg0.N) (r : Fin 32) (j : Fin 256) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G15 m c (ix2 ⟨32 * (blk t).val + r.val, by omega⟩ j) := by
  unfold_out out0_15
  rw [View.canon_unit_zero hz, View.ld_unit_zero hz, View.ld_unit_zero hz, View.ld_unit_zero hz]
  refine (mm15_at _ _ r j).trans ?_
  exact proj_row _ _ (fun d i => (iblk m c 6 t : Vec Ideal S1024x256 .bf16) (ix2 d i)) _ _ _ r j
    (x_block m c t r) (g_block m c t) (fun d => w3_block m c t d j)

theorem stored_eq15 (t : Fin cfg0.N) (j : S32x256.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G15 m c (((cfg0.win 15).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G15 m c) (o_emb15 t r d)).symm
  exact out_at15 m c t r d

theorem flushed_eq15 (t : Fin cfg0.N) (_ : (cfg0.win 15).flush t = true) :
    (dats m 0 c).flushed 15 t = ((cfg0.win 15).blk t).view.read (Elt Ideal) (G15 m c) := by
  rw [Value.flushed15]
  funext j
  rw [View.read_apply]
  exact stored_eq15 m c t j

theorem covered15 (i : S32x256.Idx) :
    ∃ t : Fin cfg0.N, (cfg0.win 15).flush t = true ∧ i ∈ ((cfg0.win 15).blk t).view.set := by
  have h0 : (i 0).val < 32 := (i 0).isLt
  obtain ⟨t, hb⟩ := point_of ⟨(i 0).val / 32, by omega⟩
  refine ⟨t, flush0_15 t, ?_⟩
  have e := o_emb15 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 15).blk t).view.emb_mem_set _

theorem final15 : (dats m 0 c).arrAt 15 cfg0.N = G15 m c :=
  (dats m 0 c).arrAt_eq_of_cover 15 (G15 m c) (flushed_eq15 m c) covered15

/-- What result 3 is to hold. -/
def G16 : Vec Ideal S32x256 .f32 := fun i => turn (Part m c 256 1536 (by decide) (i 0)) (pos 8192) (i 1)

theorem o_emb16 (t : Fin cfg0.N) (r : Fin 32) (j : Fin 256) :
    (((cfg0.win 16).blk t).view.emb (ix2 r j) : S32x256.Idx) = ix2 ⟨32 * (blk t).val + r.val, by omega⟩ j := by
  obtain ⟨-, -, -, -, -, -, -, -, -, -, -, -, -, -, -, -, ⟨h0, h1⟩, -⟩ := idx_facts t
  funext a
  apply Fin.ext
  match a with
  | ⟨0, _⟩ => show win0_16.index t 0 * 32 + 1 * r.val = 32 * (grid0.coords t 0).val + r.val; rw [h0]; omega
  | ⟨1, _⟩ => show win0_16.index t 1 * 256 + 1 * j.val = j.val; rw [h1]; omega

theorem out_at16 (t : Fin cfg0.N) (r : Fin 32) (j : Fin 256) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G16 m c (ix2 ⟨32 * (blk t).val + r.val, by omega⟩ j) := by
  unfold_out out0_16
  rw [View.canon_unit_zero hz, View.ld_unit_zero hz, View.ld_unit_zero hz, View.ld_unit_zero hz, View.ld_unit_zero hz, View.ld_unit_zero hz]
  refine Eq.trans (spin22_at _ _ _ (Part m c 256 1536 (by decide) ⟨32 * (blk t).val + r.val, by omega⟩) (pos 8192) r j (fun i => ?_) ?_ ?_) ?_
  · exact (mm16_at _ _ r i).trans (proj_row _ _ (fun d i => (iblk m c 7 t : Vec Ideal S1024x256 .bf16) (ix2 d i)) _ _ _ r i
      (x_block m c t r) (g_block m c t) (fun d => w4_block m c t d i))
  · refine (tab17_at _ r j).trans ((cos_block m c t r _).trans ?_)
    exact congrArg (fun l => Ideal.cos (angle _ l)) (by show j.val % 128 % 32 = j.val % 32; omega)
  · exact (tab18_at _ r j).trans ((sin_block m c t r _).trans (side_mod _ _))
  rfl

theorem stored_eq16 (t : Fin cfg0.N) (j : S32x256.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G16 m c (((cfg0.win 16).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G16 m c) (o_emb16 t r d)).symm
  exact out_at16 m c t r d

theorem flushed_eq16 (t : Fin cfg0.N) (_ : (cfg0.win 16).flush t = true) :
    (dats m 0 c).flushed 16 t = ((cfg0.win 16).blk t).view.read (Elt Ideal) (G16 m c) := by
  rw [Value.flushed16]
  funext j
  rw [View.read_apply]
  exact stored_eq16 m c t j

theorem covered16 (i : S32x256.Idx) :
    ∃ t : Fin cfg0.N, (cfg0.win 16).flush t = true ∧ i ∈ ((cfg0.win 16).blk t).view.set := by
  have h0 : (i 0).val < 32 := (i 0).isLt
  obtain ⟨t, hb⟩ := point_of ⟨(i 0).val / 32, by omega⟩
  refine ⟨t, flush0_16 t, ?_⟩
  have e := o_emb16 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 16).blk t).view.emb_mem_set _

theorem final16 : (dats m 0 c).arrAt 16 cfg0.N = G16 m c :=
  (dats m 0 c).arrAt_eq_of_cover 16 (G16 m c) (flushed_eq16 m c) covered16

/-- What result 4 is to hold. -/
def G17 : Vec Ideal S32x256 .f32 := fun i => Part m c 256 1792 (by decide) (i 0) (i 1)

theorem o_emb17 (t : Fin cfg0.N) (r : Fin 32) (j : Fin 256) :
    (((cfg0.win 17).blk t).view.emb (ix2 r j) : S32x256.Idx) = ix2 ⟨32 * (blk t).val + r.val, by omega⟩ j := by
  obtain ⟨-, -, -, -, -, -, -, -, -, -, -, -, -, -, -, -, -, ⟨h0, h1⟩, -⟩ := idx_facts t
  funext a
  apply Fin.ext
  match a with
  | ⟨0, _⟩ => show win0_17.index t 0 * 32 + 1 * r.val = 32 * (grid0.coords t 0).val + r.val; rw [h0]; omega
  | ⟨1, _⟩ => show win0_17.index t 1 * 256 + 1 * j.val = j.val; rw [h1]; omega

theorem out_at17 (t : Fin cfg0.N) (r : Fin 32) (j : Fin 256) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G17 m c (ix2 ⟨32 * (blk t).val + r.val, by omega⟩ j) := by
  unfold_out out0_17
  rw [View.canon_unit_zero hz, View.ld_unit_zero hz, View.ld_unit_zero hz, View.ld_unit_zero hz]
  refine (mm23_at _ _ r j).trans ?_
  exact proj_row _ _ (fun d i => (iblk m c 8 t : Vec Ideal S1024x256 .bf16) (ix2 d i)) _ _ _ r j
    (x_block m c t r) (g_block m c t) (fun d => w5_block m c t d j)

theorem stored_eq17 (t : Fin cfg0.N) (j : S32x256.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G17 m c (((cfg0.win 17).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G17 m c) (o_emb17 t r d)).symm
  exact out_at17 m c t r d

theorem flushed_eq17 (t : Fin cfg0.N) (_ : (cfg0.win 17).flush t = true) :
    (dats m 0 c).flushed 17 t = ((cfg0.win 17).blk t).view.read (Elt Ideal) (G17 m c) := by
  rw [Value.flushed17]
  funext j
  rw [View.read_apply]
  exact stored_eq17 m c t j

theorem covered17 (i : S32x256.Idx) :
    ∃ t : Fin cfg0.N, (cfg0.win 17).flush t = true ∧ i ∈ ((cfg0.win 17).blk t).view.set := by
  have h0 : (i 0).val < 32 := (i 0).isLt
  obtain ⟨t, hb⟩ := point_of ⟨(i 0).val / 32, by omega⟩
  refine ⟨t, flush0_17 t, ?_⟩
  have e := o_emb17 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 17).blk t).view.emb_mem_set _

theorem final17 : (dats m 0 c).arrAt 17 cfg0.N = G17 m c :=
  (dats m 0 c).arrAt_eq_of_cover 17 (G17 m c) (flushed_eq17 m c) covered17

/-- What result 5 is to hold. -/
def G18 : Vec Ideal S32x256 .f32 := fun i => turn (Part m c 256 2048 (by decide) (i 0)) (pos 8192) (i 1)

theorem o_emb18 (t : Fin cfg0.N) (r : Fin 32) (j : Fin 256) :
    (((cfg0.win 18).blk t).view.emb (ix2 r j) : S32x256.Idx) = ix2 ⟨32 * (blk t).val + r.val, by omega⟩ j := by
  obtain ⟨-, -, -, -, -, -, -, -, -, -, -, -, -, -, -, -, -, -, ⟨h0, h1⟩, -⟩ := idx_facts t
  funext a
  apply Fin.ext
  match a with
  | ⟨0, _⟩ => show win0_18.index t 0 * 32 + 1 * r.val = 32 * (grid0.coords t 0).val + r.val; rw [h0]; omega
  | ⟨1, _⟩ => show win0_18.index t 1 * 256 + 1 * j.val = j.val; rw [h1]; omega

theorem out_at18 (t : Fin cfg0.N) (r : Fin 32) (j : Fin 256) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G18 m c (ix2 ⟨32 * (blk t).val + r.val, by omega⟩ j) := by
  unfold_out out0_18
  rw [View.canon_unit_zero hz, View.ld_unit_zero hz, View.ld_unit_zero hz, View.ld_unit_zero hz, View.ld_unit_zero hz, View.ld_unit_zero hz]
  refine Eq.trans (spin31_at _ _ _ (Part m c 256 2048 (by decide) ⟨32 * (blk t).val + r.val, by omega⟩) (pos 8192) r j (fun i => ?_) ?_ ?_) ?_
  · exact (mm24_at _ _ r i).trans (proj_row _ _ (fun d i => (iblk m c 9 t : Vec Ideal S1024x256 .bf16) (ix2 d i)) _ _ _ r i
      (x_block m c t r) (g_block m c t) (fun d => w6_block m c t d i))
  · refine (tab25_at _ r j).trans ((cos_block m c t r _).trans ?_)
    exact congrArg (fun l => Ideal.cos (angle _ l)) (by show j.val % 128 % 32 = j.val % 32; omega)
  · exact (tab26_at _ r j).trans ((sin_block m c t r _).trans (side_mod _ _))
  rfl

theorem stored_eq18 (t : Fin cfg0.N) (j : S32x256.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G18 m c (((cfg0.win 18).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G18 m c) (o_emb18 t r d)).symm
  exact out_at18 m c t r d

theorem flushed_eq18 (t : Fin cfg0.N) (_ : (cfg0.win 18).flush t = true) :
    (dats m 0 c).flushed 18 t = ((cfg0.win 18).blk t).view.read (Elt Ideal) (G18 m c) := by
  rw [Value.flushed18]
  funext j
  rw [View.read_apply]
  exact stored_eq18 m c t j

theorem covered18 (i : S32x256.Idx) :
    ∃ t : Fin cfg0.N, (cfg0.win 18).flush t = true ∧ i ∈ ((cfg0.win 18).blk t).view.set := by
  have h0 : (i 0).val < 32 := (i 0).isLt
  obtain ⟨t, hb⟩ := point_of ⟨(i 0).val / 32, by omega⟩
  refine ⟨t, flush0_18 t, ?_⟩
  have e := o_emb18 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 18).blk t).view.emb_mem_set _

theorem final18 : (dats m 0 c).arrAt 18 cfg0.N = G18 m c :=
  (dats m 0 c).arrAt_eq_of_cover 18 (G18 m c) (flushed_eq18 m c) covered18

/-- What result 6 is to hold. -/
def G19 : Vec Ideal S32x256 .f32 := fun i => Part m c 256 2304 (by decide) (i 0) (i 1)

theorem o_emb19 (t : Fin cfg0.N) (r : Fin 32) (j : Fin 256) :
    (((cfg0.win 19).blk t).view.emb (ix2 r j) : S32x256.Idx) = ix2 ⟨32 * (blk t).val + r.val, by omega⟩ j := by
  obtain ⟨-, -, -, -, -, -, -, -, -, -, -, -, -, -, -, -, -, -, -, ⟨h0, h1⟩, -⟩ := idx_facts t
  funext a
  apply Fin.ext
  match a with
  | ⟨0, _⟩ => show win0_19.index t 0 * 32 + 1 * r.val = 32 * (grid0.coords t 0).val + r.val; rw [h0]; omega
  | ⟨1, _⟩ => show win0_19.index t 1 * 256 + 1 * j.val = j.val; rw [h1]; omega

theorem out_at19 (t : Fin cfg0.N) (r : Fin 32) (j : Fin 256) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G19 m c (ix2 ⟨32 * (blk t).val + r.val, by omega⟩ j) := by
  unfold_out out0_19
  rw [View.canon_unit_zero hz, View.ld_unit_zero hz, View.ld_unit_zero hz, View.ld_unit_zero hz]
  refine (mm32_at _ _ r j).trans ?_
  exact proj_row _ _ (fun d i => (iblk m c 10 t : Vec Ideal S1024x256 .bf16) (ix2 d i)) _ _ _ r j
    (x_block m c t r) (g_block m c t) (fun d => w7_block m c t d j)

theorem stored_eq19 (t : Fin cfg0.N) (j : S32x256.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G19 m c (((cfg0.win 19).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G19 m c) (o_emb19 t r d)).symm
  exact out_at19 m c t r d

theorem flushed_eq19 (t : Fin cfg0.N) (_ : (cfg0.win 19).flush t = true) :
    (dats m 0 c).flushed 19 t = ((cfg0.win 19).blk t).view.read (Elt Ideal) (G19 m c) := by
  rw [Value.flushed19]
  funext j
  rw [View.read_apply]
  exact stored_eq19 m c t j

theorem covered19 (i : S32x256.Idx) :
    ∃ t : Fin cfg0.N, (cfg0.win 19).flush t = true ∧ i ∈ ((cfg0.win 19).blk t).view.set := by
  have h0 : (i 0).val < 32 := (i 0).isLt
  obtain ⟨t, hb⟩ := point_of ⟨(i 0).val / 32, by omega⟩
  refine ⟨t, flush0_19 t, ?_⟩
  have e := o_emb19 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 19).blk t).view.emb_mem_set _

theorem final19 : (dats m 0 c).arrAt 19 cfg0.N = G19 m c :=
  (dats m 0 c).arrAt_eq_of_cover 19 (G19 m c) (flushed_eq19 m c) covered19

/-- What result 7 is to hold. -/
def G20 : Vec Ideal S32x128 .f32 := fun i => share (proj (X m c (i 0)) (Gain m c) (fun d => filled (fun k => Wt m c d ⟨2560 + k.val, by omega⟩) (i 1)) + filled (Bias m c) (i 1))

theorem o_emb20 (t : Fin cfg0.N) (r : Fin 32) (j : Fin 128) :
    (((cfg0.win 20).blk t).view.emb (ix2 r j) : S32x128.Idx) = ix2 ⟨32 * (blk t).val + r.val, by omega⟩ j := by
  obtain ⟨-, -, -, -, -, -, -, -, -, -, -, -, -, -, -, -, -, -, -, -, ⟨h0, h1⟩⟩ := idx_facts t
  funext a
  apply Fin.ext
  match a with
  | ⟨0, _⟩ => show win0_20.index t 0 * 32 + 1 * r.val = 32 * (grid0.coords t 0).val + r.val; rw [h0]; omega
  | ⟨1, _⟩ => show win0_20.index t 1 * 128 + 1 * j.val = j.val; rw [h1]; omega

theorem out_at20 (t : Fin cfg0.N) (r : Fin 32) (j : Fin 128) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G20 m c (ix2 ⟨32 * (blk t).val + r.val, by omega⟩ j) := by
  unfold_out out0_20
  rw [View.canon_unit_zero hz, View.ld_unit_zero hz, View.ld_unit_zero hz, View.ld_unit_zero hz, View.ld_unit_zero hz]
  refine (gate_at _ _ _ r j).trans ?_
  refine congrArg share (congrArg₂ (· + ·) ?_ (bias_block m c t j))
  exact proj_row _ _ (fun d i => (iblk m c 11 t : Vec Ideal S1024x128 .bf16) (ix2 d i)) _ _ _ r j
    (x_block m c t r) (g_block m c t) (fun d => wg_block m c t d j)

theorem stored_eq20 (t : Fin cfg0.N) (j : S32x128.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G20 m c (((cfg0.win 20).blk t).view.emb j) := by
  have hj : j = ix2 (j 0) (j 1) := by
    funext a
    match a with
    | ⟨0, _⟩ => rfl
    | ⟨1, _⟩ => rfl
  generalize (j 0 : Fin 32) = r at hj
  generalize (j 1 : Fin 128) = d at hj
  subst hj
  refine Eq.trans ?_ (congrArg (G20 m c) (o_emb20 t r d)).symm
  exact out_at20 m c t r d

theorem flushed_eq20 (t : Fin cfg0.N) (_ : (cfg0.win 20).flush t = true) :
    (dats m 0 c).flushed 20 t = ((cfg0.win 20).blk t).view.read (Elt Ideal) (G20 m c) := by
  rw [Value.flushed20]
  funext j
  rw [View.read_apply]
  exact stored_eq20 m c t j

theorem covered20 (i : S32x128.Idx) :
    ∃ t : Fin cfg0.N, (cfg0.win 20).flush t = true ∧ i ∈ ((cfg0.win 20).blk t).view.set := by
  have h0 : (i 0).val < 32 := (i 0).isLt
  obtain ⟨t, hb⟩ := point_of ⟨(i 0).val / 32, by omega⟩
  refine ⟨t, flush0_20 t, ?_⟩
  have e := o_emb20 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 20).blk t).view.emb_mem_set _

theorem final20 : (dats m 0 c).arrAt 20 cfg0.N = G20 m c :=
  (dats m 0 c).arrAt_eq_of_cover 20 (G20 m c) (flushed_eq20 m c) covered20

/-- The kernel's run: queries, keys and values of the three branches, gates, and the arguments as they were. -/
theorem run : θ_run defs (onTc (τ := τ) (main (F := Ideal))) ⟨m, fun _ => 0, ρ⟩ fun r => ∀ c : Dev nD,
      r.2.mem ((c : Thread nD τ).loc main_v33_0) = G13 m c
      ∧ r.2.mem ((c : Thread nD τ).loc main_v33_1) = G14 m c
      ∧ r.2.mem ((c : Thread nD τ).loc main_v33_2) = G15 m c
      ∧ r.2.mem ((c : Thread nD τ).loc main_v33_3) = G16 m c
      ∧ r.2.mem ((c : Thread nD τ).loc main_v33_4) = G17 m c
      ∧ r.2.mem ((c : Thread nD τ).loc main_v33_5) = G18 m c
      ∧ r.2.mem ((c : Thread nD τ).loc main_v33_6) = G19 m c
      ∧ r.2.mem ((c : Thread nD τ).loc main_v33_7) = G20 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final13 m c), (h c).2.1.trans (final14 m c), (h c).2.2.1.trans (final15 m c), (h c).2.2.2.1.trans (final16 m c), (h c).2.2.2.2.1.trans (final17 m c), (h c).2.2.2.2.2.1.trans (final18 m c), (h c).2.2.2.2.2.2.1.trans (final19 m c), (h c).2.2.2.2.2.2.2.1.trans (final20 m c), (h c).2.2.2.2.2.2.2.2⟩) (Value.run_blocks m ρ)

end Cert.NsaNextIdeal.Array

end
-- ==== Proof.NsaNextReference.lean ====
/- The reference's projection into the sparse attention for the tokens to come, read at an index. -/
module

public import proofs.«01_k».proof.Proof.Gen.NsaNextRefIdeal.Read
public import proofs.«01_k».proof.Proof.Rows
public import proofs.«01_k».proof.Proof.Rope
public import proofs.«01_k».proof.Proof.Share
public import Idealize.ShloMosaic.Lib.Pointwise

@[expose] public section

set_option maxRecDepth 16384

noncomputable section

namespace Cert.NsaNextRefIdeal.Reference

open Idealize.ShloMosaic Idealize.ShloMosaic.TcCoe Idealize.ShloMosaic.Tactic
open Idealize.SL Idealize.SL.Sem
open Cert.NsaNextRefIdeal Cert.NsaNextRefIdeal.Gen Cert.NsaNextRefIdeal.Read Cert.Rows Cert.Rope Cert.Share

variable (x0 : Vec Ideal S32x1x1024 .f32) (x1 : Vec Ideal S1024 .f32) (x2 : Vec Ideal S1024x2608 .f32) (x3 : Vec Ideal S48 .f32)

theorem norm_at (b : Fin 32) (p : Fin 1) (d : Fin 1024) :
    val_main_v12 (F := Ideal) x0 x1 (ix3 b p d) = unit (fun k => x0 (ix3 b p k)) (fun k => x1 (ix1 k)) d := by
  obtain rfl : p = 0 := Subsingleton.elim _ _
  pointwise [val_main_v12, val_main_v9, val_main_v11, val_main_v8, val_main_v10, val_main_v7, val_main_v6, val_main_v4, val_main_v5, val_main_v2, val_main_v3, val_main_cst_1, val_main_v1, val_main_cst_0, val_main_v0, val_main_cst]
  rfl

/-- A normed row against column `i` of the weights. -/
def col (b : Fin 32) (p : Fin 1) (i : Fin 2608) : EReal :=
  proj (fun k => x0 (ix3 b p k)) (fun k => x1 (ix1 k)) (fun d => x2 (ix2 d i))

theorem column (b : Fin 32) (p : Fin 1) (i : Fin 2560) (j : Fin 2608) (h : i.val = j.val) :
    val_main_v17 (F := Ideal) x0 x1 x2 (ix3 b p i) = col x0 x1 x2 b p j := by
  obtain ⟨j, hj⟩ := j
  dsimp only at h
  subst h
  obtain rfl : p = 0 := Subsingleton.elim _ _
  pointwise [val_main_v17, val_main_v16]
  exact Finset.sum_congr rfl fun d _ => congrArg₂ (· * ·) (norm_at x0 x1 b _ d) rfl

theorem q_at (r : Fin 32) (j : Fin 1024) :
    val_main_v181 (F := Ideal) x0 x1 x2 (ix2 r j)
      = turn (fun i : Fin 1024 => col x0 x1 x2 ⟨r.val, by omega⟩ 0 ⟨0 + i.val, by omega⟩)
        (pos 8192) j := by
  pointwise [val_main_v181, val_main_v51, val_main_v43, val_main_v50, val_main_v39, val_main_v42, val_main_v46, val_main_v49, val_main_v35, val_main_v38, val_main_v36, val_main_v41, val_main_v45, val_main_v48, val_main_v19, val_main_v37, val_main_v40, val_main_v44, val_main_v47, val_main_v18, val_main_v32, val_main_v34, val_main_v31, val_main_v33, val_main_v30, val_main_v29, val_main_v28, val_main_v27, val_main_v25, val_main_v26, val_main_v24, val_main_v23, val_main_v15, val_main_cst_3, val_main_v21, val_main_v22, val_main_v14, val_main_v13, val_main_v20, val_main_cst_2, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem kc_at (r : Fin 32) (j : Fin 256) :
    val_main_v175 (F := Ideal) x0 x1 x2 (ix2 r j)
      = turn (fun i : Fin 256 => col x0 x1 x2 ⟨r.val, by omega⟩ 0 ⟨1024 + i.val, by omega⟩)
        (pos 8192) j := by
  pointwise [val_main_v175, val_main_v87, val_main_v79, val_main_v86, val_main_v75, val_main_v78, val_main_v82, val_main_v85, val_main_v71, val_main_v74, val_main_v72, val_main_v77, val_main_v81, val_main_v84, val_main_v55, val_main_v73, val_main_v76, val_main_v80, val_main_v83, val_main_v54, val_main_v68, val_main_v70, val_main_v53, val_main_v67, val_main_v69, val_main_v52, val_main_v66, val_main_v65, val_main_v64, val_main_v63, val_main_v61, val_main_v62, val_main_v60, val_main_v59, val_main_v15, val_main_cst_5, val_main_v57, val_main_v58, val_main_v14, val_main_v13, val_main_v56, val_main_cst_4, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem vc_at (r : Fin 32) (j : Fin 256) :
    val_main_v176 (F := Ideal) x0 x1 x2 (ix2 r j)
      = col x0 x1 x2 ⟨r.val, by omega⟩ 0 ⟨1280 + j.val, by omega⟩ := by
  pointwise [val_main_v176, val_main_v89, val_main_v88, val_main_v53, val_main_v52]
  exact column x0 x1 x2 _ _ _ _ (by dsimp only <;> omega)

theorem ks_at (r : Fin 32) (j : Fin 256) :
    val_main_v177 (F := Ideal) x0 x1 x2 (ix2 r j)
      = turn (fun i : Fin 256 => col x0 x1 x2 ⟨r.val, by omega⟩ 0 ⟨1536 + i.val, by omega⟩)
        (pos 8192) j := by
  pointwise [val_main_v177, val_main_v123, val_main_v115, val_main_v122, val_main_v111, val_main_v114, val_main_v118, val_main_v121, val_main_v107, val_main_v110, val_main_v108, val_main_v113, val_main_v117, val_main_v120, val_main_v91, val_main_v109, val_main_v112, val_main_v116, val_main_v119, val_main_v90, val_main_v104, val_main_v106, val_main_v53, val_main_v103, val_main_v105, val_main_v52, val_main_v102, val_main_v101, val_main_v100, val_main_v99, val_main_v97, val_main_v98, val_main_v96, val_main_v95, val_main_v15, val_main_cst_7, val_main_v93, val_main_v94, val_main_v14, val_main_v13, val_main_v92, val_main_cst_6, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem vs_at (r : Fin 32) (j : Fin 256) :
    val_main_v178 (F := Ideal) x0 x1 x2 (ix2 r j)
      = col x0 x1 x2 ⟨r.val, by omega⟩ 0 ⟨1792 + j.val, by omega⟩ := by
  pointwise [val_main_v178, val_main_v125, val_main_v124, val_main_v53, val_main_v52]
  exact column x0 x1 x2 _ _ _ _ (by dsimp only <;> omega)

theorem kw_at (r : Fin 32) (j : Fin 256) :
    val_main_v179 (F := Ideal) x0 x1 x2 (ix2 r j)
      = turn (fun i : Fin 256 => col x0 x1 x2 ⟨r.val, by omega⟩ 0 ⟨2048 + i.val, by omega⟩)
        (pos 8192) j := by
  pointwise [val_main_v179, val_main_v159, val_main_v151, val_main_v158, val_main_v147, val_main_v150, val_main_v154, val_main_v157, val_main_v143, val_main_v146, val_main_v144, val_main_v149, val_main_v153, val_main_v156, val_main_v127, val_main_v145, val_main_v148, val_main_v152, val_main_v155, val_main_v126, val_main_v140, val_main_v142, val_main_v53, val_main_v139, val_main_v141, val_main_v52, val_main_v138, val_main_v137, val_main_v136, val_main_v135, val_main_v133, val_main_v134, val_main_v132, val_main_v131, val_main_v15, val_main_cst_9, val_main_v129, val_main_v130, val_main_v14, val_main_v13, val_main_v128, val_main_cst_8, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

theorem vw_at (r : Fin 32) (j : Fin 256) :
    val_main_v180 (F := Ideal) x0 x1 x2 (ix2 r j)
      = col x0 x1 x2 ⟨r.val, by omega⟩ 0 ⟨2304 + j.val, by omega⟩ := by
  pointwise [val_main_v180, val_main_v161, val_main_v160, val_main_v53, val_main_v52]
  exact column x0 x1 x2 _ _ _ _ (by dsimp only <;> omega)

theorem gate_at (r : Fin 32) (n : Fin 128) :
    val_main_v182 (F := Ideal) x0 x1 x2 x3 (ix2 r n)
      = share (proj (fun k => x0 (ix3 ⟨r.val, by omega⟩ 0 k)) (fun k => x1 (ix1 k)) (fun d => filled (fun i => x2 (ix2 d ⟨2560 + i.val, by omega⟩)) n) + filled (fun i => x3 (ix1 i)) n) := by
  pointwise [val_main_v182, val_main_v174, val_main_v173, val_main_v172, val_main_cst_13, val_main_v171, val_main_v170, val_main_cst_12, val_main_v169, val_main_v168, val_main_v164, val_main_v167, val_main_v163, val_main_v166, val_main_v162, val_main_call0_v0, val_main_v165, val_main_c_10, val_main_call1_v0, val_main_c_11]
  refine congrArg share (congrArg₂ (· + ·) (Finset.sum_congr rfl fun d _ => ?_) rfl)
  exact congrArg₂ (· * ·) (norm_at x0 x1 _ _ d) rfl

end Cert.NsaNextRefIdeal.Reference

end
-- ==== Proof.MixArray.lean ====
/- The array the projection out of the sparse attention leaves: the residual plus the product of the summed branches and the weights. -/
module

public import proofs.«01_k».proof.Proof.Gen.MixIdeal.Value
public import Idealize.ShloMosaic.Lib.Pointwise

@[expose] public section

set_option maxRecDepth 16384

noncomputable section

namespace Cert.MixIdeal.Array

open Idealize.ShloMosaic Idealize.ShloMosaic.TcCoe Idealize.ShloMosaic.Tactic
open Idealize.SL Idealize.SL.Sem
open Idealize.ShloMosaic.Pipeline (Dat)
open Cert.MixIdeal Cert.MixIdeal.Gen

/-! ## One grid point -/

theorem pay_at (v0 v1 v3 v5 : Vec Ideal S512x1024 .f32) (v7 : Vec Ideal S1024x1024 .bf16) (r : Fin 512) (j : Fin 1024) :
    k0_pay1 (F := Ideal) v0 v1 v3 v5 v7 (ix2 r j)
      = v5 (ix2 r j) + ∑ k : Fin 1024, (v0 (ix2 r k) + v1 (ix2 r k) + v3 (ix2 r k)) * v7 (ix2 k j) := by
  pointwise [k0_pay1]

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def A (r : Fin 16384) (k : Fin 1024) : EReal :=
  (m ((c : Thread nD τ).loc main_arg0) : Vec Ideal S16384x1024 .f32) (ix2 r k)

def B (r : Fin 16384) (k : Fin 1024) : EReal :=
  (m ((c : Thread nD τ).loc main_arg1) : Vec Ideal S16384x1024 .f32) (ix2 r k)

def C (r : Fin 16384) (k : Fin 1024) : EReal :=
  (m ((c : Thread nD τ).loc main_arg2) : Vec Ideal S16384x1024 .f32) (ix2 r k)

def Res (r : Fin 16384) (k : Fin 1024) : EReal :=
  (m ((c : Thread nD τ).loc main_arg4) : Vec Ideal S16384x1024 .f32) (ix2 r k)

def Wt (k j : Fin 1024) : EReal := (m ((c : Thread nD τ).loc main_arg3) : Vec Ideal S1024x1024 .f32) (ix2 k j)

theorem w_at (k j : Fin 1024) : (V m c main_v0 : Vec Ideal S1024x1024 .bf16) (ix2 k j) = Wt m c k j := by
  entry_read
  pointwise [Wt]

/-! ## The blocks -/

theorem idx_facts : ∀ t : Fin cfg0.N,
    (win0_0.index t 0 = (grid0.coords t 0).val ∧ win0_0.index t 1 = 0)
    ∧ (win0_1.index t 0 = (grid0.coords t 0).val ∧ win0_1.index t 1 = 0)
    ∧ (win0_2.index t 0 = (grid0.coords t 0).val ∧ win0_2.index t 1 = 0)
    ∧ (win0_3.index t 0 = 0 ∧ win0_3.index t 1 = 0)
    ∧ (win0_4.index t 0 = (grid0.coords t 0).val ∧ win0_4.index t 1 = 0)
    ∧ (win0_5.index t 0 = (grid0.coords t 0).val ∧ win0_5.index t 1 = 0) :=
  (by decide +kernel : ∀ t : Fin grid0.N, _)

/-- The row block of a grid point. -/
abbrev blk (t : Fin cfg0.N) : Fin 32 := grid0.coords t 0

theorem a_block (t : Fin cfg0.N) (r : Fin 512) (j : Fin 1024) :
    (iblk m c 0 t : Vec Ideal S512x1024 .f32) (ix2 r j) = A m c ⟨512 * (blk t).val + r.val, by omega⟩ j := by
  obtain ⟨⟨h0, h1⟩, -⟩ := idx_facts t
  have e : (((cfg0.win 0).blk t).view.emb (ix2 r j) : S16384x1024.Idx) = ix2 ⟨512 * (blk t).val + r.val, by omega⟩ j := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * j.val = j.val; rw [h1]; omega
  show (V m c main_arg0 : Vec Ideal S16384x1024 .f32) (((cfg0.win 0).blk t).view.emb (ix2 r j)) = _
  rw [e, V_main_arg0]
  rfl

theorem b_block (t : Fin cfg0.N) (r : Fin 512) (j : Fin 1024) :
    (iblk m c 1 t : Vec Ideal S512x1024 .f32) (ix2 r j) = B m c ⟨512 * (blk t).val + r.val, by omega⟩ j := by
  obtain ⟨-, ⟨h0, h1⟩, -⟩ := idx_facts t
  have e : (((cfg0.win 1).blk t).view.emb (ix2 r j) : S16384x1024.Idx) = ix2 ⟨512 * (blk t).val + r.val, by omega⟩ j := by
    funext a
    apply Fin.ext
    match a with
    | ⟨0, _⟩ => show win0_1.index t 0 * 512 + 1 * r.val = 512 * (grid0.coords t 0).val + r.val; rw [h0]; omega
    | ⟨1, _⟩ => show win0_1.index t 1 * 1024 + 1 * j.val = j.val; rw [h1]; omega
  show (V m c main_arg1 : Vec Ideal S16384x1024 .f32) (((cfg0.win 1).blk t).view.emb (ix2 r j)) = _
  rw [e, V_main_arg1]
  rfl

theorem c_block (t : Fin cfg0.N) (r : Fin 512) (j : Fin 1024) :
    (iblk m c 2 t : Vec Ideal S512x1024 .f32) (ix2 r j) = C m c ⟨512 * (blk t).val + r.val, by omega⟩ j := by
  obtain ⟨-, -, ⟨h0, h1⟩, -⟩ := idx_facts t
  have e : (((cfg0.win 2).blk t).view.emb (ix2 r j) : S16384x1024.Idx) = ix2 ⟨512 * (blk t).val + r.val, by omega⟩ j := by
    funext a
    apply Fin.ext
    match a with
    | ⟨0, _⟩ => show win0_2.index t 0 * 512 + 1 * r.val = 512 * (grid0.coords t 0).val + r.val; rw [h0]; omega
    | ⟨1, _⟩ => show win0_2.index t 1 * 1024 + 1 * j.val = j.val; rw [h1]; omega
  show (V m c main_arg2 : Vec Ideal S16384x1024 .f32) (((cfg0.win 2).blk t).view.emb (ix2 r j)) = _
  rw [e, V_main_arg2]
  rfl

theorem w_block (t : Fin cfg0.N) (d : Fin 1024) (j : Fin 1024) :
    (iblk m c 3 t : Vec Ideal S1024x1024 .bf16) (ix2 d j) = Wt m c d j := by
  obtain ⟨-, -, -, ⟨h0, h1⟩, -⟩ := idx_facts t
  have e : (((cfg0.win 3).blk t).view.emb (ix2 d j) : S1024x1024.Idx) = ix2 d j := by
    funext a
    apply Fin.ext
    match a with
    | ⟨0, _⟩ => show win0_3.index t 0 * 1024 + 1 * d.val = d.val; rw [h0]; omega
    | ⟨1, _⟩ => show win0_3.index t 1 * 1024 + 1 * j.val = j.val; rw [h1]; omega
  show (V m c main_v0 : Vec Ideal S1024x1024 .bf16) (((cfg0.win 3).blk t).view.emb (ix2 d j)) = _
  rw [e, w_at]

theorem res_block (t : Fin cfg0.N) (r : Fin 512) (j : Fin 1024) :
    (iblk m c 4 t : Vec Ideal S512x1024 .f32) (ix2 r j) = Res m c ⟨512 * (blk t).val + r.val, by omega⟩ j := by
  obtain ⟨-, -, -, -, ⟨h0, h1⟩, -⟩ := idx_facts t
  have e : (((cfg0.win 4).blk t).view.emb (ix2 r j) : S16384x1024.Idx) = ix2 ⟨512 * (blk t).val + r.val, by omega⟩ j := by
    funext a
    apply Fin.ext
    match a with
    | ⟨0, _⟩ => show win0_4.index t 0 * 512 + 1 * r.val = 512 * (grid0.coords t 0).val + r.val; rw [h0]; omega
    | ⟨1, _⟩ => show win0_4.index t 1 * 1024 + 1 * j.val = j.val; rw [h1]; omega
  show (V m c main_arg4 : Vec Ideal S16384x1024 .f32) (((cfg0.win 4).blk t).view.emb (ix2 r j)) = _
  rw [e, V_main_arg4]
  rfl

theorem point_of : ∀ b : Fin 32, ∃ t : Fin cfg0.N, (grid0.coords t 0).val = b.val :=
  (by decide +kernel : ∀ b : Fin 32, ∃ t : Fin grid0.N, _)

/-! ## The stored blocks and the arrays -/

/-- What result 0 is to hold. -/
def G5 : Vec Ideal S16384x1024 .f32 := fun i => Res m c (i 0) (i 1) + ∑ k : Fin 1024, (A m c (i 0) k + B m c (i 0) k + C m c (i 0) k) * Wt m c k (i 1)

theorem o_emb5 (t : Fin cfg0.N) (r : Fin 512) (j : Fin 1024) :
    (((cfg0.win 5).blk t).view.emb (ix2 r j) : S16384x1024.Idx) = ix2 ⟨512 * (blk t).val + r.val, by omega⟩ j := by
  obtain ⟨-, -, -, -, -, ⟨h0, h1⟩⟩ := idx_facts t
  funext a
  apply Fin.ext
  match a with
  | ⟨0, _⟩ => show win0_5.index t 0 * 512 + 1 * r.val = 512 * (grid0.coords t 0).val + r.val; rw [h0]; omega
  | ⟨1, _⟩ => show win0_5.index t 1 * 1024 + 1 * j.val = j.val; rw [h1]; omega

theorem out_at5 (t : Fin cfg0.N) (r : Fin 512) (j : Fin 1024) :
    out0_5 (iblk m c 0 t) (iblk m c 1 t) (iblk m c 2 t) (iblk m c 3 t) (iblk m c 4 t) (ix2 r j)
      = G5 m c (ix2 ⟨512 * (blk t).val + r.val, by omega⟩ j) := by
  unfold out0_5
  rw [View.canon_unit_zero hz, View.ld_unit_zero hz, View.ld_unit_zero hz, View.ld_unit_zero hz, View.ld_unit_zero hz, View.ld_unit_zero hz]
  refine (pay_at _ _ _ _ _ r j).trans ?_
  refine congrArg₂ (· + ·) (res_block m c t r j) (Finset.sum_congr rfl fun k _ => ?_)
  exact congrArg₂ (· * ·) (congrArg₂ (· + ·) (congrArg₂ (· + ·) (a_block m c t r k) (b_block m c t r k)) (c_block m c t r k)) (w_block m c t k j)

theorem stored_eq5 (t : Fin cfg0.N) (j : S512x1024.Idx) :
    out0_5 (iblk m c 0 t) (iblk m c 1 t) (iblk m c 2 t) (iblk m c 3 t) (iblk m c 4 t) j
      = G5 m c (((cfg0.win 5).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G5 m c) (o_emb5 t r d)).symm
  exact out_at5 m c t r d

theorem flushed_eq5 (t : Fin cfg0.N) (_ : (cfg0.win 5).flush t = true) :
    (dats m 0 c).flushed 5 t = ((cfg0.win 5).blk t).view.read (Elt Ideal) (G5 m c) := by
  rw [Value.flushed5]
  funext j
  rw [View.read_apply]
  exact stored_eq5 m c t j

theorem covered5 (i : S16384x1024.Idx) :
    ∃ t : Fin cfg0.N, (cfg0.win 5).flush t = true ∧ i ∈ ((cfg0.win 5).blk t).view.set := by
  have h0 : (i 0).val < 16384 := (i 0).isLt
  obtain ⟨t, hb⟩ := point_of ⟨(i 0).val / 512, by omega⟩
  refine ⟨t, flush0_5 t, ?_⟩
  have e := o_emb5 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 5).blk t).view.emb_mem_set _

theorem final5 : (dats m 0 c).arrAt 5 cfg0.N = G5 m c :=
  (dats m 0 c).arrAt_eq_of_cover 5 (G5 m c) (flushed_eq5 m c) covered5

/-- The kernel's run: the residual plus the product, the arguments as they were. -/
theorem run : θ_run defs (onTc (τ := τ) (main (F := Ideal))) ⟨m, fun _ => 0, ρ⟩ fun r => ∀ c : Dev nD,
      r.2.mem ((c : Thread nD τ).loc main_v1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2⟩) (Value.run_blocks m ρ)

end Cert.MixIdeal.Array

end
-- ==== Proof.MixReference.lean ====
/- The reference's projection out of the sparse attention, read at an index. -/
module

public import proofs.«01_k».proof.Proof.Gen.MixRefIdeal.Read
public import Idealize.ShloMosaic.Lib.Pointwise

@[expose] public section

set_option maxRecDepth 16384

noncomputable section

namespace Cert.MixRefIdeal.Reference

open Idealize.ShloMosaic Idealize.ShloMosaic.TcCoe Idealize.ShloMosaic.Tactic
open Idealize.SL Idealize.SL.Sem
open Cert.MixRefIdeal Cert.MixRefIdeal.Gen Cert.MixRefIdeal.Read

theorem result_at (x0 x1 x2 : Vec Ideal S16384x1024 .f32) (x3 : Vec Ideal S1024x1024 .f32) (x4 : Vec Ideal S16384x1024 .f32)
    (r : Fin 16384) (j : Fin 1024) :
    val_main_v3 (F := Ideal) x0 x1 x2 x3 x4 (ix2 r j)
      = x4 (ix2 r j) + ∑ k : Fin 1024, (x0 (ix2 r k) + x1 (ix2 r k) + x2 (ix2 r k)) * x3 (ix2 k j) := by
  rw [val_main_v3_apply, val_main_v2_apply]
  refine congrArg (x4 (ix2 r j) + ·) (Finset.sum_congr rfl fun k _ => ?_)
  have hl : lidx_main_v2 (ix2 r j) k = ix2 r k := funext fun a => by
    match a with
    | ⟨0, _⟩ => rfl
    | ⟨1, _⟩ => rfl
  have hr : ridx_main_v2 (ix2 r j) k = ix2 k j := funext fun a => by
    match a with
    | ⟨0, _⟩ => rfl
    | ⟨1, _⟩ => rfl
  rw [hl, hr, val_main_v1_apply, val_main_v0_apply]
  rfl

end Cert.MixRefIdeal.Reference

end
-- ==== Proof.NormArray.lean ====
/- The array the final norm leaves on the prompt. -/
module

public import proofs.«01_k».proof.Proof.Gen.NormIdeal.Value
public import proofs.«01_k».proof.Proof.Rows
public import Idealize.ShloMosaic.Lib.Pointwise

@[expose] public section

set_option maxRecDepth 16384

noncomputable section

namespace Cert.NormIdeal.Array

open Idealize.ShloMosaic Idealize.ShloMosaic.TcCoe Idealize.ShloMosaic.Tactic
open Idealize.SL Idealize.SL.Sem
open Idealize.ShloMosaic.Pipeline (Dat)
open Cert.NormIdeal Cert.NormIdeal.Gen Cert.Rows

/-! ## One grid point -/

theorem norm_at (v0 : Vec Ideal S512x1024 .f32) (v1 : Vec Ideal S1x1024 .f32) (r : Fin 512) (d : Fin 1024) :
    k0_pay1 (F := Ideal) v0 v1 (ix2 r d) = unit (fun k => v0 (ix2 r k)) (fun k => v1 (ix2 0 k)) d := by
  pointwise [k0_pay1]
  rfl

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 16384) (k : Fin 1024) : EReal :=
  (m ((c : Thread nD τ).loc main_arg0) : Vec Ideal S16384x1024 .f32) (ix2 r k)

def Gain (k : Fin 1024) : EReal := (m ((c : Thread nD τ).loc main_arg1) : Vec Ideal S1024 .f32) (ix1 k)

theorem gain_at (k : Fin 1024) : (V m c main_v0 : Vec Ideal S1x1024 .f32) (ix2 0 k) = Gain m c k := by
  entry_read
  pointwise [Gain]

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0) :=
  (by decide +kernel : ∀ t : Fin grid0.N, _)

/-- The row block of a grid point. -/
abbrev blk (t : Fin cfg0.N) : Fin 32 := grid0.coords t 0

theorem x_block (t : Fin cfg0.N) (r : Fin 512) (j : Fin 1024) :
    (iblk m c 0 t : Vec Ideal S512x1024 .f32) (ix2 r j) = X m c ⟨512 * (blk t).val + r.val, by omega⟩ j := by
  obtain ⟨⟨h0, h1⟩, -⟩ := idx_facts t
  have e : (((cfg0.win 0).blk t).view.emb (ix2 r j) : S16384x1024.Idx) = ix2 ⟨512 * (blk t).val + r.val, by omega⟩ j := by
    funext a
    apply Fin.ext
    match a with
    | ⟨0, _⟩ => show win0_0.index t 0 * 512 + 1 * r.val = 512 * (grid0.coords t 0).val + r.val; rw [h0]; omega
    | ⟨1, _⟩ => show win0_0.index t 1 * 1024 + 1 * j.val = j.val; rw [h1]; omega
  show (V m c main_arg0 : Vec Ideal S16384x1024 .f32) (((cfg0.win 0).blk t).view.emb (ix2 r j)) = _
  rw [e, V_main_arg0]
  rfl

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v0 : Vec Ideal S1x1024 .f32) (((cfg0.win 1).blk t).view.emb (ix2 0 j)) = _
  rw [e, gain_at]

theorem point_of : ∀ b : Fin 32, ∃ t : Fin cfg0.N, (grid0.coords t 0).val = b.val :=
  (by decide +kernel : ∀ b : Fin 32, ∃ t : Fin grid0.N, _)

/-! ## The stored blocks and the arrays -/

/-- What result 0 is to hold. -/
def G2 : Vec Ideal S16384x1024 .f32 := fun i => unit (X m c (i 0)) (Gain m c) (i 1)

theorem o_emb2 (t : Fin cfg0.N) (r : Fin 512) (j : Fin 1024) :
    (((cfg0.win 2).blk t).view.emb (ix2 r j) : S16384x1024.Idx) = ix2 ⟨512 * (blk t).val + r.val, by omega⟩ j := by
  obtain ⟨-, -, ⟨h0, h1⟩⟩ := idx_facts t
  funext a
  apply Fin.ext
  match a with
  | ⟨0, _⟩ => show win0_2.index t 0 * 512 + 1 * r.val = 512 * (grid0.coords t 0).val + r.val; rw [h0]; omega
  | ⟨1, _⟩ => show win0_2.index t 1 * 1024 + 1 * j.val = j.val; rw [h1]; omega

theorem out_at2 (t : Fin cfg0.N) (r : Fin 512) (j : Fin 1024) :
    out0_2 (iblk m c 0 t) (iblk m c 1 t) (ix2 r j)
      = G2 m c (ix2 ⟨512 * (blk t).val + r.val, by omega⟩ j) := by
  unfold out0_2
  rw [View.canon_unit_zero hz, View.ld_unit_zero hz, View.ld_unit_zero hz]
  refine (norm_at _ _ r j).trans ?_
  exact congrArg₂ (fun x g => unit x g j) (funext (x_block m c t r)) (funext (g_block m c t))

theorem stored_eq2 (t : Fin cfg0.N) (j : S512x1024.Idx) :
    out0_2 (iblk m c 0 t) (iblk m c 1 t) j
      = G2 m c (((cfg0.win 2).blk t).view.emb j) := by
  have hj : j = ix2 (j 0) (j 1) := by
    funext a
    match a with
    | ⟨0, _⟩ => rfl
    | ⟨1, _⟩ => rfl
  generalize (j 0 : Fin 512) = r at hj
  generalize (j 1 : Fin 1024) = d at hj
  subst hj
  refine Eq.trans ?_ (congrArg (G2 m c) (o_emb2 t r d)).symm
  exact out_at2 m c t r d

theorem flushed_eq2 (t : Fin cfg0.N) (_ : (cfg0.win 2).flush t = true) :
    (dats m 0 c).flushed 2 t = ((cfg0.win 2).blk t).view.read (Elt Ideal) (G2 m c) := by
  rw [Value.flushed2]
  funext j
  rw [View.read_apply]
  exact stored_eq2 m c t j

theorem covered2 (i : S16384x1024.Idx) :
    ∃ t : Fin cfg0.N, (cfg0.win 2).flush t = true ∧ i ∈ ((cfg0.win 2).blk t).view.set := by
  have h0 : (i 0).val < 16384 := (i 0).isLt
  obtain ⟨t, hb⟩ := point_of ⟨(i 0).val / 512, by omega⟩
  refine ⟨t, flush0_2 t, ?_⟩
  have e := o_emb2 t ⟨(i 0).val % 512, by omega⟩ (i 1)
  have hi : i = ix2 ⟨512 * (blk t).val + (i 0).val % 512, by omega⟩ (i 1) := by
    funext a
    apply Fin.ext
    match a with
    | ⟨0, _⟩ => show (i 0).val = 512 * (grid0.coords t 0).val + (i 0).val % 512; rw [hb]; dsimp only; omega
    | ⟨1, _⟩ => rfl
  rw [hi.trans e.symm]
  exact ((cfg0.win 2).blk t).view.emb_mem_set _

theorem final2 : (dats m 0 c).arrAt 2 cfg0.N = G2 m c :=
  (dats m 0 c).arrAt_eq_of_cover 2 (G2 m c) (flushed_eq2 m c) covered2

/-- The kernel's run: the normed rows, the arguments as they were. -/
theorem run : θ_run defs (onTc (τ := τ) (main (F := Ideal))) ⟨m, fun _ => 0, ρ⟩ fun r => ∀ c : Dev nD,
      r.2.mem ((c : Thread nD τ).loc main_v1) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.NormIdeal.Array

end
-- ==== Proof.NormReference.lean ====
/- The reference's final norm on the prompt, read at an index. -/
module

public import proofs.«01_k».proof.Proof.Gen.NormRefIdeal.Read
public import proofs.«01_k».proof.Proof.Rows
public import Idealize.ShloMosaic.Lib.Pointwise

@[expose] public section

set_option maxRecDepth 16384

noncomputable section

namespace Cert.NormRefIdeal.Reference

open Idealize.ShloMosaic Idealize.ShloMosaic.TcCoe Idealize.ShloMosaic.Tactic
open Idealize.SL Idealize.SL.Sem
open Cert.NormRefIdeal Cert.NormRefIdeal.Gen Cert.NormRefIdeal.Read Cert.Rows

variable (x0 : Vec Ideal S16384x1024 .f32) (x1 : Vec Ideal S1024 .f32)

theorem norm_at (r : Fin 16384) (d : Fin 1024) :
    val_main_v12 (F := Ideal) x0 x1 (ix2 r d) = unit (fun k => x0 (ix2 r k)) (fun k => x1 (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  simp only [val_main_v0_apply]
  rw [show (FloatOps.ofBits (F := Ideal) .f32 0x00000000#32 : EReal) = 0 from by show Ideal.ofBits .f32 0x00000000#32 = 0; simp [Ideal.ofBits, Ideal.ieee], zero_add]
  have h1 : ∀ k : Fin 1024, idx_main_v1 (idx_main_v2 (idx_main_v8 (ix2 r d))) k = ix2 r k := fun k => funext fun a => by
    match a with
    | ⟨0, _⟩ => rfl
    | ⟨1, _⟩ => rfl
  have h2 : idx_main_v10 (idx_main_v11 (ix2 r d)) = ix1 d := funext fun a => by
    match a with
    | ⟨0, _⟩ => rfl
  simp only [h1, h2]
  rfl

end Cert.NormRefIdeal.Reference

end
-- ==== Proof.NormNextArray.lean ====
/- The array the final norm leaves for the tokens to come. -/
module

public import proofs.«01_k».proof.Proof.Gen.NormNextIdeal.Value
public import proofs.«01_k».proof.Proof.Rows
public import Idealize.ShloMosaic.Lib.Pointwise

@[expose] public section

set_option maxRecDepth 16384

noncomputable section

namespace Cert.NormNextIdeal.Array

open Idealize.ShloMosaic Idealize.ShloMosaic.TcCoe Idealize.ShloMosaic.Tactic
open Idealize.SL Idealize.SL.Sem
open Idealize.ShloMosaic.Pipeline (Dat)
open Cert.NormNextIdeal Cert.NormNextIdeal.Gen Cert.Rows

/-! ## One grid point -/

theorem norm_at (v0 : Vec Ideal S32x1024 .f32) (v1 : Vec Ideal S1x1024 .f32) (r : Fin 32) (d : Fin 1024) :
    k0_pay1 (F := Ideal) v0 v1 (ix2 r d) = unit (fun k => v0 (ix2 r k)) (fun k => v1 (ix2 0 k)) d := by
  pointwise [k0_pay1]
  rfl

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 32) (k : Fin 1024) : EReal :=
  (m ((c : Thread nD τ).loc main_arg0) : Vec Ideal S32x1024 .f32) (ix2 r k)

def Gain (k : Fin 1024) : EReal := (m ((c : Thread nD τ).loc main_arg1) : Vec Ideal S1024 .f32) (ix1 k)

theorem gain_at (k : Fin 1024) : (V m c main_v0 : Vec Ideal S1x1024 .f32) (ix2 0 k) = Gain m c k := by
  entry_read
  pointwise [Gain]

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0) :=
  (by decide +kernel : ∀ t : Fin grid0.N, _)

/-- The row block of a grid point. -/
abbrev blk (t : Fin cfg0.N) : Fin 1 := grid0.coords t 0

theorem x_block (t : Fin cfg0.N) (r : Fin 32) (j : Fin 1024) :
    (iblk m c 0 t : Vec Ideal S32x1024 .f32) (ix2 r j) = X m c ⟨32 * (blk t).val + r.val, by omega⟩ j := by
  obtain ⟨⟨h0, h1⟩, -⟩ := idx_facts t
  have e : (((cfg0.win 0).blk t).view.emb (ix2 r j) : S32x1024.Idx) = ix2 ⟨32 * (blk t).val + r.val, by omega⟩ j := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * j.val = j.val; rw [h1]; omega
  show (V m c main_arg0 : Vec Ideal S32x1024 .f32) (((cfg0.win 0).blk t).view.emb (ix2 r j)) = _
  rw [e, V_main_arg0]
  rfl

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v0 : Vec Ideal S1x1024 .f32) (((cfg0.win 1).blk t).view.emb (ix2 0 j)) = _
  rw [e, gain_at]

theorem point_of : ∀ b : Fin 1, ∃ t : Fin cfg0.N, (grid0.coords t 0).val = b.val :=
  (by decide +kernel : ∀ b : Fin 1, ∃ t : Fin grid0.N, _)

/-! ## The stored blocks and the arrays -/

/-- What result 0 is to hold. -/
def G2 : Vec Ideal S32x1024 .f32 := fun i => unit (X m c (i 0)) (Gain m c) (i 1)

theorem o_emb2 (t : Fin cfg0.N) (r : Fin 32) (j : Fin 1024) :
    (((cfg0.win 2).blk t).view.emb (ix2 r j) : S32x1024.Idx) = ix2 ⟨32 * (blk t).val + r.val, by omega⟩ j := by
  obtain ⟨-, -, ⟨h0, h1⟩⟩ := idx_facts t
  funext a
  apply Fin.ext
  match a with
  | ⟨0, _⟩ => show win0_2.index t 0 * 32 + 1 * r.val = 32 * (grid0.coords t 0).val + r.val; rw [h0]; omega
  | ⟨1, _⟩ => show win0_2.index t 1 * 1024 + 1 * j.val = j.val; rw [h1]; omega

theorem out_at2 (t : Fin cfg0.N) (r : Fin 32) (j : Fin 1024) :
    out0_2 (iblk m c 0 t) (iblk m c 1 t) (ix2 r j)
      = G2 m c (ix2 ⟨32 * (blk t).val + r.val, by omega⟩ j) := by
  unfold out0_2
  rw [View.canon_unit_zero hz, View.ld_unit_zero hz, View.ld_unit_zero hz]
  refine (norm_at _ _ r j).trans ?_
  exact congrArg₂ (fun x g => unit x g j) (funext (x_block m c t r)) (funext (g_block m c t))

theorem stored_eq2 (t : Fin cfg0.N) (j : S32x1024.Idx) :
    out0_2 (iblk m c 0 t) (iblk m c 1 t) j
      = G2 m c (((cfg0.win 2).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G2 m c) (o_emb2 t r d)).symm
  exact out_at2 m c t r d

theorem flushed_eq2 (t : Fin cfg0.N) (_ : (cfg0.win 2).flush t = true) :
    (dats m 0 c).flushed 2 t = ((cfg0.win 2).blk t).view.read (Elt Ideal) (G2 m c) := by
  rw [Value.flushed2]
  funext j
  rw [View.read_apply]
  exact stored_eq2 m c t j

theorem covered2 (i : S32x1024.Idx) :
    ∃ t : Fin cfg0.N, (cfg0.win 2).flush t = true ∧ i ∈ ((cfg0.win 2).blk t).view.set := by
  have h0 : (i 0).val < 32 := (i 0).isLt
  obtain ⟨t, hb⟩ := point_of ⟨(i 0).val / 32, by omega⟩
  refine ⟨t, flush0_2 t, ?_⟩
  have e := o_emb2 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 2).blk t).view.emb_mem_set _

theorem final2 : (dats m 0 c).arrAt 2 cfg0.N = G2 m c :=
  (dats m 0 c).arrAt_eq_of_cover 2 (G2 m c) (flushed_eq2 m c) covered2

/-- The kernel's run: the normed rows, the arguments as they were. -/
theorem run : θ_run defs (onTc (τ := τ) (main (F := Ideal))) ⟨m, fun _ => 0, ρ⟩ fun r => ∀ c : Dev nD,
      r.2.mem ((c : Thread nD τ).loc main_v1) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final2 m c), (h c).2⟩) (Value.run_blocks m ρ)

end Cert.NormNextIdeal.Array

end
-- ==== Proof.NormNextReference.lean ====
/- The reference's final norm for the tokens to come, read at an index. -/
module

public import proofs.«01_k».proof.Proof.Gen.NormNextRefIdeal.Read
public import proofs.«01_k».proof.Proof.Rows
public import Idealize.ShloMosaic.Lib.Pointwise

@[expose] public section

set_option maxRecDepth 16384

noncomputable section

namespace Cert.NormNextRefIdeal.Reference

open Idealize.ShloMosaic Idealize.ShloMosaic.TcCoe Idealize.ShloMosaic.Tactic
open Idealize.SL Idealize.SL.Sem
open Cert.NormNextRefIdeal Cert.NormNextRefIdeal.Gen Cert.NormNextRefIdeal.Read Cert.Rows

variable (x0 : Vec Ideal S32x1024 .f32) (x1 : Vec Ideal S1024 .f32)

theorem norm_at (r : Fin 32) (d : Fin 1024) :
    val_main_v12 (F := Ideal) x0 x1 (ix2 r d) = unit (fun k => x0 (ix2 r k)) (fun k => x1 (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  simp only [val_main_v0_apply]
  rw [show (FloatOps.ofBits (F := Ideal) .f32 0x00000000#32 : EReal) = 0 from by show Ideal.ofBits .f32 0x00000000#32 = 0; simp [Ideal.ofBits, Ideal.ieee], zero_add]
  have h1 : ∀ k : Fin 1024, idx_main_v1 (idx_main_v2 (idx_main_v8 (ix2 r d))) k = ix2 r k := fun k => funext fun a => by
    match a with
    | ⟨0, _⟩ => rfl
    | ⟨1, _⟩ => rfl
  have h2 : idx_main_v10 (idx_main_v11 (ix2 r d)) = ix1 d := funext fun a => by
    match a with
    | ⟨0, _⟩ => rfl
  simp only [h1, h2]
  rfl

end Cert.NormNextRefIdeal.Reference

end
-- ==== Proof.KeepArray.lean ====
/- The window part of the projection into the sparse attention for the tokens to come: the rotated keys and the values it leaves. -/
module

public import proofs.«01_k».proof.Proof.Gen.KeepIdeal.Run
public import proofs.«01_k».proof.Proof.Rows
public import proofs.«01_k».proof.Proof.Rope
public import proofs.«01_k».proof.Proof.Share
public import Idealize.ShloMosaic.Lib.StableHlo.RunRead
public import Idealize.ShloMosaic.Lib.Pointwise

@[expose] public section

set_option maxRecDepth 65536

noncomputable section

namespace Cert.KeepIdeal.Array

open Idealize.ShloMosaic Idealize.ShloMosaic.TcCoe Idealize.ShloMosaic.Tactic Idealize.ShloMosaic.StableHlo
open Idealize.SL Idealize.SL.Sem
open Idealize.ShloMosaic.Pipeline (Dat)
open Cert.KeepIdeal Cert.KeepIdeal.Gen Cert.Rows Cert.Rope Cert.Share

/-! ## One grid point -/

/-- The normed rows. -/
theorem norm_at (v0 : Vec Ideal S32x1024 .f32) (v1 : Vec Ideal S1x1024 .f32) (r : Fin 32) (d : Fin 1024) :
    k0_pay1 (F := Ideal) v0 v1 (ix2 r d) = unit (fun k => v0 (ix2 r k)) (fun k => v1 (ix2 0 k)) d := by
  pointwise [k0_pay1]
  rfl

/-- The product of a normed row and a column, the blocks' entries known. -/
theorem proj_row {n : Nat} (x0 : Vec Ideal S32x1024 .f32) (x1 : Vec Ideal S1x1024 .f32) (w : Fin 1024 → Fin n → EReal) (x g wc : Fin 1024 → EReal)
    (r : Fin 32) (j : Fin n) (hx : ∀ k : Fin 1024, x0 (ix2 r k) = x k) (hg : ∀ k : Fin 1024, x1 (ix2 0 k) = g k)
    (hw : ∀ d : Fin 1024, w d j = wc d) :
    ∑ d : Fin 1024, k0_pay1 (F := Ideal) x0 x1 (ix2 r d) * w d j = proj x g wc := by
  refine Finset.sum_congr rfl fun d _ => ?_
  rw [norm_at, hw, funext hx, funext hg]

theorem mm24_at (v : FVec Ideal S32x1024 .bf16) (w : Vec Ideal S1024x256 .bf16) (r : Fin 32) (j : Fin 256) :
    k0_pay24 (F := Ideal) v w (ix2 r j) = ∑ x : Fin 1024, v (ix2 r x) * w (ix2 x j) := by
  pointwise [k0_pay24]

theorem mm32_at (v : FVec Ideal S32x1024 .bf16) (w : Vec Ideal S1024x256 .bf16) (r : Fin 32) (j : Fin 256) :
    k0_pay32 (F := Ideal) v w (ix2 r j) = ∑ x : Fin 1024, v (ix2 r x) * w (ix2 x j) := by
  pointwise [k0_pay32]

theorem tab25_at (v : Vec Ideal S32x128 .f32) (r : Fin 32) (j : Fin 256) :
    k0_pay25 (F := Ideal) v (ix2 r j) = v (ix2 r ⟨j.val % 128, by omega⟩) := by
  pointwise [k0_pay25]
  split_ifs <;> exact congrArg (fun k => v (ix2 r k)) (Fin.ext (by dsimp only; omega))

theorem tab26_at (v : Vec Ideal S32x128 .f32) (r : Fin 32) (j : Fin 256) :
    k0_pay26 (F := Ideal) v (ix2 r j) = v (ix2 r ⟨j.val % 128, by omega⟩) := by
  pointwise [k0_pay26]
  split_ifs <;> exact congrArg (fun k => v (ix2 r k)) (Fin.ext (by dsimp only; omega))

theorem spin31_at (v c s : FVec Ideal S32x256 .f32) (y : Fin 256 → EReal) (p : EReal) (r : Fin 32) (j : Fin 256)
    (hy : ∀ i : Fin 256, v (ix2 r i) = y i) (hc : c (ix2 r j) = Ideal.cos (angle p (j.val % 32))) (hs : s (ix2 r j) = side p j.val) :
    k0_pay31 (F := Ideal) v c s (Scalar.select (Scalar.cmpi .eq 64#32 0#32) 1#32 64#32) k0_pay27 k0_pay28 k0_pay29 k0_pay30 (ix2 r j) = turn y p j := by
  rw [← turn_of (by decide) y p j (first j.val) (first_eq' j) ⟨(j.val + 256 - 224) % 256, Nat.mod_lt _ (by decide)⟩
    ⟨(j.val + 256 - 32) % 256, Nat.mod_lt _ (by decide)⟩ (by show (j.val + 256 - 224) % 256 = (j.val + 32) % 256; omega) rfl,
    ← hy j, ← hy, ← hy, ← hc, ← hs]
  pointwise [k0_pay31, k0_pay27, k0_pay28, k0_pay29, k0_pay30]

theorem hz : (![0, 0] : Fin 2 → ℕ) = (fun _ => 0) := by funext a; fin_cases a <;> rfl

variable (m : (ℓ : Loc nD τ sig) → Buf (Elt Ideal) ℓ) (ρ : Dev nD → PrngReg) (c : Dev nD)

/-! ## The arguments, by position -/

def X (r : Fin 32) (k : Fin 1024) : EReal :=
  (m ((c : Thread nD τ).loc main_arg0) : Vec Ideal S32x1x1024 .f32) (ix3 ⟨r.val, by omega⟩ 0 k)

def Gain (k : Fin 1024) : EReal := (m ((c : Thread nD τ).loc main_arg1) : Vec Ideal S1024 .f32) (ix1 k)

def Wt (d : Fin 1024) (j : Fin 2608) : EReal :=
  (m ((c : Thread nD τ).loc main_arg2) : Vec Ideal S1024x2608 .f32) (ix2 d j)

/-- Lane `j` of the part of the projected row that starts at column `o`. -/
def Part (n o : ℕ) (h : o + n ≤ 2608) (r : Fin 32) (j : Fin n) : EReal :=
  proj (X m c r) (Gain m c) (fun d => Wt m c d ⟨o + j.val, by omega⟩)

/-! ## The operands the host code prepares -/

theorem x_at (r : Fin 32) (k : Fin 1024) : (V m c main_v30 : Vec Ideal S32x1024 .f32) (ix2 r k) = X m c r k := by
  unfold V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [X]

theorem gain_at (k : Fin 1024) : (V m c main_v31 : Vec Ideal S1x1024 .f32) (ix2 0 k) = Gain m c k := by
  unfold V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Gain]

theorem w6_at (d : Fin 1024) (j : Fin 256) : (V m c main_v6 : Vec Ideal S1024x256 .bf16) (ix2 d j) = Wt m c d ⟨2048 + j.val, by omega⟩ := by
  unfold V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem w7_at (d : Fin 1024) (j : Fin 256) : (V m c main_v7 : Vec Ideal S1024x256 .bf16) (ix2 d j) = Wt m c d ⟨2304 + j.val, by omega⟩ := by
  unfold V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise [Wt]

theorem cos_at (p : Fin 32) (k : Fin 128) :
    (V m c main_v26 : Vec Ideal S32x128 .f32) (ix2 p k) = Ideal.cos (angle (pos 8192) (k.val % 32)) := by
  unfold V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  after_reads_simp
  pointwise []
  exact cos_parts _ _

theorem sin_at (p : Fin 32) (k : Fin 128) :
    (V m c main_v29 : Vec Ideal S32x128 .f32) (ix2 p k) = side (pos 8192) k.val := by
  unfold V V0
  simp only [hostOps0, hostOps0_1, hostOps0_2, hostOps0_3, hostOps0_4, List.flatten_cons, List.flatten_nil, List.append_nil,
    List.cons_append, List.nil_append, StableHlo.TRef.unary, StableHlo.TRef.binary, StableHlo.TRef.toBuf, StableHlo.TRef.ofBuf, cast_eq]
  after_reads_simp
  pointwise []
  after_reads_simp
  pointwise []
  exact side_parts _ _

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0)
    ∧ (win0_3.index t 0 = (grid0.coords t 0).val ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0)
    ∧ (win0_13.index t 0 = (grid0.coords t 0).val ∧ win0_13.index t 1 = 0)
    ∧ (win0_14.index t 0 = (grid0.coords t 0).val ∧ win0_14.index t 1 = 0)
    ∧ (win0_15.index t 0 = (grid0.coords t 0).val ∧ win0_15.index t 1 = 0)
    ∧ (win0_16.index t 0 = (grid0.coords t 0).val ∧ win0_16.index t 1 = 0)
    ∧ (win0_17.index t 0 = (grid0.coords t 0).val ∧ win0_17.index t 1 = 0)
    ∧ (win0_18.index t 0 = (grid0.coords t 0).val ∧ win0_18.index t 1 = 0)
    ∧ (win0_19.index t 0 = (grid0.coords t 0).val ∧ win0_19.index t 1 = 0)
    ∧ (win0_20.index t 0 = (grid0.coords t 0).val ∧ win0_20.index t 1 = 0) :=
  (by decide +kernel : ∀ t : Fin grid0.N, _)

/-- The row block of a grid point. -/
abbrev blk (t : Fin cfg0.N) : Fin 1 := grid0.coords t 0

theorem x_block (t : Fin cfg0.N) (r : Fin 32) (j : Fin 1024) :
    (iblk m c 0 t : Vec Ideal S32x1024 .f32) (ix2 r j) = X m c ⟨32 * (blk t).val + r.val, by omega⟩ j := by
  obtain ⟨⟨h0, h1⟩, -⟩ := idx_facts t
  have e : (((cfg0.win 0).blk t).view.emb (ix2 r j) : S32x1024.Idx) = ix2 ⟨32 * (blk t).val + r.val, by omega⟩ j := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * j.val = j.val; rw [h1]; omega
  show (V m c main_v30 : Vec Ideal S32x1024 .f32) (((cfg0.win 0).blk t).view.emb (ix2 r j)) = _
  rw [e, x_at]

theorem g_block (t : Fin cfg0.N) (j : Fin 1024) :
    (iblk m c 1 t : Vec Ideal S1x1024 .f32) (ix2 0 j) = Gain m c j := by
  obtain ⟨-, ⟨h0, h1⟩, -⟩ := idx_facts t
  have e : (((cfg0.win 1).blk t).view.emb (ix2 0 j) : S1x1024.Idx) = ix2 0 j := by
    funext a
    apply Fin.ext
    match a with
    | ⟨0, _⟩ => show win0_1.index t 0 * 1 + 1 * 0 = 0; rw [h0]
    | ⟨1, _⟩ => show win0_1.index t 1 * 1024 + 1 * j.val = j.val; rw [h1]; omega
  show (V m c main_v31 : Vec Ideal S1x1024 .f32) (((cfg0.win 1).blk t).view.emb (ix2 0 j)) = _
  rw [e, gain_at]

theorem cos_block (t : Fin cfg0.N) (r : Fin 32) (j : Fin 128) :
    (iblk m c 2 t : Vec Ideal S32x128 .f32) (ix2 r j) = Ideal.cos (angle (pos 8192) (j.val % 32)) := by
  obtain ⟨-, -, ⟨h0, h1⟩, -⟩ := idx_facts t
  have e : (((cfg0.win 2).blk t).view.emb (ix2 r j) : S32x128.Idx) = ix2 ⟨32 * (blk t).val + r.val, by omega⟩ j := by
    funext a
    apply Fin.ext
    match a with
    | ⟨0, _⟩ => show win0_2.index t 0 * 32 + 1 * r.val = 32 * (grid0.coords t 0).val + r.val; rw [h0]; omega
    | ⟨1, _⟩ => show win0_2.index t 1 * 128 + 1 * j.val = j.val; rw [h1]; omega
  show (V m c main_v26 : Vec Ideal S32x128 .f32) (((cfg0.win 2).blk t).view.emb (ix2 r j)) = _
  rw [e, cos_at]

theorem sin_block (t : Fin cfg0.N) (r : Fin 32) (j : Fin 128) :
    (iblk m c 3 t : Vec Ideal S32x128 .f32) (ix2 r j) = side (pos 8192) j.val := by
  obtain ⟨-, -, -, ⟨h0, h1⟩, -⟩ := idx_facts t
  have e : (((cfg0.win 3).blk t).view.emb (ix2 r j) : S32x128.Idx) = ix2 ⟨32 * (blk t).val + r.val, by omega⟩ j := by
    funext a
    apply Fin.ext
    match a with
    | ⟨0, _⟩ => show win0_3.index t 0 * 32 + 1 * r.val = 32 * (grid0.coords t 0).val + r.val; rw [h0]; omega
    | ⟨1, _⟩ => show win0_3.index t 1 * 128 + 1 * j.val = j.val; rw [h1]; omega
  show (V m c main_v29 : Vec Ideal S32x128 .f32) (((cfg0.win 3).blk t).view.emb (ix2 r j)) = _
  rw [e, sin_at]

theorem w6_block (t : Fin cfg0.N) (d : Fin 1024) (j : Fin 256) :
    (iblk m c 9 t : Vec Ideal S1024x256 .bf16) (ix2 d j) = Wt m c d ⟨2048 + j.val, by omega⟩ := by
  obtain ⟨-, -, -, -, -, -, -, -, -, ⟨h0, h1⟩, -⟩ := idx_facts t
  have e : (((cfg0.win 9).blk t).view.emb (ix2 d j) : S1024x256.Idx) = ix2 d j := by
    funext a
    apply Fin.ext
    match a with
    | ⟨0, _⟩ => show win0_9.index t 0 * 1024 + 1 * d.val = d.val; rw [h0]; omega
    | ⟨1, _⟩ => show win0_9.index t 1 * 256 + 1 * j.val = j.val; rw [h1]; omega
  show (V m c main_v6 : Vec Ideal S1024x256 .bf16) (((cfg0.win 9).blk t).view.emb (ix2 d j)) = _
  rw [e, w6_at]

theorem w7_block (t : Fin cfg0.N) (d : Fin 1024) (j : Fin 256) :
    (iblk m c 10 t : Vec Ideal S1024x256 .bf16) (ix2 d j) = Wt m c d ⟨2304 + j.val, by omega⟩ := by
  obtain ⟨-, -, -, -, -, -, -, -, -, -, ⟨h0, h1⟩, -⟩ := idx_facts t
  have e : (((cfg0.win 10).blk t).view.emb (ix2 d j) : S1024x256.Idx) = ix2 d j := by
    funext a
    apply Fin.ext
    match a with
    | ⟨0, _⟩ => show win0_10.index t 0 * 1024 + 1 * d.val = d.val; rw [h0]; omega
    | ⟨1, _⟩ => show win0_10.index t 1 * 256 + 1 * j.val = j.val; rw [h1]; omega
  show (V m c main_v7 : Vec Ideal S1024x256 .bf16) (((cfg0.win 10).blk t).view.emb (ix2 d j)) = _
  rw [e, w7_at]

theorem point_of : ∀ b : Fin 1, ∃ t : Fin cfg0.N, (grid0.coords t 0).val = b.val :=
  (by decide +kernel : ∀ b : Fin 1, ∃ t : Fin grid0.N, _)

/-! ## The stored blocks and the arrays -/

/-- What the array of rotated keys is to hold. -/
def G18 : Vec Ideal S32x256 .f32 := fun i => turn (Part m c 256 2048 (by decide) (i 0)) (pos 8192) (i 1)

theorem o_emb18 (t : Fin cfg0.N) (r : Fin 32) (j : Fin 256) :
    (((cfg0.win 18).blk t).view.emb (ix2 r j) : S32x256.Idx) = ix2 ⟨32 * (blk t).val + r.val, by omega⟩ j := by
  obtain ⟨-, -, -, -, -, -, -, -, -, -, -, -, -, -, -, -, -, -, ⟨h0, h1⟩, -⟩ := idx_facts t
  funext a
  apply Fin.ext
  match a with
  | ⟨0, _⟩ => show win0_18.index t 0 * 32 + 1 * r.val = 32 * (grid0.coords t 0).val + r.val; rw [h0]; omega
  | ⟨1, _⟩ => show win0_18.index t 1 * 256 + 1 * j.val = j.val; rw [h1]; omega

theorem out_at18 (t : Fin cfg0.N) (r : Fin 32) (j : Fin 256) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G18 m c (ix2 ⟨32 * (blk t).val + r.val, by omega⟩ j) := by
  unfold_out out0_18
  rw [View.canon_unit_zero hz, View.ld_unit_zero hz, View.ld_unit_zero hz, View.ld_unit_zero hz, View.ld_unit_zero hz, View.ld_unit_zero hz]
  refine Eq.trans (spin31_at _ _ _ (Part m c 256 2048 (by decide) ⟨32 * (blk t).val + r.val, by omega⟩) (pos 8192) r j (fun i => ?_) ?_ ?_) ?_
  · exact (mm24_at _ _ r i).trans (proj_row _ _ (fun d i => (iblk m c 9 t : Vec Ideal S1024x256 .bf16) (ix2 d i)) _ _ _ r i
      (x_block m c t r) (g_block m c t) (fun d => w6_block m c t d i))
  · refine (tab25_at _ r j).trans ((cos_block m c t r _).trans ?_)
    exact congrArg (fun l => Ideal.cos (angle _ l)) (by show j.val % 128 % 32 = j.val % 32; omega)
  · exact (tab26_at _ r j).trans ((sin_block m c t r _).trans (side_mod _ _))
  rfl

theorem stored_eq18 (t : Fin cfg0.N) (j : S32x256.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G18 m c (((cfg0.win 18).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G18 m c) (o_emb18 t r d)).symm
  exact out_at18 m c t r d

theorem flushed_eq18 (t : Fin cfg0.N) (_ : (cfg0.win 18).flush t = true) :
    (dats m 0 c).flushed 18 t = ((cfg0.win 18).blk t).view.read (Elt Ideal) (G18 m c) := by
  show (cfg0.win 18).cut (grid0.coords t) ((dats m 0 c).after 18 t) = _
  rw [after0_18]
  funext j
  rw [View.read_apply]
  exact stored_eq18 m c t j

theorem covered18 (i : S32x256.Idx) :
    ∃ t : Fin cfg0.N, (cfg0.win 18).flush t = true ∧ i ∈ ((cfg0.win 18).blk t).view.set := by
  have h0 : (i 0).val < 32 := (i 0).isLt
  obtain ⟨t, hb⟩ := point_of ⟨(i 0).val / 32, by omega⟩
  refine ⟨t, flush0_18 t, ?_⟩
  have e := o_emb18 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 18).blk t).view.emb_mem_set _

theorem final18 : (dats m 0 c).arrAt 18 cfg0.N = G18 m c :=
  (dats m 0 c).arrAt_eq_of_cover 18 (G18 m c) (flushed_eq18 m c) covered18

/-- What the array of values is to hold. -/
def G19 : Vec Ideal S32x256 .f32 := fun i => Part m c 256 2304 (by decide) (i 0) (i 1)

theorem o_emb19 (t : Fin cfg0.N) (r : Fin 32) (j : Fin 256) :
    (((cfg0.win 19).blk t).view.emb (ix2 r j) : S32x256.Idx) = ix2 ⟨32 * (blk t).val + r.val, by omega⟩ j := by
  obtain ⟨-, -, -, -, -, -, -, -, -, -, -, -, -, -, -, -, -, -, -, ⟨h0, h1⟩, -⟩ := idx_facts t
  funext a
  apply Fin.ext
  match a with
  | ⟨0, _⟩ => show win0_19.index t 0 * 32 + 1 * r.val = 32 * (grid0.coords t 0).val + r.val; rw [h0]; omega
  | ⟨1, _⟩ => show win0_19.index t 1 * 256 + 1 * j.val = j.val; rw [h1]; omega

theorem out_at19 (t : Fin cfg0.N) (r : Fin 32) (j : Fin 256) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j)
      = G19 m c (ix2 ⟨32 * (blk t).val + r.val, by omega⟩ j) := by
  unfold_out out0_19
  rw [View.canon_unit_zero hz, View.ld_unit_zero hz, View.ld_unit_zero hz, View.ld_unit_zero hz]
  refine (mm32_at _ _ r j).trans ?_
  exact proj_row _ _ (fun d i => (iblk m c 10 t : Vec Ideal S1024x256 .bf16) (ix2 d i)) _ _ _ r j
    (x_block m c t r) (g_block m c t) (fun d => w7_block m c t d j)

theorem stored_eq19 (t : Fin cfg0.N) (j : S32x256.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = G19 m c (((cfg0.win 19).blk t).view.emb j) := by
  have hj : j = ix2 (j 0) (j 1) := by
    funext a
    match a with
    | ⟨0, _⟩ => rfl
    | ⟨1, _⟩ => rfl
  generalize (j 0 : Fin 32) = r at hj
  generalize (j 1 : Fin 256) = d at hj
  subst hj
  refine Eq.trans ?_ (congrArg (G19 m c) (o_emb19 t r d)).symm
  exact out_at19 m c t r d

theorem flushed_eq19 (t : Fin cfg0.N) (_ : (cfg0.win 19).flush t = true) :
    (dats m 0 c).flushed 19 t = ((cfg0.win 19).blk t).view.read (Elt Ideal) (G19 m c) := by
  show (cfg0.win 19).cut (grid0.coords t) ((dats m 0 c).after 19 t) = _
  rw [after0_19]
  funext j
  rw [View.read_apply]
  exact stored_eq19 m c t j

theorem covered19 (i : S32x256.Idx) :
    ∃ t : Fin cfg0.N, (cfg0.win 19).flush t = true ∧ i ∈ ((cfg0.win 19).blk t).view.set := by
  have h0 : (i 0).val < 32 := (i 0).isLt
  obtain ⟨t, hb⟩ := point_of ⟨(i 0).val / 32, by omega⟩
  refine ⟨t, flush0_19 t, ?_⟩
  have e := o_emb19 t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 19).blk t).view.emb_mem_set _

theorem final19 : (dats m 0 c).arrAt 19 cfg0.N = G19 m c :=
  (dats m 0 c).arrAt_eq_of_cover 19 (G19 m c) (flushed_eq19 m c) covered19

/-- A state and a row of heads behind it, the oldest row away. -/
def behind (state : Vec Ideal S32x512x4x64 .f32) (new : Vec Ideal S32x1x4x64 .f32) : Vec Ideal S32x512x4x64 .f32 :=
  extractStridedSlice S32x512x4x64 ![0, 1, 0, 0]
    (concatenate S32x513x4x64 1 [⟨S32x512x4x64, state⟩, ⟨S32x1x4x64, new⟩]
      concatenates_S32x512x4x64_S32x1x4x64_S32x513x4x64_d1) slices_S32x513x4x64_S32x512x4x64_0_1_0_0

/-- A state moved on by one token, given as a row of lanes. -/
def moved (state : Vec Ideal S32x512x4x64 .f32) (new : Vec Ideal S32x256 .f32) : Vec Ideal S32x512x4x64 .f32 :=
  behind state (shapeCast _ new shapeCasts_S32x256_S32x1x4x64)

/-- Every run ends with both states moved on by the token's key and value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v38) = moved (m ((c : Thread nD τ).loc main_arg4)) (G18 m c)
      ∧ r.2.mem ((c : Thread nD τ).loc main_v39) = moved (m ((c : Thread nD τ).loc main_arg5)) (G19 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (congrArg (moved (m ((c : Thread nD τ).loc main_arg4))) (final18 m c)),
      (h c).2.1.trans (congrArg (moved (m ((c : Thread nD τ).loc main_arg5))) (final19 m c)), (h c).2.2⟩) (Value.run m ρ)

end Cert.KeepIdeal.Array
end
-- ==== Proof.KeepReference.lean ====
/- The keys and the values the reference puts into the window for the tokens to come, read at an index. -/
module

public import proofs.«01_k».proof.Proof.Gen.KeepRefIdeal.Read
public import proofs.«01_k».proof.Proof.Rows
public import proofs.«01_k».proof.Proof.Rope
public import Idealize.ShloMosaic.Lib.Pointwise

@[expose] public section

set_option maxRecDepth 16384

noncomputable section

namespace Cert.KeepRefIdeal.Reference

open Idealize.ShloMosaic Idealize.ShloMosaic.TcCoe Idealize.ShloMosaic.Tactic
open Idealize.SL Idealize.SL.Sem
open Cert.KeepRefIdeal Cert.KeepRefIdeal.Gen Cert.KeepRefIdeal.Read Cert.Rows Cert.Rope

variable (x0 : Vec Ideal S32x1x1024 .f32) (x1 : Vec Ideal S1024 .f32) (x2 : Vec Ideal S1024x2608 .f32)

theorem norm_at (b : Fin 32) (p : Fin 1) (d : Fin 1024) :
    val_main_v12 (F := Ideal) x0 x1 (ix3 b p d) = unit (fun k => x0 (ix3 b p k)) (fun k => x1 (ix1 k)) d := by
  obtain rfl : p = 0 := Subsingleton.elim _ _
  pointwise [val_main_v12, val_main_v9, val_main_v11, val_main_v8, val_main_v10, val_main_v7, val_main_v6, val_main_v4, val_main_v5, val_main_v2, val_main_v3, val_main_cst_1, val_main_v1, val_main_cst_0, val_main_v0, val_main_cst]
  rfl

/-- A normed row against column `i` of the weights. -/
def col (b : Fin 32) (p : Fin 1) (i : Fin 2608) : EReal :=
  proj (fun k => x0 (ix3 b p k)) (fun k => x1 (ix1 k)) (fun d => x2 (ix2 d i))

theorem column (b : Fin 32) (p : Fin 1) (i : Fin 2560) (j : Fin 2608) (h : i.val = j.val) :
    val_main_v17 (F := Ideal) x0 x1 x2 (ix3 b p i) = col x0 x1 x2 b p j := by
  obtain ⟨j, hj⟩ := j
  dsimp only at h
  subst h
  obtain rfl : p = 0 := Subsingleton.elim _ _
  pointwise [val_main_v17, val_main_v16]
  exact Finset.sum_congr rfl fun d _ => congrArg₂ (· * ·) (norm_at x0 x1 b _ d) rfl

abbrev S32x256 : Shape := ⟨2, ![32, 256]⟩

/-- The heads of a row fit side by side. -/
theorem casts : S32x1x4x64.ShapeCasts S32x256 := by decide +kernel

/-- The rotated keys. -/
theorem kw_at (r : Fin 32) (j : Fin 256) :
    shapeCast S32x256 (val_main_v159 (F := Ideal) x0 x1 x2) casts (ix2 r j)
      = turn (fun i : Fin 256 => col x0 x1 x2 ⟨r.val, by omega⟩ 0 ⟨2048 + i.val, by omega⟩)
        (pos 8192) j := by
  pointwise [val_main_v159, val_main_v151, val_main_v158, val_main_v147, val_main_v150, val_main_v154, val_main_v157, val_main_v143, val_main_v146, val_main_v144, val_main_v149, val_main_v153, val_main_v156, val_main_v127, val_main_v145, val_main_v148, val_main_v152, val_main_v155, val_main_v126, val_main_v140, val_main_v142, val_main_v53, val_main_v139, val_main_v141, val_main_v52, val_main_v138, val_main_v137, val_main_v136, val_main_v135, val_main_v133, val_main_v134, val_main_v132, val_main_v131, val_main_v15, val_main_cst_9, val_main_v129, val_main_v130, val_main_v14, val_main_v13, val_main_v128, val_main_cst_8, val_main_c]
  unfold turn
  refine halves (fun h => ?_) (fun h => ?_)
  · exact congrArg₂ (· - ·) (congrArg₂ (· * ·) (column x0 x1 x2 _ _ _ _ (by dsimp only <;> omega)) rfl)
      (congrArg₂ (· * ·) (column x0 x1 x2 _ _ _ _ (by dsimp only <;> omega)) rfl)
  · exact congrArg₂ (· + ·) (congrArg₂ (· * ·) (column x0 x1 x2 _ _ _ _ (by dsimp only <;> omega)) rfl)
      (congrArg₂ (· * ·) (column x0 x1 x2 _ _ _ _ (by dsimp only <;> omega)) rfl)

/-- The values. -/
theorem vw_at (r : Fin 32) (j : Fin 256) :
    shapeCast S32x256 (val_main_v161 (F := Ideal) x0 x1 x2) casts (ix2 r j)
      = col x0 x1 x2 ⟨r.val, by omega⟩ 0 ⟨2304 + j.val, by omega⟩ := by
  pointwise [val_main_v161, val_main_v160, val_main_v53, val_main_v52]
  exact column x0 x1 x2 _ _ _ _ (by dsimp only <;> omega)

/-- A row by row array read as one row of heads is the reference's new row when the two agree side by side. -/
theorem heads (g : Vec Ideal S32x256 .f32) (v : Vec Ideal S32x1x4x64 .f32) (h : S32x256.ShapeCasts S32x1x4x64)
    (e : ∀ (r : Fin 32) (j : Fin 256), shapeCast S32x256 v casts (ix2 r j) = g (ix2 r j)) :
    v = shapeCast S32x1x4x64 g h := by
  have eq : shapeCast S32x256 v casts = g := by
    funext i
    have hi : i = ix2 (i 0) (i 1) := by
      funext k
      match k with
      | ⟨0, _⟩ => rfl
      | ⟨1, _⟩ => rfl
    rw [hi]
    exact e (i 0) (i 1)
  rw [← eq]
  exact (shapeCast_shapeCast v casts h).symm

end Cert.KeepRefIdeal.Reference

end
-- ==== Proof.MlpNext.lean ====
/- One grid point of the feed-forward kernel for the tokens to come: a row of the block it stores. -/
module

public import proofs.«01_k».proof.Proof.Gen.MlpNextIdeal.Value
public import proofs.«01_k».proof.Proof.Rows
public import Idealize.ShloMosaic.Lib.Pointwise

@[expose] public section

set_option maxRecDepth 16384

noncomputable section

namespace Cert.MlpNextIdeal.Point

open Idealize.ShloMosaic Idealize.ShloMosaic.TcCoe Idealize.ShloMosaic.Tactic
open Idealize.SL Idealize.SL.Sem
open Cert.MlpNextIdeal.Gen Cert.Rows

theorem norm_at (v0 v1) (r : Fin 32) (d : Fin 1024) :
    k0_pay2 (F := Ideal) v0 v1 (ix2 r d) = unit (fun k => v0 (ix2 r k)) (fun k => v1 (ix2 0 k)) d := by
  pointwise [k0_pay2]
  rfl

theorem last_at (v15 v37 v38 v45 v49 v56) (r : Fin 32) (d : Fin 1024) :
    k0_pay1 (F := Ideal) v15 v37 v38 v45 v49 v56 (ix2 r d) =
      v37 (ix2 r d) + ∑ f : Fin 1024, max (∑ x : Fin 1024, v15 (ix2 r x) * v38 (ix2 x f)) 0 * max (∑ x : Fin 1024, v15 (ix2 r x) * v38 (ix2 x f)) 0 * v45 (ix2 f d)
       + ∑ f : Fin 1024, max (∑ x : Fin 1024, v15 (ix2 r x) * v49 (ix2 x f)) 0 * max (∑ x : Fin 1024, v15 (ix2 r x) * v49 (ix2 x f)) 0 * v56 (ix2 f d) := by
  pointwise [k0_pay1]

theorem first_at (v0 v1 v16 v23 v27 v34) (r : Fin 32) (d : Fin 1024) :
    k0_pay3 (F := Ideal) v0 v1 v16 v23 v27 v34 (ix2 r d) =
      v0 (ix2 r d) + ∑ f : Fin 1024, max (∑ x : Fin 1024, k0_pay2 v0 v1 (ix2 r x) * v16 (ix2 x f)) 0 * max (∑ x : Fin 1024, k0_pay2 v0 v1 (ix2 r x) * v16 (ix2 x f)) 0 * v23 (ix2 f d)
       + ∑ f : Fin 1024, max (∑ x : Fin 1024, k0_pay2 v0 v1 (ix2 r x) * v27 (ix2 x f)) 0 * max (∑ x : Fin 1024, k0_pay2 v0 v1 (ix2 r x) * v27 (ix2 x f)) 0 * v34 (ix2 f d) := by
  pointwise [k0_pay3]

theorem ld_x (x0 : Vec Ideal S32x1024 .f32) (r : Fin 32) (k : Fin 1024) : View.ld x0 r0_0 (ix2 r k) = x0 (ix2 r k) := by
  pointwise [r0_0]

theorem ld_g (x1 : Vec Ideal S1x1024 .f32) (k : Fin 1024) : View.ld x1 r0_1 (ix2 0 k) = x1 (ix2 0 k) := by
  pointwise [r0_1]

theorem ld_up0 (x2 : Vec Ideal S1024x4096 .bf16) (d f : Fin 1024) : View.ld x2 r0_2 (ix2 d f) = x2 (ix2 d ⟨f.val, by omega⟩) := by
  pointwise [r0_2]

theorem ld_up1 (x2 : Vec Ideal S1024x4096 .bf16) (d f : Fin 1024) : View.ld x2 r0_4 (ix2 d f) = x2 (ix2 d ⟨1024 + f.val, by omega⟩) := by
  pointwise [r0_4]

theorem ld_up2 (x2 : Vec Ideal S1024x4096 .bf16) (d f : Fin 1024) : View.ld x2 r0_6 (ix2 d f) = x2 (ix2 d ⟨2048 + f.val, by omega⟩) := by
  pointwise [r0_6]

theorem ld_up3 (x2 : Vec Ideal S1024x4096 .bf16) (d f : Fin 1024) : View.ld x2 r0_8 (ix2 d f) = x2 (ix2 d ⟨3072 + f.val, by omega⟩) := by
  pointwise [r0_8]

theorem ld_dn0 (x3 : Vec Ideal S4096x1024 .bf16) (f d : Fin 1024) : View.ld x3 r0_3 (ix2 f d) = x3 (ix2 ⟨f.val, by omega⟩ d) := by
  pointwise [r0_3]

theorem ld_dn1 (x3 : Vec Ideal S4096x1024 .bf16) (f d : Fin 1024) : View.ld x3 r0_5 (ix2 f d) = x3 (ix2 ⟨1024 + f.val, by omega⟩ d) := by
  pointwise [r0_5]

theorem ld_dn2 (x3 : Vec Ideal S4096x1024 .bf16) (f d : Fin 1024) : View.ld x3 r0_7 (ix2 f d) = x3 (ix2 ⟨2048 + f.val, by omega⟩ d) := by
  pointwise [r0_7]

theorem ld_dn3 (x3 : Vec Ideal S4096x1024 .bf16) (f d : Fin 1024) : View.ld x3 r0_9 (ix2 f d) = x3 (ix2 ⟨3072 + f.val, by omega⟩ d) := by
  pointwise [r0_9]

theorem hz : (![0, 0] : Fin 2 → ℕ) = (fun _ => 0) := by funext a; fin_cases a <;> rfl

/-- The arithmetic of a point, on the blocks it has loaded. -/
theorem row_at (v0 : Vec Ideal S32x1024 .f32) (v1 : Vec Ideal S1x1024 .f32)
    (a0 b0 a1 b1 a2 b2 a3 b3 : Vec Ideal S1024x1024 .bf16) (r : Fin 32) (j : Fin 1024) (x g : Fin 1024 → EReal)
    (wu : Fin 1024 → Fin 4096 → EReal) (wd : Fin 4096 → Fin 1024 → EReal)
    (hx : ∀ k : Fin 1024, v0 (ix2 r k) = x k) (hg : ∀ k : Fin 1024, v1 (ix2 0 k) = g k)
    (ha0 : ∀ d f : Fin 1024, a0 (ix2 d f) = wu d ⟨f.val, by omega⟩) (hb0 : ∀ f d : Fin 1024, b0 (ix2 f d) = wd ⟨f.val, by omega⟩ d)
    (ha1 : ∀ d f : Fin 1024, a1 (ix2 d f) = wu d ⟨1024 + f.val, by omega⟩) (hb1 : ∀ f d : Fin 1024, b1 (ix2 f d) = wd ⟨1024 + f.val, by omega⟩ d)
    (ha2 : ∀ d f : Fin 1024, a2 (ix2 d f) = wu d ⟨2048 + f.val, by omega⟩) (hb2 : ∀ f d : Fin 1024, b2 (ix2 f d) = wd ⟨2048 + f.val, by omega⟩ d)
    (ha3 : ∀ d f : Fin 1024, a3 (ix2 d f) = wu d ⟨3072 + f.val, by omega⟩) (hb3 : ∀ f d : Fin 1024, b3 (ix2 f d) = wd ⟨3072 + f.val, by omega⟩ d) :
    k0_pay1 (F := Ideal) (k0_pay2 v0 v1) (k0_pay3 v0 v1 a0 b0 a1 b1) a2 b2 a3 b3 (ix2 r j) = mlp x g wu wd j := by
  rw [last_at, first_at]
  simp only [norm_at, hx, hg, ha0, hb0, ha1, hb1, ha2, hb2, ha3, hb3]
  exact (quarters (x j) fun f => act x g (fun d => wu d f) * wd f j).symm

/-- The stored block's row is the layer's row. -/
theorem out_at (x0 : Vec Ideal S32x1024 .f32) (x1 : Vec Ideal S1x1024 .f32) (x2 : Vec Ideal S1024x4096 .bf16)
    (x3 : Vec Ideal S4096x1024 .bf16) (r : Fin 32) (j : Fin 1024) :
    out0_4 x0 x1 x2 x3 (ix2 r j)
      = mlp (fun k => x0 (ix2 r k)) (fun k => x1 (ix2 0 k)) (fun d f => x2 (ix2 d f)) (fun f j => x3 (ix2 f j)) j := by
  unfold out0_4
  rw [View.canon_unit_zero hz]
  exact row_at _ _ _ _ _ _ _ _ _ _ r j _ _ _ _ (ld_x x0 r) (ld_g x1) (ld_up0 x2) (ld_dn0 x3) (ld_up1 x2) (ld_dn1 x3)
    (ld_up2 x2) (ld_dn2 x3) (ld_up3 x2) (ld_dn3 x3)

end Cert.MlpNextIdeal.Point

end
-- ==== Proof.MlpNextArray.lean ====
/- The array the feed-forward kernel leaves for the tokens to come: the layer of the argument arrays. -/
module

public import proofs.«01_k».proof.Proof.MlpNext

@[expose] public section

set_option maxRecDepth 16384

noncomputable section

namespace Cert.MlpNextIdeal.Array

open Idealize.ShloMosaic Idealize.ShloMosaic.TcCoe Idealize.ShloMosaic.Tactic
open Idealize.SL Idealize.SL.Sem
open Idealize.ShloMosaic.Pipeline (Dat)
open Cert.MlpNextIdeal Cert.MlpNextIdeal.Gen Cert.Rows

variable (m : (ℓ : Loc nD τ sig) → Buf (Elt Ideal) ℓ) (ρ : Dev nD → PrngReg) (c : Dev nD)

/-! ## The arguments, by position -/

def X (r : Fin 32) (k : Fin 1024) : EReal :=
  (m ((c : Thread nD τ).loc main_arg0) : Vec Ideal S32x1024 .f32) (ix2 r k)

def Gain (k : Fin 1024) : EReal := (m ((c : Thread nD τ).loc main_arg1) : Vec Ideal S1024 .f32) (ix1 k)

def Up (d : Fin 1024) (f : Fin 4096) : EReal :=
  (m ((c : Thread nD τ).loc main_arg2) : Vec Ideal S1024x4096 .f32) (ix2 d f)

def Dn (f : Fin 4096) (j : Fin 1024) : EReal :=
  (m ((c : Thread nD τ).loc main_arg3) : Vec Ideal S4096x1024 .f32) (ix2 f j)

/-! ## The operands the host code prepares -/

theorem up_at (d : Fin 1024) (f : Fin 4096) : (V m c main_v0 : Vec Ideal S1024x4096 .bf16) (ix2 d f) = Up m c d f := by
  entry_read
  pointwise [Up]

theorem dn_at (f : Fin 4096) (j : Fin 1024) : (V m c main_v1 : Vec Ideal S4096x1024 .bf16) (ix2 f j) = Dn m c f j := by
  entry_read
  pointwise [Dn]

theorem gain_at (k : Fin 1024) : (V m c main_v2 : Vec Ideal S1x1024 .f32) (ix2 0 k) = Gain m c k := by
  entry_read
  pointwise [Gain]

/-! ## The blocks -/

theorem idx_facts : ∀ t : Fin cfg0.N,
    (win0_0.index t 0 = (grid0.coords t 0).val ∧ win0_0.index t 1 = 0)
    ∧ (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = (grid0.coords t 0).val ∧ win0_4.index t 1 = 0) :=
  (by decide +kernel : ∀ t : Fin grid0.N, _)

/-- The row block of a grid point. -/
abbrev blk (t : Fin cfg0.N) : Fin 1 := grid0.coords t 0

theorem x_block (t : Fin cfg0.N) (r : Fin 32) (k : Fin 1024) :
    (iblk m c 0 t : Vec Ideal S32x1024 .f32) (ix2 r k) = X m c ⟨32 * (blk t).val + r.val, by omega⟩ k := by
  obtain ⟨⟨h0, h1⟩, -⟩ := idx_facts t
  have e : (((cfg0.win 0).blk t).view.emb (ix2 r k) : S32x1024.Idx) = ix2 ⟨32 * (blk t).val + r.val, by omega⟩ k := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * k.val = k.val; rw [h1]; omega
  show (V m c main_arg0 : Vec Ideal S32x1024 .f32) (((cfg0.win 0).blk t).view.emb (ix2 r k)) = _
  rw [e, V_main_arg0]
  rfl

theorem g_block (t : Fin cfg0.N) (k : Fin 1024) : (iblk m c 1 t : Vec Ideal S1x1024 .f32) (ix2 0 k) = Gain m c k := by
  obtain ⟨-, ⟨h0, h1⟩, -⟩ := idx_facts t
  have e : (((cfg0.win 1).blk t).view.emb (ix2 0 k) : S1x1024.Idx) = ix2 0 k := by
    funext a
    apply Fin.ext
    match a with
    | ⟨0, _⟩ => show win0_1.index t 0 * 1 + 1 * 0 = 0; rw [h0]
    | ⟨1, _⟩ => show win0_1.index t 1 * 1024 + 1 * k.val = k.val; rw [h1]; omega
  show (V m c main_v2 : Vec Ideal S1x1024 .f32) (((cfg0.win 1).blk t).view.emb (ix2 0 k)) = _
  rw [e, gain_at]

theorem up_block (t : Fin cfg0.N) (d : Fin 1024) (f : Fin 4096) :
    (iblk m c 2 t : Vec Ideal S1024x4096 .bf16) (ix2 d f) = Up m c d f := by
  obtain ⟨-, -, ⟨h0, h1⟩, -⟩ := idx_facts t
  have e : (((cfg0.win 2).blk t).view.emb (ix2 d f) : S1024x4096.Idx) = ix2 d f := by
    funext a
    apply Fin.ext
    match a with
    | ⟨0, _⟩ => show win0_2.index t 0 * 1024 + 1 * d.val = d.val; rw [h0]; omega
    | ⟨1, _⟩ => show win0_2.index t 1 * 4096 + 1 * f.val = f.val; rw [h1]; omega
  show (V m c main_v0 : Vec Ideal S1024x4096 .bf16) (((cfg0.win 2).blk t).view.emb (ix2 d f)) = _
  rw [e, up_at]

theorem dn_block (t : Fin cfg0.N) (f : Fin 4096) (j : Fin 1024) :
    (iblk m c 3 t : Vec Ideal S4096x1024 .bf16) (ix2 f j) = Dn m c f j := by
  obtain ⟨-, -, -, ⟨h0, h1⟩, -⟩ := idx_facts t
  have e : (((cfg0.win 3).blk t).view.emb (ix2 f j) : S4096x1024.Idx) = ix2 f j := by
    funext a
    apply Fin.ext
    match a with
    | ⟨0, _⟩ => show win0_3.index t 0 * 4096 + 1 * f.val = f.val; rw [h0]; omega
    | ⟨1, _⟩ => show win0_3.index t 1 * 1024 + 1 * j.val = j.val; rw [h1]; omega
  show (V m c main_v1 : Vec Ideal S4096x1024 .bf16) (((cfg0.win 3).blk t).view.emb (ix2 f j)) = _
  rw [e, dn_at]

theorem o_emb (t : Fin cfg0.N) (r : Fin 32) (j : Fin 1024) :
    (((cfg0.win 4).blk t).view.emb (ix2 r j) : S32x1024.Idx) = ix2 ⟨32 * (blk t).val + r.val, by omega⟩ j := by
  obtain ⟨-, -, -, -, ⟨h0, h1⟩⟩ := idx_facts t
  funext a
  apply Fin.ext
  match a with
  | ⟨0, _⟩ => show win0_4.index t 0 * 32 + 1 * r.val = 32 * (grid0.coords t 0).val + r.val; rw [h0]; omega
  | ⟨1, _⟩ => show win0_4.index t 1 * 1024 + 1 * j.val = j.val; rw [h1]; omega

/-! ## The stored block and the array -/

/-- What the result array is to hold. -/
def G : Vec Ideal S32x1024 .f32 := fun i => mlp (X m c (i 0)) (Gain m c) (Up m c) (Dn m c) (i 1)

theorem stored_eq (t : Fin cfg0.N) (j : S32x1024.Idx) :
    out0_4 (iblk m c 0 t) (iblk m c 1 t) (iblk m c 2 t) (iblk m c 3 t) j = G m c (((cfg0.win 4).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G m c) (o_emb t r d)).symm
  refine (Point.out_at _ _ _ _ r d).trans ?_
  show mlp _ _ _ _ _ = mlp (X m c ⟨32 * (blk t).val + r.val, _⟩) (Gain m c) (Up m c) (Dn m c) d
  congr 1
  · exact funext fun k => x_block m c t r k
  · exact funext fun k => g_block m c t k
  · exact funext fun d => funext fun f => up_block m c t d f
  · exact funext fun f => funext fun j => dn_block m c t f j

theorem flushed_eq (t : Fin cfg0.N) (_ : (cfg0.win 4).flush t = true) :
    (dats m 0 c).flushed 4 t = ((cfg0.win 4).blk t).view.read (Elt Ideal) (G m c) := by
  rw [Value.flushed4]
  funext j
  rw [View.read_apply]
  exact stored_eq m c t j

theorem point_of : ∀ b : Fin 1, ∃ t : Fin cfg0.N, (grid0.coords t 0).val = b.val :=
  (by decide +kernel : ∀ b : Fin 1, ∃ t : Fin grid0.N, _)

theorem covered (i : S32x1024.Idx) :
    ∃ t : Fin cfg0.N, (cfg0.win 4).flush t = true ∧ i ∈ ((cfg0.win 4).blk t).view.set := by
  have h0 : (i 0).val < 32 := (i 0).isLt
  obtain ⟨t, hb⟩ := point_of ⟨(i 0).val / 32, by omega⟩
  refine ⟨t, flush0_4 t, ?_⟩
  have e := o_emb t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 4).blk t).view.emb_mem_set _

/-- The result array after the last grid point. -/
theorem final : (dats m 0 c).arrAt 4 cfg0.N = G m c :=
  (dats m 0 c).arrAt_eq_of_cover 4 (G m c) (flushed_eq m c) covered

/-- The kernel's run: the result is the layer of the arguments, which stay as they were. -/
theorem run : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.MlpNextIdeal.Array

end
-- ==== Proof.MlpNextReference.lean ====
/- The reference's feed-forward layer for the tokens to come, read at an index. -/
module

public import proofs.«01_k».proof.Proof.Gen.MlpNextRefIdeal.Read
public import proofs.«01_k».proof.Proof.Rows
public import Idealize.ShloMosaic.Lib.Pointwise

@[expose] public section

set_option maxRecDepth 16384

noncomputable section

namespace Cert.MlpNextRefIdeal.Reference

open Idealize.ShloMosaic Idealize.ShloMosaic.TcCoe Idealize.ShloMosaic.Tactic
open Idealize.SL Idealize.SL.Sem
open Cert.MlpNextRefIdeal Cert.MlpNextRefIdeal.Gen Cert.MlpNextRefIdeal.Read Cert.Rows

variable (x0 : Vec Ideal S32x1024 .f32) (x1 : Vec Ideal S1024 .f32) (x2 : Vec Ideal S1024x4096 .f32)
  (x3 : Vec Ideal S4096x1024 .f32)

theorem norm_at (r : Fin 32) (d : Fin 1024) :
    val_main_v12 (F := Ideal) x0 x1 (ix2 r d) = unit (fun k => x0 (ix2 r k)) (fun k => x1 (ix1 k)) d := by
  rw [val_main_v12_apply, val_main_v9_apply, val_main_v8_apply, val_main_v7_apply, val_main_v6_apply, val_main_v5_apply,
    val_main_v4_apply, val_main_v3_apply, val_main_v2_apply, val_main_v1_apply, val_main_v11_apply, val_main_v10_apply,
    val_main_cst_apply, val_main_cst_0_apply, val_main_cst_1_apply]
  simp only [val_main_v0_apply]
  rw [show (FloatOps.ofBits (F := Ideal) .f32 0x00000000#32 : EReal) = 0 from by show Ideal.ofBits .f32 0x00000000#32 = 0; simp [Ideal.ofBits, Ideal.ieee], zero_add]
  have h1 : ∀ k : Fin 1024, idx_main_v1 (idx_main_v2 (idx_main_v8 (ix2 r d))) k = ix2 r k := fun k => funext fun a => by
    match a with
    | ⟨0, _⟩ => rfl
    | ⟨1, _⟩ => rfl
  have h2 : idx_main_v10 (idx_main_v11 (ix2 r d)) = ix1 d := funext fun a => by
    match a with
    | ⟨0, _⟩ => rfl
  simp only [h1, h2]
  rfl

theorem hidden_at (r : Fin 32) (f : Fin 4096) :
    val_main_v15 (F := Ideal) x0 x1 x2 (ix2 r f) = act (fun k => x0 (ix2 r k)) (fun k => x1 (ix1 k)) (fun d => x2 (ix2 d f)) := by
  have h : val_main_v14 (F := Ideal) x0 x1 x2 (ix2 r f)
      = max (proj (fun k => x0 (ix2 r k)) (fun k => x1 (ix1 k)) (fun d => x2 (ix2 d f))) 0 := by
    rw [val_main_v14_apply, val_main_v13_apply, val_main_call0_v0_apply, val_main_call0_cst_apply,
      show (FloatOps.ofBits (F := Ideal) .f32 0x00000000#32 : EReal) = 0 from by show Ideal.ofBits .f32 0x00000000#32 = 0; simp [Ideal.ofBits, Ideal.ieee]]
    refine congrArg (max · 0) (Finset.sum_congr rfl fun k _ => ?_)
    have hl : lidx_main_v13 (ix2 r f) k = ix2 r k := funext fun a => by
      match a with
      | ⟨0, _⟩ => rfl
      | ⟨1, _⟩ => rfl
    have hr : ridx_main_v13 (ix2 r f) k = ix2 k f := funext fun a => by
      match a with
      | ⟨0, _⟩ => rfl
      | ⟨1, _⟩ => rfl
    rw [hl, hr, norm_at]
  rw [val_main_v15_apply, h]
  rfl

theorem result_at (r : Fin 32) (j : Fin 1024) :
    val_main_v17 (F := Ideal) x0 x1 x2 x3 (ix2 r j)
      = mlp (fun k => x0 (ix2 r k)) (fun k => x1 (ix1 k)) (fun d f => x2 (ix2 d f)) (fun f j => x3 (ix2 f j)) j := by
  rw [val_main_v17_apply, val_main_v16_apply]
  refine congrArg (x0 (ix2 r j) + ·) (Finset.sum_congr rfl fun f _ => ?_)
  have hl : lidx_main_v16 (ix2 r j) f = ix2 r f := funext fun a => by
    match a with
    | ⟨0, _⟩ => rfl
    | ⟨1, _⟩ => rfl
  have hr : ridx_main_v16 (ix2 r j) f = ix2 f j := funext fun a => by
    match a with
    | ⟨0, _⟩ => rfl
    | ⟨1, _⟩ => rfl
  rw [hl, hr, hidden_at]

end Cert.MlpNextRefIdeal.Reference

end
-- ==== Proof.OutNextArray.lean ====
/- The array the projection out of an attention leaves for the tokens to come: the residual plus the product of the argument arrays. -/
module

public import proofs.«01_k».proof.Proof.Gen.OutNextIdeal.Value
public import Idealize.ShloMosaic.Lib.Pointwise

@[expose] public section

set_option maxRecDepth 16384

noncomputable section

namespace Cert.OutNextIdeal.Array

open Idealize.ShloMosaic Idealize.ShloMosaic.TcCoe Idealize.ShloMosaic.Tactic
open Idealize.SL Idealize.SL.Sem
open Idealize.ShloMosaic.Pipeline (Dat)
open Cert.OutNextIdeal Cert.OutNextIdeal.Gen

/-! ## One grid point -/

theorem pay_at (v0 : Vec Ideal S32x1024 .f32) (v1 : Vec Ideal S32x1024 .f32) (v2 : Vec Ideal S1024x1024 .bf16)
    (r : Fin 32) (j : Fin 1024) :
    k0_pay1 (F := Ideal) v0 v1 v2 (ix2 r j) = v1 (ix2 r j) + ∑ k : Fin 1024, v0 (ix2 r k) * v2 (ix2 k j) := by
  pointwise [k0_pay1]

theorem hz : (![0, 0] : Fin 2 → ℕ) = (fun _ => 0) := by funext a; fin_cases a <;> rfl

theorem out_at (x0 : Vec Ideal S32x1024 .f32) (x1 : Vec Ideal S1024x1024 .bf16) (x2 : Vec Ideal S32x1024 .f32)
    (r : Fin 32) (j : Fin 1024) :
    out0_3 x0 x1 x2 (ix2 r j) = x2 (ix2 r j) + ∑ k : Fin 1024, x0 (ix2 r k) * x1 (ix2 k j) := by
  unfold out0_3
  rw [View.canon_unit_zero hz, View.ld_unit_zero hz, View.ld_unit_zero hz, View.ld_unit_zero hz]
  exact pay_at x0 x2 x1 r j

variable (m : (ℓ : Loc nD τ sig) → Buf (Elt Ideal) ℓ) (ρ : Dev nD → PrngReg) (c : Dev nD)

/-! ## The arguments, by position -/

def A (r : Fin 32) (k : Fin 1024) : EReal :=
  (m ((c : Thread nD τ).loc main_arg0) : Vec Ideal S32x1024 .f32) (ix2 r k)

def Wt (k j : Fin 1024) : EReal := (m ((c : Thread nD τ).loc main_arg1) : Vec Ideal S1024x1024 .f32) (ix2 k j)

def Res (r : Fin 32) (j : Fin 1024) : EReal :=
  (m ((c : Thread nD τ).loc main_arg2) : Vec Ideal S32x1024 .f32) (ix2 r j)

theorem w_at (k j : Fin 1024) : (V m c main_v0 : Vec Ideal S1024x1024 .bf16) (ix2 k j) = Wt m c k j := by
  entry_read
  pointwise [Wt]

/-! ## The blocks -/

theorem idx_facts : ∀ t : Fin cfg0.N,
    (win0_0.index t 0 = (grid0.coords t 0).val ∧ win0_0.index t 1 = 0)
    ∧ (win0_1.index t 0 = 0 ∧ win0_1.index t 1 = 0)
    ∧ (win0_2.index t 0 = (grid0.coords t 0).val ∧ win0_2.index t 1 = 0)
    ∧ (win0_3.index t 0 = (grid0.coords t 0).val ∧ win0_3.index t 1 = 0) :=
  (by decide +kernel : ∀ t : Fin grid0.N, _)

/-- The row block of a grid point. -/
abbrev blk (t : Fin cfg0.N) : Fin 1 := grid0.coords t 0

theorem a_block (t : Fin cfg0.N) (r : Fin 32) (k : Fin 1024) :
    (iblk m c 0 t : Vec Ideal S32x1024 .f32) (ix2 r k) = A m c ⟨32 * (blk t).val + r.val, by omega⟩ k := by
  obtain ⟨⟨h0, h1⟩, -⟩ := idx_facts t
  have e : (((cfg0.win 0).blk t).view.emb (ix2 r k) : S32x1024.Idx) = ix2 ⟨32 * (blk t).val + r.val, by omega⟩ k := by
    funext a
    apply Fin.ext
    match a with
    | ⟨0, _⟩ => show win0_0.index t 0 * 32 + 1 * r.val = 32 * (grid0.coords t 0).val + r.val; rw [h0]; omega
    | ⟨1, _⟩ => show win0_0.index t 1 * 1024 + 1 * k.val = k.val; rw [h1]; omega
  show (V m c main_arg0 : Vec Ideal S32x1024 .f32) (((cfg0.win 0).blk t).view.emb (ix2 r k)) = _
  rw [e, V_main_arg0]
  rfl

theorem w_block (t : Fin cfg0.N) (k j : Fin 1024) :
    (iblk m c 1 t : Vec Ideal S1024x1024 .bf16) (ix2 k j) = Wt m c k j := by
  obtain ⟨-, ⟨h0, h1⟩, -⟩ := idx_facts t
  have e : (((cfg0.win 1).blk t).view.emb (ix2 k j) : S1024x1024.Idx) = ix2 k j := by
    funext a
    apply Fin.ext
    match a with
    | ⟨0, _⟩ => show win0_1.index t 0 * 1024 + 1 * k.val = k.val; rw [h0]; omega
    | ⟨1, _⟩ => show win0_1.index t 1 * 1024 + 1 * j.val = j.val; rw [h1]; omega
  show (V m c main_v0 : Vec Ideal S1024x1024 .bf16) (((cfg0.win 1).blk t).view.emb (ix2 k j)) = _
  rw [e, w_at]

theorem res_block (t : Fin cfg0.N) (r : Fin 32) (j : Fin 1024) :
    (iblk m c 2 t : Vec Ideal S32x1024 .f32) (ix2 r j) = Res m c ⟨32 * (blk t).val + r.val, by omega⟩ j := by
  obtain ⟨-, -, ⟨h0, h1⟩, -⟩ := idx_facts t
  have e : (((cfg0.win 2).blk t).view.emb (ix2 r j) : S32x1024.Idx) = ix2 ⟨32 * (blk t).val + r.val, by omega⟩ j := by
    funext a
    apply Fin.ext
    match a with
    | ⟨0, _⟩ => show win0_2.index t 0 * 32 + 1 * r.val = 32 * (grid0.coords t 0).val + r.val; rw [h0]; omega
    | ⟨1, _⟩ => show win0_2.index t 1 * 1024 + 1 * j.val = j.val; rw [h1]; omega
  show (V m c main_arg2 : Vec Ideal S32x1024 .f32) (((cfg0.win 2).blk t).view.emb (ix2 r j)) = _
  rw [e, V_main_arg2]
  rfl

theorem o_emb (t : Fin cfg0.N) (r : Fin 32) (j : Fin 1024) :
    (((cfg0.win 3).blk t).view.emb (ix2 r j) : S32x1024.Idx) = ix2 ⟨32 * (blk t).val + r.val, by omega⟩ j := by
  obtain ⟨-, -, -, ⟨h0, h1⟩⟩ := idx_facts t
  funext a
  apply Fin.ext
  match a with
  | ⟨0, _⟩ => show win0_3.index t 0 * 32 + 1 * r.val = 32 * (grid0.coords t 0).val + r.val; rw [h0]; omega
  | ⟨1, _⟩ => show win0_3.index t 1 * 1024 + 1 * j.val = j.val; rw [h1]; omega

/-! ## The stored block and the array -/

/-- What the result array is to hold. -/
def G : Vec Ideal S32x1024 .f32 := fun i => Res m c (i 0) (i 1) + ∑ k : Fin 1024, A m c (i 0) k * Wt m c k (i 1)

theorem stored_eq (t : Fin cfg0.N) (j : S32x1024.Idx) :
    out0_3 (iblk m c 0 t) (iblk m c 1 t) (iblk m c 2 t) j = G m c (((cfg0.win 3).blk t).view.emb j) := by
  have hj : j = ix2 (j 0) (j 1) := by
    funext a
    match a with
    | ⟨0, _⟩ => rfl
    | ⟨1, _⟩ => rfl
  generalize (j 0 : Fin 32) = r at hj
  generalize (j 1 : Fin 1024) = d at hj
  subst hj
  refine Eq.trans ?_ (congrArg (G m c) (o_emb t r d)).symm
  refine (out_at _ _ _ r d).trans ?_
  refine congrArg₂ (· + ·) (res_block m c t r d) (Finset.sum_congr rfl fun k _ => ?_)
  exact congrArg₂ (· * ·) (a_block m c t r k) (w_block m c t k d)

theorem flushed_eq (t : Fin cfg0.N) (_ : (cfg0.win 3).flush t = true) :
    (dats m 0 c).flushed 3 t = ((cfg0.win 3).blk t).view.read (Elt Ideal) (G m c) := by
  rw [Value.flushed3]
  funext j
  rw [View.read_apply]
  exact stored_eq m c t j

theorem point_of : ∀ b : Fin 1, ∃ t : Fin cfg0.N, (grid0.coords t 0).val = b.val :=
  (by decide +kernel : ∀ b : Fin 1, ∃ t : Fin grid0.N, _)

theorem covered (i : S32x1024.Idx) :
    ∃ t : Fin cfg0.N, (cfg0.win 3).flush t = true ∧ i ∈ ((cfg0.win 3).blk t).view.set := by
  have h0 : (i 0).val < 32 := (i 0).isLt
  obtain ⟨t, hb⟩ := point_of ⟨(i 0).val / 32, by omega⟩
  refine ⟨t, flush0_3 t, ?_⟩
  have e := o_emb t ⟨(i 0).val % 32, by omega⟩ (i 1)
  have hi : i = ix2 ⟨32 * (blk t).val + (i 0).val % 32, by omega⟩ (i 1) := by
    funext a
    apply Fin.ext
    match a with
    | ⟨0, _⟩ => show (i 0).val = 32 * (grid0.coords t 0).val + (i 0).val % 32; rw [hb]; dsimp only; omega
    | ⟨1, _⟩ => rfl
  rw [hi.trans e.symm]
  exact ((cfg0.win 3).blk t).view.emb_mem_set _

/-- The result array after the last grid point. -/
theorem final : (dats m 0 c).arrAt 3 cfg0.N = G m c :=
  (dats m 0 c).arrAt_eq_of_cover 3 (G m c) (flushed_eq m c) covered

/-- The kernel's run: the residual plus the product, the arguments as they were. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.OutNextIdeal.Array

end
-- ==== Proof.OutNextReference.lean ====
/- The reference's projection out of an attention for the tokens to come, read at an index. -/
module

public import proofs.«01_k».proof.Proof.Gen.OutNextRefIdeal.Read
public import Idealize.ShloMosaic.Lib.Pointwise

@[expose] public section

set_option maxRecDepth 16384

noncomputable section

namespace Cert.OutNextRefIdeal.Reference

open Idealize.ShloMosaic Idealize.ShloMosaic.TcCoe Idealize.ShloMosaic.Tactic
open Idealize.SL Idealize.SL.Sem
open Cert.OutNextRefIdeal Cert.OutNextRefIdeal.Gen Cert.OutNextRefIdeal.Read

theorem result_at (x0 : Vec Ideal S32x1024 .f32) (x1 : Vec Ideal S1024x1024 .f32) (x2 : Vec Ideal S32x1024 .f32)
    (r : Fin 32) (j : Fin 1024) :
    val_main_v1 (F := Ideal) x0 x1 x2 (ix2 r j) = x2 (ix2 r j) + ∑ k : Fin 1024, x0 (ix2 r k) * x1 (ix2 k j) := by
  rw [val_main_v1_apply, val_main_v0_apply]
  refine congrArg (x2 (ix2 r j) + ·) (Finset.sum_congr rfl fun k _ => ?_)
  have hl : lidx_main_v0 (ix2 r j) k = ix2 r k := funext fun a => by
    match a with
    | ⟨0, _⟩ => rfl
    | ⟨1, _⟩ => rfl
  have hr : ridx_main_v0 (ix2 r j) k = ix2 k j := funext fun a => by
    match a with
    | ⟨0, _⟩ => rfl
    | ⟨1, _⟩ => rfl
  rw [hl, hr]

end Cert.OutNextRefIdeal.Reference

end
-- ==== Proof.lean ====
module

public import proofs.«01_k».proof.Defs
public import proofs.«01_k».proof.Proof.Gen.Fox
public import proofs.«01_k».proof.Proof.Gen.Fox.Skeleton
public import proofs.«01_k».proof.Proof.Gen.Fox.Loops
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Loops
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Next
public import proofs.«01_k».proof.Proof.Gen.Next.Skeleton
public import proofs.«01_k».proof.Proof.Gen.Next.Launch
public import proofs.«01_k».proof.Proof.Gen.Next.Points
public import proofs.«01_k».proof.Proof.Gen.Next.Frame
public import proofs.«01_k».proof.Proof.Gen.NextIdeal
public import proofs.«01_k».proof.Proof.Gen.NextIdeal.Skeleton
public import proofs.«01_k».proof.Proof.Gen.NextIdeal.Launch
public import proofs.«01_k».proof.Proof.Gen.NextIdeal.Points
public import proofs.«01_k».proof.Proof.Gen.NextIdeal.Frame
public import proofs.«01_k».proof.Proof.Gen.NextRefIdeal
public import proofs.«01_k».proof.Proof.Gen.Rot
public import proofs.«01_k».proof.Proof.Gen.Rot.Skeleton
public import proofs.«01_k».proof.Proof.Gen.Rot.Launch
public import proofs.«01_k».proof.Proof.Gen.Rot.Points
public import proofs.«01_k».proof.Proof.Gen.Rot.Frame
public import proofs.«01_k».proof.Proof.Gen.RotIdeal
public import proofs.«01_k».proof.Proof.Gen.RotIdeal.Skeleton
public import proofs.«01_k».proof.Proof.Gen.RotIdeal.Launch
public import proofs.«01_k».proof.Proof.Gen.RotIdeal.Points
public import proofs.«01_k».proof.Proof.Gen.RotIdeal.Frame
public import proofs.«01_k».proof.Proof.Gen.RotRefIdeal
public import proofs.«01_k».proof.Proof.Gen.RotNext
public import proofs.«01_k».proof.Proof.Gen.RotNext.Skeleton
public import proofs.«01_k».proof.Proof.Gen.RotNext.Launch
public import proofs.«01_k».proof.Proof.Gen.RotNext.Points
public import proofs.«01_k».proof.Proof.Gen.RotNext.Frame
public import proofs.«01_k».proof.Proof.Gen.RotNextIdeal
public import proofs.«01_k».proof.Proof.Gen.RotNextIdeal.Skeleton
public import proofs.«01_k».proof.Proof.Gen.RotNextIdeal.Launch
public import proofs.«01_k».proof.Proof.Gen.RotNextIdeal.Points
public import proofs.«01_k».proof.Proof.Gen.RotNextIdeal.Frame
public import proofs.«01_k».proof.Proof.Gen.RotNextRefIdeal
public import proofs.«01_k».proof.Proof.Gen.Nsa
public import proofs.«01_k».proof.Proof.Gen.Nsa.Skeleton
public import proofs.«01_k».proof.Proof.Gen.Nsa.Launch
public import proofs.«01_k».proof.Proof.Gen.Nsa.Points
public import proofs.«01_k».proof.Proof.Gen.Nsa.Frame
public import proofs.«01_k».proof.Proof.Gen.NsaIdeal
public import proofs.«01_k».proof.Proof.Gen.NsaIdeal.Skeleton
public import proofs.«01_k».proof.Proof.Gen.NsaIdeal.Launch
public import proofs.«01_k».proof.Proof.Gen.NsaIdeal.Points
public import proofs.«01_k».proof.Proof.Gen.NsaIdeal.Frame
public import proofs.«01_k».proof.Proof.Gen.NsaRefIdeal
public import proofs.«01_k».proof.Proof.Gen.NsaNext
public import proofs.«01_k».proof.Proof.Gen.NsaNext.Skeleton
public import proofs.«01_k».proof.Proof.Gen.NsaNext.Launch
public import proofs.«01_k».proof.Proof.Gen.NsaNext.Points
public import proofs.«01_k».proof.Proof.Gen.NsaNext.Frame
public import proofs.«01_k».proof.Proof.Gen.NsaNextIdeal
public import proofs.«01_k».proof.Proof.Gen.NsaNextIdeal.Skeleton
public import proofs.«01_k».proof.Proof.Gen.NsaNextIdeal.Launch
public import proofs.«01_k».proof.Proof.Gen.NsaNextIdeal.Points
public import proofs.«01_k».proof.Proof.Gen.NsaNextIdeal.Frame
public import proofs.«01_k».proof.Proof.Gen.NsaNextRefIdeal
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormNext
public import proofs.«01_k».proof.Proof.Gen.NormNext.Skeleton
public import proofs.«01_k».proof.Proof.Gen.NormNext.Launch
public import proofs.«01_k».proof.Proof.Gen.NormNext.Points
public import proofs.«01_k».proof.Proof.Gen.NormNext.Frame
public import proofs.«01_k».proof.Proof.Gen.NormNextIdeal
public import proofs.«01_k».proof.Proof.Gen.NormNextIdeal.Skeleton
public import proofs.«01_k».proof.Proof.Gen.NormNextIdeal.Launch
public import proofs.«01_k».proof.Proof.Gen.NormNextIdeal.Points
public import proofs.«01_k».proof.Proof.Gen.NormNextIdeal.Frame
public import proofs.«01_k».proof.Proof.Gen.NormNextRefIdeal
public import proofs.«01_k».proof.Proof.Gen.Keep
public import proofs.«01_k».proof.Proof.Gen.Keep.Skeleton
public import proofs.«01_k».proof.Proof.Gen.Keep.Launch
public import proofs.«01_k».proof.Proof.Gen.Keep.Points
public import proofs.«01_k».proof.Proof.Gen.Keep.Frame
public import proofs.«01_k».proof.Proof.Gen.KeepIdeal
public import proofs.«01_k».proof.Proof.Gen.KeepIdeal.Skeleton
public import proofs.«01_k».proof.Proof.Gen.KeepIdeal.Launch
public import proofs.«01_k».proof.Proof.Gen.KeepIdeal.Points
public import proofs.«01_k».proof.Proof.Gen.KeepIdeal.Frame
public import proofs.«01_k».proof.Proof.Gen.KeepRefIdeal
public import proofs.«01_k».proof.Proof.Gen.MlpNext
public import proofs.«01_k».proof.Proof.Gen.MlpNext.Skeleton
public import proofs.«01_k».proof.Proof.Gen.MlpNext.Launch
public import proofs.«01_k».proof.Proof.Gen.MlpNext.Points
public import proofs.«01_k».proof.Proof.Gen.MlpNext.Frame
public import proofs.«01_k».proof.Proof.Gen.MlpNextIdeal
public import proofs.«01_k».proof.Proof.Gen.MlpNextIdeal.Skeleton
public import proofs.«01_k».proof.Proof.Gen.MlpNextIdeal.Launch
public import proofs.«01_k».proof.Proof.Gen.MlpNextIdeal.Points
public import proofs.«01_k».proof.Proof.Gen.MlpNextIdeal.Frame
public import proofs.«01_k».proof.Proof.Gen.MlpNextRefIdeal
public import proofs.«01_k».proof.Proof.Gen.OutNext
public import proofs.«01_k».proof.Proof.Gen.OutNext.Skeleton
public import proofs.«01_k».proof.Proof.Gen.OutNext.Launch
public import proofs.«01_k».proof.Proof.Gen.OutNext.Points
public import proofs.«01_k».proof.Proof.Gen.OutNext.Frame
public import proofs.«01_k».proof.Proof.Gen.OutNextIdeal
public import proofs.«01_k».proof.Proof.Gen.OutNextIdeal.Skeleton
public import proofs.«01_k».proof.Proof.Gen.OutNextIdeal.Launch
public import proofs.«01_k».proof.Proof.Gen.OutNextIdeal.Points
public import proofs.«01_k».proof.Proof.Gen.OutNextIdeal.Frame
public import proofs.«01_k».proof.Proof.Gen.OutNextRefIdeal
public import proofs.«01_k».proof.Proof.Gen.FoxIdeal.Value
public import proofs.«01_k».proof.Proof.Gen.FoxRefIdeal.Run
public import proofs.«01_k».proof.Proof.Gen.FoxRefIdeal.Read
public import proofs.«01_k».proof.Proof.Array
public import proofs.«01_k».proof.Proof.Reference
public import proofs.«01_k».proof.Proof.Gen.MlpIdeal.Value
public import proofs.«01_k».proof.Proof.Gen.MlpRefIdeal.Run
public import proofs.«01_k».proof.Proof.Gen.MlpRefIdeal.Read
public import proofs.«01_k».proof.Proof.MlpArray
public import proofs.«01_k».proof.Proof.MlpReference
public import proofs.«01_k».proof.Proof.Gen.OutIdeal.Value
public import proofs.«01_k».proof.Proof.Gen.OutRefIdeal.Run
public import proofs.«01_k».proof.Proof.Gen.OutRefIdeal.Read
public import proofs.«01_k».proof.Proof.OutArray
public import proofs.«01_k».proof.Proof.OutReference
public import proofs.«01_k».proof.Proof.Gen.ProjIdeal.Value
public import proofs.«01_k».proof.Proof.Gen.ProjRefIdeal.Run
public import proofs.«01_k».proof.Proof.Gen.ProjRefIdeal.Read
public import proofs.«01_k».proof.Proof.ProjArray
public import proofs.«01_k».proof.Proof.ProjReference
public import proofs.«01_k».proof.Proof.Gen.NextIdeal.Value
public import proofs.«01_k».proof.Proof.Gen.NextRefIdeal.Run
public import proofs.«01_k».proof.Proof.Gen.NextRefIdeal.Read
public import proofs.«01_k».proof.Proof.NextArray
public import proofs.«01_k».proof.Proof.NextReference
public import proofs.«01_k».proof.Proof.Gen.RotIdeal.Value
public import proofs.«01_k».proof.Proof.Gen.RotRefIdeal.Run
public import proofs.«01_k».proof.Proof.Gen.RotRefIdeal.Read
public import proofs.«01_k».proof.Proof.RotArray
public import proofs.«01_k».proof.Proof.RotReference
public import proofs.«01_k».proof.Proof.Gen.RotNextIdeal.Value
public import proofs.«01_k».proof.Proof.Gen.RotNextRefIdeal.Run
public import proofs.«01_k».proof.Proof.Gen.RotNextRefIdeal.Read
public import proofs.«01_k».proof.Proof.RotNextArray
public import proofs.«01_k».proof.Proof.RotNextReference
public import proofs.«01_k».proof.Proof.Gen.NsaIdeal.Value
public import proofs.«01_k».proof.Proof.Gen.NsaRefIdeal.Run
public import proofs.«01_k».proof.Proof.Gen.NsaRefIdeal.Read
public import proofs.«01_k».proof.Proof.NsaArray
public import proofs.«01_k».proof.Proof.NsaReference
public import proofs.«01_k».proof.Proof.Gen.NsaNextIdeal.Value
public import proofs.«01_k».proof.Proof.Gen.NsaNextRefIdeal.Run
public import proofs.«01_k».proof.Proof.Gen.NsaNextRefIdeal.Read
public import proofs.«01_k».proof.Proof.NsaNextArray
public import proofs.«01_k».proof.Proof.NsaNextReference
public import proofs.«01_k».proof.Proof.Gen.MixIdeal.Value
public import proofs.«01_k».proof.Proof.Gen.MixRefIdeal.Run
public import proofs.«01_k».proof.Proof.Gen.MixRefIdeal.Read
public import proofs.«01_k».proof.Proof.MixArray
public import proofs.«01_k».proof.Proof.MixReference
public import proofs.«01_k».proof.Proof.Gen.NormIdeal.Value
public import proofs.«01_k».proof.Proof.Gen.NormRefIdeal.Run
public import proofs.«01_k».proof.Proof.Gen.NormRefIdeal.Read
public import proofs.«01_k».proof.Proof.NormArray
public import proofs.«01_k».proof.Proof.NormReference
public import proofs.«01_k».proof.Proof.Gen.NormNextIdeal.Value
public import proofs.«01_k».proof.Proof.Gen.NormNextRefIdeal.Run
public import proofs.«01_k».proof.Proof.Gen.NormNextRefIdeal.Read
public import proofs.«01_k».proof.Proof.NormNextArray
public import proofs.«01_k».proof.Proof.NormNextReference
public import proofs.«01_k».proof.Proof.Gen.KeepIdeal.Run
public import proofs.«01_k».proof.Proof.Gen.KeepRefIdeal.Run
public import proofs.«01_k».proof.Proof.Gen.KeepRefIdeal.Read
public import proofs.«01_k».proof.Proof.KeepArray
public import proofs.«01_k».proof.Proof.KeepReference
public import proofs.«01_k».proof.Proof.Gen.MlpNextIdeal.Value
public import proofs.«01_k».proof.Proof.Gen.MlpNextRefIdeal.Run
public import proofs.«01_k».proof.Proof.Gen.MlpNextRefIdeal.Read
public import proofs.«01_k».proof.Proof.MlpNext
public import proofs.«01_k».proof.Proof.MlpNextArray
public import proofs.«01_k».proof.Proof.MlpNextReference
public import proofs.«01_k».proof.Proof.Gen.OutNextIdeal.Value
public import proofs.«01_k».proof.Proof.Gen.OutNextRefIdeal.Run
public import proofs.«01_k».proof.Proof.Gen.OutNextRefIdeal.Read
public import proofs.«01_k».proof.Proof.OutNextArray
public import proofs.«01_k».proof.Proof.OutNextReference
public import Idealize.ShloMosaic.Adequacy
public import Idealize.ShloMosaic.Init

@[expose] public section

noncomputable section

namespace Cert.Proof

open Idealize.ShloMosaic Idealize.ShloMosaic.TcCoe Idealize.SL.Sem

/-- The attention: kernel and reference leave the attention of the arguments. -/
theorem fox_algebraic : Cert.algebraic_FoxIdeal_FoxRefIdeal := by
  intro m g m' g' _ hagree
  refine ⟨fun c => Cert.FoxIdeal.Array.G m c, Cert.FoxIdeal.Array.run m g, ?_⟩
  refine (θ_run Cert.FoxRefIdeal.defs _ _).mono (fun r h c => ⟨(h c).1.trans ?_, (h c).2⟩) (Cert.FoxRefIdeal.Value.run m' g')
  rw [Cert.FoxRefIdeal.Read.val_main_v39_eq, (hagree c).1, (hagree c).2.1, (hagree c).2.2.1, (hagree c).2.2.2]
  funext i
  have hi : i = ix3 (i 0) (i 1) (i 2) := by
    funext a
    match a with
    | ⟨0, _⟩ => rfl
    | ⟨1, _⟩ => rfl
    | ⟨2, _⟩ => rfl
  exact (congrArg _ hi).trans (Cert.FoxRefIdeal.Reference.result_at _ _ _ _ _ _ _)

/-- The reference keeps its arguments, and has no semaphores. -/
theorem fox_ref_frame : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run m ρ)

theorem fox_preserves : Cert.preserves_Fox_FoxIdeal :=
  ⟨IdealRules.named_const.statement Cert.FoxIdeal.κ "q_scale" .f32 0x3E38AA3B#32 _ rfl,
    IdealRules.named_const.statement Cert.FoxIdeal.κ "log2e" .f32 0x3FB8AA3B#32 _ rfl,
    IdealRules.named_const.statement Cert.FoxIdeal.κ "mask" .f32 0xF149F2CA#32 _ rfl⟩

/-- The feed-forward layer: kernel and reference leave the layer of the arguments. -/
theorem mlp_algebraic : Cert.algebraic_MlpIdeal_MlpRefIdeal := by
  intro m g m' g' _ hagree
  refine ⟨fun c => Cert.MlpIdeal.Array.G m c, Cert.MlpIdeal.Array.run m g, ?_⟩
  refine (θ_run Cert.MlpRefIdeal.defs _ _).mono (fun r h c => ⟨(h c).1.trans ?_, (h c).2⟩) (Cert.MlpRefIdeal.Value.run m' g')
  rw [Cert.MlpRefIdeal.Read.val_main_v17_eq, (hagree c).1, (hagree c).2.1, (hagree c).2.2.1, (hagree c).2.2.2]
  funext i
  have hi : i = ix2 (i 0) (i 1) := by
    funext a
    match a with
    | ⟨0, _⟩ => rfl
    | ⟨1, _⟩ => rfl
  exact (congrArg _ hi).trans (Cert.MlpRefIdeal.Reference.result_at _ _ _ _ _ _)

theorem mlp_ref_frame : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run m ρ)

theorem mlp_preserves : Cert.preserves_Mlp_MlpIdeal := trivial

/-- The projection out: kernel and reference leave the residual plus the product. -/
theorem out_algebraic : Cert.algebraic_OutIdeal_OutRefIdeal := by
  intro m g m' g' _ hagree
  refine ⟨fun c => Cert.OutIdeal.Array.G m c, Cert.OutIdeal.Array.run m g, ?_⟩
  refine (θ_run Cert.OutRefIdeal.defs _ _).mono (fun r h c => ⟨(h c).1.trans ?_, (h c).2⟩) (Cert.OutRefIdeal.Value.run m' g')
  rw [Cert.OutRefIdeal.Read.val_main_v2_eq, (hagree c).1, (hagree c).2.1, (hagree c).2.2]
  funext i
  have hi : i = ix2 (i 0) (i 1) := by
    funext a
    match a with
    | ⟨0, _⟩ => rfl
    | ⟨1, _⟩ => rfl
  exact (congrArg _ hi).trans (Cert.OutRefIdeal.Reference.result_at _ _ _ _ _)

theorem out_ref_frame : Cert.quiescent_OutRefIdeal := fun m ρ _ =>
  (θ_run Cert.OutRefIdeal.defs _ _).mono (fun r h => ⟨fun c => (h c).2, sem_eq_zero_of_no_sems (by decide) r.2⟩)
    (Cert.OutRefIdeal.Value.run m ρ)

theorem out_preserves : Cert.preserves_Out_OutIdeal := trivial

theorem proj_ix2 {a b : Nat} (i : (⟨2, ![a, b]⟩ : Shape).Idx) : i = ix2 (i 0) (i 1) := by
  funext k
  match k with
  | ⟨0, _⟩ => rfl
  | ⟨1, _⟩ => rfl

/-- The projection into the FoX attention on the prompt: kernel and reference leave the same projections and gates. -/
theorem proj_algebraic : Cert.algebraic_ProjIdeal_ProjRefIdeal := by
  intro m g m' g' _ hagree
  refine ⟨fun c => Cert.ProjIdeal.Array.G7 m c, fun c => Cert.ProjIdeal.Array.G8 m c, fun c => Cert.ProjIdeal.Array.G9 m c, fun c => Cert.ProjIdeal.Array.G10 m c, fun c => Cert.ProjIdeal.Array.G11 m c, fun c => Cert.ProjIdeal.Array.G12 m c, Cert.ProjIdeal.Array.run m g, ?_⟩
  refine (θ_run Cert.ProjRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.ProjRefIdeal.Value.run m' g')
  · refine (Cert.ProjRefIdeal.Read.val_main_v15_eq _ _ _).trans ?_
    rw [(hagree c).1, (hagree c).2.1, (hagree c).2.2.1]
    funext i
    exact (congrArg _ (proj_ix2 i)).trans (Cert.ProjRefIdeal.Reference.q_at _ _ _ _ _)
  · refine (Cert.ProjRefIdeal.Read.val_main_v16_eq _ _ _).trans ?_
    rw [(hagree c).1, (hagree c).2.1, (hagree c).2.2.1]
    funext i
    exact (congrArg _ (proj_ix2 i)).trans (Cert.ProjRefIdeal.Reference.k_at _ _ _ _ _)
  · refine (Cert.ProjRefIdeal.Read.val_main_v26_eq _ _ _).trans ?_
    rw [(hagree c).1, (hagree c).2.1, (hagree c).2.2.1]
    funext i
    exact (congrArg _ (proj_ix2 i)).trans (Cert.ProjRefIdeal.Reference.k16_at _ _ _ _ _)
  · refine (Cert.ProjRefIdeal.Read.val_main_v17_eq _ _ _).trans ?_
    rw [(hagree c).1, (hagree c).2.1, (hagree c).2.2.1]
    funext i
    exact (congrArg _ (proj_ix2 i)).trans (Cert.ProjRefIdeal.Reference.v_at _ _ _ _ _)
  · refine (Cert.ProjRefIdeal.Read.val_main_v27_eq _ _ _).trans ?_
    rw [(hagree c).1, (hagree c).2.1, (hagree c).2.2.1]
    funext i
    exact (congrArg _ (proj_ix2 i)).trans (Cert.ProjRefIdeal.Reference.v16_at _ _ _ _ _)
  · refine (Cert.ProjRefIdeal.Read.val_main_v25_eq _ _).trans ?_
    rw [(hagree c).1, (hagree c).2.1, (hagree c).2.2.1, (hagree c).2.2.2]
    funext i
    exact (congrArg _ (proj_ix2 i)).trans ((Cert.ProjRefIdeal.Reference.gate_at _ _ _ _ _ _).trans
      (congrArg Cert.Gate.logGate (Cert.ProjRefIdeal.Reference.logit_at _ _ _ _ _ _)))

theorem proj_ref_frame : Cert.quiescent_ProjRefIdeal := fun m ρ _ =>
  (θ_run Cert.ProjRefIdeal.defs _ _).mono (fun r h => ⟨fun c => (h c).2.2.2.2.2.2, sem_eq_zero_of_no_sems (by decide) r.2⟩)
    (Cert.ProjRefIdeal.Value.run m ρ)

theorem proj_preserves : Cert.preserves_Proj_ProjIdeal := trivial

theorem next_ix2 {a b : Nat} (i : (⟨2, ![a, b]⟩ : Shape).Idx) : i = ix2 (i 0) (i 1) := by
  funext k
  match k with
  | ⟨0, _⟩ => rfl
  | ⟨1, _⟩ => rfl

/-- The projection into the FoX attention for the tokens to come: kernel and reference leave the same projections and gates. -/
theorem next_algebraic : Cert.algebraic_NextIdeal_NextRefIdeal := by
  intro m g m' g' _ hagree
  refine ⟨fun c => Cert.NextIdeal.Array.G7 m c, fun c => Cert.NextIdeal.Array.G8 m c, fun c => Cert.NextIdeal.Array.G9 m c, fun c => Cert.NextIdeal.Array.G10 m c, Cert.NextIdeal.Array.run m g, ?_⟩
  refine (θ_run Cert.NextRefIdeal.defs _ _).mono (fun r h c => ⟨(h c).1.trans ?_, (h c).2.1.trans ?_, (h c).2.2.1.trans ?_, (h c).2.2.2.1.trans ?_, (h c).2.2.2.2⟩) (Cert.NextRefIdeal.Value.run m' g')
  · refine (Cert.NextRefIdeal.Read.val_main_v15_eq _ _ _).trans ?_
    rw [(hagree c).1, (hagree c).2.1, (hagree c).2.2.1]
    funext i
    exact (congrArg _ (next_ix2 i)).trans (Cert.NextRefIdeal.Reference.q_at _ _ _ _ _)
  · refine (Cert.NextRefIdeal.Read.val_main_v16_eq _ _ _).trans ?_
    rw [(hagree c).1, (hagree c).2.1, (hagree c).2.2.1]
    funext i
    exact (congrArg _ (next_ix2 i)).trans (Cert.NextRefIdeal.Reference.k_at _ _ _ _ _)
  · refine (Cert.NextRefIdeal.Read.val_main_v17_eq _ _ _).trans ?_
    rw [(hagree c).1, (hagree c).2.1, (hagree c).2.2.1]
    funext i
    exact (congrArg _ (next_ix2 i)).trans (Cert.NextRefIdeal.Reference.v_at _ _ _ _ _)
  · refine (Cert.NextRefIdeal.Read.val_main_v25_eq _ _).trans ?_
    rw [(hagree c).1, (hagree c).2.1, (hagree c).2.2.1, (hagree c).2.2.2]
    funext i
    exact (congrArg _ (next_ix2 i)).trans ((Cert.NextRefIdeal.Reference.gate_at _ _ _ _ _ _).trans
      (congrArg Cert.Gate.logGate (Cert.NextRefIdeal.Reference.logit_at _ _ _ _ _ _)))

theorem next_ref_frame : Cert.quiescent_NextRefIdeal := fun m ρ _ =>
  (θ_run Cert.NextRefIdeal.defs _ _).mono (fun r h => ⟨fun c => (h c).2.2.2.2, sem_eq_zero_of_no_sems (by decide) r.2⟩)
    (Cert.NextRefIdeal.Value.run m ρ)

theorem next_preserves : Cert.preserves_Next_NextIdeal := trivial

theorem rot_ix2 {a b : Nat} (i : (⟨2, ![a, b]⟩ : Shape).Idx) : i = ix2 (i 0) (i 1) := by
  funext k
  match k with
  | ⟨0, _⟩ => rfl
  | ⟨1, _⟩ => rfl

/-- The kernel projecting the prompt into the differential attention gives the results of its reference. -/
theorem rot_algebraic : Cert.algebraic_RotIdeal_RotRefIdeal := by
  intro m g m' g' _ hagree
  refine ⟨fun c => Cert.RotIdeal.Array.G7 m c, fun c => Cert.RotIdeal.Array.G8 m c, fun c => Cert.RotIdeal.Array.G9 m c, fun c => Cert.RotIdeal.Array.G10 m c, fun c => Cert.RotIdeal.Array.G11 m c, Cert.RotIdeal.Array.run m g, ?_⟩
  refine (θ_run Cert.RotRefIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.RotRefIdeal.Value.run m' g')
  · refine (Cert.RotRefIdeal.Read.val_main_v86_eq _ _).trans ?_
    rw [(hagree c).1, (hagree c).2.1, (hagree c).2.2]
    funext i
    exact (congrArg _ (rot_ix2 i)).trans (Cert.RotRefIdeal.Reference.q_at _ _ _ _ _)
  · refine (Cert.RotRefIdeal.Read.val_main_v87_eq _ _).trans ?_
    rw [(hagree c).1, (hagree c).2.1, (hagree c).2.2]
    funext i
    exact (congrArg _ (rot_ix2 i)).trans (Cert.RotRefIdeal.Reference.k_at _ _ _ _ _)
  · refine (Cert.RotRefIdeal.Read.val_main_v89_eq _ _).trans ?_
    rw [(hagree c).1, (hagree c).2.1, (hagree c).2.2]
    funext i
    exact (congrArg _ (rot_ix2 i)).trans (Cert.RotRefIdeal.Reference.kh_at _ _ _ _ _)
  · refine (Cert.RotRefIdeal.Read.val_main_v88_eq _ _ _).trans ?_
    rw [(hagree c).1, (hagree c).2.1, (hagree c).2.2]
    funext i
    exact (congrArg _ (rot_ix2 i)).trans (Cert.RotRefIdeal.Reference.v_at _ _ _ _ _)
  · refine (Cert.RotRefIdeal.Read.val_main_v90_eq _ _ _).trans ?_
    rw [(hagree c).1, (hagree c).2.1, (hagree c).2.2]
    funext i
    exact (congrArg _ (rot_ix2 i)).trans (Cert.RotRefIdeal.Reference.vh_at _ _ _ _ _)

theorem rot_ref_frame : Cert.quiescent_RotRefIdeal := fun m ρ _ =>
  (θ_run Cert.RotRefIdeal.defs _ _).mono (fun r h => ⟨fun c => (h c).2.2.2.2.2, sem_eq_zero_of_no_sems (by decide) r.2⟩)
    (Cert.RotRefIdeal.Value.run m ρ)

theorem rot_preserves : Cert.preserves_Rot_RotIdeal := trivial

theorem rotnext_ix2 {a b : Nat} (i : (⟨2, ![a, b]⟩ : Shape).Idx) : i = ix2 (i 0) (i 1) := by
  funext k
  match k with
  | ⟨0, _⟩ => rfl
  | ⟨1, _⟩ => rfl

/-- The kernel projecting the tokens to come into the differential attention gives the results of its reference. -/
theorem rotnext_algebraic : Cert.algebraic_RotNextIdeal_RotNextRefIdeal := by
  intro m g m' g' _ hagree
  refine ⟨fun c => Cert.RotNextIdeal.Array.G7 m c, fun c => Cert.RotNextIdeal.Array.G8 m c, fun c => Cert.RotNextIdeal.Array.G9 m c, Cert.RotNextIdeal.Array.run m g, ?_⟩
  refine (θ_run Cert.RotNextRefIdeal.defs _ _).mono (fun r h c => ⟨(h c).1.trans ?_, (h c).2.1.trans ?_, (h c).2.2.1.trans ?_, (h c).2.2.2⟩) (Cert.RotNextRefIdeal.Value.run m' g')
  · refine (Cert.RotNextRefIdeal.Read.val_main_v86_eq _ _).trans ?_
    rw [(hagree c).1, (hagree c).2.1, (hagree c).2.2]
    funext i
    exact (congrArg _ (rotnext_ix2 i)).trans (Cert.RotNextRefIdeal.Reference.q_at _ _ _ _ _)
  · refine (Cert.RotNextRefIdeal.Read.val_main_v87_eq _ _).trans ?_
    rw [(hagree c).1, (hagree c).2.1, (hagree c).2.2]
    funext i
    exact (congrArg _ (rotnext_ix2 i)).trans (Cert.RotNextRefIdeal.Reference.k_at _ _ _ _ _)
  · refine (Cert.RotNextRefIdeal.Read.val_main_v88_eq _ _ _).trans ?_
    rw [(hagree c).1, (hagree c).2.1, (hagree c).2.2]
    funext i
    exact (congrArg _ (rotnext_ix2 i)).trans (Cert.RotNextRefIdeal.Reference.v_at _ _ _ _ _)

theorem rotnext_ref_frame : Cert.quiescent_RotNextRefIdeal := fun m ρ _ =>
  (θ_run Cert.RotNextRefIdeal.defs _ _).mono (fun r h => ⟨fun c => (h c).2.2.2, sem_eq_zero_of_no_sems (by decide) r.2⟩)
    (Cert.RotNextRefIdeal.Value.run m ρ)

theorem rotnext_preserves : Cert.preserves_RotNext_RotNextIdeal := trivial

theorem nsa_ix2 {a b : Nat} (i : (⟨2, ![a, b]⟩ : Shape).Idx) : i = ix2 (i 0) (i 1) := by
  funext k
  match k with
  | ⟨0, _⟩ => rfl
  | ⟨1, _⟩ => rfl

/-- The kernel projecting the prompt into the sparse attention gives the results of its reference. -/
theorem nsa_algebraic : Cert.algebraic_NsaIdeal_NsaRefIdeal := by
  intro m g m' g' _ hagree
  refine ⟨fun c => Cert.NsaIdeal.Array.G13 m c, fun c => Cert.NsaIdeal.Array.G14 m c, fun c => Cert.NsaIdeal.Array.G15 m c, fun c => Cert.NsaIdeal.Array.G16 m c, fun c => Cert.NsaIdeal.Array.G17 m c, fun c => Cert.NsaIdeal.Array.G18 m c, fun c => Cert.NsaIdeal.Array.G19 m c, fun c => Cert.NsaIdeal.Array.G20 m c, Cert.NsaIdeal.Array.run m g, ?_⟩
  refine (θ_run Cert.NsaRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.NsaRefIdeal.Value.run m' g')
  · refine (Cert.NsaRefIdeal.Read.val_main_v183_eq _).trans ?_
    change Cert.NsaRefIdeal.Read.val_main_v183 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.q_at _ _ _ _ _)
  · refine (Cert.NsaRefIdeal.Read.val_main_v177_eq _).trans ?_
    change Cert.NsaRefIdeal.Read.val_main_v177 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.kc_at _ _ _ _ _)
  · refine (Cert.NsaRefIdeal.Read.val_main_v178_eq _).trans ?_
    change Cert.NsaRefIdeal.Read.val_main_v178 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.vc_at _ _ _ _ _)
  · refine (Cert.NsaRefIdeal.Read.val_main_v179_eq _).trans ?_
    change Cert.NsaRefIdeal.Read.val_main_v179 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.ks_at _ _ _ _ _)
  · refine (Cert.NsaRefIdeal.Read.val_main_v180_eq _).trans ?_
    change Cert.NsaRefIdeal.Read.val_main_v180 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.vs_at _ _ _ _ _)
  · refine (Cert.NsaRefIdeal.Read.val_main_v181_eq _).trans ?_
    change Cert.NsaRefIdeal.Read.val_main_v181 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.kw_at _ _ _ _ _)
  · refine (Cert.NsaRefIdeal.Read.val_main_v182_eq _).trans ?_
    change Cert.NsaRefIdeal.Read.val_main_v182 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) = _
    rw [(hagree c).1, (hagree c).2.1, (hagree c).2.2.1]
    funext i
    exact (congrArg _ (nsa_ix2 i)).trans (Cert.NsaRefIdeal.Reference.vw_at _ _ _ _ _)
  · refine (Cert.NsaRefIdeal.Read.val_main_v184_eq _).trans ?_
    change Cert.NsaRefIdeal.Read.val_main_v184 (F := Ideal) (m' ((c.tc : Thread Cert.NsaRefIdeal.nD Cert.NsaRefIdeal.τ).loc Cert.NsaRefIdeal.main_arg0)) (m' ((c.tc : Thread Cert.NsaRefIdeal.nD Cert.NsaRefIdeal.τ).loc Cert.NsaRefIdeal.main_arg1)) (m' ((c.tc : Thread Cert.NsaRefIdeal.nD Cert.NsaRefIdeal.τ).loc Cert.NsaRefIdeal.main_arg2)) (m' ((c.tc : Thread Cert.NsaRefIdeal.nD Cert.NsaRefIdeal.τ).loc Cert.NsaRefIdeal.main_arg3)) = _
    rw [(hagree c).1, (hagree c).2.1, (hagree c).2.2.1, (hagree c).2.2.2]
    funext i
    exact (congrArg _ (nsa_ix2 i)).trans (Cert.NsaRefIdeal.Reference.gate_at _ _ _ _ _ _)

theorem nsa_ref_frame : Cert.quiescent_NsaRefIdeal := fun m ρ _ =>
  (θ_run Cert.NsaRefIdeal.defs _ _).mono (fun r h => ⟨fun c => (h c).2.2.2.2.2.2.2.2, sem_eq_zero_of_no_sems (by decide) r.2⟩)
    (Cert.NsaRefIdeal.Value.run m ρ)

theorem nsa_preserves : Cert.preserves_Nsa_NsaIdeal := trivial

theorem nsanext_ix2 {a b : Nat} (i : (⟨2, ![a, b]⟩ : Shape).Idx) : i = ix2 (i 0) (i 1) := by
  funext k
  match k with
  | ⟨0, _⟩ => rfl
  | ⟨1, _⟩ => rfl

/-- The kernel projecting the tokens to come into the sparse attention gives the results of its reference. -/
theorem nsanext_algebraic : Cert.algebraic_NsaNextIdeal_NsaNextRefIdeal := by
  intro m g m' g' _ hagree
  refine ⟨fun c => Cert.NsaNextIdeal.Array.G13 m c, fun c => Cert.NsaNextIdeal.Array.G14 m c, fun c => Cert.NsaNextIdeal.Array.G15 m c, fun c => Cert.NsaNextIdeal.Array.G16 m c, fun c => Cert.NsaNextIdeal.Array.G17 m c, fun c => Cert.NsaNextIdeal.Array.G18 m c, fun c => Cert.NsaNextIdeal.Array.G19 m c, fun c => Cert.NsaNextIdeal.Array.G20 m c, Cert.NsaNextIdeal.Array.run m g, ?_⟩
  refine (θ_run Cert.NsaNextRefIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩) (Cert.NsaNextRefIdeal.Value.run m' g')
  · refine (Cert.NsaNextRefIdeal.Read.val_main_v181_eq _).trans ?_
    change Cert.NsaNextRefIdeal.Read.val_main_v181 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.q_at _ _ _ _ _)
  · refine (Cert.NsaNextRefIdeal.Read.val_main_v175_eq _).trans ?_
    change Cert.NsaNextRefIdeal.Read.val_main_v175 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.kc_at _ _ _ _ _)
  · refine (Cert.NsaNextRefIdeal.Read.val_main_v176_eq _).trans ?_
    change Cert.NsaNextRefIdeal.Read.val_main_v176 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.vc_at _ _ _ _ _)
  · refine (Cert.NsaNextRefIdeal.Read.val_main_v177_eq _).trans ?_
    change Cert.NsaNextRefIdeal.Read.val_main_v177 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.ks_at _ _ _ _ _)
  · refine (Cert.NsaNextRefIdeal.Read.val_main_v178_eq _).trans ?_
    change Cert.NsaNextRefIdeal.Read.val_main_v178 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.vs_at _ _ _ _ _)
  · refine (Cert.NsaNextRefIdeal.Read.val_main_v179_eq _).trans ?_
    change Cert.NsaNextRefIdeal.Read.val_main_v179 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.kw_at _ _ _ _ _)
  · refine (Cert.NsaNextRefIdeal.Read.val_main_v180_eq _).trans ?_
    change Cert.NsaNextRefIdeal.Read.val_main_v180 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) = _
    rw [(hagree c).1, (hagree c).2.1, (hagree c).2.2.1]
    funext i
    exact (congrArg _ (nsanext_ix2 i)).trans (Cert.NsaNextRefIdeal.Reference.vw_at _ _ _ _ _)
  · refine (Cert.NsaNextRefIdeal.Read.val_main_v182_eq _).trans ?_
    change Cert.NsaNextRefIdeal.Read.val_main_v182 (F := Ideal) (m' ((c.tc : Thread Cert.NsaNextRefIdeal.nD Cert.NsaNextRefIdeal.τ).loc Cert.NsaNextRefIdeal.main_arg0)) (m' ((c.tc : Thread Cert.NsaNextRefIdeal.nD Cert.NsaNextRefIdeal.τ).loc Cert.NsaNextRefIdeal.main_arg1)) (m' ((c.tc : Thread Cert.NsaNextRefIdeal.nD Cert.NsaNextRefIdeal.τ).loc Cert.NsaNextRefIdeal.main_arg2)) (m' ((c.tc : Thread Cert.NsaNextRefIdeal.nD Cert.NsaNextRefIdeal.τ).loc Cert.NsaNextRefIdeal.main_arg3)) = _
    rw [(hagree c).1, (hagree c).2.1, (hagree c).2.2.1, (hagree c).2.2.2]
    funext i
    exact (congrArg _ (nsanext_ix2 i)).trans (Cert.NsaNextRefIdeal.Reference.gate_at _ _ _ _ _ _)

theorem nsanext_ref_frame : Cert.quiescent_NsaNextRefIdeal := fun m ρ _ =>
  (θ_run Cert.NsaNextRefIdeal.defs _ _).mono (fun r h => ⟨fun c => (h c).2.2.2.2.2.2.2.2, sem_eq_zero_of_no_sems (by decide) r.2⟩)
    (Cert.NsaNextRefIdeal.Value.run m ρ)

theorem nsanext_preserves : Cert.preserves_NsaNext_NsaNextIdeal := trivial

theorem mix_ix2 {a b : Nat} (i : (⟨2, ![a, b]⟩ : Shape).Idx) : i = ix2 (i 0) (i 1) := by
  funext k
  match k with
  | ⟨0, _⟩ => rfl
  | ⟨1, _⟩ => rfl

/-- The projection out of the sparse attention: kernel and reference leave the same array. -/
theorem mix_algebraic : Cert.algebraic_MixIdeal_MixRefIdeal := by
  intro m g m' g' _ hagree
  refine ⟨fun c => Cert.MixIdeal.Array.G5 m c, Cert.MixIdeal.Array.run m g, ?_⟩
  refine (θ_run Cert.MixRefIdeal.defs _ _).mono (fun r h c => ⟨(h c).1.trans ?_, (h c).2⟩) (Cert.MixRefIdeal.Value.run m' g')
  · refine (Cert.MixRefIdeal.Read.val_main_v3_eq _ _ _ _ _).trans ?_
    rw [(hagree c).1, (hagree c).2.1, (hagree c).2.2.1, (hagree c).2.2.2.1, (hagree c).2.2.2.2]
    funext i
    exact (congrArg _ (mix_ix2 i)).trans (Cert.MixRefIdeal.Reference.result_at _ _ _ _ _ _ _)

theorem mix_ref_frame : Cert.quiescent_MixRefIdeal := fun m ρ _ =>
  (θ_run Cert.MixRefIdeal.defs _ _).mono (fun r h => ⟨fun c => (h c).2, sem_eq_zero_of_no_sems (by decide) r.2⟩)
    (Cert.MixRefIdeal.Value.run m ρ)

theorem mix_preserves : Cert.preserves_Mix_MixIdeal := trivial

theorem norm_ix2 {a b : Nat} (i : (⟨2, ![a, b]⟩ : Shape).Idx) : i = ix2 (i 0) (i 1) := by
  funext k
  match k with
  | ⟨0, _⟩ => rfl
  | ⟨1, _⟩ => rfl

/-- The final norm on the prompt: kernel and reference leave the same array. -/
theorem norm_algebraic : Cert.algebraic_NormIdeal_NormRefIdeal := by
  intro m g m' g' _ hagree
  refine ⟨fun c => Cert.NormIdeal.Array.G2 m c, Cert.NormIdeal.Array.run m g, ?_⟩
  refine (θ_run Cert.NormRefIdeal.defs _ _).mono (fun r h c => ⟨(h c).1.trans ?_, (h c).2⟩) (Cert.NormRefIdeal.Value.run m' g')
  · refine (Cert.NormRefIdeal.Read.val_main_v12_eq _ _).trans ?_
    rw [(hagree c).1, (hagree c).2]
    funext i
    exact (congrArg _ (norm_ix2 i)).trans (Cert.NormRefIdeal.Reference.norm_at _ _ _ _)

theorem norm_ref_frame : Cert.quiescent_NormRefIdeal := fun m ρ _ =>
  (θ_run Cert.NormRefIdeal.defs _ _).mono (fun r h => ⟨fun c => (h c).2, sem_eq_zero_of_no_sems (by decide) r.2⟩)
    (Cert.NormRefIdeal.Value.run m ρ)

theorem norm_preserves : Cert.preserves_Norm_NormIdeal := trivial

theorem normnext_ix2 {a b : Nat} (i : (⟨2, ![a, b]⟩ : Shape).Idx) : i = ix2 (i 0) (i 1) := by
  funext k
  match k with
  | ⟨0, _⟩ => rfl
  | ⟨1, _⟩ => rfl

/-- The final norm for the tokens to come: kernel and reference leave the same array. -/
theorem normnext_algebraic : Cert.algebraic_NormNextIdeal_NormNextRefIdeal := by
  intro m g m' g' _ hagree
  refine ⟨fun c => Cert.NormNextIdeal.Array.G2 m c, Cert.NormNextIdeal.Array.run m g, ?_⟩
  refine (θ_run Cert.NormNextRefIdeal.defs _ _).mono (fun r h c => ⟨(h c).1.trans ?_, (h c).2⟩) (Cert.NormNextRefIdeal.Value.run m' g')
  · refine (Cert.NormNextRefIdeal.Read.val_main_v12_eq _ _).trans ?_
    rw [(hagree c).1, (hagree c).2]
    funext i
    exact (congrArg _ (normnext_ix2 i)).trans (Cert.NormNextRefIdeal.Reference.norm_at _ _ _ _)

theorem normnext_ref_frame : Cert.quiescent_NormNextRefIdeal := fun m ρ _ =>
  (θ_run Cert.NormNextRefIdeal.defs _ _).mono (fun r h => ⟨fun c => (h c).2, sem_eq_zero_of_no_sems (by decide) r.2⟩)
    (Cert.NormNextRefIdeal.Value.run m ρ)

theorem normnext_preserves : Cert.preserves_NormNext_NormNextIdeal := trivial

/-- The kernel moving the window of keys and values on by the tokens to come gives the results of its reference. -/
theorem keep_algebraic : Cert.algebraic_KeepIdeal_KeepRefIdeal := by
  intro m g m' g' _ hagree
  refine ⟨fun c => Cert.KeepIdeal.Array.moved (m ((c.tc : Thread Cert.KeepIdeal.nD Cert.KeepIdeal.τ).loc Cert.KeepIdeal.main_arg4)) (Cert.KeepIdeal.Array.G18 m c), fun c => Cert.KeepIdeal.Array.moved (m ((c.tc : Thread Cert.KeepIdeal.nD Cert.KeepIdeal.τ).loc Cert.KeepIdeal.main_arg5)) (Cert.KeepIdeal.Array.G19 m c), Cert.KeepIdeal.Array.run m g, ?_⟩
  refine (θ_run Cert.KeepRefIdeal.defs _ _).mono (fun r h c => ⟨(h c).1.trans ?_, (h c).2.1.trans ?_, (h c).2.2⟩) (Cert.KeepRefIdeal.Value.run m' g')
  · refine (Cert.KeepRefIdeal.Read.val_main_v177_eq _).trans ?_
    change Cert.KeepRefIdeal.Read.val_main_v177 (F := Ideal) (m' ((c.tc : Thread Cert.KeepRefIdeal.nD Cert.KeepRefIdeal.τ).loc Cert.KeepRefIdeal.main_arg0)) (m' ((c.tc : Thread Cert.KeepRefIdeal.nD Cert.KeepRefIdeal.τ).loc Cert.KeepRefIdeal.main_arg1)) (m' ((c.tc : Thread Cert.KeepRefIdeal.nD Cert.KeepRefIdeal.τ).loc Cert.KeepRefIdeal.main_arg2)) (m' ((c.tc : Thread Cert.KeepRefIdeal.nD Cert.KeepRefIdeal.τ).loc Cert.KeepRefIdeal.main_arg4)) = _
    rw [(hagree c).1, (hagree c).2.1, (hagree c).2.2.1, (hagree c).2.2.2.2.1]
    exact congrArg (Cert.KeepIdeal.Array.behind (m ((c.tc : Thread Cert.KeepIdeal.nD Cert.KeepIdeal.τ).loc Cert.KeepIdeal.main_arg4)))
      (Cert.KeepRefIdeal.Reference.heads (Cert.KeepIdeal.Array.G18 m c) _ _
        fun r j => Cert.KeepRefIdeal.Reference.kw_at _ _ _ r j)
  · refine (Cert.KeepRefIdeal.Read.val_main_v178_eq _).trans ?_
    change Cert.KeepRefIdeal.Read.val_main_v178 (F := Ideal) (m' ((c.tc : Thread Cert.KeepRefIdeal.nD Cert.KeepRefIdeal.τ).loc Cert.KeepRefIdeal.main_arg0)) (m' ((c.tc : Thread Cert.KeepRefIdeal.nD Cert.KeepRefIdeal.τ).loc Cert.KeepRefIdeal.main_arg1)) (m' ((c.tc : Thread Cert.KeepRefIdeal.nD Cert.KeepRefIdeal.τ).loc Cert.KeepRefIdeal.main_arg2)) (m' ((c.tc : Thread Cert.KeepRefIdeal.nD Cert.KeepRefIdeal.τ).loc Cert.KeepRefIdeal.main_arg5)) = _
    rw [(hagree c).1, (hagree c).2.1, (hagree c).2.2.1, (hagree c).2.2.2.2.2]
    exact congrArg (Cert.KeepIdeal.Array.behind (m ((c.tc : Thread Cert.KeepIdeal.nD Cert.KeepIdeal.τ).loc Cert.KeepIdeal.main_arg5)))
      (Cert.KeepRefIdeal.Reference.heads (Cert.KeepIdeal.Array.G19 m c) _ _
        fun r j => Cert.KeepRefIdeal.Reference.vw_at _ _ _ r j)

theorem keep_ref_frame : Cert.quiescent_KeepRefIdeal := fun m ρ _ =>
  (θ_run Cert.KeepRefIdeal.defs _ _).mono (fun r h => ⟨fun c => (h c).2.2, sem_eq_zero_of_no_sems (by decide) r.2⟩)
    (Cert.KeepRefIdeal.Value.run m ρ)

theorem keep_preserves : Cert.preserves_Keep_KeepIdeal := trivial

/-- The feed-forward layer for the tokens to come: kernel and reference leave the layer of the arguments. -/
theorem mlpnext_algebraic : Cert.algebraic_MlpNextIdeal_MlpNextRefIdeal := by
  intro m g m' g' _ hagree
  refine ⟨fun c => Cert.MlpNextIdeal.Array.G m c, Cert.MlpNextIdeal.Array.run m g, ?_⟩
  refine (θ_run Cert.MlpNextRefIdeal.defs _ _).mono (fun r h c => ⟨(h c).1.trans ?_, (h c).2⟩) (Cert.MlpNextRefIdeal.Value.run m' g')
  rw [Cert.MlpNextRefIdeal.Read.val_main_v17_eq, (hagree c).1, (hagree c).2.1, (hagree c).2.2.1, (hagree c).2.2.2]
  funext i
  have hi : i = ix2 (i 0) (i 1) := by
    funext a
    match a with
    | ⟨0, _⟩ => rfl
    | ⟨1, _⟩ => rfl
  exact (congrArg _ hi).trans (Cert.MlpNextRefIdeal.Reference.result_at _ _ _ _ _ _)

theorem mlpnext_ref_frame : Cert.quiescent_MlpNextRefIdeal := fun m ρ _ =>
  (θ_run Cert.MlpNextRefIdeal.defs _ _).mono (fun r h => ⟨fun c => (h c).2, sem_eq_zero_of_no_sems (by decide) r.2⟩)
    (Cert.MlpNextRefIdeal.Value.run m ρ)

theorem mlpnext_preserves : Cert.preserves_MlpNext_MlpNextIdeal := trivial

/-- The projection out for the tokens to come: kernel and reference leave the residual plus the product. -/
theorem outnext_algebraic : Cert.algebraic_OutNextIdeal_OutNextRefIdeal := by
  intro m g m' g' _ hagree
  refine ⟨fun c => Cert.OutNextIdeal.Array.G m c, Cert.OutNextIdeal.Array.run m g, ?_⟩
  refine (θ_run Cert.OutNextRefIdeal.defs _ _).mono (fun r h c => ⟨(h c).1.trans ?_, (h c).2⟩) (Cert.OutNextRefIdeal.Value.run m' g')
  rw [Cert.OutNextRefIdeal.Read.val_main_v1_eq, (hagree c).1, (hagree c).2.1, (hagree c).2.2]
  funext i
  have hi : i = ix2 (i 0) (i 1) := by
    funext a
    match a with
    | ⟨0, _⟩ => rfl
    | ⟨1, _⟩ => rfl
  exact (congrArg _ hi).trans (Cert.OutNextRefIdeal.Reference.result_at _ _ _ _ _)

theorem outnext_ref_frame : Cert.quiescent_OutNextRefIdeal := fun m ρ _ =>
  (θ_run Cert.OutNextRefIdeal.defs _ _).mono (fun r h => ⟨fun c => (h c).2, sem_eq_zero_of_no_sems (by decide) r.2⟩)
    (Cert.OutNextRefIdeal.Value.run m ρ)

theorem outnext_preserves : Cert.preserves_OutNext_OutNextIdeal := trivial

theorem claim : Cert.Claim := ⟨Cert.Fox.Gen.facts,
  Cert.FoxIdeal.Gen.facts,
  Cert.FoxRefIdeal.Gen.facts,
  Cert.Mlp.Gen.facts,
  Cert.MlpIdeal.Gen.facts,
  Cert.MlpRefIdeal.Gen.facts,
  Cert.Out.Gen.facts,
  Cert.OutIdeal.Gen.facts,
  Cert.OutRefIdeal.Gen.facts,
  Cert.Proj.Gen.facts,
  Cert.ProjIdeal.Gen.facts,
  Cert.ProjRefIdeal.Gen.facts,
  Cert.Next.Gen.facts,
  Cert.NextIdeal.Gen.facts,
  Cert.NextRefIdeal.Gen.facts,
  Cert.Rot.Gen.facts,
  Cert.RotIdeal.Gen.facts,
  Cert.RotRefIdeal.Gen.facts,
  Cert.RotNext.Gen.facts,
  Cert.RotNextIdeal.Gen.facts,
  Cert.RotNextRefIdeal.Gen.facts,
  Cert.Nsa.Gen.facts,
  Cert.NsaIdeal.Gen.facts,
  Cert.NsaRefIdeal.Gen.facts,
  Cert.NsaNext.Gen.facts,
  Cert.NsaNextIdeal.Gen.facts,
  Cert.NsaNextRefIdeal.Gen.facts,
  Cert.Mix.Gen.facts,
  Cert.MixIdeal.Gen.facts,
  Cert.MixRefIdeal.Gen.facts,
  Cert.Norm.Gen.facts,
  Cert.NormIdeal.Gen.facts,
  Cert.NormRefIdeal.Gen.facts,
  Cert.NormNext.Gen.facts,
  Cert.NormNextIdeal.Gen.facts,
  Cert.NormNextRefIdeal.Gen.facts,
  Cert.Keep.Gen.facts,
  Cert.KeepIdeal.Gen.facts,
  Cert.KeepRefIdeal.Gen.facts,
  Cert.MlpNext.Gen.facts,
  Cert.MlpNextIdeal.Gen.facts,
  Cert.MlpNextRefIdeal.Gen.facts,
  Cert.OutNext.Gen.facts,
  Cert.OutNextIdeal.Gen.facts,
  Cert.OutNextRefIdeal.Gen.facts,
  fun m ρ _ => Cert.Fox.Gen.frame m ρ, fun m ρ _ => Cert.FoxIdeal.Gen.frame m ρ, fox_ref_frame,
  fun m ρ _ => Cert.Mlp.Gen.frame m ρ, fun m ρ _ => Cert.MlpIdeal.Gen.frame m ρ, mlp_ref_frame,
  fun m ρ _ => Cert.Out.Gen.frame m ρ, fun m ρ _ => Cert.OutIdeal.Gen.frame m ρ, out_ref_frame,
  fun m ρ _ => Cert.Proj.Gen.frame m ρ, fun m ρ _ => Cert.ProjIdeal.Gen.frame m ρ, proj_ref_frame,
  fun m ρ _ => Cert.Next.Gen.frame m ρ, fun m ρ _ => Cert.NextIdeal.Gen.frame m ρ, next_ref_frame,
  fun m ρ _ => Cert.Rot.Gen.frame m ρ, fun m ρ _ => Cert.RotIdeal.Gen.frame m ρ, rot_ref_frame,
  fun m ρ _ => Cert.RotNext.Gen.frame m ρ, fun m ρ _ => Cert.RotNextIdeal.Gen.frame m ρ, rotnext_ref_frame,
  fun m ρ _ => Cert.Nsa.Gen.frame m ρ, fun m ρ _ => Cert.NsaIdeal.Gen.frame m ρ, nsa_ref_frame,
  fun m ρ _ => Cert.NsaNext.Gen.frame m ρ, fun m ρ _ => Cert.NsaNextIdeal.Gen.frame m ρ, nsanext_ref_frame,
  fun m ρ _ => Cert.Mix.Gen.frame m ρ, fun m ρ _ => Cert.MixIdeal.Gen.frame m ρ, mix_ref_frame,
  fun m ρ _ => Cert.Norm.Gen.frame m ρ, fun m ρ _ => Cert.NormIdeal.Gen.frame m ρ, norm_ref_frame,
  fun m ρ _ => Cert.NormNext.Gen.frame m ρ, fun m ρ _ => Cert.NormNextIdeal.Gen.frame m ρ, normnext_ref_frame,
  fun m ρ _ => Cert.Keep.Gen.frame m ρ, fun m ρ _ => Cert.KeepIdeal.Gen.frame m ρ, keep_ref_frame,
  fun m ρ _ => Cert.MlpNext.Gen.frame m ρ, fun m ρ _ => Cert.MlpNextIdeal.Gen.frame m ρ, mlpnext_ref_frame,
  fun m ρ _ => Cert.OutNext.Gen.frame m ρ, fun m ρ _ => Cert.OutNextIdeal.Gen.frame m ρ, outnext_ref_frame,
  fox_preserves, fox_algebraic,
  mlp_preserves, mlp_algebraic,
  out_preserves, out_algebraic,
  proj_preserves, proj_algebraic,
  next_preserves, next_algebraic,
  rot_preserves, rot_algebraic,
  rotnext_preserves, rotnext_algebraic,
  nsa_preserves, nsa_algebraic,
  nsanext_preserves, nsanext_algebraic,
  mix_preserves, mix_algebraic,
  norm_preserves, norm_algebraic,
  normnext_preserves, normnext_algebraic,
  keep_preserves, keep_algebraic,
  mlpnext_preserves, mlpnext_algebraic,
  outnext_preserves, outnext_algebraic⟩

end Cert.Proof

end
